-- ==== Defs.lean ====
def Pre_BwdIn (m : (ℓ : Loc Cert.BwdIn.nD Cert.BwdIn.τ Cert.BwdIn.sig) → Buf (Elt Bits) ℓ) : Prop :=
  True

def Pre_BwdInIdeal (m : (ℓ : Loc Cert.BwdInIdeal.nD Cert.BwdInIdeal.τ Cert.BwdInIdeal.sig) → Buf (Elt Ideal) ℓ) : Prop :=
  True

def Pre_BwdInRefIdeal (m : (ℓ : Loc Cert.BwdInRefIdeal.nD Cert.BwdInRefIdeal.τ Cert.BwdInRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_BwdGates (m : (ℓ : Loc Cert.BwdGates.nD Cert.BwdGates.τ Cert.BwdGates.sig) → Buf (Elt Bits) ℓ) : Prop :=
  True

def Pre_BwdGatesIdeal (m : (ℓ : Loc Cert.BwdGatesIdeal.nD Cert.BwdGatesIdeal.τ Cert.BwdGatesIdeal.sig) → Buf (Elt Ideal) ℓ) : Prop :=
  True

def Pre_BwdGatesIdeal_gates_finite [hPre_gates_finite : Cert.Pre_gates_finite.Facts] (m : (ℓ : Loc Cert.BwdGatesIdeal.nD Cert.BwdGatesIdeal.τ Cert.BwdGatesIdeal.sig) → Buf (Elt Ideal) ℓ) : Prop :=
  ∀ c : Dev Cert.BwdGatesIdeal.nD,
    (Cert.Pre_gates_finite.fn (F := Ideal) (m ((c.tc : Thread Cert.BwdGatesIdeal.nD Cert.BwdGatesIdeal.τ).loc Cert.BwdGatesIdeal.main_arg0)) (m ((c.tc : Thread Cert.BwdGatesIdeal.nD Cert.BwdGatesIdeal.τ).loc Cert.BwdGatesIdeal.main_arg1)) (m ((c.tc : Thread Cert.BwdGatesIdeal.nD Cert.BwdGatesIdeal.τ).loc Cert.BwdGatesIdeal.main_arg2)) (m ((c.tc : Thread Cert.BwdGatesIdeal.nD Cert.BwdGatesIdeal.τ).loc Cert.BwdGatesIdeal.main_arg3)) (m ((c.tc : Thread Cert.BwdGatesIdeal.nD Cert.BwdGatesIdeal.τ).loc Cert.BwdGatesIdeal.main_arg4)) (m ((c.tc : Thread Cert.BwdGatesIdeal.nD Cert.BwdGatesIdeal.τ).loc Cert.BwdGatesIdeal.main_arg5)) (m ((c.tc : Thread Cert.BwdGatesIdeal.nD Cert.BwdGatesIdeal.τ).loc Cert.BwdGatesIdeal.main_arg6)) (m ((c.tc : Thread Cert.BwdGatesIdeal.nD Cert.BwdGatesIdeal.τ).loc Cert.BwdGatesIdeal.main_arg7)) (m ((c.tc : Thread Cert.BwdGatesIdeal.nD Cert.BwdGatesIdeal.τ).loc Cert.BwdGatesIdeal.main_arg8))) = (fun _ => 1#1)

def Pre_BwdGatesRefIdeal (m : (ℓ : Loc Cert.BwdGatesRefIdeal.nD Cert.BwdGatesRefIdeal.τ Cert.BwdGatesRefIdeal.sig) → Buf (Elt Ideal) ℓ) : Prop :=
  True

def Pre_BwdGatesRefIdeal_gates_finite [hPre_gates_finite : Cert.Pre_gates_finite.Facts] (m : (ℓ : Loc Cert.BwdGatesRefIdeal.nD Cert.BwdGatesRefIdeal.τ Cert.BwdGatesRefIdeal.sig) → Buf (Elt Ideal) ℓ) : Prop :=
  ∀ c : Dev Cert.BwdGatesRefIdeal.nD,
    (Cert.Pre_gates_finite.fn (F := Ideal) (m ((c.tc : Thread Cert.BwdGatesRefIdeal.nD Cert.BwdGatesRefIdeal.τ).loc Cert.BwdGatesRefIdeal.main_arg0)) (m ((c.tc : Thread Cert.BwdGatesRefIdeal.nD Cert.BwdGatesRefIdeal.τ).loc Cert.BwdGatesRefIdeal.main_arg1)) (m ((c.tc : Thread Cert.BwdGatesRefIdeal.nD Cert.BwdGatesRefIdeal.τ).loc Cert.BwdGatesRefIdeal.main_arg2)) (m ((c.tc : Thread Cert.BwdGatesRefIdeal.nD Cert.BwdGatesRefIdeal.τ).loc Cert.BwdGatesRefIdeal.main_arg3)) (m ((c.tc : Thread Cert.BwdGatesRefIdeal.nD Cert.BwdGatesRefIdeal.τ).loc Cert.BwdGatesRefIdeal.main_arg4)) (m ((c.tc : Thread Cert.BwdGatesRefIdeal.nD Cert.BwdGatesRefIdeal.τ).loc Cert.BwdGatesRefIdeal.main_arg5)) (m ((c.tc : Thread Cert.BwdGatesRefIdeal.nD Cert.BwdGatesRefIdeal.τ).loc Cert.BwdGatesRefIdeal.main_arg6)) (m ((c.tc : Thread Cert.BwdGatesRefIdeal.nD Cert.BwdGatesRefIdeal.τ).loc Cert.BwdGatesRefIdeal.main_arg7)) (m ((c.tc : Thread Cert.BwdGatesRefIdeal.nD Cert.BwdGatesRefIdeal.τ).loc Cert.BwdGatesRefIdeal.main_arg8))) = (fun _ => 1#1)

def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def Pre_LruIdeal_lru_finite [hPre_lru_finite : Cert.Pre_lru_finite.Facts] (m : (ℓ : Loc Cert.LruIdeal.nD Cert.LruIdeal.τ Cert.LruIdeal.sig) → Buf (Elt Ideal) ℓ) : Prop :=
  ∀ c : Dev Cert.LruIdeal.nD,
    (Cert.Pre_lru_finite.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7))) = (fun _ => 1#1)

def Pre_LruRefIdeal (m : (ℓ : Loc Cert.LruRefIdeal.nD Cert.LruRefIdeal.τ Cert.LruRefIdeal.sig) → Buf (Elt Ideal) ℓ) : Prop :=
  True

def Pre_LruRefIdeal_lru_finite [hPre_lru_finite : Cert.Pre_lru_finite.Facts] (m : (ℓ : Loc Cert.LruRefIdeal.nD Cert.LruRefIdeal.τ Cert.LruRefIdeal.sig) → Buf (Elt Ideal) ℓ) : Prop :=
  ∀ c : Dev Cert.LruRefIdeal.nD,
    (Cert.Pre_lru_finite.fn (F := Ideal) (m ((c.tc : Thread Cert.LruRefIdeal.nD Cert.LruRefIdeal.τ).loc Cert.LruRefIdeal.main_arg0)) (m ((c.tc : Thread Cert.LruRefIdeal.nD Cert.LruRefIdeal.τ).loc Cert.LruRefIdeal.main_arg1)) (m ((c.tc : Thread Cert.LruRefIdeal.nD Cert.LruRefIdeal.τ).loc Cert.LruRefIdeal.main_arg2)) (m ((c.tc : Thread Cert.LruRefIdeal.nD Cert.LruRefIdeal.τ).loc Cert.LruRefIdeal.main_arg3)) (m ((c.tc : Thread Cert.LruRefIdeal.nD Cert.LruRefIdeal.τ).loc Cert.LruRefIdeal.main_arg4)) (m ((c.tc : Thread Cert.LruRefIdeal.nD Cert.LruRefIdeal.τ).loc Cert.LruRefIdeal.main_arg5)) (m ((c.tc : Thread Cert.LruRefIdeal.nD Cert.LruRefIdeal.τ).loc Cert.LruRefIdeal.main_arg6)) (m ((c.tc : Thread Cert.LruRefIdeal.nD Cert.LruRefIdeal.τ).loc Cert.LruRefIdeal.main_arg7))) = (fun _ => 1#1)

def Pre_BwdSgu (m : (ℓ : Loc Cert.BwdSgu.nD Cert.BwdSgu.τ Cert.BwdSgu.sig) → Buf (Elt Bits) ℓ) : Prop :=
  True

def Pre_BwdSguIdeal (m : (ℓ : Loc Cert.BwdSguIdeal.nD Cert.BwdSguIdeal.τ Cert.BwdSguIdeal.sig) → Buf (Elt Ideal) ℓ) : Prop :=
  True

def Pre_BwdSguIdeal_sgu_finite [hPre_sgu_finite : Cert.Pre_sgu_finite.Facts] (m : (ℓ : Loc Cert.BwdSguIdeal.nD Cert.BwdSguIdeal.τ Cert.BwdSguIdeal.sig) → Buf (Elt Ideal) ℓ) : Prop :=
  ∀ c : Dev Cert.BwdSguIdeal.nD,
    (Cert.Pre_sgu_finite.fn (F := Ideal) (m ((c.tc : Thread Cert.BwdSguIdeal.nD Cert.BwdSguIdeal.τ).loc Cert.BwdSguIdeal.main_arg0)) (m ((c.tc : Thread Cert.BwdSguIdeal.nD Cert.BwdSguIdeal.τ).loc Cert.BwdSguIdeal.main_arg1)) (m ((c.tc : Thread Cert.BwdSguIdeal.nD Cert.BwdSguIdeal.τ).loc Cert.BwdSguIdeal.main_arg2)) (m ((c.tc : Thread Cert.BwdSguIdeal.nD Cert.BwdSguIdeal.τ).loc Cert.BwdSguIdeal.main_arg3)) (m ((c.tc : Thread Cert.BwdSguIdeal.nD Cert.BwdSguIdeal.τ).loc Cert.BwdSguIdeal.main_arg4)) (m ((c.tc : Thread Cert.BwdSguIdeal.nD Cert.BwdSguIdeal.τ).loc Cert.BwdSguIdeal.main_arg5))) = (fun _ => 1#1)

def Pre_BwdSguRefIdeal (m : (ℓ : Loc Cert.BwdSguRefIdeal.nD Cert.BwdSguRefIdeal.τ Cert.BwdSguRefIdeal.sig) → Buf (Elt Ideal) ℓ) : Prop :=
  True

def Pre_BwdSguRefIdeal_sgu_finite [hPre_sgu_finite : Cert.Pre_sgu_finite.Facts] (m : (ℓ : Loc Cert.BwdSguRefIdeal.nD Cert.BwdSguRefIdeal.τ Cert.BwdSguRefIdeal.sig) → Buf (Elt Ideal) ℓ) : Prop :=
  ∀ c : Dev Cert.BwdSguRefIdeal.nD,
    (Cert.Pre_sgu_finite.fn (F := Ideal) (m ((c.tc : Thread Cert.BwdSguRefIdeal.nD Cert.BwdSguRefIdeal.τ).loc Cert.BwdSguRefIdeal.main_arg0)) (m ((c.tc : Thread Cert.BwdSguRefIdeal.nD Cert.BwdSguRefIdeal.τ).loc Cert.BwdSguRefIdeal.main_arg1)) (m ((c.tc : Thread Cert.BwdSguRefIdeal.nD Cert.BwdSguRefIdeal.τ).loc Cert.BwdSguRefIdeal.main_arg2)) (m ((c.tc : Thread Cert.BwdSguRefIdeal.nD Cert.BwdSguRefIdeal.τ).loc Cert.BwdSguRefIdeal.main_arg3)) (m ((c.tc : Thread Cert.BwdSguRefIdeal.nD Cert.BwdSguRefIdeal.τ).loc Cert.BwdSguRefIdeal.main_arg4)) (m ((c.tc : Thread Cert.BwdSguRefIdeal.nD Cert.BwdSguRefIdeal.τ).loc Cert.BwdSguRefIdeal.main_arg5))) = (fun _ => 1#1)

def Pre_BwdConv (m : (ℓ : Loc Cert.BwdConv.nD Cert.BwdConv.τ Cert.BwdConv.sig) → Buf (Elt Bits) ℓ) : Prop :=
  True

def Pre_BwdConvIdeal (m : (ℓ : Loc Cert.BwdConvIdeal.nD Cert.BwdConvIdeal.τ Cert.BwdConvIdeal.sig) → Buf (Elt Ideal) ℓ) : Prop :=
  True

def Pre_BwdConvRefIdeal (m : (ℓ : Loc Cert.BwdConvRefIdeal.nD Cert.BwdConvRefIdeal.τ Cert.BwdConvRefIdeal.sig) → Buf (Elt Ideal) ℓ) : Prop :=
  True

def Pre_BwdMerge (m : (ℓ : Loc Cert.BwdMerge.nD Cert.BwdMerge.τ Cert.BwdMerge.sig) → Buf (Elt Bits) ℓ) : Prop :=
  True

def Pre_BwdMergeIdeal (m : (ℓ : Loc Cert.BwdMergeIdeal.nD Cert.BwdMergeIdeal.τ Cert.BwdMergeIdeal.sig) → Buf (Elt Ideal) ℓ) : Prop :=
  True

def Pre_BwdMergeRefIdeal (m : (ℓ : Loc Cert.BwdMergeRefIdeal.nD Cert.BwdMergeRefIdeal.τ Cert.BwdMergeRefIdeal.sig) → Buf (Elt Ideal) ℓ) : Prop :=
  True

def Pre_Fsm (m : (ℓ : Loc Cert.Fsm.nD Cert.Fsm.τ Cert.Fsm.sig) → Buf (Elt Bits) ℓ) : Prop :=
  True

def Pre_FsmIdeal (m : (ℓ : Loc Cert.FsmIdeal.nD Cert.FsmIdeal.τ Cert.FsmIdeal.sig) → Buf (Elt Ideal) ℓ) : Prop :=
  True

def Pre_FsmRefIdeal (m : (ℓ : Loc Cert.FsmRefIdeal.nD Cert.FsmRefIdeal.τ Cert.FsmRefIdeal.sig) → Buf (Elt Ideal) ℓ) : Prop :=
  True

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradRefIdeal (m : (ℓ : Loc Cert.WgradRefIdeal.nD Cert.WgradRefIdeal.τ Cert.WgradRefIdeal.sig) → Buf (Elt Ideal) ℓ) : Prop :=
  True

def Pre_Wsq (m : (ℓ : Loc Cert.Wsq.nD Cert.Wsq.τ Cert.Wsq.sig) → Buf (Elt Bits) ℓ) : Prop :=
  True

def Pre_WsqIdeal (m : (ℓ : Loc Cert.WsqIdeal.nD Cert.WsqIdeal.τ Cert.WsqIdeal.sig) → Buf (Elt Ideal) ℓ) : Prop :=
  True

def Pre_WsqRefIdeal (m : (ℓ : Loc Cert.WsqRefIdeal.nD Cert.WsqRefIdeal.τ Cert.WsqRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_SmallA (m : (ℓ : Loc Cert.SmallA.nD Cert.SmallA.τ Cert.SmallA.sig) → Buf (Elt Bits) ℓ) : Prop :=
  True

def Pre_SmallAIdeal (m : (ℓ : Loc Cert.SmallAIdeal.nD Cert.SmallAIdeal.τ Cert.SmallAIdeal.sig) → Buf (Elt Ideal) ℓ) : Prop :=
  True

def Pre_SmallARefIdeal (m : (ℓ : Loc Cert.SmallARefIdeal.nD Cert.SmallARefIdeal.τ Cert.SmallARefIdeal.sig) → Buf (Elt Ideal) ℓ) : Prop :=
  True

def Pre_SmallB (m : (ℓ : Loc Cert.SmallB.nD Cert.SmallB.τ Cert.SmallB.sig) → Buf (Elt Bits) ℓ) : Prop :=
  True

def Pre_SmallBIdeal (m : (ℓ : Loc Cert.SmallBIdeal.nD Cert.SmallBIdeal.τ Cert.SmallBIdeal.sig) → Buf (Elt Ideal) ℓ) : Prop :=
  True

def Pre_SmallBRefIdeal (m : (ℓ : Loc Cert.SmallBRefIdeal.nD Cert.SmallBRefIdeal.τ Cert.SmallBRefIdeal.sig) → Buf (Elt Ideal) ℓ) : Prop :=
  True

def Pre_SmallC (m : (ℓ : Loc Cert.SmallC.nD Cert.SmallC.τ Cert.SmallC.sig) → Buf (Elt Bits) ℓ) : Prop :=
  True

def Pre_SmallCIdeal (m : (ℓ : Loc Cert.SmallCIdeal.nD Cert.SmallCIdeal.τ Cert.SmallCIdeal.sig) → Buf (Elt Ideal) ℓ) : Prop :=
  True

def Pre_SmallCRefIdeal (m : (ℓ : Loc Cert.SmallCRefIdeal.nD Cert.SmallCRefIdeal.τ Cert.SmallCRefIdeal.sig) → Buf (Elt Ideal) ℓ) : Prop :=
  True

def quiescent_BwdIn [hBwdIn : Cert.BwdIn.Facts] : Prop :=
  ∀ (m : (ℓ : Loc Cert.BwdIn.nD Cert.BwdIn.τ Cert.BwdIn.sig) → Buf (Elt Bits) ℓ) (g : Dev Cert.BwdIn.nD → PrngReg), Pre_BwdIn m →
    θ_run (Cert.BwdIn.defs (F := Bits)) (onTc (τ := Cert.BwdIn.τ) (Cert.BwdIn.main (F := Bits))) ⟨m, fun _ => 0, g⟩ (fun r => (∀ c : Dev Cert.BwdIn.nD,
      r.2.mem ((c.tc : Thread Cert.BwdIn.nD Cert.BwdIn.τ).loc Cert.BwdIn.main_arg0) = m ((c.tc : Thread Cert.BwdIn.nD Cert.BwdIn.τ).loc Cert.BwdIn.main_arg0)
      ∧ r.2.mem ((c.tc : Thread Cert.BwdIn.nD Cert.BwdIn.τ).loc Cert.BwdIn.main_arg1) = m ((c.tc : Thread Cert.BwdIn.nD Cert.BwdIn.τ).loc Cert.BwdIn.main_arg1)
      ∧ r.2.mem ((c.tc : Thread Cert.BwdIn.nD Cert.BwdIn.τ).loc Cert.BwdIn.main_arg2) = m ((c.tc : Thread Cert.BwdIn.nD Cert.BwdIn.τ).loc Cert.BwdIn.main_arg2)
      ∧ r.2.mem ((c.tc : Thread Cert.BwdIn.nD Cert.BwdIn.τ).loc Cert.BwdIn.main_arg3) = m ((c.tc : Thread Cert.BwdIn.nD Cert.BwdIn.τ).loc Cert.BwdIn.main_arg3)
      ∧ r.2.mem ((c.tc : Thread Cert.BwdIn.nD Cert.BwdIn.τ).loc Cert.BwdIn.main_arg4) = m ((c.tc : Thread Cert.BwdIn.nD Cert.BwdIn.τ).loc Cert.BwdIn.main_arg4))
      ∧ r.2.sem = fun _ => 0)

def quiescent_BwdInIdeal [hBwdInIdeal : Cert.BwdInIdeal.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4))
      ∧ r.2.sem = fun _ => 0)

def quiescent_BwdInRefIdeal [hBwdInRefIdeal : Cert.BwdInRefIdeal.Facts] : Prop :=
  ∀ (m : (ℓ : Loc Cert.BwdInRefIdeal.nD Cert.BwdInRefIdeal.τ Cert.BwdInRefIdeal.sig) → Buf (Elt Ideal) ℓ) (g : Dev Cert.BwdInRefIdeal.nD → PrngReg), Pre_BwdInRefIdeal m →
    θ_run (Cert.BwdInRefIdeal.defs (F := Ideal)) (onTc (τ := Cert.BwdInRefIdeal.τ) (Cert.BwdInRefIdeal.main (F := Ideal))) ⟨m, fun _ => 0, g⟩ (fun r => (∀ c : Dev Cert.BwdInRefIdeal.nD,
      r.2.mem ((c.tc : Thread Cert.BwdInRefIdeal.nD Cert.BwdInRefIdeal.τ).loc Cert.BwdInRefIdeal.main_arg0) = m ((c.tc : Thread Cert.BwdInRefIdeal.nD Cert.BwdInRefIdeal.τ).loc Cert.BwdInRefIdeal.main_arg0)
      ∧ r.2.mem ((c.tc : Thread Cert.BwdInRefIdeal.nD Cert.BwdInRefIdeal.τ).loc Cert.BwdInRefIdeal.main_arg1) = m ((c.tc : Thread Cert.BwdInRefIdeal.nD Cert.BwdInRefIdeal.τ).loc Cert.BwdInRefIdeal.main_arg1)
      ∧ r.2.mem ((c.tc : Thread Cert.BwdInRefIdeal.nD Cert.BwdInRefIdeal.τ).loc Cert.BwdInRefIdeal.main_arg2) = m ((c.tc : Thread Cert.BwdInRefIdeal.nD Cert.BwdInRefIdeal.τ).loc Cert.BwdInRefIdeal.main_arg2)
      ∧ r.2.mem ((c.tc : Thread Cert.BwdInRefIdeal.nD Cert.BwdInRefIdeal.τ).loc Cert.BwdInRefIdeal.main_arg3) = m ((c.tc : Thread Cert.BwdInRefIdeal.nD Cert.BwdInRefIdeal.τ).loc Cert.BwdInRefIdeal.main_arg3)
      ∧ r.2.mem ((c.tc : Thread Cert.BwdInRefIdeal.nD Cert.BwdInRefIdeal.τ).loc Cert.BwdInRefIdeal.main_arg4) = m ((c.tc : Thread Cert.BwdInRefIdeal.nD Cert.BwdInRefIdeal.τ).loc Cert.BwdInRefIdeal.main_arg4))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_BwdGates [hBwdGates : Cert.BwdGates.Facts] : Prop :=
  ∀ (m : (ℓ : Loc Cert.BwdGates.nD Cert.BwdGates.τ Cert.BwdGates.sig) → Buf (Elt Bits) ℓ) (g : Dev Cert.BwdGates.nD → PrngReg), Pre_BwdGates m →
    θ_run (Cert.BwdGates.defs (F := Bits)) (onTc (τ := Cert.BwdGates.τ) (Cert.BwdGates.main (F := Bits))) ⟨m, fun _ => 0, g⟩ (fun r => (∀ c : Dev Cert.BwdGates.nD,
      r.2.mem ((c.tc : Thread Cert.BwdGates.nD Cert.BwdGates.τ).loc Cert.BwdGates.main_arg0) = m ((c.tc : Thread Cert.BwdGates.nD Cert.BwdGates.τ).loc Cert.BwdGates.main_arg0)
      ∧ r.2.mem ((c.tc : Thread Cert.BwdGates.nD Cert.BwdGates.τ).loc Cert.BwdGates.main_arg1) = m ((c.tc : Thread Cert.BwdGates.nD Cert.BwdGates.τ).loc Cert.BwdGates.main_arg1)
      ∧ r.2.mem ((c.tc : Thread Cert.BwdGates.nD Cert.BwdGates.τ).loc Cert.BwdGates.main_arg2) = m ((c.tc : Thread Cert.BwdGates.nD Cert.BwdGates.τ).loc Cert.BwdGates.main_arg2)
      ∧ r.2.mem ((c.tc : Thread Cert.BwdGates.nD Cert.BwdGates.τ).loc Cert.BwdGates.main_arg3) = m ((c.tc : Thread Cert.BwdGates.nD Cert.BwdGates.τ).loc Cert.BwdGates.main_arg3)
      ∧ r.2.mem ((c.tc : Thread Cert.BwdGates.nD Cert.BwdGates.τ).loc Cert.BwdGates.main_arg4) = m ((c.tc : Thread Cert.BwdGates.nD Cert.BwdGates.τ).loc Cert.BwdGates.main_arg4)
      ∧ r.2.mem ((c.tc : Thread Cert.BwdGates.nD Cert.BwdGates.τ).loc Cert.BwdGates.main_arg5) = m ((c.tc : Thread Cert.BwdGates.nD Cert.BwdGates.τ).loc Cert.BwdGates.main_arg5)
      ∧ r.2.mem ((c.tc : Thread Cert.BwdGates.nD Cert.BwdGates.τ).loc Cert.BwdGates.main_arg6) = m ((c.tc : Thread Cert.BwdGates.nD Cert.BwdGates.τ).loc Cert.BwdGates.main_arg6)
      ∧ r.2.mem ((c.tc : Thread Cert.BwdGates.nD Cert.BwdGates.τ).loc Cert.BwdGates.main_arg7) = m ((c.tc : Thread Cert.BwdGates.nD Cert.BwdGates.τ).loc Cert.BwdGates.main_arg7)
      ∧ r.2.mem ((c.tc : Thread Cert.BwdGates.nD Cert.BwdGates.τ).loc Cert.BwdGates.main_arg8) = m ((c.tc : Thread Cert.BwdGates.nD Cert.BwdGates.τ).loc Cert.BwdGates.main_arg8))
      ∧ r.2.sem = fun _ => 0)

def quiescent_BwdGatesIdeal [hBwdGatesIdeal : Cert.BwdGatesIdeal.Facts] : Prop :=
  ∀ (m : (ℓ : Loc Cert.BwdGatesIdeal.nD Cert.BwdGatesIdeal.τ Cert.BwdGatesIdeal.sig) → Buf (Elt Ideal) ℓ) (g : Dev Cert.BwdGatesIdeal.nD → PrngReg), Pre_BwdGatesIdeal m →
    θ_run (Cert.BwdGatesIdeal.defs (F := Ideal)) (onTc (τ := Cert.BwdGatesIdeal.τ) (Cert.BwdGatesIdeal.main (F := Ideal))) ⟨m, fun _ => 0, g⟩ (fun r => (∀ c : Dev Cert.BwdGatesIdeal.nD,
      r.2.mem ((c.tc : Thread Cert.BwdGatesIdeal.nD Cert.BwdGatesIdeal.τ).loc Cert.BwdGatesIdeal.main_arg0) = m ((c.tc : Thread Cert.BwdGatesIdeal.nD Cert.BwdGatesIdeal.τ).loc Cert.BwdGatesIdeal.main_arg0)
      ∧ r.2.mem ((c.tc : Thread Cert.BwdGatesIdeal.nD Cert.BwdGatesIdeal.τ).loc Cert.BwdGatesIdeal.main_arg1) = m ((c.tc : Thread Cert.BwdGatesIdeal.nD Cert.BwdGatesIdeal.τ).loc Cert.BwdGatesIdeal.main_arg1)
      ∧ r.2.mem ((c.tc : Thread Cert.BwdGatesIdeal.nD Cert.BwdGatesIdeal.τ).loc Cert.BwdGatesIdeal.main_arg2) = m ((c.tc : Thread Cert.BwdGatesIdeal.nD Cert.BwdGatesIdeal.τ).loc Cert.BwdGatesIdeal.main_arg2)
      ∧ r.2.mem ((c.tc : Thread Cert.BwdGatesIdeal.nD Cert.BwdGatesIdeal.τ).loc Cert.BwdGatesIdeal.main_arg3) = m ((c.tc : Thread Cert.BwdGatesIdeal.nD Cert.BwdGatesIdeal.τ).loc Cert.BwdGatesIdeal.main_arg3)
      ∧ r.2.mem ((c.tc : Thread Cert.BwdGatesIdeal.nD Cert.BwdGatesIdeal.τ).loc Cert.BwdGatesIdeal.main_arg4) = m ((c.tc : Thread Cert.BwdGatesIdeal.nD Cert.BwdGatesIdeal.τ).loc Cert.BwdGatesIdeal.main_arg4)
      ∧ r.2.mem ((c.tc : Thread Cert.BwdGatesIdeal.nD Cert.BwdGatesIdeal.τ).loc Cert.BwdGatesIdeal.main_arg5) = m ((c.tc : Thread Cert.BwdGatesIdeal.nD Cert.BwdGatesIdeal.τ).loc Cert.BwdGatesIdeal.main_arg5)
      ∧ r.2.mem ((c.tc : Thread Cert.BwdGatesIdeal.nD Cert.BwdGatesIdeal.τ).loc Cert.BwdGatesIdeal.main_arg6) = m ((c.tc : Thread Cert.BwdGatesIdeal.nD Cert.BwdGatesIdeal.τ).loc Cert.BwdGatesIdeal.main_arg6)
      ∧ r.2.mem ((c.tc : Thread Cert.BwdGatesIdeal.nD Cert.BwdGatesIdeal.τ).loc Cert.BwdGatesIdeal.main_arg7) = m ((c.tc : Thread Cert.BwdGatesIdeal.nD Cert.BwdGatesIdeal.τ).loc Cert.BwdGatesIdeal.main_arg7)
      ∧ r.2.mem ((c.tc : Thread Cert.BwdGatesIdeal.nD Cert.BwdGatesIdeal.τ).loc Cert.BwdGatesIdeal.main_arg8) = m ((c.tc : Thread Cert.BwdGatesIdeal.nD Cert.BwdGatesIdeal.τ).loc Cert.BwdGatesIdeal.main_arg8))
      ∧ r.2.sem = fun _ => 0)

def quiescent_BwdGatesIdeal_pre_gates_finite [hBwdGatesIdeal : Cert.BwdGatesIdeal.Facts] [hPre_gates_finite : Cert.Pre_gates_finite.Facts] : Prop :=
  ∀ (m : (ℓ : Loc Cert.BwdGatesIdeal.nD Cert.BwdGatesIdeal.τ Cert.BwdGatesIdeal.sig) → Buf (Elt Ideal) ℓ) (g : Dev Cert.BwdGatesIdeal.nD → PrngReg), Pre_BwdGatesIdeal_gates_finite m →
    θ_run (Cert.BwdGatesIdeal.defs (F := Ideal)) (onTc (τ := Cert.BwdGatesIdeal.τ) (Cert.BwdGatesIdeal.main (F := Ideal))) ⟨m, fun _ => 0, g⟩ (fun r => (∀ c : Dev Cert.BwdGatesIdeal.nD,
      r.2.mem ((c.tc : Thread Cert.BwdGatesIdeal.nD Cert.BwdGatesIdeal.τ).loc Cert.BwdGatesIdeal.main_arg0) = m ((c.tc : Thread Cert.BwdGatesIdeal.nD Cert.BwdGatesIdeal.τ).loc Cert.BwdGatesIdeal.main_arg0)
      ∧ r.2.mem ((c.tc : Thread Cert.BwdGatesIdeal.nD Cert.BwdGatesIdeal.τ).loc Cert.BwdGatesIdeal.main_arg1) = m ((c.tc : Thread Cert.BwdGatesIdeal.nD Cert.BwdGatesIdeal.τ).loc Cert.BwdGatesIdeal.main_arg1)
      ∧ r.2.mem ((c.tc : Thread Cert.BwdGatesIdeal.nD Cert.BwdGatesIdeal.τ).loc Cert.BwdGatesIdeal.main_arg2) = m ((c.tc : Thread Cert.BwdGatesIdeal.nD Cert.BwdGatesIdeal.τ).loc Cert.BwdGatesIdeal.main_arg2)
      ∧ r.2.mem ((c.tc : Thread Cert.BwdGatesIdeal.nD Cert.BwdGatesIdeal.τ).loc Cert.BwdGatesIdeal.main_arg3) = m ((c.tc : Thread Cert.BwdGatesIdeal.nD Cert.BwdGatesIdeal.τ).loc Cert.BwdGatesIdeal.main_arg3)
      ∧ r.2.mem ((c.tc : Thread Cert.BwdGatesIdeal.nD Cert.BwdGatesIdeal.τ).loc Cert.BwdGatesIdeal.main_arg4) = m ((c.tc : Thread Cert.BwdGatesIdeal.nD Cert.BwdGatesIdeal.τ).loc Cert.BwdGatesIdeal.main_arg4)
      ∧ r.2.mem ((c.tc : Thread Cert.BwdGatesIdeal.nD Cert.BwdGatesIdeal.τ).loc Cert.BwdGatesIdeal.main_arg5) = m ((c.tc : Thread Cert.BwdGatesIdeal.nD Cert.BwdGatesIdeal.τ).loc Cert.BwdGatesIdeal.main_arg5)
      ∧ r.2.mem ((c.tc : Thread Cert.BwdGatesIdeal.nD Cert.BwdGatesIdeal.τ).loc Cert.BwdGatesIdeal.main_arg6) = m ((c.tc : Thread Cert.BwdGatesIdeal.nD Cert.BwdGatesIdeal.τ).loc Cert.BwdGatesIdeal.main_arg6)
      ∧ r.2.mem ((c.tc : Thread Cert.BwdGatesIdeal.nD Cert.BwdGatesIdeal.τ).loc Cert.BwdGatesIdeal.main_arg7) = m ((c.tc : Thread Cert.BwdGatesIdeal.nD Cert.BwdGatesIdeal.τ).loc Cert.BwdGatesIdeal.main_arg7)
      ∧ r.2.mem ((c.tc : Thread Cert.BwdGatesIdeal.nD Cert.BwdGatesIdeal.τ).loc Cert.BwdGatesIdeal.main_arg8) = m ((c.tc : Thread Cert.BwdGatesIdeal.nD Cert.BwdGatesIdeal.τ).loc Cert.BwdGatesIdeal.main_arg8))
      ∧ r.2.sem = fun _ => 0)

def quiescent_BwdGatesRefIdeal [hBwdGatesRefIdeal : Cert.BwdGatesRefIdeal.Facts] : Prop :=
  ∀ (m : (ℓ : Loc Cert.BwdGatesRefIdeal.nD Cert.BwdGatesRefIdeal.τ Cert.BwdGatesRefIdeal.sig) → Buf (Elt Ideal) ℓ) (g : Dev Cert.BwdGatesRefIdeal.nD → PrngReg), Pre_BwdGatesRefIdeal m →
    θ_run (Cert.BwdGatesRefIdeal.defs (F := Ideal)) (onTc (τ := Cert.BwdGatesRefIdeal.τ) (Cert.BwdGatesRefIdeal.main (F := Ideal))) ⟨m, fun _ => 0, g⟩ (fun r => (∀ c : Dev Cert.BwdGatesRefIdeal.nD,
      r.2.mem ((c.tc : Thread Cert.BwdGatesRefIdeal.nD Cert.BwdGatesRefIdeal.τ).loc Cert.BwdGatesRefIdeal.main_arg0) = m ((c.tc : Thread Cert.BwdGatesRefIdeal.nD Cert.BwdGatesRefIdeal.τ).loc Cert.BwdGatesRefIdeal.main_arg0)
      ∧ r.2.mem ((c.tc : Thread Cert.BwdGatesRefIdeal.nD Cert.BwdGatesRefIdeal.τ).loc Cert.BwdGatesRefIdeal.main_arg1) = m ((c.tc : Thread Cert.BwdGatesRefIdeal.nD Cert.BwdGatesRefIdeal.τ).loc Cert.BwdGatesRefIdeal.main_arg1)
      ∧ r.2.mem ((c.tc : Thread Cert.BwdGatesRefIdeal.nD Cert.BwdGatesRefIdeal.τ).loc Cert.BwdGatesRefIdeal.main_arg2) = m ((c.tc : Thread Cert.BwdGatesRefIdeal.nD Cert.BwdGatesRefIdeal.τ).loc Cert.BwdGatesRefIdeal.main_arg2)
      ∧ r.2.mem ((c.tc : Thread Cert.BwdGatesRefIdeal.nD Cert.BwdGatesRefIdeal.τ).loc Cert.BwdGatesRefIdeal.main_arg3) = m ((c.tc : Thread Cert.BwdGatesRefIdeal.nD Cert.BwdGatesRefIdeal.τ).loc Cert.BwdGatesRefIdeal.main_arg3)
      ∧ r.2.mem ((c.tc : Thread Cert.BwdGatesRefIdeal.nD Cert.BwdGatesRefIdeal.τ).loc Cert.BwdGatesRefIdeal.main_arg4) = m ((c.tc : Thread Cert.BwdGatesRefIdeal.nD Cert.BwdGatesRefIdeal.τ).loc Cert.BwdGatesRefIdeal.main_arg4)
      ∧ r.2.mem ((c.tc : Thread Cert.BwdGatesRefIdeal.nD Cert.BwdGatesRefIdeal.τ).loc Cert.BwdGatesRefIdeal.main_arg5) = m ((c.tc : Thread Cert.BwdGatesRefIdeal.nD Cert.BwdGatesRefIdeal.τ).loc Cert.BwdGatesRefIdeal.main_arg5)
      ∧ r.2.mem ((c.tc : Thread Cert.BwdGatesRefIdeal.nD Cert.BwdGatesRefIdeal.τ).loc Cert.BwdGatesRefIdeal.main_arg6) = m ((c.tc : Thread Cert.BwdGatesRefIdeal.nD Cert.BwdGatesRefIdeal.τ).loc Cert.BwdGatesRefIdeal.main_arg6)
      ∧ r.2.mem ((c.tc : Thread Cert.BwdGatesRefIdeal.nD Cert.BwdGatesRefIdeal.τ).loc Cert.BwdGatesRefIdeal.main_arg7) = m ((c.tc : Thread Cert.BwdGatesRefIdeal.nD Cert.BwdGatesRefIdeal.τ).loc Cert.BwdGatesRefIdeal.main_arg7)
      ∧ r.2.mem ((c.tc : Thread Cert.BwdGatesRefIdeal.nD Cert.BwdGatesRefIdeal.τ).loc Cert.BwdGatesRefIdeal.main_arg8) = m ((c.tc : Thread Cert.BwdGatesRefIdeal.nD Cert.BwdGatesRefIdeal.τ).loc Cert.BwdGatesRefIdeal.main_arg8))
      ∧ r.2.sem = fun _ => 0)

def quiescent_BwdGatesRefIdeal_pre_gates_finite [hBwdGatesRefIdeal : Cert.BwdGatesRefIdeal.Facts] [hPre_gates_finite : Cert.Pre_gates_finite.Facts] : Prop :=
  ∀ (m : (ℓ : Loc Cert.BwdGatesRefIdeal.nD Cert.BwdGatesRefIdeal.τ Cert.BwdGatesRefIdeal.sig) → Buf (Elt Ideal) ℓ) (g : Dev Cert.BwdGatesRefIdeal.nD → PrngReg), Pre_BwdGatesRefIdeal_gates_finite m →
    θ_run (Cert.BwdGatesRefIdeal.defs (F := Ideal)) (onTc (τ := Cert.BwdGatesRefIdeal.τ) (Cert.BwdGatesRefIdeal.main (F := Ideal))) ⟨m, fun _ => 0, g⟩ (fun r => (∀ c : Dev Cert.BwdGatesRefIdeal.nD,
      r.2.mem ((c.tc : Thread Cert.BwdGatesRefIdeal.nD Cert.BwdGatesRefIdeal.τ).loc Cert.BwdGatesRefIdeal.main_arg0) = m ((c.tc : Thread Cert.BwdGatesRefIdeal.nD Cert.BwdGatesRefIdeal.τ).loc Cert.BwdGatesRefIdeal.main_arg0)
      ∧ r.2.mem ((c.tc : Thread Cert.BwdGatesRefIdeal.nD Cert.BwdGatesRefIdeal.τ).loc Cert.BwdGatesRefIdeal.main_arg1) = m ((c.tc : Thread Cert.BwdGatesRefIdeal.nD Cert.BwdGatesRefIdeal.τ).loc Cert.BwdGatesRefIdeal.main_arg1)
      ∧ r.2.mem ((c.tc : Thread Cert.BwdGatesRefIdeal.nD Cert.BwdGatesRefIdeal.τ).loc Cert.BwdGatesRefIdeal.main_arg2) = m ((c.tc : Thread Cert.BwdGatesRefIdeal.nD Cert.BwdGatesRefIdeal.τ).loc Cert.BwdGatesRefIdeal.main_arg2)
      ∧ r.2.mem ((c.tc : Thread Cert.BwdGatesRefIdeal.nD Cert.BwdGatesRefIdeal.τ).loc Cert.BwdGatesRefIdeal.main_arg3) = m ((c.tc : Thread Cert.BwdGatesRefIdeal.nD Cert.BwdGatesRefIdeal.τ).loc Cert.BwdGatesRefIdeal.main_arg3)
      ∧ r.2.mem ((c.tc : Thread Cert.BwdGatesRefIdeal.nD Cert.BwdGatesRefIdeal.τ).loc Cert.BwdGatesRefIdeal.main_arg4) = m ((c.tc : Thread Cert.BwdGatesRefIdeal.nD Cert.BwdGatesRefIdeal.τ).loc Cert.BwdGatesRefIdeal.main_arg4)
      ∧ r.2.mem ((c.tc : Thread Cert.BwdGatesRefIdeal.nD Cert.BwdGatesRefIdeal.τ).loc Cert.BwdGatesRefIdeal.main_arg5) = m ((c.tc : Thread Cert.BwdGatesRefIdeal.nD Cert.BwdGatesRefIdeal.τ).loc Cert.BwdGatesRefIdeal.main_arg5)
      ∧ r.2.mem ((c.tc : Thread Cert.BwdGatesRefIdeal.nD Cert.BwdGatesRefIdeal.τ).loc Cert.BwdGatesRefIdeal.main_arg6) = m ((c.tc : Thread Cert.BwdGatesRefIdeal.nD Cert.BwdGatesRefIdeal.τ).loc Cert.BwdGatesRefIdeal.main_arg6)
      ∧ r.2.mem ((c.tc : Thread Cert.BwdGatesRefIdeal.nD Cert.BwdGatesRefIdeal.τ).loc Cert.BwdGatesRefIdeal.main_arg7) = m ((c.tc : Thread Cert.BwdGatesRefIdeal.nD Cert.BwdGatesRefIdeal.τ).loc Cert.BwdGatesRefIdeal.main_arg7)
      ∧ r.2.mem ((c.tc : Thread Cert.BwdGatesRefIdeal.nD Cert.BwdGatesRefIdeal.τ).loc Cert.BwdGatesRefIdeal.main_arg8) = m ((c.tc : Thread Cert.BwdGatesRefIdeal.nD Cert.BwdGatesRefIdeal.τ).loc Cert.BwdGatesRefIdeal.main_arg8))
      ∧ r.2.sem = fun _ => 0)

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1)
      ∧ r.2.mem ((c.tc : Thread Cert.Lru.nD Cert.Lru.τ).loc Cert.Lru.main_arg2) = m ((c.tc : Thread Cert.Lru.nD Cert.Lru.τ).loc Cert.Lru.main_arg2)
      ∧ r.2.mem ((c.tc : Thread Cert.Lru.nD Cert.Lru.τ).loc Cert.Lru.main_arg3) = m ((c.tc : Thread Cert.Lru.nD Cert.Lru.τ).loc Cert.Lru.main_arg3)
      ∧ r.2.mem ((c.tc : Thread Cert.Lru.nD Cert.Lru.τ).loc Cert.Lru.main_arg4) = m ((c.tc : Thread Cert.Lru.nD Cert.Lru.τ).loc Cert.Lru.main_arg4)
      ∧ r.2.mem ((c.tc : Thread Cert.Lru.nD Cert.Lru.τ).loc Cert.Lru.main_arg5) = m ((c.tc : Thread Cert.Lru.nD Cert.Lru.τ).loc Cert.Lru.main_arg5)
      ∧ r.2.mem ((c.tc : Thread Cert.Lru.nD Cert.Lru.τ).loc Cert.Lru.main_arg6) = m ((c.tc : Thread Cert.Lru.nD Cert.Lru.τ).loc Cert.Lru.main_arg6)
      ∧ r.2.mem ((c.tc : Thread Cert.Lru.nD Cert.Lru.τ).loc Cert.Lru.main_arg7) = m ((c.tc : Thread Cert.Lru.nD Cert.Lru.τ).loc Cert.Lru.main_arg7))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7))
      ∧ r.2.sem = fun _ => 0)

def quiescent_LruIdeal_pre_lru_finite [hLruIdeal : Cert.LruIdeal.Facts] [hPre_lru_finite : Cert.Pre_lru_finite.Facts] : Prop :=
  ∀ (m : (ℓ : Loc Cert.LruIdeal.nD Cert.LruIdeal.τ Cert.LruIdeal.sig) → Buf (Elt Ideal) ℓ) (g : Dev Cert.LruIdeal.nD → PrngReg), Pre_LruIdeal_lru_finite m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7))
      ∧ r.2.sem = fun _ => 0)

def quiescent_LruRefIdeal [hLruRefIdeal : Cert.LruRefIdeal.Facts] : Prop :=
  ∀ (m : (ℓ : Loc Cert.LruRefIdeal.nD Cert.LruRefIdeal.τ Cert.LruRefIdeal.sig) → Buf (Elt Ideal) ℓ) (g : Dev Cert.LruRefIdeal.nD → PrngReg), Pre_LruRefIdeal m →
    θ_run (Cert.LruRefIdeal.defs (F := Ideal)) (onTc (τ := Cert.LruRefIdeal.τ) (Cert.LruRefIdeal.main (F := Ideal))) ⟨m, fun _ => 0, g⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0)
      ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1)
      ∧ r.2.mem ((c.tc : Thread Cert.LruRefIdeal.nD Cert.LruRefIdeal.τ).loc Cert.LruRefIdeal.main_arg2) = m ((c.tc : Thread Cert.LruRefIdeal.nD Cert.LruRefIdeal.τ).loc Cert.LruRefIdeal.main_arg2)
      ∧ r.2.mem ((c.tc : Thread Cert.LruRefIdeal.nD Cert.LruRefIdeal.τ).loc Cert.LruRefIdeal.main_arg3) = m ((c.tc : Thread Cert.LruRefIdeal.nD Cert.LruRefIdeal.τ).loc Cert.LruRefIdeal.main_arg3)
      ∧ r.2.mem ((c.tc : Thread Cert.LruRefIdeal.nD Cert.LruRefIdeal.τ).loc Cert.LruRefIdeal.main_arg4) = m ((c.tc : Thread Cert.LruRefIdeal.nD Cert.LruRefIdeal.τ).loc Cert.LruRefIdeal.main_arg4)
      ∧ r.2.mem ((c.tc : Thread Cert.LruRefIdeal.nD Cert.LruRefIdeal.τ).loc Cert.LruRefIdeal.main_arg5) = m ((c.tc : Thread Cert.LruRefIdeal.nD Cert.LruRefIdeal.τ).loc Cert.LruRefIdeal.main_arg5)
      ∧ r.2.mem ((c.tc : Thread Cert.LruRefIdeal.nD Cert.LruRefIdeal.τ).loc Cert.LruRefIdeal.main_arg6) = m ((c.tc : Thread Cert.LruRefIdeal.nD Cert.LruRefIdeal.τ).loc Cert.LruRefIdeal.main_arg6)
      ∧ r.2.mem ((c.tc : Thread Cert.LruRefIdeal.nD Cert.LruRefIdeal.τ).loc Cert.LruRefIdeal.main_arg7) = m ((c.tc : Thread Cert.LruRefIdeal.nD Cert.LruRefIdeal.τ).loc Cert.LruRefIdeal.main_arg7))
      ∧ r.2.sem = fun _ => 0)

def quiescent_LruRefIdeal_pre_lru_finite [hLruRefIdeal : Cert.LruRefIdeal.Facts] [hPre_lru_finite : Cert.Pre_lru_finite.Facts] : Prop :=
  ∀ (m : (ℓ : Loc Cert.LruRefIdeal.nD Cert.LruRefIdeal.τ Cert.LruRefIdeal.sig) → Buf (Elt Ideal) ℓ) (g : Dev Cert.LruRefIdeal.nD → PrngReg), Pre_LruRefIdeal_lru_finite m →
    θ_run (Cert.LruRefIdeal.defs (F := Ideal)) (onTc (τ := Cert.LruRefIdeal.τ) (Cert.LruRefIdeal.main (F := Ideal))) ⟨m, fun _ => 0, g⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0)
      ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1)
      ∧ r.2.mem ((c.tc : Thread Cert.LruRefIdeal.nD Cert.LruRefIdeal.τ).loc Cert.LruRefIdeal.main_arg2) = m ((c.tc : Thread Cert.LruRefIdeal.nD Cert.LruRefIdeal.τ).loc Cert.LruRefIdeal.main_arg2)
      ∧ r.2.mem ((c.tc : Thread Cert.LruRefIdeal.nD Cert.LruRefIdeal.τ).loc Cert.LruRefIdeal.main_arg3) = m ((c.tc : Thread Cert.LruRefIdeal.nD Cert.LruRefIdeal.τ).loc Cert.LruRefIdeal.main_arg3)
      ∧ r.2.mem ((c.tc : Thread Cert.LruRefIdeal.nD Cert.LruRefIdeal.τ).loc Cert.LruRefIdeal.main_arg4) = m ((c.tc : Thread Cert.LruRefIdeal.nD Cert.LruRefIdeal.τ).loc Cert.LruRefIdeal.main_arg4)
      ∧ r.2.mem ((c.tc : Thread Cert.LruRefIdeal.nD Cert.LruRefIdeal.τ).loc Cert.LruRefIdeal.main_arg5) = m ((c.tc : Thread Cert.LruRefIdeal.nD Cert.LruRefIdeal.τ).loc Cert.LruRefIdeal.main_arg5)
      ∧ r.2.mem ((c.tc : Thread Cert.LruRefIdeal.nD Cert.LruRefIdeal.τ).loc Cert.LruRefIdeal.main_arg6) = m ((c.tc : Thread Cert.LruRefIdeal.nD Cert.LruRefIdeal.τ).loc Cert.LruRefIdeal.main_arg6)
      ∧ r.2.mem ((c.tc : Thread Cert.LruRefIdeal.nD Cert.LruRefIdeal.τ).loc Cert.LruRefIdeal.main_arg7) = m ((c.tc : Thread Cert.LruRefIdeal.nD Cert.LruRefIdeal.τ).loc Cert.LruRefIdeal.main_arg7))
      ∧ r.2.sem = fun _ => 0)

def quiescent_BwdSgu [hBwdSgu : Cert.BwdSgu.Facts] : Prop :=
  ∀ (m : (ℓ : Loc Cert.BwdSgu.nD Cert.BwdSgu.τ Cert.BwdSgu.sig) → Buf (Elt Bits) ℓ) (g : Dev Cert.BwdSgu.nD → PrngReg), Pre_BwdSgu m →
    θ_run (Cert.BwdSgu.defs (F := Bits)) (onTc (τ := Cert.BwdSgu.τ) (Cert.BwdSgu.main (F := Bits))) ⟨m, fun _ => 0, g⟩ (fun r => (∀ c : Dev Cert.BwdSgu.nD,
      r.2.mem ((c.tc : Thread Cert.BwdSgu.nD Cert.BwdSgu.τ).loc Cert.BwdSgu.main_arg0) = m ((c.tc : Thread Cert.BwdSgu.nD Cert.BwdSgu.τ).loc Cert.BwdSgu.main_arg0)
      ∧ r.2.mem ((c.tc : Thread Cert.BwdSgu.nD Cert.BwdSgu.τ).loc Cert.BwdSgu.main_arg1) = m ((c.tc : Thread Cert.BwdSgu.nD Cert.BwdSgu.τ).loc Cert.BwdSgu.main_arg1)
      ∧ r.2.mem ((c.tc : Thread Cert.BwdSgu.nD Cert.BwdSgu.τ).loc Cert.BwdSgu.main_arg2) = m ((c.tc : Thread Cert.BwdSgu.nD Cert.BwdSgu.τ).loc Cert.BwdSgu.main_arg2)
      ∧ r.2.mem ((c.tc : Thread Cert.BwdSgu.nD Cert.BwdSgu.τ).loc Cert.BwdSgu.main_arg3) = m ((c.tc : Thread Cert.BwdSgu.nD Cert.BwdSgu.τ).loc Cert.BwdSgu.main_arg3)
      ∧ r.2.mem ((c.tc : Thread Cert.BwdSgu.nD Cert.BwdSgu.τ).loc Cert.BwdSgu.main_arg4) = m ((c.tc : Thread Cert.BwdSgu.nD Cert.BwdSgu.τ).loc Cert.BwdSgu.main_arg4)
      ∧ r.2.mem ((c.tc : Thread Cert.BwdSgu.nD Cert.BwdSgu.τ).loc Cert.BwdSgu.main_arg5) = m ((c.tc : Thread Cert.BwdSgu.nD Cert.BwdSgu.τ).loc Cert.BwdSgu.main_arg5))
      ∧ r.2.sem = fun _ => 0)

def quiescent_BwdSguIdeal [hBwdSguIdeal : Cert.BwdSguIdeal.Facts] : Prop :=
  ∀ (m : (ℓ : Loc Cert.BwdSguIdeal.nD Cert.BwdSguIdeal.τ Cert.BwdSguIdeal.sig) → Buf (Elt Ideal) ℓ) (g : Dev Cert.BwdSguIdeal.nD → PrngReg), Pre_BwdSguIdeal m →
    θ_run (Cert.BwdSguIdeal.defs (F := Ideal)) (onTc (τ := Cert.BwdSguIdeal.τ) (Cert.BwdSguIdeal.main (F := Ideal))) ⟨m, fun _ => 0, g⟩ (fun r => (∀ c : Dev Cert.BwdSguIdeal.nD,
      r.2.mem ((c.tc : Thread Cert.BwdSguIdeal.nD Cert.BwdSguIdeal.τ).loc Cert.BwdSguIdeal.main_arg0) = m ((c.tc : Thread Cert.BwdSguIdeal.nD Cert.BwdSguIdeal.τ).loc Cert.BwdSguIdeal.main_arg0)
      ∧ r.2.mem ((c.tc : Thread Cert.BwdSguIdeal.nD Cert.BwdSguIdeal.τ).loc Cert.BwdSguIdeal.main_arg1) = m ((c.tc : Thread Cert.BwdSguIdeal.nD Cert.BwdSguIdeal.τ).loc Cert.BwdSguIdeal.main_arg1)
      ∧ r.2.mem ((c.tc : Thread Cert.BwdSguIdeal.nD Cert.BwdSguIdeal.τ).loc Cert.BwdSguIdeal.main_arg2) = m ((c.tc : Thread Cert.BwdSguIdeal.nD Cert.BwdSguIdeal.τ).loc Cert.BwdSguIdeal.main_arg2)
      ∧ r.2.mem ((c.tc : Thread Cert.BwdSguIdeal.nD Cert.BwdSguIdeal.τ).loc Cert.BwdSguIdeal.main_arg3) = m ((c.tc : Thread Cert.BwdSguIdeal.nD Cert.BwdSguIdeal.τ).loc Cert.BwdSguIdeal.main_arg3)
      ∧ r.2.mem ((c.tc : Thread Cert.BwdSguIdeal.nD Cert.BwdSguIdeal.τ).loc Cert.BwdSguIdeal.main_arg4) = m ((c.tc : Thread Cert.BwdSguIdeal.nD Cert.BwdSguIdeal.τ).loc Cert.BwdSguIdeal.main_arg4)
      ∧ r.2.mem ((c.tc : Thread Cert.BwdSguIdeal.nD Cert.BwdSguIdeal.τ).loc Cert.BwdSguIdeal.main_arg5) = m ((c.tc : Thread Cert.BwdSguIdeal.nD Cert.BwdSguIdeal.τ).loc Cert.BwdSguIdeal.main_arg5))
      ∧ r.2.sem = fun _ => 0)

def quiescent_BwdSguIdeal_pre_sgu_finite [hBwdSguIdeal : Cert.BwdSguIdeal.Facts] [hPre_sgu_finite : Cert.Pre_sgu_finite.Facts] : Prop :=
  ∀ (m : (ℓ : Loc Cert.BwdSguIdeal.nD Cert.BwdSguIdeal.τ Cert.BwdSguIdeal.sig) → Buf (Elt Ideal) ℓ) (g : Dev Cert.BwdSguIdeal.nD → PrngReg), Pre_BwdSguIdeal_sgu_finite m →
    θ_run (Cert.BwdSguIdeal.defs (F := Ideal)) (onTc (τ := Cert.BwdSguIdeal.τ) (Cert.BwdSguIdeal.main (F := Ideal))) ⟨m, fun _ => 0, g⟩ (fun r => (∀ c : Dev Cert.BwdSguIdeal.nD,
      r.2.mem ((c.tc : Thread Cert.BwdSguIdeal.nD Cert.BwdSguIdeal.τ).loc Cert.BwdSguIdeal.main_arg0) = m ((c.tc : Thread Cert.BwdSguIdeal.nD Cert.BwdSguIdeal.τ).loc Cert.BwdSguIdeal.main_arg0)
      ∧ r.2.mem ((c.tc : Thread Cert.BwdSguIdeal.nD Cert.BwdSguIdeal.τ).loc Cert.BwdSguIdeal.main_arg1) = m ((c.tc : Thread Cert.BwdSguIdeal.nD Cert.BwdSguIdeal.τ).loc Cert.BwdSguIdeal.main_arg1)
      ∧ r.2.mem ((c.tc : Thread Cert.BwdSguIdeal.nD Cert.BwdSguIdeal.τ).loc Cert.BwdSguIdeal.main_arg2) = m ((c.tc : Thread Cert.BwdSguIdeal.nD Cert.BwdSguIdeal.τ).loc Cert.BwdSguIdeal.main_arg2)
      ∧ r.2.mem ((c.tc : Thread Cert.BwdSguIdeal.nD Cert.BwdSguIdeal.τ).loc Cert.BwdSguIdeal.main_arg3) = m ((c.tc : Thread Cert.BwdSguIdeal.nD Cert.BwdSguIdeal.τ).loc Cert.BwdSguIdeal.main_arg3)
      ∧ r.2.mem ((c.tc : Thread Cert.BwdSguIdeal.nD Cert.BwdSguIdeal.τ).loc Cert.BwdSguIdeal.main_arg4) = m ((c.tc : Thread Cert.BwdSguIdeal.nD Cert.BwdSguIdeal.τ).loc Cert.BwdSguIdeal.main_arg4)
      ∧ r.2.mem ((c.tc : Thread Cert.BwdSguIdeal.nD Cert.BwdSguIdeal.τ).loc Cert.BwdSguIdeal.main_arg5) = m ((c.tc : Thread Cert.BwdSguIdeal.nD Cert.BwdSguIdeal.τ).loc Cert.BwdSguIdeal.main_arg5))
      ∧ r.2.sem = fun _ => 0)

def quiescent_BwdSguRefIdeal [hBwdSguRefIdeal : Cert.BwdSguRefIdeal.Facts] : Prop :=
  ∀ (m : (ℓ : Loc Cert.BwdSguRefIdeal.nD Cert.BwdSguRefIdeal.τ Cert.BwdSguRefIdeal.sig) → Buf (Elt Ideal) ℓ) (g : Dev Cert.BwdSguRefIdeal.nD → PrngReg), Pre_BwdSguRefIdeal m →
    θ_run (Cert.BwdSguRefIdeal.defs (F := Ideal)) (onTc (τ := Cert.BwdSguRefIdeal.τ) (Cert.BwdSguRefIdeal.main (F := Ideal))) ⟨m, fun _ => 0, g⟩ (fun r => (∀ c : Dev Cert.BwdSguRefIdeal.nD,
      r.2.mem ((c.tc : Thread Cert.BwdSguRefIdeal.nD Cert.BwdSguRefIdeal.τ).loc Cert.BwdSguRefIdeal.main_arg0) = m ((c.tc : Thread Cert.BwdSguRefIdeal.nD Cert.BwdSguRefIdeal.τ).loc Cert.BwdSguRefIdeal.main_arg0)
      ∧ r.2.mem ((c.tc : Thread Cert.BwdSguRefIdeal.nD Cert.BwdSguRefIdeal.τ).loc Cert.BwdSguRefIdeal.main_arg1) = m ((c.tc : Thread Cert.BwdSguRefIdeal.nD Cert.BwdSguRefIdeal.τ).loc Cert.BwdSguRefIdeal.main_arg1)
      ∧ r.2.mem ((c.tc : Thread Cert.BwdSguRefIdeal.nD Cert.BwdSguRefIdeal.τ).loc Cert.BwdSguRefIdeal.main_arg2) = m ((c.tc : Thread Cert.BwdSguRefIdeal.nD Cert.BwdSguRefIdeal.τ).loc Cert.BwdSguRefIdeal.main_arg2)
      ∧ r.2.mem ((c.tc : Thread Cert.BwdSguRefIdeal.nD Cert.BwdSguRefIdeal.τ).loc Cert.BwdSguRefIdeal.main_arg3) = m ((c.tc : Thread Cert.BwdSguRefIdeal.nD Cert.BwdSguRefIdeal.τ).loc Cert.BwdSguRefIdeal.main_arg3)
      ∧ r.2.mem ((c.tc : Thread Cert.BwdSguRefIdeal.nD Cert.BwdSguRefIdeal.τ).loc Cert.BwdSguRefIdeal.main_arg4) = m ((c.tc : Thread Cert.BwdSguRefIdeal.nD Cert.BwdSguRefIdeal.τ).loc Cert.BwdSguRefIdeal.main_arg4)
      ∧ r.2.mem ((c.tc : Thread Cert.BwdSguRefIdeal.nD Cert.BwdSguRefIdeal.τ).loc Cert.BwdSguRefIdeal.main_arg5) = m ((c.tc : Thread Cert.BwdSguRefIdeal.nD Cert.BwdSguRefIdeal.τ).loc Cert.BwdSguRefIdeal.main_arg5))
      ∧ r.2.sem = fun _ => 0)

def quiescent_BwdSguRefIdeal_pre_sgu_finite [hBwdSguRefIdeal : Cert.BwdSguRefIdeal.Facts] [hPre_sgu_finite : Cert.Pre_sgu_finite.Facts] : Prop :=
  ∀ (m : (ℓ : Loc Cert.BwdSguRefIdeal.nD Cert.BwdSguRefIdeal.τ Cert.BwdSguRefIdeal.sig) → Buf (Elt Ideal) ℓ) (g : Dev Cert.BwdSguRefIdeal.nD → PrngReg), Pre_BwdSguRefIdeal_sgu_finite m →
    θ_run (Cert.BwdSguRefIdeal.defs (F := Ideal)) (onTc (τ := Cert.BwdSguRefIdeal.τ) (Cert.BwdSguRefIdeal.main (F := Ideal))) ⟨m, fun _ => 0, g⟩ (fun r => (∀ c : Dev Cert.BwdSguRefIdeal.nD,
      r.2.mem ((c.tc : Thread Cert.BwdSguRefIdeal.nD Cert.BwdSguRefIdeal.τ).loc Cert.BwdSguRefIdeal.main_arg0) = m ((c.tc : Thread Cert.BwdSguRefIdeal.nD Cert.BwdSguRefIdeal.τ).loc Cert.BwdSguRefIdeal.main_arg0)
      ∧ r.2.mem ((c.tc : Thread Cert.BwdSguRefIdeal.nD Cert.BwdSguRefIdeal.τ).loc Cert.BwdSguRefIdeal.main_arg1) = m ((c.tc : Thread Cert.BwdSguRefIdeal.nD Cert.BwdSguRefIdeal.τ).loc Cert.BwdSguRefIdeal.main_arg1)
      ∧ r.2.mem ((c.tc : Thread Cert.BwdSguRefIdeal.nD Cert.BwdSguRefIdeal.τ).loc Cert.BwdSguRefIdeal.main_arg2) = m ((c.tc : Thread Cert.BwdSguRefIdeal.nD Cert.BwdSguRefIdeal.τ).loc Cert.BwdSguRefIdeal.main_arg2)
      ∧ r.2.mem ((c.tc : Thread Cert.BwdSguRefIdeal.nD Cert.BwdSguRefIdeal.τ).loc Cert.BwdSguRefIdeal.main_arg3) = m ((c.tc : Thread Cert.BwdSguRefIdeal.nD Cert.BwdSguRefIdeal.τ).loc Cert.BwdSguRefIdeal.main_arg3)
      ∧ r.2.mem ((c.tc : Thread Cert.BwdSguRefIdeal.nD Cert.BwdSguRefIdeal.τ).loc Cert.BwdSguRefIdeal.main_arg4) = m ((c.tc : Thread Cert.BwdSguRefIdeal.nD Cert.BwdSguRefIdeal.τ).loc Cert.BwdSguRefIdeal.main_arg4)
      ∧ r.2.mem ((c.tc : Thread Cert.BwdSguRefIdeal.nD Cert.BwdSguRefIdeal.τ).loc Cert.BwdSguRefIdeal.main_arg5) = m ((c.tc : Thread Cert.BwdSguRefIdeal.nD Cert.BwdSguRefIdeal.τ).loc Cert.BwdSguRefIdeal.main_arg5))
      ∧ r.2.sem = fun _ => 0)

def quiescent_BwdConv [hBwdConv : Cert.BwdConv.Facts] : Prop :=
  ∀ (m : (ℓ : Loc Cert.BwdConv.nD Cert.BwdConv.τ Cert.BwdConv.sig) → Buf (Elt Bits) ℓ) (g : Dev Cert.BwdConv.nD → PrngReg), Pre_BwdConv m →
    θ_run (Cert.BwdConv.defs (F := Bits)) (onTc (τ := Cert.BwdConv.τ) (Cert.BwdConv.main (F := Bits))) ⟨m, fun _ => 0, g⟩ (fun r => (∀ c : Dev Cert.BwdConv.nD,
      r.2.mem ((c.tc : Thread Cert.BwdConv.nD Cert.BwdConv.τ).loc Cert.BwdConv.main_arg0) = m ((c.tc : Thread Cert.BwdConv.nD Cert.BwdConv.τ).loc Cert.BwdConv.main_arg0)
      ∧ r.2.mem ((c.tc : Thread Cert.BwdConv.nD Cert.BwdConv.τ).loc Cert.BwdConv.main_arg1) = m ((c.tc : Thread Cert.BwdConv.nD Cert.BwdConv.τ).loc Cert.BwdConv.main_arg1)
      ∧ r.2.mem ((c.tc : Thread Cert.BwdConv.nD Cert.BwdConv.τ).loc Cert.BwdConv.main_arg2) = m ((c.tc : Thread Cert.BwdConv.nD Cert.BwdConv.τ).loc Cert.BwdConv.main_arg2)
      ∧ r.2.mem ((c.tc : Thread Cert.BwdConv.nD Cert.BwdConv.τ).loc Cert.BwdConv.main_arg3) = m ((c.tc : Thread Cert.BwdConv.nD Cert.BwdConv.τ).loc Cert.BwdConv.main_arg3))
      ∧ r.2.sem = fun _ => 0)

def quiescent_BwdConvIdeal [hBwdConvIdeal : Cert.BwdConvIdeal.Facts] : Prop :=
  ∀ (m : (ℓ : Loc Cert.BwdConvIdeal.nD Cert.BwdConvIdeal.τ Cert.BwdConvIdeal.sig) → Buf (Elt Ideal) ℓ) (g : Dev Cert.BwdConvIdeal.nD → PrngReg), Pre_BwdConvIdeal m →
    θ_run (Cert.BwdConvIdeal.defs (F := Ideal)) (onTc (τ := Cert.BwdConvIdeal.τ) (Cert.BwdConvIdeal.main (F := Ideal))) ⟨m, fun _ => 0, g⟩ (fun r => (∀ c : Dev Cert.BwdConvIdeal.nD,
      r.2.mem ((c.tc : Thread Cert.BwdConvIdeal.nD Cert.BwdConvIdeal.τ).loc Cert.BwdConvIdeal.main_arg0) = m ((c.tc : Thread Cert.BwdConvIdeal.nD Cert.BwdConvIdeal.τ).loc Cert.BwdConvIdeal.main_arg0)
      ∧ r.2.mem ((c.tc : Thread Cert.BwdConvIdeal.nD Cert.BwdConvIdeal.τ).loc Cert.BwdConvIdeal.main_arg1) = m ((c.tc : Thread Cert.BwdConvIdeal.nD Cert.BwdConvIdeal.τ).loc Cert.BwdConvIdeal.main_arg1)
      ∧ r.2.mem ((c.tc : Thread Cert.BwdConvIdeal.nD Cert.BwdConvIdeal.τ).loc Cert.BwdConvIdeal.main_arg2) = m ((c.tc : Thread Cert.BwdConvIdeal.nD Cert.BwdConvIdeal.τ).loc Cert.BwdConvIdeal.main_arg2)
      ∧ r.2.mem ((c.tc : Thread Cert.BwdConvIdeal.nD Cert.BwdConvIdeal.τ).loc Cert.BwdConvIdeal.main_arg3) = m ((c.tc : Thread Cert.BwdConvIdeal.nD Cert.BwdConvIdeal.τ).loc Cert.BwdConvIdeal.main_arg3))
      ∧ r.2.sem = fun _ => 0)

def quiescent_BwdConvRefIdeal [hBwdConvRefIdeal : Cert.BwdConvRefIdeal.Facts] : Prop :=
  ∀ (m : (ℓ : Loc Cert.BwdConvRefIdeal.nD Cert.BwdConvRefIdeal.τ Cert.BwdConvRefIdeal.sig) → Buf (Elt Ideal) ℓ) (g : Dev Cert.BwdConvRefIdeal.nD → PrngReg), Pre_BwdConvRefIdeal m →
    θ_run (Cert.BwdConvRefIdeal.defs (F := Ideal)) (onTc (τ := Cert.BwdConvRefIdeal.τ) (Cert.BwdConvRefIdeal.main (F := Ideal))) ⟨m, fun _ => 0, g⟩ (fun r => (∀ c : Dev Cert.BwdConvRefIdeal.nD,
      r.2.mem ((c.tc : Thread Cert.BwdConvRefIdeal.nD Cert.BwdConvRefIdeal.τ).loc Cert.BwdConvRefIdeal.main_arg0) = m ((c.tc : Thread Cert.BwdConvRefIdeal.nD Cert.BwdConvRefIdeal.τ).loc Cert.BwdConvRefIdeal.main_arg0)
      ∧ r.2.mem ((c.tc : Thread Cert.BwdConvRefIdeal.nD Cert.BwdConvRefIdeal.τ).loc Cert.BwdConvRefIdeal.main_arg1) = m ((c.tc : Thread Cert.BwdConvRefIdeal.nD Cert.BwdConvRefIdeal.τ).loc Cert.BwdConvRefIdeal.main_arg1)
      ∧ r.2.mem ((c.tc : Thread Cert.BwdConvRefIdeal.nD Cert.BwdConvRefIdeal.τ).loc Cert.BwdConvRefIdeal.main_arg2) = m ((c.tc : Thread Cert.BwdConvRefIdeal.nD Cert.BwdConvRefIdeal.τ).loc Cert.BwdConvRefIdeal.main_arg2)
      ∧ r.2.mem ((c.tc : Thread Cert.BwdConvRefIdeal.nD Cert.BwdConvRefIdeal.τ).loc Cert.BwdConvRefIdeal.main_arg3) = m ((c.tc : Thread Cert.BwdConvRefIdeal.nD Cert.BwdConvRefIdeal.τ).loc Cert.BwdConvRefIdeal.main_arg3))
      ∧ r.2.sem = fun _ => 0)

def quiescent_BwdMerge [hBwdMerge : Cert.BwdMerge.Facts] : Prop :=
  ∀ (m : (ℓ : Loc Cert.BwdMerge.nD Cert.BwdMerge.τ Cert.BwdMerge.sig) → Buf (Elt Bits) ℓ) (g : Dev Cert.BwdMerge.nD → PrngReg), Pre_BwdMerge m →
    θ_run (Cert.BwdMerge.defs (F := Bits)) (onTc (τ := Cert.BwdMerge.τ) (Cert.BwdMerge.main (F := Bits))) ⟨m, fun _ => 0, g⟩ (fun r => (∀ c : Dev Cert.BwdMerge.nD,
      r.2.mem ((c.tc : Thread Cert.BwdMerge.nD Cert.BwdMerge.τ).loc Cert.BwdMerge.main_arg0) = m ((c.tc : Thread Cert.BwdMerge.nD Cert.BwdMerge.τ).loc Cert.BwdMerge.main_arg0)
      ∧ r.2.mem ((c.tc : Thread Cert.BwdMerge.nD Cert.BwdMerge.τ).loc Cert.BwdMerge.main_arg1) = m ((c.tc : Thread Cert.BwdMerge.nD Cert.BwdMerge.τ).loc Cert.BwdMerge.main_arg1)
      ∧ r.2.mem ((c.tc : Thread Cert.BwdMerge.nD Cert.BwdMerge.τ).loc Cert.BwdMerge.main_arg2) = m ((c.tc : Thread Cert.BwdMerge.nD Cert.BwdMerge.τ).loc Cert.BwdMerge.main_arg2)
      ∧ r.2.mem ((c.tc : Thread Cert.BwdMerge.nD Cert.BwdMerge.τ).loc Cert.BwdMerge.main_arg3) = m ((c.tc : Thread Cert.BwdMerge.nD Cert.BwdMerge.τ).loc Cert.BwdMerge.main_arg3)
      ∧ r.2.mem ((c.tc : Thread Cert.BwdMerge.nD Cert.BwdMerge.τ).loc Cert.BwdMerge.main_arg4) = m ((c.tc : Thread Cert.BwdMerge.nD Cert.BwdMerge.τ).loc Cert.BwdMerge.main_arg4)
      ∧ r.2.mem ((c.tc : Thread Cert.BwdMerge.nD Cert.BwdMerge.τ).loc Cert.BwdMerge.main_arg5) = m ((c.tc : Thread Cert.BwdMerge.nD Cert.BwdMerge.τ).loc Cert.BwdMerge.main_arg5)
      ∧ r.2.mem ((c.tc : Thread Cert.BwdMerge.nD Cert.BwdMerge.τ).loc Cert.BwdMerge.main_arg6) = m ((c.tc : Thread Cert.BwdMerge.nD Cert.BwdMerge.τ).loc Cert.BwdMerge.main_arg6))
      ∧ r.2.sem = fun _ => 0)

def quiescent_BwdMergeIdeal [hBwdMergeIdeal : Cert.BwdMergeIdeal.Facts] : Prop :=
  ∀ (m : (ℓ : Loc Cert.BwdMergeIdeal.nD Cert.BwdMergeIdeal.τ Cert.BwdMergeIdeal.sig) → Buf (Elt Ideal) ℓ) (g : Dev Cert.BwdMergeIdeal.nD → PrngReg), Pre_BwdMergeIdeal m →
    θ_run (Cert.BwdMergeIdeal.defs (F := Ideal)) (onTc (τ := Cert.BwdMergeIdeal.τ) (Cert.BwdMergeIdeal.main (F := Ideal))) ⟨m, fun _ => 0, g⟩ (fun r => (∀ c : Dev Cert.BwdMergeIdeal.nD,
      r.2.mem ((c.tc : Thread Cert.BwdMergeIdeal.nD Cert.BwdMergeIdeal.τ).loc Cert.BwdMergeIdeal.main_arg0) = m ((c.tc : Thread Cert.BwdMergeIdeal.nD Cert.BwdMergeIdeal.τ).loc Cert.BwdMergeIdeal.main_arg0)
      ∧ r.2.mem ((c.tc : Thread Cert.BwdMergeIdeal.nD Cert.BwdMergeIdeal.τ).loc Cert.BwdMergeIdeal.main_arg1) = m ((c.tc : Thread Cert.BwdMergeIdeal.nD Cert.BwdMergeIdeal.τ).loc Cert.BwdMergeIdeal.main_arg1)
      ∧ r.2.mem ((c.tc : Thread Cert.BwdMergeIdeal.nD Cert.BwdMergeIdeal.τ).loc Cert.BwdMergeIdeal.main_arg2) = m ((c.tc : Thread Cert.BwdMergeIdeal.nD Cert.BwdMergeIdeal.τ).loc Cert.BwdMergeIdeal.main_arg2)
      ∧ r.2.mem ((c.tc : Thread Cert.BwdMergeIdeal.nD Cert.BwdMergeIdeal.τ).loc Cert.BwdMergeIdeal.main_arg3) = m ((c.tc : Thread Cert.BwdMergeIdeal.nD Cert.BwdMergeIdeal.τ).loc Cert.BwdMergeIdeal.main_arg3)
      ∧ r.2.mem ((c.tc : Thread Cert.BwdMergeIdeal.nD Cert.BwdMergeIdeal.τ).loc Cert.BwdMergeIdeal.main_arg4) = m ((c.tc : Thread Cert.BwdMergeIdeal.nD Cert.BwdMergeIdeal.τ).loc Cert.BwdMergeIdeal.main_arg4)
      ∧ r.2.mem ((c.tc : Thread Cert.BwdMergeIdeal.nD Cert.BwdMergeIdeal.τ).loc Cert.BwdMergeIdeal.main_arg5) = m ((c.tc : Thread Cert.BwdMergeIdeal.nD Cert.BwdMergeIdeal.τ).loc Cert.BwdMergeIdeal.main_arg5)
      ∧ r.2.mem ((c.tc : Thread Cert.BwdMergeIdeal.nD Cert.BwdMergeIdeal.τ).loc Cert.BwdMergeIdeal.main_arg6) = m ((c.tc : Thread Cert.BwdMergeIdeal.nD Cert.BwdMergeIdeal.τ).loc Cert.BwdMergeIdeal.main_arg6))
      ∧ r.2.sem = fun _ => 0)

def quiescent_BwdMergeRefIdeal [hBwdMergeRefIdeal : Cert.BwdMergeRefIdeal.Facts] : Prop :=
  ∀ (m : (ℓ : Loc Cert.BwdMergeRefIdeal.nD Cert.BwdMergeRefIdeal.τ Cert.BwdMergeRefIdeal.sig) → Buf (Elt Ideal) ℓ) (g : Dev Cert.BwdMergeRefIdeal.nD → PrngReg), Pre_BwdMergeRefIdeal m →
    θ_run (Cert.BwdMergeRefIdeal.defs (F := Ideal)) (onTc (τ := Cert.BwdMergeRefIdeal.τ) (Cert.BwdMergeRefIdeal.main (F := Ideal))) ⟨m, fun _ => 0, g⟩ (fun r => (∀ c : Dev Cert.BwdMergeRefIdeal.nD,
      r.2.mem ((c.tc : Thread Cert.BwdMergeRefIdeal.nD Cert.BwdMergeRefIdeal.τ).loc Cert.BwdMergeRefIdeal.main_arg0) = m ((c.tc : Thread Cert.BwdMergeRefIdeal.nD Cert.BwdMergeRefIdeal.τ).loc Cert.BwdMergeRefIdeal.main_arg0)
      ∧ r.2.mem ((c.tc : Thread Cert.BwdMergeRefIdeal.nD Cert.BwdMergeRefIdeal.τ).loc Cert.BwdMergeRefIdeal.main_arg1) = m ((c.tc : Thread Cert.BwdMergeRefIdeal.nD Cert.BwdMergeRefIdeal.τ).loc Cert.BwdMergeRefIdeal.main_arg1)
      ∧ r.2.mem ((c.tc : Thread Cert.BwdMergeRefIdeal.nD Cert.BwdMergeRefIdeal.τ).loc Cert.BwdMergeRefIdeal.main_arg2) = m ((c.tc : Thread Cert.BwdMergeRefIdeal.nD Cert.BwdMergeRefIdeal.τ).loc Cert.BwdMergeRefIdeal.main_arg2)
      ∧ r.2.mem ((c.tc : Thread Cert.BwdMergeRefIdeal.nD Cert.BwdMergeRefIdeal.τ).loc Cert.BwdMergeRefIdeal.main_arg3) = m ((c.tc : Thread Cert.BwdMergeRefIdeal.nD Cert.BwdMergeRefIdeal.τ).loc Cert.BwdMergeRefIdeal.main_arg3)
      ∧ r.2.mem ((c.tc : Thread Cert.BwdMergeRefIdeal.nD Cert.BwdMergeRefIdeal.τ).loc Cert.BwdMergeRefIdeal.main_arg4) = m ((c.tc : Thread Cert.BwdMergeRefIdeal.nD Cert.BwdMergeRefIdeal.τ).loc Cert.BwdMergeRefIdeal.main_arg4)
      ∧ r.2.mem ((c.tc : Thread Cert.BwdMergeRefIdeal.nD Cert.BwdMergeRefIdeal.τ).loc Cert.BwdMergeRefIdeal.main_arg5) = m ((c.tc : Thread Cert.BwdMergeRefIdeal.nD Cert.BwdMergeRefIdeal.τ).loc Cert.BwdMergeRefIdeal.main_arg5)
      ∧ r.2.mem ((c.tc : Thread Cert.BwdMergeRefIdeal.nD Cert.BwdMergeRefIdeal.τ).loc Cert.BwdMergeRefIdeal.main_arg6) = m ((c.tc : Thread Cert.BwdMergeRefIdeal.nD Cert.BwdMergeRefIdeal.τ).loc Cert.BwdMergeRefIdeal.main_arg6))
      ∧ r.2.sem = fun _ => 0)

def quiescent_Fsm [hFsm : Cert.Fsm.Facts] : Prop :=
  ∀ (m : (ℓ : Loc Cert.Fsm.nD Cert.Fsm.τ Cert.Fsm.sig) → Buf (Elt Bits) ℓ) (g : Dev Cert.Fsm.nD → PrngReg), Pre_Fsm m →
    θ_run (Cert.Fsm.defs (F := Bits)) (onTc (τ := Cert.Fsm.τ) (Cert.Fsm.main (F := Bits))) ⟨m, fun _ => 0, g⟩ (fun r => (∀ c : Dev Cert.Fsm.nD,
      r.2.mem ((c.tc : Thread Cert.Fsm.nD Cert.Fsm.τ).loc Cert.Fsm.main_arg0) = m ((c.tc : Thread Cert.Fsm.nD Cert.Fsm.τ).loc Cert.Fsm.main_arg0)
      ∧ r.2.mem ((c.tc : Thread Cert.Fsm.nD Cert.Fsm.τ).loc Cert.Fsm.main_arg1) = m ((c.tc : Thread Cert.Fsm.nD Cert.Fsm.τ).loc Cert.Fsm.main_arg1)
      ∧ r.2.mem ((c.tc : Thread Cert.Fsm.nD Cert.Fsm.τ).loc Cert.Fsm.main_arg2) = m ((c.tc : Thread Cert.Fsm.nD Cert.Fsm.τ).loc Cert.Fsm.main_arg2)
      ∧ r.2.mem ((c.tc : Thread Cert.Fsm.nD Cert.Fsm.τ).loc Cert.Fsm.main_arg3) = m ((c.tc : Thread Cert.Fsm.nD Cert.Fsm.τ).loc Cert.Fsm.main_arg3)
      ∧ r.2.mem ((c.tc : Thread Cert.Fsm.nD Cert.Fsm.τ).loc Cert.Fsm.main_arg4) = m ((c.tc : Thread Cert.Fsm.nD Cert.Fsm.τ).loc Cert.Fsm.main_arg4)
      ∧ r.2.mem ((c.tc : Thread Cert.Fsm.nD Cert.Fsm.τ).loc Cert.Fsm.main_arg5) = m ((c.tc : Thread Cert.Fsm.nD Cert.Fsm.τ).loc Cert.Fsm.main_arg5)
      ∧ r.2.mem ((c.tc : Thread Cert.Fsm.nD Cert.Fsm.τ).loc Cert.Fsm.main_arg6) = m ((c.tc : Thread Cert.Fsm.nD Cert.Fsm.τ).loc Cert.Fsm.main_arg6)
      ∧ r.2.mem ((c.tc : Thread Cert.Fsm.nD Cert.Fsm.τ).loc Cert.Fsm.main_arg7) = m ((c.tc : Thread Cert.Fsm.nD Cert.Fsm.τ).loc Cert.Fsm.main_arg7)
      ∧ r.2.mem ((c.tc : Thread Cert.Fsm.nD Cert.Fsm.τ).loc Cert.Fsm.main_arg8) = m ((c.tc : Thread Cert.Fsm.nD Cert.Fsm.τ).loc Cert.Fsm.main_arg8)
      ∧ r.2.mem ((c.tc : Thread Cert.Fsm.nD Cert.Fsm.τ).loc Cert.Fsm.main_arg9) = m ((c.tc : Thread Cert.Fsm.nD Cert.Fsm.τ).loc Cert.Fsm.main_arg9)
      ∧ r.2.mem ((c.tc : Thread Cert.Fsm.nD Cert.Fsm.τ).loc Cert.Fsm.main_arg10) = m ((c.tc : Thread Cert.Fsm.nD Cert.Fsm.τ).loc Cert.Fsm.main_arg10))
      ∧ r.2.sem = fun _ => 0)

def quiescent_FsmIdeal [hFsmIdeal : Cert.FsmIdeal.Facts] : Prop :=
  ∀ (m : (ℓ : Loc Cert.FsmIdeal.nD Cert.FsmIdeal.τ Cert.FsmIdeal.sig) → Buf (Elt Ideal) ℓ) (g : Dev Cert.FsmIdeal.nD → PrngReg), Pre_FsmIdeal m →
    θ_run (Cert.FsmIdeal.defs (F := Ideal)) (onTc (τ := Cert.FsmIdeal.τ) (Cert.FsmIdeal.main (F := Ideal))) ⟨m, fun _ => 0, g⟩ (fun r => (∀ c : Dev Cert.FsmIdeal.nD,
      r.2.mem ((c.tc : Thread Cert.FsmIdeal.nD Cert.FsmIdeal.τ).loc Cert.FsmIdeal.main_arg0) = m ((c.tc : Thread Cert.FsmIdeal.nD Cert.FsmIdeal.τ).loc Cert.FsmIdeal.main_arg0)
      ∧ r.2.mem ((c.tc : Thread Cert.FsmIdeal.nD Cert.FsmIdeal.τ).loc Cert.FsmIdeal.main_arg1) = m ((c.tc : Thread Cert.FsmIdeal.nD Cert.FsmIdeal.τ).loc Cert.FsmIdeal.main_arg1)
      ∧ r.2.mem ((c.tc : Thread Cert.FsmIdeal.nD Cert.FsmIdeal.τ).loc Cert.FsmIdeal.main_arg2) = m ((c.tc : Thread Cert.FsmIdeal.nD Cert.FsmIdeal.τ).loc Cert.FsmIdeal.main_arg2)
      ∧ r.2.mem ((c.tc : Thread Cert.FsmIdeal.nD Cert.FsmIdeal.τ).loc Cert.FsmIdeal.main_arg3) = m ((c.tc : Thread Cert.FsmIdeal.nD Cert.FsmIdeal.τ).loc Cert.FsmIdeal.main_arg3)
      ∧ r.2.mem ((c.tc : Thread Cert.FsmIdeal.nD Cert.FsmIdeal.τ).loc Cert.FsmIdeal.main_arg4) = m ((c.tc : Thread Cert.FsmIdeal.nD Cert.FsmIdeal.τ).loc Cert.FsmIdeal.main_arg4)
      ∧ r.2.mem ((c.tc : Thread Cert.FsmIdeal.nD Cert.FsmIdeal.τ).loc Cert.FsmIdeal.main_arg5) = m ((c.tc : Thread Cert.FsmIdeal.nD Cert.FsmIdeal.τ).loc Cert.FsmIdeal.main_arg5)
      ∧ r.2.mem ((c.tc : Thread Cert.FsmIdeal.nD Cert.FsmIdeal.τ).loc Cert.FsmIdeal.main_arg6) = m ((c.tc : Thread Cert.FsmIdeal.nD Cert.FsmIdeal.τ).loc Cert.FsmIdeal.main_arg6)
      ∧ r.2.mem ((c.tc : Thread Cert.FsmIdeal.nD Cert.FsmIdeal.τ).loc Cert.FsmIdeal.main_arg7) = m ((c.tc : Thread Cert.FsmIdeal.nD Cert.FsmIdeal.τ).loc Cert.FsmIdeal.main_arg7)
      ∧ r.2.mem ((c.tc : Thread Cert.FsmIdeal.nD Cert.FsmIdeal.τ).loc Cert.FsmIdeal.main_arg8) = m ((c.tc : Thread Cert.FsmIdeal.nD Cert.FsmIdeal.τ).loc Cert.FsmIdeal.main_arg8)
      ∧ r.2.mem ((c.tc : Thread Cert.FsmIdeal.nD Cert.FsmIdeal.τ).loc Cert.FsmIdeal.main_arg9) = m ((c.tc : Thread Cert.FsmIdeal.nD Cert.FsmIdeal.τ).loc Cert.FsmIdeal.main_arg9)
      ∧ r.2.mem ((c.tc : Thread Cert.FsmIdeal.nD Cert.FsmIdeal.τ).loc Cert.FsmIdeal.main_arg10) = m ((c.tc : Thread Cert.FsmIdeal.nD Cert.FsmIdeal.τ).loc Cert.FsmIdeal.main_arg10))
      ∧ r.2.sem = fun _ => 0)

def quiescent_FsmRefIdeal [hFsmRefIdeal : Cert.FsmRefIdeal.Facts] : Prop :=
  ∀ (m : (ℓ : Loc Cert.FsmRefIdeal.nD Cert.FsmRefIdeal.τ Cert.FsmRefIdeal.sig) → Buf (Elt Ideal) ℓ) (g : Dev Cert.FsmRefIdeal.nD → PrngReg), Pre_FsmRefIdeal m →
    θ_run (Cert.FsmRefIdeal.defs (F := Ideal)) (onTc (τ := Cert.FsmRefIdeal.τ) (Cert.FsmRefIdeal.main (F := Ideal))) ⟨m, fun _ => 0, g⟩ (fun r => (∀ c : Dev Cert.FsmRefIdeal.nD,
      r.2.mem ((c.tc : Thread Cert.FsmRefIdeal.nD Cert.FsmRefIdeal.τ).loc Cert.FsmRefIdeal.main_arg0) = m ((c.tc : Thread Cert.FsmRefIdeal.nD Cert.FsmRefIdeal.τ).loc Cert.FsmRefIdeal.main_arg0)
      ∧ r.2.mem ((c.tc : Thread Cert.FsmRefIdeal.nD Cert.FsmRefIdeal.τ).loc Cert.FsmRefIdeal.main_arg1) = m ((c.tc : Thread Cert.FsmRefIdeal.nD Cert.FsmRefIdeal.τ).loc Cert.FsmRefIdeal.main_arg1)
      ∧ r.2.mem ((c.tc : Thread Cert.FsmRefIdeal.nD Cert.FsmRefIdeal.τ).loc Cert.FsmRefIdeal.main_arg2) = m ((c.tc : Thread Cert.FsmRefIdeal.nD Cert.FsmRefIdeal.τ).loc Cert.FsmRefIdeal.main_arg2)
      ∧ r.2.mem ((c.tc : Thread Cert.FsmRefIdeal.nD Cert.FsmRefIdeal.τ).loc Cert.FsmRefIdeal.main_arg3) = m ((c.tc : Thread Cert.FsmRefIdeal.nD Cert.FsmRefIdeal.τ).loc Cert.FsmRefIdeal.main_arg3)
      ∧ r.2.mem ((c.tc : Thread Cert.FsmRefIdeal.nD Cert.FsmRefIdeal.τ).loc Cert.FsmRefIdeal.main_arg4) = m ((c.tc : Thread Cert.FsmRefIdeal.nD Cert.FsmRefIdeal.τ).loc Cert.FsmRefIdeal.main_arg4)
      ∧ r.2.mem ((c.tc : Thread Cert.FsmRefIdeal.nD Cert.FsmRefIdeal.τ).loc Cert.FsmRefIdeal.main_arg5) = m ((c.tc : Thread Cert.FsmRefIdeal.nD Cert.FsmRefIdeal.τ).loc Cert.FsmRefIdeal.main_arg5)
      ∧ r.2.mem ((c.tc : Thread Cert.FsmRefIdeal.nD Cert.FsmRefIdeal.τ).loc Cert.FsmRefIdeal.main_arg6) = m ((c.tc : Thread Cert.FsmRefIdeal.nD Cert.FsmRefIdeal.τ).loc Cert.FsmRefIdeal.main_arg6)
      ∧ r.2.mem ((c.tc : Thread Cert.FsmRefIdeal.nD Cert.FsmRefIdeal.τ).loc Cert.FsmRefIdeal.main_arg7) = m ((c.tc : Thread Cert.FsmRefIdeal.nD Cert.FsmRefIdeal.τ).loc Cert.FsmRefIdeal.main_arg7)
      ∧ r.2.mem ((c.tc : Thread Cert.FsmRefIdeal.nD Cert.FsmRefIdeal.τ).loc Cert.FsmRefIdeal.main_arg8) = m ((c.tc : Thread Cert.FsmRefIdeal.nD Cert.FsmRefIdeal.τ).loc Cert.FsmRefIdeal.main_arg8)
      ∧ r.2.mem ((c.tc : Thread Cert.FsmRefIdeal.nD Cert.FsmRefIdeal.τ).loc Cert.FsmRefIdeal.main_arg9) = m ((c.tc : Thread Cert.FsmRefIdeal.nD Cert.FsmRefIdeal.τ).loc Cert.FsmRefIdeal.main_arg9)
      ∧ r.2.mem ((c.tc : Thread Cert.FsmRefIdeal.nD Cert.FsmRefIdeal.τ).loc Cert.FsmRefIdeal.main_arg10) = m ((c.tc : Thread Cert.FsmRefIdeal.nD Cert.FsmRefIdeal.τ).loc Cert.FsmRefIdeal.main_arg10))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1)
      ∧ r.2.mem ((c.tc : Thread Cert.Wgrad.nD Cert.Wgrad.τ).loc Cert.Wgrad.main_arg2) = m ((c.tc : Thread Cert.Wgrad.nD Cert.Wgrad.τ).loc Cert.Wgrad.main_arg2))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
      ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1)
      ∧ r.2.mem ((c.tc : Thread Cert.WgradRefIdeal.nD Cert.WgradRefIdeal.τ).loc Cert.WgradRefIdeal.main_arg2) = m ((c.tc : Thread Cert.WgradRefIdeal.nD Cert.WgradRefIdeal.τ).loc Cert.WgradRefIdeal.main_arg2))
      ∧ r.2.sem = fun _ => 0)

def quiescent_Wsq [hWsq : Cert.Wsq.Facts] : Prop :=
  ∀ (m : (ℓ : Loc Cert.Wsq.nD Cert.Wsq.τ Cert.Wsq.sig) → Buf (Elt Bits) ℓ) (g : Dev Cert.Wsq.nD → PrngReg), Pre_Wsq m →
    θ_run (Cert.Wsq.defs (F := Bits)) (onTc (τ := Cert.Wsq.τ) (Cert.Wsq.main (F := Bits))) ⟨m, fun _ => 0, g⟩ (fun r => (∀ c : Dev Cert.Wsq.nD,
      r.2.mem ((c.tc : Thread Cert.Wsq.nD Cert.Wsq.τ).loc Cert.Wsq.main_arg0) = m ((c.tc : Thread Cert.Wsq.nD Cert.Wsq.τ).loc Cert.Wsq.main_arg0)
      ∧ r.2.mem ((c.tc : Thread Cert.Wsq.nD Cert.Wsq.τ).loc Cert.Wsq.main_arg1) = m ((c.tc : Thread Cert.Wsq.nD Cert.Wsq.τ).loc Cert.Wsq.main_arg1)
      ∧ r.2.mem ((c.tc : Thread Cert.Wsq.nD Cert.Wsq.τ).loc Cert.Wsq.main_arg2) = m ((c.tc : Thread Cert.Wsq.nD Cert.Wsq.τ).loc Cert.Wsq.main_arg2)
      ∧ r.2.mem ((c.tc : Thread Cert.Wsq.nD Cert.Wsq.τ).loc Cert.Wsq.main_arg3) = m ((c.tc : Thread Cert.Wsq.nD Cert.Wsq.τ).loc Cert.Wsq.main_arg3)
      ∧ r.2.mem ((c.tc : Thread Cert.Wsq.nD Cert.Wsq.τ).loc Cert.Wsq.main_arg4) = m ((c.tc : Thread Cert.Wsq.nD Cert.Wsq.τ).loc Cert.Wsq.main_arg4)
      ∧ r.2.mem ((c.tc : Thread Cert.Wsq.nD Cert.Wsq.τ).loc Cert.Wsq.main_arg5) = m ((c.tc : Thread Cert.Wsq.nD Cert.Wsq.τ).loc Cert.Wsq.main_arg5))
      ∧ r.2.sem = fun _ => 0)

def quiescent_WsqIdeal [hWsqIdeal : Cert.WsqIdeal.Facts] : Prop :=
  ∀ (m : (ℓ : Loc Cert.WsqIdeal.nD Cert.WsqIdeal.τ Cert.WsqIdeal.sig) → Buf (Elt Ideal) ℓ) (g : Dev Cert.WsqIdeal.nD → PrngReg), Pre_WsqIdeal m →
    θ_run (Cert.WsqIdeal.defs (F := Ideal)) (onTc (τ := Cert.WsqIdeal.τ) (Cert.WsqIdeal.main (F := Ideal))) ⟨m, fun _ => 0, g⟩ (fun r => (∀ c : Dev Cert.WsqIdeal.nD,
      r.2.mem ((c.tc : Thread Cert.WsqIdeal.nD Cert.WsqIdeal.τ).loc Cert.WsqIdeal.main_arg0) = m ((c.tc : Thread Cert.WsqIdeal.nD Cert.WsqIdeal.τ).loc Cert.WsqIdeal.main_arg0)
      ∧ r.2.mem ((c.tc : Thread Cert.WsqIdeal.nD Cert.WsqIdeal.τ).loc Cert.WsqIdeal.main_arg1) = m ((c.tc : Thread Cert.WsqIdeal.nD Cert.WsqIdeal.τ).loc Cert.WsqIdeal.main_arg1)
      ∧ r.2.mem ((c.tc : Thread Cert.WsqIdeal.nD Cert.WsqIdeal.τ).loc Cert.WsqIdeal.main_arg2) = m ((c.tc : Thread Cert.WsqIdeal.nD Cert.WsqIdeal.τ).loc Cert.WsqIdeal.main_arg2)
      ∧ r.2.mem ((c.tc : Thread Cert.WsqIdeal.nD Cert.WsqIdeal.τ).loc Cert.WsqIdeal.main_arg3) = m ((c.tc : Thread Cert.WsqIdeal.nD Cert.WsqIdeal.τ).loc Cert.WsqIdeal.main_arg3)
      ∧ r.2.mem ((c.tc : Thread Cert.WsqIdeal.nD Cert.WsqIdeal.τ).loc Cert.WsqIdeal.main_arg4) = m ((c.tc : Thread Cert.WsqIdeal.nD Cert.WsqIdeal.τ).loc Cert.WsqIdeal.main_arg4)
      ∧ r.2.mem ((c.tc : Thread Cert.WsqIdeal.nD Cert.WsqIdeal.τ).loc Cert.WsqIdeal.main_arg5) = m ((c.tc : Thread Cert.WsqIdeal.nD Cert.WsqIdeal.τ).loc Cert.WsqIdeal.main_arg5))
      ∧ r.2.sem = fun _ => 0)

def quiescent_WsqRefIdeal [hWsqRefIdeal : Cert.WsqRefIdeal.Facts] : Prop :=
  ∀ (m : (ℓ : Loc Cert.WsqRefIdeal.nD Cert.WsqRefIdeal.τ Cert.WsqRefIdeal.sig) → Buf (Elt Ideal) ℓ) (g : Dev Cert.WsqRefIdeal.nD → PrngReg), Pre_WsqRefIdeal m →
    θ_run (Cert.WsqRefIdeal.defs (F := Ideal)) (onTc (τ := Cert.WsqRefIdeal.τ) (Cert.WsqRefIdeal.main (F := Ideal))) ⟨m, fun _ => 0, g⟩ (fun r => (∀ c : Dev Cert.WsqRefIdeal.nD,
      r.2.mem ((c.tc : Thread Cert.WsqRefIdeal.nD Cert.WsqRefIdeal.τ).loc Cert.WsqRefIdeal.main_arg0) = m ((c.tc : Thread Cert.WsqRefIdeal.nD Cert.WsqRefIdeal.τ).loc Cert.WsqRefIdeal.main_arg0)
      ∧ r.2.mem ((c.tc : Thread Cert.WsqRefIdeal.nD Cert.WsqRefIdeal.τ).loc Cert.WsqRefIdeal.main_arg1) = m ((c.tc : Thread Cert.WsqRefIdeal.nD Cert.WsqRefIdeal.τ).loc Cert.WsqRefIdeal.main_arg1)
      ∧ r.2.mem ((c.tc : Thread Cert.WsqRefIdeal.nD Cert.WsqRefIdeal.τ).loc Cert.WsqRefIdeal.main_arg2) = m ((c.tc : Thread Cert.WsqRefIdeal.nD Cert.WsqRefIdeal.τ).loc Cert.WsqRefIdeal.main_arg2)
      ∧ r.2.mem ((c.tc : Thread Cert.WsqRefIdeal.nD Cert.WsqRefIdeal.τ).loc Cert.WsqRefIdeal.main_arg3) = m ((c.tc : Thread Cert.WsqRefIdeal.nD Cert.WsqRefIdeal.τ).loc Cert.WsqRefIdeal.main_arg3)
      ∧ r.2.mem ((c.tc : Thread Cert.WsqRefIdeal.nD Cert.WsqRefIdeal.τ).loc Cert.WsqRefIdeal.main_arg4) = m ((c.tc : Thread Cert.WsqRefIdeal.nD Cert.WsqRefIdeal.τ).loc Cert.WsqRefIdeal.main_arg4)
      ∧ r.2.mem ((c.tc : Thread Cert.WsqRefIdeal.nD Cert.WsqRefIdeal.τ).loc Cert.WsqRefIdeal.main_arg5) = m ((c.tc : Thread Cert.WsqRefIdeal.nD Cert.WsqRefIdeal.τ).loc Cert.WsqRefIdeal.main_arg5))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3)
      ∧ r.2.mem ((c.tc : Thread Cert.Adamw.nD Cert.Adamw.τ).loc Cert.Adamw.main_arg4) = m ((c.tc : Thread Cert.Adamw.nD Cert.Adamw.τ).loc Cert.Adamw.main_arg4)
      ∧ r.2.mem ((c.tc : Thread Cert.Adamw.nD Cert.Adamw.τ).loc Cert.Adamw.main_arg5) = m ((c.tc : Thread Cert.Adamw.nD Cert.Adamw.τ).loc Cert.Adamw.main_arg5)
      ∧ r.2.mem ((c.tc : Thread Cert.Adamw.nD Cert.Adamw.τ).loc Cert.Adamw.main_arg6) = m ((c.tc : Thread Cert.Adamw.nD Cert.Adamw.τ).loc Cert.Adamw.main_arg6)
      ∧ r.2.mem ((c.tc : Thread Cert.Adamw.nD Cert.Adamw.τ).loc Cert.Adamw.main_arg7) = m ((c.tc : Thread Cert.Adamw.nD Cert.Adamw.τ).loc Cert.Adamw.main_arg7)
      ∧ r.2.mem ((c.tc : Thread Cert.Adamw.nD Cert.Adamw.τ).loc Cert.Adamw.main_arg8) = m ((c.tc : Thread Cert.Adamw.nD Cert.Adamw.τ).loc Cert.Adamw.main_arg8)
      ∧ r.2.mem ((c.tc : Thread Cert.Adamw.nD Cert.Adamw.τ).loc Cert.Adamw.main_arg9) = m ((c.tc : Thread Cert.Adamw.nD Cert.Adamw.τ).loc Cert.Adamw.main_arg9)
      ∧ r.2.mem ((c.tc : Thread Cert.Adamw.nD Cert.Adamw.τ).loc Cert.Adamw.main_arg10) = m ((c.tc : Thread Cert.Adamw.nD Cert.Adamw.τ).loc Cert.Adamw.main_arg10)
      ∧ r.2.mem ((c.tc : Thread Cert.Adamw.nD Cert.Adamw.τ).loc Cert.Adamw.main_arg11) = m ((c.tc : Thread Cert.Adamw.nD Cert.Adamw.τ).loc Cert.Adamw.main_arg11))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3)
      ∧ r.2.mem ((c.tc : Thread Cert.AdamwIdeal.nD Cert.AdamwIdeal.τ).loc Cert.AdamwIdeal.main_arg4) = m ((c.tc : Thread Cert.AdamwIdeal.nD Cert.AdamwIdeal.τ).loc Cert.AdamwIdeal.main_arg4)
      ∧ r.2.mem ((c.tc : Thread Cert.AdamwIdeal.nD Cert.AdamwIdeal.τ).loc Cert.AdamwIdeal.main_arg5) = m ((c.tc : Thread Cert.AdamwIdeal.nD Cert.AdamwIdeal.τ).loc Cert.AdamwIdeal.main_arg5)
      ∧ r.2.mem ((c.tc : Thread Cert.AdamwIdeal.nD Cert.AdamwIdeal.τ).loc Cert.AdamwIdeal.main_arg6) = m ((c.tc : Thread Cert.AdamwIdeal.nD Cert.AdamwIdeal.τ).loc Cert.AdamwIdeal.main_arg6)
      ∧ r.2.mem ((c.tc : Thread Cert.AdamwIdeal.nD Cert.AdamwIdeal.τ).loc Cert.AdamwIdeal.main_arg7) = m ((c.tc : Thread Cert.AdamwIdeal.nD Cert.AdamwIdeal.τ).loc Cert.AdamwIdeal.main_arg7)
      ∧ r.2.mem ((c.tc : Thread Cert.AdamwIdeal.nD Cert.AdamwIdeal.τ).loc Cert.AdamwIdeal.main_arg8) = m ((c.tc : Thread Cert.AdamwIdeal.nD Cert.AdamwIdeal.τ).loc Cert.AdamwIdeal.main_arg8)
      ∧ r.2.mem ((c.tc : Thread Cert.AdamwIdeal.nD Cert.AdamwIdeal.τ).loc Cert.AdamwIdeal.main_arg9) = m ((c.tc : Thread Cert.AdamwIdeal.nD Cert.AdamwIdeal.τ).loc Cert.AdamwIdeal.main_arg9)
      ∧ r.2.mem ((c.tc : Thread Cert.AdamwIdeal.nD Cert.AdamwIdeal.τ).loc Cert.AdamwIdeal.main_arg10) = m ((c.tc : Thread Cert.AdamwIdeal.nD Cert.AdamwIdeal.τ).loc Cert.AdamwIdeal.main_arg10)
      ∧ r.2.mem ((c.tc : Thread Cert.AdamwIdeal.nD Cert.AdamwIdeal.τ).loc Cert.AdamwIdeal.main_arg11) = m ((c.tc : Thread Cert.AdamwIdeal.nD Cert.AdamwIdeal.τ).loc Cert.AdamwIdeal.main_arg11))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3)
      ∧ r.2.mem ((c.tc : Thread Cert.AdamwRefIdeal.nD Cert.AdamwRefIdeal.τ).loc Cert.AdamwRefIdeal.main_arg4) = m ((c.tc : Thread Cert.AdamwRefIdeal.nD Cert.AdamwRefIdeal.τ).loc Cert.AdamwRefIdeal.main_arg4)
      ∧ r.2.mem ((c.tc : Thread Cert.AdamwRefIdeal.nD Cert.AdamwRefIdeal.τ).loc Cert.AdamwRefIdeal.main_arg5) = m ((c.tc : Thread Cert.AdamwRefIdeal.nD Cert.AdamwRefIdeal.τ).loc Cert.AdamwRefIdeal.main_arg5)
      ∧ r.2.mem ((c.tc : Thread Cert.AdamwRefIdeal.nD Cert.AdamwRefIdeal.τ).loc Cert.AdamwRefIdeal.main_arg6) = m ((c.tc : Thread Cert.AdamwRefIdeal.nD Cert.AdamwRefIdeal.τ).loc Cert.AdamwRefIdeal.main_arg6)
      ∧ r.2.mem ((c.tc : Thread Cert.AdamwRefIdeal.nD Cert.AdamwRefIdeal.τ).loc Cert.AdamwRefIdeal.main_arg7) = m ((c.tc : Thread Cert.AdamwRefIdeal.nD Cert.AdamwRefIdeal.τ).loc Cert.AdamwRefIdeal.main_arg7)
      ∧ r.2.mem ((c.tc : Thread Cert.AdamwRefIdeal.nD Cert.AdamwRefIdeal.τ).loc Cert.AdamwRefIdeal.main_arg8) = m ((c.tc : Thread Cert.AdamwRefIdeal.nD Cert.AdamwRefIdeal.τ).loc Cert.AdamwRefIdeal.main_arg8)
      ∧ r.2.mem ((c.tc : Thread Cert.AdamwRefIdeal.nD Cert.AdamwRefIdeal.τ).loc Cert.AdamwRefIdeal.main_arg9) = m ((c.tc : Thread Cert.AdamwRefIdeal.nD Cert.AdamwRefIdeal.τ).loc Cert.AdamwRefIdeal.main_arg9)
      ∧ r.2.mem ((c.tc : Thread Cert.AdamwRefIdeal.nD Cert.AdamwRefIdeal.τ).loc Cert.AdamwRefIdeal.main_arg10) = m ((c.tc : Thread Cert.AdamwRefIdeal.nD Cert.AdamwRefIdeal.τ).loc Cert.AdamwRefIdeal.main_arg10)
      ∧ r.2.mem ((c.tc : Thread Cert.AdamwRefIdeal.nD Cert.AdamwRefIdeal.τ).loc Cert.AdamwRefIdeal.main_arg11) = m ((c.tc : Thread Cert.AdamwRefIdeal.nD Cert.AdamwRefIdeal.τ).loc Cert.AdamwRefIdeal.main_arg11))
      ∧ r.2.sem = fun _ => 0)

def quiescent_SmallA [hSmallA : Cert.SmallA.Facts] : Prop :=
  ∀ (m : (ℓ : Loc Cert.SmallA.nD Cert.SmallA.τ Cert.SmallA.sig) → Buf (Elt Bits) ℓ) (g : Dev Cert.SmallA.nD → PrngReg), Pre_SmallA m →
    θ_run (Cert.SmallA.defs (F := Bits)) (onTc (τ := Cert.SmallA.τ) (Cert.SmallA.main (F := Bits))) ⟨m, fun _ => 0, g⟩ (fun r => (∀ c : Dev Cert.SmallA.nD,
      r.2.mem ((c.tc : Thread Cert.SmallA.nD Cert.SmallA.τ).loc Cert.SmallA.main_arg0) = m ((c.tc : Thread Cert.SmallA.nD Cert.SmallA.τ).loc Cert.SmallA.main_arg0)
      ∧ r.2.mem ((c.tc : Thread Cert.SmallA.nD Cert.SmallA.τ).loc Cert.SmallA.main_arg1) = m ((c.tc : Thread Cert.SmallA.nD Cert.SmallA.τ).loc Cert.SmallA.main_arg1)
      ∧ r.2.mem ((c.tc : Thread Cert.SmallA.nD Cert.SmallA.τ).loc Cert.SmallA.main_arg2) = m ((c.tc : Thread Cert.SmallA.nD Cert.SmallA.τ).loc Cert.SmallA.main_arg2)
      ∧ r.2.mem ((c.tc : Thread Cert.SmallA.nD Cert.SmallA.τ).loc Cert.SmallA.main_arg3) = m ((c.tc : Thread Cert.SmallA.nD Cert.SmallA.τ).loc Cert.SmallA.main_arg3)
      ∧ r.2.mem ((c.tc : Thread Cert.SmallA.nD Cert.SmallA.τ).loc Cert.SmallA.main_arg4) = m ((c.tc : Thread Cert.SmallA.nD Cert.SmallA.τ).loc Cert.SmallA.main_arg4)
      ∧ r.2.mem ((c.tc : Thread Cert.SmallA.nD Cert.SmallA.τ).loc Cert.SmallA.main_arg5) = m ((c.tc : Thread Cert.SmallA.nD Cert.SmallA.τ).loc Cert.SmallA.main_arg5)
      ∧ r.2.mem ((c.tc : Thread Cert.SmallA.nD Cert.SmallA.τ).loc Cert.SmallA.main_arg6) = m ((c.tc : Thread Cert.SmallA.nD Cert.SmallA.τ).loc Cert.SmallA.main_arg6)
      ∧ r.2.mem ((c.tc : Thread Cert.SmallA.nD Cert.SmallA.τ).loc Cert.SmallA.main_arg7) = m ((c.tc : Thread Cert.SmallA.nD Cert.SmallA.τ).loc Cert.SmallA.main_arg7)
      ∧ r.2.mem ((c.tc : Thread Cert.SmallA.nD Cert.SmallA.τ).loc Cert.SmallA.main_arg8) = m ((c.tc : Thread Cert.SmallA.nD Cert.SmallA.τ).loc Cert.SmallA.main_arg8)
      ∧ r.2.mem ((c.tc : Thread Cert.SmallA.nD Cert.SmallA.τ).loc Cert.SmallA.main_arg9) = m ((c.tc : Thread Cert.SmallA.nD Cert.SmallA.τ).loc Cert.SmallA.main_arg9)
      ∧ r.2.mem ((c.tc : Thread Cert.SmallA.nD Cert.SmallA.τ).loc Cert.SmallA.main_arg10) = m ((c.tc : Thread Cert.SmallA.nD Cert.SmallA.τ).loc Cert.SmallA.main_arg10)
      ∧ r.2.mem ((c.tc : Thread Cert.SmallA.nD Cert.SmallA.τ).loc Cert.SmallA.main_arg11) = m ((c.tc : Thread Cert.SmallA.nD Cert.SmallA.τ).loc Cert.SmallA.main_arg11)
      ∧ r.2.mem ((c.tc : Thread Cert.SmallA.nD Cert.SmallA.τ).loc Cert.SmallA.main_arg12) = m ((c.tc : Thread Cert.SmallA.nD Cert.SmallA.τ).loc Cert.SmallA.main_arg12)
      ∧ r.2.mem ((c.tc : Thread Cert.SmallA.nD Cert.SmallA.τ).loc Cert.SmallA.main_arg13) = m ((c.tc : Thread Cert.SmallA.nD Cert.SmallA.τ).loc Cert.SmallA.main_arg13)
      ∧ r.2.mem ((c.tc : Thread Cert.SmallA.nD Cert.SmallA.τ).loc Cert.SmallA.main_arg14) = m ((c.tc : Thread Cert.SmallA.nD Cert.SmallA.τ).loc Cert.SmallA.main_arg14)
      ∧ r.2.mem ((c.tc : Thread Cert.SmallA.nD Cert.SmallA.τ).loc Cert.SmallA.main_arg15) = m ((c.tc : Thread Cert.SmallA.nD Cert.SmallA.τ).loc Cert.SmallA.main_arg15))
      ∧ r.2.sem = fun _ => 0)

def quiescent_SmallAIdeal [hSmallAIdeal : Cert.SmallAIdeal.Facts] : Prop :=
  ∀ (m : (ℓ : Loc Cert.SmallAIdeal.nD Cert.SmallAIdeal.τ Cert.SmallAIdeal.sig) → Buf (Elt Ideal) ℓ) (g : Dev Cert.SmallAIdeal.nD → PrngReg), Pre_SmallAIdeal m →
    θ_run (Cert.SmallAIdeal.defs (F := Ideal)) (onTc (τ := Cert.SmallAIdeal.τ) (Cert.SmallAIdeal.main (F := Ideal))) ⟨m, fun _ => 0, g⟩ (fun r => (∀ c : Dev Cert.SmallAIdeal.nD,
      r.2.mem ((c.tc : Thread Cert.SmallAIdeal.nD Cert.SmallAIdeal.τ).loc Cert.SmallAIdeal.main_arg0) = m ((c.tc : Thread Cert.SmallAIdeal.nD Cert.SmallAIdeal.τ).loc Cert.SmallAIdeal.main_arg0)
      ∧ r.2.mem ((c.tc : Thread Cert.SmallAIdeal.nD Cert.SmallAIdeal.τ).loc Cert.SmallAIdeal.main_arg1) = m ((c.tc : Thread Cert.SmallAIdeal.nD Cert.SmallAIdeal.τ).loc Cert.SmallAIdeal.main_arg1)
      ∧ r.2.mem ((c.tc : Thread Cert.SmallAIdeal.nD Cert.SmallAIdeal.τ).loc Cert.SmallAIdeal.main_arg2) = m ((c.tc : Thread Cert.SmallAIdeal.nD Cert.SmallAIdeal.τ).loc Cert.SmallAIdeal.main_arg2)
      ∧ r.2.mem ((c.tc : Thread Cert.SmallAIdeal.nD Cert.SmallAIdeal.τ).loc Cert.SmallAIdeal.main_arg3) = m ((c.tc : Thread Cert.SmallAIdeal.nD Cert.SmallAIdeal.τ).loc Cert.SmallAIdeal.main_arg3)
      ∧ r.2.mem ((c.tc : Thread Cert.SmallAIdeal.nD Cert.SmallAIdeal.τ).loc Cert.SmallAIdeal.main_arg4) = m ((c.tc : Thread Cert.SmallAIdeal.nD Cert.SmallAIdeal.τ).loc Cert.SmallAIdeal.main_arg4)
      ∧ r.2.mem ((c.tc : Thread Cert.SmallAIdeal.nD Cert.SmallAIdeal.τ).loc Cert.SmallAIdeal.main_arg5) = m ((c.tc : Thread Cert.SmallAIdeal.nD Cert.SmallAIdeal.τ).loc Cert.SmallAIdeal.main_arg5)
      ∧ r.2.mem ((c.tc : Thread Cert.SmallAIdeal.nD Cert.SmallAIdeal.τ).loc Cert.SmallAIdeal.main_arg6) = m ((c.tc : Thread Cert.SmallAIdeal.nD Cert.SmallAIdeal.τ).loc Cert.SmallAIdeal.main_arg6)
      ∧ r.2.mem ((c.tc : Thread Cert.SmallAIdeal.nD Cert.SmallAIdeal.τ).loc Cert.SmallAIdeal.main_arg7) = m ((c.tc : Thread Cert.SmallAIdeal.nD Cert.SmallAIdeal.τ).loc Cert.SmallAIdeal.main_arg7)
      ∧ r.2.mem ((c.tc : Thread Cert.SmallAIdeal.nD Cert.SmallAIdeal.τ).loc Cert.SmallAIdeal.main_arg8) = m ((c.tc : Thread Cert.SmallAIdeal.nD Cert.SmallAIdeal.τ).loc Cert.SmallAIdeal.main_arg8)
      ∧ r.2.mem ((c.tc : Thread Cert.SmallAIdeal.nD Cert.SmallAIdeal.τ).loc Cert.SmallAIdeal.main_arg9) = m ((c.tc : Thread Cert.SmallAIdeal.nD Cert.SmallAIdeal.τ).loc Cert.SmallAIdeal.main_arg9)
      ∧ r.2.mem ((c.tc : Thread Cert.SmallAIdeal.nD Cert.SmallAIdeal.τ).loc Cert.SmallAIdeal.main_arg10) = m ((c.tc : Thread Cert.SmallAIdeal.nD Cert.SmallAIdeal.τ).loc Cert.SmallAIdeal.main_arg10)
      ∧ r.2.mem ((c.tc : Thread Cert.SmallAIdeal.nD Cert.SmallAIdeal.τ).loc Cert.SmallAIdeal.main_arg11) = m ((c.tc : Thread Cert.SmallAIdeal.nD Cert.SmallAIdeal.τ).loc Cert.SmallAIdeal.main_arg11)
      ∧ r.2.mem ((c.tc : Thread Cert.SmallAIdeal.nD Cert.SmallAIdeal.τ).loc Cert.SmallAIdeal.main_arg12) = m ((c.tc : Thread Cert.SmallAIdeal.nD Cert.SmallAIdeal.τ).loc Cert.SmallAIdeal.main_arg12)
      ∧ r.2.mem ((c.tc : Thread Cert.SmallAIdeal.nD Cert.SmallAIdeal.τ).loc Cert.SmallAIdeal.main_arg13) = m ((c.tc : Thread Cert.SmallAIdeal.nD Cert.SmallAIdeal.τ).loc Cert.SmallAIdeal.main_arg13)
      ∧ r.2.mem ((c.tc : Thread Cert.SmallAIdeal.nD Cert.SmallAIdeal.τ).loc Cert.SmallAIdeal.main_arg14) = m ((c.tc : Thread Cert.SmallAIdeal.nD Cert.SmallAIdeal.τ).loc Cert.SmallAIdeal.main_arg14)
      ∧ r.2.mem ((c.tc : Thread Cert.SmallAIdeal.nD Cert.SmallAIdeal.τ).loc Cert.SmallAIdeal.main_arg15) = m ((c.tc : Thread Cert.SmallAIdeal.nD Cert.SmallAIdeal.τ).loc Cert.SmallAIdeal.main_arg15))
      ∧ r.2.sem = fun _ => 0)

def quiescent_SmallARefIdeal [hSmallARefIdeal : Cert.SmallARefIdeal.Facts] : Prop :=
  ∀ (m : (ℓ : Loc Cert.SmallARefIdeal.nD Cert.SmallARefIdeal.τ Cert.SmallARefIdeal.sig) → Buf (Elt Ideal) ℓ) (g : Dev Cert.SmallARefIdeal.nD → PrngReg), Pre_SmallARefIdeal m →
    θ_run (Cert.SmallARefIdeal.defs (F := Ideal)) (onTc (τ := Cert.SmallARefIdeal.τ) (Cert.SmallARefIdeal.main (F := Ideal))) ⟨m, fun _ => 0, g⟩ (fun r => (∀ c : Dev Cert.SmallARefIdeal.nD,
      r.2.mem ((c.tc : Thread Cert.SmallARefIdeal.nD Cert.SmallARefIdeal.τ).loc Cert.SmallARefIdeal.main_arg0) = m ((c.tc : Thread Cert.SmallARefIdeal.nD Cert.SmallARefIdeal.τ).loc Cert.SmallARefIdeal.main_arg0)
      ∧ r.2.mem ((c.tc : Thread Cert.SmallARefIdeal.nD Cert.SmallARefIdeal.τ).loc Cert.SmallARefIdeal.main_arg1) = m ((c.tc : Thread Cert.SmallARefIdeal.nD Cert.SmallARefIdeal.τ).loc Cert.SmallARefIdeal.main_arg1)
      ∧ r.2.mem ((c.tc : Thread Cert.SmallARefIdeal.nD Cert.SmallARefIdeal.τ).loc Cert.SmallARefIdeal.main_arg2) = m ((c.tc : Thread Cert.SmallARefIdeal.nD Cert.SmallARefIdeal.τ).loc Cert.SmallARefIdeal.main_arg2)
      ∧ r.2.mem ((c.tc : Thread Cert.SmallARefIdeal.nD Cert.SmallARefIdeal.τ).loc Cert.SmallARefIdeal.main_arg3) = m ((c.tc : Thread Cert.SmallARefIdeal.nD Cert.SmallARefIdeal.τ).loc Cert.SmallARefIdeal.main_arg3)
      ∧ r.2.mem ((c.tc : Thread Cert.SmallARefIdeal.nD Cert.SmallARefIdeal.τ).loc Cert.SmallARefIdeal.main_arg4) = m ((c.tc : Thread Cert.SmallARefIdeal.nD Cert.SmallARefIdeal.τ).loc Cert.SmallARefIdeal.main_arg4)
      ∧ r.2.mem ((c.tc : Thread Cert.SmallARefIdeal.nD Cert.SmallARefIdeal.τ).loc Cert.SmallARefIdeal.main_arg5) = m ((c.tc : Thread Cert.SmallARefIdeal.nD Cert.SmallARefIdeal.τ).loc Cert.SmallARefIdeal.main_arg5)
      ∧ r.2.mem ((c.tc : Thread Cert.SmallARefIdeal.nD Cert.SmallARefIdeal.τ).loc Cert.SmallARefIdeal.main_arg6) = m ((c.tc : Thread Cert.SmallARefIdeal.nD Cert.SmallARefIdeal.τ).loc Cert.SmallARefIdeal.main_arg6)
      ∧ r.2.mem ((c.tc : Thread Cert.SmallARefIdeal.nD Cert.SmallARefIdeal.τ).loc Cert.SmallARefIdeal.main_arg7) = m ((c.tc : Thread Cert.SmallARefIdeal.nD Cert.SmallARefIdeal.τ).loc Cert.SmallARefIdeal.main_arg7)
      ∧ r.2.mem ((c.tc : Thread Cert.SmallARefIdeal.nD Cert.SmallARefIdeal.τ).loc Cert.SmallARefIdeal.main_arg8) = m ((c.tc : Thread Cert.SmallARefIdeal.nD Cert.SmallARefIdeal.τ).loc Cert.SmallARefIdeal.main_arg8)
      ∧ r.2.mem ((c.tc : Thread Cert.SmallARefIdeal.nD Cert.SmallARefIdeal.τ).loc Cert.SmallARefIdeal.main_arg9) = m ((c.tc : Thread Cert.SmallARefIdeal.nD Cert.SmallARefIdeal.τ).loc Cert.SmallARefIdeal.main_arg9)
      ∧ r.2.mem ((c.tc : Thread Cert.SmallARefIdeal.nD Cert.SmallARefIdeal.τ).loc Cert.SmallARefIdeal.main_arg10) = m ((c.tc : Thread Cert.SmallARefIdeal.nD Cert.SmallARefIdeal.τ).loc Cert.SmallARefIdeal.main_arg10)
      ∧ r.2.mem ((c.tc : Thread Cert.SmallARefIdeal.nD Cert.SmallARefIdeal.τ).loc Cert.SmallARefIdeal.main_arg11) = m ((c.tc : Thread Cert.SmallARefIdeal.nD Cert.SmallARefIdeal.τ).loc Cert.SmallARefIdeal.main_arg11)
      ∧ r.2.mem ((c.tc : Thread Cert.SmallARefIdeal.nD Cert.SmallARefIdeal.τ).loc Cert.SmallARefIdeal.main_arg12) = m ((c.tc : Thread Cert.SmallARefIdeal.nD Cert.SmallARefIdeal.τ).loc Cert.SmallARefIdeal.main_arg12)
      ∧ r.2.mem ((c.tc : Thread Cert.SmallARefIdeal.nD Cert.SmallARefIdeal.τ).loc Cert.SmallARefIdeal.main_arg13) = m ((c.tc : Thread Cert.SmallARefIdeal.nD Cert.SmallARefIdeal.τ).loc Cert.SmallARefIdeal.main_arg13)
      ∧ r.2.mem ((c.tc : Thread Cert.SmallARefIdeal.nD Cert.SmallARefIdeal.τ).loc Cert.SmallARefIdeal.main_arg14) = m ((c.tc : Thread Cert.SmallARefIdeal.nD Cert.SmallARefIdeal.τ).loc Cert.SmallARefIdeal.main_arg14)
      ∧ r.2.mem ((c.tc : Thread Cert.SmallARefIdeal.nD Cert.SmallARefIdeal.τ).loc Cert.SmallARefIdeal.main_arg15) = m ((c.tc : Thread Cert.SmallARefIdeal.nD Cert.SmallARefIdeal.τ).loc Cert.SmallARefIdeal.main_arg15))
      ∧ r.2.sem = fun _ => 0)

def quiescent_SmallB [hSmallB : Cert.SmallB.Facts] : Prop :=
  ∀ (m : (ℓ : Loc Cert.SmallB.nD Cert.SmallB.τ Cert.SmallB.sig) → Buf (Elt Bits) ℓ) (g : Dev Cert.SmallB.nD → PrngReg), Pre_SmallB m →
    θ_run (Cert.SmallB.defs (F := Bits)) (onTc (τ := Cert.SmallB.τ) (Cert.SmallB.main (F := Bits))) ⟨m, fun _ => 0, g⟩ (fun r => (∀ c : Dev Cert.SmallB.nD,
      r.2.mem ((c.tc : Thread Cert.SmallB.nD Cert.SmallB.τ).loc Cert.SmallB.main_arg0) = m ((c.tc : Thread Cert.SmallB.nD Cert.SmallB.τ).loc Cert.SmallB.main_arg0)
      ∧ r.2.mem ((c.tc : Thread Cert.SmallB.nD Cert.SmallB.τ).loc Cert.SmallB.main_arg1) = m ((c.tc : Thread Cert.SmallB.nD Cert.SmallB.τ).loc Cert.SmallB.main_arg1)
      ∧ r.2.mem ((c.tc : Thread Cert.SmallB.nD Cert.SmallB.τ).loc Cert.SmallB.main_arg2) = m ((c.tc : Thread Cert.SmallB.nD Cert.SmallB.τ).loc Cert.SmallB.main_arg2)
      ∧ r.2.mem ((c.tc : Thread Cert.SmallB.nD Cert.SmallB.τ).loc Cert.SmallB.main_arg3) = m ((c.tc : Thread Cert.SmallB.nD Cert.SmallB.τ).loc Cert.SmallB.main_arg3)
      ∧ r.2.mem ((c.tc : Thread Cert.SmallB.nD Cert.SmallB.τ).loc Cert.SmallB.main_arg4) = m ((c.tc : Thread Cert.SmallB.nD Cert.SmallB.τ).loc Cert.SmallB.main_arg4)
      ∧ r.2.mem ((c.tc : Thread Cert.SmallB.nD Cert.SmallB.τ).loc Cert.SmallB.main_arg5) = m ((c.tc : Thread Cert.SmallB.nD Cert.SmallB.τ).loc Cert.SmallB.main_arg5)
      ∧ r.2.mem ((c.tc : Thread Cert.SmallB.nD Cert.SmallB.τ).loc Cert.SmallB.main_arg6) = m ((c.tc : Thread Cert.SmallB.nD Cert.SmallB.τ).loc Cert.SmallB.main_arg6)
      ∧ r.2.mem ((c.tc : Thread Cert.SmallB.nD Cert.SmallB.τ).loc Cert.SmallB.main_arg7) = m ((c.tc : Thread Cert.SmallB.nD Cert.SmallB.τ).loc Cert.SmallB.main_arg7)
      ∧ r.2.mem ((c.tc : Thread Cert.SmallB.nD Cert.SmallB.τ).loc Cert.SmallB.main_arg8) = m ((c.tc : Thread Cert.SmallB.nD Cert.SmallB.τ).loc Cert.SmallB.main_arg8)
      ∧ r.2.mem ((c.tc : Thread Cert.SmallB.nD Cert.SmallB.τ).loc Cert.SmallB.main_arg9) = m ((c.tc : Thread Cert.SmallB.nD Cert.SmallB.τ).loc Cert.SmallB.main_arg9)
      ∧ r.2.mem ((c.tc : Thread Cert.SmallB.nD Cert.SmallB.τ).loc Cert.SmallB.main_arg10) = m ((c.tc : Thread Cert.SmallB.nD Cert.SmallB.τ).loc Cert.SmallB.main_arg10)
      ∧ r.2.mem ((c.tc : Thread Cert.SmallB.nD Cert.SmallB.τ).loc Cert.SmallB.main_arg11) = m ((c.tc : Thread Cert.SmallB.nD Cert.SmallB.τ).loc Cert.SmallB.main_arg11)
      ∧ r.2.mem ((c.tc : Thread Cert.SmallB.nD Cert.SmallB.τ).loc Cert.SmallB.main_arg12) = m ((c.tc : Thread Cert.SmallB.nD Cert.SmallB.τ).loc Cert.SmallB.main_arg12)
      ∧ r.2.mem ((c.tc : Thread Cert.SmallB.nD Cert.SmallB.τ).loc Cert.SmallB.main_arg13) = m ((c.tc : Thread Cert.SmallB.nD Cert.SmallB.τ).loc Cert.SmallB.main_arg13)
      ∧ r.2.mem ((c.tc : Thread Cert.SmallB.nD Cert.SmallB.τ).loc Cert.SmallB.main_arg14) = m ((c.tc : Thread Cert.SmallB.nD Cert.SmallB.τ).loc Cert.SmallB.main_arg14)
      ∧ r.2.mem ((c.tc : Thread Cert.SmallB.nD Cert.SmallB.τ).loc Cert.SmallB.main_arg15) = m ((c.tc : Thread Cert.SmallB.nD Cert.SmallB.τ).loc Cert.SmallB.main_arg15))
      ∧ r.2.sem = fun _ => 0)

def quiescent_SmallBIdeal [hSmallBIdeal : Cert.SmallBIdeal.Facts] : Prop :=
  ∀ (m : (ℓ : Loc Cert.SmallBIdeal.nD Cert.SmallBIdeal.τ Cert.SmallBIdeal.sig) → Buf (Elt Ideal) ℓ) (g : Dev Cert.SmallBIdeal.nD → PrngReg), Pre_SmallBIdeal m →
    θ_run (Cert.SmallBIdeal.defs (F := Ideal)) (onTc (τ := Cert.SmallBIdeal.τ) (Cert.SmallBIdeal.main (F := Ideal))) ⟨m, fun _ => 0, g⟩ (fun r => (∀ c : Dev Cert.SmallBIdeal.nD,
      r.2.mem ((c.tc : Thread Cert.SmallBIdeal.nD Cert.SmallBIdeal.τ).loc Cert.SmallBIdeal.main_arg0) = m ((c.tc : Thread Cert.SmallBIdeal.nD Cert.SmallBIdeal.τ).loc Cert.SmallBIdeal.main_arg0)
      ∧ r.2.mem ((c.tc : Thread Cert.SmallBIdeal.nD Cert.SmallBIdeal.τ).loc Cert.SmallBIdeal.main_arg1) = m ((c.tc : Thread Cert.SmallBIdeal.nD Cert.SmallBIdeal.τ).loc Cert.SmallBIdeal.main_arg1)
      ∧ r.2.mem ((c.tc : Thread Cert.SmallBIdeal.nD Cert.SmallBIdeal.τ).loc Cert.SmallBIdeal.main_arg2) = m ((c.tc : Thread Cert.SmallBIdeal.nD Cert.SmallBIdeal.τ).loc Cert.SmallBIdeal.main_arg2)
      ∧ r.2.mem ((c.tc : Thread Cert.SmallBIdeal.nD Cert.SmallBIdeal.τ).loc Cert.SmallBIdeal.main_arg3) = m ((c.tc : Thread Cert.SmallBIdeal.nD Cert.SmallBIdeal.τ).loc Cert.SmallBIdeal.main_arg3)
      ∧ r.2.mem ((c.tc : Thread Cert.SmallBIdeal.nD Cert.SmallBIdeal.τ).loc Cert.SmallBIdeal.main_arg4) = m ((c.tc : Thread Cert.SmallBIdeal.nD Cert.SmallBIdeal.τ).loc Cert.SmallBIdeal.main_arg4)
      ∧ r.2.mem ((c.tc : Thread Cert.SmallBIdeal.nD Cert.SmallBIdeal.τ).loc Cert.SmallBIdeal.main_arg5) = m ((c.tc : Thread Cert.SmallBIdeal.nD Cert.SmallBIdeal.τ).loc Cert.SmallBIdeal.main_arg5)
      ∧ r.2.mem ((c.tc : Thread Cert.SmallBIdeal.nD Cert.SmallBIdeal.τ).loc Cert.SmallBIdeal.main_arg6) = m ((c.tc : Thread Cert.SmallBIdeal.nD Cert.SmallBIdeal.τ).loc Cert.SmallBIdeal.main_arg6)
      ∧ r.2.mem ((c.tc : Thread Cert.SmallBIdeal.nD Cert.SmallBIdeal.τ).loc Cert.SmallBIdeal.main_arg7) = m ((c.tc : Thread Cert.SmallBIdeal.nD Cert.SmallBIdeal.τ).loc Cert.SmallBIdeal.main_arg7)
      ∧ r.2.mem ((c.tc : Thread Cert.SmallBIdeal.nD Cert.SmallBIdeal.τ).loc Cert.SmallBIdeal.main_arg8) = m ((c.tc : Thread Cert.SmallBIdeal.nD Cert.SmallBIdeal.τ).loc Cert.SmallBIdeal.main_arg8)
      ∧ r.2.mem ((c.tc : Thread Cert.SmallBIdeal.nD Cert.SmallBIdeal.τ).loc Cert.SmallBIdeal.main_arg9) = m ((c.tc : Thread Cert.SmallBIdeal.nD Cert.SmallBIdeal.τ).loc Cert.SmallBIdeal.main_arg9)
      ∧ r.2.mem ((c.tc : Thread Cert.SmallBIdeal.nD Cert.SmallBIdeal.τ).loc Cert.SmallBIdeal.main_arg10) = m ((c.tc : Thread Cert.SmallBIdeal.nD Cert.SmallBIdeal.τ).loc Cert.SmallBIdeal.main_arg10)
      ∧ r.2.mem ((c.tc : Thread Cert.SmallBIdeal.nD Cert.SmallBIdeal.τ).loc Cert.SmallBIdeal.main_arg11) = m ((c.tc : Thread Cert.SmallBIdeal.nD Cert.SmallBIdeal.τ).loc Cert.SmallBIdeal.main_arg11)
      ∧ r.2.mem ((c.tc : Thread Cert.SmallBIdeal.nD Cert.SmallBIdeal.τ).loc Cert.SmallBIdeal.main_arg12) = m ((c.tc : Thread Cert.SmallBIdeal.nD Cert.SmallBIdeal.τ).loc Cert.SmallBIdeal.main_arg12)
      ∧ r.2.mem ((c.tc : Thread Cert.SmallBIdeal.nD Cert.SmallBIdeal.τ).loc Cert.SmallBIdeal.main_arg13) = m ((c.tc : Thread Cert.SmallBIdeal.nD Cert.SmallBIdeal.τ).loc Cert.SmallBIdeal.main_arg13)
      ∧ r.2.mem ((c.tc : Thread Cert.SmallBIdeal.nD Cert.SmallBIdeal.τ).loc Cert.SmallBIdeal.main_arg14) = m ((c.tc : Thread Cert.SmallBIdeal.nD Cert.SmallBIdeal.τ).loc Cert.SmallBIdeal.main_arg14)
      ∧ r.2.mem ((c.tc : Thread Cert.SmallBIdeal.nD Cert.SmallBIdeal.τ).loc Cert.SmallBIdeal.main_arg15) = m ((c.tc : Thread Cert.SmallBIdeal.nD Cert.SmallBIdeal.τ).loc Cert.SmallBIdeal.main_arg15))
      ∧ r.2.sem = fun _ => 0)

def quiescent_SmallBRefIdeal [hSmallBRefIdeal : Cert.SmallBRefIdeal.Facts] : Prop :=
  ∀ (m : (ℓ : Loc Cert.SmallBRefIdeal.nD Cert.SmallBRefIdeal.τ Cert.SmallBRefIdeal.sig) → Buf (Elt Ideal) ℓ) (g : Dev Cert.SmallBRefIdeal.nD → PrngReg), Pre_SmallBRefIdeal m →
    θ_run (Cert.SmallBRefIdeal.defs (F := Ideal)) (onTc (τ := Cert.SmallBRefIdeal.τ) (Cert.SmallBRefIdeal.main (F := Ideal))) ⟨m, fun _ => 0, g⟩ (fun r => (∀ c : Dev Cert.SmallBRefIdeal.nD,
      r.2.mem ((c.tc : Thread Cert.SmallBRefIdeal.nD Cert.SmallBRefIdeal.τ).loc Cert.SmallBRefIdeal.main_arg0) = m ((c.tc : Thread Cert.SmallBRefIdeal.nD Cert.SmallBRefIdeal.τ).loc Cert.SmallBRefIdeal.main_arg0)
      ∧ r.2.mem ((c.tc : Thread Cert.SmallBRefIdeal.nD Cert.SmallBRefIdeal.τ).loc Cert.SmallBRefIdeal.main_arg1) = m ((c.tc : Thread Cert.SmallBRefIdeal.nD Cert.SmallBRefIdeal.τ).loc Cert.SmallBRefIdeal.main_arg1)
      ∧ r.2.mem ((c.tc : Thread Cert.SmallBRefIdeal.nD Cert.SmallBRefIdeal.τ).loc Cert.SmallBRefIdeal.main_arg2) = m ((c.tc : Thread Cert.SmallBRefIdeal.nD Cert.SmallBRefIdeal.τ).loc Cert.SmallBRefIdeal.main_arg2)
      ∧ r.2.mem ((c.tc : Thread Cert.SmallBRefIdeal.nD Cert.SmallBRefIdeal.τ).loc Cert.SmallBRefIdeal.main_arg3) = m ((c.tc : Thread Cert.SmallBRefIdeal.nD Cert.SmallBRefIdeal.τ).loc Cert.SmallBRefIdeal.main_arg3)
      ∧ r.2.mem ((c.tc : Thread Cert.SmallBRefIdeal.nD Cert.SmallBRefIdeal.τ).loc Cert.SmallBRefIdeal.main_arg4) = m ((c.tc : Thread Cert.SmallBRefIdeal.nD Cert.SmallBRefIdeal.τ).loc Cert.SmallBRefIdeal.main_arg4)
      ∧ r.2.mem ((c.tc : Thread Cert.SmallBRefIdeal.nD Cert.SmallBRefIdeal.τ).loc Cert.SmallBRefIdeal.main_arg5) = m ((c.tc : Thread Cert.SmallBRefIdeal.nD Cert.SmallBRefIdeal.τ).loc Cert.SmallBRefIdeal.main_arg5)
      ∧ r.2.mem ((c.tc : Thread Cert.SmallBRefIdeal.nD Cert.SmallBRefIdeal.τ).loc Cert.SmallBRefIdeal.main_arg6) = m ((c.tc : Thread Cert.SmallBRefIdeal.nD Cert.SmallBRefIdeal.τ).loc Cert.SmallBRefIdeal.main_arg6)
      ∧ r.2.mem ((c.tc : Thread Cert.SmallBRefIdeal.nD Cert.SmallBRefIdeal.τ).loc Cert.SmallBRefIdeal.main_arg7) = m ((c.tc : Thread Cert.SmallBRefIdeal.nD Cert.SmallBRefIdeal.τ).loc Cert.SmallBRefIdeal.main_arg7)
      ∧ r.2.mem ((c.tc : Thread Cert.SmallBRefIdeal.nD Cert.SmallBRefIdeal.τ).loc Cert.SmallBRefIdeal.main_arg8) = m ((c.tc : Thread Cert.SmallBRefIdeal.nD Cert.SmallBRefIdeal.τ).loc Cert.SmallBRefIdeal.main_arg8)
      ∧ r.2.mem ((c.tc : Thread Cert.SmallBRefIdeal.nD Cert.SmallBRefIdeal.τ).loc Cert.SmallBRefIdeal.main_arg9) = m ((c.tc : Thread Cert.SmallBRefIdeal.nD Cert.SmallBRefIdeal.τ).loc Cert.SmallBRefIdeal.main_arg9)
      ∧ r.2.mem ((c.tc : Thread Cert.SmallBRefIdeal.nD Cert.SmallBRefIdeal.τ).loc Cert.SmallBRefIdeal.main_arg10) = m ((c.tc : Thread Cert.SmallBRefIdeal.nD Cert.SmallBRefIdeal.τ).loc Cert.SmallBRefIdeal.main_arg10)
      ∧ r.2.mem ((c.tc : Thread Cert.SmallBRefIdeal.nD Cert.SmallBRefIdeal.τ).loc Cert.SmallBRefIdeal.main_arg11) = m ((c.tc : Thread Cert.SmallBRefIdeal.nD Cert.SmallBRefIdeal.τ).loc Cert.SmallBRefIdeal.main_arg11)
      ∧ r.2.mem ((c.tc : Thread Cert.SmallBRefIdeal.nD Cert.SmallBRefIdeal.τ).loc Cert.SmallBRefIdeal.main_arg12) = m ((c.tc : Thread Cert.SmallBRefIdeal.nD Cert.SmallBRefIdeal.τ).loc Cert.SmallBRefIdeal.main_arg12)
      ∧ r.2.mem ((c.tc : Thread Cert.SmallBRefIdeal.nD Cert.SmallBRefIdeal.τ).loc Cert.SmallBRefIdeal.main_arg13) = m ((c.tc : Thread Cert.SmallBRefIdeal.nD Cert.SmallBRefIdeal.τ).loc Cert.SmallBRefIdeal.main_arg13)
      ∧ r.2.mem ((c.tc : Thread Cert.SmallBRefIdeal.nD Cert.SmallBRefIdeal.τ).loc Cert.SmallBRefIdeal.main_arg14) = m ((c.tc : Thread Cert.SmallBRefIdeal.nD Cert.SmallBRefIdeal.τ).loc Cert.SmallBRefIdeal.main_arg14)
      ∧ r.2.mem ((c.tc : Thread Cert.SmallBRefIdeal.nD Cert.SmallBRefIdeal.τ).loc Cert.SmallBRefIdeal.main_arg15) = m ((c.tc : Thread Cert.SmallBRefIdeal.nD Cert.SmallBRefIdeal.τ).loc Cert.SmallBRefIdeal.main_arg15))
      ∧ r.2.sem = fun _ => 0)

def quiescent_SmallC [hSmallC : Cert.SmallC.Facts] : Prop :=
  ∀ (m : (ℓ : Loc Cert.SmallC.nD Cert.SmallC.τ Cert.SmallC.sig) → Buf (Elt Bits) ℓ) (g : Dev Cert.SmallC.nD → PrngReg), Pre_SmallC m →
    θ_run (Cert.SmallC.defs (F := Bits)) (onTc (τ := Cert.SmallC.τ) (Cert.SmallC.main (F := Bits))) ⟨m, fun _ => 0, g⟩ (fun r => (∀ c : Dev Cert.SmallC.nD,
      r.2.mem ((c.tc : Thread Cert.SmallC.nD Cert.SmallC.τ).loc Cert.SmallC.main_arg0) = m ((c.tc : Thread Cert.SmallC.nD Cert.SmallC.τ).loc Cert.SmallC.main_arg0)
      ∧ r.2.mem ((c.tc : Thread Cert.SmallC.nD Cert.SmallC.τ).loc Cert.SmallC.main_arg1) = m ((c.tc : Thread Cert.SmallC.nD Cert.SmallC.τ).loc Cert.SmallC.main_arg1)
      ∧ r.2.mem ((c.tc : Thread Cert.SmallC.nD Cert.SmallC.τ).loc Cert.SmallC.main_arg2) = m ((c.tc : Thread Cert.SmallC.nD Cert.SmallC.τ).loc Cert.SmallC.main_arg2)
      ∧ r.2.mem ((c.tc : Thread Cert.SmallC.nD Cert.SmallC.τ).loc Cert.SmallC.main_arg3) = m ((c.tc : Thread Cert.SmallC.nD Cert.SmallC.τ).loc Cert.SmallC.main_arg3)
      ∧ r.2.mem ((c.tc : Thread Cert.SmallC.nD Cert.SmallC.τ).loc Cert.SmallC.main_arg4) = m ((c.tc : Thread Cert.SmallC.nD Cert.SmallC.τ).loc Cert.SmallC.main_arg4)
      ∧ r.2.mem ((c.tc : Thread Cert.SmallC.nD Cert.SmallC.τ).loc Cert.SmallC.main_arg5) = m ((c.tc : Thread Cert.SmallC.nD Cert.SmallC.τ).loc Cert.SmallC.main_arg5)
      ∧ r.2.mem ((c.tc : Thread Cert.SmallC.nD Cert.SmallC.τ).loc Cert.SmallC.main_arg6) = m ((c.tc : Thread Cert.SmallC.nD Cert.SmallC.τ).loc Cert.SmallC.main_arg6)
      ∧ r.2.mem ((c.tc : Thread Cert.SmallC.nD Cert.SmallC.τ).loc Cert.SmallC.main_arg7) = m ((c.tc : Thread Cert.SmallC.nD Cert.SmallC.τ).loc Cert.SmallC.main_arg7)
      ∧ r.2.mem ((c.tc : Thread Cert.SmallC.nD Cert.SmallC.τ).loc Cert.SmallC.main_arg8) = m ((c.tc : Thread Cert.SmallC.nD Cert.SmallC.τ).loc Cert.SmallC.main_arg8)
      ∧ r.2.mem ((c.tc : Thread Cert.SmallC.nD Cert.SmallC.τ).loc Cert.SmallC.main_arg9) = m ((c.tc : Thread Cert.SmallC.nD Cert.SmallC.τ).loc Cert.SmallC.main_arg9)
      ∧ r.2.mem ((c.tc : Thread Cert.SmallC.nD Cert.SmallC.τ).loc Cert.SmallC.main_arg10) = m ((c.tc : Thread Cert.SmallC.nD Cert.SmallC.τ).loc Cert.SmallC.main_arg10)
      ∧ r.2.mem ((c.tc : Thread Cert.SmallC.nD Cert.SmallC.τ).loc Cert.SmallC.main_arg11) = m ((c.tc : Thread Cert.SmallC.nD Cert.SmallC.τ).loc Cert.SmallC.main_arg11)
      ∧ r.2.mem ((c.tc : Thread Cert.SmallC.nD Cert.SmallC.τ).loc Cert.SmallC.main_arg12) = m ((c.tc : Thread Cert.SmallC.nD Cert.SmallC.τ).loc Cert.SmallC.main_arg12)
      ∧ r.2.mem ((c.tc : Thread Cert.SmallC.nD Cert.SmallC.τ).loc Cert.SmallC.main_arg13) = m ((c.tc : Thread Cert.SmallC.nD Cert.SmallC.τ).loc Cert.SmallC.main_arg13)
      ∧ r.2.mem ((c.tc : Thread Cert.SmallC.nD Cert.SmallC.τ).loc Cert.SmallC.main_arg14) = m ((c.tc : Thread Cert.SmallC.nD Cert.SmallC.τ).loc Cert.SmallC.main_arg14)
      ∧ r.2.mem ((c.tc : Thread Cert.SmallC.nD Cert.SmallC.τ).loc Cert.SmallC.main_arg15) = m ((c.tc : Thread Cert.SmallC.nD Cert.SmallC.τ).loc Cert.SmallC.main_arg15))
      ∧ r.2.sem = fun _ => 0)

def quiescent_SmallCIdeal [hSmallCIdeal : Cert.SmallCIdeal.Facts] : Prop :=
  ∀ (m : (ℓ : Loc Cert.SmallCIdeal.nD Cert.SmallCIdeal.τ Cert.SmallCIdeal.sig) → Buf (Elt Ideal) ℓ) (g : Dev Cert.SmallCIdeal.nD → PrngReg), Pre_SmallCIdeal m →
    θ_run (Cert.SmallCIdeal.defs (F := Ideal)) (onTc (τ := Cert.SmallCIdeal.τ) (Cert.SmallCIdeal.main (F := Ideal))) ⟨m, fun _ => 0, g⟩ (fun r => (∀ c : Dev Cert.SmallCIdeal.nD,
      r.2.mem ((c.tc : Thread Cert.SmallCIdeal.nD Cert.SmallCIdeal.τ).loc Cert.SmallCIdeal.main_arg0) = m ((c.tc : Thread Cert.SmallCIdeal.nD Cert.SmallCIdeal.τ).loc Cert.SmallCIdeal.main_arg0)
      ∧ r.2.mem ((c.tc : Thread Cert.SmallCIdeal.nD Cert.SmallCIdeal.τ).loc Cert.SmallCIdeal.main_arg1) = m ((c.tc : Thread Cert.SmallCIdeal.nD Cert.SmallCIdeal.τ).loc Cert.SmallCIdeal.main_arg1)
      ∧ r.2.mem ((c.tc : Thread Cert.SmallCIdeal.nD Cert.SmallCIdeal.τ).loc Cert.SmallCIdeal.main_arg2) = m ((c.tc : Thread Cert.SmallCIdeal.nD Cert.SmallCIdeal.τ).loc Cert.SmallCIdeal.main_arg2)
      ∧ r.2.mem ((c.tc : Thread Cert.SmallCIdeal.nD Cert.SmallCIdeal.τ).loc Cert.SmallCIdeal.main_arg3) = m ((c.tc : Thread Cert.SmallCIdeal.nD Cert.SmallCIdeal.τ).loc Cert.SmallCIdeal.main_arg3)
      ∧ r.2.mem ((c.tc : Thread Cert.SmallCIdeal.nD Cert.SmallCIdeal.τ).loc Cert.SmallCIdeal.main_arg4) = m ((c.tc : Thread Cert.SmallCIdeal.nD Cert.SmallCIdeal.τ).loc Cert.SmallCIdeal.main_arg4)
      ∧ r.2.mem ((c.tc : Thread Cert.SmallCIdeal.nD Cert.SmallCIdeal.τ).loc Cert.SmallCIdeal.main_arg5) = m ((c.tc : Thread Cert.SmallCIdeal.nD Cert.SmallCIdeal.τ).loc Cert.SmallCIdeal.main_arg5)
      ∧ r.2.mem ((c.tc : Thread Cert.SmallCIdeal.nD Cert.SmallCIdeal.τ).loc Cert.SmallCIdeal.main_arg6) = m ((c.tc : Thread Cert.SmallCIdeal.nD Cert.SmallCIdeal.τ).loc Cert.SmallCIdeal.main_arg6)
      ∧ r.2.mem ((c.tc : Thread Cert.SmallCIdeal.nD Cert.SmallCIdeal.τ).loc Cert.SmallCIdeal.main_arg7) = m ((c.tc : Thread Cert.SmallCIdeal.nD Cert.SmallCIdeal.τ).loc Cert.SmallCIdeal.main_arg7)
      ∧ r.2.mem ((c.tc : Thread Cert.SmallCIdeal.nD Cert.SmallCIdeal.τ).loc Cert.SmallCIdeal.main_arg8) = m ((c.tc : Thread Cert.SmallCIdeal.nD Cert.SmallCIdeal.τ).loc Cert.SmallCIdeal.main_arg8)
      ∧ r.2.mem ((c.tc : Thread Cert.SmallCIdeal.nD Cert.SmallCIdeal.τ).loc Cert.SmallCIdeal.main_arg9) = m ((c.tc : Thread Cert.SmallCIdeal.nD Cert.SmallCIdeal.τ).loc Cert.SmallCIdeal.main_arg9)
      ∧ r.2.mem ((c.tc : Thread Cert.SmallCIdeal.nD Cert.SmallCIdeal.τ).loc Cert.SmallCIdeal.main_arg10) = m ((c.tc : Thread Cert.SmallCIdeal.nD Cert.SmallCIdeal.τ).loc Cert.SmallCIdeal.main_arg10)
      ∧ r.2.mem ((c.tc : Thread Cert.SmallCIdeal.nD Cert.SmallCIdeal.τ).loc Cert.SmallCIdeal.main_arg11) = m ((c.tc : Thread Cert.SmallCIdeal.nD Cert.SmallCIdeal.τ).loc Cert.SmallCIdeal.main_arg11)
      ∧ r.2.mem ((c.tc : Thread Cert.SmallCIdeal.nD Cert.SmallCIdeal.τ).loc Cert.SmallCIdeal.main_arg12) = m ((c.tc : Thread Cert.SmallCIdeal.nD Cert.SmallCIdeal.τ).loc Cert.SmallCIdeal.main_arg12)
      ∧ r.2.mem ((c.tc : Thread Cert.SmallCIdeal.nD Cert.SmallCIdeal.τ).loc Cert.SmallCIdeal.main_arg13) = m ((c.tc : Thread Cert.SmallCIdeal.nD Cert.SmallCIdeal.τ).loc Cert.SmallCIdeal.main_arg13)
      ∧ r.2.mem ((c.tc : Thread Cert.SmallCIdeal.nD Cert.SmallCIdeal.τ).loc Cert.SmallCIdeal.main_arg14) = m ((c.tc : Thread Cert.SmallCIdeal.nD Cert.SmallCIdeal.τ).loc Cert.SmallCIdeal.main_arg14)
      ∧ r.2.mem ((c.tc : Thread Cert.SmallCIdeal.nD Cert.SmallCIdeal.τ).loc Cert.SmallCIdeal.main_arg15) = m ((c.tc : Thread Cert.SmallCIdeal.nD Cert.SmallCIdeal.τ).loc Cert.SmallCIdeal.main_arg15))
      ∧ r.2.sem = fun _ => 0)

def quiescent_SmallCRefIdeal [hSmallCRefIdeal : Cert.SmallCRefIdeal.Facts] : Prop :=
  ∀ (m : (ℓ : Loc Cert.SmallCRefIdeal.nD Cert.SmallCRefIdeal.τ Cert.SmallCRefIdeal.sig) → Buf (Elt Ideal) ℓ) (g : Dev Cert.SmallCRefIdeal.nD → PrngReg), Pre_SmallCRefIdeal m →
    θ_run (Cert.SmallCRefIdeal.defs (F := Ideal)) (onTc (τ := Cert.SmallCRefIdeal.τ) (Cert.SmallCRefIdeal.main (F := Ideal))) ⟨m, fun _ => 0, g⟩ (fun r => (∀ c : Dev Cert.SmallCRefIdeal.nD,
      r.2.mem ((c.tc : Thread Cert.SmallCRefIdeal.nD Cert.SmallCRefIdeal.τ).loc Cert.SmallCRefIdeal.main_arg0) = m ((c.tc : Thread Cert.SmallCRefIdeal.nD Cert.SmallCRefIdeal.τ).loc Cert.SmallCRefIdeal.main_arg0)
      ∧ r.2.mem ((c.tc : Thread Cert.SmallCRefIdeal.nD Cert.SmallCRefIdeal.τ).loc Cert.SmallCRefIdeal.main_arg1) = m ((c.tc : Thread Cert.SmallCRefIdeal.nD Cert.SmallCRefIdeal.τ).loc Cert.SmallCRefIdeal.main_arg1)
      ∧ r.2.mem ((c.tc : Thread Cert.SmallCRefIdeal.nD Cert.SmallCRefIdeal.τ).loc Cert.SmallCRefIdeal.main_arg2) = m ((c.tc : Thread Cert.SmallCRefIdeal.nD Cert.SmallCRefIdeal.τ).loc Cert.SmallCRefIdeal.main_arg2)
      ∧ r.2.mem ((c.tc : Thread Cert.SmallCRefIdeal.nD Cert.SmallCRefIdeal.τ).loc Cert.SmallCRefIdeal.main_arg3) = m ((c.tc : Thread Cert.SmallCRefIdeal.nD Cert.SmallCRefIdeal.τ).loc Cert.SmallCRefIdeal.main_arg3)
      ∧ r.2.mem ((c.tc : Thread Cert.SmallCRefIdeal.nD Cert.SmallCRefIdeal.τ).loc Cert.SmallCRefIdeal.main_arg4) = m ((c.tc : Thread Cert.SmallCRefIdeal.nD Cert.SmallCRefIdeal.τ).loc Cert.SmallCRefIdeal.main_arg4)
      ∧ r.2.mem ((c.tc : Thread Cert.SmallCRefIdeal.nD Cert.SmallCRefIdeal.τ).loc Cert.SmallCRefIdeal.main_arg5) = m ((c.tc : Thread Cert.SmallCRefIdeal.nD Cert.SmallCRefIdeal.τ).loc Cert.SmallCRefIdeal.main_arg5)
      ∧ r.2.mem ((c.tc : Thread Cert.SmallCRefIdeal.nD Cert.SmallCRefIdeal.τ).loc Cert.SmallCRefIdeal.main_arg6) = m ((c.tc : Thread Cert.SmallCRefIdeal.nD Cert.SmallCRefIdeal.τ).loc Cert.SmallCRefIdeal.main_arg6)
      ∧ r.2.mem ((c.tc : Thread Cert.SmallCRefIdeal.nD Cert.SmallCRefIdeal.τ).loc Cert.SmallCRefIdeal.main_arg7) = m ((c.tc : Thread Cert.SmallCRefIdeal.nD Cert.SmallCRefIdeal.τ).loc Cert.SmallCRefIdeal.main_arg7)
      ∧ r.2.mem ((c.tc : Thread Cert.SmallCRefIdeal.nD Cert.SmallCRefIdeal.τ).loc Cert.SmallCRefIdeal.main_arg8) = m ((c.tc : Thread Cert.SmallCRefIdeal.nD Cert.SmallCRefIdeal.τ).loc Cert.SmallCRefIdeal.main_arg8)
      ∧ r.2.mem ((c.tc : Thread Cert.SmallCRefIdeal.nD Cert.SmallCRefIdeal.τ).loc Cert.SmallCRefIdeal.main_arg9) = m ((c.tc : Thread Cert.SmallCRefIdeal.nD Cert.SmallCRefIdeal.τ).loc Cert.SmallCRefIdeal.main_arg9)
      ∧ r.2.mem ((c.tc : Thread Cert.SmallCRefIdeal.nD Cert.SmallCRefIdeal.τ).loc Cert.SmallCRefIdeal.main_arg10) = m ((c.tc : Thread Cert.SmallCRefIdeal.nD Cert.SmallCRefIdeal.τ).loc Cert.SmallCRefIdeal.main_arg10)
      ∧ r.2.mem ((c.tc : Thread Cert.SmallCRefIdeal.nD Cert.SmallCRefIdeal.τ).loc Cert.SmallCRefIdeal.main_arg11) = m ((c.tc : Thread Cert.SmallCRefIdeal.nD Cert.SmallCRefIdeal.τ).loc Cert.SmallCRefIdeal.main_arg11)
      ∧ r.2.mem ((c.tc : Thread Cert.SmallCRefIdeal.nD Cert.SmallCRefIdeal.τ).loc Cert.SmallCRefIdeal.main_arg12) = m ((c.tc : Thread Cert.SmallCRefIdeal.nD Cert.SmallCRefIdeal.τ).loc Cert.SmallCRefIdeal.main_arg12)
      ∧ r.2.mem ((c.tc : Thread Cert.SmallCRefIdeal.nD Cert.SmallCRefIdeal.τ).loc Cert.SmallCRefIdeal.main_arg13) = m ((c.tc : Thread Cert.SmallCRefIdeal.nD Cert.SmallCRefIdeal.τ).loc Cert.SmallCRefIdeal.main_arg13)
      ∧ r.2.mem ((c.tc : Thread Cert.SmallCRefIdeal.nD Cert.SmallCRefIdeal.τ).loc Cert.SmallCRefIdeal.main_arg14) = m ((c.tc : Thread Cert.SmallCRefIdeal.nD Cert.SmallCRefIdeal.τ).loc Cert.SmallCRefIdeal.main_arg14)
      ∧ r.2.mem ((c.tc : Thread Cert.SmallCRefIdeal.nD Cert.SmallCRefIdeal.τ).loc Cert.SmallCRefIdeal.main_arg15) = m ((c.tc : Thread Cert.SmallCRefIdeal.nD Cert.SmallCRefIdeal.τ).loc Cert.SmallCRefIdeal.main_arg15))
      ∧ r.2.sem = fun _ => 0)

def preserves_BwdIn_BwdInIdeal : Prop :=
  True

def algebraic_BwdInIdeal_BwdInRefIdeal [hBwdInIdeal : Cert.BwdInIdeal.Facts] [hBwdInRefIdeal : Cert.BwdInRefIdeal.Facts] : Prop :=
  ∀ (m : (ℓ : Loc Cert.BwdInIdeal.nD Cert.BwdInIdeal.τ Cert.BwdInIdeal.sig) → Buf (Elt Ideal) ℓ) (g : Dev Cert.BwdInIdeal.nD → PrngReg)
    (m' : (ℓ : Loc Cert.BwdInRefIdeal.nD Cert.BwdInRefIdeal.τ Cert.BwdInRefIdeal.sig) → Buf (Elt Ideal) ℓ) (g' : Dev Cert.BwdInRefIdeal.nD → PrngReg), Pre_BwdInIdeal m →
    (∀ c : Dev Cert.BwdInIdeal.nD,
      m' ((c.tc : Thread Cert.BwdInRefIdeal.nD Cert.BwdInRefIdeal.τ).loc Cert.BwdInRefIdeal.main_arg0) = m ((c.tc : Thread Cert.BwdInIdeal.nD Cert.BwdInIdeal.τ).loc Cert.BwdInIdeal.main_arg0)
      ∧ m' ((c.tc : Thread Cert.BwdInRefIdeal.nD Cert.BwdInRefIdeal.τ).loc Cert.BwdInRefIdeal.main_arg1) = m ((c.tc : Thread Cert.BwdInIdeal.nD Cert.BwdInIdeal.τ).loc Cert.BwdInIdeal.main_arg1)
      ∧ m' ((c.tc : Thread Cert.BwdInRefIdeal.nD Cert.BwdInRefIdeal.τ).loc Cert.BwdInRefIdeal.main_arg2) = m ((c.tc : Thread Cert.BwdInIdeal.nD Cert.BwdInIdeal.τ).loc Cert.BwdInIdeal.main_arg2)
      ∧ m' ((c.tc : Thread Cert.BwdInRefIdeal.nD Cert.BwdInRefIdeal.τ).loc Cert.BwdInRefIdeal.main_arg3) = m ((c.tc : Thread Cert.BwdInIdeal.nD Cert.BwdInIdeal.τ).loc Cert.BwdInIdeal.main_arg3)
      ∧ m' ((c.tc : Thread Cert.BwdInRefIdeal.nD Cert.BwdInRefIdeal.τ).loc Cert.BwdInRefIdeal.main_arg4) = m ((c.tc : Thread Cert.BwdInIdeal.nD Cert.BwdInIdeal.τ).loc Cert.BwdInIdeal.main_arg4)) →
    ∃ (v0 : (c : Dev Cert.BwdInIdeal.nD) → Buf (Elt Ideal) ((c.tc : Thread Cert.BwdInIdeal.nD Cert.BwdInIdeal.τ).loc Cert.BwdInIdeal.main_v6_0)) (v1 : (c : Dev Cert.BwdInIdeal.nD) → Buf (Elt Ideal) ((c.tc : Thread Cert.BwdInIdeal.nD Cert.BwdInIdeal.τ).loc Cert.BwdInIdeal.main_v6_1)),
      θ_run (Cert.BwdInIdeal.defs (F := Ideal)) (onTc (τ := Cert.BwdInIdeal.τ) (Cert.BwdInIdeal.main (F := Ideal))) ⟨m, fun _ => 0, g⟩ (fun r => ∀ c : Dev Cert.BwdInIdeal.nD,
          r.2.mem ((c.tc : Thread Cert.BwdInIdeal.nD Cert.BwdInIdeal.τ).loc Cert.BwdInIdeal.main_v6_0) = v0 c
          ∧ r.2.mem ((c.tc : Thread Cert.BwdInIdeal.nD Cert.BwdInIdeal.τ).loc Cert.BwdInIdeal.main_v6_1) = v1 c
          ∧ r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
          ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
          ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
          ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
          ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4))
      ∧ θ_run (Cert.BwdInRefIdeal.defs (F := Ideal)) (onTc (τ := Cert.BwdInRefIdeal.τ) (Cert.BwdInRefIdeal.main (F := Ideal))) ⟨m', fun _ => 0, g'⟩ (fun r => ∀ c : Dev Cert.BwdInRefIdeal.nD,
          r.2.mem ((c.tc : Thread Cert.BwdInRefIdeal.nD Cert.BwdInRefIdeal.τ).loc Cert.BwdInRefIdeal.main_v45) = v0 c
          ∧ r.2.mem ((c.tc : Thread Cert.BwdInRefIdeal.nD Cert.BwdInRefIdeal.τ).loc Cert.BwdInRefIdeal.main_v44) = v1 c
          ∧ r.2.mem ((c.tc : Thread Cert.BwdInRefIdeal.nD Cert.BwdInRefIdeal.τ).loc Cert.BwdInRefIdeal.main_arg0) = m' ((c.tc : Thread Cert.BwdInRefIdeal.nD Cert.BwdInRefIdeal.τ).loc Cert.BwdInRefIdeal.main_arg0)
          ∧ r.2.mem ((c.tc : Thread Cert.BwdInRefIdeal.nD Cert.BwdInRefIdeal.τ).loc Cert.BwdInRefIdeal.main_arg1) = m' ((c.tc : Thread Cert.BwdInRefIdeal.nD Cert.BwdInRefIdeal.τ).loc Cert.BwdInRefIdeal.main_arg1)
          ∧ r.2.mem ((c.tc : Thread Cert.BwdInRefIdeal.nD Cert.BwdInRefIdeal.τ).loc Cert.BwdInRefIdeal.main_arg2) = m' ((c.tc : Thread Cert.BwdInRefIdeal.nD Cert.BwdInRefIdeal.τ).loc Cert.BwdInRefIdeal.main_arg2)
          ∧ r.2.mem ((c.tc : Thread Cert.BwdInRefIdeal.nD Cert.BwdInRefIdeal.τ).loc Cert.BwdInRefIdeal.main_arg3) = m' ((c.tc : Thread Cert.BwdInRefIdeal.nD Cert.BwdInRefIdeal.τ).loc Cert.BwdInRefIdeal.main_arg3)
          ∧ r.2.mem ((c.tc : Thread Cert.BwdInRefIdeal.nD Cert.BwdInRefIdeal.τ).loc Cert.BwdInRefIdeal.main_arg4) = m' ((c.tc : Thread Cert.BwdInRefIdeal.nD Cert.BwdInRefIdeal.τ).loc Cert.BwdInRefIdeal.main_arg4))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v22_4)) (v1 : (c : Dev Cert.MlpIdeal.nD) → Buf (Elt Ideal) ((c.tc : Thread Cert.MlpIdeal.nD Cert.MlpIdeal.τ).loc Cert.MlpIdeal.main_v22_3)) (v2 : (c : Dev Cert.MlpIdeal.nD) → Buf (Elt Ideal) ((c.tc : Thread Cert.MlpIdeal.nD Cert.MlpIdeal.τ).loc Cert.MlpIdeal.main_v22_6)) (v3 : (c : Dev Cert.MlpIdeal.nD) → Buf (Elt Ideal) ((c.tc : Thread Cert.MlpIdeal.nD Cert.MlpIdeal.τ).loc Cert.MlpIdeal.main_v22_5)) (v4 : (c : Dev Cert.MlpIdeal.nD) → Buf (Elt Ideal) ((c.tc : Thread Cert.MlpIdeal.nD Cert.MlpIdeal.τ).loc Cert.MlpIdeal.main_v22_0)) (v5 : (c : Dev Cert.MlpIdeal.nD) → Buf (Elt Ideal) ((c.tc : Thread Cert.MlpIdeal.nD Cert.MlpIdeal.τ).loc Cert.MlpIdeal.main_v22_1)) (v6 : (c : Dev Cert.MlpIdeal.nD) → Buf (Elt Ideal) ((c.tc : Thread Cert.MlpIdeal.nD Cert.MlpIdeal.τ).loc Cert.MlpIdeal.main_v22_2)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v22_4) = v0 c
          ∧ r.2.mem ((c.tc : Thread Cert.MlpIdeal.nD Cert.MlpIdeal.τ).loc Cert.MlpIdeal.main_v22_3) = v1 c
          ∧ r.2.mem ((c.tc : Thread Cert.MlpIdeal.nD Cert.MlpIdeal.τ).loc Cert.MlpIdeal.main_v22_6) = v2 c
          ∧ r.2.mem ((c.tc : Thread Cert.MlpIdeal.nD Cert.MlpIdeal.τ).loc Cert.MlpIdeal.main_v22_5) = v3 c
          ∧ r.2.mem ((c.tc : Thread Cert.MlpIdeal.nD Cert.MlpIdeal.τ).loc Cert.MlpIdeal.main_v22_0) = v4 c
          ∧ r.2.mem ((c.tc : Thread Cert.MlpIdeal.nD Cert.MlpIdeal.τ).loc Cert.MlpIdeal.main_v22_1) = v5 c
          ∧ r.2.mem ((c.tc : Thread Cert.MlpIdeal.nD Cert.MlpIdeal.τ).loc Cert.MlpIdeal.main_v22_2) = v6 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v113) = v0 c
          ∧ r.2.mem ((c.tc : Thread Cert.MlpRefIdeal.nD Cert.MlpRefIdeal.τ).loc Cert.MlpRefIdeal.main_v114) = v1 c
          ∧ r.2.mem ((c.tc : Thread Cert.MlpRefIdeal.nD Cert.MlpRefIdeal.τ).loc Cert.MlpRefIdeal.main_v112) = v2 c
          ∧ r.2.mem ((c.tc : Thread Cert.MlpRefIdeal.nD Cert.MlpRefIdeal.τ).loc Cert.MlpRefIdeal.main_v115) = v3 c
          ∧ r.2.mem ((c.tc : Thread Cert.MlpRefIdeal.nD Cert.MlpRefIdeal.τ).loc Cert.MlpRefIdeal.main_v117) = v4 c
          ∧ r.2.mem ((c.tc : Thread Cert.MlpRefIdeal.nD Cert.MlpRefIdeal.τ).loc Cert.MlpRefIdeal.main_v119) = v5 c
          ∧ r.2.mem ((c.tc : Thread Cert.MlpRefIdeal.nD Cert.MlpRefIdeal.τ).loc Cert.MlpRefIdeal.main_v121) = v6 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5))

def preserves_BwdGates_BwdGatesIdeal : Prop :=
  IdealRules.named_const.Statement Cert.BwdGatesIdeal.κ "k01" .f32 0x3D122279#32 ((80338380498831 / 2251799813685248 : ℝ) : EReal)

def algebraic_BwdGatesIdeal_BwdGatesRefIdeal_pre_gates_finite [hBwdGatesIdeal : Cert.BwdGatesIdeal.Facts] [hBwdGatesRefIdeal : Cert.BwdGatesRefIdeal.Facts] [hPre_gates_finite : Cert.Pre_gates_finite.Facts] : Prop :=
  ∀ (m : (ℓ : Loc Cert.BwdGatesIdeal.nD Cert.BwdGatesIdeal.τ Cert.BwdGatesIdeal.sig) → Buf (Elt Ideal) ℓ) (g : Dev Cert.BwdGatesIdeal.nD → PrngReg)
    (m' : (ℓ : Loc Cert.BwdGatesRefIdeal.nD Cert.BwdGatesRefIdeal.τ Cert.BwdGatesRefIdeal.sig) → Buf (Elt Ideal) ℓ) (g' : Dev Cert.BwdGatesRefIdeal.nD → PrngReg), Pre_BwdGatesIdeal_gates_finite m →
    (∀ c : Dev Cert.BwdGatesIdeal.nD,
      m' ((c.tc : Thread Cert.BwdGatesRefIdeal.nD Cert.BwdGatesRefIdeal.τ).loc Cert.BwdGatesRefIdeal.main_arg0) = m ((c.tc : Thread Cert.BwdGatesIdeal.nD Cert.BwdGatesIdeal.τ).loc Cert.BwdGatesIdeal.main_arg0)
      ∧ m' ((c.tc : Thread Cert.BwdGatesRefIdeal.nD Cert.BwdGatesRefIdeal.τ).loc Cert.BwdGatesRefIdeal.main_arg1) = m ((c.tc : Thread Cert.BwdGatesIdeal.nD Cert.BwdGatesIdeal.τ).loc Cert.BwdGatesIdeal.main_arg1)
      ∧ m' ((c.tc : Thread Cert.BwdGatesRefIdeal.nD Cert.BwdGatesRefIdeal.τ).loc Cert.BwdGatesRefIdeal.main_arg2) = m ((c.tc : Thread Cert.BwdGatesIdeal.nD Cert.BwdGatesIdeal.τ).loc Cert.BwdGatesIdeal.main_arg2)
      ∧ m' ((c.tc : Thread Cert.BwdGatesRefIdeal.nD Cert.BwdGatesRefIdeal.τ).loc Cert.BwdGatesRefIdeal.main_arg3) = m ((c.tc : Thread Cert.BwdGatesIdeal.nD Cert.BwdGatesIdeal.τ).loc Cert.BwdGatesIdeal.main_arg3)
      ∧ m' ((c.tc : Thread Cert.BwdGatesRefIdeal.nD Cert.BwdGatesRefIdeal.τ).loc Cert.BwdGatesRefIdeal.main_arg4) = m ((c.tc : Thread Cert.BwdGatesIdeal.nD Cert.BwdGatesIdeal.τ).loc Cert.BwdGatesIdeal.main_arg4)
      ∧ m' ((c.tc : Thread Cert.BwdGatesRefIdeal.nD Cert.BwdGatesRefIdeal.τ).loc Cert.BwdGatesRefIdeal.main_arg5) = m ((c.tc : Thread Cert.BwdGatesIdeal.nD Cert.BwdGatesIdeal.τ).loc Cert.BwdGatesIdeal.main_arg5)
      ∧ m' ((c.tc : Thread Cert.BwdGatesRefIdeal.nD Cert.BwdGatesRefIdeal.τ).loc Cert.BwdGatesRefIdeal.main_arg6) = m ((c.tc : Thread Cert.BwdGatesIdeal.nD Cert.BwdGatesIdeal.τ).loc Cert.BwdGatesIdeal.main_arg6)
      ∧ m' ((c.tc : Thread Cert.BwdGatesRefIdeal.nD Cert.BwdGatesRefIdeal.τ).loc Cert.BwdGatesRefIdeal.main_arg7) = m ((c.tc : Thread Cert.BwdGatesIdeal.nD Cert.BwdGatesIdeal.τ).loc Cert.BwdGatesIdeal.main_arg7)
      ∧ m' ((c.tc : Thread Cert.BwdGatesRefIdeal.nD Cert.BwdGatesRefIdeal.τ).loc Cert.BwdGatesRefIdeal.main_arg8) = m ((c.tc : Thread Cert.BwdGatesIdeal.nD Cert.BwdGatesIdeal.τ).loc Cert.BwdGatesIdeal.main_arg8)) →
    ∃ (v0 : (c : Dev Cert.BwdGatesIdeal.nD) → Buf (Elt Ideal) ((c.tc : Thread Cert.BwdGatesIdeal.nD Cert.BwdGatesIdeal.τ).loc Cert.BwdGatesIdeal.main_v223_0)) (v1 : (c : Dev Cert.BwdGatesIdeal.nD) → Buf (Elt Ideal) ((c.tc : Thread Cert.BwdGatesIdeal.nD Cert.BwdGatesIdeal.τ).loc Cert.BwdGatesIdeal.main_v223_1)) (v2 : (c : Dev Cert.BwdGatesIdeal.nD) → Buf (Elt Ideal) ((c.tc : Thread Cert.BwdGatesIdeal.nD Cert.BwdGatesIdeal.τ).loc Cert.BwdGatesIdeal.main_v223_2)) (v3 : (c : Dev Cert.BwdGatesIdeal.nD) → Buf (Elt Ideal) ((c.tc : Thread Cert.BwdGatesIdeal.nD Cert.BwdGatesIdeal.τ).loc Cert.BwdGatesIdeal.main_v223_3)) (v4 : (c : Dev Cert.BwdGatesIdeal.nD) → Buf (Elt Ideal) ((c.tc : Thread Cert.BwdGatesIdeal.nD Cert.BwdGatesIdeal.τ).loc Cert.BwdGatesIdeal.main_v223_4)) (v5 : (c : Dev Cert.BwdGatesIdeal.nD) → Buf (Elt Ideal) ((c.tc : Thread Cert.BwdGatesIdeal.nD Cert.BwdGatesIdeal.τ).loc Cert.BwdGatesIdeal.main_v223_5)),
      θ_run (Cert.BwdGatesIdeal.defs (F := Ideal)) (onTc (τ := Cert.BwdGatesIdeal.τ) (Cert.BwdGatesIdeal.main (F := Ideal))) ⟨m, fun _ => 0, g⟩ (fun r => ∀ c : Dev Cert.BwdGatesIdeal.nD,
          r.2.mem ((c.tc : Thread Cert.BwdGatesIdeal.nD Cert.BwdGatesIdeal.τ).loc Cert.BwdGatesIdeal.main_v223_0) = v0 c
          ∧ r.2.mem ((c.tc : Thread Cert.BwdGatesIdeal.nD Cert.BwdGatesIdeal.τ).loc Cert.BwdGatesIdeal.main_v223_1) = v1 c
          ∧ r.2.mem ((c.tc : Thread Cert.BwdGatesIdeal.nD Cert.BwdGatesIdeal.τ).loc Cert.BwdGatesIdeal.main_v223_2) = v2 c
          ∧ r.2.mem ((c.tc : Thread Cert.BwdGatesIdeal.nD Cert.BwdGatesIdeal.τ).loc Cert.BwdGatesIdeal.main_v223_3) = v3 c
          ∧ r.2.mem ((c.tc : Thread Cert.BwdGatesIdeal.nD Cert.BwdGatesIdeal.τ).loc Cert.BwdGatesIdeal.main_v223_4) = v4 c
          ∧ r.2.mem ((c.tc : Thread Cert.BwdGatesIdeal.nD Cert.BwdGatesIdeal.τ).loc Cert.BwdGatesIdeal.main_v223_5) = v5 c
          ∧ r.2.mem ((c.tc : Thread Cert.BwdGatesIdeal.nD Cert.BwdGatesIdeal.τ).loc Cert.BwdGatesIdeal.main_arg0) = m ((c.tc : Thread Cert.BwdGatesIdeal.nD Cert.BwdGatesIdeal.τ).loc Cert.BwdGatesIdeal.main_arg0)
          ∧ r.2.mem ((c.tc : Thread Cert.BwdGatesIdeal.nD Cert.BwdGatesIdeal.τ).loc Cert.BwdGatesIdeal.main_arg1) = m ((c.tc : Thread Cert.BwdGatesIdeal.nD Cert.BwdGatesIdeal.τ).loc Cert.BwdGatesIdeal.main_arg1)
          ∧ r.2.mem ((c.tc : Thread Cert.BwdGatesIdeal.nD Cert.BwdGatesIdeal.τ).loc Cert.BwdGatesIdeal.main_arg2) = m ((c.tc : Thread Cert.BwdGatesIdeal.nD Cert.BwdGatesIdeal.τ).loc Cert.BwdGatesIdeal.main_arg2)
          ∧ r.2.mem ((c.tc : Thread Cert.BwdGatesIdeal.nD Cert.BwdGatesIdeal.τ).loc Cert.BwdGatesIdeal.main_arg3) = m ((c.tc : Thread Cert.BwdGatesIdeal.nD Cert.BwdGatesIdeal.τ).loc Cert.BwdGatesIdeal.main_arg3)
          ∧ r.2.mem ((c.tc : Thread Cert.BwdGatesIdeal.nD Cert.BwdGatesIdeal.τ).loc Cert.BwdGatesIdeal.main_arg4) = m ((c.tc : Thread Cert.BwdGatesIdeal.nD Cert.BwdGatesIdeal.τ).loc Cert.BwdGatesIdeal.main_arg4)
          ∧ r.2.mem ((c.tc : Thread Cert.BwdGatesIdeal.nD Cert.BwdGatesIdeal.τ).loc Cert.BwdGatesIdeal.main_arg5) = m ((c.tc : Thread Cert.BwdGatesIdeal.nD Cert.BwdGatesIdeal.τ).loc Cert.BwdGatesIdeal.main_arg5)
          ∧ r.2.mem ((c.tc : Thread Cert.BwdGatesIdeal.nD Cert.BwdGatesIdeal.τ).loc Cert.BwdGatesIdeal.main_arg6) = m ((c.tc : Thread Cert.BwdGatesIdeal.nD Cert.BwdGatesIdeal.τ).loc Cert.BwdGatesIdeal.main_arg6)
          ∧ r.2.mem ((c.tc : Thread Cert.BwdGatesIdeal.nD Cert.BwdGatesIdeal.τ).loc Cert.BwdGatesIdeal.main_arg7) = m ((c.tc : Thread Cert.BwdGatesIdeal.nD Cert.BwdGatesIdeal.τ).loc Cert.BwdGatesIdeal.main_arg7)
          ∧ r.2.mem ((c.tc : Thread Cert.BwdGatesIdeal.nD Cert.BwdGatesIdeal.τ).loc Cert.BwdGatesIdeal.main_arg8) = m ((c.tc : Thread Cert.BwdGatesIdeal.nD Cert.BwdGatesIdeal.τ).loc Cert.BwdGatesIdeal.main_arg8))
      ∧ θ_run (Cert.BwdGatesRefIdeal.defs (F := Ideal)) (onTc (τ := Cert.BwdGatesRefIdeal.τ) (Cert.BwdGatesRefIdeal.main (F := Ideal))) ⟨m', fun _ => 0, g'⟩ (fun r => ∀ c : Dev Cert.BwdGatesRefIdeal.nD,
          r.2.mem ((c.tc : Thread Cert.BwdGatesRefIdeal.nD Cert.BwdGatesRefIdeal.τ).loc Cert.BwdGatesRefIdeal.main_v459) = v0 c
          ∧ r.2.mem ((c.tc : Thread Cert.BwdGatesRefIdeal.nD Cert.BwdGatesRefIdeal.τ).loc Cert.BwdGatesRefIdeal.main_v460) = v1 c
          ∧ r.2.mem ((c.tc : Thread Cert.BwdGatesRefIdeal.nD Cert.BwdGatesRefIdeal.τ).loc Cert.BwdGatesRefIdeal.main_v461) = v2 c
          ∧ r.2.mem ((c.tc : Thread Cert.BwdGatesRefIdeal.nD Cert.BwdGatesRefIdeal.τ).loc Cert.BwdGatesRefIdeal.main_v462) = v3 c
          ∧ r.2.mem ((c.tc : Thread Cert.BwdGatesRefIdeal.nD Cert.BwdGatesRefIdeal.τ).loc Cert.BwdGatesRefIdeal.main_v463) = v4 c
          ∧ r.2.mem ((c.tc : Thread Cert.BwdGatesRefIdeal.nD Cert.BwdGatesRefIdeal.τ).loc Cert.BwdGatesRefIdeal.main_v454) = v5 c
          ∧ r.2.mem ((c.tc : Thread Cert.BwdGatesRefIdeal.nD Cert.BwdGatesRefIdeal.τ).loc Cert.BwdGatesRefIdeal.main_arg0) = m' ((c.tc : Thread Cert.BwdGatesRefIdeal.nD Cert.BwdGatesRefIdeal.τ).loc Cert.BwdGatesRefIdeal.main_arg0)
          ∧ r.2.mem ((c.tc : Thread Cert.BwdGatesRefIdeal.nD Cert.BwdGatesRefIdeal.τ).loc Cert.BwdGatesRefIdeal.main_arg1) = m' ((c.tc : Thread Cert.BwdGatesRefIdeal.nD Cert.BwdGatesRefIdeal.τ).loc Cert.BwdGatesRefIdeal.main_arg1)
          ∧ r.2.mem ((c.tc : Thread Cert.BwdGatesRefIdeal.nD Cert.BwdGatesRefIdeal.τ).loc Cert.BwdGatesRefIdeal.main_arg2) = m' ((c.tc : Thread Cert.BwdGatesRefIdeal.nD Cert.BwdGatesRefIdeal.τ).loc Cert.BwdGatesRefIdeal.main_arg2)
          ∧ r.2.mem ((c.tc : Thread Cert.BwdGatesRefIdeal.nD Cert.BwdGatesRefIdeal.τ).loc Cert.BwdGatesRefIdeal.main_arg3) = m' ((c.tc : Thread Cert.BwdGatesRefIdeal.nD Cert.BwdGatesRefIdeal.τ).loc Cert.BwdGatesRefIdeal.main_arg3)
          ∧ r.2.mem ((c.tc : Thread Cert.BwdGatesRefIdeal.nD Cert.BwdGatesRefIdeal.τ).loc Cert.BwdGatesRefIdeal.main_arg4) = m' ((c.tc : Thread Cert.BwdGatesRefIdeal.nD Cert.BwdGatesRefIdeal.τ).loc Cert.BwdGatesRefIdeal.main_arg4)
          ∧ r.2.mem ((c.tc : Thread Cert.BwdGatesRefIdeal.nD Cert.BwdGatesRefIdeal.τ).loc Cert.BwdGatesRefIdeal.main_arg5) = m' ((c.tc : Thread Cert.BwdGatesRefIdeal.nD Cert.BwdGatesRefIdeal.τ).loc Cert.BwdGatesRefIdeal.main_arg5)
          ∧ r.2.mem ((c.tc : Thread Cert.BwdGatesRefIdeal.nD Cert.BwdGatesRefIdeal.τ).loc Cert.BwdGatesRefIdeal.main_arg6) = m' ((c.tc : Thread Cert.BwdGatesRefIdeal.nD Cert.BwdGatesRefIdeal.τ).loc Cert.BwdGatesRefIdeal.main_arg6)
          ∧ r.2.mem ((c.tc : Thread Cert.BwdGatesRefIdeal.nD Cert.BwdGatesRefIdeal.τ).loc Cert.BwdGatesRefIdeal.main_arg7) = m' ((c.tc : Thread Cert.BwdGatesRefIdeal.nD Cert.BwdGatesRefIdeal.τ).loc Cert.BwdGatesRefIdeal.main_arg7)
          ∧ r.2.mem ((c.tc : Thread Cert.BwdGatesRefIdeal.nD Cert.BwdGatesRefIdeal.τ).loc Cert.BwdGatesRefIdeal.main_arg8) = m' ((c.tc : Thread Cert.BwdGatesRefIdeal.nD Cert.BwdGatesRefIdeal.τ).loc Cert.BwdGatesRefIdeal.main_arg8))

def preserves_Lru_LruIdeal : Prop :=
  IdealRules.named_const.Statement Cert.LruIdeal.κ "k01" .f32 0x3D122279#32 ((80338380498831 / 2251799813685248 : ℝ) : EReal)

def algebraic_LruIdeal_LruRefIdeal_pre_lru_finite [hLruIdeal : Cert.LruIdeal.Facts] [hLruRefIdeal : Cert.LruRefIdeal.Facts] [hPre_lru_finite : Cert.Pre_lru_finite.Facts] : Prop :=
  ∀ (m : (ℓ : Loc Cert.LruIdeal.nD Cert.LruIdeal.τ Cert.LruIdeal.sig) → Buf (Elt Ideal) ℓ) (g : Dev Cert.LruIdeal.nD → PrngReg)
    (m' : (ℓ : Loc Cert.LruRefIdeal.nD Cert.LruRefIdeal.τ Cert.LruRefIdeal.sig) → Buf (Elt Ideal) ℓ) (g' : Dev Cert.LruRefIdeal.nD → PrngReg), Pre_LruIdeal_lru_finite m →
    (∀ c : Dev Cert.LruIdeal.nD,
      m' ((c.tc : Thread Cert.LruRefIdeal.nD Cert.LruRefIdeal.τ).loc Cert.LruRefIdeal.main_arg0) = m ((c.tc : Thread Cert.LruIdeal.nD Cert.LruIdeal.τ).loc Cert.LruIdeal.main_arg0)
      ∧ m' ((c.tc : Thread Cert.LruRefIdeal.nD Cert.LruRefIdeal.τ).loc Cert.LruRefIdeal.main_arg1) = m ((c.tc : Thread Cert.LruIdeal.nD Cert.LruIdeal.τ).loc Cert.LruIdeal.main_arg1)
      ∧ m' ((c.tc : Thread Cert.LruRefIdeal.nD Cert.LruRefIdeal.τ).loc Cert.LruRefIdeal.main_arg2) = m ((c.tc : Thread Cert.LruIdeal.nD Cert.LruIdeal.τ).loc Cert.LruIdeal.main_arg2)
      ∧ m' ((c.tc : Thread Cert.LruRefIdeal.nD Cert.LruRefIdeal.τ).loc Cert.LruRefIdeal.main_arg3) = m ((c.tc : Thread Cert.LruIdeal.nD Cert.LruIdeal.τ).loc Cert.LruIdeal.main_arg3)
      ∧ m' ((c.tc : Thread Cert.LruRefIdeal.nD Cert.LruRefIdeal.τ).loc Cert.LruRefIdeal.main_arg4) = m ((c.tc : Thread Cert.LruIdeal.nD Cert.LruIdeal.τ).loc Cert.LruIdeal.main_arg4)
      ∧ m' ((c.tc : Thread Cert.LruRefIdeal.nD Cert.LruRefIdeal.τ).loc Cert.LruRefIdeal.main_arg5) = m ((c.tc : Thread Cert.LruIdeal.nD Cert.LruIdeal.τ).loc Cert.LruIdeal.main_arg5)
      ∧ m' ((c.tc : Thread Cert.LruRefIdeal.nD Cert.LruRefIdeal.τ).loc Cert.LruRefIdeal.main_arg6) = m ((c.tc : Thread Cert.LruIdeal.nD Cert.LruIdeal.τ).loc Cert.LruIdeal.main_arg6)
      ∧ m' ((c.tc : Thread Cert.LruRefIdeal.nD Cert.LruRefIdeal.τ).loc Cert.LruRefIdeal.main_arg7) = m ((c.tc : Thread Cert.LruIdeal.nD Cert.LruIdeal.τ).loc Cert.LruIdeal.main_arg7)) →
    ∃ (v0 : (c : Dev Cert.LruIdeal.nD) → Buf (Elt Ideal) ((c.tc : Thread Cert.LruIdeal.nD Cert.LruIdeal.τ).loc Cert.LruIdeal.main_v9_0)) (v1 : (c : Dev Cert.LruIdeal.nD) → Buf (Elt Ideal) ((c.tc : Thread Cert.LruIdeal.nD Cert.LruIdeal.τ).loc Cert.LruIdeal.main_v9_1)) (v2 : (c : Dev Cert.LruIdeal.nD) → Buf (Elt Ideal) ((c.tc : Thread Cert.LruIdeal.nD Cert.LruIdeal.τ).loc Cert.LruIdeal.main_v9_2)) (v3 : (c : Dev Cert.LruIdeal.nD) → Buf (Elt Ideal) ((c.tc : Thread Cert.LruIdeal.nD Cert.LruIdeal.τ).loc Cert.LruIdeal.main_v9_3)) (v4 : (c : Dev Cert.LruIdeal.nD) → Buf (Elt Ideal) ((c.tc : Thread Cert.LruIdeal.nD Cert.LruIdeal.τ).loc Cert.LruIdeal.main_v9_4)),
      θ_run (Cert.LruIdeal.defs (F := Ideal)) (onTc (τ := Cert.LruIdeal.τ) (Cert.LruIdeal.main (F := Ideal))) ⟨m, fun _ => 0, g⟩ (fun r => ∀ c : Dev Cert.LruIdeal.nD,
          r.2.mem ((c.tc : Thread Cert.LruIdeal.nD Cert.LruIdeal.τ).loc Cert.LruIdeal.main_v9_0) = v0 c
          ∧ r.2.mem ((c.tc : Thread Cert.LruIdeal.nD Cert.LruIdeal.τ).loc Cert.LruIdeal.main_v9_1) = v1 c
          ∧ r.2.mem ((c.tc : Thread Cert.LruIdeal.nD Cert.LruIdeal.τ).loc Cert.LruIdeal.main_v9_2) = v2 c
          ∧ r.2.mem ((c.tc : Thread Cert.LruIdeal.nD Cert.LruIdeal.τ).loc Cert.LruIdeal.main_v9_3) = v3 c
          ∧ r.2.mem ((c.tc : Thread Cert.LruIdeal.nD Cert.LruIdeal.τ).loc Cert.LruIdeal.main_v9_4) = v4 c
          ∧ r.2.mem ((c.tc : Thread Cert.LruIdeal.nD Cert.LruIdeal.τ).loc Cert.LruIdeal.main_arg0) = m ((c.tc : Thread Cert.LruIdeal.nD Cert.LruIdeal.τ).loc Cert.LruIdeal.main_arg0)
          ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
          ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
          ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
          ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
          ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
          ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
          ∧ r.2.mem ((c.tc : Thread Cert.LruIdeal.nD Cert.LruIdeal.τ).loc Cert.LruIdeal.main_arg7) = m ((c.tc : Thread Cert.LruIdeal.nD Cert.LruIdeal.τ).loc Cert.LruIdeal.main_arg7))
      ∧ θ_run (Cert.LruRefIdeal.defs (F := Ideal)) (onTc (τ := Cert.LruRefIdeal.τ) (Cert.LruRefIdeal.main (F := Ideal))) ⟨m', fun _ => 0, g'⟩ (fun r => ∀ c : Dev Cert.LruRefIdeal.nD,
          r.2.mem ((c.tc : Thread Cert.LruRefIdeal.nD Cert.LruRefIdeal.τ).loc Cert.LruRefIdeal.main_v383) = v0 c
          ∧ r.2.mem ((c.tc : Thread Cert.LruRefIdeal.nD Cert.LruRefIdeal.τ).loc Cert.LruRefIdeal.main_v384) = v1 c
          ∧ r.2.mem ((c.tc : Thread Cert.LruRefIdeal.nD Cert.LruRefIdeal.τ).loc Cert.LruRefIdeal.main_v385) = v2 c
          ∧ r.2.mem ((c.tc : Thread Cert.LruRefIdeal.nD Cert.LruRefIdeal.τ).loc Cert.LruRefIdeal.main_v386) = v3 c
          ∧ r.2.mem ((c.tc : Thread Cert.LruRefIdeal.nD Cert.LruRefIdeal.τ).loc Cert.LruRefIdeal.main_v387) = v4 c
          ∧ r.2.mem ((c.tc : Thread Cert.LruRefIdeal.nD Cert.LruRefIdeal.τ).loc Cert.LruRefIdeal.main_arg0) = m' ((c.tc : Thread Cert.LruRefIdeal.nD Cert.LruRefIdeal.τ).loc Cert.LruRefIdeal.main_arg0)
          ∧ r.2.mem ((c.tc : Thread Cert.LruRefIdeal.nD Cert.LruRefIdeal.τ).loc Cert.LruRefIdeal.main_arg1) = m' ((c.tc : Thread Cert.LruRefIdeal.nD Cert.LruRefIdeal.τ).loc Cert.LruRefIdeal.main_arg1)
          ∧ r.2.mem ((c.tc : Thread Cert.LruRefIdeal.nD Cert.LruRefIdeal.τ).loc Cert.LruRefIdeal.main_arg2) = m' ((c.tc : Thread Cert.LruRefIdeal.nD Cert.LruRefIdeal.τ).loc Cert.LruRefIdeal.main_arg2)
          ∧ r.2.mem ((c.tc : Thread Cert.LruRefIdeal.nD Cert.LruRefIdeal.τ).loc Cert.LruRefIdeal.main_arg3) = m' ((c.tc : Thread Cert.LruRefIdeal.nD Cert.LruRefIdeal.τ).loc Cert.LruRefIdeal.main_arg3)
          ∧ r.2.mem ((c.tc : Thread Cert.LruRefIdeal.nD Cert.LruRefIdeal.τ).loc Cert.LruRefIdeal.main_arg4) = m' ((c.tc : Thread Cert.LruRefIdeal.nD Cert.LruRefIdeal.τ).loc Cert.LruRefIdeal.main_arg4)
          ∧ r.2.mem ((c.tc : Thread Cert.LruRefIdeal.nD Cert.LruRefIdeal.τ).loc Cert.LruRefIdeal.main_arg5) = m' ((c.tc : Thread Cert.LruRefIdeal.nD Cert.LruRefIdeal.τ).loc Cert.LruRefIdeal.main_arg5)
          ∧ r.2.mem ((c.tc : Thread Cert.LruRefIdeal.nD Cert.LruRefIdeal.τ).loc Cert.LruRefIdeal.main_arg6) = m' ((c.tc : Thread Cert.LruRefIdeal.nD Cert.LruRefIdeal.τ).loc Cert.LruRefIdeal.main_arg6)
          ∧ r.2.mem ((c.tc : Thread Cert.LruRefIdeal.nD Cert.LruRefIdeal.τ).loc Cert.LruRefIdeal.main_arg7) = m' ((c.tc : Thread Cert.LruRefIdeal.nD Cert.LruRefIdeal.τ).loc Cert.LruRefIdeal.main_arg7))

def preserves_BwdSgu_BwdSguIdeal : Prop :=
  IdealRules.named_const.Statement Cert.BwdSguIdeal.κ "k01" .f32 0x3D122279#32 ((80338380498831 / 2251799813685248 : ℝ) : EReal)
  ∧ IdealRules.named_const.Statement Cert.BwdSguIdeal.κ "k01x" .f32 0x3D5B33B6#32 ((241015141496493 / 4503599627370496 : ℝ) : EReal)

def algebraic_BwdSguIdeal_BwdSguRefIdeal_pre_sgu_finite [hBwdSguIdeal : Cert.BwdSguIdeal.Facts] [hBwdSguRefIdeal : Cert.BwdSguRefIdeal.Facts] [hPre_sgu_finite : Cert.Pre_sgu_finite.Facts] : Prop :=
  ∀ (m : (ℓ : Loc Cert.BwdSguIdeal.nD Cert.BwdSguIdeal.τ Cert.BwdSguIdeal.sig) → Buf (Elt Ideal) ℓ) (g : Dev Cert.BwdSguIdeal.nD → PrngReg)
    (m' : (ℓ : Loc Cert.BwdSguRefIdeal.nD Cert.BwdSguRefIdeal.τ Cert.BwdSguRefIdeal.sig) → Buf (Elt Ideal) ℓ) (g' : Dev Cert.BwdSguRefIdeal.nD → PrngReg), Pre_BwdSguIdeal_sgu_finite m →
    (∀ c : Dev Cert.BwdSguIdeal.nD,
      m' ((c.tc : Thread Cert.BwdSguRefIdeal.nD Cert.BwdSguRefIdeal.τ).loc Cert.BwdSguRefIdeal.main_arg0) = m ((c.tc : Thread Cert.BwdSguIdeal.nD Cert.BwdSguIdeal.τ).loc Cert.BwdSguIdeal.main_arg0)
      ∧ m' ((c.tc : Thread Cert.BwdSguRefIdeal.nD Cert.BwdSguRefIdeal.τ).loc Cert.BwdSguRefIdeal.main_arg1) = m ((c.tc : Thread Cert.BwdSguIdeal.nD Cert.BwdSguIdeal.τ).loc Cert.BwdSguIdeal.main_arg1)
      ∧ m' ((c.tc : Thread Cert.BwdSguRefIdeal.nD Cert.BwdSguRefIdeal.τ).loc Cert.BwdSguRefIdeal.main_arg2) = m ((c.tc : Thread Cert.BwdSguIdeal.nD Cert.BwdSguIdeal.τ).loc Cert.BwdSguIdeal.main_arg2)
      ∧ m' ((c.tc : Thread Cert.BwdSguRefIdeal.nD Cert.BwdSguRefIdeal.τ).loc Cert.BwdSguRefIdeal.main_arg3) = m ((c.tc : Thread Cert.BwdSguIdeal.nD Cert.BwdSguIdeal.τ).loc Cert.BwdSguIdeal.main_arg3)
      ∧ m' ((c.tc : Thread Cert.BwdSguRefIdeal.nD Cert.BwdSguRefIdeal.τ).loc Cert.BwdSguRefIdeal.main_arg4) = m ((c.tc : Thread Cert.BwdSguIdeal.nD Cert.BwdSguIdeal.τ).loc Cert.BwdSguIdeal.main_arg4)
      ∧ m' ((c.tc : Thread Cert.BwdSguRefIdeal.nD Cert.BwdSguRefIdeal.τ).loc Cert.BwdSguRefIdeal.main_arg5) = m ((c.tc : Thread Cert.BwdSguIdeal.nD Cert.BwdSguIdeal.τ).loc Cert.BwdSguIdeal.main_arg5)) →
    ∃ (v0 : (c : Dev Cert.BwdSguIdeal.nD) → Buf (Elt Ideal) ((c.tc : Thread Cert.BwdSguIdeal.nD Cert.BwdSguIdeal.τ).loc Cert.BwdSguIdeal.main_v9_0)) (v1 : (c : Dev Cert.BwdSguIdeal.nD) → Buf (Elt Ideal) ((c.tc : Thread Cert.BwdSguIdeal.nD Cert.BwdSguIdeal.τ).loc Cert.BwdSguIdeal.main_v9_1)) (v2 : (c : Dev Cert.BwdSguIdeal.nD) → Buf (Elt Ideal) ((c.tc : Thread Cert.BwdSguIdeal.nD Cert.BwdSguIdeal.τ).loc Cert.BwdSguIdeal.main_v9_2)) (v3 : (c : Dev Cert.BwdSguIdeal.nD) → Buf (Elt Ideal) ((c.tc : Thread Cert.BwdSguIdeal.nD Cert.BwdSguIdeal.τ).loc Cert.BwdSguIdeal.main_v9_3)) (v4 : (c : Dev Cert.BwdSguIdeal.nD) → Buf (Elt Ideal) ((c.tc : Thread Cert.BwdSguIdeal.nD Cert.BwdSguIdeal.τ).loc Cert.BwdSguIdeal.main_v9_4)),
      θ_run (Cert.BwdSguIdeal.defs (F := Ideal)) (onTc (τ := Cert.BwdSguIdeal.τ) (Cert.BwdSguIdeal.main (F := Ideal))) ⟨m, fun _ => 0, g⟩ (fun r => ∀ c : Dev Cert.BwdSguIdeal.nD,
          r.2.mem ((c.tc : Thread Cert.BwdSguIdeal.nD Cert.BwdSguIdeal.τ).loc Cert.BwdSguIdeal.main_v9_0) = v0 c
          ∧ r.2.mem ((c.tc : Thread Cert.BwdSguIdeal.nD Cert.BwdSguIdeal.τ).loc Cert.BwdSguIdeal.main_v9_1) = v1 c
          ∧ r.2.mem ((c.tc : Thread Cert.BwdSguIdeal.nD Cert.BwdSguIdeal.τ).loc Cert.BwdSguIdeal.main_v9_2) = v2 c
          ∧ r.2.mem ((c.tc : Thread Cert.BwdSguIdeal.nD Cert.BwdSguIdeal.τ).loc Cert.BwdSguIdeal.main_v9_3) = v3 c
          ∧ r.2.mem ((c.tc : Thread Cert.BwdSguIdeal.nD Cert.BwdSguIdeal.τ).loc Cert.BwdSguIdeal.main_v9_4) = v4 c
          ∧ r.2.mem ((c.tc : Thread Cert.BwdSguIdeal.nD Cert.BwdSguIdeal.τ).loc Cert.BwdSguIdeal.main_arg0) = m ((c.tc : Thread Cert.BwdSguIdeal.nD Cert.BwdSguIdeal.τ).loc Cert.BwdSguIdeal.main_arg0)
          ∧ r.2.mem ((c.tc : Thread Cert.BwdSguIdeal.nD Cert.BwdSguIdeal.τ).loc Cert.BwdSguIdeal.main_arg1) = m ((c.tc : Thread Cert.BwdSguIdeal.nD Cert.BwdSguIdeal.τ).loc Cert.BwdSguIdeal.main_arg1)
          ∧ r.2.mem ((c.tc : Thread Cert.BwdSguIdeal.nD Cert.BwdSguIdeal.τ).loc Cert.BwdSguIdeal.main_arg2) = m ((c.tc : Thread Cert.BwdSguIdeal.nD Cert.BwdSguIdeal.τ).loc Cert.BwdSguIdeal.main_arg2)
          ∧ r.2.mem ((c.tc : Thread Cert.BwdSguIdeal.nD Cert.BwdSguIdeal.τ).loc Cert.BwdSguIdeal.main_arg3) = m ((c.tc : Thread Cert.BwdSguIdeal.nD Cert.BwdSguIdeal.τ).loc Cert.BwdSguIdeal.main_arg3)
          ∧ r.2.mem ((c.tc : Thread Cert.BwdSguIdeal.nD Cert.BwdSguIdeal.τ).loc Cert.BwdSguIdeal.main_arg4) = m ((c.tc : Thread Cert.BwdSguIdeal.nD Cert.BwdSguIdeal.τ).loc Cert.BwdSguIdeal.main_arg4)
          ∧ r.2.mem ((c.tc : Thread Cert.BwdSguIdeal.nD Cert.BwdSguIdeal.τ).loc Cert.BwdSguIdeal.main_arg5) = m ((c.tc : Thread Cert.BwdSguIdeal.nD Cert.BwdSguIdeal.τ).loc Cert.BwdSguIdeal.main_arg5))
      ∧ θ_run (Cert.BwdSguRefIdeal.defs (F := Ideal)) (onTc (τ := Cert.BwdSguRefIdeal.τ) (Cert.BwdSguRefIdeal.main (F := Ideal))) ⟨m', fun _ => 0, g'⟩ (fun r => ∀ c : Dev Cert.BwdSguRefIdeal.nD,
          r.2.mem ((c.tc : Thread Cert.BwdSguRefIdeal.nD Cert.BwdSguRefIdeal.τ).loc Cert.BwdSguRefIdeal.main_v182) = v0 c
          ∧ r.2.mem ((c.tc : Thread Cert.BwdSguRefIdeal.nD Cert.BwdSguRefIdeal.τ).loc Cert.BwdSguRefIdeal.main_v146) = v1 c
          ∧ r.2.mem ((c.tc : Thread Cert.BwdSguRefIdeal.nD Cert.BwdSguRefIdeal.τ).loc Cert.BwdSguRefIdeal.main_v145) = v2 c
          ∧ r.2.mem ((c.tc : Thread Cert.BwdSguRefIdeal.nD Cert.BwdSguRefIdeal.τ).loc Cert.BwdSguRefIdeal.main_v176) = v3 c
          ∧ r.2.mem ((c.tc : Thread Cert.BwdSguRefIdeal.nD Cert.BwdSguRefIdeal.τ).loc Cert.BwdSguRefIdeal.main_v179) = v4 c
          ∧ r.2.mem ((c.tc : Thread Cert.BwdSguRefIdeal.nD Cert.BwdSguRefIdeal.τ).loc Cert.BwdSguRefIdeal.main_arg0) = m' ((c.tc : Thread Cert.BwdSguRefIdeal.nD Cert.BwdSguRefIdeal.τ).loc Cert.BwdSguRefIdeal.main_arg0)
          ∧ r.2.mem ((c.tc : Thread Cert.BwdSguRefIdeal.nD Cert.BwdSguRefIdeal.τ).loc Cert.BwdSguRefIdeal.main_arg1) = m' ((c.tc : Thread Cert.BwdSguRefIdeal.nD Cert.BwdSguRefIdeal.τ).loc Cert.BwdSguRefIdeal.main_arg1)
          ∧ r.2.mem ((c.tc : Thread Cert.BwdSguRefIdeal.nD Cert.BwdSguRefIdeal.τ).loc Cert.BwdSguRefIdeal.main_arg2) = m' ((c.tc : Thread Cert.BwdSguRefIdeal.nD Cert.BwdSguRefIdeal.τ).loc Cert.BwdSguRefIdeal.main_arg2)
          ∧ r.2.mem ((c.tc : Thread Cert.BwdSguRefIdeal.nD Cert.BwdSguRefIdeal.τ).loc Cert.BwdSguRefIdeal.main_arg3) = m' ((c.tc : Thread Cert.BwdSguRefIdeal.nD Cert.BwdSguRefIdeal.τ).loc Cert.BwdSguRefIdeal.main_arg3)
          ∧ r.2.mem ((c.tc : Thread Cert.BwdSguRefIdeal.nD Cert.BwdSguRefIdeal.τ).loc Cert.BwdSguRefIdeal.main_arg4) = m' ((c.tc : Thread Cert.BwdSguRefIdeal.nD Cert.BwdSguRefIdeal.τ).loc Cert.BwdSguRefIdeal.main_arg4)
          ∧ r.2.mem ((c.tc : Thread Cert.BwdSguRefIdeal.nD Cert.BwdSguRefIdeal.τ).loc Cert.BwdSguRefIdeal.main_arg5) = m' ((c.tc : Thread Cert.BwdSguRefIdeal.nD Cert.BwdSguRefIdeal.τ).loc Cert.BwdSguRefIdeal.main_arg5))

def preserves_BwdConv_BwdConvIdeal : Prop :=
  True

def algebraic_BwdConvIdeal_BwdConvRefIdeal [hBwdConvIdeal : Cert.BwdConvIdeal.Facts] [hBwdConvRefIdeal : Cert.BwdConvRefIdeal.Facts] : Prop :=
  ∀ (m : (ℓ : Loc Cert.BwdConvIdeal.nD Cert.BwdConvIdeal.τ Cert.BwdConvIdeal.sig) → Buf (Elt Ideal) ℓ) (g : Dev Cert.BwdConvIdeal.nD → PrngReg)
    (m' : (ℓ : Loc Cert.BwdConvRefIdeal.nD Cert.BwdConvRefIdeal.τ Cert.BwdConvRefIdeal.sig) → Buf (Elt Ideal) ℓ) (g' : Dev Cert.BwdConvRefIdeal.nD → PrngReg), Pre_BwdConvIdeal m →
    (∀ c : Dev Cert.BwdConvIdeal.nD,
      m' ((c.tc : Thread Cert.BwdConvRefIdeal.nD Cert.BwdConvRefIdeal.τ).loc Cert.BwdConvRefIdeal.main_arg0) = m ((c.tc : Thread Cert.BwdConvIdeal.nD Cert.BwdConvIdeal.τ).loc Cert.BwdConvIdeal.main_arg0)
      ∧ m' ((c.tc : Thread Cert.BwdConvRefIdeal.nD Cert.BwdConvRefIdeal.τ).loc Cert.BwdConvRefIdeal.main_arg1) = m ((c.tc : Thread Cert.BwdConvIdeal.nD Cert.BwdConvIdeal.τ).loc Cert.BwdConvIdeal.main_arg1)
      ∧ m' ((c.tc : Thread Cert.BwdConvRefIdeal.nD Cert.BwdConvRefIdeal.τ).loc Cert.BwdConvRefIdeal.main_arg2) = m ((c.tc : Thread Cert.BwdConvIdeal.nD Cert.BwdConvIdeal.τ).loc Cert.BwdConvIdeal.main_arg2)
      ∧ m' ((c.tc : Thread Cert.BwdConvRefIdeal.nD Cert.BwdConvRefIdeal.τ).loc Cert.BwdConvRefIdeal.main_arg3) = m ((c.tc : Thread Cert.BwdConvIdeal.nD Cert.BwdConvIdeal.τ).loc Cert.BwdConvIdeal.main_arg3)) →
    ∃ (v0 : (c : Dev Cert.BwdConvIdeal.nD) → Buf (Elt Ideal) ((c.tc : Thread Cert.BwdConvIdeal.nD Cert.BwdConvIdeal.τ).loc Cert.BwdConvIdeal.main_v4_0)) (v1 : (c : Dev Cert.BwdConvIdeal.nD) → Buf (Elt Ideal) ((c.tc : Thread Cert.BwdConvIdeal.nD Cert.BwdConvIdeal.τ).loc Cert.BwdConvIdeal.main_v4_1)) (v2 : (c : Dev Cert.BwdConvIdeal.nD) → Buf (Elt Ideal) ((c.tc : Thread Cert.BwdConvIdeal.nD Cert.BwdConvIdeal.τ).loc Cert.BwdConvIdeal.main_v4_2)),
      θ_run (Cert.BwdConvIdeal.defs (F := Ideal)) (onTc (τ := Cert.BwdConvIdeal.τ) (Cert.BwdConvIdeal.main (F := Ideal))) ⟨m, fun _ => 0, g⟩ (fun r => ∀ c : Dev Cert.BwdConvIdeal.nD,
          r.2.mem ((c.tc : Thread Cert.BwdConvIdeal.nD Cert.BwdConvIdeal.τ).loc Cert.BwdConvIdeal.main_v4_0) = v0 c
          ∧ r.2.mem ((c.tc : Thread Cert.BwdConvIdeal.nD Cert.BwdConvIdeal.τ).loc Cert.BwdConvIdeal.main_v4_1) = v1 c
          ∧ r.2.mem ((c.tc : Thread Cert.BwdConvIdeal.nD Cert.BwdConvIdeal.τ).loc Cert.BwdConvIdeal.main_v4_2) = v2 c
          ∧ r.2.mem ((c.tc : Thread Cert.BwdConvIdeal.nD Cert.BwdConvIdeal.τ).loc Cert.BwdConvIdeal.main_arg0) = m ((c.tc : Thread Cert.BwdConvIdeal.nD Cert.BwdConvIdeal.τ).loc Cert.BwdConvIdeal.main_arg0)
          ∧ r.2.mem ((c.tc : Thread Cert.BwdConvIdeal.nD Cert.BwdConvIdeal.τ).loc Cert.BwdConvIdeal.main_arg1) = m ((c.tc : Thread Cert.BwdConvIdeal.nD Cert.BwdConvIdeal.τ).loc Cert.BwdConvIdeal.main_arg1)
          ∧ r.2.mem ((c.tc : Thread Cert.BwdConvIdeal.nD Cert.BwdConvIdeal.τ).loc Cert.BwdConvIdeal.main_arg2) = m ((c.tc : Thread Cert.BwdConvIdeal.nD Cert.BwdConvIdeal.τ).loc Cert.BwdConvIdeal.main_arg2)
          ∧ r.2.mem ((c.tc : Thread Cert.BwdConvIdeal.nD Cert.BwdConvIdeal.τ).loc Cert.BwdConvIdeal.main_arg3) = m ((c.tc : Thread Cert.BwdConvIdeal.nD Cert.BwdConvIdeal.τ).loc Cert.BwdConvIdeal.main_arg3))
      ∧ θ_run (Cert.BwdConvRefIdeal.defs (F := Ideal)) (onTc (τ := Cert.BwdConvRefIdeal.τ) (Cert.BwdConvRefIdeal.main (F := Ideal))) ⟨m', fun _ => 0, g'⟩ (fun r => ∀ c : Dev Cert.BwdConvRefIdeal.nD,
          r.2.mem ((c.tc : Thread Cert.BwdConvRefIdeal.nD Cert.BwdConvRefIdeal.τ).loc Cert.BwdConvRefIdeal.main_v90) = v0 c
          ∧ r.2.mem ((c.tc : Thread Cert.BwdConvRefIdeal.nD Cert.BwdConvRefIdeal.τ).loc Cert.BwdConvRefIdeal.main_v92) = v1 c
          ∧ r.2.mem ((c.tc : Thread Cert.BwdConvRefIdeal.nD Cert.BwdConvRefIdeal.τ).loc Cert.BwdConvRefIdeal.main_v85) = v2 c
          ∧ r.2.mem ((c.tc : Thread Cert.BwdConvRefIdeal.nD Cert.BwdConvRefIdeal.τ).loc Cert.BwdConvRefIdeal.main_arg0) = m' ((c.tc : Thread Cert.BwdConvRefIdeal.nD Cert.BwdConvRefIdeal.τ).loc Cert.BwdConvRefIdeal.main_arg0)
          ∧ r.2.mem ((c.tc : Thread Cert.BwdConvRefIdeal.nD Cert.BwdConvRefIdeal.τ).loc Cert.BwdConvRefIdeal.main_arg1) = m' ((c.tc : Thread Cert.BwdConvRefIdeal.nD Cert.BwdConvRefIdeal.τ).loc Cert.BwdConvRefIdeal.main_arg1)
          ∧ r.2.mem ((c.tc : Thread Cert.BwdConvRefIdeal.nD Cert.BwdConvRefIdeal.τ).loc Cert.BwdConvRefIdeal.main_arg2) = m' ((c.tc : Thread Cert.BwdConvRefIdeal.nD Cert.BwdConvRefIdeal.τ).loc Cert.BwdConvRefIdeal.main_arg2)
          ∧ r.2.mem ((c.tc : Thread Cert.BwdConvRefIdeal.nD Cert.BwdConvRefIdeal.τ).loc Cert.BwdConvRefIdeal.main_arg3) = m' ((c.tc : Thread Cert.BwdConvRefIdeal.nD Cert.BwdConvRefIdeal.τ).loc Cert.BwdConvRefIdeal.main_arg3))

def preserves_BwdMerge_BwdMergeIdeal : Prop :=
  True

def algebraic_BwdMergeIdeal_BwdMergeRefIdeal [hBwdMergeIdeal : Cert.BwdMergeIdeal.Facts] [hBwdMergeRefIdeal : Cert.BwdMergeRefIdeal.Facts] : Prop :=
  ∀ (m : (ℓ : Loc Cert.BwdMergeIdeal.nD Cert.BwdMergeIdeal.τ Cert.BwdMergeIdeal.sig) → Buf (Elt Ideal) ℓ) (g : Dev Cert.BwdMergeIdeal.nD → PrngReg)
    (m' : (ℓ : Loc Cert.BwdMergeRefIdeal.nD Cert.BwdMergeRefIdeal.τ Cert.BwdMergeRefIdeal.sig) → Buf (Elt Ideal) ℓ) (g' : Dev Cert.BwdMergeRefIdeal.nD → PrngReg), Pre_BwdMergeIdeal m →
    (∀ c : Dev Cert.BwdMergeIdeal.nD,
      m' ((c.tc : Thread Cert.BwdMergeRefIdeal.nD Cert.BwdMergeRefIdeal.τ).loc Cert.BwdMergeRefIdeal.main_arg0) = m ((c.tc : Thread Cert.BwdMergeIdeal.nD Cert.BwdMergeIdeal.τ).loc Cert.BwdMergeIdeal.main_arg0)
      ∧ m' ((c.tc : Thread Cert.BwdMergeRefIdeal.nD Cert.BwdMergeRefIdeal.τ).loc Cert.BwdMergeRefIdeal.main_arg1) = m ((c.tc : Thread Cert.BwdMergeIdeal.nD Cert.BwdMergeIdeal.τ).loc Cert.BwdMergeIdeal.main_arg1)
      ∧ m' ((c.tc : Thread Cert.BwdMergeRefIdeal.nD Cert.BwdMergeRefIdeal.τ).loc Cert.BwdMergeRefIdeal.main_arg2) = m ((c.tc : Thread Cert.BwdMergeIdeal.nD Cert.BwdMergeIdeal.τ).loc Cert.BwdMergeIdeal.main_arg2)
      ∧ m' ((c.tc : Thread Cert.BwdMergeRefIdeal.nD Cert.BwdMergeRefIdeal.τ).loc Cert.BwdMergeRefIdeal.main_arg3) = m ((c.tc : Thread Cert.BwdMergeIdeal.nD Cert.BwdMergeIdeal.τ).loc Cert.BwdMergeIdeal.main_arg3)
      ∧ m' ((c.tc : Thread Cert.BwdMergeRefIdeal.nD Cert.BwdMergeRefIdeal.τ).loc Cert.BwdMergeRefIdeal.main_arg4) = m ((c.tc : Thread Cert.BwdMergeIdeal.nD Cert.BwdMergeIdeal.τ).loc Cert.BwdMergeIdeal.main_arg4)
      ∧ m' ((c.tc : Thread Cert.BwdMergeRefIdeal.nD Cert.BwdMergeRefIdeal.τ).loc Cert.BwdMergeRefIdeal.main_arg5) = m ((c.tc : Thread Cert.BwdMergeIdeal.nD Cert.BwdMergeIdeal.τ).loc Cert.BwdMergeIdeal.main_arg5)
      ∧ m' ((c.tc : Thread Cert.BwdMergeRefIdeal.nD Cert.BwdMergeRefIdeal.τ).loc Cert.BwdMergeRefIdeal.main_arg6) = m ((c.tc : Thread Cert.BwdMergeIdeal.nD Cert.BwdMergeIdeal.τ).loc Cert.BwdMergeIdeal.main_arg6)) →
    ∃ (v0 : (c : Dev Cert.BwdMergeIdeal.nD) → Buf (Elt Ideal) ((c.tc : Thread Cert.BwdMergeIdeal.nD Cert.BwdMergeIdeal.τ).loc Cert.BwdMergeIdeal.main_v15_0)) (v1 : (c : Dev Cert.BwdMergeIdeal.nD) → Buf (Elt Ideal) ((c.tc : Thread Cert.BwdMergeIdeal.nD Cert.BwdMergeIdeal.τ).loc Cert.BwdMergeIdeal.main_v15_1)) (v2 : (c : Dev Cert.BwdMergeIdeal.nD) → Buf (Elt Ideal) ((c.tc : Thread Cert.BwdMergeIdeal.nD Cert.BwdMergeIdeal.τ).loc Cert.BwdMergeIdeal.main_v15_2)) (v3 : (c : Dev Cert.BwdMergeIdeal.nD) → Buf (Elt Ideal) ((c.tc : Thread Cert.BwdMergeIdeal.nD Cert.BwdMergeIdeal.τ).loc Cert.BwdMergeIdeal.main_v15_3)) (v4 : (c : Dev Cert.BwdMergeIdeal.nD) → Buf (Elt Ideal) ((c.tc : Thread Cert.BwdMergeIdeal.nD Cert.BwdMergeIdeal.τ).loc Cert.BwdMergeIdeal.main_v15_4)) (v5 : (c : Dev Cert.BwdMergeIdeal.nD) → Buf (Elt Ideal) ((c.tc : Thread Cert.BwdMergeIdeal.nD Cert.BwdMergeIdeal.τ).loc Cert.BwdMergeIdeal.main_v15_5)) (v6 : (c : Dev Cert.BwdMergeIdeal.nD) → Buf (Elt Ideal) ((c.tc : Thread Cert.BwdMergeIdeal.nD Cert.BwdMergeIdeal.τ).loc Cert.BwdMergeIdeal.main_v15_6)),
      θ_run (Cert.BwdMergeIdeal.defs (F := Ideal)) (onTc (τ := Cert.BwdMergeIdeal.τ) (Cert.BwdMergeIdeal.main (F := Ideal))) ⟨m, fun _ => 0, g⟩ (fun r => ∀ c : Dev Cert.BwdMergeIdeal.nD,
          r.2.mem ((c.tc : Thread Cert.BwdMergeIdeal.nD Cert.BwdMergeIdeal.τ).loc Cert.BwdMergeIdeal.main_v15_0) = v0 c
          ∧ r.2.mem ((c.tc : Thread Cert.BwdMergeIdeal.nD Cert.BwdMergeIdeal.τ).loc Cert.BwdMergeIdeal.main_v15_1) = v1 c
          ∧ r.2.mem ((c.tc : Thread Cert.BwdMergeIdeal.nD Cert.BwdMergeIdeal.τ).loc Cert.BwdMergeIdeal.main_v15_2) = v2 c
          ∧ r.2.mem ((c.tc : Thread Cert.BwdMergeIdeal.nD Cert.BwdMergeIdeal.τ).loc Cert.BwdMergeIdeal.main_v15_3) = v3 c
          ∧ r.2.mem ((c.tc : Thread Cert.BwdMergeIdeal.nD Cert.BwdMergeIdeal.τ).loc Cert.BwdMergeIdeal.main_v15_4) = v4 c
          ∧ r.2.mem ((c.tc : Thread Cert.BwdMergeIdeal.nD Cert.BwdMergeIdeal.τ).loc Cert.BwdMergeIdeal.main_v15_5) = v5 c
          ∧ r.2.mem ((c.tc : Thread Cert.BwdMergeIdeal.nD Cert.BwdMergeIdeal.τ).loc Cert.BwdMergeIdeal.main_v15_6) = v6 c
          ∧ r.2.mem ((c.tc : Thread Cert.BwdMergeIdeal.nD Cert.BwdMergeIdeal.τ).loc Cert.BwdMergeIdeal.main_arg0) = m ((c.tc : Thread Cert.BwdMergeIdeal.nD Cert.BwdMergeIdeal.τ).loc Cert.BwdMergeIdeal.main_arg0)
          ∧ r.2.mem ((c.tc : Thread Cert.BwdMergeIdeal.nD Cert.BwdMergeIdeal.τ).loc Cert.BwdMergeIdeal.main_arg1) = m ((c.tc : Thread Cert.BwdMergeIdeal.nD Cert.BwdMergeIdeal.τ).loc Cert.BwdMergeIdeal.main_arg1)
          ∧ r.2.mem ((c.tc : Thread Cert.BwdMergeIdeal.nD Cert.BwdMergeIdeal.τ).loc Cert.BwdMergeIdeal.main_arg2) = m ((c.tc : Thread Cert.BwdMergeIdeal.nD Cert.BwdMergeIdeal.τ).loc Cert.BwdMergeIdeal.main_arg2)
          ∧ r.2.mem ((c.tc : Thread Cert.BwdMergeIdeal.nD Cert.BwdMergeIdeal.τ).loc Cert.BwdMergeIdeal.main_arg3) = m ((c.tc : Thread Cert.BwdMergeIdeal.nD Cert.BwdMergeIdeal.τ).loc Cert.BwdMergeIdeal.main_arg3)
          ∧ r.2.mem ((c.tc : Thread Cert.BwdMergeIdeal.nD Cert.BwdMergeIdeal.τ).loc Cert.BwdMergeIdeal.main_arg4) = m ((c.tc : Thread Cert.BwdMergeIdeal.nD Cert.BwdMergeIdeal.τ).loc Cert.BwdMergeIdeal.main_arg4)
          ∧ r.2.mem ((c.tc : Thread Cert.BwdMergeIdeal.nD Cert.BwdMergeIdeal.τ).loc Cert.BwdMergeIdeal.main_arg5) = m ((c.tc : Thread Cert.BwdMergeIdeal.nD Cert.BwdMergeIdeal.τ).loc Cert.BwdMergeIdeal.main_arg5)
          ∧ r.2.mem ((c.tc : Thread Cert.BwdMergeIdeal.nD Cert.BwdMergeIdeal.τ).loc Cert.BwdMergeIdeal.main_arg6) = m ((c.tc : Thread Cert.BwdMergeIdeal.nD Cert.BwdMergeIdeal.τ).loc Cert.BwdMergeIdeal.main_arg6))
      ∧ θ_run (Cert.BwdMergeRefIdeal.defs (F := Ideal)) (onTc (τ := Cert.BwdMergeRefIdeal.τ) (Cert.BwdMergeRefIdeal.main (F := Ideal))) ⟨m', fun _ => 0, g'⟩ (fun r => ∀ c : Dev Cert.BwdMergeRefIdeal.nD,
          r.2.mem ((c.tc : Thread Cert.BwdMergeRefIdeal.nD Cert.BwdMergeRefIdeal.τ).loc Cert.BwdMergeRefIdeal.main_v46) = v0 c
          ∧ r.2.mem ((c.tc : Thread Cert.BwdMergeRefIdeal.nD Cert.BwdMergeRefIdeal.τ).loc Cert.BwdMergeRefIdeal.main_v47) = v1 c
          ∧ r.2.mem ((c.tc : Thread Cert.BwdMergeRefIdeal.nD Cert.BwdMergeRefIdeal.τ).loc Cert.BwdMergeRefIdeal.main_v48) = v2 c
          ∧ r.2.mem ((c.tc : Thread Cert.BwdMergeRefIdeal.nD Cert.BwdMergeRefIdeal.τ).loc Cert.BwdMergeRefIdeal.main_v50) = v3 c
          ∧ r.2.mem ((c.tc : Thread Cert.BwdMergeRefIdeal.nD Cert.BwdMergeRefIdeal.τ).loc Cert.BwdMergeRefIdeal.main_v52) = v4 c
          ∧ r.2.mem ((c.tc : Thread Cert.BwdMergeRefIdeal.nD Cert.BwdMergeRefIdeal.τ).loc Cert.BwdMergeRefIdeal.main_v54) = v5 c
          ∧ r.2.mem ((c.tc : Thread Cert.BwdMergeRefIdeal.nD Cert.BwdMergeRefIdeal.τ).loc Cert.BwdMergeRefIdeal.main_v56) = v6 c
          ∧ r.2.mem ((c.tc : Thread Cert.BwdMergeRefIdeal.nD Cert.BwdMergeRefIdeal.τ).loc Cert.BwdMergeRefIdeal.main_arg0) = m' ((c.tc : Thread Cert.BwdMergeRefIdeal.nD Cert.BwdMergeRefIdeal.τ).loc Cert.BwdMergeRefIdeal.main_arg0)
          ∧ r.2.mem ((c.tc : Thread Cert.BwdMergeRefIdeal.nD Cert.BwdMergeRefIdeal.τ).loc Cert.BwdMergeRefIdeal.main_arg1) = m' ((c.tc : Thread Cert.BwdMergeRefIdeal.nD Cert.BwdMergeRefIdeal.τ).loc Cert.BwdMergeRefIdeal.main_arg1)
          ∧ r.2.mem ((c.tc : Thread Cert.BwdMergeRefIdeal.nD Cert.BwdMergeRefIdeal.τ).loc Cert.BwdMergeRefIdeal.main_arg2) = m' ((c.tc : Thread Cert.BwdMergeRefIdeal.nD Cert.BwdMergeRefIdeal.τ).loc Cert.BwdMergeRefIdeal.main_arg2)
          ∧ r.2.mem ((c.tc : Thread Cert.BwdMergeRefIdeal.nD Cert.BwdMergeRefIdeal.τ).loc Cert.BwdMergeRefIdeal.main_arg3) = m' ((c.tc : Thread Cert.BwdMergeRefIdeal.nD Cert.BwdMergeRefIdeal.τ).loc Cert.BwdMergeRefIdeal.main_arg3)
          ∧ r.2.mem ((c.tc : Thread Cert.BwdMergeRefIdeal.nD Cert.BwdMergeRefIdeal.τ).loc Cert.BwdMergeRefIdeal.main_arg4) = m' ((c.tc : Thread Cert.BwdMergeRefIdeal.nD Cert.BwdMergeRefIdeal.τ).loc Cert.BwdMergeRefIdeal.main_arg4)
          ∧ r.2.mem ((c.tc : Thread Cert.BwdMergeRefIdeal.nD Cert.BwdMergeRefIdeal.τ).loc Cert.BwdMergeRefIdeal.main_arg5) = m' ((c.tc : Thread Cert.BwdMergeRefIdeal.nD Cert.BwdMergeRefIdeal.τ).loc Cert.BwdMergeRefIdeal.main_arg5)
          ∧ r.2.mem ((c.tc : Thread Cert.BwdMergeRefIdeal.nD Cert.BwdMergeRefIdeal.τ).loc Cert.BwdMergeRefIdeal.main_arg6) = m' ((c.tc : Thread Cert.BwdMergeRefIdeal.nD Cert.BwdMergeRefIdeal.τ).loc Cert.BwdMergeRefIdeal.main_arg6))

def preserves_Fsm_FsmIdeal : Prop :=
  IdealRules.named_const.Statement Cert.FsmIdeal.κ "k01" .f32 0x3D122279#32 ((80338380498831 / 2251799813685248 : ℝ) : EReal)

def algebraic_FsmIdeal_FsmRefIdeal [hFsmIdeal : Cert.FsmIdeal.Facts] [hFsmRefIdeal : Cert.FsmRefIdeal.Facts] : Prop :=
  ∀ (m : (ℓ : Loc Cert.FsmIdeal.nD Cert.FsmIdeal.τ Cert.FsmIdeal.sig) → Buf (Elt Ideal) ℓ) (g : Dev Cert.FsmIdeal.nD → PrngReg)
    (m' : (ℓ : Loc Cert.FsmRefIdeal.nD Cert.FsmRefIdeal.τ Cert.FsmRefIdeal.sig) → Buf (Elt Ideal) ℓ) (g' : Dev Cert.FsmRefIdeal.nD → PrngReg), Pre_FsmIdeal m →
    (∀ c : Dev Cert.FsmIdeal.nD,
      m' ((c.tc : Thread Cert.FsmRefIdeal.nD Cert.FsmRefIdeal.τ).loc Cert.FsmRefIdeal.main_arg0) = m ((c.tc : Thread Cert.FsmIdeal.nD Cert.FsmIdeal.τ).loc Cert.FsmIdeal.main_arg0)
      ∧ m' ((c.tc : Thread Cert.FsmRefIdeal.nD Cert.FsmRefIdeal.τ).loc Cert.FsmRefIdeal.main_arg1) = m ((c.tc : Thread Cert.FsmIdeal.nD Cert.FsmIdeal.τ).loc Cert.FsmIdeal.main_arg1)
      ∧ m' ((c.tc : Thread Cert.FsmRefIdeal.nD Cert.FsmRefIdeal.τ).loc Cert.FsmRefIdeal.main_arg2) = m ((c.tc : Thread Cert.FsmIdeal.nD Cert.FsmIdeal.τ).loc Cert.FsmIdeal.main_arg2)
      ∧ m' ((c.tc : Thread Cert.FsmRefIdeal.nD Cert.FsmRefIdeal.τ).loc Cert.FsmRefIdeal.main_arg3) = m ((c.tc : Thread Cert.FsmIdeal.nD Cert.FsmIdeal.τ).loc Cert.FsmIdeal.main_arg3)
      ∧ m' ((c.tc : Thread Cert.FsmRefIdeal.nD Cert.FsmRefIdeal.τ).loc Cert.FsmRefIdeal.main_arg4) = m ((c.tc : Thread Cert.FsmIdeal.nD Cert.FsmIdeal.τ).loc Cert.FsmIdeal.main_arg4)
      ∧ m' ((c.tc : Thread Cert.FsmRefIdeal.nD Cert.FsmRefIdeal.τ).loc Cert.FsmRefIdeal.main_arg5) = m ((c.tc : Thread Cert.FsmIdeal.nD Cert.FsmIdeal.τ).loc Cert.FsmIdeal.main_arg5)
      ∧ m' ((c.tc : Thread Cert.FsmRefIdeal.nD Cert.FsmRefIdeal.τ).loc Cert.FsmRefIdeal.main_arg6) = m ((c.tc : Thread Cert.FsmIdeal.nD Cert.FsmIdeal.τ).loc Cert.FsmIdeal.main_arg6)
      ∧ m' ((c.tc : Thread Cert.FsmRefIdeal.nD Cert.FsmRefIdeal.τ).loc Cert.FsmRefIdeal.main_arg7) = m ((c.tc : Thread Cert.FsmIdeal.nD Cert.FsmIdeal.τ).loc Cert.FsmIdeal.main_arg7)
      ∧ m' ((c.tc : Thread Cert.FsmRefIdeal.nD Cert.FsmRefIdeal.τ).loc Cert.FsmRefIdeal.main_arg8) = m ((c.tc : Thread Cert.FsmIdeal.nD Cert.FsmIdeal.τ).loc Cert.FsmIdeal.main_arg8)
      ∧ m' ((c.tc : Thread Cert.FsmRefIdeal.nD Cert.FsmRefIdeal.τ).loc Cert.FsmRefIdeal.main_arg9) = m ((c.tc : Thread Cert.FsmIdeal.nD Cert.FsmIdeal.τ).loc Cert.FsmIdeal.main_arg9)
      ∧ m' ((c.tc : Thread Cert.FsmRefIdeal.nD Cert.FsmRefIdeal.τ).loc Cert.FsmRefIdeal.main_arg10) = m ((c.tc : Thread Cert.FsmIdeal.nD Cert.FsmIdeal.τ).loc Cert.FsmIdeal.main_arg10)) →
    ∃ (v0 : (c : Dev Cert.FsmIdeal.nD) → Buf (Elt Ideal) ((c.tc : Thread Cert.FsmIdeal.nD Cert.FsmIdeal.τ).loc Cert.FsmIdeal.main_v17_0)) (v1 : (c : Dev Cert.FsmIdeal.nD) → Buf (Elt Ideal) ((c.tc : Thread Cert.FsmIdeal.nD Cert.FsmIdeal.τ).loc Cert.FsmIdeal.main_v17_1)) (v2 : (c : Dev Cert.FsmIdeal.nD) → Buf (Elt Ideal) ((c.tc : Thread Cert.FsmIdeal.nD Cert.FsmIdeal.τ).loc Cert.FsmIdeal.main_v17_2)) (v3 : (c : Dev Cert.FsmIdeal.nD) → Buf (Elt Ideal) ((c.tc : Thread Cert.FsmIdeal.nD Cert.FsmIdeal.τ).loc Cert.FsmIdeal.main_v17_3)) (v4 : (c : Dev Cert.FsmIdeal.nD) → Buf (Elt Ideal) ((c.tc : Thread Cert.FsmIdeal.nD Cert.FsmIdeal.τ).loc Cert.FsmIdeal.main_v17_4)),
      θ_run (Cert.FsmIdeal.defs (F := Ideal)) (onTc (τ := Cert.FsmIdeal.τ) (Cert.FsmIdeal.main (F := Ideal))) ⟨m, fun _ => 0, g⟩ (fun r => ∀ c : Dev Cert.FsmIdeal.nD,
          r.2.mem ((c.tc : Thread Cert.FsmIdeal.nD Cert.FsmIdeal.τ).loc Cert.FsmIdeal.main_v17_0) = v0 c
          ∧ r.2.mem ((c.tc : Thread Cert.FsmIdeal.nD Cert.FsmIdeal.τ).loc Cert.FsmIdeal.main_v17_1) = v1 c
          ∧ r.2.mem ((c.tc : Thread Cert.FsmIdeal.nD Cert.FsmIdeal.τ).loc Cert.FsmIdeal.main_v17_2) = v2 c
          ∧ r.2.mem ((c.tc : Thread Cert.FsmIdeal.nD Cert.FsmIdeal.τ).loc Cert.FsmIdeal.main_v17_3) = v3 c
          ∧ r.2.mem ((c.tc : Thread Cert.FsmIdeal.nD Cert.FsmIdeal.τ).loc Cert.FsmIdeal.main_v17_4) = v4 c
          ∧ r.2.mem ((c.tc : Thread Cert.FsmIdeal.nD Cert.FsmIdeal.τ).loc Cert.FsmIdeal.main_arg0) = m ((c.tc : Thread Cert.FsmIdeal.nD Cert.FsmIdeal.τ).loc Cert.FsmIdeal.main_arg0)
          ∧ r.2.mem ((c.tc : Thread Cert.FsmIdeal.nD Cert.FsmIdeal.τ).loc Cert.FsmIdeal.main_arg1) = m ((c.tc : Thread Cert.FsmIdeal.nD Cert.FsmIdeal.τ).loc Cert.FsmIdeal.main_arg1)
          ∧ r.2.mem ((c.tc : Thread Cert.FsmIdeal.nD Cert.FsmIdeal.τ).loc Cert.FsmIdeal.main_arg2) = m ((c.tc : Thread Cert.FsmIdeal.nD Cert.FsmIdeal.τ).loc Cert.FsmIdeal.main_arg2)
          ∧ r.2.mem ((c.tc : Thread Cert.FsmIdeal.nD Cert.FsmIdeal.τ).loc Cert.FsmIdeal.main_arg3) = m ((c.tc : Thread Cert.FsmIdeal.nD Cert.FsmIdeal.τ).loc Cert.FsmIdeal.main_arg3)
          ∧ r.2.mem ((c.tc : Thread Cert.FsmIdeal.nD Cert.FsmIdeal.τ).loc Cert.FsmIdeal.main_arg4) = m ((c.tc : Thread Cert.FsmIdeal.nD Cert.FsmIdeal.τ).loc Cert.FsmIdeal.main_arg4)
          ∧ r.2.mem ((c.tc : Thread Cert.FsmIdeal.nD Cert.FsmIdeal.τ).loc Cert.FsmIdeal.main_arg5) = m ((c.tc : Thread Cert.FsmIdeal.nD Cert.FsmIdeal.τ).loc Cert.FsmIdeal.main_arg5)
          ∧ r.2.mem ((c.tc : Thread Cert.FsmIdeal.nD Cert.FsmIdeal.τ).loc Cert.FsmIdeal.main_arg6) = m ((c.tc : Thread Cert.FsmIdeal.nD Cert.FsmIdeal.τ).loc Cert.FsmIdeal.main_arg6)
          ∧ r.2.mem ((c.tc : Thread Cert.FsmIdeal.nD Cert.FsmIdeal.τ).loc Cert.FsmIdeal.main_arg7) = m ((c.tc : Thread Cert.FsmIdeal.nD Cert.FsmIdeal.τ).loc Cert.FsmIdeal.main_arg7)
          ∧ r.2.mem ((c.tc : Thread Cert.FsmIdeal.nD Cert.FsmIdeal.τ).loc Cert.FsmIdeal.main_arg8) = m ((c.tc : Thread Cert.FsmIdeal.nD Cert.FsmIdeal.τ).loc Cert.FsmIdeal.main_arg8)
          ∧ r.2.mem ((c.tc : Thread Cert.FsmIdeal.nD Cert.FsmIdeal.τ).loc Cert.FsmIdeal.main_arg9) = m ((c.tc : Thread Cert.FsmIdeal.nD Cert.FsmIdeal.τ).loc Cert.FsmIdeal.main_arg9)
          ∧ r.2.mem ((c.tc : Thread Cert.FsmIdeal.nD Cert.FsmIdeal.τ).loc Cert.FsmIdeal.main_arg10) = m ((c.tc : Thread Cert.FsmIdeal.nD Cert.FsmIdeal.τ).loc Cert.FsmIdeal.main_arg10))
      ∧ θ_run (Cert.FsmRefIdeal.defs (F := Ideal)) (onTc (τ := Cert.FsmRefIdeal.τ) (Cert.FsmRefIdeal.main (F := Ideal))) ⟨m', fun _ => 0, g'⟩ (fun r => ∀ c : Dev Cert.FsmRefIdeal.nD,
          r.2.mem ((c.tc : Thread Cert.FsmRefIdeal.nD Cert.FsmRefIdeal.τ).loc Cert.FsmRefIdeal.main_v110) = v0 c
          ∧ r.2.mem ((c.tc : Thread Cert.FsmRefIdeal.nD Cert.FsmRefIdeal.τ).loc Cert.FsmRefIdeal.main_v111) = v1 c
          ∧ r.2.mem ((c.tc : Thread Cert.FsmRefIdeal.nD Cert.FsmRefIdeal.τ).loc Cert.FsmRefIdeal.main_v112) = v2 c
          ∧ r.2.mem ((c.tc : Thread Cert.FsmRefIdeal.nD Cert.FsmRefIdeal.τ).loc Cert.FsmRefIdeal.main_v113) = v3 c
          ∧ r.2.mem ((c.tc : Thread Cert.FsmRefIdeal.nD Cert.FsmRefIdeal.τ).loc Cert.FsmRefIdeal.main_v115) = v4 c
          ∧ r.2.mem ((c.tc : Thread Cert.FsmRefIdeal.nD Cert.FsmRefIdeal.τ).loc Cert.FsmRefIdeal.main_arg0) = m' ((c.tc : Thread Cert.FsmRefIdeal.nD Cert.FsmRefIdeal.τ).loc Cert.FsmRefIdeal.main_arg0)
          ∧ r.2.mem ((c.tc : Thread Cert.FsmRefIdeal.nD Cert.FsmRefIdeal.τ).loc Cert.FsmRefIdeal.main_arg1) = m' ((c.tc : Thread Cert.FsmRefIdeal.nD Cert.FsmRefIdeal.τ).loc Cert.FsmRefIdeal.main_arg1)
          ∧ r.2.mem ((c.tc : Thread Cert.FsmRefIdeal.nD Cert.FsmRefIdeal.τ).loc Cert.FsmRefIdeal.main_arg2) = m' ((c.tc : Thread Cert.FsmRefIdeal.nD Cert.FsmRefIdeal.τ).loc Cert.FsmRefIdeal.main_arg2)
          ∧ r.2.mem ((c.tc : Thread Cert.FsmRefIdeal.nD Cert.FsmRefIdeal.τ).loc Cert.FsmRefIdeal.main_arg3) = m' ((c.tc : Thread Cert.FsmRefIdeal.nD Cert.FsmRefIdeal.τ).loc Cert.FsmRefIdeal.main_arg3)
          ∧ r.2.mem ((c.tc : Thread Cert.FsmRefIdeal.nD Cert.FsmRefIdeal.τ).loc Cert.FsmRefIdeal.main_arg4) = m' ((c.tc : Thread Cert.FsmRefIdeal.nD Cert.FsmRefIdeal.τ).loc Cert.FsmRefIdeal.main_arg4)
          ∧ r.2.mem ((c.tc : Thread Cert.FsmRefIdeal.nD Cert.FsmRefIdeal.τ).loc Cert.FsmRefIdeal.main_arg5) = m' ((c.tc : Thread Cert.FsmRefIdeal.nD Cert.FsmRefIdeal.τ).loc Cert.FsmRefIdeal.main_arg5)
          ∧ r.2.mem ((c.tc : Thread Cert.FsmRefIdeal.nD Cert.FsmRefIdeal.τ).loc Cert.FsmRefIdeal.main_arg6) = m' ((c.tc : Thread Cert.FsmRefIdeal.nD Cert.FsmRefIdeal.τ).loc Cert.FsmRefIdeal.main_arg6)
          ∧ r.2.mem ((c.tc : Thread Cert.FsmRefIdeal.nD Cert.FsmRefIdeal.τ).loc Cert.FsmRefIdeal.main_arg7) = m' ((c.tc : Thread Cert.FsmRefIdeal.nD Cert.FsmRefIdeal.τ).loc Cert.FsmRefIdeal.main_arg7)
          ∧ r.2.mem ((c.tc : Thread Cert.FsmRefIdeal.nD Cert.FsmRefIdeal.τ).loc Cert.FsmRefIdeal.main_arg8) = m' ((c.tc : Thread Cert.FsmRefIdeal.nD Cert.FsmRefIdeal.τ).loc Cert.FsmRefIdeal.main_arg8)
          ∧ r.2.mem ((c.tc : Thread Cert.FsmRefIdeal.nD Cert.FsmRefIdeal.τ).loc Cert.FsmRefIdeal.main_arg9) = m' ((c.tc : Thread Cert.FsmRefIdeal.nD Cert.FsmRefIdeal.τ).loc Cert.FsmRefIdeal.main_arg9)
          ∧ r.2.mem ((c.tc : Thread Cert.FsmRefIdeal.nD Cert.FsmRefIdeal.τ).loc Cert.FsmRefIdeal.main_arg10) = m' ((c.tc : Thread Cert.FsmRefIdeal.nD Cert.FsmRefIdeal.τ).loc Cert.FsmRefIdeal.main_arg10))

def preserves_Wgrad_WgradIdeal : Prop :=
  True

def algebraic_WgradIdeal_WgradRefIdeal [hWgradIdeal : Cert.WgradIdeal.Facts] [hWgradRefIdeal : Cert.WgradRefIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)
      ∧ m' ((c.tc : Thread Cert.WgradRefIdeal.nD Cert.WgradRefIdeal.τ).loc Cert.WgradRefIdeal.main_arg2) = m ((c.tc : Thread Cert.WgradIdeal.nD Cert.WgradIdeal.τ).loc Cert.WgradIdeal.main_arg2)) →
    ∃ (v0 : (c : Dev Cert.WgradIdeal.nD) → Buf (Elt Ideal) ((c.tc : Thread Cert.WgradIdeal.nD Cert.WgradIdeal.τ).loc Cert.WgradIdeal.main_v14)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v14) = v0 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
          ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v25) = v0 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1)
          ∧ r.2.mem ((c.tc : Thread Cert.WgradRefIdeal.nD Cert.WgradRefIdeal.τ).loc Cert.WgradRefIdeal.main_arg2) = m' ((c.tc : Thread Cert.WgradRefIdeal.nD Cert.WgradRefIdeal.τ).loc Cert.WgradRefIdeal.main_arg2))

def preserves_Wsq_WsqIdeal : Prop :=
  True

def algebraic_WsqIdeal_WsqRefIdeal [hWsqIdeal : Cert.WsqIdeal.Facts] [hWsqRefIdeal : Cert.WsqRefIdeal.Facts] : Prop :=
  ∀ (m : (ℓ : Loc Cert.WsqIdeal.nD Cert.WsqIdeal.τ Cert.WsqIdeal.sig) → Buf (Elt Ideal) ℓ) (g : Dev Cert.WsqIdeal.nD → PrngReg)
    (m' : (ℓ : Loc Cert.WsqRefIdeal.nD Cert.WsqRefIdeal.τ Cert.WsqRefIdeal.sig) → Buf (Elt Ideal) ℓ) (g' : Dev Cert.WsqRefIdeal.nD → PrngReg), Pre_WsqIdeal m →
    (∀ c : Dev Cert.WsqIdeal.nD,
      m' ((c.tc : Thread Cert.WsqRefIdeal.nD Cert.WsqRefIdeal.τ).loc Cert.WsqRefIdeal.main_arg0) = m ((c.tc : Thread Cert.WsqIdeal.nD Cert.WsqIdeal.τ).loc Cert.WsqIdeal.main_arg0)
      ∧ m' ((c.tc : Thread Cert.WsqRefIdeal.nD Cert.WsqRefIdeal.τ).loc Cert.WsqRefIdeal.main_arg1) = m ((c.tc : Thread Cert.WsqIdeal.nD Cert.WsqIdeal.τ).loc Cert.WsqIdeal.main_arg1)
      ∧ m' ((c.tc : Thread Cert.WsqRefIdeal.nD Cert.WsqRefIdeal.τ).loc Cert.WsqRefIdeal.main_arg2) = m ((c.tc : Thread Cert.WsqIdeal.nD Cert.WsqIdeal.τ).loc Cert.WsqIdeal.main_arg2)
      ∧ m' ((c.tc : Thread Cert.WsqRefIdeal.nD Cert.WsqRefIdeal.τ).loc Cert.WsqRefIdeal.main_arg3) = m ((c.tc : Thread Cert.WsqIdeal.nD Cert.WsqIdeal.τ).loc Cert.WsqIdeal.main_arg3)
      ∧ m' ((c.tc : Thread Cert.WsqRefIdeal.nD Cert.WsqRefIdeal.τ).loc Cert.WsqRefIdeal.main_arg4) = m ((c.tc : Thread Cert.WsqIdeal.nD Cert.WsqIdeal.τ).loc Cert.WsqIdeal.main_arg4)
      ∧ m' ((c.tc : Thread Cert.WsqRefIdeal.nD Cert.WsqRefIdeal.τ).loc Cert.WsqRefIdeal.main_arg5) = m ((c.tc : Thread Cert.WsqIdeal.nD Cert.WsqIdeal.τ).loc Cert.WsqIdeal.main_arg5)) →
    ∃ (v0 : (c : Dev Cert.WsqIdeal.nD) → Buf (Elt Ideal) ((c.tc : Thread Cert.WsqIdeal.nD Cert.WsqIdeal.τ).loc Cert.WsqIdeal.main_v12_0)) (v1 : (c : Dev Cert.WsqIdeal.nD) → Buf (Elt Ideal) ((c.tc : Thread Cert.WsqIdeal.nD Cert.WsqIdeal.τ).loc Cert.WsqIdeal.main_v12_1)) (v2 : (c : Dev Cert.WsqIdeal.nD) → Buf (Elt Ideal) ((c.tc : Thread Cert.WsqIdeal.nD Cert.WsqIdeal.τ).loc Cert.WsqIdeal.main_v12_2)),
      θ_run (Cert.WsqIdeal.defs (F := Ideal)) (onTc (τ := Cert.WsqIdeal.τ) (Cert.WsqIdeal.main (F := Ideal))) ⟨m, fun _ => 0, g⟩ (fun r => ∀ c : Dev Cert.WsqIdeal.nD,
          r.2.mem ((c.tc : Thread Cert.WsqIdeal.nD Cert.WsqIdeal.τ).loc Cert.WsqIdeal.main_v12_0) = v0 c
          ∧ r.2.mem ((c.tc : Thread Cert.WsqIdeal.nD Cert.WsqIdeal.τ).loc Cert.WsqIdeal.main_v12_1) = v1 c
          ∧ r.2.mem ((c.tc : Thread Cert.WsqIdeal.nD Cert.WsqIdeal.τ).loc Cert.WsqIdeal.main_v12_2) = v2 c
          ∧ r.2.mem ((c.tc : Thread Cert.WsqIdeal.nD Cert.WsqIdeal.τ).loc Cert.WsqIdeal.main_arg0) = m ((c.tc : Thread Cert.WsqIdeal.nD Cert.WsqIdeal.τ).loc Cert.WsqIdeal.main_arg0)
          ∧ r.2.mem ((c.tc : Thread Cert.WsqIdeal.nD Cert.WsqIdeal.τ).loc Cert.WsqIdeal.main_arg1) = m ((c.tc : Thread Cert.WsqIdeal.nD Cert.WsqIdeal.τ).loc Cert.WsqIdeal.main_arg1)
          ∧ r.2.mem ((c.tc : Thread Cert.WsqIdeal.nD Cert.WsqIdeal.τ).loc Cert.WsqIdeal.main_arg2) = m ((c.tc : Thread Cert.WsqIdeal.nD Cert.WsqIdeal.τ).loc Cert.WsqIdeal.main_arg2)
          ∧ r.2.mem ((c.tc : Thread Cert.WsqIdeal.nD Cert.WsqIdeal.τ).loc Cert.WsqIdeal.main_arg3) = m ((c.tc : Thread Cert.WsqIdeal.nD Cert.WsqIdeal.τ).loc Cert.WsqIdeal.main_arg3)
          ∧ r.2.mem ((c.tc : Thread Cert.WsqIdeal.nD Cert.WsqIdeal.τ).loc Cert.WsqIdeal.main_arg4) = m ((c.tc : Thread Cert.WsqIdeal.nD Cert.WsqIdeal.τ).loc Cert.WsqIdeal.main_arg4)
          ∧ r.2.mem ((c.tc : Thread Cert.WsqIdeal.nD Cert.WsqIdeal.τ).loc Cert.WsqIdeal.main_arg5) = m ((c.tc : Thread Cert.WsqIdeal.nD Cert.WsqIdeal.τ).loc Cert.WsqIdeal.main_arg5))
      ∧ θ_run (Cert.WsqRefIdeal.defs (F := Ideal)) (onTc (τ := Cert.WsqRefIdeal.τ) (Cert.WsqRefIdeal.main (F := Ideal))) ⟨m', fun _ => 0, g'⟩ (fun r => ∀ c : Dev Cert.WsqRefIdeal.nD,
          r.2.mem ((c.tc : Thread Cert.WsqRefIdeal.nD Cert.WsqRefIdeal.τ).loc Cert.WsqRefIdeal.main_v17) = v0 c
          ∧ r.2.mem ((c.tc : Thread Cert.WsqRefIdeal.nD Cert.WsqRefIdeal.τ).loc Cert.WsqRefIdeal.main_v19) = v1 c
          ∧ r.2.mem ((c.tc : Thread Cert.WsqRefIdeal.nD Cert.WsqRefIdeal.τ).loc Cert.WsqRefIdeal.main_v21) = v2 c
          ∧ r.2.mem ((c.tc : Thread Cert.WsqRefIdeal.nD Cert.WsqRefIdeal.τ).loc Cert.WsqRefIdeal.main_arg0) = m' ((c.tc : Thread Cert.WsqRefIdeal.nD Cert.WsqRefIdeal.τ).loc Cert.WsqRefIdeal.main_arg0)
          ∧ r.2.mem ((c.tc : Thread Cert.WsqRefIdeal.nD Cert.WsqRefIdeal.τ).loc Cert.WsqRefIdeal.main_arg1) = m' ((c.tc : Thread Cert.WsqRefIdeal.nD Cert.WsqRefIdeal.τ).loc Cert.WsqRefIdeal.main_arg1)
          ∧ r.2.mem ((c.tc : Thread Cert.WsqRefIdeal.nD Cert.WsqRefIdeal.τ).loc Cert.WsqRefIdeal.main_arg2) = m' ((c.tc : Thread Cert.WsqRefIdeal.nD Cert.WsqRefIdeal.τ).loc Cert.WsqRefIdeal.main_arg2)
          ∧ r.2.mem ((c.tc : Thread Cert.WsqRefIdeal.nD Cert.WsqRefIdeal.τ).loc Cert.WsqRefIdeal.main_arg3) = m' ((c.tc : Thread Cert.WsqRefIdeal.nD Cert.WsqRefIdeal.τ).loc Cert.WsqRefIdeal.main_arg3)
          ∧ r.2.mem ((c.tc : Thread Cert.WsqRefIdeal.nD Cert.WsqRefIdeal.τ).loc Cert.WsqRefIdeal.main_arg4) = m' ((c.tc : Thread Cert.WsqRefIdeal.nD Cert.WsqRefIdeal.τ).loc Cert.WsqRefIdeal.main_arg4)
          ∧ r.2.mem ((c.tc : Thread Cert.WsqRefIdeal.nD Cert.WsqRefIdeal.τ).loc Cert.WsqRefIdeal.main_arg5) = m' ((c.tc : Thread Cert.WsqRefIdeal.nD Cert.WsqRefIdeal.τ).loc Cert.WsqRefIdeal.main_arg5))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)
      ∧ m' ((c.tc : Thread Cert.AdamwRefIdeal.nD Cert.AdamwRefIdeal.τ).loc Cert.AdamwRefIdeal.main_arg4) = m ((c.tc : Thread Cert.AdamwIdeal.nD Cert.AdamwIdeal.τ).loc Cert.AdamwIdeal.main_arg4)
      ∧ m' ((c.tc : Thread Cert.AdamwRefIdeal.nD Cert.AdamwRefIdeal.τ).loc Cert.AdamwRefIdeal.main_arg5) = m ((c.tc : Thread Cert.AdamwIdeal.nD Cert.AdamwIdeal.τ).loc Cert.AdamwIdeal.main_arg5)
      ∧ m' ((c.tc : Thread Cert.AdamwRefIdeal.nD Cert.AdamwRefIdeal.τ).loc Cert.AdamwRefIdeal.main_arg6) = m ((c.tc : Thread Cert.AdamwIdeal.nD Cert.AdamwIdeal.τ).loc Cert.AdamwIdeal.main_arg6)
      ∧ m' ((c.tc : Thread Cert.AdamwRefIdeal.nD Cert.AdamwRefIdeal.τ).loc Cert.AdamwRefIdeal.main_arg7) = m ((c.tc : Thread Cert.AdamwIdeal.nD Cert.AdamwIdeal.τ).loc Cert.AdamwIdeal.main_arg7)
      ∧ m' ((c.tc : Thread Cert.AdamwRefIdeal.nD Cert.AdamwRefIdeal.τ).loc Cert.AdamwRefIdeal.main_arg8) = m ((c.tc : Thread Cert.AdamwIdeal.nD Cert.AdamwIdeal.τ).loc Cert.AdamwIdeal.main_arg8)
      ∧ m' ((c.tc : Thread Cert.AdamwRefIdeal.nD Cert.AdamwRefIdeal.τ).loc Cert.AdamwRefIdeal.main_arg9) = m ((c.tc : Thread Cert.AdamwIdeal.nD Cert.AdamwIdeal.τ).loc Cert.AdamwIdeal.main_arg9)
      ∧ m' ((c.tc : Thread Cert.AdamwRefIdeal.nD Cert.AdamwRefIdeal.τ).loc Cert.AdamwRefIdeal.main_arg10) = m ((c.tc : Thread Cert.AdamwIdeal.nD Cert.AdamwIdeal.τ).loc Cert.AdamwIdeal.main_arg10)
      ∧ m' ((c.tc : Thread Cert.AdamwRefIdeal.nD Cert.AdamwRefIdeal.τ).loc Cert.AdamwRefIdeal.main_arg11) = m ((c.tc : Thread Cert.AdamwIdeal.nD Cert.AdamwIdeal.τ).loc Cert.AdamwIdeal.main_arg11)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)) (v3 : (c : Dev Cert.AdamwIdeal.nD) → Buf (Elt Ideal) ((c.tc : Thread Cert.AdamwIdeal.nD Cert.AdamwIdeal.τ).loc Cert.AdamwIdeal.main_v0_3)) (v4 : (c : Dev Cert.AdamwIdeal.nD) → Buf (Elt Ideal) ((c.tc : Thread Cert.AdamwIdeal.nD Cert.AdamwIdeal.τ).loc Cert.AdamwIdeal.main_v0_4)) (v5 : (c : Dev Cert.AdamwIdeal.nD) → Buf (Elt Ideal) ((c.tc : Thread Cert.AdamwIdeal.nD Cert.AdamwIdeal.τ).loc Cert.AdamwIdeal.main_v0_5)) (v6 : (c : Dev Cert.AdamwIdeal.nD) → Buf (Elt Ideal) ((c.tc : Thread Cert.AdamwIdeal.nD Cert.AdamwIdeal.τ).loc Cert.AdamwIdeal.main_v0_6)) (v7 : (c : Dev Cert.AdamwIdeal.nD) → Buf (Elt Ideal) ((c.tc : Thread Cert.AdamwIdeal.nD Cert.AdamwIdeal.τ).loc Cert.AdamwIdeal.main_v0_7)) (v8 : (c : Dev Cert.AdamwIdeal.nD) → Buf (Elt Ideal) ((c.tc : Thread Cert.AdamwIdeal.nD Cert.AdamwIdeal.τ).loc Cert.AdamwIdeal.main_v0_8)) (v9 : (c : Dev Cert.AdamwIdeal.nD) → Buf (Elt Ideal) ((c.tc : Thread Cert.AdamwIdeal.nD Cert.AdamwIdeal.τ).loc Cert.AdamwIdeal.main_v0_9)) (v10 : (c : Dev Cert.AdamwIdeal.nD) → Buf (Elt Ideal) ((c.tc : Thread Cert.AdamwIdeal.nD Cert.AdamwIdeal.τ).loc Cert.AdamwIdeal.main_v0_10)) (v11 : (c : Dev Cert.AdamwIdeal.nD) → Buf (Elt Ideal) ((c.tc : Thread Cert.AdamwIdeal.nD Cert.AdamwIdeal.τ).loc Cert.AdamwIdeal.main_v0_11)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_v0_3) = v3 c
          ∧ r.2.mem ((c.tc : Thread Cert.AdamwIdeal.nD Cert.AdamwIdeal.τ).loc Cert.AdamwIdeal.main_v0_4) = v4 c
          ∧ r.2.mem ((c.tc : Thread Cert.AdamwIdeal.nD Cert.AdamwIdeal.τ).loc Cert.AdamwIdeal.main_v0_5) = v5 c
          ∧ r.2.mem ((c.tc : Thread Cert.AdamwIdeal.nD Cert.AdamwIdeal.τ).loc Cert.AdamwIdeal.main_v0_6) = v6 c
          ∧ r.2.mem ((c.tc : Thread Cert.AdamwIdeal.nD Cert.AdamwIdeal.τ).loc Cert.AdamwIdeal.main_v0_7) = v7 c
          ∧ r.2.mem ((c.tc : Thread Cert.AdamwIdeal.nD Cert.AdamwIdeal.τ).loc Cert.AdamwIdeal.main_v0_8) = v8 c
          ∧ r.2.mem ((c.tc : Thread Cert.AdamwIdeal.nD Cert.AdamwIdeal.τ).loc Cert.AdamwIdeal.main_v0_9) = v9 c
          ∧ r.2.mem ((c.tc : Thread Cert.AdamwIdeal.nD Cert.AdamwIdeal.τ).loc Cert.AdamwIdeal.main_v0_10) = v10 c
          ∧ r.2.mem ((c.tc : Thread Cert.AdamwIdeal.nD Cert.AdamwIdeal.τ).loc Cert.AdamwIdeal.main_v0_11) = v11 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3)
          ∧ r.2.mem ((c.tc : Thread Cert.AdamwIdeal.nD Cert.AdamwIdeal.τ).loc Cert.AdamwIdeal.main_arg4) = m ((c.tc : Thread Cert.AdamwIdeal.nD Cert.AdamwIdeal.τ).loc Cert.AdamwIdeal.main_arg4)
          ∧ r.2.mem ((c.tc : Thread Cert.AdamwIdeal.nD Cert.AdamwIdeal.τ).loc Cert.AdamwIdeal.main_arg5) = m ((c.tc : Thread Cert.AdamwIdeal.nD Cert.AdamwIdeal.τ).loc Cert.AdamwIdeal.main_arg5)
          ∧ r.2.mem ((c.tc : Thread Cert.AdamwIdeal.nD Cert.AdamwIdeal.τ).loc Cert.AdamwIdeal.main_arg6) = m ((c.tc : Thread Cert.AdamwIdeal.nD Cert.AdamwIdeal.τ).loc Cert.AdamwIdeal.main_arg6)
          ∧ r.2.mem ((c.tc : Thread Cert.AdamwIdeal.nD Cert.AdamwIdeal.τ).loc Cert.AdamwIdeal.main_arg7) = m ((c.tc : Thread Cert.AdamwIdeal.nD Cert.AdamwIdeal.τ).loc Cert.AdamwIdeal.main_arg7)
          ∧ r.2.mem ((c.tc : Thread Cert.AdamwIdeal.nD Cert.AdamwIdeal.τ).loc Cert.AdamwIdeal.main_arg8) = m ((c.tc : Thread Cert.AdamwIdeal.nD Cert.AdamwIdeal.τ).loc Cert.AdamwIdeal.main_arg8)
          ∧ r.2.mem ((c.tc : Thread Cert.AdamwIdeal.nD Cert.AdamwIdeal.τ).loc Cert.AdamwIdeal.main_arg9) = m ((c.tc : Thread Cert.AdamwIdeal.nD Cert.AdamwIdeal.τ).loc Cert.AdamwIdeal.main_arg9)
          ∧ r.2.mem ((c.tc : Thread Cert.AdamwIdeal.nD Cert.AdamwIdeal.τ).loc Cert.AdamwIdeal.main_arg10) = m ((c.tc : Thread Cert.AdamwIdeal.nD Cert.AdamwIdeal.τ).loc Cert.AdamwIdeal.main_arg10)
          ∧ r.2.mem ((c.tc : Thread Cert.AdamwIdeal.nD Cert.AdamwIdeal.τ).loc Cert.AdamwIdeal.main_arg11) = m ((c.tc : Thread Cert.AdamwIdeal.nD Cert.AdamwIdeal.τ).loc Cert.AdamwIdeal.main_arg11))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_arg0) = v0 c
          ∧ r.2.mem ((c.tc : Thread Cert.AdamwRefIdeal.nD Cert.AdamwRefIdeal.τ).loc Cert.AdamwRefIdeal.main_v23) = v1 c
          ∧ r.2.mem ((c.tc : Thread Cert.AdamwRefIdeal.nD Cert.AdamwRefIdeal.τ).loc Cert.AdamwRefIdeal.main_v4) = v2 c
          ∧ r.2.mem ((c.tc : Thread Cert.AdamwRefIdeal.nD Cert.AdamwRefIdeal.τ).loc Cert.AdamwRefIdeal.main_v10) = v3 c
          ∧ r.2.mem ((c.tc : Thread Cert.AdamwRefIdeal.nD Cert.AdamwRefIdeal.τ).loc Cert.AdamwRefIdeal.main_arg1) = v4 c
          ∧ r.2.mem ((c.tc : Thread Cert.AdamwRefIdeal.nD Cert.AdamwRefIdeal.τ).loc Cert.AdamwRefIdeal.main_v47) = v5 c
          ∧ r.2.mem ((c.tc : Thread Cert.AdamwRefIdeal.nD Cert.AdamwRefIdeal.τ).loc Cert.AdamwRefIdeal.main_v28) = v6 c
          ∧ r.2.mem ((c.tc : Thread Cert.AdamwRefIdeal.nD Cert.AdamwRefIdeal.τ).loc Cert.AdamwRefIdeal.main_v34) = v7 c
          ∧ r.2.mem ((c.tc : Thread Cert.AdamwRefIdeal.nD Cert.AdamwRefIdeal.τ).loc Cert.AdamwRefIdeal.main_arg2) = v8 c
          ∧ r.2.mem ((c.tc : Thread Cert.AdamwRefIdeal.nD Cert.AdamwRefIdeal.τ).loc Cert.AdamwRefIdeal.main_v71) = v9 c
          ∧ r.2.mem ((c.tc : Thread Cert.AdamwRefIdeal.nD Cert.AdamwRefIdeal.τ).loc Cert.AdamwRefIdeal.main_v52) = v10 c
          ∧ r.2.mem ((c.tc : Thread Cert.AdamwRefIdeal.nD Cert.AdamwRefIdeal.τ).loc Cert.AdamwRefIdeal.main_v58) = v11 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3)
          ∧ r.2.mem ((c.tc : Thread Cert.AdamwRefIdeal.nD Cert.AdamwRefIdeal.τ).loc Cert.AdamwRefIdeal.main_arg4) = m' ((c.tc : Thread Cert.AdamwRefIdeal.nD Cert.AdamwRefIdeal.τ).loc Cert.AdamwRefIdeal.main_arg4)
          ∧ r.2.mem ((c.tc : Thread Cert.AdamwRefIdeal.nD Cert.AdamwRefIdeal.τ).loc Cert.AdamwRefIdeal.main_arg5) = m' ((c.tc : Thread Cert.AdamwRefIdeal.nD Cert.AdamwRefIdeal.τ).loc Cert.AdamwRefIdeal.main_arg5)
          ∧ r.2.mem ((c.tc : Thread Cert.AdamwRefIdeal.nD Cert.AdamwRefIdeal.τ).loc Cert.AdamwRefIdeal.main_arg6) = m' ((c.tc : Thread Cert.AdamwRefIdeal.nD Cert.AdamwRefIdeal.τ).loc Cert.AdamwRefIdeal.main_arg6)
          ∧ r.2.mem ((c.tc : Thread Cert.AdamwRefIdeal.nD Cert.AdamwRefIdeal.τ).loc Cert.AdamwRefIdeal.main_arg7) = m' ((c.tc : Thread Cert.AdamwRefIdeal.nD Cert.AdamwRefIdeal.τ).loc Cert.AdamwRefIdeal.main_arg7)
          ∧ r.2.mem ((c.tc : Thread Cert.AdamwRefIdeal.nD Cert.AdamwRefIdeal.τ).loc Cert.AdamwRefIdeal.main_arg8) = m' ((c.tc : Thread Cert.AdamwRefIdeal.nD Cert.AdamwRefIdeal.τ).loc Cert.AdamwRefIdeal.main_arg8)
          ∧ r.2.mem ((c.tc : Thread Cert.AdamwRefIdeal.nD Cert.AdamwRefIdeal.τ).loc Cert.AdamwRefIdeal.main_arg9) = m' ((c.tc : Thread Cert.AdamwRefIdeal.nD Cert.AdamwRefIdeal.τ).loc Cert.AdamwRefIdeal.main_arg9)
          ∧ r.2.mem ((c.tc : Thread Cert.AdamwRefIdeal.nD Cert.AdamwRefIdeal.τ).loc Cert.AdamwRefIdeal.main_arg10) = m' ((c.tc : Thread Cert.AdamwRefIdeal.nD Cert.AdamwRefIdeal.τ).loc Cert.AdamwRefIdeal.main_arg10)
          ∧ r.2.mem ((c.tc : Thread Cert.AdamwRefIdeal.nD Cert.AdamwRefIdeal.τ).loc Cert.AdamwRefIdeal.main_arg11) = m' ((c.tc : Thread Cert.AdamwRefIdeal.nD Cert.AdamwRefIdeal.τ).loc Cert.AdamwRefIdeal.main_arg11))

def preserves_SmallA_SmallAIdeal : Prop :=
  True

def algebraic_SmallAIdeal_SmallARefIdeal [hSmallAIdeal : Cert.SmallAIdeal.Facts] [hSmallARefIdeal : Cert.SmallARefIdeal.Facts] : Prop :=
  ∀ (m : (ℓ : Loc Cert.SmallAIdeal.nD Cert.SmallAIdeal.τ Cert.SmallAIdeal.sig) → Buf (Elt Ideal) ℓ) (g : Dev Cert.SmallAIdeal.nD → PrngReg)
    (m' : (ℓ : Loc Cert.SmallARefIdeal.nD Cert.SmallARefIdeal.τ Cert.SmallARefIdeal.sig) → Buf (Elt Ideal) ℓ) (g' : Dev Cert.SmallARefIdeal.nD → PrngReg), Pre_SmallAIdeal m →
    (∀ c : Dev Cert.SmallAIdeal.nD,
      m' ((c.tc : Thread Cert.SmallARefIdeal.nD Cert.SmallARefIdeal.τ).loc Cert.SmallARefIdeal.main_arg0) = m ((c.tc : Thread Cert.SmallAIdeal.nD Cert.SmallAIdeal.τ).loc Cert.SmallAIdeal.main_arg0)
      ∧ m' ((c.tc : Thread Cert.SmallARefIdeal.nD Cert.SmallARefIdeal.τ).loc Cert.SmallARefIdeal.main_arg1) = m ((c.tc : Thread Cert.SmallAIdeal.nD Cert.SmallAIdeal.τ).loc Cert.SmallAIdeal.main_arg1)
      ∧ m' ((c.tc : Thread Cert.SmallARefIdeal.nD Cert.SmallARefIdeal.τ).loc Cert.SmallARefIdeal.main_arg2) = m ((c.tc : Thread Cert.SmallAIdeal.nD Cert.SmallAIdeal.τ).loc Cert.SmallAIdeal.main_arg2)
      ∧ m' ((c.tc : Thread Cert.SmallARefIdeal.nD Cert.SmallARefIdeal.τ).loc Cert.SmallARefIdeal.main_arg3) = m ((c.tc : Thread Cert.SmallAIdeal.nD Cert.SmallAIdeal.τ).loc Cert.SmallAIdeal.main_arg3)
      ∧ m' ((c.tc : Thread Cert.SmallARefIdeal.nD Cert.SmallARefIdeal.τ).loc Cert.SmallARefIdeal.main_arg4) = m ((c.tc : Thread Cert.SmallAIdeal.nD Cert.SmallAIdeal.τ).loc Cert.SmallAIdeal.main_arg4)
      ∧ m' ((c.tc : Thread Cert.SmallARefIdeal.nD Cert.SmallARefIdeal.τ).loc Cert.SmallARefIdeal.main_arg5) = m ((c.tc : Thread Cert.SmallAIdeal.nD Cert.SmallAIdeal.τ).loc Cert.SmallAIdeal.main_arg5)
      ∧ m' ((c.tc : Thread Cert.SmallARefIdeal.nD Cert.SmallARefIdeal.τ).loc Cert.SmallARefIdeal.main_arg6) = m ((c.tc : Thread Cert.SmallAIdeal.nD Cert.SmallAIdeal.τ).loc Cert.SmallAIdeal.main_arg6)
      ∧ m' ((c.tc : Thread Cert.SmallARefIdeal.nD Cert.SmallARefIdeal.τ).loc Cert.SmallARefIdeal.main_arg7) = m ((c.tc : Thread Cert.SmallAIdeal.nD Cert.SmallAIdeal.τ).loc Cert.SmallAIdeal.main_arg7)
      ∧ m' ((c.tc : Thread Cert.SmallARefIdeal.nD Cert.SmallARefIdeal.τ).loc Cert.SmallARefIdeal.main_arg8) = m ((c.tc : Thread Cert.SmallAIdeal.nD Cert.SmallAIdeal.τ).loc Cert.SmallAIdeal.main_arg8)
      ∧ m' ((c.tc : Thread Cert.SmallARefIdeal.nD Cert.SmallARefIdeal.τ).loc Cert.SmallARefIdeal.main_arg9) = m ((c.tc : Thread Cert.SmallAIdeal.nD Cert.SmallAIdeal.τ).loc Cert.SmallAIdeal.main_arg9)
      ∧ m' ((c.tc : Thread Cert.SmallARefIdeal.nD Cert.SmallARefIdeal.τ).loc Cert.SmallARefIdeal.main_arg10) = m ((c.tc : Thread Cert.SmallAIdeal.nD Cert.SmallAIdeal.τ).loc Cert.SmallAIdeal.main_arg10)
      ∧ m' ((c.tc : Thread Cert.SmallARefIdeal.nD Cert.SmallARefIdeal.τ).loc Cert.SmallARefIdeal.main_arg11) = m ((c.tc : Thread Cert.SmallAIdeal.nD Cert.SmallAIdeal.τ).loc Cert.SmallAIdeal.main_arg11)
      ∧ m' ((c.tc : Thread Cert.SmallARefIdeal.nD Cert.SmallARefIdeal.τ).loc Cert.SmallARefIdeal.main_arg12) = m ((c.tc : Thread Cert.SmallAIdeal.nD Cert.SmallAIdeal.τ).loc Cert.SmallAIdeal.main_arg12)
      ∧ m' ((c.tc : Thread Cert.SmallARefIdeal.nD Cert.SmallARefIdeal.τ).loc Cert.SmallARefIdeal.main_arg13) = m ((c.tc : Thread Cert.SmallAIdeal.nD Cert.SmallAIdeal.τ).loc Cert.SmallAIdeal.main_arg13)
      ∧ m' ((c.tc : Thread Cert.SmallARefIdeal.nD Cert.SmallARefIdeal.τ).loc Cert.SmallARefIdeal.main_arg14) = m ((c.tc : Thread Cert.SmallAIdeal.nD Cert.SmallAIdeal.τ).loc Cert.SmallAIdeal.main_arg14)
      ∧ m' ((c.tc : Thread Cert.SmallARefIdeal.nD Cert.SmallARefIdeal.τ).loc Cert.SmallARefIdeal.main_arg15) = m ((c.tc : Thread Cert.SmallAIdeal.nD Cert.SmallAIdeal.τ).loc Cert.SmallAIdeal.main_arg15)) →
    ∃ (v0 : (c : Dev Cert.SmallAIdeal.nD) → Buf (Elt Ideal) ((c.tc : Thread Cert.SmallAIdeal.nD Cert.SmallAIdeal.τ).loc Cert.SmallAIdeal.main_v0_0)) (v1 : (c : Dev Cert.SmallAIdeal.nD) → Buf (Elt Ideal) ((c.tc : Thread Cert.SmallAIdeal.nD Cert.SmallAIdeal.τ).loc Cert.SmallAIdeal.main_v0_1)) (v2 : (c : Dev Cert.SmallAIdeal.nD) → Buf (Elt Ideal) ((c.tc : Thread Cert.SmallAIdeal.nD Cert.SmallAIdeal.τ).loc Cert.SmallAIdeal.main_v0_2)) (v3 : (c : Dev Cert.SmallAIdeal.nD) → Buf (Elt Ideal) ((c.tc : Thread Cert.SmallAIdeal.nD Cert.SmallAIdeal.τ).loc Cert.SmallAIdeal.main_v0_3)) (v4 : (c : Dev Cert.SmallAIdeal.nD) → Buf (Elt Ideal) ((c.tc : Thread Cert.SmallAIdeal.nD Cert.SmallAIdeal.τ).loc Cert.SmallAIdeal.main_v0_4)) (v5 : (c : Dev Cert.SmallAIdeal.nD) → Buf (Elt Ideal) ((c.tc : Thread Cert.SmallAIdeal.nD Cert.SmallAIdeal.τ).loc Cert.SmallAIdeal.main_v0_5)) (v6 : (c : Dev Cert.SmallAIdeal.nD) → Buf (Elt Ideal) ((c.tc : Thread Cert.SmallAIdeal.nD Cert.SmallAIdeal.τ).loc Cert.SmallAIdeal.main_v0_6)) (v7 : (c : Dev Cert.SmallAIdeal.nD) → Buf (Elt Ideal) ((c.tc : Thread Cert.SmallAIdeal.nD Cert.SmallAIdeal.τ).loc Cert.SmallAIdeal.main_v0_7)) (v8 : (c : Dev Cert.SmallAIdeal.nD) → Buf (Elt Ideal) ((c.tc : Thread Cert.SmallAIdeal.nD Cert.SmallAIdeal.τ).loc Cert.SmallAIdeal.main_v0_8)) (v9 : (c : Dev Cert.SmallAIdeal.nD) → Buf (Elt Ideal) ((c.tc : Thread Cert.SmallAIdeal.nD Cert.SmallAIdeal.τ).loc Cert.SmallAIdeal.main_v0_9)) (v10 : (c : Dev Cert.SmallAIdeal.nD) → Buf (Elt Ideal) ((c.tc : Thread Cert.SmallAIdeal.nD Cert.SmallAIdeal.τ).loc Cert.SmallAIdeal.main_v0_10)) (v11 : (c : Dev Cert.SmallAIdeal.nD) → Buf (Elt Ideal) ((c.tc : Thread Cert.SmallAIdeal.nD Cert.SmallAIdeal.τ).loc Cert.SmallAIdeal.main_v0_11)),
      θ_run (Cert.SmallAIdeal.defs (F := Ideal)) (onTc (τ := Cert.SmallAIdeal.τ) (Cert.SmallAIdeal.main (F := Ideal))) ⟨m, fun _ => 0, g⟩ (fun r => ∀ c : Dev Cert.SmallAIdeal.nD,
          r.2.mem ((c.tc : Thread Cert.SmallAIdeal.nD Cert.SmallAIdeal.τ).loc Cert.SmallAIdeal.main_v0_0) = v0 c
          ∧ r.2.mem ((c.tc : Thread Cert.SmallAIdeal.nD Cert.SmallAIdeal.τ).loc Cert.SmallAIdeal.main_v0_1) = v1 c
          ∧ r.2.mem ((c.tc : Thread Cert.SmallAIdeal.nD Cert.SmallAIdeal.τ).loc Cert.SmallAIdeal.main_v0_2) = v2 c
          ∧ r.2.mem ((c.tc : Thread Cert.SmallAIdeal.nD Cert.SmallAIdeal.τ).loc Cert.SmallAIdeal.main_v0_3) = v3 c
          ∧ r.2.mem ((c.tc : Thread Cert.SmallAIdeal.nD Cert.SmallAIdeal.τ).loc Cert.SmallAIdeal.main_v0_4) = v4 c
          ∧ r.2.mem ((c.tc : Thread Cert.SmallAIdeal.nD Cert.SmallAIdeal.τ).loc Cert.SmallAIdeal.main_v0_5) = v5 c
          ∧ r.2.mem ((c.tc : Thread Cert.SmallAIdeal.nD Cert.SmallAIdeal.τ).loc Cert.SmallAIdeal.main_v0_6) = v6 c
          ∧ r.2.mem ((c.tc : Thread Cert.SmallAIdeal.nD Cert.SmallAIdeal.τ).loc Cert.SmallAIdeal.main_v0_7) = v7 c
          ∧ r.2.mem ((c.tc : Thread Cert.SmallAIdeal.nD Cert.SmallAIdeal.τ).loc Cert.SmallAIdeal.main_v0_8) = v8 c
          ∧ r.2.mem ((c.tc : Thread Cert.SmallAIdeal.nD Cert.SmallAIdeal.τ).loc Cert.SmallAIdeal.main_v0_9) = v9 c
          ∧ r.2.mem ((c.tc : Thread Cert.SmallAIdeal.nD Cert.SmallAIdeal.τ).loc Cert.SmallAIdeal.main_v0_10) = v10 c
          ∧ r.2.mem ((c.tc : Thread Cert.SmallAIdeal.nD Cert.SmallAIdeal.τ).loc Cert.SmallAIdeal.main_v0_11) = v11 c
          ∧ r.2.mem ((c.tc : Thread Cert.SmallAIdeal.nD Cert.SmallAIdeal.τ).loc Cert.SmallAIdeal.main_arg0) = m ((c.tc : Thread Cert.SmallAIdeal.nD Cert.SmallAIdeal.τ).loc Cert.SmallAIdeal.main_arg0)
          ∧ r.2.mem ((c.tc : Thread Cert.SmallAIdeal.nD Cert.SmallAIdeal.τ).loc Cert.SmallAIdeal.main_arg1) = m ((c.tc : Thread Cert.SmallAIdeal.nD Cert.SmallAIdeal.τ).loc Cert.SmallAIdeal.main_arg1)
          ∧ r.2.mem ((c.tc : Thread Cert.SmallAIdeal.nD Cert.SmallAIdeal.τ).loc Cert.SmallAIdeal.main_arg2) = m ((c.tc : Thread Cert.SmallAIdeal.nD Cert.SmallAIdeal.τ).loc Cert.SmallAIdeal.main_arg2)
          ∧ r.2.mem ((c.tc : Thread Cert.SmallAIdeal.nD Cert.SmallAIdeal.τ).loc Cert.SmallAIdeal.main_arg3) = m ((c.tc : Thread Cert.SmallAIdeal.nD Cert.SmallAIdeal.τ).loc Cert.SmallAIdeal.main_arg3)
          ∧ r.2.mem ((c.tc : Thread Cert.SmallAIdeal.nD Cert.SmallAIdeal.τ).loc Cert.SmallAIdeal.main_arg4) = m ((c.tc : Thread Cert.SmallAIdeal.nD Cert.SmallAIdeal.τ).loc Cert.SmallAIdeal.main_arg4)
          ∧ r.2.mem ((c.tc : Thread Cert.SmallAIdeal.nD Cert.SmallAIdeal.τ).loc Cert.SmallAIdeal.main_arg5) = m ((c.tc : Thread Cert.SmallAIdeal.nD Cert.SmallAIdeal.τ).loc Cert.SmallAIdeal.main_arg5)
          ∧ r.2.mem ((c.tc : Thread Cert.SmallAIdeal.nD Cert.SmallAIdeal.τ).loc Cert.SmallAIdeal.main_arg6) = m ((c.tc : Thread Cert.SmallAIdeal.nD Cert.SmallAIdeal.τ).loc Cert.SmallAIdeal.main_arg6)
          ∧ r.2.mem ((c.tc : Thread Cert.SmallAIdeal.nD Cert.SmallAIdeal.τ).loc Cert.SmallAIdeal.main_arg7) = m ((c.tc : Thread Cert.SmallAIdeal.nD Cert.SmallAIdeal.τ).loc Cert.SmallAIdeal.main_arg7)
          ∧ r.2.mem ((c.tc : Thread Cert.SmallAIdeal.nD Cert.SmallAIdeal.τ).loc Cert.SmallAIdeal.main_arg8) = m ((c.tc : Thread Cert.SmallAIdeal.nD Cert.SmallAIdeal.τ).loc Cert.SmallAIdeal.main_arg8)
          ∧ r.2.mem ((c.tc : Thread Cert.SmallAIdeal.nD Cert.SmallAIdeal.τ).loc Cert.SmallAIdeal.main_arg9) = m ((c.tc : Thread Cert.SmallAIdeal.nD Cert.SmallAIdeal.τ).loc Cert.SmallAIdeal.main_arg9)
          ∧ r.2.mem ((c.tc : Thread Cert.SmallAIdeal.nD Cert.SmallAIdeal.τ).loc Cert.SmallAIdeal.main_arg10) = m ((c.tc : Thread Cert.SmallAIdeal.nD Cert.SmallAIdeal.τ).loc Cert.SmallAIdeal.main_arg10)
          ∧ r.2.mem ((c.tc : Thread Cert.SmallAIdeal.nD Cert.SmallAIdeal.τ).loc Cert.SmallAIdeal.main_arg11) = m ((c.tc : Thread Cert.SmallAIdeal.nD Cert.SmallAIdeal.τ).loc Cert.SmallAIdeal.main_arg11)
          ∧ r.2.mem ((c.tc : Thread Cert.SmallAIdeal.nD Cert.SmallAIdeal.τ).loc Cert.SmallAIdeal.main_arg12) = m ((c.tc : Thread Cert.SmallAIdeal.nD Cert.SmallAIdeal.τ).loc Cert.SmallAIdeal.main_arg12)
          ∧ r.2.mem ((c.tc : Thread Cert.SmallAIdeal.nD Cert.SmallAIdeal.τ).loc Cert.SmallAIdeal.main_arg13) = m ((c.tc : Thread Cert.SmallAIdeal.nD Cert.SmallAIdeal.τ).loc Cert.SmallAIdeal.main_arg13)
          ∧ r.2.mem ((c.tc : Thread Cert.SmallAIdeal.nD Cert.SmallAIdeal.τ).loc Cert.SmallAIdeal.main_arg14) = m ((c.tc : Thread Cert.SmallAIdeal.nD Cert.SmallAIdeal.τ).loc Cert.SmallAIdeal.main_arg14)
          ∧ r.2.mem ((c.tc : Thread Cert.SmallAIdeal.nD Cert.SmallAIdeal.τ).loc Cert.SmallAIdeal.main_arg15) = m ((c.tc : Thread Cert.SmallAIdeal.nD Cert.SmallAIdeal.τ).loc Cert.SmallAIdeal.main_arg15))
      ∧ θ_run (Cert.SmallARefIdeal.defs (F := Ideal)) (onTc (τ := Cert.SmallARefIdeal.τ) (Cert.SmallARefIdeal.main (F := Ideal))) ⟨m', fun _ => 0, g'⟩ (fun r => ∀ c : Dev Cert.SmallARefIdeal.nD,
          r.2.mem ((c.tc : Thread Cert.SmallARefIdeal.nD Cert.SmallARefIdeal.τ).loc Cert.SmallARefIdeal.main_v23) = v0 c
          ∧ r.2.mem ((c.tc : Thread Cert.SmallARefIdeal.nD Cert.SmallARefIdeal.τ).loc Cert.SmallARefIdeal.main_v47) = v1 c
          ∧ r.2.mem ((c.tc : Thread Cert.SmallARefIdeal.nD Cert.SmallARefIdeal.τ).loc Cert.SmallARefIdeal.main_v71) = v2 c
          ∧ r.2.mem ((c.tc : Thread Cert.SmallARefIdeal.nD Cert.SmallARefIdeal.τ).loc Cert.SmallARefIdeal.main_v95) = v3 c
          ∧ r.2.mem ((c.tc : Thread Cert.SmallARefIdeal.nD Cert.SmallARefIdeal.τ).loc Cert.SmallARefIdeal.main_v4) = v4 c
          ∧ r.2.mem ((c.tc : Thread Cert.SmallARefIdeal.nD Cert.SmallARefIdeal.τ).loc Cert.SmallARefIdeal.main_v28) = v5 c
          ∧ r.2.mem ((c.tc : Thread Cert.SmallARefIdeal.nD Cert.SmallARefIdeal.τ).loc Cert.SmallARefIdeal.main_v52) = v6 c
          ∧ r.2.mem ((c.tc : Thread Cert.SmallARefIdeal.nD Cert.SmallARefIdeal.τ).loc Cert.SmallARefIdeal.main_v76) = v7 c
          ∧ r.2.mem ((c.tc : Thread Cert.SmallARefIdeal.nD Cert.SmallARefIdeal.τ).loc Cert.SmallARefIdeal.main_v10) = v8 c
          ∧ r.2.mem ((c.tc : Thread Cert.SmallARefIdeal.nD Cert.SmallARefIdeal.τ).loc Cert.SmallARefIdeal.main_v34) = v9 c
          ∧ r.2.mem ((c.tc : Thread Cert.SmallARefIdeal.nD Cert.SmallARefIdeal.τ).loc Cert.SmallARefIdeal.main_v58) = v10 c
          ∧ r.2.mem ((c.tc : Thread Cert.SmallARefIdeal.nD Cert.SmallARefIdeal.τ).loc Cert.SmallARefIdeal.main_v82) = v11 c
          ∧ r.2.mem ((c.tc : Thread Cert.SmallARefIdeal.nD Cert.SmallARefIdeal.τ).loc Cert.SmallARefIdeal.main_arg0) = m' ((c.tc : Thread Cert.SmallARefIdeal.nD Cert.SmallARefIdeal.τ).loc Cert.SmallARefIdeal.main_arg0)
          ∧ r.2.mem ((c.tc : Thread Cert.SmallARefIdeal.nD Cert.SmallARefIdeal.τ).loc Cert.SmallARefIdeal.main_arg1) = m' ((c.tc : Thread Cert.SmallARefIdeal.nD Cert.SmallARefIdeal.τ).loc Cert.SmallARefIdeal.main_arg1)
          ∧ r.2.mem ((c.tc : Thread Cert.SmallARefIdeal.nD Cert.SmallARefIdeal.τ).loc Cert.SmallARefIdeal.main_arg2) = m' ((c.tc : Thread Cert.SmallARefIdeal.nD Cert.SmallARefIdeal.τ).loc Cert.SmallARefIdeal.main_arg2)
          ∧ r.2.mem ((c.tc : Thread Cert.SmallARefIdeal.nD Cert.SmallARefIdeal.τ).loc Cert.SmallARefIdeal.main_arg3) = m' ((c.tc : Thread Cert.SmallARefIdeal.nD Cert.SmallARefIdeal.τ).loc Cert.SmallARefIdeal.main_arg3)
          ∧ r.2.mem ((c.tc : Thread Cert.SmallARefIdeal.nD Cert.SmallARefIdeal.τ).loc Cert.SmallARefIdeal.main_arg4) = m' ((c.tc : Thread Cert.SmallARefIdeal.nD Cert.SmallARefIdeal.τ).loc Cert.SmallARefIdeal.main_arg4)
          ∧ r.2.mem ((c.tc : Thread Cert.SmallARefIdeal.nD Cert.SmallARefIdeal.τ).loc Cert.SmallARefIdeal.main_arg5) = m' ((c.tc : Thread Cert.SmallARefIdeal.nD Cert.SmallARefIdeal.τ).loc Cert.SmallARefIdeal.main_arg5)
          ∧ r.2.mem ((c.tc : Thread Cert.SmallARefIdeal.nD Cert.SmallARefIdeal.τ).loc Cert.SmallARefIdeal.main_arg6) = m' ((c.tc : Thread Cert.SmallARefIdeal.nD Cert.SmallARefIdeal.τ).loc Cert.SmallARefIdeal.main_arg6)
          ∧ r.2.mem ((c.tc : Thread Cert.SmallARefIdeal.nD Cert.SmallARefIdeal.τ).loc Cert.SmallARefIdeal.main_arg7) = m' ((c.tc : Thread Cert.SmallARefIdeal.nD Cert.SmallARefIdeal.τ).loc Cert.SmallARefIdeal.main_arg7)
          ∧ r.2.mem ((c.tc : Thread Cert.SmallARefIdeal.nD Cert.SmallARefIdeal.τ).loc Cert.SmallARefIdeal.main_arg8) = m' ((c.tc : Thread Cert.SmallARefIdeal.nD Cert.SmallARefIdeal.τ).loc Cert.SmallARefIdeal.main_arg8)
          ∧ r.2.mem ((c.tc : Thread Cert.SmallARefIdeal.nD Cert.SmallARefIdeal.τ).loc Cert.SmallARefIdeal.main_arg9) = m' ((c.tc : Thread Cert.SmallARefIdeal.nD Cert.SmallARefIdeal.τ).loc Cert.SmallARefIdeal.main_arg9)
          ∧ r.2.mem ((c.tc : Thread Cert.SmallARefIdeal.nD Cert.SmallARefIdeal.τ).loc Cert.SmallARefIdeal.main_arg10) = m' ((c.tc : Thread Cert.SmallARefIdeal.nD Cert.SmallARefIdeal.τ).loc Cert.SmallARefIdeal.main_arg10)
          ∧ r.2.mem ((c.tc : Thread Cert.SmallARefIdeal.nD Cert.SmallARefIdeal.τ).loc Cert.SmallARefIdeal.main_arg11) = m' ((c.tc : Thread Cert.SmallARefIdeal.nD Cert.SmallARefIdeal.τ).loc Cert.SmallARefIdeal.main_arg11)
          ∧ r.2.mem ((c.tc : Thread Cert.SmallARefIdeal.nD Cert.SmallARefIdeal.τ).loc Cert.SmallARefIdeal.main_arg12) = m' ((c.tc : Thread Cert.SmallARefIdeal.nD Cert.SmallARefIdeal.τ).loc Cert.SmallARefIdeal.main_arg12)
          ∧ r.2.mem ((c.tc : Thread Cert.SmallARefIdeal.nD Cert.SmallARefIdeal.τ).loc Cert.SmallARefIdeal.main_arg13) = m' ((c.tc : Thread Cert.SmallARefIdeal.nD Cert.SmallARefIdeal.τ).loc Cert.SmallARefIdeal.main_arg13)
          ∧ r.2.mem ((c.tc : Thread Cert.SmallARefIdeal.nD Cert.SmallARefIdeal.τ).loc Cert.SmallARefIdeal.main_arg14) = m' ((c.tc : Thread Cert.SmallARefIdeal.nD Cert.SmallARefIdeal.τ).loc Cert.SmallARefIdeal.main_arg14)
          ∧ r.2.mem ((c.tc : Thread Cert.SmallARefIdeal.nD Cert.SmallARefIdeal.τ).loc Cert.SmallARefIdeal.main_arg15) = m' ((c.tc : Thread Cert.SmallARefIdeal.nD Cert.SmallARefIdeal.τ).loc Cert.SmallARefIdeal.main_arg15))

def preserves_SmallB_SmallBIdeal : Prop :=
  True

def algebraic_SmallBIdeal_SmallBRefIdeal [hSmallBIdeal : Cert.SmallBIdeal.Facts] [hSmallBRefIdeal : Cert.SmallBRefIdeal.Facts] : Prop :=
  ∀ (m : (ℓ : Loc Cert.SmallBIdeal.nD Cert.SmallBIdeal.τ Cert.SmallBIdeal.sig) → Buf (Elt Ideal) ℓ) (g : Dev Cert.SmallBIdeal.nD → PrngReg)
    (m' : (ℓ : Loc Cert.SmallBRefIdeal.nD Cert.SmallBRefIdeal.τ Cert.SmallBRefIdeal.sig) → Buf (Elt Ideal) ℓ) (g' : Dev Cert.SmallBRefIdeal.nD → PrngReg), Pre_SmallBIdeal m →
    (∀ c : Dev Cert.SmallBIdeal.nD,
      m' ((c.tc : Thread Cert.SmallBRefIdeal.nD Cert.SmallBRefIdeal.τ).loc Cert.SmallBRefIdeal.main_arg0) = m ((c.tc : Thread Cert.SmallBIdeal.nD Cert.SmallBIdeal.τ).loc Cert.SmallBIdeal.main_arg0)
      ∧ m' ((c.tc : Thread Cert.SmallBRefIdeal.nD Cert.SmallBRefIdeal.τ).loc Cert.SmallBRefIdeal.main_arg1) = m ((c.tc : Thread Cert.SmallBIdeal.nD Cert.SmallBIdeal.τ).loc Cert.SmallBIdeal.main_arg1)
      ∧ m' ((c.tc : Thread Cert.SmallBRefIdeal.nD Cert.SmallBRefIdeal.τ).loc Cert.SmallBRefIdeal.main_arg2) = m ((c.tc : Thread Cert.SmallBIdeal.nD Cert.SmallBIdeal.τ).loc Cert.SmallBIdeal.main_arg2)
      ∧ m' ((c.tc : Thread Cert.SmallBRefIdeal.nD Cert.SmallBRefIdeal.τ).loc Cert.SmallBRefIdeal.main_arg3) = m ((c.tc : Thread Cert.SmallBIdeal.nD Cert.SmallBIdeal.τ).loc Cert.SmallBIdeal.main_arg3)
      ∧ m' ((c.tc : Thread Cert.SmallBRefIdeal.nD Cert.SmallBRefIdeal.τ).loc Cert.SmallBRefIdeal.main_arg4) = m ((c.tc : Thread Cert.SmallBIdeal.nD Cert.SmallBIdeal.τ).loc Cert.SmallBIdeal.main_arg4)
      ∧ m' ((c.tc : Thread Cert.SmallBRefIdeal.nD Cert.SmallBRefIdeal.τ).loc Cert.SmallBRefIdeal.main_arg5) = m ((c.tc : Thread Cert.SmallBIdeal.nD Cert.SmallBIdeal.τ).loc Cert.SmallBIdeal.main_arg5)
      ∧ m' ((c.tc : Thread Cert.SmallBRefIdeal.nD Cert.SmallBRefIdeal.τ).loc Cert.SmallBRefIdeal.main_arg6) = m ((c.tc : Thread Cert.SmallBIdeal.nD Cert.SmallBIdeal.τ).loc Cert.SmallBIdeal.main_arg6)
      ∧ m' ((c.tc : Thread Cert.SmallBRefIdeal.nD Cert.SmallBRefIdeal.τ).loc Cert.SmallBRefIdeal.main_arg7) = m ((c.tc : Thread Cert.SmallBIdeal.nD Cert.SmallBIdeal.τ).loc Cert.SmallBIdeal.main_arg7)
      ∧ m' ((c.tc : Thread Cert.SmallBRefIdeal.nD Cert.SmallBRefIdeal.τ).loc Cert.SmallBRefIdeal.main_arg8) = m ((c.tc : Thread Cert.SmallBIdeal.nD Cert.SmallBIdeal.τ).loc Cert.SmallBIdeal.main_arg8)
      ∧ m' ((c.tc : Thread Cert.SmallBRefIdeal.nD Cert.SmallBRefIdeal.τ).loc Cert.SmallBRefIdeal.main_arg9) = m ((c.tc : Thread Cert.SmallBIdeal.nD Cert.SmallBIdeal.τ).loc Cert.SmallBIdeal.main_arg9)
      ∧ m' ((c.tc : Thread Cert.SmallBRefIdeal.nD Cert.SmallBRefIdeal.τ).loc Cert.SmallBRefIdeal.main_arg10) = m ((c.tc : Thread Cert.SmallBIdeal.nD Cert.SmallBIdeal.τ).loc Cert.SmallBIdeal.main_arg10)
      ∧ m' ((c.tc : Thread Cert.SmallBRefIdeal.nD Cert.SmallBRefIdeal.τ).loc Cert.SmallBRefIdeal.main_arg11) = m ((c.tc : Thread Cert.SmallBIdeal.nD Cert.SmallBIdeal.τ).loc Cert.SmallBIdeal.main_arg11)
      ∧ m' ((c.tc : Thread Cert.SmallBRefIdeal.nD Cert.SmallBRefIdeal.τ).loc Cert.SmallBRefIdeal.main_arg12) = m ((c.tc : Thread Cert.SmallBIdeal.nD Cert.SmallBIdeal.τ).loc Cert.SmallBIdeal.main_arg12)
      ∧ m' ((c.tc : Thread Cert.SmallBRefIdeal.nD Cert.SmallBRefIdeal.τ).loc Cert.SmallBRefIdeal.main_arg13) = m ((c.tc : Thread Cert.SmallBIdeal.nD Cert.SmallBIdeal.τ).loc Cert.SmallBIdeal.main_arg13)
      ∧ m' ((c.tc : Thread Cert.SmallBRefIdeal.nD Cert.SmallBRefIdeal.τ).loc Cert.SmallBRefIdeal.main_arg14) = m ((c.tc : Thread Cert.SmallBIdeal.nD Cert.SmallBIdeal.τ).loc Cert.SmallBIdeal.main_arg14)
      ∧ m' ((c.tc : Thread Cert.SmallBRefIdeal.nD Cert.SmallBRefIdeal.τ).loc Cert.SmallBRefIdeal.main_arg15) = m ((c.tc : Thread Cert.SmallBIdeal.nD Cert.SmallBIdeal.τ).loc Cert.SmallBIdeal.main_arg15)) →
    ∃ (v0 : (c : Dev Cert.SmallBIdeal.nD) → Buf (Elt Ideal) ((c.tc : Thread Cert.SmallBIdeal.nD Cert.SmallBIdeal.τ).loc Cert.SmallBIdeal.main_v0_0)) (v1 : (c : Dev Cert.SmallBIdeal.nD) → Buf (Elt Ideal) ((c.tc : Thread Cert.SmallBIdeal.nD Cert.SmallBIdeal.τ).loc Cert.SmallBIdeal.main_v0_1)) (v2 : (c : Dev Cert.SmallBIdeal.nD) → Buf (Elt Ideal) ((c.tc : Thread Cert.SmallBIdeal.nD Cert.SmallBIdeal.τ).loc Cert.SmallBIdeal.main_v0_2)) (v3 : (c : Dev Cert.SmallBIdeal.nD) → Buf (Elt Ideal) ((c.tc : Thread Cert.SmallBIdeal.nD Cert.SmallBIdeal.τ).loc Cert.SmallBIdeal.main_v0_3)) (v4 : (c : Dev Cert.SmallBIdeal.nD) → Buf (Elt Ideal) ((c.tc : Thread Cert.SmallBIdeal.nD Cert.SmallBIdeal.τ).loc Cert.SmallBIdeal.main_v0_4)) (v5 : (c : Dev Cert.SmallBIdeal.nD) → Buf (Elt Ideal) ((c.tc : Thread Cert.SmallBIdeal.nD Cert.SmallBIdeal.τ).loc Cert.SmallBIdeal.main_v0_5)) (v6 : (c : Dev Cert.SmallBIdeal.nD) → Buf (Elt Ideal) ((c.tc : Thread Cert.SmallBIdeal.nD Cert.SmallBIdeal.τ).loc Cert.SmallBIdeal.main_v0_6)) (v7 : (c : Dev Cert.SmallBIdeal.nD) → Buf (Elt Ideal) ((c.tc : Thread Cert.SmallBIdeal.nD Cert.SmallBIdeal.τ).loc Cert.SmallBIdeal.main_v0_7)) (v8 : (c : Dev Cert.SmallBIdeal.nD) → Buf (Elt Ideal) ((c.tc : Thread Cert.SmallBIdeal.nD Cert.SmallBIdeal.τ).loc Cert.SmallBIdeal.main_v0_8)) (v9 : (c : Dev Cert.SmallBIdeal.nD) → Buf (Elt Ideal) ((c.tc : Thread Cert.SmallBIdeal.nD Cert.SmallBIdeal.τ).loc Cert.SmallBIdeal.main_v0_9)) (v10 : (c : Dev Cert.SmallBIdeal.nD) → Buf (Elt Ideal) ((c.tc : Thread Cert.SmallBIdeal.nD Cert.SmallBIdeal.τ).loc Cert.SmallBIdeal.main_v0_10)) (v11 : (c : Dev Cert.SmallBIdeal.nD) → Buf (Elt Ideal) ((c.tc : Thread Cert.SmallBIdeal.nD Cert.SmallBIdeal.τ).loc Cert.SmallBIdeal.main_v0_11)),
      θ_run (Cert.SmallBIdeal.defs (F := Ideal)) (onTc (τ := Cert.SmallBIdeal.τ) (Cert.SmallBIdeal.main (F := Ideal))) ⟨m, fun _ => 0, g⟩ (fun r => ∀ c : Dev Cert.SmallBIdeal.nD,
          r.2.mem ((c.tc : Thread Cert.SmallBIdeal.nD Cert.SmallBIdeal.τ).loc Cert.SmallBIdeal.main_v0_0) = v0 c
          ∧ r.2.mem ((c.tc : Thread Cert.SmallBIdeal.nD Cert.SmallBIdeal.τ).loc Cert.SmallBIdeal.main_v0_1) = v1 c
          ∧ r.2.mem ((c.tc : Thread Cert.SmallBIdeal.nD Cert.SmallBIdeal.τ).loc Cert.SmallBIdeal.main_v0_2) = v2 c
          ∧ r.2.mem ((c.tc : Thread Cert.SmallBIdeal.nD Cert.SmallBIdeal.τ).loc Cert.SmallBIdeal.main_v0_3) = v3 c
          ∧ r.2.mem ((c.tc : Thread Cert.SmallBIdeal.nD Cert.SmallBIdeal.τ).loc Cert.SmallBIdeal.main_v0_4) = v4 c
          ∧ r.2.mem ((c.tc : Thread Cert.SmallBIdeal.nD Cert.SmallBIdeal.τ).loc Cert.SmallBIdeal.main_v0_5) = v5 c
          ∧ r.2.mem ((c.tc : Thread Cert.SmallBIdeal.nD Cert.SmallBIdeal.τ).loc Cert.SmallBIdeal.main_v0_6) = v6 c
          ∧ r.2.mem ((c.tc : Thread Cert.SmallBIdeal.nD Cert.SmallBIdeal.τ).loc Cert.SmallBIdeal.main_v0_7) = v7 c
          ∧ r.2.mem ((c.tc : Thread Cert.SmallBIdeal.nD Cert.SmallBIdeal.τ).loc Cert.SmallBIdeal.main_v0_8) = v8 c
          ∧ r.2.mem ((c.tc : Thread Cert.SmallBIdeal.nD Cert.SmallBIdeal.τ).loc Cert.SmallBIdeal.main_v0_9) = v9 c
          ∧ r.2.mem ((c.tc : Thread Cert.SmallBIdeal.nD Cert.SmallBIdeal.τ).loc Cert.SmallBIdeal.main_v0_10) = v10 c
          ∧ r.2.mem ((c.tc : Thread Cert.SmallBIdeal.nD Cert.SmallBIdeal.τ).loc Cert.SmallBIdeal.main_v0_11) = v11 c
          ∧ r.2.mem ((c.tc : Thread Cert.SmallBIdeal.nD Cert.SmallBIdeal.τ).loc Cert.SmallBIdeal.main_arg0) = m ((c.tc : Thread Cert.SmallBIdeal.nD Cert.SmallBIdeal.τ).loc Cert.SmallBIdeal.main_arg0)
          ∧ r.2.mem ((c.tc : Thread Cert.SmallBIdeal.nD Cert.SmallBIdeal.τ).loc Cert.SmallBIdeal.main_arg1) = m ((c.tc : Thread Cert.SmallBIdeal.nD Cert.SmallBIdeal.τ).loc Cert.SmallBIdeal.main_arg1)
          ∧ r.2.mem ((c.tc : Thread Cert.SmallBIdeal.nD Cert.SmallBIdeal.τ).loc Cert.SmallBIdeal.main_arg2) = m ((c.tc : Thread Cert.SmallBIdeal.nD Cert.SmallBIdeal.τ).loc Cert.SmallBIdeal.main_arg2)
          ∧ r.2.mem ((c.tc : Thread Cert.SmallBIdeal.nD Cert.SmallBIdeal.τ).loc Cert.SmallBIdeal.main_arg3) = m ((c.tc : Thread Cert.SmallBIdeal.nD Cert.SmallBIdeal.τ).loc Cert.SmallBIdeal.main_arg3)
          ∧ r.2.mem ((c.tc : Thread Cert.SmallBIdeal.nD Cert.SmallBIdeal.τ).loc Cert.SmallBIdeal.main_arg4) = m ((c.tc : Thread Cert.SmallBIdeal.nD Cert.SmallBIdeal.τ).loc Cert.SmallBIdeal.main_arg4)
          ∧ r.2.mem ((c.tc : Thread Cert.SmallBIdeal.nD Cert.SmallBIdeal.τ).loc Cert.SmallBIdeal.main_arg5) = m ((c.tc : Thread Cert.SmallBIdeal.nD Cert.SmallBIdeal.τ).loc Cert.SmallBIdeal.main_arg5)
          ∧ r.2.mem ((c.tc : Thread Cert.SmallBIdeal.nD Cert.SmallBIdeal.τ).loc Cert.SmallBIdeal.main_arg6) = m ((c.tc : Thread Cert.SmallBIdeal.nD Cert.SmallBIdeal.τ).loc Cert.SmallBIdeal.main_arg6)
          ∧ r.2.mem ((c.tc : Thread Cert.SmallBIdeal.nD Cert.SmallBIdeal.τ).loc Cert.SmallBIdeal.main_arg7) = m ((c.tc : Thread Cert.SmallBIdeal.nD Cert.SmallBIdeal.τ).loc Cert.SmallBIdeal.main_arg7)
          ∧ r.2.mem ((c.tc : Thread Cert.SmallBIdeal.nD Cert.SmallBIdeal.τ).loc Cert.SmallBIdeal.main_arg8) = m ((c.tc : Thread Cert.SmallBIdeal.nD Cert.SmallBIdeal.τ).loc Cert.SmallBIdeal.main_arg8)
          ∧ r.2.mem ((c.tc : Thread Cert.SmallBIdeal.nD Cert.SmallBIdeal.τ).loc Cert.SmallBIdeal.main_arg9) = m ((c.tc : Thread Cert.SmallBIdeal.nD Cert.SmallBIdeal.τ).loc Cert.SmallBIdeal.main_arg9)
          ∧ r.2.mem ((c.tc : Thread Cert.SmallBIdeal.nD Cert.SmallBIdeal.τ).loc Cert.SmallBIdeal.main_arg10) = m ((c.tc : Thread Cert.SmallBIdeal.nD Cert.SmallBIdeal.τ).loc Cert.SmallBIdeal.main_arg10)
          ∧ r.2.mem ((c.tc : Thread Cert.SmallBIdeal.nD Cert.SmallBIdeal.τ).loc Cert.SmallBIdeal.main_arg11) = m ((c.tc : Thread Cert.SmallBIdeal.nD Cert.SmallBIdeal.τ).loc Cert.SmallBIdeal.main_arg11)
          ∧ r.2.mem ((c.tc : Thread Cert.SmallBIdeal.nD Cert.SmallBIdeal.τ).loc Cert.SmallBIdeal.main_arg12) = m ((c.tc : Thread Cert.SmallBIdeal.nD Cert.SmallBIdeal.τ).loc Cert.SmallBIdeal.main_arg12)
          ∧ r.2.mem ((c.tc : Thread Cert.SmallBIdeal.nD Cert.SmallBIdeal.τ).loc Cert.SmallBIdeal.main_arg13) = m ((c.tc : Thread Cert.SmallBIdeal.nD Cert.SmallBIdeal.τ).loc Cert.SmallBIdeal.main_arg13)
          ∧ r.2.mem ((c.tc : Thread Cert.SmallBIdeal.nD Cert.SmallBIdeal.τ).loc Cert.SmallBIdeal.main_arg14) = m ((c.tc : Thread Cert.SmallBIdeal.nD Cert.SmallBIdeal.τ).loc Cert.SmallBIdeal.main_arg14)
          ∧ r.2.mem ((c.tc : Thread Cert.SmallBIdeal.nD Cert.SmallBIdeal.τ).loc Cert.SmallBIdeal.main_arg15) = m ((c.tc : Thread Cert.SmallBIdeal.nD Cert.SmallBIdeal.τ).loc Cert.SmallBIdeal.main_arg15))
      ∧ θ_run (Cert.SmallBRefIdeal.defs (F := Ideal)) (onTc (τ := Cert.SmallBRefIdeal.τ) (Cert.SmallBRefIdeal.main (F := Ideal))) ⟨m', fun _ => 0, g'⟩ (fun r => ∀ c : Dev Cert.SmallBRefIdeal.nD,
          r.2.mem ((c.tc : Thread Cert.SmallBRefIdeal.nD Cert.SmallBRefIdeal.τ).loc Cert.SmallBRefIdeal.main_v23) = v0 c
          ∧ r.2.mem ((c.tc : Thread Cert.SmallBRefIdeal.nD Cert.SmallBRefIdeal.τ).loc Cert.SmallBRefIdeal.main_v47) = v1 c
          ∧ r.2.mem ((c.tc : Thread Cert.SmallBRefIdeal.nD Cert.SmallBRefIdeal.τ).loc Cert.SmallBRefIdeal.main_v71) = v2 c
          ∧ r.2.mem ((c.tc : Thread Cert.SmallBRefIdeal.nD Cert.SmallBRefIdeal.τ).loc Cert.SmallBRefIdeal.main_v95) = v3 c
          ∧ r.2.mem ((c.tc : Thread Cert.SmallBRefIdeal.nD Cert.SmallBRefIdeal.τ).loc Cert.SmallBRefIdeal.main_v4) = v4 c
          ∧ r.2.mem ((c.tc : Thread Cert.SmallBRefIdeal.nD Cert.SmallBRefIdeal.τ).loc Cert.SmallBRefIdeal.main_v28) = v5 c
          ∧ r.2.mem ((c.tc : Thread Cert.SmallBRefIdeal.nD Cert.SmallBRefIdeal.τ).loc Cert.SmallBRefIdeal.main_v52) = v6 c
          ∧ r.2.mem ((c.tc : Thread Cert.SmallBRefIdeal.nD Cert.SmallBRefIdeal.τ).loc Cert.SmallBRefIdeal.main_v76) = v7 c
          ∧ r.2.mem ((c.tc : Thread Cert.SmallBRefIdeal.nD Cert.SmallBRefIdeal.τ).loc Cert.SmallBRefIdeal.main_v10) = v8 c
          ∧ r.2.mem ((c.tc : Thread Cert.SmallBRefIdeal.nD Cert.SmallBRefIdeal.τ).loc Cert.SmallBRefIdeal.main_v34) = v9 c
          ∧ r.2.mem ((c.tc : Thread Cert.SmallBRefIdeal.nD Cert.SmallBRefIdeal.τ).loc Cert.SmallBRefIdeal.main_v58) = v10 c
          ∧ r.2.mem ((c.tc : Thread Cert.SmallBRefIdeal.nD Cert.SmallBRefIdeal.τ).loc Cert.SmallBRefIdeal.main_v82) = v11 c
          ∧ r.2.mem ((c.tc : Thread Cert.SmallBRefIdeal.nD Cert.SmallBRefIdeal.τ).loc Cert.SmallBRefIdeal.main_arg0) = m' ((c.tc : Thread Cert.SmallBRefIdeal.nD Cert.SmallBRefIdeal.τ).loc Cert.SmallBRefIdeal.main_arg0)
          ∧ r.2.mem ((c.tc : Thread Cert.SmallBRefIdeal.nD Cert.SmallBRefIdeal.τ).loc Cert.SmallBRefIdeal.main_arg1) = m' ((c.tc : Thread Cert.SmallBRefIdeal.nD Cert.SmallBRefIdeal.τ).loc Cert.SmallBRefIdeal.main_arg1)
          ∧ r.2.mem ((c.tc : Thread Cert.SmallBRefIdeal.nD Cert.SmallBRefIdeal.τ).loc Cert.SmallBRefIdeal.main_arg2) = m' ((c.tc : Thread Cert.SmallBRefIdeal.nD Cert.SmallBRefIdeal.τ).loc Cert.SmallBRefIdeal.main_arg2)
          ∧ r.2.mem ((c.tc : Thread Cert.SmallBRefIdeal.nD Cert.SmallBRefIdeal.τ).loc Cert.SmallBRefIdeal.main_arg3) = m' ((c.tc : Thread Cert.SmallBRefIdeal.nD Cert.SmallBRefIdeal.τ).loc Cert.SmallBRefIdeal.main_arg3)
          ∧ r.2.mem ((c.tc : Thread Cert.SmallBRefIdeal.nD Cert.SmallBRefIdeal.τ).loc Cert.SmallBRefIdeal.main_arg4) = m' ((c.tc : Thread Cert.SmallBRefIdeal.nD Cert.SmallBRefIdeal.τ).loc Cert.SmallBRefIdeal.main_arg4)
          ∧ r.2.mem ((c.tc : Thread Cert.SmallBRefIdeal.nD Cert.SmallBRefIdeal.τ).loc Cert.SmallBRefIdeal.main_arg5) = m' ((c.tc : Thread Cert.SmallBRefIdeal.nD Cert.SmallBRefIdeal.τ).loc Cert.SmallBRefIdeal.main_arg5)
          ∧ r.2.mem ((c.tc : Thread Cert.SmallBRefIdeal.nD Cert.SmallBRefIdeal.τ).loc Cert.SmallBRefIdeal.main_arg6) = m' ((c.tc : Thread Cert.SmallBRefIdeal.nD Cert.SmallBRefIdeal.τ).loc Cert.SmallBRefIdeal.main_arg6)
          ∧ r.2.mem ((c.tc : Thread Cert.SmallBRefIdeal.nD Cert.SmallBRefIdeal.τ).loc Cert.SmallBRefIdeal.main_arg7) = m' ((c.tc : Thread Cert.SmallBRefIdeal.nD Cert.SmallBRefIdeal.τ).loc Cert.SmallBRefIdeal.main_arg7)
          ∧ r.2.mem ((c.tc : Thread Cert.SmallBRefIdeal.nD Cert.SmallBRefIdeal.τ).loc Cert.SmallBRefIdeal.main_arg8) = m' ((c.tc : Thread Cert.SmallBRefIdeal.nD Cert.SmallBRefIdeal.τ).loc Cert.SmallBRefIdeal.main_arg8)
          ∧ r.2.mem ((c.tc : Thread Cert.SmallBRefIdeal.nD Cert.SmallBRefIdeal.τ).loc Cert.SmallBRefIdeal.main_arg9) = m' ((c.tc : Thread Cert.SmallBRefIdeal.nD Cert.SmallBRefIdeal.τ).loc Cert.SmallBRefIdeal.main_arg9)
          ∧ r.2.mem ((c.tc : Thread Cert.SmallBRefIdeal.nD Cert.SmallBRefIdeal.τ).loc Cert.SmallBRefIdeal.main_arg10) = m' ((c.tc : Thread Cert.SmallBRefIdeal.nD Cert.SmallBRefIdeal.τ).loc Cert.SmallBRefIdeal.main_arg10)
          ∧ r.2.mem ((c.tc : Thread Cert.SmallBRefIdeal.nD Cert.SmallBRefIdeal.τ).loc Cert.SmallBRefIdeal.main_arg11) = m' ((c.tc : Thread Cert.SmallBRefIdeal.nD Cert.SmallBRefIdeal.τ).loc Cert.SmallBRefIdeal.main_arg11)
          ∧ r.2.mem ((c.tc : Thread Cert.SmallBRefIdeal.nD Cert.SmallBRefIdeal.τ).loc Cert.SmallBRefIdeal.main_arg12) = m' ((c.tc : Thread Cert.SmallBRefIdeal.nD Cert.SmallBRefIdeal.τ).loc Cert.SmallBRefIdeal.main_arg12)
          ∧ r.2.mem ((c.tc : Thread Cert.SmallBRefIdeal.nD Cert.SmallBRefIdeal.τ).loc Cert.SmallBRefIdeal.main_arg13) = m' ((c.tc : Thread Cert.SmallBRefIdeal.nD Cert.SmallBRefIdeal.τ).loc Cert.SmallBRefIdeal.main_arg13)
          ∧ r.2.mem ((c.tc : Thread Cert.SmallBRefIdeal.nD Cert.SmallBRefIdeal.τ).loc Cert.SmallBRefIdeal.main_arg14) = m' ((c.tc : Thread Cert.SmallBRefIdeal.nD Cert.SmallBRefIdeal.τ).loc Cert.SmallBRefIdeal.main_arg14)
          ∧ r.2.mem ((c.tc : Thread Cert.SmallBRefIdeal.nD Cert.SmallBRefIdeal.τ).loc Cert.SmallBRefIdeal.main_arg15) = m' ((c.tc : Thread Cert.SmallBRefIdeal.nD Cert.SmallBRefIdeal.τ).loc Cert.SmallBRefIdeal.main_arg15))

def preserves_SmallC_SmallCIdeal : Prop :=
  True

def algebraic_SmallCIdeal_SmallCRefIdeal [hSmallCIdeal : Cert.SmallCIdeal.Facts] [hSmallCRefIdeal : Cert.SmallCRefIdeal.Facts] : Prop :=
  ∀ (m : (ℓ : Loc Cert.SmallCIdeal.nD Cert.SmallCIdeal.τ Cert.SmallCIdeal.sig) → Buf (Elt Ideal) ℓ) (g : Dev Cert.SmallCIdeal.nD → PrngReg)
    (m' : (ℓ : Loc Cert.SmallCRefIdeal.nD Cert.SmallCRefIdeal.τ Cert.SmallCRefIdeal.sig) → Buf (Elt Ideal) ℓ) (g' : Dev Cert.SmallCRefIdeal.nD → PrngReg), Pre_SmallCIdeal m →
    (∀ c : Dev Cert.SmallCIdeal.nD,
      m' ((c.tc : Thread Cert.SmallCRefIdeal.nD Cert.SmallCRefIdeal.τ).loc Cert.SmallCRefIdeal.main_arg0) = m ((c.tc : Thread Cert.SmallCIdeal.nD Cert.SmallCIdeal.τ).loc Cert.SmallCIdeal.main_arg0)
      ∧ m' ((c.tc : Thread Cert.SmallCRefIdeal.nD Cert.SmallCRefIdeal.τ).loc Cert.SmallCRefIdeal.main_arg1) = m ((c.tc : Thread Cert.SmallCIdeal.nD Cert.SmallCIdeal.τ).loc Cert.SmallCIdeal.main_arg1)
      ∧ m' ((c.tc : Thread Cert.SmallCRefIdeal.nD Cert.SmallCRefIdeal.τ).loc Cert.SmallCRefIdeal.main_arg2) = m ((c.tc : Thread Cert.SmallCIdeal.nD Cert.SmallCIdeal.τ).loc Cert.SmallCIdeal.main_arg2)
      ∧ m' ((c.tc : Thread Cert.SmallCRefIdeal.nD Cert.SmallCRefIdeal.τ).loc Cert.SmallCRefIdeal.main_arg3) = m ((c.tc : Thread Cert.SmallCIdeal.nD Cert.SmallCIdeal.τ).loc Cert.SmallCIdeal.main_arg3)
      ∧ m' ((c.tc : Thread Cert.SmallCRefIdeal.nD Cert.SmallCRefIdeal.τ).loc Cert.SmallCRefIdeal.main_arg4) = m ((c.tc : Thread Cert.SmallCIdeal.nD Cert.SmallCIdeal.τ).loc Cert.SmallCIdeal.main_arg4)
      ∧ m' ((c.tc : Thread Cert.SmallCRefIdeal.nD Cert.SmallCRefIdeal.τ).loc Cert.SmallCRefIdeal.main_arg5) = m ((c.tc : Thread Cert.SmallCIdeal.nD Cert.SmallCIdeal.τ).loc Cert.SmallCIdeal.main_arg5)
      ∧ m' ((c.tc : Thread Cert.SmallCRefIdeal.nD Cert.SmallCRefIdeal.τ).loc Cert.SmallCRefIdeal.main_arg6) = m ((c.tc : Thread Cert.SmallCIdeal.nD Cert.SmallCIdeal.τ).loc Cert.SmallCIdeal.main_arg6)
      ∧ m' ((c.tc : Thread Cert.SmallCRefIdeal.nD Cert.SmallCRefIdeal.τ).loc Cert.SmallCRefIdeal.main_arg7) = m ((c.tc : Thread Cert.SmallCIdeal.nD Cert.SmallCIdeal.τ).loc Cert.SmallCIdeal.main_arg7)
      ∧ m' ((c.tc : Thread Cert.SmallCRefIdeal.nD Cert.SmallCRefIdeal.τ).loc Cert.SmallCRefIdeal.main_arg8) = m ((c.tc : Thread Cert.SmallCIdeal.nD Cert.SmallCIdeal.τ).loc Cert.SmallCIdeal.main_arg8)
      ∧ m' ((c.tc : Thread Cert.SmallCRefIdeal.nD Cert.SmallCRefIdeal.τ).loc Cert.SmallCRefIdeal.main_arg9) = m ((c.tc : Thread Cert.SmallCIdeal.nD Cert.SmallCIdeal.τ).loc Cert.SmallCIdeal.main_arg9)
      ∧ m' ((c.tc : Thread Cert.SmallCRefIdeal.nD Cert.SmallCRefIdeal.τ).loc Cert.SmallCRefIdeal.main_arg10) = m ((c.tc : Thread Cert.SmallCIdeal.nD Cert.SmallCIdeal.τ).loc Cert.SmallCIdeal.main_arg10)
      ∧ m' ((c.tc : Thread Cert.SmallCRefIdeal.nD Cert.SmallCRefIdeal.τ).loc Cert.SmallCRefIdeal.main_arg11) = m ((c.tc : Thread Cert.SmallCIdeal.nD Cert.SmallCIdeal.τ).loc Cert.SmallCIdeal.main_arg11)
      ∧ m' ((c.tc : Thread Cert.SmallCRefIdeal.nD Cert.SmallCRefIdeal.τ).loc Cert.SmallCRefIdeal.main_arg12) = m ((c.tc : Thread Cert.SmallCIdeal.nD Cert.SmallCIdeal.τ).loc Cert.SmallCIdeal.main_arg12)
      ∧ m' ((c.tc : Thread Cert.SmallCRefIdeal.nD Cert.SmallCRefIdeal.τ).loc Cert.SmallCRefIdeal.main_arg13) = m ((c.tc : Thread Cert.SmallCIdeal.nD Cert.SmallCIdeal.τ).loc Cert.SmallCIdeal.main_arg13)
      ∧ m' ((c.tc : Thread Cert.SmallCRefIdeal.nD Cert.SmallCRefIdeal.τ).loc Cert.SmallCRefIdeal.main_arg14) = m ((c.tc : Thread Cert.SmallCIdeal.nD Cert.SmallCIdeal.τ).loc Cert.SmallCIdeal.main_arg14)
      ∧ m' ((c.tc : Thread Cert.SmallCRefIdeal.nD Cert.SmallCRefIdeal.τ).loc Cert.SmallCRefIdeal.main_arg15) = m ((c.tc : Thread Cert.SmallCIdeal.nD Cert.SmallCIdeal.τ).loc Cert.SmallCIdeal.main_arg15)) →
    ∃ (v0 : (c : Dev Cert.SmallCIdeal.nD) → Buf (Elt Ideal) ((c.tc : Thread Cert.SmallCIdeal.nD Cert.SmallCIdeal.τ).loc Cert.SmallCIdeal.main_v0_0)) (v1 : (c : Dev Cert.SmallCIdeal.nD) → Buf (Elt Ideal) ((c.tc : Thread Cert.SmallCIdeal.nD Cert.SmallCIdeal.τ).loc Cert.SmallCIdeal.main_v0_1)) (v2 : (c : Dev Cert.SmallCIdeal.nD) → Buf (Elt Ideal) ((c.tc : Thread Cert.SmallCIdeal.nD Cert.SmallCIdeal.τ).loc Cert.SmallCIdeal.main_v0_2)) (v3 : (c : Dev Cert.SmallCIdeal.nD) → Buf (Elt Ideal) ((c.tc : Thread Cert.SmallCIdeal.nD Cert.SmallCIdeal.τ).loc Cert.SmallCIdeal.main_v0_3)) (v4 : (c : Dev Cert.SmallCIdeal.nD) → Buf (Elt Ideal) ((c.tc : Thread Cert.SmallCIdeal.nD Cert.SmallCIdeal.τ).loc Cert.SmallCIdeal.main_v0_4)) (v5 : (c : Dev Cert.SmallCIdeal.nD) → Buf (Elt Ideal) ((c.tc : Thread Cert.SmallCIdeal.nD Cert.SmallCIdeal.τ).loc Cert.SmallCIdeal.main_v0_5)) (v6 : (c : Dev Cert.SmallCIdeal.nD) → Buf (Elt Ideal) ((c.tc : Thread Cert.SmallCIdeal.nD Cert.SmallCIdeal.τ).loc Cert.SmallCIdeal.main_v0_6)) (v7 : (c : Dev Cert.SmallCIdeal.nD) → Buf (Elt Ideal) ((c.tc : Thread Cert.SmallCIdeal.nD Cert.SmallCIdeal.τ).loc Cert.SmallCIdeal.main_v0_7)) (v8 : (c : Dev Cert.SmallCIdeal.nD) → Buf (Elt Ideal) ((c.tc : Thread Cert.SmallCIdeal.nD Cert.SmallCIdeal.τ).loc Cert.SmallCIdeal.main_v0_8)) (v9 : (c : Dev Cert.SmallCIdeal.nD) → Buf (Elt Ideal) ((c.tc : Thread Cert.SmallCIdeal.nD Cert.SmallCIdeal.τ).loc Cert.SmallCIdeal.main_v0_9)) (v10 : (c : Dev Cert.SmallCIdeal.nD) → Buf (Elt Ideal) ((c.tc : Thread Cert.SmallCIdeal.nD Cert.SmallCIdeal.τ).loc Cert.SmallCIdeal.main_v0_10)) (v11 : (c : Dev Cert.SmallCIdeal.nD) → Buf (Elt Ideal) ((c.tc : Thread Cert.SmallCIdeal.nD Cert.SmallCIdeal.τ).loc Cert.SmallCIdeal.main_v0_11)),
      θ_run (Cert.SmallCIdeal.defs (F := Ideal)) (onTc (τ := Cert.SmallCIdeal.τ) (Cert.SmallCIdeal.main (F := Ideal))) ⟨m, fun _ => 0, g⟩ (fun r => ∀ c : Dev Cert.SmallCIdeal.nD,
          r.2.mem ((c.tc : Thread Cert.SmallCIdeal.nD Cert.SmallCIdeal.τ).loc Cert.SmallCIdeal.main_v0_0) = v0 c
          ∧ r.2.mem ((c.tc : Thread Cert.SmallCIdeal.nD Cert.SmallCIdeal.τ).loc Cert.SmallCIdeal.main_v0_1) = v1 c
          ∧ r.2.mem ((c.tc : Thread Cert.SmallCIdeal.nD Cert.SmallCIdeal.τ).loc Cert.SmallCIdeal.main_v0_2) = v2 c
          ∧ r.2.mem ((c.tc : Thread Cert.SmallCIdeal.nD Cert.SmallCIdeal.τ).loc Cert.SmallCIdeal.main_v0_3) = v3 c
          ∧ r.2.mem ((c.tc : Thread Cert.SmallCIdeal.nD Cert.SmallCIdeal.τ).loc Cert.SmallCIdeal.main_v0_4) = v4 c
          ∧ r.2.mem ((c.tc : Thread Cert.SmallCIdeal.nD Cert.SmallCIdeal.τ).loc Cert.SmallCIdeal.main_v0_5) = v5 c
          ∧ r.2.mem ((c.tc : Thread Cert.SmallCIdeal.nD Cert.SmallCIdeal.τ).loc Cert.SmallCIdeal.main_v0_6) = v6 c
          ∧ r.2.mem ((c.tc : Thread Cert.SmallCIdeal.nD Cert.SmallCIdeal.τ).loc Cert.SmallCIdeal.main_v0_7) = v7 c
          ∧ r.2.mem ((c.tc : Thread Cert.SmallCIdeal.nD Cert.SmallCIdeal.τ).loc Cert.SmallCIdeal.main_v0_8) = v8 c
          ∧ r.2.mem ((c.tc : Thread Cert.SmallCIdeal.nD Cert.SmallCIdeal.τ).loc Cert.SmallCIdeal.main_v0_9) = v9 c
          ∧ r.2.mem ((c.tc : Thread Cert.SmallCIdeal.nD Cert.SmallCIdeal.τ).loc Cert.SmallCIdeal.main_v0_10) = v10 c
          ∧ r.2.mem ((c.tc : Thread Cert.SmallCIdeal.nD Cert.SmallCIdeal.τ).loc Cert.SmallCIdeal.main_v0_11) = v11 c
          ∧ r.2.mem ((c.tc : Thread Cert.SmallCIdeal.nD Cert.SmallCIdeal.τ).loc Cert.SmallCIdeal.main_arg0) = m ((c.tc : Thread Cert.SmallCIdeal.nD Cert.SmallCIdeal.τ).loc Cert.SmallCIdeal.main_arg0)
          ∧ r.2.mem ((c.tc : Thread Cert.SmallCIdeal.nD Cert.SmallCIdeal.τ).loc Cert.SmallCIdeal.main_arg1) = m ((c.tc : Thread Cert.SmallCIdeal.nD Cert.SmallCIdeal.τ).loc Cert.SmallCIdeal.main_arg1)
          ∧ r.2.mem ((c.tc : Thread Cert.SmallCIdeal.nD Cert.SmallCIdeal.τ).loc Cert.SmallCIdeal.main_arg2) = m ((c.tc : Thread Cert.SmallCIdeal.nD Cert.SmallCIdeal.τ).loc Cert.SmallCIdeal.main_arg2)
          ∧ r.2.mem ((c.tc : Thread Cert.SmallCIdeal.nD Cert.SmallCIdeal.τ).loc Cert.SmallCIdeal.main_arg3) = m ((c.tc : Thread Cert.SmallCIdeal.nD Cert.SmallCIdeal.τ).loc Cert.SmallCIdeal.main_arg3)
          ∧ r.2.mem ((c.tc : Thread Cert.SmallCIdeal.nD Cert.SmallCIdeal.τ).loc Cert.SmallCIdeal.main_arg4) = m ((c.tc : Thread Cert.SmallCIdeal.nD Cert.SmallCIdeal.τ).loc Cert.SmallCIdeal.main_arg4)
          ∧ r.2.mem ((c.tc : Thread Cert.SmallCIdeal.nD Cert.SmallCIdeal.τ).loc Cert.SmallCIdeal.main_arg5) = m ((c.tc : Thread Cert.SmallCIdeal.nD Cert.SmallCIdeal.τ).loc Cert.SmallCIdeal.main_arg5)
          ∧ r.2.mem ((c.tc : Thread Cert.SmallCIdeal.nD Cert.SmallCIdeal.τ).loc Cert.SmallCIdeal.main_arg6) = m ((c.tc : Thread Cert.SmallCIdeal.nD Cert.SmallCIdeal.τ).loc Cert.SmallCIdeal.main_arg6)
          ∧ r.2.mem ((c.tc : Thread Cert.SmallCIdeal.nD Cert.SmallCIdeal.τ).loc Cert.SmallCIdeal.main_arg7) = m ((c.tc : Thread Cert.SmallCIdeal.nD Cert.SmallCIdeal.τ).loc Cert.SmallCIdeal.main_arg7)
          ∧ r.2.mem ((c.tc : Thread Cert.SmallCIdeal.nD Cert.SmallCIdeal.τ).loc Cert.SmallCIdeal.main_arg8) = m ((c.tc : Thread Cert.SmallCIdeal.nD Cert.SmallCIdeal.τ).loc Cert.SmallCIdeal.main_arg8)
          ∧ r.2.mem ((c.tc : Thread Cert.SmallCIdeal.nD Cert.SmallCIdeal.τ).loc Cert.SmallCIdeal.main_arg9) = m ((c.tc : Thread Cert.SmallCIdeal.nD Cert.SmallCIdeal.τ).loc Cert.SmallCIdeal.main_arg9)
          ∧ r.2.mem ((c.tc : Thread Cert.SmallCIdeal.nD Cert.SmallCIdeal.τ).loc Cert.SmallCIdeal.main_arg10) = m ((c.tc : Thread Cert.SmallCIdeal.nD Cert.SmallCIdeal.τ).loc Cert.SmallCIdeal.main_arg10)
          ∧ r.2.mem ((c.tc : Thread Cert.SmallCIdeal.nD Cert.SmallCIdeal.τ).loc Cert.SmallCIdeal.main_arg11) = m ((c.tc : Thread Cert.SmallCIdeal.nD Cert.SmallCIdeal.τ).loc Cert.SmallCIdeal.main_arg11)
          ∧ r.2.mem ((c.tc : Thread Cert.SmallCIdeal.nD Cert.SmallCIdeal.τ).loc Cert.SmallCIdeal.main_arg12) = m ((c.tc : Thread Cert.SmallCIdeal.nD Cert.SmallCIdeal.τ).loc Cert.SmallCIdeal.main_arg12)
          ∧ r.2.mem ((c.tc : Thread Cert.SmallCIdeal.nD Cert.SmallCIdeal.τ).loc Cert.SmallCIdeal.main_arg13) = m ((c.tc : Thread Cert.SmallCIdeal.nD Cert.SmallCIdeal.τ).loc Cert.SmallCIdeal.main_arg13)
          ∧ r.2.mem ((c.tc : Thread Cert.SmallCIdeal.nD Cert.SmallCIdeal.τ).loc Cert.SmallCIdeal.main_arg14) = m ((c.tc : Thread Cert.SmallCIdeal.nD Cert.SmallCIdeal.τ).loc Cert.SmallCIdeal.main_arg14)
          ∧ r.2.mem ((c.tc : Thread Cert.SmallCIdeal.nD Cert.SmallCIdeal.τ).loc Cert.SmallCIdeal.main_arg15) = m ((c.tc : Thread Cert.SmallCIdeal.nD Cert.SmallCIdeal.τ).loc Cert.SmallCIdeal.main_arg15))
      ∧ θ_run (Cert.SmallCRefIdeal.defs (F := Ideal)) (onTc (τ := Cert.SmallCRefIdeal.τ) (Cert.SmallCRefIdeal.main (F := Ideal))) ⟨m', fun _ => 0, g'⟩ (fun r => ∀ c : Dev Cert.SmallCRefIdeal.nD,
          r.2.mem ((c.tc : Thread Cert.SmallCRefIdeal.nD Cert.SmallCRefIdeal.τ).loc Cert.SmallCRefIdeal.main_v23) = v0 c
          ∧ r.2.mem ((c.tc : Thread Cert.SmallCRefIdeal.nD Cert.SmallCRefIdeal.τ).loc Cert.SmallCRefIdeal.main_v47) = v1 c
          ∧ r.2.mem ((c.tc : Thread Cert.SmallCRefIdeal.nD Cert.SmallCRefIdeal.τ).loc Cert.SmallCRefIdeal.main_v71) = v2 c
          ∧ r.2.mem ((c.tc : Thread Cert.SmallCRefIdeal.nD Cert.SmallCRefIdeal.τ).loc Cert.SmallCRefIdeal.main_v95) = v3 c
          ∧ r.2.mem ((c.tc : Thread Cert.SmallCRefIdeal.nD Cert.SmallCRefIdeal.τ).loc Cert.SmallCRefIdeal.main_v4) = v4 c
          ∧ r.2.mem ((c.tc : Thread Cert.SmallCRefIdeal.nD Cert.SmallCRefIdeal.τ).loc Cert.SmallCRefIdeal.main_v28) = v5 c
          ∧ r.2.mem ((c.tc : Thread Cert.SmallCRefIdeal.nD Cert.SmallCRefIdeal.τ).loc Cert.SmallCRefIdeal.main_v52) = v6 c
          ∧ r.2.mem ((c.tc : Thread Cert.SmallCRefIdeal.nD Cert.SmallCRefIdeal.τ).loc Cert.SmallCRefIdeal.main_v76) = v7 c
          ∧ r.2.mem ((c.tc : Thread Cert.SmallCRefIdeal.nD Cert.SmallCRefIdeal.τ).loc Cert.SmallCRefIdeal.main_v10) = v8 c
          ∧ r.2.mem ((c.tc : Thread Cert.SmallCRefIdeal.nD Cert.SmallCRefIdeal.τ).loc Cert.SmallCRefIdeal.main_v34) = v9 c
          ∧ r.2.mem ((c.tc : Thread Cert.SmallCRefIdeal.nD Cert.SmallCRefIdeal.τ).loc Cert.SmallCRefIdeal.main_v58) = v10 c
          ∧ r.2.mem ((c.tc : Thread Cert.SmallCRefIdeal.nD Cert.SmallCRefIdeal.τ).loc Cert.SmallCRefIdeal.main_v82) = v11 c
          ∧ r.2.mem ((c.tc : Thread Cert.SmallCRefIdeal.nD Cert.SmallCRefIdeal.τ).loc Cert.SmallCRefIdeal.main_arg0) = m' ((c.tc : Thread Cert.SmallCRefIdeal.nD Cert.SmallCRefIdeal.τ).loc Cert.SmallCRefIdeal.main_arg0)
          ∧ r.2.mem ((c.tc : Thread Cert.SmallCRefIdeal.nD Cert.SmallCRefIdeal.τ).loc Cert.SmallCRefIdeal.main_arg1) = m' ((c.tc : Thread Cert.SmallCRefIdeal.nD Cert.SmallCRefIdeal.τ).loc Cert.SmallCRefIdeal.main_arg1)
          ∧ r.2.mem ((c.tc : Thread Cert.SmallCRefIdeal.nD Cert.SmallCRefIdeal.τ).loc Cert.SmallCRefIdeal.main_arg2) = m' ((c.tc : Thread Cert.SmallCRefIdeal.nD Cert.SmallCRefIdeal.τ).loc Cert.SmallCRefIdeal.main_arg2)
          ∧ r.2.mem ((c.tc : Thread Cert.SmallCRefIdeal.nD Cert.SmallCRefIdeal.τ).loc Cert.SmallCRefIdeal.main_arg3) = m' ((c.tc : Thread Cert.SmallCRefIdeal.nD Cert.SmallCRefIdeal.τ).loc Cert.SmallCRefIdeal.main_arg3)
          ∧ r.2.mem ((c.tc : Thread Cert.SmallCRefIdeal.nD Cert.SmallCRefIdeal.τ).loc Cert.SmallCRefIdeal.main_arg4) = m' ((c.tc : Thread Cert.SmallCRefIdeal.nD Cert.SmallCRefIdeal.τ).loc Cert.SmallCRefIdeal.main_arg4)
          ∧ r.2.mem ((c.tc : Thread Cert.SmallCRefIdeal.nD Cert.SmallCRefIdeal.τ).loc Cert.SmallCRefIdeal.main_arg5) = m' ((c.tc : Thread Cert.SmallCRefIdeal.nD Cert.SmallCRefIdeal.τ).loc Cert.SmallCRefIdeal.main_arg5)
          ∧ r.2.mem ((c.tc : Thread Cert.SmallCRefIdeal.nD Cert.SmallCRefIdeal.τ).loc Cert.SmallCRefIdeal.main_arg6) = m' ((c.tc : Thread Cert.SmallCRefIdeal.nD Cert.SmallCRefIdeal.τ).loc Cert.SmallCRefIdeal.main_arg6)
          ∧ r.2.mem ((c.tc : Thread Cert.SmallCRefIdeal.nD Cert.SmallCRefIdeal.τ).loc Cert.SmallCRefIdeal.main_arg7) = m' ((c.tc : Thread Cert.SmallCRefIdeal.nD Cert.SmallCRefIdeal.τ).loc Cert.SmallCRefIdeal.main_arg7)
          ∧ r.2.mem ((c.tc : Thread Cert.SmallCRefIdeal.nD Cert.SmallCRefIdeal.τ).loc Cert.SmallCRefIdeal.main_arg8) = m' ((c.tc : Thread Cert.SmallCRefIdeal.nD Cert.SmallCRefIdeal.τ).loc Cert.SmallCRefIdeal.main_arg8)
          ∧ r.2.mem ((c.tc : Thread Cert.SmallCRefIdeal.nD Cert.SmallCRefIdeal.τ).loc Cert.SmallCRefIdeal.main_arg9) = m' ((c.tc : Thread Cert.SmallCRefIdeal.nD Cert.SmallCRefIdeal.τ).loc Cert.SmallCRefIdeal.main_arg9)
          ∧ r.2.mem ((c.tc : Thread Cert.SmallCRefIdeal.nD Cert.SmallCRefIdeal.τ).loc Cert.SmallCRefIdeal.main_arg10) = m' ((c.tc : Thread Cert.SmallCRefIdeal.nD Cert.SmallCRefIdeal.τ).loc Cert.SmallCRefIdeal.main_arg10)
          ∧ r.2.mem ((c.tc : Thread Cert.SmallCRefIdeal.nD Cert.SmallCRefIdeal.τ).loc Cert.SmallCRefIdeal.main_arg11) = m' ((c.tc : Thread Cert.SmallCRefIdeal.nD Cert.SmallCRefIdeal.τ).loc Cert.SmallCRefIdeal.main_arg11)
          ∧ r.2.mem ((c.tc : Thread Cert.SmallCRefIdeal.nD Cert.SmallCRefIdeal.τ).loc Cert.SmallCRefIdeal.main_arg12) = m' ((c.tc : Thread Cert.SmallCRefIdeal.nD Cert.SmallCRefIdeal.τ).loc Cert.SmallCRefIdeal.main_arg12)
          ∧ r.2.mem ((c.tc : Thread Cert.SmallCRefIdeal.nD Cert.SmallCRefIdeal.τ).loc Cert.SmallCRefIdeal.main_arg13) = m' ((c.tc : Thread Cert.SmallCRefIdeal.nD Cert.SmallCRefIdeal.τ).loc Cert.SmallCRefIdeal.main_arg13)
          ∧ r.2.mem ((c.tc : Thread Cert.SmallCRefIdeal.nD Cert.SmallCRefIdeal.τ).loc Cert.SmallCRefIdeal.main_arg14) = m' ((c.tc : Thread Cert.SmallCRefIdeal.nD Cert.SmallCRefIdeal.τ).loc Cert.SmallCRefIdeal.main_arg14)
          ∧ r.2.mem ((c.tc : Thread Cert.SmallCRefIdeal.nD Cert.SmallCRefIdeal.τ).loc Cert.SmallCRefIdeal.main_arg15) = m' ((c.tc : Thread Cert.SmallCRefIdeal.nD Cert.SmallCRefIdeal.τ).loc Cert.SmallCRefIdeal.main_arg15))

def Claim : Prop :=
  ∃ (hBwdIn : Cert.BwdIn.Facts) (hBwdInIdeal : Cert.BwdInIdeal.Facts) (hBwdInRefIdeal : Cert.BwdInRefIdeal.Facts) (hMlp : Cert.Mlp.Facts) (hMlpIdeal : Cert.MlpIdeal.Facts) (hMlpRefIdeal : Cert.MlpRefIdeal.Facts) (hBwdGates : Cert.BwdGates.Facts) (hBwdGatesIdeal : Cert.BwdGatesIdeal.Facts) (hBwdGatesRefIdeal : Cert.BwdGatesRefIdeal.Facts) (hLru : Cert.Lru.Facts) (hLruIdeal : Cert.LruIdeal.Facts) (hLruRefIdeal : Cert.LruRefIdeal.Facts) (hBwdSgu : Cert.BwdSgu.Facts) (hBwdSguIdeal : Cert.BwdSguIdeal.Facts) (hBwdSguRefIdeal : Cert.BwdSguRefIdeal.Facts) (hBwdConv : Cert.BwdConv.Facts) (hBwdConvIdeal : Cert.BwdConvIdeal.Facts) (hBwdConvRefIdeal : Cert.BwdConvRefIdeal.Facts) (hBwdMerge : Cert.BwdMerge.Facts) (hBwdMergeIdeal : Cert.BwdMergeIdeal.Facts) (hBwdMergeRefIdeal : Cert.BwdMergeRefIdeal.Facts) (hFsm : Cert.Fsm.Facts) (hFsmIdeal : Cert.FsmIdeal.Facts) (hFsmRefIdeal : Cert.FsmRefIdeal.Facts) (hWgrad : Cert.Wgrad.Facts) (hWgradIdeal : Cert.WgradIdeal.Facts) (hWgradRefIdeal : Cert.WgradRefIdeal.Facts) (hWsq : Cert.Wsq.Facts) (hWsqIdeal : Cert.WsqIdeal.Facts) (hWsqRefIdeal : Cert.WsqRefIdeal.Facts) (hAdamw : Cert.Adamw.Facts) (hAdamwIdeal : Cert.AdamwIdeal.Facts) (hAdamwRefIdeal : Cert.AdamwRefIdeal.Facts) (hSmallA : Cert.SmallA.Facts) (hSmallAIdeal : Cert.SmallAIdeal.Facts) (hSmallARefIdeal : Cert.SmallARefIdeal.Facts) (hSmallB : Cert.SmallB.Facts) (hSmallBIdeal : Cert.SmallBIdeal.Facts) (hSmallBRefIdeal : Cert.SmallBRefIdeal.Facts) (hSmallC : Cert.SmallC.Facts) (hSmallCIdeal : Cert.SmallCIdeal.Facts) (hSmallCRefIdeal : Cert.SmallCRefIdeal.Facts) (hPre_gates_finite : Cert.Pre_gates_finite.Facts) (hPre_lru_finite : Cert.Pre_lru_finite.Facts) (hPre_sgu_finite : Cert.Pre_sgu_finite.Facts),
    quiescent_BwdIn (hBwdIn := hBwdIn)
    ∧ quiescent_BwdInIdeal (hBwdInIdeal := hBwdInIdeal)
    ∧ quiescent_BwdInRefIdeal (hBwdInRefIdeal := hBwdInRefIdeal)
    ∧ quiescent_Mlp (hMlp := hMlp)
    ∧ quiescent_MlpIdeal (hMlpIdeal := hMlpIdeal)
    ∧ quiescent_MlpRefIdeal (hMlpRefIdeal := hMlpRefIdeal)
    ∧ quiescent_BwdGates (hBwdGates := hBwdGates)
    ∧ quiescent_BwdGatesIdeal (hBwdGatesIdeal := hBwdGatesIdeal)
    ∧ quiescent_BwdGatesIdeal_pre_gates_finite (hBwdGatesIdeal := hBwdGatesIdeal) (hPre_gates_finite := hPre_gates_finite)
    ∧ quiescent_BwdGatesRefIdeal (hBwdGatesRefIdeal := hBwdGatesRefIdeal)
    ∧ quiescent_BwdGatesRefIdeal_pre_gates_finite (hBwdGatesRefIdeal := hBwdGatesRefIdeal) (hPre_gates_finite := hPre_gates_finite)
    ∧ quiescent_Lru (hLru := hLru)
    ∧ quiescent_LruIdeal (hLruIdeal := hLruIdeal)
    ∧ quiescent_LruIdeal_pre_lru_finite (hLruIdeal := hLruIdeal) (hPre_lru_finite := hPre_lru_finite)
    ∧ quiescent_LruRefIdeal (hLruRefIdeal := hLruRefIdeal)
    ∧ quiescent_LruRefIdeal_pre_lru_finite (hLruRefIdeal := hLruRefIdeal) (hPre_lru_finite := hPre_lru_finite)
    ∧ quiescent_BwdSgu (hBwdSgu := hBwdSgu)
    ∧ quiescent_BwdSguIdeal (hBwdSguIdeal := hBwdSguIdeal)
    ∧ quiescent_BwdSguIdeal_pre_sgu_finite (hBwdSguIdeal := hBwdSguIdeal) (hPre_sgu_finite := hPre_sgu_finite)
    ∧ quiescent_BwdSguRefIdeal (hBwdSguRefIdeal := hBwdSguRefIdeal)
    ∧ quiescent_BwdSguRefIdeal_pre_sgu_finite (hBwdSguRefIdeal := hBwdSguRefIdeal) (hPre_sgu_finite := hPre_sgu_finite)
    ∧ quiescent_BwdConv (hBwdConv := hBwdConv)
    ∧ quiescent_BwdConvIdeal (hBwdConvIdeal := hBwdConvIdeal)
    ∧ quiescent_BwdConvRefIdeal (hBwdConvRefIdeal := hBwdConvRefIdeal)
    ∧ quiescent_BwdMerge (hBwdMerge := hBwdMerge)
    ∧ quiescent_BwdMergeIdeal (hBwdMergeIdeal := hBwdMergeIdeal)
    ∧ quiescent_BwdMergeRefIdeal (hBwdMergeRefIdeal := hBwdMergeRefIdeal)
    ∧ quiescent_Fsm (hFsm := hFsm)
    ∧ quiescent_FsmIdeal (hFsmIdeal := hFsmIdeal)
    ∧ quiescent_FsmRefIdeal (hFsmRefIdeal := hFsmRefIdeal)
    ∧ quiescent_Wgrad (hWgrad := hWgrad)
    ∧ quiescent_WgradIdeal (hWgradIdeal := hWgradIdeal)
    ∧ quiescent_WgradRefIdeal (hWgradRefIdeal := hWgradRefIdeal)
    ∧ quiescent_Wsq (hWsq := hWsq)
    ∧ quiescent_WsqIdeal (hWsqIdeal := hWsqIdeal)
    ∧ quiescent_WsqRefIdeal (hWsqRefIdeal := hWsqRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_SmallA (hSmallA := hSmallA)
    ∧ quiescent_SmallAIdeal (hSmallAIdeal := hSmallAIdeal)
    ∧ quiescent_SmallARefIdeal (hSmallARefIdeal := hSmallARefIdeal)
    ∧ quiescent_SmallB (hSmallB := hSmallB)
    ∧ quiescent_SmallBIdeal (hSmallBIdeal := hSmallBIdeal)
    ∧ quiescent_SmallBRefIdeal (hSmallBRefIdeal := hSmallBRefIdeal)
    ∧ quiescent_SmallC (hSmallC := hSmallC)
    ∧ quiescent_SmallCIdeal (hSmallCIdeal := hSmallCIdeal)
    ∧ quiescent_SmallCRefIdeal (hSmallCRefIdeal := hSmallCRefIdeal)
    ∧ preserves_BwdIn_BwdInIdeal
    ∧ algebraic_BwdInIdeal_BwdInRefIdeal (hBwdInIdeal := hBwdInIdeal) (hBwdInRefIdeal := hBwdInRefIdeal)
    ∧ preserves_Mlp_MlpIdeal
    ∧ algebraic_MlpIdeal_MlpRefIdeal (hMlpIdeal := hMlpIdeal) (hMlpRefIdeal := hMlpRefIdeal)
    ∧ preserves_BwdGates_BwdGatesIdeal
    ∧ algebraic_BwdGatesIdeal_BwdGatesRefIdeal_pre_gates_finite (hBwdGatesIdeal := hBwdGatesIdeal) (hBwdGatesRefIdeal := hBwdGatesRefIdeal) (hPre_gates_finite := hPre_gates_finite)
    ∧ preserves_Lru_LruIdeal
    ∧ algebraic_LruIdeal_LruRefIdeal_pre_lru_finite (hLruIdeal := hLruIdeal) (hLruRefIdeal := hLruRefIdeal) (hPre_lru_finite := hPre_lru_finite)
    ∧ preserves_BwdSgu_BwdSguIdeal
    ∧ algebraic_BwdSguIdeal_BwdSguRefIdeal_pre_sgu_finite (hBwdSguIdeal := hBwdSguIdeal) (hBwdSguRefIdeal := hBwdSguRefIdeal) (hPre_sgu_finite := hPre_sgu_finite)
    ∧ preserves_BwdConv_BwdConvIdeal
    ∧ algebraic_BwdConvIdeal_BwdConvRefIdeal (hBwdConvIdeal := hBwdConvIdeal) (hBwdConvRefIdeal := hBwdConvRefIdeal)
    ∧ preserves_BwdMerge_BwdMergeIdeal
    ∧ algebraic_BwdMergeIdeal_BwdMergeRefIdeal (hBwdMergeIdeal := hBwdMergeIdeal) (hBwdMergeRefIdeal := hBwdMergeRefIdeal)
    ∧ preserves_Fsm_FsmIdeal
    ∧ algebraic_FsmIdeal_FsmRefIdeal (hFsmIdeal := hFsmIdeal) (hFsmRefIdeal := hFsmRefIdeal)
    ∧ preserves_Wgrad_WgradIdeal
    ∧ algebraic_WgradIdeal_WgradRefIdeal (hWgradIdeal := hWgradIdeal) (hWgradRefIdeal := hWgradRefIdeal)
    ∧ preserves_Wsq_WsqIdeal
    ∧ algebraic_WsqIdeal_WsqRefIdeal (hWsqIdeal := hWsqIdeal) (hWsqRefIdeal := hWsqRefIdeal)
    ∧ preserves_Adamw_AdamwIdeal
    ∧ algebraic_AdamwIdeal_AdamwRefIdeal (hAdamwIdeal := hAdamwIdeal) (hAdamwRefIdeal := hAdamwRefIdeal)
    ∧ preserves_SmallA_SmallAIdeal
    ∧ algebraic_SmallAIdeal_SmallARefIdeal (hSmallAIdeal := hSmallAIdeal) (hSmallARefIdeal := hSmallARefIdeal)
    ∧ preserves_SmallB_SmallBIdeal
    ∧ algebraic_SmallBIdeal_SmallBRefIdeal (hSmallBIdeal := hSmallBIdeal) (hSmallBRefIdeal := hSmallBRefIdeal)
    ∧ preserves_SmallC_SmallCIdeal
    ∧ algebraic_SmallCIdeal_SmallCRefIdeal (hSmallCIdeal := hSmallCIdeal) (hSmallCRefIdeal := hSmallCRefIdeal)
-- ==== Pre_gates_finite.lean ====
abbrev S1x4096x6144 : Shape := ⟨3, ![1, 4096, 6144]⟩
abbrev S1x4x1024 : Shape := ⟨3, ![1, 4, 1024]⟩
abbrev S1x1024 : Shape := ⟨2, ![1, 1024]⟩
abbrev S1x4x256x256 : Shape := ⟨4, ![1, 4, 256, 256]⟩
abbrev S1x4x256 : Shape := ⟨3, ![1, 4, 256]⟩
abbrev S1x4096x1024 : Shape := ⟨3, ![1, 4096, 1024]⟩
abbrev S_ : Shape := ⟨0, ![]⟩

class Facts : Prop where
  bcast_S_S1x4096x6144 : S_.BroadcastsInDim S1x4096x6144 (![] : Fin 0 → Fin S1x4096x6144.rank)
  reducesTo_S1x4096x6144_S_d0_1_2 : S1x4096x6144.ReducesTo [0, 1, 2] S_
  h_S_ : 0 < S_.numel
  bcast_S_S1x4x1024 : S_.BroadcastsInDim S1x4x1024 (![] : Fin 0 → Fin S1x4x1024.rank)
  reducesTo_S1x4x1024_S_d0_1_2 : S1x4x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x4x256x256 : S_.BroadcastsInDim S1x4x256x256 (![] : Fin 0 → Fin S1x4x256x256.rank)
  reducesTo_S1x4x256x256_S_d0_1_2_3 : S1x4x256x256.ReducesTo [0, 1, 2, 3] S_
  bcast_S_S1x4x256 : S_.BroadcastsInDim S1x4x256 (![] : Fin 0 → Fin S1x4x256.rank)
  reducesTo_S1x4x256_S_d0_1_2 : S1x4x256.ReducesTo [0, 1, 2] S_
  bcast_S_S1x4096x1024 : S_.BroadcastsInDim S1x4096x1024 (![] : Fin 0 → Fin S1x4096x1024.rank)
  reducesTo_S1x4096x1024_S_d0_1_2 : S1x4096x1024.ReducesTo [0, 1, 2] S_

variable [Facts]

def fn_part2 {F : FTy → Type} [FloatOps F] (main_arg7 : FVec F S1x1024 .f32) (main_arg8 : FVec F S1x4096x1024 .f32) (main_v33 : IVec S_ 1) : IVec S_ 1 :=
  let main_v34 : FVec F S1x1024 .f32 := Host.absf main_arg7
  let main_cst_12 : FVec F S_ .f32 := constant S_ .f32 0x7F800000#32
  let main_v35 : FVec F S1x1024 .f32 := broadcastInDim S1x1024 ![] bcast_S_S1x1024 main_cst_12
  let main_v36 : IVec S1x1024 1 := cmpf .olt main_v34 main_v35
  let main_c_13 : IVec S_ 1 := constantI S_ 1 1#1
  let main_v37 : IVec S_ 1 := (fun x v => Host.reduce IntOp.andi x v reducesTo_S1x1024_S_d0_1 h_S_) main_v36 main_c_13
  let main_v38 : IVec S_ 1 := andi main_v33 main_v37
  let main_v39 : FVec F S1x4096x1024 .f32 := Host.absf main_arg8
  let main_cst_14 : FVec F S_ .f32 := constant S_ .f32 0x7F800000#32
  let main_v40 : FVec F S1x4096x1024 .f32 := broadcastInDim S1x4096x1024 ![] bcast_S_S1x4096x1024 main_cst_14
  let main_v41 : IVec S1x4096x1024 1 := cmpf .olt main_v39 main_v40
  let main_c_15 : IVec S_ 1 := constantI S_ 1 1#1
  let main_v42 : IVec S_ 1 := (fun x v => Host.reduce IntOp.andi x v reducesTo_S1x4096x1024_S_d0_1_2 h_S_) main_v41 main_c_15
  let main_v43 : IVec S_ 1 := andi main_v38 main_v42
  main_v43

def fn_part1 {F : FTy → Type} [FloatOps F] (main_arg4 : FVec F S1x4x256 .f32) (main_arg5 : FVec F S1x4x256x256 .f32) (main_arg6 : FVec F S1x4x256 .f32) (main_arg7 : FVec F S1x1024 .f32) (main_arg8 : FVec F S1x4096x1024 .f32) (main_v13 : IVec S_ 1) (main_v16 : IVec S1x4x256x256 1) : IVec S_ 1 :=
  let main_c_5 : IVec S_ 1 := constantI S_ 1 1#1
  let main_v17 : IVec S_ 1 := (fun x v => Host.reduce IntOp.andi x v reducesTo_S1x4x256x256_S_d0_1_2_3 h_S_) main_v16 main_c_5
  let main_v18 : IVec S_ 1 := andi main_v13 main_v17
  let main_v19 : FVec F S1x4x256 .f32 := Host.absf main_arg4
  let main_cst_6 : FVec F S_ .f32 := constant S_ .f32 0x7F800000#32
  let main_v20 : FVec F S1x4x256 .f32 := broadcastInDim S1x4x256 ![] bcast_S_S1x4x256 main_cst_6
  let main_v21 : IVec S1x4x256 1 := cmpf .olt main_v19 main_v20
  let main_c_7 : IVec S_ 1 := constantI S_ 1 1#1
  let main_v22 : IVec S_ 1 := (fun x v => Host.reduce IntOp.andi x v reducesTo_S1x4x256_S_d0_1_2 h_S_) main_v21 main_c_7
  let main_v23 : IVec S_ 1 := andi main_v18 main_v22
  let main_v24 : FVec F S1x4x256x256 .f32 := Host.absf main_arg5
  let main_cst_8 : FVec F S_ .f32 := constant S_ .f32 0x7F800000#32
  let main_v25 : FVec F S1x4x256x256 .f32 := broadcastInDim S1x4x256x256 ![] bcast_S_S1x4x256x256 main_cst_8
  let main_v26 : IVec S1x4x256x256 1 := cmpf .olt main_v24 main_v25
  let main_c_9 : IVec S_ 1 := constantI S_ 1 1#1
  let main_v27 : IVec S_ 1 := (fun x v => Host.reduce IntOp.andi x v reducesTo_S1x4x256x256_S_d0_1_2_3 h_S_) main_v26 main_c_9
  let main_v28 : IVec S_ 1 := andi main_v23 main_v27
  let main_v29 : FVec F S1x4x256 .f32 := Host.absf main_arg6
  let main_cst_10 : FVec F S_ .f32 := constant S_ .f32 0x7F800000#32
  let main_v30 : FVec F S1x4x256 .f32 := broadcastInDim S1x4x256 ![] bcast_S_S1x4x256 main_cst_10
  let main_v31 : IVec S1x4x256 1 := cmpf .olt main_v29 main_v30
  let main_c_11 : IVec S_ 1 := constantI S_ 1 1#1
  let main_v32 : IVec S_ 1 := (fun x v => Host.reduce IntOp.andi x v reducesTo_S1x4x256_S_d0_1_2 h_S_) main_v31 main_c_11
  let main_v33 : IVec S_ 1 := andi main_v28 main_v32
  fn_part2 (F := F) main_arg7 main_arg8 main_v33

def fn {F : FTy → Type} [FloatOps F] (main_arg0 : FVec F S1x4096x6144 .f32) (main_arg1 : FVec F S1x4x1024 .f32) (main_arg2 : FVec F S1x1024 .f32) (main_arg3 : FVec F S1x4x256x256 .f32) (main_arg4 : FVec F S1x4x256 .f32) (main_arg5 : FVec F S1x4x256x256 .f32) (main_arg6 : FVec F S1x4x256 .f32) (main_arg7 : FVec F S1x1024 .f32) (main_arg8 : FVec F S1x4096x1024 .f32) : IVec S_ 1 :=
  let main_v0 : FVec F S1x4096x6144 .f32 := Host.absf main_arg0
  let main_cst : FVec F S_ .f32 := constant S_ .f32 0x7F800000#32
  let main_v1 : FVec F S1x4096x6144 .f32 := broadcastInDim S1x4096x6144 ![] bcast_S_S1x4096x6144 main_cst
  let main_v2 : IVec S1x4096x6144 1 := cmpf .olt main_v0 main_v1
  let main_c : IVec S_ 1 := constantI S_ 1 1#1
  let main_v3 : IVec S_ 1 := (fun x v => Host.reduce IntOp.andi x v reducesTo_S1x4096x6144_S_d0_1_2 h_S_) main_v2 main_c
  let main_v4 : FVec F S1x4x1024 .f32 := Host.absf main_arg1
  let main_cst_0 : FVec F S_ .f32 := constant S_ .f32 0x7F800000#32
  let main_v5 : FVec F S1x4x1024 .f32 := broadcastInDim S1x4x1024 ![] bcast_S_S1x4x1024 main_cst_0
  let main_v6 : IVec S1x4x1024 1 := cmpf .olt main_v4 main_v5
  let main_c_1 : IVec S_ 1 := constantI S_ 1 1#1
  let main_v7 : IVec S_ 1 := (fun x v => Host.reduce IntOp.andi x v reducesTo_S1x4x1024_S_d0_1_2 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x4x256x256 .f32 := Host.absf main_arg3
  let main_cst_4 : FVec F S_ .f32 := constant S_ .f32 0x7F800000#32
  let main_v15 : FVec F S1x4x256x256 .f32 := broadcastInDim S1x4x256x256 ![] bcast_S_S1x4x256x256 main_cst_4
  let main_v16 : IVec S1x4x256x256 1 := cmpf .olt main_v14 main_v15
  fn_part1 (F := F) main_arg4 main_arg5 main_arg6 main_arg7 main_arg8 main_v13 main_v16
-- ==== Pre_lru_finite.lean ====
abbrev S1x4096x6144 : Shape := ⟨3, ![1, 4096, 6144]⟩
abbrev S1x4x1024 : Shape := ⟨3, ![1, 4, 1024]⟩
abbrev S1x1024 : Shape := ⟨2, ![1, 1024]⟩
abbrev S1x4x256x256 : Shape := ⟨4, ![1, 4, 256, 256]⟩
abbrev S1x4x256 : Shape := ⟨3, ![1, 4, 256]⟩
abbrev S_ : Shape := ⟨0, ![]⟩

class Facts : Prop where
  bcast_S_S1x4096x6144 : S_.BroadcastsInDim S1x4096x6144 (![] : Fin 0 → Fin S1x4096x6144.rank)
  reducesTo_S1x4096x6144_S_d0_1_2 : S1x4096x6144.ReducesTo [0, 1, 2] S_
  h_S_ : 0 < S_.numel
  bcast_S_S1x4x1024 : S_.BroadcastsInDim S1x4x1024 (![] : Fin 0 → Fin S1x4x1024.rank)
  reducesTo_S1x4x1024_S_d0_1_2 : S1x4x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x4x256x256 : S_.BroadcastsInDim S1x4x256x256 (![] : Fin 0 → Fin S1x4x256x256.rank)
  reducesTo_S1x4x256x256_S_d0_1_2_3 : S1x4x256x256.ReducesTo [0, 1, 2, 3] S_
  bcast_S_S1x4x256 : S_.BroadcastsInDim S1x4x256 (![] : Fin 0 → Fin S1x4x256.rank)
  reducesTo_S1x4x256_S_d0_1_2 : S1x4x256.ReducesTo [0, 1, 2] S_

variable [Facts]

def fn_part2 {F : FTy → Type} [FloatOps F] (main_arg7 : FVec F S1x1024 .f32) (main_v33 : IVec S_ 1) : IVec S_ 1 :=
  let main_v34 : FVec F S1x1024 .f32 := Host.absf main_arg7
  let main_cst_12 : FVec F S_ .f32 := constant S_ .f32 0x7F800000#32
  let main_v35 : FVec F S1x1024 .f32 := broadcastInDim S1x1024 ![] bcast_S_S1x1024 main_cst_12
  let main_v36 : IVec S1x1024 1 := cmpf .olt main_v34 main_v35
  let main_c_13 : IVec S_ 1 := constantI S_ 1 1#1
  let main_v37 : IVec S_ 1 := (fun x v => Host.reduce IntOp.andi x v reducesTo_S1x1024_S_d0_1 h_S_) main_v36 main_c_13
  let main_v38 : IVec S_ 1 := andi main_v33 main_v37
  main_v38

def fn_part1 {F : FTy → Type} [FloatOps F] (main_arg4 : FVec F S1x4x256 .f32) (main_arg5 : FVec F S1x4x256x256 .f32) (main_arg6 : FVec F S1x4x256 .f32) (main_arg7 : FVec F S1x1024 .f32) (main_v13 : IVec S_ 1) (main_v16 : IVec S1x4x256x256 1) : IVec S_ 1 :=
  let main_c_5 : IVec S_ 1 := constantI S_ 1 1#1
  let main_v17 : IVec S_ 1 := (fun x v => Host.reduce IntOp.andi x v reducesTo_S1x4x256x256_S_d0_1_2_3 h_S_) main_v16 main_c_5
  let main_v18 : IVec S_ 1 := andi main_v13 main_v17
  let main_v19 : FVec F S1x4x256 .f32 := Host.absf main_arg4
  let main_cst_6 : FVec F S_ .f32 := constant S_ .f32 0x7F800000#32
  let main_v20 : FVec F S1x4x256 .f32 := broadcastInDim S1x4x256 ![] bcast_S_S1x4x256 main_cst_6
  let main_v21 : IVec S1x4x256 1 := cmpf .olt main_v19 main_v20
  let main_c_7 : IVec S_ 1 := constantI S_ 1 1#1
  let main_v22 : IVec S_ 1 := (fun x v => Host.reduce IntOp.andi x v reducesTo_S1x4x256_S_d0_1_2 h_S_) main_v21 main_c_7
  let main_v23 : IVec S_ 1 := andi main_v18 main_v22
  let main_v24 : FVec F S1x4x256x256 .f32 := Host.absf main_arg5
  let main_cst_8 : FVec F S_ .f32 := constant S_ .f32 0x7F800000#32
  let main_v25 : FVec F S1x4x256x256 .f32 := broadcastInDim S1x4x256x256 ![] bcast_S_S1x4x256x256 main_cst_8
  let main_v26 : IVec S1x4x256x256 1 := cmpf .olt main_v24 main_v25
  let main_c_9 : IVec S_ 1 := constantI S_ 1 1#1
  let main_v27 : IVec S_ 1 := (fun x v => Host.reduce IntOp.andi x v reducesTo_S1x4x256x256_S_d0_1_2_3 h_S_) main_v26 main_c_9
  let main_v28 : IVec S_ 1 := andi main_v23 main_v27
  let main_v29 : FVec F S1x4x256 .f32 := Host.absf main_arg6
  let main_cst_10 : FVec F S_ .f32 := constant S_ .f32 0x7F800000#32
  let main_v30 : FVec F S1x4x256 .f32 := broadcastInDim S1x4x256 ![] bcast_S_S1x4x256 main_cst_10
  let main_v31 : IVec S1x4x256 1 := cmpf .olt main_v29 main_v30
  let main_c_11 : IVec S_ 1 := constantI S_ 1 1#1
  let main_v32 : IVec S_ 1 := (fun x v => Host.reduce IntOp.andi x v reducesTo_S1x4x256_S_d0_1_2 h_S_) main_v31 main_c_11
  let main_v33 : IVec S_ 1 := andi main_v28 main_v32
  fn_part2 (F := F) main_arg7 main_v33

def fn {F : FTy → Type} [FloatOps F] (main_arg0 : FVec F S1x4096x6144 .f32) (main_arg1 : FVec F S1x4x1024 .f32) (main_arg2 : FVec F S1x1024 .f32) (main_arg3 : FVec F S1x4x256x256 .f32) (main_arg4 : FVec F S1x4x256 .f32) (main_arg5 : FVec F S1x4x256x256 .f32) (main_arg6 : FVec F S1x4x256 .f32) (main_arg7 : FVec F S1x1024 .f32) : IVec S_ 1 :=
  let main_v0 : FVec F S1x4096x6144 .f32 := Host.absf main_arg0
  let main_cst : FVec F S_ .f32 := constant S_ .f32 0x7F800000#32
  let main_v1 : FVec F S1x4096x6144 .f32 := broadcastInDim S1x4096x6144 ![] bcast_S_S1x4096x6144 main_cst
  let main_v2 : IVec S1x4096x6144 1 := cmpf .olt main_v0 main_v1
  let main_c : IVec S_ 1 := constantI S_ 1 1#1
  let main_v3 : IVec S_ 1 := (fun x v => Host.reduce IntOp.andi x v reducesTo_S1x4096x6144_S_d0_1_2 h_S_) main_v2 main_c
  let main_v4 : FVec F S1x4x1024 .f32 := Host.absf main_arg1
  let main_cst_0 : FVec F S_ .f32 := constant S_ .f32 0x7F800000#32
  let main_v5 : FVec F S1x4x1024 .f32 := broadcastInDim S1x4x1024 ![] bcast_S_S1x4x1024 main_cst_0
  let main_v6 : IVec S1x4x1024 1 := cmpf .olt main_v4 main_v5
  let main_c_1 : IVec S_ 1 := constantI S_ 1 1#1
  let main_v7 : IVec S_ 1 := (fun x v => Host.reduce IntOp.andi x v reducesTo_S1x4x1024_S_d0_1_2 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x4x256x256 .f32 := Host.absf main_arg3
  let main_cst_4 : FVec F S_ .f32 := constant S_ .f32 0x7F800000#32
  let main_v15 : FVec F S1x4x256x256 .f32 := broadcastInDim S1x4x256x256 ![] bcast_S_S1x4x256x256 main_cst_4
  let main_v16 : IVec S1x4x256x256 1 := cmpf .olt main_v14 main_v15
  fn_part1 (F := F) main_arg4 main_arg5 main_arg6 main_arg7 main_v13 main_v16
-- ==== Pre_sgu_finite.lean ====
abbrev S1x4096x6144 : Shape := ⟨3, ![1, 4096, 6144]⟩
abbrev S1x1024 : Shape := ⟨2, ![1, 1024]⟩
abbrev S1x4x128x128 : Shape := ⟨4, ![1, 4, 128, 128]⟩
abbrev S1x4x128 : Shape := ⟨3, ![1, 4, 128]⟩
abbrev S1x4096x1024 : Shape := ⟨3, ![1, 4096, 1024]⟩
abbrev S_ : Shape := ⟨0, ![]⟩

class Facts : Prop where
  bcast_S_S1x4096x6144 : S_.BroadcastsInDim S1x4096x6144 (![] : Fin 0 → Fin S1x4096x6144.rank)
  reducesTo_S1x4096x6144_S_d0_1_2 : S1x4096x6144.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x4x128x128 : S_.BroadcastsInDim S1x4x128x128 (![] : Fin 0 → Fin S1x4x128x128.rank)
  reducesTo_S1x4x128x128_S_d0_1_2_3 : S1x4x128x128.ReducesTo [0, 1, 2, 3] S_
  bcast_S_S1x4x128 : S_.BroadcastsInDim S1x4x128 (![] : Fin 0 → Fin S1x4x128.rank)
  reducesTo_S1x4x128_S_d0_1_2 : S1x4x128.ReducesTo [0, 1, 2] S_
  bcast_S_S1x4096x1024 : S_.BroadcastsInDim S1x4096x1024 (![] : Fin 0 → Fin S1x4096x1024.rank)
  reducesTo_S1x4096x1024_S_d0_1_2 : S1x4096x1024.ReducesTo [0, 1, 2] S_

variable [Facts]

def fn_part1 {F : FTy → Type} [FloatOps F] (main_arg4 : FVec F S1x4x128 .f32) (main_arg5 : FVec F S1x4096x1024 .f32) (main_v13 : IVec S_ 1) (main_v16 : IVec S1x4x128x128 1) : IVec S_ 1 :=
  let main_c_5 : IVec S_ 1 := constantI S_ 1 1#1
  let main_v17 : IVec S_ 1 := (fun x v => Host.reduce IntOp.andi x v reducesTo_S1x4x128x128_S_d0_1_2_3 h_S_) main_v16 main_c_5
  let main_v18 : IVec S_ 1 := andi main_v13 main_v17
  let main_v19 : FVec F S1x4x128 .f32 := Host.absf main_arg4
  let main_cst_6 : FVec F S_ .f32 := constant S_ .f32 0x7F800000#32
  let main_v20 : FVec F S1x4x128 .f32 := broadcastInDim S1x4x128 ![] bcast_S_S1x4x128 main_cst_6
  let main_v21 : IVec S1x4x128 1 := cmpf .olt main_v19 main_v20
  let main_c_7 : IVec S_ 1 := constantI S_ 1 1#1
  let main_v22 : IVec S_ 1 := (fun x v => Host.reduce IntOp.andi x v reducesTo_S1x4x128_S_d0_1_2 h_S_) main_v21 main_c_7
  let main_v23 : IVec S_ 1 := andi main_v18 main_v22
  let main_v24 : FVec F S1x4096x1024 .f32 := Host.absf main_arg5
  let main_cst_8 : FVec F S_ .f32 := constant S_ .f32 0x7F800000#32
  let main_v25 : FVec F S1x4096x1024 .f32 := broadcastInDim S1x4096x1024 ![] bcast_S_S1x4096x1024 main_cst_8
  let main_v26 : IVec S1x4096x1024 1 := cmpf .olt main_v24 main_v25
  let main_c_9 : IVec S_ 1 := constantI S_ 1 1#1
  let main_v27 : IVec S_ 1 := (fun x v => Host.reduce IntOp.andi x v reducesTo_S1x4096x1024_S_d0_1_2 h_S_) main_v26 main_c_9
  let main_v28 : IVec S_ 1 := andi main_v23 main_v27
  main_v28

def fn {F : FTy → Type} [FloatOps F] (main_arg0 : FVec F S1x4096x6144 .f32) (main_arg1 : FVec F S1x1024 .f32) (main_arg2 : FVec F S1x1024 .f32) (main_arg3 : FVec F S1x4x128x128 .f32) (main_arg4 : FVec F S1x4x128 .f32) (main_arg5 : FVec F S1x4096x1024 .f32) : IVec S_ 1 :=
  let main_v0 : FVec F S1x4096x6144 .f32 := Host.absf main_arg0
  let main_cst : FVec F S_ .f32 := constant S_ .f32 0x7F800000#32
  let main_v1 : FVec F S1x4096x6144 .f32 := broadcastInDim S1x4096x6144 ![] bcast_S_S1x4096x6144 main_cst
  let main_v2 : IVec S1x4096x6144 1 := cmpf .olt main_v0 main_v1
  let main_c : IVec S_ 1 := constantI S_ 1 1#1
  let main_v3 : IVec S_ 1 := (fun x v => Host.reduce IntOp.andi x v reducesTo_S1x4096x6144_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x4x128x128 .f32 := Host.absf main_arg3
  let main_cst_4 : FVec F S_ .f32 := constant S_ .f32 0x7F800000#32
  let main_v15 : FVec F S1x4x128x128 .f32 := broadcastInDim S1x4x128x128 ![] bcast_S_S1x4x128x128 main_cst_4
  let main_v16 : IVec S1x4x128x128 1 := cmpf .olt main_v14 main_v15
  fn_part1 (F := F) main_arg4 main_arg5 main_v13 main_v16
-- ==== BwdIn.lean ====
abbrev S1x4096x1024 : Shape := ⟨3, ![1, 4096, 1024]⟩
abbrev S1x1024 : Shape := ⟨2, ![1, 1024]⟩
abbrev S1x1024x6144 : Shape := ⟨3, ![1, 1024, 6144]⟩
abbrev S4096x6144 : Shape := ⟨2, ![4096, 6144]⟩
abbrev S1024x6144 : Shape := ⟨2, ![1024, 6144]⟩
abbrev S1024x4x1536 : Shape := ⟨3, ![1024, 4, 1536]⟩
abbrev S4x1024x1536 : Shape := ⟨3, ![4, 1024, 1536]⟩
abbrev S4096x1024 : Shape := ⟨2, ![4096, 1024]⟩
abbrev S512x6144 : Shape := ⟨2, ![512, 6144]⟩
abbrev S512x1024 : Shape := ⟨2, ![512, 1024]⟩
abbrev S512x1536 : Shape := ⟨2, ![512, 1536]⟩
abbrev S1x1024x1536 : Shape := ⟨3, ![1, 1024, 1536]⟩
abbrev S1024x1536 : Shape := ⟨2, ![1024, 1536]⟩
abbrev S512 : Shape := ⟨1, ![512]⟩
abbrev S512x1 : Shape := ⟨2, ![512, 1]⟩
abbrev S1024 : Shape := ⟨1, ![1024]⟩

abbrev nBuf : Space → Nat
  | .hbm => 13
  | .vmem => 11
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x6144, .f32⟩
  | .hbm, ⟨3, _⟩ => ⟨S4096x6144, .bf16⟩
  | .hbm, ⟨4, _⟩ => ⟨S1x4096x1024, .f32⟩
  | .hbm, ⟨5, _⟩ => ⟨S1024x6144, .f32⟩
  | .hbm, ⟨6, _⟩ => ⟨S1024x4x1536, .f32⟩
  | .hbm, ⟨7, _⟩ => ⟨S4x1024x1536, .f32⟩
  | .hbm, ⟨8, _⟩ => ⟨S4x1024x1536, .bf16⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S1x1024, .f32⟩
  | .local _ .vmem, ⟨0, _⟩ => ⟨S512x6144, .bf16⟩
  | .local _ .vmem, ⟨1, _⟩ => ⟨S512x6144, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S4x1024x1536, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== BwdInRefIdeal.lean ====
abbrev S1x4096x1024 : Shape := ⟨3, ![1, 4096, 1024]⟩
abbrev S1x1024 : Shape := ⟨2, ![1, 1024]⟩
abbrev S1x1024x6144 : Shape := ⟨3, ![1, 1024, 6144]⟩
abbrev S4096x6144 : Shape := ⟨2, ![4096, 6144]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x6144 : Shape := ⟨2, ![1024, 6144]⟩
abbrev S1x4096x6144 : Shape := ⟨3, ![1, 4096, 6144]⟩
abbrev S4096 : Shape := ⟨1, ![4096]⟩
abbrev S4096x1024 : Shape := ⟨2, ![4096, 1024]⟩

abbrev nBuf : Space → Nat
  | .hbm => 60
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x6144, .f32⟩
  | .hbm, ⟨3, _⟩ => ⟨S4096x6144, .bf16⟩
  | .hbm, ⟨4, _⟩ => ⟨S1x4096x1024, .f32⟩
  | .hbm, ⟨5, _⟩ => ⟨S1024, .f32⟩
  | .hbm, ⟨6, _⟩ => ⟨S1x4096x1024, .f32⟩
  | .hbm, ⟨7, _⟩ => ⟨S_, .f32⟩
  | .hbm, ⟨8, _⟩ => ⟨S1x4096, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S_, .f32⟩
  | .hbm, ⟨19, _⟩ => ⟨S1x4096x1, .f32⟩
  | .hbm, ⟨20, _⟩ => ⟨S1x4096x1, .f32⟩
  | .hbm, ⟨21, _⟩ => ⟨S1x4096x1024, .f32⟩
  | .hbm, ⟨22, _⟩ => ⟨S1x4096x1024, .f32⟩
  | .hbm, ⟨23, _⟩ => ⟨S1x1x1024, .f32⟩
  | .hbm, ⟨24, _⟩ => ⟨S1x4096x1024, .f32⟩
  | .hbm, ⟨25, _⟩ => ⟨S1x4096x1024, .f32⟩
  | .hbm, ⟨26, _⟩ => ⟨S1024x6144, .f32⟩
  | .hbm, ⟨27, _⟩ => ⟨S1x4096x6144, .f32⟩
  | .hbm, ⟨28, _⟩ => ⟨S4096x6144, .f32⟩
  | .hbm, ⟨29, _⟩ => ⟨S1x4096x6144, .f32⟩
  | .hbm, ⟨30, _⟩ => ⟨S1x4096x1024, .f32⟩
  | .hbm, ⟨31, _⟩ => ⟨S1x4096x1024, .f32⟩
  | .hbm, ⟨32, _⟩ => ⟨S_, .f32⟩
  | .hbm, ⟨33, _⟩ => ⟨S1x1024, .f32⟩
  | .hbm, ⟨34, _⟩ => ⟨S1x1x1024, .f32⟩
  | .hbm, ⟨35, _⟩ => ⟨S1x4096x1024, .f32⟩
  | .hbm, ⟨36, _⟩ => ⟨S1x4096x1024, .f32⟩
  | .hbm, ⟨37, _⟩ => ⟨S_, .f32⟩
  | .hbm, ⟨38, _⟩ => ⟨S1024, .f32⟩
  | .hbm, ⟨39, _⟩ => ⟨S1x4096x1024, .f32⟩
  | .hbm, ⟨40, _⟩ => ⟨S_, .f32⟩
  | .hbm, ⟨41, _⟩ => ⟨S1x4096, .f32⟩
  | .hbm, ⟨42, _⟩ => ⟨S1x4096x1, .f32⟩
  | .hbm, ⟨43, _⟩ => ⟨S1x4096x1024, .f32⟩
  | .hbm, ⟨44, _⟩ => ⟨S1x4096x1024, .f32⟩
  | .hbm, ⟨45, _⟩ => ⟨S1x4096x1024, .f32⟩
  | .hbm, ⟨46, _⟩ => ⟨S1x4096x1, .f32⟩
  | .hbm, ⟨47, _⟩ => ⟨S_, .f32⟩
  | .hbm, ⟨48, _⟩ => ⟨S1x4096x1, .f32⟩
  | .hbm, ⟨49, _⟩ => ⟨S1x4096x1, .f32⟩
  | .hbm, ⟨50, _⟩ => ⟨S_, .f32⟩
  | .hbm, ⟨51, _⟩ => ⟨S4096, .f32⟩
  | .hbm, ⟨52, _⟩ => ⟨S1x4096, .f32⟩
  | .hbm, ⟨53, _⟩ => ⟨S1x4096x1024, .f32⟩
  | .hbm, ⟨54, _⟩ => ⟨S1x4096x1024, .f32⟩
  | .hbm, ⟨55, _⟩ => ⟨S1x4096x1024, .f32⟩
  | .hbm, ⟨56, _⟩ => ⟨S1x4096x1024, .f32⟩
  | .hbm, ⟨57, _⟩ => ⟨S1x4096x1024, .f32⟩
  | .hbm, ⟨58, _⟩ => ⟨S1x1024, .f32⟩
  | .hbm, ⟨59, _⟩ => ⟨S4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Mlp.lean ====
abbrev S1x4096x1024 : Shape := ⟨3, ![1, 4096, 1024]⟩
abbrev S1x1024 : Shape := ⟨2, ![1, 1024]⟩
abbrev S1x1024x4096 : Shape := ⟨3, ![1, 1024, 4096]⟩
abbrev S1024 : Shape := ⟨1, ![1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S8x128 : Shape := ⟨2, ![8, 128]⟩
abbrev S256x1024 : Shape := ⟨2, ![256, 1024]⟩
abbrev S256x4096 : Shape := ⟨2, ![256, 4096]⟩
abbrev S1x1024x1024 : Shape := ⟨3, ![1, 1024, 1024]⟩
abbrev S1024x1024 : Shape := ⟨2, ![1024, 1024]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 38
  | .vmem => 22
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1024, .f32⟩
  | .hbm, ⟨5, _⟩ => ⟨S1x4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S1024x4096, .f32⟩
  | .hbm, ⟨25, _⟩ => ⟨S1024x4x1024, .f32⟩
  | .hbm, ⟨26, _⟩ => ⟨S4x1024x1024, .f32⟩
  | .hbm, ⟨27, _⟩ => ⟨S4x1024x1024, .bf16⟩
  | .hbm, ⟨28, _⟩ => ⟨S4096x1024, .f32⟩
  | .hbm, ⟨29, _⟩ => ⟨S4096x1024, .bf16⟩
  | .hbm, ⟨30, _⟩ => ⟨S1x1024, .f32⟩
  | .hbm, ⟨31, _⟩ => ⟨S4096x4096, .bf16⟩
  | .hbm, ⟨32, _⟩ => ⟨S4096x4096, .bf16⟩
  | .hbm, ⟨33, _⟩ => ⟨S4096x1024, .bf16⟩
  | .hbm, ⟨34, _⟩ => ⟨S4096x1024, .f32⟩
  | .hbm, ⟨35, _⟩ => ⟨S8x128, .f32⟩
  | .hbm, ⟨36, _⟩ => ⟨S1x1024, .f32⟩
  | .hbm, ⟨37, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4x1024x1024, .bf16⟩
  | .local _ .vmem, ⟨7, _⟩ => ⟨S4096x1024, .bf16⟩
  | .local _ .vmem, ⟨8, _⟩ => ⟨S1x1024, .f32⟩
  | .local _ .vmem, ⟨9, _⟩ => ⟨S1x1024, .f32⟩
  | .local _ .vmem, ⟨10, _⟩ => ⟨S256x4096, .bf16⟩
  | .local _ .vmem, ⟨11, _⟩ => ⟨S256x4096, .bf16⟩
  | .local _ .vmem, ⟨12, _⟩ => ⟨S256x4096, .bf16⟩
  | .local _ .vmem, ⟨13, _⟩ => ⟨S256x4096, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S8x128, .f32⟩
  | .local _ .vmem, ⟨19, _⟩ => ⟨S1x1024, .f32⟩
  | .local _ .vmem, ⟨20, _⟩ => ⟨S1x1024, .f32⟩
  | .local _ .vmem, ⟨21, _⟩ => ⟨S256x4096, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev main_v22_2 : Ref sig .tc := ⟨.hbm, 33, rfl⟩
abbrev main_v22_3 : Ref sig .tc := ⟨.hbm, 34, rfl⟩
abbrev main_v22_4 : Ref sig .tc := ⟨.hbm, 35, rfl⟩
abbrev main_v22_5 : Ref sig .tc := ⟨.hbm, 36, rfl⟩
abbrev main_v22_6 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MlpRefIdeal.lean ====
abbrev S1x4096x1024 : Shape := ⟨3, ![1, 4096, 1024]⟩
abbrev S1x1024 : Shape := ⟨2, ![1, 1024]⟩
abbrev S1x1024x4096 : Shape := ⟨3, ![1, 1024, 4096]⟩
abbrev S1024 : Shape := ⟨1, ![1024]⟩
abbrev S_ : Shape := ⟨0, ![]⟩
abbrev S1x4096x4096 : Shape := ⟨3, ![1, 4096, 4096]⟩
abbrev S1x4096 : Shape := ⟨2, ![1, 4096]⟩
abbrev S1x4096x1 : Shape := ⟨3, ![1, 4096, 1]⟩
abbrev S1x1x1024 : Shape := ⟨3, ![1, 1, 1024]⟩
abbrev S1024x4096 : Shape := ⟨2, ![1024, 4096]⟩
abbrev S4096x1024 : Shape := ⟨2, ![4096, 1024]⟩
abbrev S4096 : Shape := ⟨1, ![4096]⟩
abbrev S8x128 : Shape := ⟨2, ![8, 128]⟩
abbrev S4096x4096 : Shape := ⟨2, ![4096, 4096]⟩

abbrev nBuf : Space → Nat
  | .hbm => 161
  | .vmem => 0
  | .smem => 0
  | _ => 0

abbrev hbmTy0_0 (i : Nat) : BufTy := match i % 128 with
  | 0 => ⟨S1x4096x1024, .f32⟩
  | 1 => ⟨S1x1024, .f32⟩
  | 2 => ⟨S1x1024x4096, .f32⟩
  | 3 => ⟨S1x4096x1024, .f32⟩
  | 4 => ⟨S1024, .f32⟩
  | 5 => ⟨S1x4096x1024, .f32⟩
  | 6 => ⟨S_, .f32⟩
  | 7 => ⟨S1x4096x4096, .f32⟩
  | 8 => ⟨S_, .f32⟩
  | 9 => ⟨S1x4096x1024, .f32⟩
  | 10 => ⟨S1024, .f32⟩
  | 11 => ⟨S1x4096x1024, .f32⟩
  | 12 => ⟨S_, .f32⟩
  | 13 => ⟨S1x4096, .f32⟩
  | 14 => ⟨S1x4096x1, .f32⟩
  | 15 => ⟨S_, .f32⟩
  | 16 => ⟨S1x4096x1, .f32⟩
  | 17 => ⟨S1x4096x1, .f32⟩
  | 18 => ⟨S_, .f32⟩
  | 19 => ⟨S1x4096x1, .f32⟩
  | 20 => ⟨S1x4096x1, .f32⟩
  | 21 => ⟨S1x4096x1, .f32⟩
  | 22 => ⟨S1x4096x1, .f32⟩
  | 23 => ⟨S_, .f32⟩
  | 24 => ⟨S1x4096x1, .f32⟩
  | 25 => ⟨S1x4096x1, .f32⟩
  | 26 => ⟨S1x4096x1024, .f32⟩
  | 27 => ⟨S1x4096x1024, .f32⟩
  | 28 => ⟨S1x1x1024, .f32⟩
  | 29 => ⟨S1x4096x1024, .f32⟩
  | 30 => ⟨S1x4096x1024, .f32⟩
  | 31 => ⟨S1024x4096, .f32⟩
  | 32 => ⟨S1x4096x4096, .f32⟩
  | 33 => ⟨S1x4096x4096, .f32⟩
  | 34 => ⟨S_, .f32⟩
  | 35 => ⟨S1x4096x4096, .f32⟩
  | 36 => ⟨S1x4096x4096, .f32⟩
  | 37 => ⟨S_, .f32⟩
  | 38 => ⟨S1x4096x4096, .f32⟩
  | 39 => ⟨S1x4096x4096, .i1⟩
  | 40 => ⟨S_, .f32⟩
  | 41 => ⟨S1x4096x4096, .f32⟩
  | 42 => ⟨S1x4096x4096, .f32⟩
  | 43 => ⟨S_, .f32⟩
  | 44 => ⟨S1x4096x4096, .f32⟩
  | 45 => ⟨S1x4096x4096, .f32⟩
  | 46 => ⟨S4096x1024, .f32⟩
  | 47 => ⟨S1x4096x1024, .f32⟩
  | 48 => ⟨S1x4096x1024, .f32⟩
  | 49 => ⟨S1x4096x1024, .f32⟩
  | 50 => ⟨S1x4096x1024, .f32⟩
  | 51 => ⟨S_, .f32⟩
  | 52 => ⟨S1x4096, .f32⟩
  | 53 => ⟨S1x4096x1, .f32⟩
  | 54 => ⟨S_, .f32⟩
  | 55 => ⟨S1x4096x1, .f32⟩
  | 56 => ⟨S1x4096x1, .f32⟩
  | 57 => ⟨S_, .f32⟩
  | 58 => ⟨S1x4096x1, .f32⟩
  | 59 => ⟨S1x4096x1, .f32⟩
  | 60 => ⟨S1x4096x1, .f32⟩
  | 61 => ⟨S1x4096x1, .f32⟩
  | 62 => ⟨S_, .f32⟩
  | 63 => ⟨S1x4096x1, .f32⟩
  | 64 => ⟨S1x4096x1, .f32⟩
  | 65 => ⟨S1x4096x1024, .f32⟩
  | 66 => ⟨S1x4096x1024, .f32⟩
  | 67 => ⟨S1x1x1024, .f32⟩
  | 68 => ⟨S1x4096x1024, .f32⟩
  | 69 => ⟨S1x4096x1024, .f32⟩
  | 70 => ⟨S1x4096x1024, .f32⟩
  | 71 => ⟨S1x4096x1024, .f32⟩
  | 72 => ⟨S_, .f32⟩
  | 73 => ⟨S1x4096, .f32⟩
  | 74 => ⟨S_, .f32⟩
  | 75 => ⟨S1x4096, .f32⟩
  | 76 => ⟨S1x4096, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S1x4096, .f32⟩
  | 85 => ⟨S_, .f32⟩
  | 86 => ⟨S1x4096, .f32⟩
  | 87 => ⟨S1x4096, .f32⟩
  | 88 => ⟨S1x4096x1024, .f32⟩
  | 89 => ⟨S1x4096x1024, .f32⟩
  | 90 => ⟨S1x4096x1024, .f32⟩
  | 91 => ⟨S1x4096x1024, .f32⟩
  | 92 => ⟨S1x4096x1024, .f32⟩
  | 93 => ⟨S_, .f32⟩
  | 94 => ⟨S1x1024, .f32⟩
  | 95 => ⟨S1x1x1024, .f32⟩
  | 96 => ⟨S1x4096x1024, .f32⟩
  | 97 => ⟨S1x4096x1024, .f32⟩
  | 98 => ⟨S_, .f32⟩
  | 99 => ⟨S1024, .f32⟩
  | 100 => ⟨S1x4096x1024, .f32⟩
  | 101 => ⟨S_, .f32⟩
  | 102 => ⟨S1x4096, .f32⟩
  | 103 => ⟨S1x4096x1, .f32⟩
  | 104 => ⟨S1x4096x1024, .f32⟩
  | 105 => ⟨S1x4096x1024, .f32⟩
  | 106 => ⟨S1x4096x1, .f32⟩
  | 107 => ⟨S_, .f32⟩
  | 108 => ⟨S1x4096x1, .f32⟩
  | 109 => ⟨S1x4096x1, .f32⟩
  | 110 => ⟨S_, .f32⟩
  | 111 => ⟨S4096, .f32⟩
  | 112 => ⟨S1x4096, .f32⟩
  | 113 => ⟨S1x4096x1024, .f32⟩
  | 114 => ⟨S1x4096x1024, .f32⟩
  | 115 => ⟨S1x4096x1024, .f32⟩
  | 116 => ⟨S1x4096x1024, .f32⟩
  | 117 => ⟨S1x4096x1024, .f32⟩
  | 118 => ⟨S1x4096x4096, .f32⟩
  | 119 => ⟨S1x4096x4096, .f32⟩
  | 120 => ⟨S_, .f32⟩
  | 121 => ⟨S1x4096x4096, .f32⟩
  | 122 => ⟨S1x4096x4096, .f32⟩
  | 123 => ⟨S1x4096x1024, .f32⟩
  | 124 => ⟨S1x4096x1024, .f32⟩
  | 125 => ⟨S_, .f32⟩
  | 126 => ⟨S1x1024, .f32⟩
  | 127 => ⟨S1x1x1024, .f32⟩
  | _ => ⟨S1x4096x1024, .f32⟩

abbrev hbmTy0_1 (i : Nat) : BufTy := match i % 128 with
  | 0 => ⟨S1x4096x1024, .f32⟩
  | 1 => ⟨S1x4096x1024, .f32⟩
  | 2 => ⟨S_, .f32⟩
  | 3 => ⟨S1024, .f32⟩
  | 4 => ⟨S1x4096x1024, .f32⟩
  | 5 => ⟨S_, .f32⟩
  | 6 => ⟨S1x4096, .f32⟩
  | 7 => ⟨S1x4096x1, .f32⟩
  | 8 => ⟨S1x4096x1024, .f32⟩
  | 9 => ⟨S1x4096x1024, .f32⟩
  | 10 => ⟨S1x4096x1024, .f32⟩
  | 11 => ⟨S1x4096x1, .f32⟩
  | 12 => ⟨S_, .f32⟩
  | 13 => ⟨S1x4096x1, .f32⟩
  | 14 => ⟨S1x4096x1, .f32⟩
  | 15 => ⟨S_, .f32⟩
  | 16 => ⟨S4096, .f32⟩
  | 17 => ⟨S1x4096, .f32⟩
  | 18 => ⟨S1x4096x1024, .f32⟩
  | 19 => ⟨S1x4096x1024, .f32⟩
  | 20 => ⟨S1x4096x1024, .f32⟩
  | 21 => ⟨S1x4096x1024, .f32⟩
  | 22 => ⟨S1x4096x1024, .f32⟩
  | 23 => ⟨S1x1024, .f32⟩
  | 24 => ⟨S8x128, .f32⟩
  | 25 => ⟨S4096x1024, .f32⟩
  | 26 => ⟨S1x1024, .f32⟩
  | 27 => ⟨S4096x4096, .f32⟩
  | 28 => ⟨S4096x4096, .bf16⟩
  | 29 => ⟨S4096x4096, .f32⟩
  | 30 => ⟨S4096x4096, .bf16⟩
  | 31 => ⟨S4096x1024, .f32⟩
  | 32 => ⟨S4096x1024, .bf16⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_cst : Ref sig .tc := ⟨.hbm, 34, rfl⟩
abbrev main_call0_v0 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_cst_10 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_11 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_12 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩
abbrev main_v53 : Ref sig .tc := ⟨.hbm, 76, rfl⟩
abbrev main_cst_14 : Ref sig .tc := ⟨.hbm, 77, rfl⟩
abbrev main_v54 : Ref sig .tc := ⟨.hbm, 78, rfl⟩
abbrev main_cst_15 : Ref sig .tc := ⟨.hbm, 79, rfl⟩
abbrev main_v55 : Ref sig .tc := ⟨.hbm, 80, rfl⟩
abbrev main_cst_16 : Ref sig .tc := ⟨.hbm, 81, rfl⟩
abbrev main_cst_17 : Ref sig .tc := ⟨.hbm, 82, rfl⟩
abbrev main_v56 : Ref sig .tc := ⟨.hbm, 83, rfl⟩
abbrev main_v57 : Ref sig .tc := ⟨.hbm, 84, rfl⟩
abbrev main_cst_18 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_19 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_20 : Ref sig .tc := ⟨.hbm, 98, rfl⟩
abbrev main_v69 : Ref sig .tc := ⟨.hbm, 99, rfl⟩
abbrev main_v70 : Ref sig .tc := ⟨.hbm, 100, rfl⟩
abbrev main_cst_21 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_22 : Ref sig .tc := ⟨.hbm, 107, rfl⟩
abbrev main_v76 : Ref sig .tc := ⟨.hbm, 108, rfl⟩
abbrev main_v77 : Ref sig .tc := ⟨.hbm, 109, rfl⟩
abbrev main_cst_23 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_24 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_25 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_26 : Ref sig .tc := ⟨.hbm, 130, rfl⟩
abbrev main_v95 : Ref sig .tc := ⟨.hbm, 131, rfl⟩
abbrev main_v96 : Ref sig .tc := ⟨.hbm, 132, rfl⟩
abbrev main_cst_27 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_28 : Ref sig .tc := ⟨.hbm, 140, rfl⟩
abbrev main_v103 : Ref sig .tc := ⟨.hbm, 141, rfl⟩
abbrev main_v104 : Ref sig .tc := ⟨.hbm, 142, rfl⟩
abbrev main_cst_29 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩

abbrev nD : Nat := 1
abbrev τ : Topo := Topo.v7x

variable {F : FTy → Type} [FloatOps F]
-- ==== BwdGates.lean ====
abbrev S1x4096x6144 : Shape := ⟨3, ![1, 4096, 6144]⟩
abbrev S1x4x1024 : Shape := ⟨3, ![1, 4, 1024]⟩
abbrev S1x1024 : Shape := ⟨2, ![1, 1024]⟩
abbrev S1x4x256x256 : Shape := ⟨4, ![1, 4, 256, 256]⟩
abbrev S1x4x256 : Shape := ⟨3, ![1, 4, 256]⟩
abbrev S1x4096x1024 : Shape := ⟨3, ![1, 4096, 1024]⟩
abbrev S4x1024 : Shape := ⟨2, ![4, 1024]⟩
abbrev S1024 : Shape := ⟨1, ![1024]⟩
abbrev S_ : Shape := ⟨0, ![]⟩
abbrev S1x3x1024 : Shape := ⟨3, ![1, 3, 1024]⟩
abbrev S1x4099x1024 : Shape := ⟨3, ![1, 4099, 1024]⟩
abbrev S1x1x1024 : Shape := ⟨3, ![1, 1, 1024]⟩
abbrev S4x256x256 : Shape := ⟨3, ![4, 256, 256]⟩
abbrev S4x256 : Shape := ⟨2, ![4, 256]⟩
abbrev S1x4096x4x256 : Shape := ⟨4, ![1, 4096, 4, 256]⟩
abbrev S4x256x1x4096 : Shape := ⟨4, ![4, 256, 1, 4096]⟩
abbrev S1x1x4x256 : Shape := ⟨4, ![1, 1, 4, 256]⟩
abbrev S1x4095x1024 : Shape := ⟨3, ![1, 4095, 1024]⟩
abbrev S1x2x1024 : Shape := ⟨3, ![1, 2, 1024]⟩
abbrev S1x4094x1024 : Shape := ⟨3, ![1, 4094, 1024]⟩
abbrev S1x4092x1024 : Shape := ⟨3, ![1, 4092, 1024]⟩
abbrev S1x8x1024 : Shape := ⟨3, ![1, 8, 1024]⟩
abbrev S1x4088x1024 : Shape := ⟨3, ![1, 4088, 1024]⟩
abbrev S1x16x1024 : Shape := ⟨3, ![1, 16, 1024]⟩
abbrev S1x4080x1024 : Shape := ⟨3, ![1, 4080, 1024]⟩
abbrev S1x32x1024 : Shape := ⟨3, ![1, 32, 1024]⟩
abbrev S1x4064x1024 : Shape := ⟨3, ![1, 4064, 1024]⟩
abbrev S1x64x1024 : Shape := ⟨3, ![1, 64, 1024]⟩
abbrev S1x4032x1024 : Shape := ⟨3, ![1, 4032, 1024]⟩
abbrev S1x128x1024 : Shape := ⟨3, ![1, 128, 1024]⟩
abbrev S1x3968x1024 : Shape := ⟨3, ![1, 3968, 1024]⟩
abbrev S1x256x1024 : Shape := ⟨3, ![1, 256, 1024]⟩
abbrev S1x3840x1024 : Shape := ⟨3, ![1, 3840, 1024]⟩
abbrev S1x512x1024 : Shape := ⟨3, ![1, 512, 1024]⟩
abbrev S1x3584x1024 : Shape := ⟨3, ![1, 3584, 1024]⟩
abbrev S1x1024x1024 : Shape := ⟨3, ![1, 1024, 1024]⟩
abbrev S1x3072x1024 : Shape := ⟨3, ![1, 3072, 1024]⟩
abbrev S1x2048x1024 : Shape := ⟨3, ![1, 2048, 1024]⟩
abbrev S4096x1024 : Shape := ⟨2, ![4096, 1024]⟩
abbrev S4096x6144 : Shape := ⟨2, ![4096, 6144]⟩
abbrev S256x1024 : Shape := ⟨2, ![256, 1024]⟩
abbrev S8x1024 : Shape := ⟨2, ![8, 1024]⟩
abbrev S248x1024 : Shape := ⟨2, ![248, 1024]⟩
abbrev S32x8x1024 : Shape := ⟨3, ![32, 8, 1024]⟩
abbrev S256x256 : Shape := ⟨2, ![256, 256]⟩
abbrev S1x256x256 : Shape := ⟨3, ![1, 256, 256]⟩

abbrev nBuf : Space → Nat
  | .hbm => 282
  | .vmem => 25
  | .smem => 0
  | _ => 0

abbrev hbmTy0_0 (i : Nat) : BufTy := match i % 128 with
  | 0 => ⟨S1x4096x6144, .f32⟩
  | 1 => ⟨S1x4x1024, .f32⟩
  | 2 => ⟨S1x1024, .f32⟩
  | 3 => ⟨S1x4x256x256, .f32⟩
  | 4 => ⟨S1x4x256, .f32⟩
  | 5 => ⟨S1x4x256x256, .f32⟩
  | 6 => ⟨S1x4x256, .f32⟩
  | 7 => ⟨S1x1024, .f32⟩
  | 8 => ⟨S1x4096x1024, .f32⟩
  | 9 => ⟨S1x4096x1024, .f32⟩
  | 10 => ⟨S4x1024, .f32⟩
  | 11 => ⟨S1024, .f32⟩
  | 12 => ⟨S_, .f32⟩
  | 13 => ⟨S1x3x1024, .f32⟩
  | 14 => ⟨S1x4099x1024, .f32⟩
  | 15 => ⟨S1x4096x1024, .f32⟩
  | 16 => ⟨S1x1024, .f32⟩
  | 17 => ⟨S1024, .f32⟩
  | 18 => ⟨S1x1x1024, .f32⟩
  | 19 => ⟨S1x4096x1024, .f32⟩
  | 20 => ⟨S1x4096x1024, .f32⟩
  | 21 => ⟨S1x1x1024, .f32⟩
  | 22 => ⟨S1x4096x1024, .f32⟩
  | 23 => ⟨S1x4096x1024, .f32⟩
  | 24 => ⟨S1x4096x1024, .f32⟩
  | 25 => ⟨S1x1024, .f32⟩
  | 26 => ⟨S1024, .f32⟩
  | 27 => ⟨S1x1x1024, .f32⟩
  | 28 => ⟨S1x4096x1024, .f32⟩
  | 29 => ⟨S1x4096x1024, .f32⟩
  | 30 => ⟨S1x4096x1024, .f32⟩
  | 31 => ⟨S1x4096x1024, .f32⟩
  | 32 => ⟨S1x1024, .f32⟩
  | 33 => ⟨S1024, .f32⟩
  | 34 => ⟨S1x1x1024, .f32⟩
  | 35 => ⟨S1x4096x1024, .f32⟩
  | 36 => ⟨S1x4096x1024, .f32⟩
  | 37 => ⟨S1x4096x1024, .f32⟩
  | 38 => ⟨S1x4096x1024, .f32⟩
  | 39 => ⟨S1x1024, .f32⟩
  | 40 => ⟨S1024, .f32⟩
  | 41 => ⟨S1x1x1024, .f32⟩
  | 42 => ⟨S1x4096x1024, .f32⟩
  | 43 => ⟨S1x4096x1024, .f32⟩
  | 44 => ⟨S1x4096x1024, .f32⟩
  | 45 => ⟨S4x256x256, .f32⟩
  | 46 => ⟨S4x256, .f32⟩
  | 47 => ⟨S4x256x256, .f32⟩
  | 48 => ⟨S4x256, .f32⟩
  | 49 => ⟨S1024, .f32⟩
  | 50 => ⟨S1x4096x4x256, .f32⟩
  | 51 => ⟨S4x256x1x4096, .f32⟩
  | 52 => ⟨S1x4096x4x256, .f32⟩
  | 53 => ⟨S1x1x4x256, .f32⟩
  | 54 => ⟨S1x4096x4x256, .f32⟩
  | 55 => ⟨S1x4096x4x256, .f32⟩
  | 56 => ⟨S1x4096x4x256, .f32⟩
  | 57 => ⟨S1x4096x4x256, .f32⟩
  | 58 => ⟨S_, .f32⟩
  | 59 => ⟨S1x4096x4x256, .f32⟩
  | 60 => ⟨S1x4096x4x256, .f32⟩
  | 61 => ⟨S_, .f32⟩
  | 62 => ⟨S1x4096x4x256, .f32⟩
  | 63 => ⟨S1x4096x4x256, .f32⟩
  | 64 => ⟨S1x4096x1024, .f32⟩
  | 65 => ⟨S4x256x1x4096, .f32⟩
  | 66 => ⟨S1x4096x4x256, .f32⟩
  | 67 => ⟨S1x1x4x256, .f32⟩
  | 68 => ⟨S1x4096x4x256, .f32⟩
  | 69 => ⟨S1x4096x4x256, .f32⟩
  | 70 => ⟨S1x4096x4x256, .f32⟩
  | 71 => ⟨S1x4096x4x256, .f32⟩
  | 72 => ⟨S_, .f32⟩
  | 73 => ⟨S1x4096x4x256, .f32⟩
  | 74 => ⟨S1x4096x4x256, .f32⟩
  | 75 => ⟨S_, .f32⟩
  | 76 => ⟨S1x4096x4x256, .f32⟩
  | 77 => ⟨S1x4096x4x256, .f32⟩
  | 78 => ⟨S1x4096x1024, .f32⟩
  | 79 => ⟨S_, .f32⟩
  | 80 => ⟨S1x4096x1024, .f32⟩
  | 81 => ⟨S1x4096x1024, .f32⟩
  | 82 => ⟨S1024, .f32⟩
  | 83 => ⟨S_, .f32⟩
  | 84 => ⟨S1024, .f32⟩
  | 85 => ⟨S1024, .f32⟩
  | 86 => ⟨S1024, .f32⟩
  | 87 => ⟨S1024, .f32⟩
  | 88 => ⟨S1024, .i1⟩
  | 89 => ⟨S1024, .f32⟩
  | 90 => ⟨S1024, .f32⟩
  | 91 => ⟨S1024, .f32⟩
  | 92 => ⟨S1024, .f32⟩
  | 93 => ⟨S1024, .f32⟩
  | 94 => ⟨S1024, .f32⟩
  | 95 => ⟨S1024, .f32⟩
  | 96 => ⟨S1024, .f32⟩
  | 97 => ⟨S1x1x1024, .f32⟩
  | 98 => ⟨S1x4096x1024, .f32⟩
  | 99 => ⟨S1x4096x1024, .f32⟩
  | 100 => ⟨S1x4096x1024, .f32⟩
  | 101 => ⟨S_, .f32⟩
  | 102 => ⟨S1x4096x1024, .f32⟩
  | 103 => ⟨S1x4096x1024, .f32⟩
  | 104 => ⟨S1x4096x1024, .f32⟩
  | 105 => ⟨S1x4096x1024, .f32⟩
  | 106 => ⟨S1x4096x1024, .f32⟩
  | 107 => ⟨S1x4096x1024, .f32⟩
  | 108 => ⟨S1x4096x1024, .f32⟩
  | 109 => ⟨S1x1x1024, .f32⟩
  | 110 => ⟨S_, .f32⟩
  | 111 => ⟨S1x1x1024, .f32⟩
  | 112 => ⟨S1x4095x1024, .f32⟩
  | 113 => ⟨S1x4096x1024, .f32⟩
  | 114 => ⟨S1x4096x1024, .f32⟩
  | 115 => ⟨S1x1x1024, .f32⟩
  | 116 => ⟨S_, .f32⟩
  | 117 => ⟨S1x1x1024, .f32⟩
  | 118 => ⟨S1x4095x1024, .f32⟩
  | 119 => ⟨S1x4096x1024, .f32⟩
  | 120 => ⟨S1x4096x1024, .f32⟩
  | 121 => ⟨S1x4096x1024, .f32⟩
  | 122 => ⟨S1x2x1024, .f32⟩
  | 123 => ⟨S_, .f32⟩
  | 124 => ⟨S1x2x1024, .f32⟩
  | 125 => ⟨S1x4094x1024, .f32⟩
  | 126 => ⟨S1x4096x1024, .f32⟩
  | 127 => ⟨S1x4096x1024, .f32⟩
  | _ => ⟨S1x4096x6144, .f32⟩

abbrev hbmTy0_1 (i : Nat) : BufTy := match i % 128 with
  | 0 => ⟨S1x2x1024, .f32⟩
  | 1 => ⟨S_, .f32⟩
  | 2 => ⟨S1x2x1024, .f32⟩
  | 3 => ⟨S1x4094x1024, .f32⟩
  | 4 => ⟨S1x4096x1024, .f32⟩
  | 5 => ⟨S1x4096x1024, .f32⟩
  | 6 => ⟨S1x4096x1024, .f32⟩
  | 7 => ⟨S1x4x1024, .f32⟩
  | 8 => ⟨S_, .f32⟩
  | 9 => ⟨S1x4x1024, .f32⟩
  | 10 => ⟨S1x4092x1024, .f32⟩
  | 11 => ⟨S1x4096x1024, .f32⟩
  | 12 => ⟨S1x4096x1024, .f32⟩
  | 13 => ⟨S1x4x1024, .f32⟩
  | 14 => ⟨S_, .f32⟩
  | 15 => ⟨S1x4x1024, .f32⟩
  | 16 => ⟨S1x4092x1024, .f32⟩
  | 17 => ⟨S1x4096x1024, .f32⟩
  | 18 => ⟨S1x4096x1024, .f32⟩
  | 19 => ⟨S1x4096x1024, .f32⟩
  | 20 => ⟨S1x8x1024, .f32⟩
  | 21 => ⟨S_, .f32⟩
  | 22 => ⟨S1x8x1024, .f32⟩
  | 23 => ⟨S1x4088x1024, .f32⟩
  | 24 => ⟨S1x4096x1024, .f32⟩
  | 25 => ⟨S1x4096x1024, .f32⟩
  | 26 => ⟨S1x8x1024, .f32⟩
  | 27 => ⟨S_, .f32⟩
  | 28 => ⟨S1x8x1024, .f32⟩
  | 29 => ⟨S1x4088x1024, .f32⟩
  | 30 => ⟨S1x4096x1024, .f32⟩
  | 31 => ⟨S1x4096x1024, .f32⟩
  | 32 => ⟨S1x4096x1024, .f32⟩
  | 33 => ⟨S1x16x1024, .f32⟩
  | 34 => ⟨S_, .f32⟩
  | 35 => ⟨S1x16x1024, .f32⟩
  | 36 => ⟨S1x4080x1024, .f32⟩
  | 37 => ⟨S1x4096x1024, .f32⟩
  | 38 => ⟨S1x4096x1024, .f32⟩
  | 39 => ⟨S1x16x1024, .f32⟩
  | 40 => ⟨S_, .f32⟩
  | 41 => ⟨S1x16x1024, .f32⟩
  | 42 => ⟨S1x4080x1024, .f32⟩
  | 43 => ⟨S1x4096x1024, .f32⟩
  | 44 => ⟨S1x4096x1024, .f32⟩
  | 45 => ⟨S1x4096x1024, .f32⟩
  | 46 => ⟨S1x32x1024, .f32⟩
  | 47 => ⟨S_, .f32⟩
  | 48 => ⟨S1x32x1024, .f32⟩
  | 49 => ⟨S1x4064x1024, .f32⟩
  | 50 => ⟨S1x4096x1024, .f32⟩
  | 51 => ⟨S1x4096x1024, .f32⟩
  | 52 => ⟨S1x32x1024, .f32⟩
  | 53 => ⟨S_, .f32⟩
  | 54 => ⟨S1x32x1024, .f32⟩
  | 55 => ⟨S1x4064x1024, .f32⟩
  | 56 => ⟨S1x4096x1024, .f32⟩
  | 57 => ⟨S1x4096x1024, .f32⟩
  | 58 => ⟨S1x4096x1024, .f32⟩
  | 59 => ⟨S1x64x1024, .f32⟩
  | 60 => ⟨S_, .f32⟩
  | 61 => ⟨S1x64x1024, .f32⟩
  | 62 => ⟨S1x4032x1024, .f32⟩
  | 63 => ⟨S1x4096x1024, .f32⟩
  | 64 => ⟨S1x4096x1024, .f32⟩
  | 65 => ⟨S1x64x1024, .f32⟩
  | 66 => ⟨S_, .f32⟩
  | 67 => ⟨S1x64x1024, .f32⟩
  | 68 => ⟨S1x4032x1024, .f32⟩
  | 69 => ⟨S1x4096x1024, .f32⟩
  | 70 => ⟨S1x4096x1024, .f32⟩
  | 71 => ⟨S1x4096x1024, .f32⟩
  | 72 => ⟨S1x128x1024, .f32⟩
  | 73 => ⟨S_, .f32⟩
  | 74 => ⟨S1x128x1024, .f32⟩
  | 75 => ⟨S1x3968x1024, .f32⟩
  | 76 => ⟨S1x4096x1024, .f32⟩
  | 77 => ⟨S1x4096x1024, .f32⟩
  | 78 => ⟨S1x128x1024, .f32⟩
  | 79 => ⟨S_, .f32⟩
  | 80 => ⟨S1x128x1024, .f32⟩
  | 81 => ⟨S1x3968x1024, .f32⟩
  | 82 => ⟨S1x4096x1024, .f32⟩
  | 83 => ⟨S1x4096x1024, .f32⟩
  | 84 => ⟨S1x4096x1024, .f32⟩
  | 85 => ⟨S1x256x1024, .f32⟩
  | 86 => ⟨S_, .f32⟩
  | 87 => ⟨S1x256x1024, .f32⟩
  | 88 => ⟨S1x3840x1024, .f32⟩
  | 89 => ⟨S1x4096x1024, .f32⟩
  | 90 => ⟨S1x4096x1024, .f32⟩
  | 91 => ⟨S1x256x1024, .f32⟩
  | 92 => ⟨S_, .f32⟩
  | 93 => ⟨S1x256x1024, .f32⟩
  | 94 => ⟨S1x3840x1024, .f32⟩
  | 95 => ⟨S1x4096x1024, .f32⟩
  | 96 => ⟨S1x4096x1024, .f32⟩
  | 97 => ⟨S1x4096x1024, .f32⟩
  | 98 => ⟨S1x512x1024, .f32⟩
  | 99 => ⟨S_, .f32⟩
  | 100 => ⟨S1x512x1024, .f32⟩
  | 101 => ⟨S1x3584x1024, .f32⟩
  | 102 => ⟨S1x4096x1024, .f32⟩
  | 103 => ⟨S1x4096x1024, .f32⟩
  | 104 => ⟨S1x512x1024, .f32⟩
  | 105 => ⟨S_, .f32⟩
  | 106 => ⟨S1x512x1024, .f32⟩
  | 107 => ⟨S1x3584x1024, .f32⟩
  | 108 => ⟨S1x4096x1024, .f32⟩
  | 109 => ⟨S1x4096x1024, .f32⟩
  | 110 => ⟨S1x4096x1024, .f32⟩
  | 111 => ⟨S1x1024x1024, .f32⟩
  | 112 => ⟨S_, .f32⟩
  | 113 => ⟨S1x1024x1024, .f32⟩
  | 114 => ⟨S1x3072x1024, .f32⟩
  | 115 => ⟨S1x4096x1024, .f32⟩
  | 116 => ⟨S1x4096x1024, .f32⟩
  | 117 => ⟨S1x1024x1024, .f32⟩
  | 118 => ⟨S_, .f32⟩
  | 119 => ⟨S1x1024x1024, .f32⟩
  | 120 => ⟨S1x3072x1024, .f32⟩
  | 121 => ⟨S1x4096x1024, .f32⟩
  | 122 => ⟨S1x4096x1024, .f32⟩
  | 123 => ⟨S1x4096x1024, .f32⟩
  | 124 => ⟨S1x2048x1024, .f32⟩
  | 125 => ⟨S_, .f32⟩
  | 126 => ⟨S1x2048x1024, .f32⟩
  | 127 => ⟨S1x2048x1024, .f32⟩
  | _ => ⟨S1x4096x6144, .f32⟩

abbrev hbmTy0_2 (i : Nat) : BufTy := match i % 128 with
  | 0 => ⟨S1x4096x1024, .f32⟩
  | 1 => ⟨S1x4096x1024, .f32⟩
  | 2 => ⟨S1x2048x1024, .f32⟩
  | 3 => ⟨S_, .f32⟩
  | 4 => ⟨S1x2048x1024, .f32⟩
  | 5 => ⟨S1x2048x1024, .f32⟩
  | 6 => ⟨S1x4096x1024, .f32⟩
  | 7 => ⟨S1x4096x1024, .f32⟩
  | 8 => ⟨S1x4096x1024, .f32⟩
  | 9 => ⟨S4x256x256, .f32⟩
  | 10 => ⟨S4x256x256, .bf16⟩
  | 11 => ⟨S4x256x256, .f32⟩
  | 12 => ⟨S4x256x256, .bf16⟩
  | 13 => ⟨S4096x1024, .f32⟩
  | 14 => ⟨S4096x6144, .f32⟩
  | 15 => ⟨S4096x6144, .bf16⟩
  | 16 => ⟨S4096x1024, .f32⟩
  | 17 => ⟨S4096x1024, .f32⟩
  | 18 => ⟨S4096x1024, .f32⟩
  | 19 => ⟨S4096x1024, .f32⟩
  | 20 => ⟨S4096x1024, .f32⟩
  | 21 => ⟨S4x256x256, .f32⟩
  | 22 => ⟨S1x1024, .f32⟩
  | 23 => ⟨S4x256x256, .f32⟩
  | 24 => ⟨S1x1024, .f32⟩
  | 25 => ⟨S1x1024, .f32⟩
  | _ => ⟨S1x4096x6144, .f32⟩

abbrev hbmTy (i : Nat) : BufTy := match i / 128 with
  | 0 => hbmTy0_0 i
  | 1 => hbmTy0_1 i
  | 2 => hbmTy0_2 i
  | _ => ⟨S1x4096x6144, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S8x1024, .f32⟩
  | .local _ .vmem, ⟨7, _⟩ => ⟨S8x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S4x256x256, .bf16⟩
  | .local _ .vmem, ⟨15, _⟩ => ⟨S4x256x256, .bf16⟩
  | .local _ .vmem, ⟨16, _⟩ => ⟨S1x1024, .f32⟩
  | .local _ .vmem, ⟨17, _⟩ => ⟨S256x1024, .f32⟩
  | .local _ .vmem, ⟨18, _⟩ => ⟨S256x1024, .f32⟩
  | .local _ .vmem, ⟨19, _⟩ => ⟨S4x256x256, .f32⟩
  | .local _ .vmem, ⟨20, _⟩ => ⟨S1x1024, .f32⟩
  | .local _ .vmem, ⟨21, _⟩ => ⟨S4x256x256, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | _, _ => ⟨S1x4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_0 : Ref sig .tc := ⟨.hbm, 58, rfl⟩
abbrev main_v48 : Ref sig .tc := ⟨.hbm, 59, rfl⟩
abbrev main_v49 : Ref sig .tc := ⟨.hbm, 60, rfl⟩
abbrev main_cst_1 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_2 : Ref sig .tc := ⟨.hbm, 72, rfl⟩
abbrev main_v60 : Ref sig .tc := ⟨.hbm, 73, rfl⟩
abbrev main_v61 : Ref sig .tc := ⟨.hbm, 74, rfl⟩
abbrev main_cst_3 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_4 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_call0_cst : Ref sig .tc := ⟨.hbm, 83, rfl⟩
abbrev main_call0_v0 : Ref sig .tc := ⟨.hbm, 84, rfl⟩
abbrev main_call0_v1 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_call0_v5 : Ref sig .tc := ⟨.hbm, 89, rfl⟩
abbrev main_call0_v6 : Ref sig .tc := ⟨.hbm, 90, rfl⟩
abbrev main_call0_v7 : Ref sig .tc := ⟨.hbm, 91, rfl⟩
abbrev main_call0_v8 : Ref sig .tc := ⟨.hbm, 92, rfl⟩
abbrev main_call0_v9 : Ref sig .tc := ⟨.hbm, 93, rfl⟩
abbrev main_call0_v10 : Ref sig .tc := ⟨.hbm, 94, rfl⟩
abbrev main_call0_v11 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_5 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_6 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_7 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_8 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_9 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_10 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_cst_11 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_cst_12 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_cst_13 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_cst_14 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_cst_15 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_cst_16 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_cst_17 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_cst_18 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_cst_19 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_cst_20 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_cst_21 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_cst_22 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_cst_23 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_cst_24 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_cst_25 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_cst_26 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_cst_27 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_cst_28 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_cst_29 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_v220 : Ref sig .tc := ⟨.hbm, 273, rfl⟩
abbrev main_v221 : Ref sig .tc := ⟨.hbm, 274, rfl⟩
abbrev main_v222 : Ref sig .tc := ⟨.hbm, 275, rfl⟩
abbrev main_v223_0 : Ref sig .tc := ⟨.hbm, 276, rfl⟩
abbrev main_v223_1 : Ref sig .tc := ⟨.hbm, 277, rfl⟩
abbrev main_v223_2 : Ref sig .tc := ⟨.hbm, 278, rfl⟩
abbrev main_v223_3 : Ref sig .tc := ⟨.hbm, 279, rfl⟩
abbrev main_v223_4 : Ref sig .tc := ⟨.hbm, 280, rfl⟩
abbrev main_v223_5 : Ref sig .tc := ⟨.hbm, 281, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4x256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== BwdGatesIdeal.lean ====
variable {F : FTy → Type} [FloatOps F] [Named F]
def κ : String → Option EReal := fun
  | "k01" => some ((80338380498831 / 2251799813685248 : ℝ) : EReal)
  | "k01x" => some ((241015141496493 / 4503599627370496 : ℝ) : EReal)
  | _ => none
-- ==== BwdGatesRefIdeal.lean ====
abbrev S1x4096x6144 : Shape := ⟨3, ![1, 4096, 6144]⟩
abbrev S1x4x1024 : Shape := ⟨3, ![1, 4, 1024]⟩
abbrev S1x1024 : Shape := ⟨2, ![1, 1024]⟩
abbrev S1x4x256x256 : Shape := ⟨4, ![1, 4, 256, 256]⟩
abbrev S1x4x256 : Shape := ⟨3, ![1, 4, 256]⟩
abbrev S1x4096x1024 : Shape := ⟨3, ![1, 4096, 1024]⟩
abbrev S4x1024 : Shape := ⟨2, ![4, 1024]⟩
abbrev S1024 : Shape := ⟨1, ![1024]⟩
abbrev S_ : Shape := ⟨0, ![]⟩
abbrev S1x3x1024 : Shape := ⟨3, ![1, 3, 1024]⟩
abbrev S1x4099x1024 : Shape := ⟨3, ![1, 4099, 1024]⟩
abbrev S1x1x1024 : Shape := ⟨3, ![1, 1, 1024]⟩
abbrev S4x256x256 : Shape := ⟨3, ![4, 256, 256]⟩
abbrev S4x256 : Shape := ⟨2, ![4, 256]⟩
abbrev S1x4096x4x256 : Shape := ⟨4, ![1, 4096, 4, 256]⟩
abbrev S4x256x1x4096 : Shape := ⟨4, ![4, 256, 1, 4096]⟩
abbrev S1x1x4x256 : Shape := ⟨4, ![1, 1, 4, 256]⟩
abbrev S1x4095x1024 : Shape := ⟨3, ![1, 4095, 1024]⟩
abbrev S1x2x1024 : Shape := ⟨3, ![1, 2, 1024]⟩
abbrev S1x4094x1024 : Shape := ⟨3, ![1, 4094, 1024]⟩
abbrev S1x4092x1024 : Shape := ⟨3, ![1, 4092, 1024]⟩
abbrev S1x8x1024 : Shape := ⟨3, ![1, 8, 1024]⟩
abbrev S1x4088x1024 : Shape := ⟨3, ![1, 4088, 1024]⟩
abbrev S1x16x1024 : Shape := ⟨3, ![1, 16, 1024]⟩
abbrev S1x4080x1024 : Shape := ⟨3, ![1, 4080, 1024]⟩
abbrev S1x32x1024 : Shape := ⟨3, ![1, 32, 1024]⟩
abbrev S1x4064x1024 : Shape := ⟨3, ![1, 4064, 1024]⟩
abbrev S1x64x1024 : Shape := ⟨3, ![1, 64, 1024]⟩
abbrev S1x4032x1024 : Shape := ⟨3, ![1, 4032, 1024]⟩
abbrev S1x128x1024 : Shape := ⟨3, ![1, 128, 1024]⟩
abbrev S1x3968x1024 : Shape := ⟨3, ![1, 3968, 1024]⟩
abbrev S1x256x1024 : Shape := ⟨3, ![1, 256, 1024]⟩
abbrev S1x3840x1024 : Shape := ⟨3, ![1, 3840, 1024]⟩
abbrev S1x512x1024 : Shape := ⟨3, ![1, 512, 1024]⟩
abbrev S1x3584x1024 : Shape := ⟨3, ![1, 3584, 1024]⟩
abbrev S1x1024x1024 : Shape := ⟨3, ![1, 1024, 1024]⟩
abbrev S1x3072x1024 : Shape := ⟨3, ![1, 3072, 1024]⟩
abbrev S1x2048x1024 : Shape := ⟨3, ![1, 2048, 1024]⟩
abbrev S4x1x4096x256 : Shape := ⟨4, ![4, 1, 4096, 256]⟩
abbrev S4096x1024 : Shape := ⟨2, ![4096, 1024]⟩

abbrev nBuf : Space → Nat
  | .hbm => 611
  | .vmem => 0
  | .smem => 0
  | _ => 0

abbrev hbmTy0_0 (i : Nat) : BufTy := match i % 128 with
  | 0 => ⟨S1x4096x6144, .f32⟩
  | 1 => ⟨S1x4x1024, .f32⟩
  | 2 => ⟨S1x1024, .f32⟩
  | 3 => ⟨S1x4x256x256, .f32⟩
  | 4 => ⟨S1x4x256, .f32⟩
  | 5 => ⟨S1x4x256x256, .f32⟩
  | 6 => ⟨S1x4x256, .f32⟩
  | 7 => ⟨S1x1024, .f32⟩
  | 8 => ⟨S1x4096x1024, .f32⟩
  | 9 => ⟨S1x4096x1024, .f32⟩
  | 10 => ⟨S4x1024, .f32⟩
  | 11 => ⟨S1024, .f32⟩
  | 12 => ⟨S_, .f32⟩
  | 13 => ⟨S1x3x1024, .f32⟩
  | 14 => ⟨S1x4099x1024, .f32⟩
  | 15 => ⟨S1x4096x1024, .f32⟩
  | 16 => ⟨S1x1024, .f32⟩
  | 17 => ⟨S1024, .f32⟩
  | 18 => ⟨S1x1x1024, .f32⟩
  | 19 => ⟨S1x4096x1024, .f32⟩
  | 20 => ⟨S1x4096x1024, .f32⟩
  | 21 => ⟨S1x1x1024, .f32⟩
  | 22 => ⟨S1x4096x1024, .f32⟩
  | 23 => ⟨S1x4096x1024, .f32⟩
  | 24 => ⟨S1x4096x1024, .f32⟩
  | 25 => ⟨S1x1024, .f32⟩
  | 26 => ⟨S1024, .f32⟩
  | 27 => ⟨S1x1x1024, .f32⟩
  | 28 => ⟨S1x4096x1024, .f32⟩
  | 29 => ⟨S1x4096x1024, .f32⟩
  | 30 => ⟨S1x4096x1024, .f32⟩
  | 31 => ⟨S1x4096x1024, .f32⟩
  | 32 => ⟨S1x1024, .f32⟩
  | 33 => ⟨S1024, .f32⟩
  | 34 => ⟨S1x1x1024, .f32⟩
  | 35 => ⟨S1x4096x1024, .f32⟩
  | 36 => ⟨S1x4096x1024, .f32⟩
  | 37 => ⟨S1x4096x1024, .f32⟩
  | 38 => ⟨S1x4096x1024, .f32⟩
  | 39 => ⟨S1x1024, .f32⟩
  | 40 => ⟨S1024, .f32⟩
  | 41 => ⟨S1x1x1024, .f32⟩
  | 42 => ⟨S1x4096x1024, .f32⟩
  | 43 => ⟨S1x4096x1024, .f32⟩
  | 44 => ⟨S1x4096x1024, .f32⟩
  | 45 => ⟨S1x4096x1024, .f32⟩
  | 46 => ⟨S4x256x256, .f32⟩
  | 47 => ⟨S4x256, .f32⟩
  | 48 => ⟨S4x256x256, .f32⟩
  | 49 => ⟨S4x256, .f32⟩
  | 50 => ⟨S1024, .f32⟩
  | 51 => ⟨S1x4096x4x256, .f32⟩
  | 52 => ⟨S4x256x1x4096, .f32⟩
  | 53 => ⟨S1x4096x4x256, .f32⟩
  | 54 => ⟨S1x1x4x256, .f32⟩
  | 55 => ⟨S1x4096x4x256, .f32⟩
  | 56 => ⟨S1x4096x4x256, .f32⟩
  | 57 => ⟨S1x4096x4x256, .f32⟩
  | 58 => ⟨S1x4096x4x256, .f32⟩
  | 59 => ⟨S_, .f32⟩
  | 60 => ⟨S1x4096x4x256, .f32⟩
  | 61 => ⟨S1x4096x4x256, .f32⟩
  | 62 => ⟨S_, .f32⟩
  | 63 => ⟨S1x4096x4x256, .f32⟩
  | 64 => ⟨S1x4096x4x256, .f32⟩
  | 65 => ⟨S_, .f32⟩
  | 66 => ⟨S1x4096x4x256, .f32⟩
  | 67 => ⟨S1x4096x4x256, .f32⟩
  | 68 => ⟨S1x4096x4x256, .f32⟩
  | 69 => ⟨S1x4096x1024, .f32⟩
  | 70 => ⟨S4x256x1x4096, .f32⟩
  | 71 => ⟨S1x4096x4x256, .f32⟩
  | 72 => ⟨S1x1x4x256, .f32⟩
  | 73 => ⟨S1x4096x4x256, .f32⟩
  | 74 => ⟨S1x4096x4x256, .f32⟩
  | 75 => ⟨S1x4096x4x256, .f32⟩
  | 76 => ⟨S1x4096x4x256, .f32⟩
  | 77 => ⟨S_, .f32⟩
  | 78 => ⟨S1x4096x4x256, .f32⟩
  | 79 => ⟨S1x4096x4x256, .f32⟩
  | 80 => ⟨S_, .f32⟩
  | 81 => ⟨S1x4096x4x256, .f32⟩
  | 82 => ⟨S1x4096x4x256, .f32⟩
  | 83 => ⟨S_, .f32⟩
  | 84 => ⟨S1x4096x4x256, .f32⟩
  | 85 => ⟨S1x4096x4x256, .f32⟩
  | 86 => ⟨S1x4096x4x256, .f32⟩
  | 87 => ⟨S1x4096x1024, .f32⟩
  | 88 => ⟨S_, .f32⟩
  | 89 => ⟨S1x4096x1024, .f32⟩
  | 90 => ⟨S1x4096x1024, .f32⟩
  | 91 => ⟨S1024, .f32⟩
  | 92 => ⟨S_, .f32⟩
  | 93 => ⟨S1024, .f32⟩
  | 94 => ⟨S1024, .f32⟩
  | 95 => ⟨S1024, .f32⟩
  | 96 => ⟨S1024, .f32⟩
  | 97 => ⟨S1024, .i1⟩
  | 98 => ⟨S1024, .f32⟩
  | 99 => ⟨S1024, .f32⟩
  | 100 => ⟨S1024, .f32⟩
  | 101 => ⟨S1024, .f32⟩
  | 102 => ⟨S1024, .f32⟩
  | 103 => ⟨S1024, .f32⟩
  | 104 => ⟨S1024, .f32⟩
  | 105 => ⟨S1024, .f32⟩
  | 106 => ⟨S_, .f32⟩
  | 107 => ⟨S1024, .f32⟩
  | 108 => ⟨S1024, .i1⟩
  | 109 => ⟨S_, .f32⟩
  | 110 => ⟨S1024, .f32⟩
  | 111 => ⟨S1024, .f32⟩
  | 112 => ⟨S_, .f32⟩
  | 113 => ⟨S1024, .f32⟩
  | 114 => ⟨S1024, .i1⟩
  | 115 => ⟨S_, .f32⟩
  | 116 => ⟨S1024, .f32⟩
  | 117 => ⟨S1024, .f32⟩
  | 118 => ⟨S1024, .f32⟩
  | 119 => ⟨S1024, .f32⟩
  | 120 => ⟨S_, .f32⟩
  | 121 => ⟨S_, .f32⟩
  | 122 => ⟨S_, .i1⟩
  | 123 => ⟨S_, .f32⟩
  | 124 => ⟨S_, .f32⟩
  | 125 => ⟨S_, .f32⟩
  | 126 => ⟨S_, .f32⟩
  | 127 => ⟨S1024, .f32⟩
  | _ => ⟨S1x4096x6144, .f32⟩

abbrev hbmTy0_1 (i : Nat) : BufTy := match i % 128 with
  | 0 => ⟨S1024, .i1⟩
  | 1 => ⟨S_, .f32⟩
  | 2 => ⟨S1024, .f32⟩
  | 3 => ⟨S1024, .f32⟩
  | 4 => ⟨S1024, .f32⟩
  | 5 => ⟨S1024, .f32⟩
  | 6 => ⟨S1024, .f32⟩
  | 7 => ⟨S_, .f32⟩
  | 8 => ⟨S1024, .f32⟩
  | 9 => ⟨S1024, .f32⟩
  | 10 => ⟨S1x1x1024, .f32⟩
  | 11 => ⟨S1x4096x1024, .f32⟩
  | 12 => ⟨S1x4096x1024, .f32⟩
  | 13 => ⟨S1x4096x1024, .f32⟩
  | 14 => ⟨S_, .f32⟩
  | 15 => ⟨S1x4096x1024, .f32⟩
  | 16 => ⟨S1x4096x1024, .f32⟩
  | 17 => ⟨S1x4096x1024, .f32⟩
  | 18 => ⟨S1x4096x1024, .f32⟩
  | 19 => ⟨S1x4096x1024, .f32⟩
  | 20 => ⟨S1x4096x1024, .f32⟩
  | 21 => ⟨S_, .f32⟩
  | 22 => ⟨S1x4096x1024, .f32⟩
  | 23 => ⟨S1x4096x1024, .f32⟩
  | 24 => ⟨S1x4096x1024, .f32⟩
  | 25 => ⟨S1x4096x1024, .f32⟩
  | 26 => ⟨S1x1x1024, .f32⟩
  | 27 => ⟨S_, .f32⟩
  | 28 => ⟨S1x1x1024, .f32⟩
  | 29 => ⟨S1x4095x1024, .f32⟩
  | 30 => ⟨S1x4096x1024, .f32⟩
  | 31 => ⟨S_, .f32⟩
  | 32 => ⟨S1x1x1024, .f32⟩
  | 33 => ⟨S1x4096x1024, .f32⟩
  | 34 => ⟨S1x1x1024, .f32⟩
  | 35 => ⟨S_, .f32⟩
  | 36 => ⟨S1x1x1024, .f32⟩
  | 37 => ⟨S1x4095x1024, .f32⟩
  | 38 => ⟨S1x4096x1024, .f32⟩
  | 39 => ⟨S_, .f32⟩
  | 40 => ⟨S1x1x1024, .f32⟩
  | 41 => ⟨S1x4096x1024, .f32⟩
  | 42 => ⟨S1x4096x1024, .f32⟩
  | 43 => ⟨S1x2x1024, .f32⟩
  | 44 => ⟨S_, .f32⟩
  | 45 => ⟨S1x2x1024, .f32⟩
  | 46 => ⟨S1x4094x1024, .f32⟩
  | 47 => ⟨S1x4096x1024, .f32⟩
  | 48 => ⟨S_, .f32⟩
  | 49 => ⟨S1x2x1024, .f32⟩
  | 50 => ⟨S1x4096x1024, .f32⟩
  | 51 => ⟨S1x2x1024, .f32⟩
  | 52 => ⟨S_, .f32⟩
  | 53 => ⟨S1x2x1024, .f32⟩
  | 54 => ⟨S1x4094x1024, .f32⟩
  | 55 => ⟨S1x4096x1024, .f32⟩
  | 56 => ⟨S_, .f32⟩
  | 57 => ⟨S1x2x1024, .f32⟩
  | 58 => ⟨S1x4096x1024, .f32⟩
  | 59 => ⟨S1x4096x1024, .f32⟩
  | 60 => ⟨S1x4x1024, .f32⟩
  | 61 => ⟨S_, .f32⟩
  | 62 => ⟨S1x4x1024, .f32⟩
  | 63 => ⟨S1x4092x1024, .f32⟩
  | 64 => ⟨S1x4096x1024, .f32⟩
  | 65 => ⟨S_, .f32⟩
  | 66 => ⟨S1x4x1024, .f32⟩
  | 67 => ⟨S1x4096x1024, .f32⟩
  | 68 => ⟨S1x4x1024, .f32⟩
  | 69 => ⟨S_, .f32⟩
  | 70 => ⟨S1x4x1024, .f32⟩
  | 71 => ⟨S1x4092x1024, .f32⟩
  | 72 => ⟨S1x4096x1024, .f32⟩
  | 73 => ⟨S_, .f32⟩
  | 74 => ⟨S1x4x1024, .f32⟩
  | 75 => ⟨S1x4096x1024, .f32⟩
  | 76 => ⟨S1x4096x1024, .f32⟩
  | 77 => ⟨S1x8x1024, .f32⟩
  | 78 => ⟨S_, .f32⟩
  | 79 => ⟨S1x8x1024, .f32⟩
  | 80 => ⟨S1x4088x1024, .f32⟩
  | 81 => ⟨S1x4096x1024, .f32⟩
  | 82 => ⟨S_, .f32⟩
  | 83 => ⟨S1x8x1024, .f32⟩
  | 84 => ⟨S1x4096x1024, .f32⟩
  | 85 => ⟨S1x8x1024, .f32⟩
  | 86 => ⟨S_, .f32⟩
  | 87 => ⟨S1x8x1024, .f32⟩
  | 88 => ⟨S1x4088x1024, .f32⟩
  | 89 => ⟨S1x4096x1024, .f32⟩
  | 90 => ⟨S_, .f32⟩
  | 91 => ⟨S1x8x1024, .f32⟩
  | 92 => ⟨S1x4096x1024, .f32⟩
  | 93 => ⟨S1x4096x1024, .f32⟩
  | 94 => ⟨S1x16x1024, .f32⟩
  | 95 => ⟨S_, .f32⟩
  | 96 => ⟨S1x16x1024, .f32⟩
  | 97 => ⟨S1x4080x1024, .f32⟩
  | 98 => ⟨S1x4096x1024, .f32⟩
  | 99 => ⟨S_, .f32⟩
  | 100 => ⟨S1x16x1024, .f32⟩
  | 101 => ⟨S1x4096x1024, .f32⟩
  | 102 => ⟨S1x16x1024, .f32⟩
  | 103 => ⟨S_, .f32⟩
  | 104 => ⟨S1x16x1024, .f32⟩
  | 105 => ⟨S1x4080x1024, .f32⟩
  | 106 => ⟨S1x4096x1024, .f32⟩
  | 107 => ⟨S_, .f32⟩
  | 108 => ⟨S1x16x1024, .f32⟩
  | 109 => ⟨S1x4096x1024, .f32⟩
  | 110 => ⟨S1x4096x1024, .f32⟩
  | 111 => ⟨S1x32x1024, .f32⟩
  | 112 => ⟨S_, .f32⟩
  | 113 => ⟨S1x32x1024, .f32⟩
  | 114 => ⟨S1x4064x1024, .f32⟩
  | 115 => ⟨S1x4096x1024, .f32⟩
  | 116 => ⟨S_, .f32⟩
  | 117 => ⟨S1x32x1024, .f32⟩
  | 118 => ⟨S1x4096x1024, .f32⟩
  | 119 => ⟨S1x32x1024, .f32⟩
  | 120 => ⟨S_, .f32⟩
  | 121 => ⟨S1x32x1024, .f32⟩
  | 122 => ⟨S1x4064x1024, .f32⟩
  | 123 => ⟨S1x4096x1024, .f32⟩
  | 124 => ⟨S_, .f32⟩
  | 125 => ⟨S1x32x1024, .f32⟩
  | 126 => ⟨S1x4096x1024, .f32⟩
  | 127 => ⟨S1x4096x1024, .f32⟩
  | _ => ⟨S1x4096x6144, .f32⟩

abbrev hbmTy0_2 (i : Nat) : BufTy := match i % 128 with
  | 0 => ⟨S1x64x1024, .f32⟩
  | 1 => ⟨S_, .f32⟩
  | 2 => ⟨S1x64x1024, .f32⟩
  | 3 => ⟨S1x4032x1024, .f32⟩
  | 4 => ⟨S1x4096x1024, .f32⟩
  | 5 => ⟨S_, .f32⟩
  | 6 => ⟨S1x64x1024, .f32⟩
  | 7 => ⟨S1x4096x1024, .f32⟩
  | 8 => ⟨S1x64x1024, .f32⟩
  | 9 => ⟨S_, .f32⟩
  | 10 => ⟨S1x64x1024, .f32⟩
  | 11 => ⟨S1x4032x1024, .f32⟩
  | 12 => ⟨S1x4096x1024, .f32⟩
  | 13 => ⟨S_, .f32⟩
  | 14 => ⟨S1x64x1024, .f32⟩
  | 15 => ⟨S1x4096x1024, .f32⟩
  | 16 => ⟨S1x4096x1024, .f32⟩
  | 17 => ⟨S1x128x1024, .f32⟩
  | 18 => ⟨S_, .f32⟩
  | 19 => ⟨S1x128x1024, .f32⟩
  | 20 => ⟨S1x3968x1024, .f32⟩
  | 21 => ⟨S1x4096x1024, .f32⟩
  | 22 => ⟨S_, .f32⟩
  | 23 => ⟨S1x128x1024, .f32⟩
  | 24 => ⟨S1x4096x1024, .f32⟩
  | 25 => ⟨S1x128x1024, .f32⟩
  | 26 => ⟨S_, .f32⟩
  | 27 => ⟨S1x128x1024, .f32⟩
  | 28 => ⟨S1x3968x1024, .f32⟩
  | 29 => ⟨S1x4096x1024, .f32⟩
  | 30 => ⟨S_, .f32⟩
  | 31 => ⟨S1x128x1024, .f32⟩
  | 32 => ⟨S1x4096x1024, .f32⟩
  | 33 => ⟨S1x4096x1024, .f32⟩
  | 34 => ⟨S1x256x1024, .f32⟩
  | 35 => ⟨S_, .f32⟩
  | 36 => ⟨S1x256x1024, .f32⟩
  | 37 => ⟨S1x3840x1024, .f32⟩
  | 38 => ⟨S1x4096x1024, .f32⟩
  | 39 => ⟨S_, .f32⟩
  | 40 => ⟨S1x256x1024, .f32⟩
  | 41 => ⟨S1x4096x1024, .f32⟩
  | 42 => ⟨S1x256x1024, .f32⟩
  | 43 => ⟨S_, .f32⟩
  | 44 => ⟨S1x256x1024, .f32⟩
  | 45 => ⟨S1x3840x1024, .f32⟩
  | 46 => ⟨S1x4096x1024, .f32⟩
  | 47 => ⟨S_, .f32⟩
  | 48 => ⟨S1x256x1024, .f32⟩
  | 49 => ⟨S1x4096x1024, .f32⟩
  | 50 => ⟨S1x4096x1024, .f32⟩
  | 51 => ⟨S1x512x1024, .f32⟩
  | 52 => ⟨S_, .f32⟩
  | 53 => ⟨S1x512x1024, .f32⟩
  | 54 => ⟨S1x3584x1024, .f32⟩
  | 55 => ⟨S1x4096x1024, .f32⟩
  | 56 => ⟨S_, .f32⟩
  | 57 => ⟨S1x512x1024, .f32⟩
  | 58 => ⟨S1x4096x1024, .f32⟩
  | 59 => ⟨S1x512x1024, .f32⟩
  | 60 => ⟨S_, .f32⟩
  | 61 => ⟨S1x512x1024, .f32⟩
  | 62 => ⟨S1x3584x1024, .f32⟩
  | 63 => ⟨S1x4096x1024, .f32⟩
  | 64 => ⟨S_, .f32⟩
  | 65 => ⟨S1x512x1024, .f32⟩
  | 66 => ⟨S1x4096x1024, .f32⟩
  | 67 => ⟨S1x4096x1024, .f32⟩
  | 68 => ⟨S1x1024x1024, .f32⟩
  | 69 => ⟨S_, .f32⟩
  | 70 => ⟨S1x1024x1024, .f32⟩
  | 71 => ⟨S1x3072x1024, .f32⟩
  | 72 => ⟨S1x4096x1024, .f32⟩
  | 73 => ⟨S_, .f32⟩
  | 74 => ⟨S1x1024x1024, .f32⟩
  | 75 => ⟨S1x4096x1024, .f32⟩
  | 76 => ⟨S1x1024x1024, .f32⟩
  | 77 => ⟨S_, .f32⟩
  | 78 => ⟨S1x1024x1024, .f32⟩
  | 79 => ⟨S1x3072x1024, .f32⟩
  | 80 => ⟨S1x4096x1024, .f32⟩
  | 81 => ⟨S_, .f32⟩
  | 82 => ⟨S1x1024x1024, .f32⟩
  | 83 => ⟨S1x4096x1024, .f32⟩
  | 84 => ⟨S1x4096x1024, .f32⟩
  | 85 => ⟨S1x2048x1024, .f32⟩
  | 86 => ⟨S_, .f32⟩
  | 87 => ⟨S1x2048x1024, .f32⟩
  | 88 => ⟨S1x2048x1024, .f32⟩
  | 89 => ⟨S1x4096x1024, .f32⟩
  | 90 => ⟨S_, .f32⟩
  | 91 => ⟨S1x2048x1024, .f32⟩
  | 92 => ⟨S1x4096x1024, .f32⟩
  | 93 => ⟨S1x2048x1024, .f32⟩
  | 94 => ⟨S_, .f32⟩
  | 95 => ⟨S1x2048x1024, .f32⟩
  | 96 => ⟨S1x2048x1024, .f32⟩
  | 97 => ⟨S1x4096x1024, .f32⟩
  | 98 => ⟨S_, .f32⟩
  | 99 => ⟨S1x2048x1024, .f32⟩
  | 100 => ⟨S1x4096x1024, .f32⟩
  | 101 => ⟨S1x4096x1024, .f32⟩
  | 102 => ⟨S1x4096x1024, .f32⟩
  | 103 => ⟨S1x4096x1024, .f32⟩
  | 104 => ⟨S_, .f32⟩
  | 105 => ⟨S1x4096x1024, .f32⟩
  | 106 => ⟨S1x4096x1024, .f32⟩
  | 107 => ⟨S1x4096x1024, .f32⟩
  | 108 => ⟨S_, .f32⟩
  | 109 => ⟨S1x4096x1024, .f32⟩
  | 110 => ⟨S1x4096x1024, .f32⟩
  | 111 => ⟨S1x4096x1024, .f32⟩
  | 112 => ⟨S_, .f32⟩
  | 113 => ⟨S1x4096x1024, .f32⟩
  | 114 => ⟨S1x4096x1024, .f32⟩
  | 115 => ⟨S_, .f32⟩
  | 116 => ⟨S1x4096x1024, .f32⟩
  | 117 => ⟨S1x4096x1024, .f32⟩
  | 118 => ⟨S1x4096x1024, .f32⟩
  | 119 => ⟨S1x4096x1024, .f32⟩
  | 120 => ⟨S1x4096x1024, .f32⟩
  | 121 => ⟨S1x4096x1024, .f32⟩
  | 122 => ⟨S1x4096x1024, .f32⟩
  | 123 => ⟨S1x2048x1024, .f32⟩
  | 124 => ⟨S1x2048x1024, .f32⟩
  | 125 => ⟨S_, .f32⟩
  | 126 => ⟨S1x4096x1024, .f32⟩
  | 127 => ⟨S1x4096x1024, .f32⟩
  | _ => ⟨S1x4096x6144, .f32⟩

abbrev hbmTy0_3 (i : Nat) : BufTy := match i % 128 with
  | 0 => ⟨S1x4096x1024, .f32⟩
  | 1 => ⟨S1x4096x1024, .f32⟩
  | 2 => ⟨S1x1024x1024, .f32⟩
  | 3 => ⟨S1x3072x1024, .f32⟩
  | 4 => ⟨S_, .f32⟩
  | 5 => ⟨S1x4096x1024, .f32⟩
  | 6 => ⟨S1x4096x1024, .f32⟩
  | 7 => ⟨S1x4096x1024, .f32⟩
  | 8 => ⟨S1x4096x1024, .f32⟩
  | 9 => ⟨S1x4096x1024, .f32⟩
  | 10 => ⟨S1x1024x1024, .f32⟩
  | 11 => ⟨S1x3072x1024, .f32⟩
  | 12 => ⟨S_, .f32⟩
  | 13 => ⟨S1x4096x1024, .f32⟩
  | 14 => ⟨S1x4096x1024, .f32⟩
  | 15 => ⟨S1x4096x1024, .f32⟩
  | 16 => ⟨S1x4096x1024, .f32⟩
  | 17 => ⟨S1x512x1024, .f32⟩
  | 18 => ⟨S1x3584x1024, .f32⟩
  | 19 => ⟨S_, .f32⟩
  | 20 => ⟨S1x4096x1024, .f32⟩
  | 21 => ⟨S1x4096x1024, .f32⟩
  | 22 => ⟨S1x4096x1024, .f32⟩
  | 23 => ⟨S1x4096x1024, .f32⟩
  | 24 => ⟨S1x4096x1024, .f32⟩
  | 25 => ⟨S1x512x1024, .f32⟩
  | 26 => ⟨S1x3584x1024, .f32⟩
  | 27 => ⟨S_, .f32⟩
  | 28 => ⟨S1x4096x1024, .f32⟩
  | 29 => ⟨S1x4096x1024, .f32⟩
  | 30 => ⟨S1x4096x1024, .f32⟩
  | 31 => ⟨S1x4096x1024, .f32⟩
  | 32 => ⟨S1x256x1024, .f32⟩
  | 33 => ⟨S1x3840x1024, .f32⟩
  | 34 => ⟨S_, .f32⟩
  | 35 => ⟨S1x4096x1024, .f32⟩
  | 36 => ⟨S1x4096x1024, .f32⟩
  | 37 => ⟨S1x4096x1024, .f32⟩
  | 38 => ⟨S1x4096x1024, .f32⟩
  | 39 => ⟨S1x4096x1024, .f32⟩
  | 40 => ⟨S1x256x1024, .f32⟩
  | 41 => ⟨S1x3840x1024, .f32⟩
  | 42 => ⟨S_, .f32⟩
  | 43 => ⟨S1x4096x1024, .f32⟩
  | 44 => ⟨S1x4096x1024, .f32⟩
  | 45 => ⟨S1x4096x1024, .f32⟩
  | 46 => ⟨S1x4096x1024, .f32⟩
  | 47 => ⟨S1x128x1024, .f32⟩
  | 48 => ⟨S1x3968x1024, .f32⟩
  | 49 => ⟨S_, .f32⟩
  | 50 => ⟨S1x4096x1024, .f32⟩
  | 51 => ⟨S1x4096x1024, .f32⟩
  | 52 => ⟨S1x4096x1024, .f32⟩
  | 53 => ⟨S1x4096x1024, .f32⟩
  | 54 => ⟨S1x4096x1024, .f32⟩
  | 55 => ⟨S1x128x1024, .f32⟩
  | 56 => ⟨S1x3968x1024, .f32⟩
  | 57 => ⟨S_, .f32⟩
  | 58 => ⟨S1x4096x1024, .f32⟩
  | 59 => ⟨S1x4096x1024, .f32⟩
  | 60 => ⟨S1x4096x1024, .f32⟩
  | 61 => ⟨S1x4096x1024, .f32⟩
  | 62 => ⟨S1x64x1024, .f32⟩
  | 63 => ⟨S1x4032x1024, .f32⟩
  | 64 => ⟨S_, .f32⟩
  | 65 => ⟨S1x4096x1024, .f32⟩
  | 66 => ⟨S1x4096x1024, .f32⟩
  | 67 => ⟨S1x4096x1024, .f32⟩
  | 68 => ⟨S1x4096x1024, .f32⟩
  | 69 => ⟨S1x4096x1024, .f32⟩
  | 70 => ⟨S1x64x1024, .f32⟩
  | 71 => ⟨S1x4032x1024, .f32⟩
  | 72 => ⟨S_, .f32⟩
  | 73 => ⟨S1x4096x1024, .f32⟩
  | 74 => ⟨S1x4096x1024, .f32⟩
  | 75 => ⟨S1x4096x1024, .f32⟩
  | 76 => ⟨S1x4096x1024, .f32⟩
  | 77 => ⟨S1x32x1024, .f32⟩
  | 78 => ⟨S1x4064x1024, .f32⟩
  | 79 => ⟨S_, .f32⟩
  | 80 => ⟨S1x4096x1024, .f32⟩
  | 81 => ⟨S1x4096x1024, .f32⟩
  | 82 => ⟨S1x4096x1024, .f32⟩
  | 83 => ⟨S1x4096x1024, .f32⟩
  | 84 => ⟨S1x4096x1024, .f32⟩
  | 85 => ⟨S1x32x1024, .f32⟩
  | 86 => ⟨S1x4064x1024, .f32⟩
  | 87 => ⟨S_, .f32⟩
  | 88 => ⟨S1x4096x1024, .f32⟩
  | 89 => ⟨S1x4096x1024, .f32⟩
  | 90 => ⟨S1x4096x1024, .f32⟩
  | 91 => ⟨S1x4096x1024, .f32⟩
  | 92 => ⟨S1x16x1024, .f32⟩
  | 93 => ⟨S1x4080x1024, .f32⟩
  | 94 => ⟨S_, .f32⟩
  | 95 => ⟨S1x4096x1024, .f32⟩
  | 96 => ⟨S1x4096x1024, .f32⟩
  | 97 => ⟨S1x4096x1024, .f32⟩
  | 98 => ⟨S1x4096x1024, .f32⟩
  | 99 => ⟨S1x4096x1024, .f32⟩
  | 100 => ⟨S1x16x1024, .f32⟩
  | 101 => ⟨S1x4080x1024, .f32⟩
  | 102 => ⟨S_, .f32⟩
  | 103 => ⟨S1x4096x1024, .f32⟩
  | 104 => ⟨S1x4096x1024, .f32⟩
  | 105 => ⟨S1x4096x1024, .f32⟩
  | 106 => ⟨S1x4096x1024, .f32⟩
  | 107 => ⟨S1x8x1024, .f32⟩
  | 108 => ⟨S1x4088x1024, .f32⟩
  | 109 => ⟨S_, .f32⟩
  | 110 => ⟨S1x4096x1024, .f32⟩
  | 111 => ⟨S1x4096x1024, .f32⟩
  | 112 => ⟨S1x4096x1024, .f32⟩
  | 113 => ⟨S1x4096x1024, .f32⟩
  | 114 => ⟨S1x4096x1024, .f32⟩
  | 115 => ⟨S1x8x1024, .f32⟩
  | 116 => ⟨S1x4088x1024, .f32⟩
  | 117 => ⟨S_, .f32⟩
  | 118 => ⟨S1x4096x1024, .f32⟩
  | 119 => ⟨S1x4096x1024, .f32⟩
  | 120 => ⟨S1x4096x1024, .f32⟩
  | 121 => ⟨S1x4096x1024, .f32⟩
  | 122 => ⟨S1x4x1024, .f32⟩
  | 123 => ⟨S1x4092x1024, .f32⟩
  | 124 => ⟨S_, .f32⟩
  | 125 => ⟨S1x4096x1024, .f32⟩
  | 126 => ⟨S1x4096x1024, .f32⟩
  | 127 => ⟨S1x4096x1024, .f32⟩
  | _ => ⟨S1x4096x6144, .f32⟩

abbrev hbmTy0_4 (i : Nat) : BufTy := match i % 128 with
  | 0 => ⟨S1x4096x1024, .f32⟩
  | 1 => ⟨S1x4096x1024, .f32⟩
  | 2 => ⟨S1x4x1024, .f32⟩
  | 3 => ⟨S1x4092x1024, .f32⟩
  | 4 => ⟨S_, .f32⟩
  | 5 => ⟨S1x4096x1024, .f32⟩
  | 6 => ⟨S1x4096x1024, .f32⟩
  | 7 => ⟨S1x4096x1024, .f32⟩
  | 8 => ⟨S1x4096x1024, .f32⟩
  | 9 => ⟨S1x2x1024, .f32⟩
  | 10 => ⟨S1x4094x1024, .f32⟩
  | 11 => ⟨S_, .f32⟩
  | 12 => ⟨S1x4096x1024, .f32⟩
  | 13 => ⟨S1x4096x1024, .f32⟩
  | 14 => ⟨S1x4096x1024, .f32⟩
  | 15 => ⟨S1x4096x1024, .f32⟩
  | 16 => ⟨S1x4096x1024, .f32⟩
  | 17 => ⟨S1x2x1024, .f32⟩
  | 18 => ⟨S1x4094x1024, .f32⟩
  | 19 => ⟨S_, .f32⟩
  | 20 => ⟨S1x4096x1024, .f32⟩
  | 21 => ⟨S1x4096x1024, .f32⟩
  | 22 => ⟨S1x4096x1024, .f32⟩
  | 23 => ⟨S1x4096x1024, .f32⟩
  | 24 => ⟨S1x1x1024, .f32⟩
  | 25 => ⟨S1x4095x1024, .f32⟩
  | 26 => ⟨S_, .f32⟩
  | 27 => ⟨S1x4096x1024, .f32⟩
  | 28 => ⟨S1x4096x1024, .f32⟩
  | 29 => ⟨S1x4096x1024, .f32⟩
  | 30 => ⟨S1x4096x1024, .f32⟩
  | 31 => ⟨S1x4096x1024, .f32⟩
  | 32 => ⟨S1x1x1024, .f32⟩
  | 33 => ⟨S1x4095x1024, .f32⟩
  | 34 => ⟨S_, .f32⟩
  | 35 => ⟨S1x4096x1024, .f32⟩
  | 36 => ⟨S1x4096x1024, .f32⟩
  | 37 => ⟨S1x4096x1024, .f32⟩
  | 38 => ⟨S1x4096x1024, .f32⟩
  | 39 => ⟨S1x4096x1024, .f32⟩
  | 40 => ⟨S1x4096x1024, .f32⟩
  | 41 => ⟨S1x4096x1024, .f32⟩
  | 42 => ⟨S1x4096x1024, .f32⟩
  | 43 => ⟨S1x4096x1024, .f32⟩
  | 44 => ⟨S_, .f32⟩
  | 45 => ⟨S1x4096x1024, .f32⟩
  | 46 => ⟨S1x4096x1024, .f32⟩
  | 47 => ⟨S1x4096x1024, .f32⟩
  | 48 => ⟨S1x4096x1024, .f32⟩
  | 49 => ⟨S1x4096x1024, .f32⟩
  | 50 => ⟨S_, .f32⟩
  | 51 => ⟨S1x1024, .f32⟩
  | 52 => ⟨S1x1x1024, .f32⟩
  | 53 => ⟨S1x4096x1024, .f32⟩
  | 54 => ⟨S1x4096x1024, .f32⟩
  | 55 => ⟨S_, .f32⟩
  | 56 => ⟨S1024, .f32⟩
  | 57 => ⟨S1024, .f32⟩
  | 58 => ⟨S1024, .f32⟩
  | 59 => ⟨S_, .f32⟩
  | 60 => ⟨S1x4096x1024, .f32⟩
  | 61 => ⟨S1x4096x1024, .f32⟩
  | 62 => ⟨S1x4096x4x256, .f32⟩
  | 63 => ⟨S1x4096x4x256, .f32⟩
  | 64 => ⟨S_, .f32⟩
  | 65 => ⟨S1x4x256, .f32⟩
  | 66 => ⟨S1x1x4x256, .f32⟩
  | 67 => ⟨S_, .f32⟩
  | 68 => ⟨S4x256, .f32⟩
  | 69 => ⟨S4x256x1x4096, .f32⟩
  | 70 => ⟨S4x1x4096x256, .f32⟩
  | 71 => ⟨S1x4096x4x256, .f32⟩
  | 72 => ⟨S4x256x256, .f32⟩
  | 73 => ⟨S4x256x256, .f32⟩
  | 74 => ⟨S1x4096x4x256, .f32⟩
  | 75 => ⟨S1x4096x4x256, .f32⟩
  | 76 => ⟨S_, .f32⟩
  | 77 => ⟨S1x4x256, .f32⟩
  | 78 => ⟨S1x1x4x256, .f32⟩
  | 79 => ⟨S_, .f32⟩
  | 80 => ⟨S4x256, .f32⟩
  | 81 => ⟨S4x256x1x4096, .f32⟩
  | 82 => ⟨S4x1x4096x256, .f32⟩
  | 83 => ⟨S1x4096x4x256, .f32⟩
  | 84 => ⟨S1x4096x4x256, .f32⟩
  | 85 => ⟨S4x256x256, .f32⟩
  | 86 => ⟨S4x256x256, .f32⟩
  | 87 => ⟨S1x4096x1024, .f32⟩
  | 88 => ⟨S1x4096x1024, .f32⟩
  | 89 => ⟨S1x1024, .f32⟩
  | 90 => ⟨S1x4x256, .f32⟩
  | 91 => ⟨S1x4x256x256, .f32⟩
  | 92 => ⟨S1x4x256, .f32⟩
  | 93 => ⟨S1x4x256x256, .f32⟩
  | 94 => ⟨S4096x1024, .f32⟩
  | 95 => ⟨S4x256x256, .f32⟩
  | 96 => ⟨S1x1024, .f32⟩
  | 97 => ⟨S4x256x256, .f32⟩
  | 98 => ⟨S1x1024, .f32⟩
  | _ => ⟨S1x4096x6144, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1x4096x6144, .f32⟩

abbrev bufTy : (tb : Table) → Fin (tcTables nBuf tb) → BufTy
  | .hbm, ⟨i, _⟩ => hbmTy i
  | _, _ => ⟨S1x4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_0 : Ref sig .tc := ⟨.hbm, 59, rfl⟩
abbrev main_v49 : Ref sig .tc := ⟨.hbm, 60, rfl⟩
abbrev main_v50 : Ref sig .tc := ⟨.hbm, 61, rfl⟩
abbrev main_cst_1 : Ref sig .tc := ⟨.hbm, 62, rfl⟩
abbrev main_v51 : Ref sig .tc := ⟨.hbm, 63, rfl⟩
abbrev main_v52 : Ref sig .tc := ⟨.hbm, 64, rfl⟩
abbrev main_cst_2 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_cst_3 : Ref sig .tc := ⟨.hbm, 77, rfl⟩
abbrev main_v64 : Ref sig .tc := ⟨.hbm, 78, rfl⟩
abbrev main_v65 : Ref sig .tc := ⟨.hbm, 79, rfl⟩
abbrev main_cst_4 : Ref sig .tc := ⟨.hbm, 80, rfl⟩
abbrev main_v66 : Ref sig .tc := ⟨.hbm, 81, rfl⟩
abbrev main_v67 : Ref sig .tc := ⟨.hbm, 82, rfl⟩
abbrev main_cst_5 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_6 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_call0_cst : Ref sig .tc := ⟨.hbm, 92, rfl⟩
abbrev main_call0_v0 : Ref sig .tc := ⟨.hbm, 93, rfl⟩
abbrev main_call0_v1 : Ref sig .tc := ⟨.hbm, 94, rfl⟩
abbrev main_call0_v2 : Ref sig .tc := ⟨.hbm, 95, rfl⟩
abbrev main_call0_v3 : Ref sig .tc := ⟨.hbm, 96, rfl⟩
abbrev main_call0_v4 : Ref sig .tc := ⟨.hbm, 97, rfl⟩
abbrev main_call0_v5 : Ref sig .tc := ⟨.hbm, 98, rfl⟩
abbrev main_call0_v6 : Ref sig .tc := ⟨.hbm, 99, rfl⟩
abbrev main_call0_v7 : Ref sig .tc := ⟨.hbm, 100, rfl⟩
abbrev main_call0_v8 : Ref sig .tc := ⟨.hbm, 101, rfl⟩
abbrev main_call0_v9 : Ref sig .tc := ⟨.hbm, 102, rfl⟩
abbrev main_call0_v10 : Ref sig .tc := ⟨.hbm, 103, rfl⟩
abbrev main_call0_v11 : Ref sig .tc := ⟨.hbm, 104, rfl⟩
abbrev main_v75_0 : Ref sig .tc := ⟨.hbm, 105, rfl⟩
abbrev main_call0_cst_0 : Ref sig .tc := ⟨.hbm, 106, rfl⟩
abbrev main_call0_v13 : Ref sig .tc := ⟨.hbm, 107, rfl⟩
abbrev main_call0_v14 : Ref sig .tc := ⟨.hbm, 108, rfl⟩
abbrev main_call0_cst_1 : Ref sig .tc := ⟨.hbm, 109, rfl⟩
abbrev main_call0_v15 : Ref sig .tc := ⟨.hbm, 110, rfl⟩
abbrev main_call0_v16 : Ref sig .tc := ⟨.hbm, 111, rfl⟩
abbrev main_call0_cst_2 : Ref sig .tc := ⟨.hbm, 112, rfl⟩
abbrev main_call0_v17 : Ref sig .tc := ⟨.hbm, 113, rfl⟩
abbrev main_call0_v18 : Ref sig .tc := ⟨.hbm, 114, rfl⟩
abbrev main_call0_cst_3 : Ref sig .tc := ⟨.hbm, 115, rfl⟩
abbrev main_call0_v19 : Ref sig .tc := ⟨.hbm, 116, rfl⟩
abbrev main_call0_v20 : Ref sig .tc := ⟨.hbm, 117, rfl⟩
abbrev main_call0_v21 : Ref sig .tc := ⟨.hbm, 118, rfl⟩
abbrev main_v75_1 : Ref sig .tc := ⟨.hbm, 119, rfl⟩
abbrev main_call0_cst_4 : Ref sig .tc := ⟨.hbm, 120, rfl⟩
abbrev main_call0_cst_5 : Ref sig .tc := ⟨.hbm, 121, rfl⟩
abbrev main_call0_v23 : Ref sig .tc := ⟨.hbm, 122, rfl⟩
abbrev main_call0_cst_6 : Ref sig .tc := ⟨.hbm, 123, rfl⟩
abbrev main_call0_cst_7 : Ref sig .tc := ⟨.hbm, 124, rfl⟩
abbrev main_call0_v24 : Ref sig .tc := ⟨.hbm, 125, rfl⟩
abbrev main_call0_cst_8 : Ref sig .tc := ⟨.hbm, 126, rfl⟩
abbrev main_call0_v25 : Ref sig .tc := ⟨.hbm, 127, rfl⟩
abbrev main_call0_v26 : Ref sig .tc := ⟨.hbm, 128, rfl⟩
abbrev main_call0_cst_9 : Ref sig .tc := ⟨.hbm, 129, rfl⟩
abbrev main_call0_v27 : Ref sig .tc := ⟨.hbm, 130, rfl⟩
abbrev main_call0_v28 : Ref sig .tc := ⟨.hbm, 131, rfl⟩
abbrev main_call0_v29 : Ref sig .tc := ⟨.hbm, 132, rfl⟩
abbrev main_call0_v30 : Ref sig .tc := ⟨.hbm, 133, rfl⟩
abbrev main_call0_v31 : Ref sig .tc := ⟨.hbm, 134, rfl⟩
abbrev main_call0_cst_10 : Ref sig .tc := ⟨.hbm, 135, rfl⟩
abbrev main_call0_v32 : Ref sig .tc := ⟨.hbm, 136, rfl⟩
abbrev main_v75_2 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_cst_7 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_cst_8 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_cst_9 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_cst_10 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_cst_11 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_cst_12 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_cst_13 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_cst_14 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_cst_15 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_cst_16 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_cst_17 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_cst_18 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_cst_19 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_cst_20 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_cst_21 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_cst_22 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_cst_23 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_cst_24 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_cst_25 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_cst_26 : Ref sig .tc := ⟨.hbm, 227, rfl⟩
abbrev main_v146 : Ref sig .tc := ⟨.hbm, 228, rfl⟩
abbrev main_v147 : Ref sig .tc := ⟨.hbm, 229, rfl⟩
abbrev main_v148 : Ref sig .tc := ⟨.hbm, 230, rfl⟩
abbrev main_cst_27 : Ref sig .tc := ⟨.hbm, 231, rfl⟩
abbrev main_v149 : Ref sig .tc := ⟨.hbm, 232, rfl⟩
abbrev main_v150 : Ref sig .tc := ⟨.hbm, 233, rfl⟩
abbrev main_v151 : Ref sig .tc := ⟨.hbm, 234, rfl⟩
abbrev main_cst_28 : Ref sig .tc := ⟨.hbm, 235, rfl⟩
abbrev main_v152 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev main_cst_29 : Ref sig .tc := ⟨.hbm, 240, rfl⟩
abbrev main_v156 : Ref sig .tc := ⟨.hbm, 241, rfl⟩
abbrev main_v157 : Ref sig .tc := ⟨.hbm, 242, rfl⟩
abbrev main_v158 : Ref sig .tc := ⟨.hbm, 243, rfl⟩
abbrev main_cst_30 : Ref sig .tc := ⟨.hbm, 244, rfl⟩
abbrev main_v159 : Ref sig .tc := ⟨.hbm, 245, rfl⟩
abbrev main_v160 : Ref sig .tc := ⟨.hbm, 246, rfl⟩
abbrev main_v161 : Ref sig .tc := ⟨.hbm, 247, rfl⟩
abbrev main_cst_31 : Ref sig .tc := ⟨.hbm, 248, rfl⟩
abbrev main_v162 : Ref sig .tc := ⟨.hbm, 249, rfl⟩
abbrev main_v163 : Ref sig .tc := ⟨.hbm, 250, rfl⟩
abbrev main_v164 : Ref sig .tc := ⟨.hbm, 251, rfl⟩
abbrev main_cst_32 : Ref sig .tc := ⟨.hbm, 252, rfl⟩
abbrev main_v165 : Ref sig .tc := ⟨.hbm, 253, rfl⟩
abbrev main_v166 : Ref sig .tc := ⟨.hbm, 254, rfl⟩
abbrev main_v167 : Ref sig .tc := ⟨.hbm, 255, rfl⟩
abbrev main_v168 : Ref sig .tc := ⟨.hbm, 256, rfl⟩
abbrev main_cst_33 : Ref sig .tc := ⟨.hbm, 257, rfl⟩
abbrev main_v169 : Ref sig .tc := ⟨.hbm, 258, rfl⟩
abbrev main_v170 : Ref sig .tc := ⟨.hbm, 259, rfl⟩
abbrev main_v171 : Ref sig .tc := ⟨.hbm, 260, rfl⟩
abbrev main_cst_34 : Ref sig .tc := ⟨.hbm, 261, rfl⟩
abbrev main_v172 : Ref sig .tc := ⟨.hbm, 262, rfl⟩
abbrev main_v173 : Ref sig .tc := ⟨.hbm, 263, rfl⟩
abbrev main_v174 : Ref sig .tc := ⟨.hbm, 264, rfl⟩
abbrev main_cst_35 : Ref sig .tc := ⟨.hbm, 265, rfl⟩
abbrev main_v175 : Ref sig .tc := ⟨.hbm, 266, rfl⟩
abbrev main_v176 : Ref sig .tc := ⟨.hbm, 267, rfl⟩
abbrev main_v177 : Ref sig .tc := ⟨.hbm, 268, rfl⟩
abbrev main_cst_36 : Ref sig .tc := ⟨.hbm, 269, rfl⟩
abbrev main_v178 : Ref sig .tc := ⟨.hbm, 270, rfl⟩
abbrev main_v179 : Ref sig .tc := ⟨.hbm, 271, rfl⟩
abbrev main_v180 : Ref sig .tc := ⟨.hbm, 272, rfl⟩
abbrev main_v181 : Ref sig .tc := ⟨.hbm, 273, rfl⟩
abbrev main_cst_37 : Ref sig .tc := ⟨.hbm, 274, rfl⟩
abbrev main_v182 : Ref sig .tc := ⟨.hbm, 275, rfl⟩
abbrev main_v183 : Ref sig .tc := ⟨.hbm, 276, rfl⟩
abbrev main_v184 : Ref sig .tc := ⟨.hbm, 277, rfl⟩
abbrev main_cst_38 : Ref sig .tc := ⟨.hbm, 278, rfl⟩
abbrev main_v185 : Ref sig .tc := ⟨.hbm, 279, rfl⟩
abbrev main_v186 : Ref sig .tc := ⟨.hbm, 280, rfl⟩
abbrev main_v187 : Ref sig .tc := ⟨.hbm, 281, rfl⟩
abbrev main_cst_39 : Ref sig .tc := ⟨.hbm, 282, rfl⟩
abbrev main_v188 : Ref sig .tc := ⟨.hbm, 283, rfl⟩
abbrev main_v189 : Ref sig .tc := ⟨.hbm, 284, rfl⟩
abbrev main_v190 : Ref sig .tc := ⟨.hbm, 285, rfl⟩
abbrev main_cst_40 : Ref sig .tc := ⟨.hbm, 286, rfl⟩
abbrev main_v191 : Ref sig .tc := ⟨.hbm, 287, rfl⟩
abbrev main_v192 : Ref sig .tc := ⟨.hbm, 288, rfl⟩
abbrev main_v193 : Ref sig .tc := ⟨.hbm, 289, rfl⟩
abbrev main_v194 : Ref sig .tc := ⟨.hbm, 290, rfl⟩
abbrev main_cst_41 : Ref sig .tc := ⟨.hbm, 291, rfl⟩
abbrev main_v195 : Ref sig .tc := ⟨.hbm, 292, rfl⟩
abbrev main_v196 : Ref sig .tc := ⟨.hbm, 293, rfl⟩
abbrev main_v197 : Ref sig .tc := ⟨.hbm, 294, rfl⟩
abbrev main_cst_42 : Ref sig .tc := ⟨.hbm, 295, rfl⟩
abbrev main_v198 : Ref sig .tc := ⟨.hbm, 296, rfl⟩
abbrev main_v199 : Ref sig .tc := ⟨.hbm, 297, rfl⟩
abbrev main_v200 : Ref sig .tc := ⟨.hbm, 298, rfl⟩
abbrev main_cst_43 : Ref sig .tc := ⟨.hbm, 299, rfl⟩
abbrev main_v201 : Ref sig .tc := ⟨.hbm, 300, rfl⟩
abbrev main_v202 : Ref sig .tc := ⟨.hbm, 301, rfl⟩
abbrev main_v203 : Ref sig .tc := ⟨.hbm, 302, rfl⟩
abbrev main_cst_44 : Ref sig .tc := ⟨.hbm, 303, rfl⟩
abbrev main_v204 : Ref sig .tc := ⟨.hbm, 304, rfl⟩
abbrev main_v205 : Ref sig .tc := ⟨.hbm, 305, rfl⟩
abbrev main_v206 : Ref sig .tc := ⟨.hbm, 306, rfl⟩
abbrev main_v207 : Ref sig .tc := ⟨.hbm, 307, rfl⟩
abbrev main_cst_45 : Ref sig .tc := ⟨.hbm, 308, rfl⟩
abbrev main_v208 : Ref sig .tc := ⟨.hbm, 309, rfl⟩
abbrev main_v209 : Ref sig .tc := ⟨.hbm, 310, rfl⟩
abbrev main_v210 : Ref sig .tc := ⟨.hbm, 311, rfl⟩
abbrev main_cst_46 : Ref sig .tc := ⟨.hbm, 312, rfl⟩
abbrev main_v211 : Ref sig .tc := ⟨.hbm, 313, rfl⟩
abbrev main_v212 : Ref sig .tc := ⟨.hbm, 314, rfl⟩
abbrev main_v213 : Ref sig .tc := ⟨.hbm, 315, rfl⟩
abbrev main_cst_47 : Ref sig .tc := ⟨.hbm, 316, rfl⟩
abbrev main_v214 : Ref sig .tc := ⟨.hbm, 317, rfl⟩
abbrev main_v215 : Ref sig .tc := ⟨.hbm, 318, rfl⟩
abbrev main_v216 : Ref sig .tc := ⟨.hbm, 319, rfl⟩
abbrev main_cst_48 : Ref sig .tc := ⟨.hbm, 320, rfl⟩
abbrev main_v217 : Ref sig .tc := ⟨.hbm, 321, rfl⟩
abbrev main_v218 : Ref sig .tc := ⟨.hbm, 322, rfl⟩
abbrev main_v219 : Ref sig .tc := ⟨.hbm, 323, rfl⟩
abbrev main_v220 : Ref sig .tc := ⟨.hbm, 324, rfl⟩
abbrev main_cst_49 : Ref sig .tc := ⟨.hbm, 325, rfl⟩
abbrev main_v221 : Ref sig .tc := ⟨.hbm, 326, rfl⟩
abbrev main_v222 : Ref sig .tc := ⟨.hbm, 327, rfl⟩
abbrev main_v223 : Ref sig .tc := ⟨.hbm, 328, rfl⟩
abbrev main_cst_50 : Ref sig .tc := ⟨.hbm, 329, rfl⟩
abbrev main_v224 : Ref sig .tc := ⟨.hbm, 330, rfl⟩
abbrev main_v225 : Ref sig .tc := ⟨.hbm, 331, rfl⟩
abbrev main_v226 : Ref sig .tc := ⟨.hbm, 332, rfl⟩
abbrev main_cst_51 : Ref sig .tc := ⟨.hbm, 333, rfl⟩
abbrev main_v227 : Ref sig .tc := ⟨.hbm, 334, rfl⟩
abbrev main_v228 : Ref sig .tc := ⟨.hbm, 335, rfl⟩
abbrev main_v229 : Ref sig .tc := ⟨.hbm, 336, rfl⟩
abbrev main_cst_52 : Ref sig .tc := ⟨.hbm, 337, rfl⟩
abbrev main_v230 : Ref sig .tc := ⟨.hbm, 338, rfl⟩
abbrev main_v231 : Ref sig .tc := ⟨.hbm, 339, rfl⟩
abbrev main_v232 : Ref sig .tc := ⟨.hbm, 340, rfl⟩
abbrev main_v233 : Ref sig .tc := ⟨.hbm, 341, rfl⟩
abbrev main_cst_53 : Ref sig .tc := ⟨.hbm, 342, rfl⟩
abbrev main_v234 : Ref sig .tc := ⟨.hbm, 343, rfl⟩
abbrev main_v235 : Ref sig .tc := ⟨.hbm, 344, rfl⟩
abbrev main_v236 : Ref sig .tc := ⟨.hbm, 345, rfl⟩
abbrev main_cst_54 : Ref sig .tc := ⟨.hbm, 346, rfl⟩
abbrev main_v237 : Ref sig .tc := ⟨.hbm, 347, rfl⟩
abbrev main_v238 : Ref sig .tc := ⟨.hbm, 348, rfl⟩
abbrev main_v239 : Ref sig .tc := ⟨.hbm, 349, rfl⟩
abbrev main_cst_55 : Ref sig .tc := ⟨.hbm, 350, rfl⟩
abbrev main_v240 : Ref sig .tc := ⟨.hbm, 351, rfl⟩
abbrev main_v241 : Ref sig .tc := ⟨.hbm, 352, rfl⟩
abbrev main_v242 : Ref sig .tc := ⟨.hbm, 353, rfl⟩
abbrev main_cst_56 : Ref sig .tc := ⟨.hbm, 354, rfl⟩
abbrev main_v243 : Ref sig .tc := ⟨.hbm, 355, rfl⟩
abbrev main_v244 : Ref sig .tc := ⟨.hbm, 356, rfl⟩
abbrev main_v245 : Ref sig .tc := ⟨.hbm, 357, rfl⟩
abbrev main_v246 : Ref sig .tc := ⟨.hbm, 358, rfl⟩
abbrev main_v247 : Ref sig .tc := ⟨.hbm, 359, rfl⟩
abbrev main_cst_57 : Ref sig .tc := ⟨.hbm, 360, rfl⟩
abbrev main_v248 : Ref sig .tc := ⟨.hbm, 361, rfl⟩
abbrev main_v249 : Ref sig .tc := ⟨.hbm, 362, rfl⟩
abbrev main_v250 : Ref sig .tc := ⟨.hbm, 363, rfl⟩
abbrev main_cst_58 : Ref sig .tc := ⟨.hbm, 364, rfl⟩
abbrev main_v251 : Ref sig .tc := ⟨.hbm, 365, rfl⟩
abbrev main_v252 : Ref sig .tc := ⟨.hbm, 366, rfl⟩
abbrev main_v253 : Ref sig .tc := ⟨.hbm, 367, rfl⟩
abbrev main_cst_59 : Ref sig .tc := ⟨.hbm, 368, rfl⟩
abbrev main_v254 : Ref sig .tc := ⟨.hbm, 369, rfl⟩
abbrev main_v255 : Ref sig .tc := ⟨.hbm, 370, rfl⟩
abbrev main_cst_60 : Ref sig .tc := ⟨.hbm, 371, rfl⟩
abbrev main_v256 : Ref sig .tc := ⟨.hbm, 372, rfl⟩
abbrev main_v257 : Ref sig .tc := ⟨.hbm, 373, rfl⟩
abbrev main_v258 : Ref sig .tc := ⟨.hbm, 374, rfl⟩
abbrev main_v259 : Ref sig .tc := ⟨.hbm, 375, rfl⟩
abbrev main_v260 : Ref sig .tc := ⟨.hbm, 376, rfl⟩
abbrev main_v261 : Ref sig .tc := ⟨.hbm, 377, rfl⟩
abbrev main_v262 : Ref sig .tc := ⟨.hbm, 378, rfl⟩
abbrev main_v263 : Ref sig .tc := ⟨.hbm, 379, rfl⟩
abbrev main_v264 : Ref sig .tc := ⟨.hbm, 380, rfl⟩
abbrev main_cst_61 : Ref sig .tc := ⟨.hbm, 381, rfl⟩
abbrev main_v265 : Ref sig .tc := ⟨.hbm, 382, rfl⟩
abbrev main_v266 : Ref sig .tc := ⟨.hbm, 383, rfl⟩
abbrev main_v267 : Ref sig .tc := ⟨.hbm, 384, rfl⟩
abbrev main_v268 : Ref sig .tc := ⟨.hbm, 385, rfl⟩
abbrev main_v269 : Ref sig .tc := ⟨.hbm, 386, rfl⟩
abbrev main_v270 : Ref sig .tc := ⟨.hbm, 387, rfl⟩
abbrev main_cst_62 : Ref sig .tc := ⟨.hbm, 388, rfl⟩
abbrev main_v271 : Ref sig .tc := ⟨.hbm, 389, rfl⟩
abbrev main_v272 : Ref sig .tc := ⟨.hbm, 390, rfl⟩
abbrev main_v273 : Ref sig .tc := ⟨.hbm, 391, rfl⟩
abbrev main_v274 : Ref sig .tc := ⟨.hbm, 392, rfl⟩
abbrev main_v275 : Ref sig .tc := ⟨.hbm, 393, rfl⟩
abbrev main_v276 : Ref sig .tc := ⟨.hbm, 394, rfl⟩
abbrev main_v277 : Ref sig .tc := ⟨.hbm, 395, rfl⟩
abbrev main_cst_63 : Ref sig .tc := ⟨.hbm, 396, rfl⟩
abbrev main_v278 : Ref sig .tc := ⟨.hbm, 397, rfl⟩
abbrev main_v279 : Ref sig .tc := ⟨.hbm, 398, rfl⟩
abbrev main_v280 : Ref sig .tc := ⟨.hbm, 399, rfl⟩
abbrev main_v281 : Ref sig .tc := ⟨.hbm, 400, rfl⟩
abbrev main_v282 : Ref sig .tc := ⟨.hbm, 401, rfl⟩
abbrev main_v283 : Ref sig .tc := ⟨.hbm, 402, rfl⟩
abbrev main_cst_64 : Ref sig .tc := ⟨.hbm, 403, rfl⟩
abbrev main_v284 : Ref sig .tc := ⟨.hbm, 404, rfl⟩
abbrev main_v285 : Ref sig .tc := ⟨.hbm, 405, rfl⟩
abbrev main_v286 : Ref sig .tc := ⟨.hbm, 406, rfl⟩
abbrev main_v287 : Ref sig .tc := ⟨.hbm, 407, rfl⟩
abbrev main_v288 : Ref sig .tc := ⟨.hbm, 408, rfl⟩
abbrev main_v289 : Ref sig .tc := ⟨.hbm, 409, rfl⟩
abbrev main_v290 : Ref sig .tc := ⟨.hbm, 410, rfl⟩
abbrev main_cst_65 : Ref sig .tc := ⟨.hbm, 411, rfl⟩
abbrev main_v291 : Ref sig .tc := ⟨.hbm, 412, rfl⟩
abbrev main_v292 : Ref sig .tc := ⟨.hbm, 413, rfl⟩
abbrev main_v293 : Ref sig .tc := ⟨.hbm, 414, rfl⟩
abbrev main_v294 : Ref sig .tc := ⟨.hbm, 415, rfl⟩
abbrev main_v295 : Ref sig .tc := ⟨.hbm, 416, rfl⟩
abbrev main_v296 : Ref sig .tc := ⟨.hbm, 417, rfl⟩
abbrev main_cst_66 : Ref sig .tc := ⟨.hbm, 418, rfl⟩
abbrev main_v297 : Ref sig .tc := ⟨.hbm, 419, rfl⟩
abbrev main_v298 : Ref sig .tc := ⟨.hbm, 420, rfl⟩
abbrev main_v299 : Ref sig .tc := ⟨.hbm, 421, rfl⟩
abbrev main_v300 : Ref sig .tc := ⟨.hbm, 422, rfl⟩
abbrev main_v301 : Ref sig .tc := ⟨.hbm, 423, rfl⟩
abbrev main_v302 : Ref sig .tc := ⟨.hbm, 424, rfl⟩
abbrev main_v303 : Ref sig .tc := ⟨.hbm, 425, rfl⟩
abbrev main_cst_67 : Ref sig .tc := ⟨.hbm, 426, rfl⟩
abbrev main_v304 : Ref sig .tc := ⟨.hbm, 427, rfl⟩
abbrev main_v305 : Ref sig .tc := ⟨.hbm, 428, rfl⟩
abbrev main_v306 : Ref sig .tc := ⟨.hbm, 429, rfl⟩
abbrev main_v307 : Ref sig .tc := ⟨.hbm, 430, rfl⟩
abbrev main_v308 : Ref sig .tc := ⟨.hbm, 431, rfl⟩
abbrev main_v309 : Ref sig .tc := ⟨.hbm, 432, rfl⟩
abbrev main_cst_68 : Ref sig .tc := ⟨.hbm, 433, rfl⟩
abbrev main_v310 : Ref sig .tc := ⟨.hbm, 434, rfl⟩
abbrev main_v311 : Ref sig .tc := ⟨.hbm, 435, rfl⟩
abbrev main_v312 : Ref sig .tc := ⟨.hbm, 436, rfl⟩
abbrev main_v313 : Ref sig .tc := ⟨.hbm, 437, rfl⟩
abbrev main_v314 : Ref sig .tc := ⟨.hbm, 438, rfl⟩
abbrev main_v315 : Ref sig .tc := ⟨.hbm, 439, rfl⟩
abbrev main_v316 : Ref sig .tc := ⟨.hbm, 440, rfl⟩
abbrev main_cst_69 : Ref sig .tc := ⟨.hbm, 441, rfl⟩
abbrev main_v317 : Ref sig .tc := ⟨.hbm, 442, rfl⟩
abbrev main_v318 : Ref sig .tc := ⟨.hbm, 443, rfl⟩
abbrev main_v319 : Ref sig .tc := ⟨.hbm, 444, rfl⟩
abbrev main_v320 : Ref sig .tc := ⟨.hbm, 445, rfl⟩
abbrev main_v321 : Ref sig .tc := ⟨.hbm, 446, rfl⟩
abbrev main_v322 : Ref sig .tc := ⟨.hbm, 447, rfl⟩
abbrev main_cst_70 : Ref sig .tc := ⟨.hbm, 448, rfl⟩
abbrev main_v323 : Ref sig .tc := ⟨.hbm, 449, rfl⟩
abbrev main_v324 : Ref sig .tc := ⟨.hbm, 450, rfl⟩
abbrev main_v325 : Ref sig .tc := ⟨.hbm, 451, rfl⟩
abbrev main_v326 : Ref sig .tc := ⟨.hbm, 452, rfl⟩
abbrev main_v327 : Ref sig .tc := ⟨.hbm, 453, rfl⟩
abbrev main_v328 : Ref sig .tc := ⟨.hbm, 454, rfl⟩
abbrev main_v329 : Ref sig .tc := ⟨.hbm, 455, rfl⟩
abbrev main_cst_71 : Ref sig .tc := ⟨.hbm, 456, rfl⟩
abbrev main_v330 : Ref sig .tc := ⟨.hbm, 457, rfl⟩
abbrev main_v331 : Ref sig .tc := ⟨.hbm, 458, rfl⟩
abbrev main_v332 : Ref sig .tc := ⟨.hbm, 459, rfl⟩
abbrev main_v333 : Ref sig .tc := ⟨.hbm, 460, rfl⟩
abbrev main_v334 : Ref sig .tc := ⟨.hbm, 461, rfl⟩
abbrev main_v335 : Ref sig .tc := ⟨.hbm, 462, rfl⟩
abbrev main_cst_72 : Ref sig .tc := ⟨.hbm, 463, rfl⟩
abbrev main_v336 : Ref sig .tc := ⟨.hbm, 464, rfl⟩
abbrev main_v337 : Ref sig .tc := ⟨.hbm, 465, rfl⟩
abbrev main_v338 : Ref sig .tc := ⟨.hbm, 466, rfl⟩
abbrev main_v339 : Ref sig .tc := ⟨.hbm, 467, rfl⟩
abbrev main_v340 : Ref sig .tc := ⟨.hbm, 468, rfl⟩
abbrev main_v341 : Ref sig .tc := ⟨.hbm, 469, rfl⟩
abbrev main_v342 : Ref sig .tc := ⟨.hbm, 470, rfl⟩
abbrev main_cst_73 : Ref sig .tc := ⟨.hbm, 471, rfl⟩
abbrev main_v343 : Ref sig .tc := ⟨.hbm, 472, rfl⟩
abbrev main_v344 : Ref sig .tc := ⟨.hbm, 473, rfl⟩
abbrev main_v345 : Ref sig .tc := ⟨.hbm, 474, rfl⟩
abbrev main_v346 : Ref sig .tc := ⟨.hbm, 475, rfl⟩
abbrev main_v347 : Ref sig .tc := ⟨.hbm, 476, rfl⟩
abbrev main_v348 : Ref sig .tc := ⟨.hbm, 477, rfl⟩
abbrev main_cst_74 : Ref sig .tc := ⟨.hbm, 478, rfl⟩
abbrev main_v349 : Ref sig .tc := ⟨.hbm, 479, rfl⟩
abbrev main_v350 : Ref sig .tc := ⟨.hbm, 480, rfl⟩
abbrev main_v351 : Ref sig .tc := ⟨.hbm, 481, rfl⟩
abbrev main_v352 : Ref sig .tc := ⟨.hbm, 482, rfl⟩
abbrev main_v353 : Ref sig .tc := ⟨.hbm, 483, rfl⟩
abbrev main_v354 : Ref sig .tc := ⟨.hbm, 484, rfl⟩
abbrev main_v355 : Ref sig .tc := ⟨.hbm, 485, rfl⟩
abbrev main_cst_75 : Ref sig .tc := ⟨.hbm, 486, rfl⟩
abbrev main_v356 : Ref sig .tc := ⟨.hbm, 487, rfl⟩
abbrev main_v357 : Ref sig .tc := ⟨.hbm, 488, rfl⟩
abbrev main_v358 : Ref sig .tc := ⟨.hbm, 489, rfl⟩
abbrev main_v359 : Ref sig .tc := ⟨.hbm, 490, rfl⟩
abbrev main_v360 : Ref sig .tc := ⟨.hbm, 491, rfl⟩
abbrev main_v361 : Ref sig .tc := ⟨.hbm, 492, rfl⟩
abbrev main_cst_76 : Ref sig .tc := ⟨.hbm, 493, rfl⟩
abbrev main_v362 : Ref sig .tc := ⟨.hbm, 494, rfl⟩
abbrev main_v363 : Ref sig .tc := ⟨.hbm, 495, rfl⟩
abbrev main_v364 : Ref sig .tc := ⟨.hbm, 496, rfl⟩
abbrev main_v365 : Ref sig .tc := ⟨.hbm, 497, rfl⟩
abbrev main_v366 : Ref sig .tc := ⟨.hbm, 498, rfl⟩
abbrev main_v367 : Ref sig .tc := ⟨.hbm, 499, rfl⟩
abbrev main_v368 : Ref sig .tc := ⟨.hbm, 500, rfl⟩
abbrev main_cst_77 : Ref sig .tc := ⟨.hbm, 501, rfl⟩
abbrev main_v369 : Ref sig .tc := ⟨.hbm, 502, rfl⟩
abbrev main_v370 : Ref sig .tc := ⟨.hbm, 503, rfl⟩
abbrev main_v371 : Ref sig .tc := ⟨.hbm, 504, rfl⟩
abbrev main_v372 : Ref sig .tc := ⟨.hbm, 505, rfl⟩
abbrev main_v373 : Ref sig .tc := ⟨.hbm, 506, rfl⟩
abbrev main_v374 : Ref sig .tc := ⟨.hbm, 507, rfl⟩
abbrev main_cst_78 : Ref sig .tc := ⟨.hbm, 508, rfl⟩
abbrev main_v375 : Ref sig .tc := ⟨.hbm, 509, rfl⟩
abbrev main_v376 : Ref sig .tc := ⟨.hbm, 510, rfl⟩
abbrev main_v377 : Ref sig .tc := ⟨.hbm, 511, rfl⟩
abbrev main_v378 : Ref sig .tc := ⟨.hbm, 512, rfl⟩
abbrev main_v379 : Ref sig .tc := ⟨.hbm, 513, rfl⟩
abbrev main_v380 : Ref sig .tc := ⟨.hbm, 514, rfl⟩
abbrev main_v381 : Ref sig .tc := ⟨.hbm, 515, rfl⟩
abbrev main_cst_79 : Ref sig .tc := ⟨.hbm, 516, rfl⟩
abbrev main_v382 : Ref sig .tc := ⟨.hbm, 517, rfl⟩
abbrev main_v383 : Ref sig .tc := ⟨.hbm, 518, rfl⟩
abbrev main_v384 : Ref sig .tc := ⟨.hbm, 519, rfl⟩
abbrev main_v385 : Ref sig .tc := ⟨.hbm, 520, rfl⟩
abbrev main_v386 : Ref sig .tc := ⟨.hbm, 521, rfl⟩
abbrev main_v387 : Ref sig .tc := ⟨.hbm, 522, rfl⟩
abbrev main_cst_80 : Ref sig .tc := ⟨.hbm, 523, rfl⟩
abbrev main_v388 : Ref sig .tc := ⟨.hbm, 524, rfl⟩
abbrev main_v389 : Ref sig .tc := ⟨.hbm, 525, rfl⟩
abbrev main_v390 : Ref sig .tc := ⟨.hbm, 526, rfl⟩
abbrev main_v391 : Ref sig .tc := ⟨.hbm, 527, rfl⟩
abbrev main_v392 : Ref sig .tc := ⟨.hbm, 528, rfl⟩
abbrev main_v393 : Ref sig .tc := ⟨.hbm, 529, rfl⟩
abbrev main_v394 : Ref sig .tc := ⟨.hbm, 530, rfl⟩
abbrev main_cst_81 : Ref sig .tc := ⟨.hbm, 531, rfl⟩
abbrev main_v395 : Ref sig .tc := ⟨.hbm, 532, rfl⟩
abbrev main_v396 : Ref sig .tc := ⟨.hbm, 533, rfl⟩
abbrev main_v397 : Ref sig .tc := ⟨.hbm, 534, rfl⟩
abbrev main_v398 : Ref sig .tc := ⟨.hbm, 535, rfl⟩
abbrev main_v399 : Ref sig .tc := ⟨.hbm, 536, rfl⟩
abbrev main_v400 : Ref sig .tc := ⟨.hbm, 537, rfl⟩
abbrev main_cst_82 : Ref sig .tc := ⟨.hbm, 538, rfl⟩
abbrev main_v401 : Ref sig .tc := ⟨.hbm, 539, rfl⟩
abbrev main_v402 : Ref sig .tc := ⟨.hbm, 540, rfl⟩
abbrev main_v403 : Ref sig .tc := ⟨.hbm, 541, rfl⟩
abbrev main_v404 : Ref sig .tc := ⟨.hbm, 542, rfl⟩
abbrev main_v405 : Ref sig .tc := ⟨.hbm, 543, rfl⟩
abbrev main_v406 : Ref sig .tc := ⟨.hbm, 544, rfl⟩
abbrev main_v407 : Ref sig .tc := ⟨.hbm, 545, rfl⟩
abbrev main_cst_83 : Ref sig .tc := ⟨.hbm, 546, rfl⟩
abbrev main_v408 : Ref sig .tc := ⟨.hbm, 547, rfl⟩
abbrev main_v409 : Ref sig .tc := ⟨.hbm, 548, rfl⟩
abbrev main_v410 : Ref sig .tc := ⟨.hbm, 549, rfl⟩
abbrev main_v411 : Ref sig .tc := ⟨.hbm, 550, rfl⟩
abbrev main_v412 : Ref sig .tc := ⟨.hbm, 551, rfl⟩
abbrev main_v413 : Ref sig .tc := ⟨.hbm, 552, rfl⟩
abbrev main_v414 : Ref sig .tc := ⟨.hbm, 553, rfl⟩
abbrev main_v415 : Ref sig .tc := ⟨.hbm, 554, rfl⟩
abbrev main_v416 : Ref sig .tc := ⟨.hbm, 555, rfl⟩
abbrev main_cst_84 : Ref sig .tc := ⟨.hbm, 556, rfl⟩
abbrev main_v417 : Ref sig .tc := ⟨.hbm, 557, rfl⟩
abbrev main_v418 : Ref sig .tc := ⟨.hbm, 558, rfl⟩
abbrev main_v419 : Ref sig .tc := ⟨.hbm, 559, rfl⟩
abbrev main_v420 : Ref sig .tc := ⟨.hbm, 560, rfl⟩
abbrev main_v421 : Ref sig .tc := ⟨.hbm, 561, rfl⟩
abbrev main_cst_85 : Ref sig .tc := ⟨.hbm, 562, rfl⟩
abbrev main_v422 : Ref sig .tc := ⟨.hbm, 563, rfl⟩
abbrev main_v423 : Ref sig .tc := ⟨.hbm, 564, rfl⟩
abbrev main_v424 : Ref sig .tc := ⟨.hbm, 565, rfl⟩
abbrev main_v425 : Ref sig .tc := ⟨.hbm, 566, rfl⟩
abbrev main_cst_86 : Ref sig .tc := ⟨.hbm, 567, rfl⟩
abbrev main_v426 : Ref sig .tc := ⟨.hbm, 568, rfl⟩
abbrev main_v427 : Ref sig .tc := ⟨.hbm, 569, rfl⟩
abbrev main_v428 : Ref sig .tc := ⟨.hbm, 570, rfl⟩
abbrev main_cst_87 : Ref sig .tc := ⟨.hbm, 571, rfl⟩
abbrev main_v429 : Ref sig .tc := ⟨.hbm, 572, rfl⟩
abbrev main_v430 : Ref sig .tc := ⟨.hbm, 573, rfl⟩
abbrev main_v431 : Ref sig .tc := ⟨.hbm, 574, rfl⟩
abbrev main_v432 : Ref sig .tc := ⟨.hbm, 575, rfl⟩
abbrev main_cst_88 : Ref sig .tc := ⟨.hbm, 576, rfl⟩
abbrev main_v433 : Ref sig .tc := ⟨.hbm, 577, rfl⟩
abbrev main_v434 : Ref sig .tc := ⟨.hbm, 578, rfl⟩
abbrev main_cst_89 : Ref sig .tc := ⟨.hbm, 579, rfl⟩
abbrev main_v435 : Ref sig .tc := ⟨.hbm, 580, rfl⟩
abbrev main_v436 : Ref sig .tc := ⟨.hbm, 581, rfl⟩
abbrev main_v437 : Ref sig .tc := ⟨.hbm, 582, rfl⟩
abbrev main_v438 : Ref sig .tc := ⟨.hbm, 583, rfl⟩
abbrev main_v439 : Ref sig .tc := ⟨.hbm, 584, rfl⟩
abbrev main_v440 : Ref sig .tc := ⟨.hbm, 585, rfl⟩
abbrev main_v441 : Ref sig .tc := ⟨.hbm, 586, rfl⟩
abbrev main_v442 : Ref sig .tc := ⟨.hbm, 587, rfl⟩
abbrev main_cst_90 : Ref sig .tc := ⟨.hbm, 588, rfl⟩
abbrev main_v443 : Ref sig .tc := ⟨.hbm, 589, rfl⟩
abbrev main_v444 : Ref sig .tc := ⟨.hbm, 590, rfl⟩
abbrev main_cst_91 : Ref sig .tc := ⟨.hbm, 591, rfl⟩
abbrev main_v445 : Ref sig .tc := ⟨.hbm, 592, rfl⟩
abbrev main_v446 : Ref sig .tc := ⟨.hbm, 593, rfl⟩
abbrev main_v447 : Ref sig .tc := ⟨.hbm, 594, rfl⟩
abbrev main_v448 : Ref sig .tc := ⟨.hbm, 595, rfl⟩
abbrev main_v449 : Ref sig .tc := ⟨.hbm, 596, rfl⟩
abbrev main_v450 : Ref sig .tc := ⟨.hbm, 597, rfl⟩
abbrev main_v451 : Ref sig .tc := ⟨.hbm, 598, rfl⟩
abbrev main_v452 : Ref sig .tc := ⟨.hbm, 599, rfl⟩
abbrev main_v453 : Ref sig .tc := ⟨.hbm, 600, rfl⟩
abbrev main_v454 : Ref sig .tc := ⟨.hbm, 601, rfl⟩
abbrev main_v455 : Ref sig .tc := ⟨.hbm, 602, rfl⟩
abbrev main_v456 : Ref sig .tc := ⟨.hbm, 603, rfl⟩
abbrev main_v457 : Ref sig .tc := ⟨.hbm, 604, rfl⟩
abbrev main_v458 : Ref sig .tc := ⟨.hbm, 605, rfl⟩
abbrev main_v459 : Ref sig .tc := ⟨.hbm, 606, rfl⟩
abbrev main_v460 : Ref sig .tc := ⟨.hbm, 607, rfl⟩
abbrev main_v461 : Ref sig .tc := ⟨.hbm, 608, rfl⟩
abbrev main_v462 : Ref sig .tc := ⟨.hbm, 609, rfl⟩
abbrev main_v463 : Ref sig .tc := ⟨.hbm, 610, rfl⟩

abbrev nD : Nat := 1
abbrev τ : Topo := Topo.v7x

variable {F : FTy → Type} [FloatOps F]
-- ==== Lru.lean ====
abbrev S1x4096x6144 : Shape := ⟨3, ![1, 4096, 6144]⟩
abbrev S1x4x1024 : Shape := ⟨3, ![1, 4, 1024]⟩
abbrev S1x1024 : Shape := ⟨2, ![1, 1024]⟩
abbrev S1x4x256x256 : Shape := ⟨4, ![1, 4, 256, 256]⟩
abbrev S1x4x256 : Shape := ⟨3, ![1, 4, 256]⟩
abbrev S4x256x256 : Shape := ⟨3, ![4, 256, 256]⟩
abbrev S4096x6144 : Shape := ⟨2, ![4096, 6144]⟩
abbrev S4x1024 : Shape := ⟨2, ![4, 1024]⟩
abbrev S4096x1024 : Shape := ⟨2, ![4096, 1024]⟩
abbrev S256x1024 : Shape := ⟨2, ![256, 1024]⟩
abbrev S8x1024 : Shape := ⟨2, ![8, 1024]⟩
abbrev S248x1024 : Shape := ⟨2, ![248, 1024]⟩
abbrev S256x256 : Shape := ⟨2, ![256, 256]⟩
abbrev S1x256x256 : Shape := ⟨3, ![1, 256, 256]⟩
abbrev S32x8x1024 : Shape := ⟨3, ![32, 8, 1024]⟩
abbrev S1x8x1024 : Shape := ⟨3, ![1, 8, 1024]⟩

abbrev nBuf : Space → Nat
  | .hbm => 22
  | .vmem => 23
  | .smem => 0
  | _ => 0

abbrev bufTy : (tb : Table) → Fin (tcTables nBuf tb) → BufTy
  | .hbm, ⟨0, _⟩ => ⟨S1x4096x6144, .f32⟩
  | .hbm, ⟨1, _⟩ => ⟨S1x4x1024, .f32⟩
  | .hbm, ⟨2, _⟩ => ⟨S1x1024, .f32⟩
  | .hbm, ⟨3, _⟩ => ⟨S1x4x256x256, .f32⟩
  | .hbm, ⟨4, _⟩ => ⟨S1x4x256, .f32⟩
  | .hbm, ⟨5, _⟩ => ⟨S1x4x256x256, .f32⟩
  | .hbm, ⟨6, _⟩ => ⟨S1x4x256, .f32⟩
  | .hbm, ⟨7, _⟩ => ⟨S1x1024, .f32⟩
  | .hbm, ⟨8, _⟩ => ⟨S4x256x256, .f32⟩
  | .hbm, ⟨9, _⟩ => ⟨S4x256x256, .bf16⟩
  | .hbm, ⟨10, _⟩ => ⟨S4x256x256, .f32⟩
  | .hbm, ⟨11, _⟩ => ⟨S4x256x256, .bf16⟩
  | .hbm, ⟨12, _⟩ => ⟨S4096x6144, .f32⟩
  | .hbm, ⟨13, _⟩ => ⟨S4096x6144, .bf16⟩
  | .hbm, ⟨14, _⟩ => ⟨S4x1024, .f32⟩
  | .hbm, ⟨15, _⟩ => ⟨S1x1024, .f32⟩
  | .hbm, ⟨16, _⟩ => ⟨S1x1024, .f32⟩
  | .hbm, ⟨17, _⟩ => ⟨S4096x1024, .bf16⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S4x1024, .f32⟩
  | .local _ .vmem, ⟨5, _⟩ => ⟨S1x1024, .f32⟩
  | .local _ .vmem, ⟨6, _⟩ => ⟨S4x256x256, .bf16⟩
  | .local _ .vmem, ⟨7, _⟩ => ⟨S1x1024, .f32⟩
  | .local _ .vmem, ⟨8, _⟩ => ⟨S4x256x256, .bf16⟩
  | .local _ .vmem, ⟨9, _⟩ => ⟨S1x1024, .f32⟩
  | .local _ .vmem, ⟨10, _⟩ => ⟨S1x1024, .f32⟩
  | .local _ .vmem, ⟨11, _⟩ => ⟨S256x1024, .bf16⟩
  | .local _ .vmem, ⟨12, _⟩ => ⟨S256x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S8x1024, .f32⟩
  | .local _ .vmem, ⟨22, _⟩ => ⟨S1x1024, .f32⟩
  | _, _ => ⟨S1x4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== LruIdeal.lean ====
variable {F : FTy → Type} [FloatOps F] [Named F]
def κ : String → Option EReal := fun
  | "k01" => some ((80338380498831 / 2251799813685248 : ℝ) : EReal)
  | _ => none
-- ==== LruRefIdeal.lean ====
abbrev S1x4096x6144 : Shape := ⟨3, ![1, 4096, 6144]⟩
abbrev S1x4x1024 : Shape := ⟨3, ![1, 4, 1024]⟩
abbrev S1x1024 : Shape := ⟨2, ![1, 1024]⟩
abbrev S1x4x256x256 : Shape := ⟨4, ![1, 4, 256, 256]⟩
abbrev S1x4x256 : Shape := ⟨3, ![1, 4, 256]⟩
abbrev S1x4096x1024 : Shape := ⟨3, ![1, 4096, 1024]⟩
abbrev S4x1024 : Shape := ⟨2, ![4, 1024]⟩
abbrev S1024 : Shape := ⟨1, ![1024]⟩
abbrev S_ : Shape := ⟨0, ![]⟩
abbrev S1x4099x1024 : Shape := ⟨3, ![1, 4099, 1024]⟩
abbrev S1x1x1024 : Shape := ⟨3, ![1, 1, 1024]⟩
abbrev S4x256x256 : Shape := ⟨3, ![4, 256, 256]⟩
abbrev S4x256 : Shape := ⟨2, ![4, 256]⟩
abbrev S1x4096x4x256 : Shape := ⟨4, ![1, 4096, 4, 256]⟩
abbrev S4x256x1x4096 : Shape := ⟨4, ![4, 256, 1, 4096]⟩
abbrev S1x1x4x256 : Shape := ⟨4, ![1, 1, 4, 256]⟩
abbrev S1x2048x1024 : Shape := ⟨3, ![1, 2048, 1024]⟩
abbrev S1x1024x1024 : Shape := ⟨3, ![1, 1024, 1024]⟩
abbrev S1x512x1024 : Shape := ⟨3, ![1, 512, 1024]⟩
abbrev S1x256x1024 : Shape := ⟨3, ![1, 256, 1024]⟩
abbrev S1x128x1024 : Shape := ⟨3, ![1, 128, 1024]⟩
abbrev S1x64x1024 : Shape := ⟨3, ![1, 64, 1024]⟩
abbrev S1x32x1024 : Shape := ⟨3, ![1, 32, 1024]⟩
abbrev S1x16x1024 : Shape := ⟨3, ![1, 16, 1024]⟩
abbrev S1x8x1024 : Shape := ⟨3, ![1, 8, 1024]⟩
abbrev S1x2x1024 : Shape := ⟨3, ![1, 2, 1024]⟩
abbrev S1x0x1024 : Shape := ⟨3, ![1, 0, 1024]⟩
abbrev S1x3x1024 : Shape := ⟨3, ![1, 3, 1024]⟩
abbrev S1x7x1024 : Shape := ⟨3, ![1, 7, 1024]⟩
abbrev S1x15x1024 : Shape := ⟨3, ![1, 15, 1024]⟩
abbrev S1x31x1024 : Shape := ⟨3, ![1, 31, 1024]⟩
abbrev S1x63x1024 : Shape := ⟨3, ![1, 63, 1024]⟩
abbrev S1x127x1024 : Shape := ⟨3, ![1, 127, 1024]⟩
abbrev S1x255x1024 : Shape := ⟨3, ![1, 255, 1024]⟩
abbrev S1x511x1024 : Shape := ⟨3, ![1, 511, 1024]⟩
abbrev S1x1023x1024 : Shape := ⟨3, ![1, 1023, 1024]⟩
abbrev S1x2047x1024 : Shape := ⟨3, ![1, 2047, 1024]⟩
abbrev S4096x1024 : Shape := ⟨2, ![4096, 1024]⟩

abbrev nBuf : Space → Nat
  | .hbm => 469
  | .vmem => 0
  | .smem => 0
  | _ => 0

abbrev hbmTy0_0 (i : Nat) : BufTy := match i % 128 with
  | 0 => ⟨S1x4096x6144, .f32⟩
  | 1 => ⟨S1x4x1024, .f32⟩
  | 2 => ⟨S1x1024, .f32⟩
  | 3 => ⟨S1x4x256x256, .f32⟩
  | 4 => ⟨S1x4x256, .f32⟩
  | 5 => ⟨S1x4x256x256, .f32⟩
  | 6 => ⟨S1x4x256, .f32⟩
  | 7 => ⟨S1x1024, .f32⟩
  | 8 => ⟨S1x4096x1024, .f32⟩
  | 9 => ⟨S4x1024, .f32⟩
  | 10 => ⟨S1024, .f32⟩
  | 11 => ⟨S_, .i32⟩
  | 12 => ⟨S_, .f32⟩
  | 13 => ⟨S1x4099x1024, .f32⟩
  | 14 => ⟨S1x4096x1024, .f32⟩
  | 15 => ⟨S1x1024, .f32⟩
  | 16 => ⟨S1024, .f32⟩
  | 17 => ⟨S1x1x1024, .f32⟩
  | 18 => ⟨S1x4096x1024, .f32⟩
  | 19 => ⟨S1x4096x1024, .f32⟩
  | 20 => ⟨S1x1x1024, .f32⟩
  | 21 => ⟨S1x4096x1024, .f32⟩
  | 22 => ⟨S1x4096x1024, .f32⟩
  | 23 => ⟨S1x4096x1024, .f32⟩
  | 24 => ⟨S1x1024, .f32⟩
  | 25 => ⟨S1024, .f32⟩
  | 26 => ⟨S1x1x1024, .f32⟩
  | 27 => ⟨S1x4096x1024, .f32⟩
  | 28 => ⟨S1x4096x1024, .f32⟩
  | 29 => ⟨S1x4096x1024, .f32⟩
  | 30 => ⟨S1x4096x1024, .f32⟩
  | 31 => ⟨S1x1024, .f32⟩
  | 32 => ⟨S1024, .f32⟩
  | 33 => ⟨S1x1x1024, .f32⟩
  | 34 => ⟨S1x4096x1024, .f32⟩
  | 35 => ⟨S1x4096x1024, .f32⟩
  | 36 => ⟨S1x4096x1024, .f32⟩
  | 37 => ⟨S1x4096x1024, .f32⟩
  | 38 => ⟨S1x1024, .f32⟩
  | 39 => ⟨S1024, .f32⟩
  | 40 => ⟨S1x1x1024, .f32⟩
  | 41 => ⟨S1x4096x1024, .f32⟩
  | 42 => ⟨S1x4096x1024, .f32⟩
  | 43 => ⟨S1x4096x1024, .f32⟩
  | 44 => ⟨S4x256x256, .f32⟩
  | 45 => ⟨S4x256, .f32⟩
  | 46 => ⟨S4x256x256, .f32⟩
  | 47 => ⟨S4x256, .f32⟩
  | 48 => ⟨S1024, .f32⟩
  | 49 => ⟨S1x4096x4x256, .f32⟩
  | 50 => ⟨S4x256x1x4096, .f32⟩
  | 51 => ⟨S1x4096x4x256, .f32⟩
  | 52 => ⟨S1x1x4x256, .f32⟩
  | 53 => ⟨S1x4096x4x256, .f32⟩
  | 54 => ⟨S1x4096x4x256, .f32⟩
  | 55 => ⟨S1x4096x4x256, .f32⟩
  | 56 => ⟨S1x4096x4x256, .f32⟩
  | 57 => ⟨S_, .f32⟩
  | 58 => ⟨S1x4096x4x256, .f32⟩
  | 59 => ⟨S1x4096x4x256, .f32⟩
  | 60 => ⟨S_, .f32⟩
  | 61 => ⟨S1x4096x4x256, .f32⟩
  | 62 => ⟨S1x4096x4x256, .f32⟩
  | 63 => ⟨S1x4096x1024, .f32⟩
  | 64 => ⟨S4x256x1x4096, .f32⟩
  | 65 => ⟨S1x4096x4x256, .f32⟩
  | 66 => ⟨S1x1x4x256, .f32⟩
  | 67 => ⟨S1x4096x4x256, .f32⟩
  | 68 => ⟨S1x4096x4x256, .f32⟩
  | 69 => ⟨S1x4096x4x256, .f32⟩
  | 70 => ⟨S1x4096x4x256, .f32⟩
  | 71 => ⟨S_, .f32⟩
  | 72 => ⟨S1x4096x4x256, .f32⟩
  | 73 => ⟨S1x4096x4x256, .f32⟩
  | 74 => ⟨S_, .f32⟩
  | 75 => ⟨S1x4096x4x256, .f32⟩
  | 76 => ⟨S1x4096x4x256, .f32⟩
  | 77 => ⟨S1x4096x1024, .f32⟩
  | 78 => ⟨S_, .f32⟩
  | 79 => ⟨S1x4096x1024, .f32⟩
  | 80 => ⟨S1x4096x1024, .f32⟩
  | 81 => ⟨S1024, .f32⟩
  | 82 => ⟨S_, .f32⟩
  | 83 => ⟨S1024, .f32⟩
  | 84 => ⟨S1024, .f32⟩
  | 85 => ⟨S1024, .f32⟩
  | 86 => ⟨S1024, .f32⟩
  | 87 => ⟨S1024, .i1⟩
  | 88 => ⟨S1024, .f32⟩
  | 89 => ⟨S1024, .f32⟩
  | 90 => ⟨S1024, .f32⟩
  | 91 => ⟨S1024, .f32⟩
  | 92 => ⟨S1024, .f32⟩
  | 93 => ⟨S1024, .f32⟩
  | 94 => ⟨S1024, .f32⟩
  | 95 => ⟨S1024, .f32⟩
  | 96 => ⟨S1x1x1024, .f32⟩
  | 97 => ⟨S1x4096x1024, .f32⟩
  | 98 => ⟨S1x4096x1024, .f32⟩
  | 99 => ⟨S1x4096x1024, .f32⟩
  | 100 => ⟨S_, .f32⟩
  | 101 => ⟨S1x4096x1024, .f32⟩
  | 102 => ⟨S1x4096x1024, .f32⟩
  | 103 => ⟨S1x4096x1024, .f32⟩
  | 104 => ⟨S1x4096x1024, .f32⟩
  | 105 => ⟨S1x4096x1024, .f32⟩
  | 106 => ⟨S1x4096x1024, .f32⟩
  | 107 => ⟨S1x4096x1024, .f32⟩
  | 108 => ⟨S1x2048x1024, .f32⟩
  | 109 => ⟨S1x2048x1024, .f32⟩
  | 110 => ⟨S1x2048x1024, .f32⟩
  | 111 => ⟨S1x2048x1024, .f32⟩
  | 112 => ⟨S1x2048x1024, .f32⟩
  | 113 => ⟨S1x2048x1024, .f32⟩
  | 114 => ⟨S1x2048x1024, .f32⟩
  | 115 => ⟨S1x1024x1024, .f32⟩
  | 116 => ⟨S1x1024x1024, .f32⟩
  | 117 => ⟨S1x1024x1024, .f32⟩
  | 118 => ⟨S1x1024x1024, .f32⟩
  | 119 => ⟨S1x1024x1024, .f32⟩
  | 120 => ⟨S1x1024x1024, .f32⟩
  | 121 => ⟨S1x1024x1024, .f32⟩
  | 122 => ⟨S1x512x1024, .f32⟩
  | 123 => ⟨S1x512x1024, .f32⟩
  | 124 => ⟨S1x512x1024, .f32⟩
  | 125 => ⟨S1x512x1024, .f32⟩
  | 126 => ⟨S1x512x1024, .f32⟩
  | 127 => ⟨S1x512x1024, .f32⟩
  | _ => ⟨S1x4096x6144, .f32⟩

abbrev hbmTy0_1 (i : Nat) : BufTy := match i % 128 with
  | 0 => ⟨S1x512x1024, .f32⟩
  | 1 => ⟨S1x256x1024, .f32⟩
  | 2 => ⟨S1x256x1024, .f32⟩
  | 3 => ⟨S1x256x1024, .f32⟩
  | 4 => ⟨S1x256x1024, .f32⟩
  | 5 => ⟨S1x256x1024, .f32⟩
  | 6 => ⟨S1x256x1024, .f32⟩
  | 7 => ⟨S1x256x1024, .f32⟩
  | 8 => ⟨S1x128x1024, .f32⟩
  | 9 => ⟨S1x128x1024, .f32⟩
  | 10 => ⟨S1x128x1024, .f32⟩
  | 11 => ⟨S1x128x1024, .f32⟩
  | 12 => ⟨S1x128x1024, .f32⟩
  | 13 => ⟨S1x128x1024, .f32⟩
  | 14 => ⟨S1x128x1024, .f32⟩
  | 15 => ⟨S1x64x1024, .f32⟩
  | 16 => ⟨S1x64x1024, .f32⟩
  | 17 => ⟨S1x64x1024, .f32⟩
  | 18 => ⟨S1x64x1024, .f32⟩
  | 19 => ⟨S1x64x1024, .f32⟩
  | 20 => ⟨S1x64x1024, .f32⟩
  | 21 => ⟨S1x64x1024, .f32⟩
  | 22 => ⟨S1x32x1024, .f32⟩
  | 23 => ⟨S1x32x1024, .f32⟩
  | 24 => ⟨S1x32x1024, .f32⟩
  | 25 => ⟨S1x32x1024, .f32⟩
  | 26 => ⟨S1x32x1024, .f32⟩
  | 27 => ⟨S1x32x1024, .f32⟩
  | 28 => ⟨S1x32x1024, .f32⟩
  | 29 => ⟨S1x16x1024, .f32⟩
  | 30 => ⟨S1x16x1024, .f32⟩
  | 31 => ⟨S1x16x1024, .f32⟩
  | 32 => ⟨S1x16x1024, .f32⟩
  | 33 => ⟨S1x16x1024, .f32⟩
  | 34 => ⟨S1x16x1024, .f32⟩
  | 35 => ⟨S1x16x1024, .f32⟩
  | 36 => ⟨S1x8x1024, .f32⟩
  | 37 => ⟨S1x8x1024, .f32⟩
  | 38 => ⟨S1x8x1024, .f32⟩
  | 39 => ⟨S1x8x1024, .f32⟩
  | 40 => ⟨S1x8x1024, .f32⟩
  | 41 => ⟨S1x8x1024, .f32⟩
  | 42 => ⟨S1x8x1024, .f32⟩
  | 43 => ⟨S1x4x1024, .f32⟩
  | 44 => ⟨S1x4x1024, .f32⟩
  | 45 => ⟨S1x4x1024, .f32⟩
  | 46 => ⟨S1x4x1024, .f32⟩
  | 47 => ⟨S1x4x1024, .f32⟩
  | 48 => ⟨S1x4x1024, .f32⟩
  | 49 => ⟨S1x4x1024, .f32⟩
  | 50 => ⟨S1x2x1024, .f32⟩
  | 51 => ⟨S1x2x1024, .f32⟩
  | 52 => ⟨S1x2x1024, .f32⟩
  | 53 => ⟨S1x2x1024, .f32⟩
  | 54 => ⟨S1x2x1024, .f32⟩
  | 55 => ⟨S1x2x1024, .f32⟩
  | 56 => ⟨S1x2x1024, .f32⟩
  | 57 => ⟨S1x1x1024, .f32⟩
  | 58 => ⟨S1x1x1024, .f32⟩
  | 59 => ⟨S1x1x1024, .f32⟩
  | 60 => ⟨S1x1x1024, .f32⟩
  | 61 => ⟨S1x1x1024, .f32⟩
  | 62 => ⟨S1x1x1024, .f32⟩
  | 63 => ⟨S1x1x1024, .f32⟩
  | 64 => ⟨S1x0x1024, .f32⟩
  | 65 => ⟨S1x0x1024, .f32⟩
  | 66 => ⟨S1x0x1024, .f32⟩
  | 67 => ⟨S1x0x1024, .f32⟩
  | 68 => ⟨S1x0x1024, .f32⟩
  | 69 => ⟨S1x0x1024, .f32⟩
  | 70 => ⟨S1x0x1024, .f32⟩
  | 71 => ⟨S1x1x1024, .f32⟩
  | 72 => ⟨S1x1x1024, .f32⟩
  | 73 => ⟨S1x1x1024, .f32⟩
  | 74 => ⟨S1x1x1024, .f32⟩
  | 75 => ⟨S_, .f32⟩
  | 76 => ⟨S1x2x1024, .f32⟩
  | 77 => ⟨S_, .f32⟩
  | 78 => ⟨S1x2x1024, .f32⟩
  | 79 => ⟨S1x2x1024, .f32⟩
  | 80 => ⟨S_, .f32⟩
  | 81 => ⟨S1x2x1024, .f32⟩
  | 82 => ⟨S_, .f32⟩
  | 83 => ⟨S1x2x1024, .f32⟩
  | 84 => ⟨S1x2x1024, .f32⟩
  | 85 => ⟨S1x1x1024, .f32⟩
  | 86 => ⟨S1x1x1024, .f32⟩
  | 87 => ⟨S1x1x1024, .f32⟩
  | 88 => ⟨S1x1x1024, .f32⟩
  | 89 => ⟨S1x1x1024, .f32⟩
  | 90 => ⟨S1x1x1024, .f32⟩
  | 91 => ⟨S1x1x1024, .f32⟩
  | 92 => ⟨S1x1x1024, .f32⟩
  | 93 => ⟨S1x2x1024, .f32⟩
  | 94 => ⟨S1x1x1024, .f32⟩
  | 95 => ⟨S1x2x1024, .f32⟩
  | 96 => ⟨S_, .f32⟩
  | 97 => ⟨S1x4x1024, .f32⟩
  | 98 => ⟨S_, .f32⟩
  | 99 => ⟨S1x4x1024, .f32⟩
  | 100 => ⟨S1x4x1024, .f32⟩
  | 101 => ⟨S_, .f32⟩
  | 102 => ⟨S1x4x1024, .f32⟩
  | 103 => ⟨S_, .f32⟩
  | 104 => ⟨S1x4x1024, .f32⟩
  | 105 => ⟨S1x4x1024, .f32⟩
  | 106 => ⟨S1x3x1024, .f32⟩
  | 107 => ⟨S1x3x1024, .f32⟩
  | 108 => ⟨S1x3x1024, .f32⟩
  | 109 => ⟨S1x3x1024, .f32⟩
  | 110 => ⟨S1x3x1024, .f32⟩
  | 111 => ⟨S1x3x1024, .f32⟩
  | 112 => ⟨S1x3x1024, .f32⟩
  | 113 => ⟨S1x1x1024, .f32⟩
  | 114 => ⟨S1x4x1024, .f32⟩
  | 115 => ⟨S1x1x1024, .f32⟩
  | 116 => ⟨S1x4x1024, .f32⟩
  | 117 => ⟨S_, .f32⟩
  | 118 => ⟨S1x8x1024, .f32⟩
  | 119 => ⟨S_, .f32⟩
  | 120 => ⟨S1x8x1024, .f32⟩
  | 121 => ⟨S1x8x1024, .f32⟩
  | 122 => ⟨S_, .f32⟩
  | 123 => ⟨S1x8x1024, .f32⟩
  | 124 => ⟨S_, .f32⟩
  | 125 => ⟨S1x8x1024, .f32⟩
  | 126 => ⟨S1x8x1024, .f32⟩
  | 127 => ⟨S1x7x1024, .f32⟩
  | _ => ⟨S1x4096x6144, .f32⟩

abbrev hbmTy0_2 (i : Nat) : BufTy := match i % 128 with
  | 0 => ⟨S1x7x1024, .f32⟩
  | 1 => ⟨S1x7x1024, .f32⟩
  | 2 => ⟨S1x7x1024, .f32⟩
  | 3 => ⟨S1x7x1024, .f32⟩
  | 4 => ⟨S1x7x1024, .f32⟩
  | 5 => ⟨S1x7x1024, .f32⟩
  | 6 => ⟨S1x1x1024, .f32⟩
  | 7 => ⟨S1x8x1024, .f32⟩
  | 8 => ⟨S1x1x1024, .f32⟩
  | 9 => ⟨S1x8x1024, .f32⟩
  | 10 => ⟨S_, .f32⟩
  | 11 => ⟨S1x16x1024, .f32⟩
  | 12 => ⟨S_, .f32⟩
  | 13 => ⟨S1x16x1024, .f32⟩
  | 14 => ⟨S1x16x1024, .f32⟩
  | 15 => ⟨S_, .f32⟩
  | 16 => ⟨S1x16x1024, .f32⟩
  | 17 => ⟨S_, .f32⟩
  | 18 => ⟨S1x16x1024, .f32⟩
  | 19 => ⟨S1x16x1024, .f32⟩
  | 20 => ⟨S1x15x1024, .f32⟩
  | 21 => ⟨S1x15x1024, .f32⟩
  | 22 => ⟨S1x15x1024, .f32⟩
  | 23 => ⟨S1x15x1024, .f32⟩
  | 24 => ⟨S1x15x1024, .f32⟩
  | 25 => ⟨S1x15x1024, .f32⟩
  | 26 => ⟨S1x15x1024, .f32⟩
  | 27 => ⟨S1x1x1024, .f32⟩
  | 28 => ⟨S1x16x1024, .f32⟩
  | 29 => ⟨S1x1x1024, .f32⟩
  | 30 => ⟨S1x16x1024, .f32⟩
  | 31 => ⟨S_, .f32⟩
  | 32 => ⟨S1x32x1024, .f32⟩
  | 33 => ⟨S_, .f32⟩
  | 34 => ⟨S1x32x1024, .f32⟩
  | 35 => ⟨S1x32x1024, .f32⟩
  | 36 => ⟨S_, .f32⟩
  | 37 => ⟨S1x32x1024, .f32⟩
  | 38 => ⟨S_, .f32⟩
  | 39 => ⟨S1x32x1024, .f32⟩
  | 40 => ⟨S1x32x1024, .f32⟩
  | 41 => ⟨S1x31x1024, .f32⟩
  | 42 => ⟨S1x31x1024, .f32⟩
  | 43 => ⟨S1x31x1024, .f32⟩
  | 44 => ⟨S1x31x1024, .f32⟩
  | 45 => ⟨S1x31x1024, .f32⟩
  | 46 => ⟨S1x31x1024, .f32⟩
  | 47 => ⟨S1x31x1024, .f32⟩
  | 48 => ⟨S1x1x1024, .f32⟩
  | 49 => ⟨S1x32x1024, .f32⟩
  | 50 => ⟨S1x1x1024, .f32⟩
  | 51 => ⟨S1x32x1024, .f32⟩
  | 52 => ⟨S_, .f32⟩
  | 53 => ⟨S1x64x1024, .f32⟩
  | 54 => ⟨S_, .f32⟩
  | 55 => ⟨S1x64x1024, .f32⟩
  | 56 => ⟨S1x64x1024, .f32⟩
  | 57 => ⟨S_, .f32⟩
  | 58 => ⟨S1x64x1024, .f32⟩
  | 59 => ⟨S_, .f32⟩
  | 60 => ⟨S1x64x1024, .f32⟩
  | 61 => ⟨S1x64x1024, .f32⟩
  | 62 => ⟨S1x63x1024, .f32⟩
  | 63 => ⟨S1x63x1024, .f32⟩
  | 64 => ⟨S1x63x1024, .f32⟩
  | 65 => ⟨S1x63x1024, .f32⟩
  | 66 => ⟨S1x63x1024, .f32⟩
  | 67 => ⟨S1x63x1024, .f32⟩
  | 68 => ⟨S1x63x1024, .f32⟩
  | 69 => ⟨S1x1x1024, .f32⟩
  | 70 => ⟨S1x64x1024, .f32⟩
  | 71 => ⟨S1x1x1024, .f32⟩
  | 72 => ⟨S1x64x1024, .f32⟩
  | 73 => ⟨S_, .f32⟩
  | 74 => ⟨S1x128x1024, .f32⟩
  | 75 => ⟨S_, .f32⟩
  | 76 => ⟨S1x128x1024, .f32⟩
  | 77 => ⟨S1x128x1024, .f32⟩
  | 78 => ⟨S_, .f32⟩
  | 79 => ⟨S1x128x1024, .f32⟩
  | 80 => ⟨S_, .f32⟩
  | 81 => ⟨S1x128x1024, .f32⟩
  | 82 => ⟨S1x128x1024, .f32⟩
  | 83 => ⟨S1x127x1024, .f32⟩
  | 84 => ⟨S1x127x1024, .f32⟩
  | 85 => ⟨S1x127x1024, .f32⟩
  | 86 => ⟨S1x127x1024, .f32⟩
  | 87 => ⟨S1x127x1024, .f32⟩
  | 88 => ⟨S1x127x1024, .f32⟩
  | 89 => ⟨S1x127x1024, .f32⟩
  | 90 => ⟨S1x1x1024, .f32⟩
  | 91 => ⟨S1x128x1024, .f32⟩
  | 92 => ⟨S1x1x1024, .f32⟩
  | 93 => ⟨S1x128x1024, .f32⟩
  | 94 => ⟨S_, .f32⟩
  | 95 => ⟨S1x256x1024, .f32⟩
  | 96 => ⟨S_, .f32⟩
  | 97 => ⟨S1x256x1024, .f32⟩
  | 98 => ⟨S1x256x1024, .f32⟩
  | 99 => ⟨S_, .f32⟩
  | 100 => ⟨S1x256x1024, .f32⟩
  | 101 => ⟨S_, .f32⟩
  | 102 => ⟨S1x256x1024, .f32⟩
  | 103 => ⟨S1x256x1024, .f32⟩
  | 104 => ⟨S1x255x1024, .f32⟩
  | 105 => ⟨S1x255x1024, .f32⟩
  | 106 => ⟨S1x255x1024, .f32⟩
  | 107 => ⟨S1x255x1024, .f32⟩
  | 108 => ⟨S1x255x1024, .f32⟩
  | 109 => ⟨S1x255x1024, .f32⟩
  | 110 => ⟨S1x255x1024, .f32⟩
  | 111 => ⟨S1x1x1024, .f32⟩
  | 112 => ⟨S1x256x1024, .f32⟩
  | 113 => ⟨S1x1x1024, .f32⟩
  | 114 => ⟨S1x256x1024, .f32⟩
  | 115 => ⟨S_, .f32⟩
  | 116 => ⟨S1x512x1024, .f32⟩
  | 117 => ⟨S_, .f32⟩
  | 118 => ⟨S1x512x1024, .f32⟩
  | 119 => ⟨S1x512x1024, .f32⟩
  | 120 => ⟨S_, .f32⟩
  | 121 => ⟨S1x512x1024, .f32⟩
  | 122 => ⟨S_, .f32⟩
  | 123 => ⟨S1x512x1024, .f32⟩
  | 124 => ⟨S1x512x1024, .f32⟩
  | 125 => ⟨S1x511x1024, .f32⟩
  | 126 => ⟨S1x511x1024, .f32⟩
  | 127 => ⟨S1x511x1024, .f32⟩
  | _ => ⟨S1x4096x6144, .f32⟩

abbrev hbmTy0_3 (i : Nat) : BufTy := match i % 128 with
  | 0 => ⟨S1x511x1024, .f32⟩
  | 1 => ⟨S1x511x1024, .f32⟩
  | 2 => ⟨S1x511x1024, .f32⟩
  | 3 => ⟨S1x511x1024, .f32⟩
  | 4 => ⟨S1x1x1024, .f32⟩
  | 5 => ⟨S1x512x1024, .f32⟩
  | 6 => ⟨S1x1x1024, .f32⟩
  | 7 => ⟨S1x512x1024, .f32⟩
  | 8 => ⟨S_, .f32⟩
  | 9 => ⟨S1x1024x1024, .f32⟩
  | 10 => ⟨S_, .f32⟩
  | 11 => ⟨S1x1024x1024, .f32⟩
  | 12 => ⟨S1x1024x1024, .f32⟩
  | 13 => ⟨S_, .f32⟩
  | 14 => ⟨S1x1024x1024, .f32⟩
  | 15 => ⟨S_, .f32⟩
  | 16 => ⟨S1x1024x1024, .f32⟩
  | 17 => ⟨S1x1024x1024, .f32⟩
  | 18 => ⟨S1x1023x1024, .f32⟩
  | 19 => ⟨S1x1023x1024, .f32⟩
  | 20 => ⟨S1x1023x1024, .f32⟩
  | 21 => ⟨S1x1023x1024, .f32⟩
  | 22 => ⟨S1x1023x1024, .f32⟩
  | 23 => ⟨S1x1023x1024, .f32⟩
  | 24 => ⟨S1x1023x1024, .f32⟩
  | 25 => ⟨S1x1x1024, .f32⟩
  | 26 => ⟨S1x1024x1024, .f32⟩
  | 27 => ⟨S1x1x1024, .f32⟩
  | 28 => ⟨S1x1024x1024, .f32⟩
  | 29 => ⟨S_, .f32⟩
  | 30 => ⟨S1x2048x1024, .f32⟩
  | 31 => ⟨S_, .f32⟩
  | 32 => ⟨S1x2048x1024, .f32⟩
  | 33 => ⟨S1x2048x1024, .f32⟩
  | 34 => ⟨S_, .f32⟩
  | 35 => ⟨S1x2048x1024, .f32⟩
  | 36 => ⟨S_, .f32⟩
  | 37 => ⟨S1x2048x1024, .f32⟩
  | 38 => ⟨S1x2048x1024, .f32⟩
  | 39 => ⟨S1x2047x1024, .f32⟩
  | 40 => ⟨S1x2047x1024, .f32⟩
  | 41 => ⟨S1x2047x1024, .f32⟩
  | 42 => ⟨S1x2047x1024, .f32⟩
  | 43 => ⟨S1x2047x1024, .f32⟩
  | 44 => ⟨S1x2047x1024, .f32⟩
  | 45 => ⟨S1x2047x1024, .f32⟩
  | 46 => ⟨S1x1x1024, .f32⟩
  | 47 => ⟨S1x2048x1024, .f32⟩
  | 48 => ⟨S1x1x1024, .f32⟩
  | 49 => ⟨S1x2048x1024, .f32⟩
  | 50 => ⟨S_, .f32⟩
  | 51 => ⟨S1x4096x1024, .f32⟩
  | 52 => ⟨S_, .f32⟩
  | 53 => ⟨S1x4096x1024, .f32⟩
  | 54 => ⟨S1x4096x1024, .f32⟩
  | 55 => ⟨S_, .f32⟩
  | 56 => ⟨S1x4096x1024, .f32⟩
  | 57 => ⟨S_, .f32⟩
  | 58 => ⟨S1x4096x1024, .f32⟩
  | 59 => ⟨S1x4096x1024, .f32⟩
  | 60 => ⟨S1x4096x1024, .f32⟩
  | 61 => ⟨S1x4096x1024, .f32⟩
  | 62 => ⟨S1x4096x1024, .f32⟩
  | 63 => ⟨S_, .f32⟩
  | 64 => ⟨S1x4096x1024, .f32⟩
  | 65 => ⟨S1x4096x1024, .f32⟩
  | 66 => ⟨S1x4096x1024, .f32⟩
  | 67 => ⟨S_, .f32⟩
  | 68 => ⟨S1x4096x1024, .f32⟩
  | 69 => ⟨S1x4096x1024, .f32⟩
  | 70 => ⟨S1x4096x1024, .f32⟩
  | 71 => ⟨S_, .f32⟩
  | 72 => ⟨S1x4096x1024, .f32⟩
  | 73 => ⟨S1x4096x1024, .f32⟩
  | 74 => ⟨S_, .f32⟩
  | 75 => ⟨S1x4096x1024, .f32⟩
  | 76 => ⟨S1x4096x1024, .f32⟩
  | 77 => ⟨S1x4096x1024, .f32⟩
  | 78 => ⟨S1x4096x1024, .f32⟩
  | 79 => ⟨S4096x1024, .f32⟩
  | 80 => ⟨S4096x1024, .bf16⟩
  | 81 => ⟨S4096x1024, .f32⟩
  | 82 => ⟨S4096x1024, .f32⟩
  | 83 => ⟨S4096x1024, .f32⟩
  | 84 => ⟨S4096x1024, .f32⟩
  | _ => ⟨S1x4096x6144, .f32⟩

abbrev hbmTy (i : Nat) : BufTy := match i / 128 with
  | 0 => hbmTy0_0 i
  | 1 => hbmTy0_1 i
  | 2 => hbmTy0_2 i
  | 3 => hbmTy0_3 i
  | _ => ⟨S1x4096x6144, .f32⟩

abbrev bufTy : (tb : Table) → Fin (tcTables nBuf tb) → BufTy
  | .hbm, ⟨i, _⟩ => hbmTy i
  | _, _ => ⟨S1x4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst : Ref sig .tc := ⟨.hbm, 57, rfl⟩
abbrev main_v47 : Ref sig .tc := ⟨.hbm, 58, rfl⟩
abbrev main_v48 : Ref sig .tc := ⟨.hbm, 59, rfl⟩
abbrev main_cst_0 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_1 : Ref sig .tc := ⟨.hbm, 71, rfl⟩
abbrev main_v59 : Ref sig .tc := ⟨.hbm, 72, rfl⟩
abbrev main_v60 : Ref sig .tc := ⟨.hbm, 73, rfl⟩
abbrev main_cst_2 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_3 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_call1_cst : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_v7 : Ref sig .tc := ⟨.hbm, 90, rfl⟩
abbrev main_call1_v8 : Ref sig .tc := ⟨.hbm, 91, rfl⟩
abbrev main_call1_v9 : Ref sig .tc := ⟨.hbm, 92, rfl⟩
abbrev main_call1_v10 : Ref sig .tc := ⟨.hbm, 93, rfl⟩
abbrev main_call1_v11 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_4 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_cst_5 : Ref sig .tc := ⟨.hbm, 203, rfl⟩
abbrev main_v174 : Ref sig .tc := ⟨.hbm, 204, rfl⟩
abbrev main_cst_6 : Ref sig .tc := ⟨.hbm, 205, rfl⟩
abbrev main_v175 : Ref sig .tc := ⟨.hbm, 206, rfl⟩
abbrev main_v176 : Ref sig .tc := ⟨.hbm, 207, rfl⟩
abbrev main_cst_7 : Ref sig .tc := ⟨.hbm, 208, rfl⟩
abbrev main_v177 : Ref sig .tc := ⟨.hbm, 209, rfl⟩
abbrev main_cst_8 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_cst_9 : Ref sig .tc := ⟨.hbm, 224, rfl⟩
abbrev main_v191 : Ref sig .tc := ⟨.hbm, 225, rfl⟩
abbrev main_cst_10 : Ref sig .tc := ⟨.hbm, 226, rfl⟩
abbrev main_v192 : Ref sig .tc := ⟨.hbm, 227, rfl⟩
abbrev main_v193 : Ref sig .tc := ⟨.hbm, 228, rfl⟩
abbrev main_cst_11 : Ref sig .tc := ⟨.hbm, 229, rfl⟩
abbrev main_v194 : Ref sig .tc := ⟨.hbm, 230, rfl⟩
abbrev main_cst_12 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_v206 : Ref sig .tc := ⟨.hbm, 243, rfl⟩
abbrev main_v207 : Ref sig .tc := ⟨.hbm, 244, rfl⟩
abbrev main_cst_13 : Ref sig .tc := ⟨.hbm, 245, rfl⟩
abbrev main_v208 : Ref sig .tc := ⟨.hbm, 246, rfl⟩
abbrev main_cst_14 : Ref sig .tc := ⟨.hbm, 247, rfl⟩
abbrev main_v209 : Ref sig .tc := ⟨.hbm, 248, rfl⟩
abbrev main_v210 : Ref sig .tc := ⟨.hbm, 249, rfl⟩
abbrev main_cst_15 : Ref sig .tc := ⟨.hbm, 250, rfl⟩
abbrev main_v211 : Ref sig .tc := ⟨.hbm, 251, rfl⟩
abbrev main_cst_16 : Ref sig .tc := ⟨.hbm, 252, rfl⟩
abbrev main_v212 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_v216 : Ref sig .tc := ⟨.hbm, 257, rfl⟩
abbrev main_v217 : Ref sig .tc := ⟨.hbm, 258, rfl⟩
abbrev main_v218 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_v222 : Ref sig .tc := ⟨.hbm, 263, rfl⟩
abbrev main_v223 : Ref sig .tc := ⟨.hbm, 264, rfl⟩
abbrev main_v224 : Ref sig .tc := ⟨.hbm, 265, rfl⟩
abbrev main_cst_17 : Ref sig .tc := ⟨.hbm, 266, rfl⟩
abbrev main_v225 : Ref sig .tc := ⟨.hbm, 267, rfl⟩
abbrev main_cst_18 : Ref sig .tc := ⟨.hbm, 268, rfl⟩
abbrev main_v226 : Ref sig .tc := ⟨.hbm, 269, rfl⟩
abbrev main_v227 : Ref sig .tc := ⟨.hbm, 270, rfl⟩
abbrev main_cst_19 : Ref sig .tc := ⟨.hbm, 271, rfl⟩
abbrev main_v228 : Ref sig .tc := ⟨.hbm, 272, rfl⟩
abbrev main_cst_20 : Ref sig .tc := ⟨.hbm, 273, rfl⟩
abbrev main_v229 : Ref sig .tc := ⟨.hbm, 274, rfl⟩
abbrev main_v230 : Ref sig .tc := ⟨.hbm, 275, rfl⟩
abbrev main_v231 : Ref sig .tc := ⟨.hbm, 276, rfl⟩
abbrev main_v232 : Ref sig .tc := ⟨.hbm, 277, rfl⟩
abbrev main_v233 : Ref sig .tc := ⟨.hbm, 278, rfl⟩
abbrev main_v234 : Ref sig .tc := ⟨.hbm, 279, rfl⟩
abbrev main_v235 : Ref sig .tc := ⟨.hbm, 280, rfl⟩
abbrev main_v236 : Ref sig .tc := ⟨.hbm, 281, rfl⟩
abbrev main_v237 : Ref sig .tc := ⟨.hbm, 282, rfl⟩
abbrev main_v238 : Ref sig .tc := ⟨.hbm, 283, rfl⟩
abbrev main_v239 : Ref sig .tc := ⟨.hbm, 284, rfl⟩
abbrev main_v240 : Ref sig .tc := ⟨.hbm, 285, rfl⟩
abbrev main_v241 : Ref sig .tc := ⟨.hbm, 286, rfl⟩
abbrev main_cst_21 : Ref sig .tc := ⟨.hbm, 287, rfl⟩
abbrev main_v242 : Ref sig .tc := ⟨.hbm, 288, rfl⟩
abbrev main_cst_22 : Ref sig .tc := ⟨.hbm, 289, rfl⟩
abbrev main_v243 : Ref sig .tc := ⟨.hbm, 290, rfl⟩
abbrev main_v244 : Ref sig .tc := ⟨.hbm, 291, rfl⟩
abbrev main_cst_23 : Ref sig .tc := ⟨.hbm, 292, rfl⟩
abbrev main_v245 : Ref sig .tc := ⟨.hbm, 293, rfl⟩
abbrev main_cst_24 : Ref sig .tc := ⟨.hbm, 294, rfl⟩
abbrev main_v246 : Ref sig .tc := ⟨.hbm, 295, rfl⟩
abbrev main_v247 : Ref sig .tc := ⟨.hbm, 296, rfl⟩
abbrev main_v248 : Ref sig .tc := ⟨.hbm, 297, rfl⟩
abbrev main_v249 : Ref sig .tc := ⟨.hbm, 298, rfl⟩
abbrev main_v250 : Ref sig .tc := ⟨.hbm, 299, rfl⟩
abbrev main_v251 : Ref sig .tc := ⟨.hbm, 300, rfl⟩
abbrev main_v252 : Ref sig .tc := ⟨.hbm, 301, rfl⟩
abbrev main_v253 : Ref sig .tc := ⟨.hbm, 302, rfl⟩
abbrev main_v254 : Ref sig .tc := ⟨.hbm, 303, rfl⟩
abbrev main_v255 : Ref sig .tc := ⟨.hbm, 304, rfl⟩
abbrev main_v256 : Ref sig .tc := ⟨.hbm, 305, rfl⟩
abbrev main_v257 : Ref sig .tc := ⟨.hbm, 306, rfl⟩
abbrev main_v258 : Ref sig .tc := ⟨.hbm, 307, rfl⟩
abbrev main_cst_25 : Ref sig .tc := ⟨.hbm, 308, rfl⟩
abbrev main_v259 : Ref sig .tc := ⟨.hbm, 309, rfl⟩
abbrev main_cst_26 : Ref sig .tc := ⟨.hbm, 310, rfl⟩
abbrev main_v260 : Ref sig .tc := ⟨.hbm, 311, rfl⟩
abbrev main_v261 : Ref sig .tc := ⟨.hbm, 312, rfl⟩
abbrev main_cst_27 : Ref sig .tc := ⟨.hbm, 313, rfl⟩
abbrev main_v262 : Ref sig .tc := ⟨.hbm, 314, rfl⟩
abbrev main_cst_28 : Ref sig .tc := ⟨.hbm, 315, rfl⟩
abbrev main_v263 : Ref sig .tc := ⟨.hbm, 316, rfl⟩
abbrev main_v264 : Ref sig .tc := ⟨.hbm, 317, rfl⟩
abbrev main_v265 : Ref sig .tc := ⟨.hbm, 318, rfl⟩
abbrev main_v266 : Ref sig .tc := ⟨.hbm, 319, rfl⟩
abbrev main_v267 : Ref sig .tc := ⟨.hbm, 320, rfl⟩
abbrev main_v268 : Ref sig .tc := ⟨.hbm, 321, rfl⟩
abbrev main_v269 : Ref sig .tc := ⟨.hbm, 322, rfl⟩
abbrev main_v270 : Ref sig .tc := ⟨.hbm, 323, rfl⟩
abbrev main_v271 : Ref sig .tc := ⟨.hbm, 324, rfl⟩
abbrev main_v272 : Ref sig .tc := ⟨.hbm, 325, rfl⟩
abbrev main_v273 : Ref sig .tc := ⟨.hbm, 326, rfl⟩
abbrev main_v274 : Ref sig .tc := ⟨.hbm, 327, rfl⟩
abbrev main_v275 : Ref sig .tc := ⟨.hbm, 328, rfl⟩
abbrev main_cst_29 : Ref sig .tc := ⟨.hbm, 329, rfl⟩
abbrev main_v276 : Ref sig .tc := ⟨.hbm, 330, rfl⟩
abbrev main_cst_30 : Ref sig .tc := ⟨.hbm, 331, rfl⟩
abbrev main_v277 : Ref sig .tc := ⟨.hbm, 332, rfl⟩
abbrev main_v278 : Ref sig .tc := ⟨.hbm, 333, rfl⟩
abbrev main_cst_31 : Ref sig .tc := ⟨.hbm, 334, rfl⟩
abbrev main_v279 : Ref sig .tc := ⟨.hbm, 335, rfl⟩
abbrev main_cst_32 : Ref sig .tc := ⟨.hbm, 336, rfl⟩
abbrev main_v280 : Ref sig .tc := ⟨.hbm, 337, rfl⟩
abbrev main_v281 : Ref sig .tc := ⟨.hbm, 338, rfl⟩
abbrev main_v282 : Ref sig .tc := ⟨.hbm, 339, rfl⟩
abbrev main_v283 : Ref sig .tc := ⟨.hbm, 340, rfl⟩
abbrev main_v284 : Ref sig .tc := ⟨.hbm, 341, rfl⟩
abbrev main_v285 : Ref sig .tc := ⟨.hbm, 342, rfl⟩
abbrev main_v286 : Ref sig .tc := ⟨.hbm, 343, rfl⟩
abbrev main_v287 : Ref sig .tc := ⟨.hbm, 344, rfl⟩
abbrev main_v288 : Ref sig .tc := ⟨.hbm, 345, rfl⟩
abbrev main_v289 : Ref sig .tc := ⟨.hbm, 346, rfl⟩
abbrev main_v290 : Ref sig .tc := ⟨.hbm, 347, rfl⟩
abbrev main_v291 : Ref sig .tc := ⟨.hbm, 348, rfl⟩
abbrev main_v292 : Ref sig .tc := ⟨.hbm, 349, rfl⟩
abbrev main_cst_33 : Ref sig .tc := ⟨.hbm, 350, rfl⟩
abbrev main_v293 : Ref sig .tc := ⟨.hbm, 351, rfl⟩
abbrev main_cst_34 : Ref sig .tc := ⟨.hbm, 352, rfl⟩
abbrev main_v294 : Ref sig .tc := ⟨.hbm, 353, rfl⟩
abbrev main_v295 : Ref sig .tc := ⟨.hbm, 354, rfl⟩
abbrev main_cst_35 : Ref sig .tc := ⟨.hbm, 355, rfl⟩
abbrev main_v296 : Ref sig .tc := ⟨.hbm, 356, rfl⟩
abbrev main_cst_36 : Ref sig .tc := ⟨.hbm, 357, rfl⟩
abbrev main_v297 : Ref sig .tc := ⟨.hbm, 358, rfl⟩
abbrev main_v298 : Ref sig .tc := ⟨.hbm, 359, rfl⟩
abbrev main_v299 : Ref sig .tc := ⟨.hbm, 360, rfl⟩
abbrev main_v300 : Ref sig .tc := ⟨.hbm, 361, rfl⟩
abbrev main_v301 : Ref sig .tc := ⟨.hbm, 362, rfl⟩
abbrev main_v302 : Ref sig .tc := ⟨.hbm, 363, rfl⟩
abbrev main_v303 : Ref sig .tc := ⟨.hbm, 364, rfl⟩
abbrev main_v304 : Ref sig .tc := ⟨.hbm, 365, rfl⟩
abbrev main_v305 : Ref sig .tc := ⟨.hbm, 366, rfl⟩
abbrev main_v306 : Ref sig .tc := ⟨.hbm, 367, rfl⟩
abbrev main_v307 : Ref sig .tc := ⟨.hbm, 368, rfl⟩
abbrev main_v308 : Ref sig .tc := ⟨.hbm, 369, rfl⟩
abbrev main_v309 : Ref sig .tc := ⟨.hbm, 370, rfl⟩
abbrev main_cst_37 : Ref sig .tc := ⟨.hbm, 371, rfl⟩
abbrev main_v310 : Ref sig .tc := ⟨.hbm, 372, rfl⟩
abbrev main_cst_38 : Ref sig .tc := ⟨.hbm, 373, rfl⟩
abbrev main_v311 : Ref sig .tc := ⟨.hbm, 374, rfl⟩
abbrev main_v312 : Ref sig .tc := ⟨.hbm, 375, rfl⟩
abbrev main_cst_39 : Ref sig .tc := ⟨.hbm, 376, rfl⟩
abbrev main_v313 : Ref sig .tc := ⟨.hbm, 377, rfl⟩
abbrev main_cst_40 : Ref sig .tc := ⟨.hbm, 378, rfl⟩
abbrev main_v314 : Ref sig .tc := ⟨.hbm, 379, rfl⟩
abbrev main_v315 : Ref sig .tc := ⟨.hbm, 380, rfl⟩
abbrev main_v316 : Ref sig .tc := ⟨.hbm, 381, rfl⟩
abbrev main_v317 : Ref sig .tc := ⟨.hbm, 382, rfl⟩
abbrev main_v318 : Ref sig .tc := ⟨.hbm, 383, rfl⟩
abbrev main_v319 : Ref sig .tc := ⟨.hbm, 384, rfl⟩
abbrev main_v320 : Ref sig .tc := ⟨.hbm, 385, rfl⟩
abbrev main_v321 : Ref sig .tc := ⟨.hbm, 386, rfl⟩
abbrev main_v322 : Ref sig .tc := ⟨.hbm, 387, rfl⟩
abbrev main_v323 : Ref sig .tc := ⟨.hbm, 388, rfl⟩
abbrev main_v324 : Ref sig .tc := ⟨.hbm, 389, rfl⟩
abbrev main_v325 : Ref sig .tc := ⟨.hbm, 390, rfl⟩
abbrev main_v326 : Ref sig .tc := ⟨.hbm, 391, rfl⟩
abbrev main_cst_41 : Ref sig .tc := ⟨.hbm, 392, rfl⟩
abbrev main_v327 : Ref sig .tc := ⟨.hbm, 393, rfl⟩
abbrev main_cst_42 : Ref sig .tc := ⟨.hbm, 394, rfl⟩
abbrev main_v328 : Ref sig .tc := ⟨.hbm, 395, rfl⟩
abbrev main_v329 : Ref sig .tc := ⟨.hbm, 396, rfl⟩
abbrev main_cst_43 : Ref sig .tc := ⟨.hbm, 397, rfl⟩
abbrev main_v330 : Ref sig .tc := ⟨.hbm, 398, rfl⟩
abbrev main_cst_44 : Ref sig .tc := ⟨.hbm, 399, rfl⟩
abbrev main_v331 : Ref sig .tc := ⟨.hbm, 400, rfl⟩
abbrev main_v332 : Ref sig .tc := ⟨.hbm, 401, rfl⟩
abbrev main_v333 : Ref sig .tc := ⟨.hbm, 402, rfl⟩
abbrev main_v334 : Ref sig .tc := ⟨.hbm, 403, rfl⟩
abbrev main_v335 : Ref sig .tc := ⟨.hbm, 404, rfl⟩
abbrev main_v336 : Ref sig .tc := ⟨.hbm, 405, rfl⟩
abbrev main_v337 : Ref sig .tc := ⟨.hbm, 406, rfl⟩
abbrev main_v338 : Ref sig .tc := ⟨.hbm, 407, rfl⟩
abbrev main_v339 : Ref sig .tc := ⟨.hbm, 408, rfl⟩
abbrev main_v340 : Ref sig .tc := ⟨.hbm, 409, rfl⟩
abbrev main_v341 : Ref sig .tc := ⟨.hbm, 410, rfl⟩
abbrev main_v342 : Ref sig .tc := ⟨.hbm, 411, rfl⟩
abbrev main_v343 : Ref sig .tc := ⟨.hbm, 412, rfl⟩
abbrev main_cst_45 : Ref sig .tc := ⟨.hbm, 413, rfl⟩
abbrev main_v344 : Ref sig .tc := ⟨.hbm, 414, rfl⟩
abbrev main_cst_46 : Ref sig .tc := ⟨.hbm, 415, rfl⟩
abbrev main_v345 : Ref sig .tc := ⟨.hbm, 416, rfl⟩
abbrev main_v346 : Ref sig .tc := ⟨.hbm, 417, rfl⟩
abbrev main_cst_47 : Ref sig .tc := ⟨.hbm, 418, rfl⟩
abbrev main_v347 : Ref sig .tc := ⟨.hbm, 419, rfl⟩
abbrev main_cst_48 : Ref sig .tc := ⟨.hbm, 420, rfl⟩
abbrev main_v348 : Ref sig .tc := ⟨.hbm, 421, rfl⟩
abbrev main_v349 : Ref sig .tc := ⟨.hbm, 422, rfl⟩
abbrev main_v350 : Ref sig .tc := ⟨.hbm, 423, rfl⟩
abbrev main_v351 : Ref sig .tc := ⟨.hbm, 424, rfl⟩
abbrev main_v352 : Ref sig .tc := ⟨.hbm, 425, rfl⟩
abbrev main_v353 : Ref sig .tc := ⟨.hbm, 426, rfl⟩
abbrev main_v354 : Ref sig .tc := ⟨.hbm, 427, rfl⟩
abbrev main_v355 : Ref sig .tc := ⟨.hbm, 428, rfl⟩
abbrev main_v356 : Ref sig .tc := ⟨.hbm, 429, rfl⟩
abbrev main_v357 : Ref sig .tc := ⟨.hbm, 430, rfl⟩
abbrev main_v358 : Ref sig .tc := ⟨.hbm, 431, rfl⟩
abbrev main_v359 : Ref sig .tc := ⟨.hbm, 432, rfl⟩
abbrev main_v360 : Ref sig .tc := ⟨.hbm, 433, rfl⟩
abbrev main_cst_49 : Ref sig .tc := ⟨.hbm, 434, rfl⟩
abbrev main_v361 : Ref sig .tc := ⟨.hbm, 435, rfl⟩
abbrev main_cst_50 : Ref sig .tc := ⟨.hbm, 436, rfl⟩
abbrev main_v362 : Ref sig .tc := ⟨.hbm, 437, rfl⟩
abbrev main_v363 : Ref sig .tc := ⟨.hbm, 438, rfl⟩
abbrev main_cst_51 : Ref sig .tc := ⟨.hbm, 439, rfl⟩
abbrev main_v364 : Ref sig .tc := ⟨.hbm, 440, rfl⟩
abbrev main_cst_52 : Ref sig .tc := ⟨.hbm, 441, rfl⟩
abbrev main_v365 : Ref sig .tc := ⟨.hbm, 442, rfl⟩
abbrev main_v366 : Ref sig .tc := ⟨.hbm, 443, rfl⟩
abbrev main_v367 : Ref sig .tc := ⟨.hbm, 444, rfl⟩
abbrev main_v368 : Ref sig .tc := ⟨.hbm, 445, rfl⟩
abbrev main_v369 : Ref sig .tc := ⟨.hbm, 446, rfl⟩
abbrev main_cst_53 : Ref sig .tc := ⟨.hbm, 447, rfl⟩
abbrev main_v370 : Ref sig .tc := ⟨.hbm, 448, rfl⟩
abbrev main_v371 : Ref sig .tc := ⟨.hbm, 449, rfl⟩
abbrev main_v372 : Ref sig .tc := ⟨.hbm, 450, rfl⟩
abbrev main_cst_54 : Ref sig .tc := ⟨.hbm, 451, rfl⟩
abbrev main_v373 : Ref sig .tc := ⟨.hbm, 452, rfl⟩
abbrev main_v374 : Ref sig .tc := ⟨.hbm, 453, rfl⟩
abbrev main_v375 : Ref sig .tc := ⟨.hbm, 454, rfl⟩
abbrev main_cst_55 : Ref sig .tc := ⟨.hbm, 455, rfl⟩
abbrev main_v376 : Ref sig .tc := ⟨.hbm, 456, rfl⟩
abbrev main_v377 : Ref sig .tc := ⟨.hbm, 457, rfl⟩
abbrev main_cst_56 : Ref sig .tc := ⟨.hbm, 458, rfl⟩
abbrev main_v378 : Ref sig .tc := ⟨.hbm, 459, rfl⟩
abbrev main_v379 : Ref sig .tc := ⟨.hbm, 460, rfl⟩
abbrev main_v380 : Ref sig .tc := ⟨.hbm, 461, rfl⟩
abbrev main_v381 : Ref sig .tc := ⟨.hbm, 462, rfl⟩
abbrev main_v382 : Ref sig .tc := ⟨.hbm, 463, rfl⟩
abbrev main_v383 : Ref sig .tc := ⟨.hbm, 464, rfl⟩
abbrev main_v384 : Ref sig .tc := ⟨.hbm, 465, rfl⟩
abbrev main_v385 : Ref sig .tc := ⟨.hbm, 466, rfl⟩
abbrev main_v386 : Ref sig .tc := ⟨.hbm, 467, rfl⟩
abbrev main_v387 : Ref sig .tc := ⟨.hbm, 468, rfl⟩

abbrev nD : Nat := 1
abbrev τ : Topo := Topo.v7x

variable {F : FTy → Type} [FloatOps F]
-- ==== BwdSgu.lean ====
abbrev S1x4096x6144 : Shape := ⟨3, ![1, 4096, 6144]⟩
abbrev S1x1024 : Shape := ⟨2, ![1, 1024]⟩
abbrev S1x4x128x128 : Shape := ⟨4, ![1, 4, 128, 128]⟩
abbrev S1x4x128 : Shape := ⟨3, ![1, 4, 128]⟩
abbrev S1x4096x1024 : Shape := ⟨3, ![1, 4096, 1024]⟩
abbrev S4x128 : Shape := ⟨2, ![4, 128]⟩
abbrev S128x4 : Shape := ⟨2, ![128, 4]⟩
abbrev S128x4x1 : Shape := ⟨3, ![128, 4, 1]⟩
abbrev S128x4x256 : Shape := ⟨3, ![128, 4, 256]⟩
abbrev S128x1024 : Shape := ⟨2, ![128, 1024]⟩
abbrev S4096x1024 : Shape := ⟨2, ![4096, 1024]⟩
abbrev S4096x6144 : Shape := ⟨2, ![4096, 6144]⟩
abbrev S4x128x128 : Shape := ⟨3, ![4, 128, 128]⟩
abbrev S4096x2048 : Shape := ⟨2, ![4096, 2048]⟩
abbrev S128x512 : Shape := ⟨2, ![128, 512]⟩
abbrev S128x128 : Shape := ⟨2, ![128, 128]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1x128x128 : Shape := ⟨3, ![1, 128, 128]⟩
abbrev S128x256 : Shape := ⟨2, ![128, 256]⟩
abbrev S1024 : Shape := ⟨1, ![1024]⟩
abbrev S128 : Shape := ⟨1, ![128]⟩
abbrev S128x1 : Shape := ⟨2, ![128, 1]⟩

abbrev nBuf : Space → Nat
  | .hbm => 20
  | .vmem => 18
  | .smem => 0
  | _ => 0

abbrev bufTy : (tb : Table) → Fin (tcTables nBuf tb) → BufTy
  | .hbm, ⟨0, _⟩ => ⟨S1x4096x6144, .f32⟩
  | .hbm, ⟨1, _⟩ => ⟨S1x1024, .f32⟩
  | .hbm, ⟨2, _⟩ => ⟨S1x1024, .f32⟩
  | .hbm, ⟨3, _⟩ => ⟨S1x4x128x128, .f32⟩
  | .hbm, ⟨4, _⟩ => ⟨S1x4x128, .f32⟩
  | .hbm, ⟨5, _⟩ => ⟨S1x4096x1024, .f32⟩
  | .hbm, ⟨6, _⟩ => ⟨S4x128, .f32⟩
  | .hbm, ⟨7, _⟩ => ⟨S128x4, .f32⟩
  | .hbm, ⟨8, _⟩ => ⟨S128x4x1, .f32⟩
  | .hbm, ⟨9, _⟩ => ⟨S128x4x256, .f32⟩
  | .hbm, ⟨10, _⟩ => ⟨S128x1024, .f32⟩
  | .hbm, ⟨11, _⟩ => ⟨S4096x1024, .f32⟩
  | .hbm, ⟨12, _⟩ => ⟨S4096x6144, .f32⟩
  | .hbm, ⟨13, _⟩ => ⟨S4096x6144, .bf16⟩
  | .hbm, ⟨14, _⟩ => ⟨S4x128x128, .f32⟩
  | .hbm, ⟨15, _⟩ => ⟨S4096x2048, .bf16⟩
  | .hbm, ⟨16, _⟩ => ⟨S1x1024, .f32⟩
  | .hbm, ⟨17, _⟩ => ⟨S1x1024, .f32⟩
  | .hbm, ⟨18, _⟩ => ⟨S128x512, .f32⟩
  | .hbm, ⟨19, _⟩ => ⟨S128x128, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1x1024, .f32⟩
  | .local _ .vmem, ⟨7, _⟩ => ⟨S1x1024, .f32⟩
  | .local _ .vmem, ⟨8, _⟩ => ⟨S4x128x128, .f32⟩
  | .local _ .vmem, ⟨9, _⟩ => ⟨S128x1024, .f32⟩
  | .local _ .vmem, ⟨10, _⟩ => ⟨S256x2048, .bf16⟩
  | .local _ .vmem, ⟨11, _⟩ => ⟨S256x2048, .bf16⟩
  | .local _ .vmem, ⟨12, _⟩ => ⟨S1x1024, .f32⟩
  | .local _ .vmem, ⟨13, _⟩ => ⟨S1x1024, .f32⟩
  | .local _ .vmem, ⟨14, _⟩ => ⟨S128x512, .f32⟩
  | .local _ .vmem, ⟨15, _⟩ => ⟨S128x128, .f32⟩
  | .local _ .vmem, ⟨16, _⟩ => ⟨S256x1024, .f32⟩
  | .local _ .vmem, ⟨17, _⟩ => ⟨S128x1024, .f32⟩
  | _, _ => ⟨S1x4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v9_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v377 : BitVec 1 := Scalar.cmpi .eq arg0 c15_i32
  let v378 : BitVec 32 := Scalar.extui v377
  let c0_i32_199 : BitVec 32 := 0#32
  let v379 : BitVec 1 := Scalar.cmpi .ne v378 c0_i32_199
  v379

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c3_i32 : BitVec 32 := 3#32
  let c0_i32 : BitVec 32 := 0#32
  ![v0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== BwdSguIdeal.lean ====
variable {F : FTy → Type} [FloatOps F] [Named F]
def κ : String → Option EReal := fun
  | "k01" => some ((80338380498831 / 2251799813685248 : ℝ) : EReal)
  | "k01x" => some ((241015141496493 / 4503599627370496 : ℝ) : EReal)
  | _ => none
-- ==== BwdSguRefIdeal.lean ====
abbrev S1x4096x6144 : Shape := ⟨3, ![1, 4096, 6144]⟩
abbrev S1x1024 : Shape := ⟨2, ![1, 1024]⟩
abbrev S1x4x128x128 : Shape := ⟨4, ![1, 4, 128, 128]⟩
abbrev S1x4x128 : Shape := ⟨3, ![1, 4, 128]⟩
abbrev S1x4096x1024 : Shape := ⟨3, ![1, 4096, 1024]⟩
abbrev S_ : Shape := ⟨0, ![]⟩
abbrev S1024 : Shape := ⟨1, ![1024]⟩
abbrev S4x128x128 : Shape := ⟨3, ![4, 128, 128]⟩
abbrev S4x128 : Shape := ⟨2, ![4, 128]⟩
abbrev S1x4096 : Shape := ⟨2, ![1, 4096]⟩
abbrev S1x4096x1 : Shape := ⟨3, ![1, 4096, 1]⟩
abbrev S1x1x1024 : Shape := ⟨3, ![1, 1, 1024]⟩
abbrev S1x32x128x4x256 : Shape := ⟨5, ![1, 32, 128, 4, 256]⟩
abbrev S128x128 : Shape := ⟨2, ![128, 128]⟩
abbrev S1x128x128 : Shape := ⟨3, ![1, 128, 128]⟩
abbrev S4x1x32x256x128 : Shape := ⟨5, ![4, 1, 32, 256, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S1x128x4 : Shape := ⟨3, ![1, 128, 4]⟩
abbrev S4096 : Shape := ⟨1, ![4096]⟩
abbrev S128x4x128 : Shape := ⟨3, ![128, 4, 128]⟩
abbrev S128x512 : Shape := ⟨2, ![128, 512]⟩
abbrev S1x4096x2048 : Shape := ⟨3, ![1, 4096, 2048]⟩
abbrev S4096x2048 : Shape := ⟨2, ![4096, 2048]⟩

abbrev nBuf : Space → Nat
  | .hbm => 243
  | .vmem => 0
  | .smem => 0
  | _ => 0

abbrev hbmTy0_0 (i : Nat) : BufTy := match i % 128 with
  | 0 => ⟨S1x4096x6144, .f32⟩
  | 1 => ⟨S1x1024, .f32⟩
  | 2 => ⟨S1x1024, .f32⟩
  | 3 => ⟨S1x4x128x128, .f32⟩
  | 4 => ⟨S1x4x128, .f32⟩
  | 5 => ⟨S1x4096x1024, .f32⟩
  | 6 => ⟨S1x4096x1024, .f32⟩
  | 7 => ⟨S1x4096x1024, .f32⟩
  | 8 => ⟨S1x4096x1024, .f32⟩
  | 9 => ⟨S1x4096x1024, .f32⟩
  | 10 => ⟨S1x4096x1024, .f32⟩
  | 11 => ⟨S_, .f32⟩
  | 12 => ⟨S1x4096x1024, .f32⟩
  | 13 => ⟨S1x4096x1024, .f32⟩
  | 14 => ⟨S_, .f32⟩
  | 15 => ⟨S1x4096x1024, .f32⟩
  | 16 => ⟨S1x4096x1024, .f32⟩
  | 17 => ⟨S1x4096x1024, .f32⟩
  | 18 => ⟨S_, .f32⟩
  | 19 => ⟨S1x4096x1024, .f32⟩
  | 20 => ⟨S1x4096x1024, .f32⟩
  | 21 => ⟨S1x4096x1024, .f32⟩
  | 22 => ⟨S_, .f32⟩
  | 23 => ⟨S1x4096x1024, .f32⟩
  | 24 => ⟨S1x4096x1024, .f32⟩
  | 25 => ⟨S_, .f32⟩
  | 26 => ⟨S1x4096x1024, .f32⟩
  | 27 => ⟨S1x4096x1024, .f32⟩
  | 28 => ⟨S1x4096x1024, .f32⟩
  | 29 => ⟨S_, .f32⟩
  | 30 => ⟨S1x4096x1024, .f32⟩
  | 31 => ⟨S1x4096x1024, .f32⟩
  | 32 => ⟨S_, .f32⟩
  | 33 => ⟨S1x4096x1024, .f32⟩
  | 34 => ⟨S1x4096x1024, .f32⟩
  | 35 => ⟨S1x4096x1024, .f32⟩
  | 36 => ⟨S1x4096x1024, .f32⟩
  | 37 => ⟨S1x4096x1024, .f32⟩
  | 38 => ⟨S1x4096x1024, .f32⟩
  | 39 => ⟨S_, .f32⟩
  | 40 => ⟨S1x4096x1024, .f32⟩
  | 41 => ⟨S1x4096x1024, .f32⟩
  | 42 => ⟨S_, .f32⟩
  | 43 => ⟨S1x4096x1024, .f32⟩
  | 44 => ⟨S1x4096x1024, .f32⟩
  | 45 => ⟨S1x4096x1024, .f32⟩
  | 46 => ⟨S_, .f32⟩
  | 47 => ⟨S1x4096x1024, .f32⟩
  | 48 => ⟨S1x4096x1024, .f32⟩
  | 49 => ⟨S1x4096x1024, .f32⟩
  | 50 => ⟨S_, .f32⟩
  | 51 => ⟨S1x4096x1024, .f32⟩
  | 52 => ⟨S1x4096x1024, .f32⟩
  | 53 => ⟨S_, .f32⟩
  | 54 => ⟨S1x4096x1024, .f32⟩
  | 55 => ⟨S1x4096x1024, .f32⟩
  | 56 => ⟨S1x4096x1024, .f32⟩
  | 57 => ⟨S_, .f32⟩
  | 58 => ⟨S1x4096x1024, .f32⟩
  | 59 => ⟨S1x4096x1024, .f32⟩
  | 60 => ⟨S_, .f32⟩
  | 61 => ⟨S1x4096x1024, .f32⟩
  | 62 => ⟨S1x4096x1024, .f32⟩
  | 63 => ⟨S1x4096x1024, .f32⟩
  | 64 => ⟨S1024, .f32⟩
  | 65 => ⟨S1024, .f32⟩
  | 66 => ⟨S4x128x128, .f32⟩
  | 67 => ⟨S4x128, .f32⟩
  | 68 => ⟨S_, .f32⟩
  | 69 => ⟨S1x4096, .f32⟩
  | 70 => ⟨S1x4096x1, .f32⟩
  | 71 => ⟨S_, .f32⟩
  | 72 => ⟨S1x4096x1, .f32⟩
  | 73 => ⟨S1x4096x1, .f32⟩
  | 74 => ⟨S1x4096x1024, .f32⟩
  | 75 => ⟨S1x4096x1024, .f32⟩
  | 76 => ⟨S1x4096x1024, .f32⟩
  | 77 => ⟨S_, .f32⟩
  | 78 => ⟨S1x4096x1024, .f32⟩
  | 79 => ⟨S1x4096x1024, .f32⟩
  | 80 => ⟨S_, .f32⟩
  | 81 => ⟨S1x4096, .f32⟩
  | 82 => ⟨S1x4096x1, .f32⟩
  | 83 => ⟨S_, .f32⟩
  | 84 => ⟨S1x4096x1, .f32⟩
  | 85 => ⟨S1x4096x1, .f32⟩
  | 86 => ⟨S1x4096x1024, .f32⟩
  | 87 => ⟨S1x4096x1024, .f32⟩
  | 88 => ⟨S_, .f32⟩
  | 89 => ⟨S1x4096x1, .f32⟩
  | 90 => ⟨S1x4096x1, .f32⟩
  | 91 => ⟨S1x4096x1, .f32⟩
  | 92 => ⟨S1x4096x1, .f32⟩
  | 93 => ⟨S_, .f32⟩
  | 94 => ⟨S1x4096x1, .f32⟩
  | 95 => ⟨S1x4096x1, .f32⟩
  | 96 => ⟨S1x4096x1024, .f32⟩
  | 97 => ⟨S1x4096x1024, .f32⟩
  | 98 => ⟨S1x1x1024, .f32⟩
  | 99 => ⟨S1x4096x1024, .f32⟩
  | 100 => ⟨S1x4096x1024, .f32⟩
  | 101 => ⟨S1x1x1024, .f32⟩
  | 102 => ⟨S1x4096x1024, .f32⟩
  | 103 => ⟨S1x4096x1024, .f32⟩
  | 104 => ⟨S1x32x128x4x256, .f32⟩
  | 105 => ⟨S_, .f32⟩
  | 106 => ⟨S128x128, .f32⟩
  | 107 => ⟨S128x128, .i32⟩
  | 108 => ⟨S_, .i32⟩
  | 109 => ⟨S128x128, .i32⟩
  | 110 => ⟨S128x128, .i32⟩
  | 111 => ⟨S128x128, .i32⟩
  | 112 => ⟨S128x128, .i1⟩
  | 113 => ⟨S_, .f32⟩
  | 114 => ⟨S128x128, .f32⟩
  | 115 => ⟨S128x128, .f32⟩
  | 116 => ⟨S1x128x128, .f32⟩
  | 117 => ⟨S4x128x128, .f32⟩
  | 118 => ⟨S4x128x128, .f32⟩
  | 119 => ⟨S4x1x32x256x128, .f32⟩
  | 120 => ⟨S1x32x128x4x256, .f32⟩
  | 121 => ⟨S128x4, .f32⟩
  | 122 => ⟨S128x4x1, .f32⟩
  | 123 => ⟨S1x1x128x4x1, .f32⟩
  | 124 => ⟨S1x32x128x4x256, .f32⟩
  | 125 => ⟨S1x32x128x4x256, .f32⟩
  | 126 => ⟨S1x4096x1024, .f32⟩
  | 127 => ⟨S1x4096x1024, .f32⟩
  | _ => ⟨S1x4096x6144, .f32⟩

abbrev hbmTy0_1 (i : Nat) : BufTy := match i % 128 with
  | 0 => ⟨S1x4096x1024, .f32⟩
  | 1 => ⟨S1x4096x1024, .f32⟩
  | 2 => ⟨S1x32x128x4x256, .f32⟩
  | 3 => ⟨S_, .f32⟩
  | 4 => ⟨S1x128x4, .f32⟩
  | 5 => ⟨S1x1x128x4x1, .f32⟩
  | 6 => ⟨S_, .f32⟩
  | 7 => ⟨S128x4, .f32⟩
  | 8 => ⟨S128x4x1, .f32⟩
  | 9 => ⟨S_, .f32⟩
  | 10 => ⟨S128x4, .f32⟩
  | 11 => ⟨S4x128, .f32⟩
  | 12 => ⟨S4x1x32x256x128, .f32⟩
  | 13 => ⟨S4x128x128, .f32⟩
  | 14 => ⟨S4x1x32x256x128, .f32⟩
  | 15 => ⟨S1x32x128x4x256, .f32⟩
  | 16 => ⟨S4x128x128, .f32⟩
  | 17 => ⟨S4x128x128, .f32⟩
  | 18 => ⟨S1x4096x1024, .f32⟩
  | 19 => ⟨S_, .f32⟩
  | 20 => ⟨S1x1024, .f32⟩
  | 21 => ⟨S1x1x1024, .f32⟩
  | 22 => ⟨S_, .f32⟩
  | 23 => ⟨S1024, .f32⟩
  | 24 => ⟨S1x4096x1024, .f32⟩
  | 25 => ⟨S_, .f32⟩
  | 26 => ⟨S1x1024, .f32⟩
  | 27 => ⟨S1x1x1024, .f32⟩
  | 28 => ⟨S1x4096x1024, .f32⟩
  | 29 => ⟨S1x4096x1024, .f32⟩
  | 30 => ⟨S_, .f32⟩
  | 31 => ⟨S1024, .f32⟩
  | 32 => ⟨S1x4096x1024, .f32⟩
  | 33 => ⟨S_, .f32⟩
  | 34 => ⟨S1x4096, .f32⟩
  | 35 => ⟨S1x4096x1, .f32⟩
  | 36 => ⟨S1x4096x1024, .f32⟩
  | 37 => ⟨S1x4096x1024, .f32⟩
  | 38 => ⟨S1x4096x1, .f32⟩
  | 39 => ⟨S1x4096x1024, .f32⟩
  | 40 => ⟨S_, .f32⟩
  | 41 => ⟨S1x4096, .f32⟩
  | 42 => ⟨S1x4096x1, .f32⟩
  | 43 => ⟨S_, .f32⟩
  | 44 => ⟨S1x4096x1, .f32⟩
  | 45 => ⟨S1x4096x1, .f32⟩
  | 46 => ⟨S_, .f32⟩
  | 47 => ⟨S4096, .f32⟩
  | 48 => ⟨S1x4096, .f32⟩
  | 49 => ⟨S1x4096x1024, .f32⟩
  | 50 => ⟨S1x4096x1024, .f32⟩
  | 51 => ⟨S1x4096x1024, .f32⟩
  | 52 => ⟨S_, .f32⟩
  | 53 => ⟨S1x4096, .f32⟩
  | 54 => ⟨S1x4096x1, .f32⟩
  | 55 => ⟨S1x4096x1024, .f32⟩
  | 56 => ⟨S1x4096x1, .f32⟩
  | 57 => ⟨S_, .f32⟩
  | 58 => ⟨S1x4096x1, .f32⟩
  | 59 => ⟨S1x4096x1, .f32⟩
  | 60 => ⟨S_, .f32⟩
  | 61 => ⟨S4096, .f32⟩
  | 62 => ⟨S1x4096, .f32⟩
  | 63 => ⟨S1x4096x1024, .f32⟩
  | 64 => ⟨S1x4096x1024, .f32⟩
  | 65 => ⟨S1x4x128, .f32⟩
  | 66 => ⟨S1x4x128x128, .f32⟩
  | 67 => ⟨S1x1024, .f32⟩
  | 68 => ⟨S1x1024, .f32⟩
  | 69 => ⟨S1x4096x1024, .f32⟩
  | 70 => ⟨S1x4096x1024, .f32⟩
  | 71 => ⟨S_, .f32⟩
  | 72 => ⟨S1x4096x1024, .f32⟩
  | 73 => ⟨S1x4096x1024, .f32⟩
  | 74 => ⟨S1x4096x1024, .f32⟩
  | 75 => ⟨S_, .f32⟩
  | 76 => ⟨S1x4096x1024, .f32⟩
  | 77 => ⟨S1x4096x1024, .f32⟩
  | 78 => ⟨S1x4096x1024, .f32⟩
  | 79 => ⟨S_, .f32⟩
  | 80 => ⟨S1x4096x1024, .f32⟩
  | 81 => ⟨S1x4096x1024, .f32⟩
  | 82 => ⟨S1x4096x1024, .f32⟩
  | 83 => ⟨S1x4096x1024, .f32⟩
  | 84 => ⟨S1x4096x1024, .f32⟩
  | 85 => ⟨S1x4096x1024, .f32⟩
  | 86 => ⟨S_, .f32⟩
  | 87 => ⟨S1x4096x1024, .f32⟩
  | 88 => ⟨S1x4096x1024, .f32⟩
  | 89 => ⟨S1x4096x1024, .f32⟩
  | 90 => ⟨S_, .f32⟩
  | 91 => ⟨S1x4096x1024, .f32⟩
  | 92 => ⟨S1x4096x1024, .f32⟩
  | 93 => ⟨S1x4096x1024, .f32⟩
  | 94 => ⟨S_, .f32⟩
  | 95 => ⟨S1x4096x1024, .f32⟩
  | 96 => ⟨S1x4096x1024, .f32⟩
  | 97 => ⟨S1x4096x1024, .f32⟩
  | 98 => ⟨S1x4096x1024, .f32⟩
  | 99 => ⟨S_, .f32⟩
  | 100 => ⟨S1x4096x6144, .f32⟩
  | 101 => ⟨S_, .f32⟩
  | 102 => ⟨S1x4096x6144, .f32⟩
  | 103 => ⟨S1x4096x6144, .f32⟩
  | 104 => ⟨S4x128x128, .f32⟩
  | 105 => ⟨S128x4x128, .f32⟩
  | 106 => ⟨S128x512, .f32⟩
  | 107 => ⟨S4x128, .f32⟩
  | 108 => ⟨S128x4, .f32⟩
  | 109 => ⟨S_, .i32⟩
  | 110 => ⟨S_, .f32⟩
  | 111 => ⟨S128x128, .f32⟩
  | 112 => ⟨S1x4096x2048, .f32⟩
  | 113 => ⟨S4096x2048, .f32⟩
  | 114 => ⟨S4096x2048, .bf16⟩
  | _ => ⟨S1x4096x6144, .f32⟩

abbrev hbmTy (i : Nat) : BufTy := match i / 128 with
  | 0 => hbmTy0_0 i
  | 1 => hbmTy0_1 i
  | _ => ⟨S1x4096x6144, .f32⟩

abbrev bufTy : (tb : Table) → Fin (tcTables nBuf tb) → BufTy
  | .hbm, ⟨i, _⟩ => hbmTy i
  | _, _ => ⟨S1x4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev main_v40 : Ref sig .tc := ⟨.hbm, 59, rfl⟩
abbrev main_cst_12 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_13 : Ref sig .tc := ⟨.hbm, 68, rfl⟩
abbrev main_v48 : Ref sig .tc := ⟨.hbm, 69, rfl⟩
abbrev main_v49 : Ref sig .tc := ⟨.hbm, 70, rfl⟩
abbrev main_cst_14 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_15 : Ref sig .tc := ⟨.hbm, 77, rfl⟩
abbrev main_v55 : Ref sig .tc := ⟨.hbm, 78, rfl⟩
abbrev main_v56 : Ref sig .tc := ⟨.hbm, 79, rfl⟩
abbrev main_cst_16 : Ref sig .tc := ⟨.hbm, 80, rfl⟩
abbrev main_v57 : Ref sig .tc := ⟨.hbm, 81, rfl⟩
abbrev main_v58 : Ref sig .tc := ⟨.hbm, 82, rfl⟩
abbrev main_cst_17 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_18 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_19 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_20 : Ref sig .tc := ⟨.hbm, 105, rfl⟩
abbrev main_v78 : Ref sig .tc := ⟨.hbm, 106, rfl⟩
abbrev main_call0_v0 : Ref sig .tc := ⟨.hbm, 107, rfl⟩
abbrev main_call0_c : Ref sig .tc := ⟨.hbm, 108, rfl⟩
abbrev main_call0_v1 : Ref sig .tc := ⟨.hbm, 109, rfl⟩
abbrev main_call0_v2 : Ref sig .tc := ⟨.hbm, 110, rfl⟩
abbrev main_call0_v3 : Ref sig .tc := ⟨.hbm, 111, rfl⟩
abbrev main_call0_v4 : Ref sig .tc := ⟨.hbm, 112, rfl⟩
abbrev main_call0_cst : Ref sig .tc := ⟨.hbm, 113, rfl⟩
abbrev main_call0_v5 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_21 : Ref sig .tc := ⟨.hbm, 131, rfl⟩
abbrev main_v95 : Ref sig .tc := ⟨.hbm, 132, rfl⟩
abbrev main_v96 : Ref sig .tc := ⟨.hbm, 133, rfl⟩
abbrev main_cst_22 : Ref sig .tc := ⟨.hbm, 134, rfl⟩
abbrev main_v97 : Ref sig .tc := ⟨.hbm, 135, rfl⟩
abbrev main_v98 : Ref sig .tc := ⟨.hbm, 136, rfl⟩
abbrev main_cst_23 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_24 : Ref sig .tc := ⟨.hbm, 147, rfl⟩
abbrev main_v108 : Ref sig .tc := ⟨.hbm, 148, rfl⟩
abbrev main_v109 : Ref sig .tc := ⟨.hbm, 149, rfl⟩
abbrev main_cst_25 : Ref sig .tc := ⟨.hbm, 150, rfl⟩
abbrev main_v110 : Ref sig .tc := ⟨.hbm, 151, rfl⟩
abbrev main_v111 : Ref sig .tc := ⟨.hbm, 152, rfl⟩
abbrev main_cst_26 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_cst_27 : Ref sig .tc := ⟨.hbm, 158, rfl⟩
abbrev main_v116 : Ref sig .tc := ⟨.hbm, 159, rfl⟩
abbrev main_v117 : Ref sig .tc := ⟨.hbm, 160, rfl⟩
abbrev main_cst_28 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_cst_29 : Ref sig .tc := ⟨.hbm, 168, rfl⟩
abbrev main_v124 : Ref sig .tc := ⟨.hbm, 169, rfl⟩
abbrev main_v125 : Ref sig .tc := ⟨.hbm, 170, rfl⟩
abbrev main_cst_30 : Ref sig .tc := ⟨.hbm, 171, rfl⟩
abbrev main_v126 : Ref sig .tc := ⟨.hbm, 172, rfl⟩
abbrev main_v127 : Ref sig .tc := ⟨.hbm, 173, rfl⟩
abbrev main_cst_31 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_cst_32 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_cst_33 : Ref sig .tc := ⟨.hbm, 185, rfl⟩
abbrev main_v137 : Ref sig .tc := ⟨.hbm, 186, rfl⟩
abbrev main_v138 : Ref sig .tc := ⟨.hbm, 187, rfl⟩
abbrev main_cst_34 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_cst_35 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_cst_36 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_cst_37 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_cst_38 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_cst_39 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_cst_40 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_cst_41 : Ref sig .tc := ⟨.hbm, 227, rfl⟩
abbrev main_v171 : Ref sig .tc := ⟨.hbm, 228, rfl⟩
abbrev main_cst_42 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_c : Ref sig .tc := ⟨.hbm, 237, rfl⟩
abbrev main_call1_v0 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩

abbrev nD : Nat := 1
abbrev τ : Topo := Topo.v7x

variable {F : FTy → Type} [FloatOps F]
-- ==== BwdConv.lean ====
abbrev S1x4096x6144 : Shape := ⟨3, ![1, 4096, 6144]⟩
abbrev S1x4x1024 : Shape := ⟨3, ![1, 4, 1024]⟩
abbrev S1x1024 : Shape := ⟨2, ![1, 1024]⟩
abbrev S1x4096x1024 : Shape := ⟨3, ![1, 4096, 1024]⟩
abbrev S4096x1024 : Shape := ⟨2, ![4096, 1024]⟩
abbrev S4096x6144 : Shape := ⟨2, ![4096, 6144]⟩
abbrev S4x1024 : Shape := ⟨2, ![4, 1024]⟩
abbrev S8x1024 : Shape := ⟨2, ![8, 1024]⟩
abbrev S256x1024 : Shape := ⟨2, ![256, 1024]⟩
abbrev S1024 : Shape := ⟨1, ![1024]⟩
abbrev S248x1024 : Shape := ⟨2, ![248, 1024]⟩

abbrev nBuf : Space → Nat
  | .hbm => 11
  | .vmem => 10
  | .smem => 0
  | _ => 0

abbrev bufTy : (tb : Table) → Fin (tcTables nBuf tb) → BufTy
  | .hbm, ⟨0, _⟩ => ⟨S1x4096x6144, .f32⟩
  | .hbm, ⟨1, _⟩ => ⟨S1x4x1024, .f32⟩
  | .hbm, ⟨2, _⟩ => ⟨S1x1024, .f32⟩
  | .hbm, ⟨3, _⟩ => ⟨S1x4096x1024, .f32⟩
  | .hbm, ⟨4, _⟩ => ⟨S4096x1024, .f32⟩
  | .hbm, ⟨5, _⟩ => ⟨S4096x6144, .f32⟩
  | .hbm, ⟨6, _⟩ => ⟨S4096x6144, .bf16⟩
  | .hbm, ⟨7, _⟩ => ⟨S4x1024, .f32⟩
  | .hbm, ⟨8, _⟩ => ⟨S4096x1024, .bf16⟩
  | .hbm, ⟨9, _⟩ => ⟨S8x1024, .f32⟩
  | .hbm, ⟨10, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S4x1024, .f32⟩
  | .local _ .vmem, ⟨5, _⟩ => ⟨S256x1024, .bf16⟩
  | .local _ .vmem, ⟨6, _⟩ => ⟨S256x1024, .bf16⟩
  | .local _ .vmem, ⟨7, _⟩ => ⟨S8x1024, .f32⟩
  | .local _ .vmem, ⟨8, _⟩ => ⟨S1x1024, .f32⟩
  | .local _ .vmem, ⟨9, _⟩ => ⟨S8x1024, .f32⟩
  | _, _ => ⟨S1x4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== BwdConvRefIdeal.lean ====
abbrev S1x4096x6144 : Shape := ⟨3, ![1, 4096, 6144]⟩
abbrev S1x4x1024 : Shape := ⟨3, ![1, 4, 1024]⟩
abbrev S1x1024 : Shape := ⟨2, ![1, 1024]⟩
abbrev S1x4096x1024 : Shape := ⟨3, ![1, 4096, 1024]⟩
abbrev S4x1024 : Shape := ⟨2, ![4, 1024]⟩
abbrev S1024 : Shape := ⟨1, ![1024]⟩
abbrev S_ : Shape := ⟨0, ![]⟩
abbrev S1x3x1024 : Shape := ⟨3, ![1, 3, 1024]⟩
abbrev S1x4099x1024 : Shape := ⟨3, ![1, 4099, 1024]⟩
abbrev S1x1x1024 : Shape := ⟨3, ![1, 1, 1024]⟩
abbrev S4096x1024 : Shape := ⟨2, ![4096, 1024]⟩
abbrev S8x1024 : Shape := ⟨2, ![8, 1024]⟩

abbrev nBuf : Space → Nat
  | .hbm => 120
  | .vmem => 0
  | .smem => 0
  | _ => 0

abbrev bufTy : (tb : Table) → Fin (tcTables nBuf tb) → BufTy
  | .hbm, ⟨0, _⟩ => ⟨S1x4096x6144, .f32⟩
  | .hbm, ⟨1, _⟩ => ⟨S1x4x1024, .f32⟩
  | .hbm, ⟨2, _⟩ => ⟨S1x1024, .f32⟩
  | .hbm, ⟨3, _⟩ => ⟨S1x4096x1024, .f32⟩
  | .hbm, ⟨4, _⟩ => ⟨S1x4096x1024, .f32⟩
  | .hbm, ⟨5, _⟩ => ⟨S4x1024, .f32⟩
  | .hbm, ⟨6, _⟩ => ⟨S1024, .f32⟩
  | .hbm, ⟨7, _⟩ => ⟨S_, .f32⟩
  | .hbm, ⟨8, _⟩ => ⟨S1x3x1024, .f32⟩
  | .hbm, ⟨9, _⟩ => ⟨S1x4099x1024, .f32⟩
  | .hbm, ⟨10, _⟩ => ⟨S_, .f32⟩
  | .hbm, ⟨11, _⟩ => ⟨S1x3x1024, .f32⟩
  | .hbm, ⟨12, _⟩ => ⟨S1x4096x1024, .f32⟩
  | .hbm, ⟨13, _⟩ => ⟨S1x1024, .f32⟩
  | .hbm, ⟨14, _⟩ => ⟨S1024, .f32⟩
  | .hbm, ⟨15, _⟩ => ⟨S1x1x1024, .f32⟩
  | .hbm, ⟨16, _⟩ => ⟨S1x4096x1024, .f32⟩
  | .hbm, ⟨17, _⟩ => ⟨S1x4096x1024, .f32⟩
  | .hbm, ⟨18, _⟩ => ⟨S1x1x1024, .f32⟩
  | .hbm, ⟨19, _⟩ => ⟨S1x4096x1024, .f32⟩
  | .hbm, ⟨20, _⟩ => ⟨S1x4096x1024, .f32⟩
  | .hbm, ⟨21, _⟩ => ⟨S1x4096x1024, .f32⟩
  | .hbm, ⟨22, _⟩ => ⟨S1x1024, .f32⟩
  | .hbm, ⟨23, _⟩ => ⟨S1024, .f32⟩
  | .hbm, ⟨24, _⟩ => ⟨S1x1x1024, .f32⟩
  | .hbm, ⟨25, _⟩ => ⟨S1x4096x1024, .f32⟩
  | .hbm, ⟨26, _⟩ => ⟨S1x4096x1024, .f32⟩
  | .hbm, ⟨27, _⟩ => ⟨S1x4096x1024, .f32⟩
  | .hbm, ⟨28, _⟩ => ⟨S1x4096x1024, .f32⟩
  | .hbm, ⟨29, _⟩ => ⟨S1x1024, .f32⟩
  | .hbm, ⟨30, _⟩ => ⟨S1024, .f32⟩
  | .hbm, ⟨31, _⟩ => ⟨S1x1x1024, .f32⟩
  | .hbm, ⟨32, _⟩ => ⟨S1x4096x1024, .f32⟩
  | .hbm, ⟨33, _⟩ => ⟨S1x4096x1024, .f32⟩
  | .hbm, ⟨34, _⟩ => ⟨S1x4096x1024, .f32⟩
  | .hbm, ⟨35, _⟩ => ⟨S1x4096x1024, .f32⟩
  | .hbm, ⟨36, _⟩ => ⟨S1x1024, .f32⟩
  | .hbm, ⟨37, _⟩ => ⟨S1024, .f32⟩
  | .hbm, ⟨38, _⟩ => ⟨S1x1x1024, .f32⟩
  | .hbm, ⟨39, _⟩ => ⟨S1x4096x1024, .f32⟩
  | .hbm, ⟨40, _⟩ => ⟨S1x4096x1024, .f32⟩
  | .hbm, ⟨41, _⟩ => ⟨S1x4096x1024, .f32⟩
  | .hbm, ⟨42, _⟩ => ⟨S1x4096x1024, .f32⟩
  | .hbm, ⟨43, _⟩ => ⟨S1x4096x1024, .f32⟩
  | .hbm, ⟨44, _⟩ => ⟨S1x4096x1024, .f32⟩
  | .hbm, ⟨45, _⟩ => ⟨S_, .f32⟩
  | .hbm, ⟨46, _⟩ => ⟨S1x1024, .f32⟩
  | .hbm, ⟨47, _⟩ => ⟨S1x1x1024, .f32⟩
  | .hbm, ⟨48, _⟩ => ⟨S1x4096x1024, .f32⟩
  | .hbm, ⟨49, _⟩ => ⟨S1x4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S_, .f32⟩
  | .hbm, ⟨54, _⟩ => ⟨S4x1024, .f32⟩
  | .hbm, ⟨55, _⟩ => ⟨S_, .f32⟩
  | .hbm, ⟨56, _⟩ => ⟨S1x4099x1024, .f32⟩
  | .hbm, ⟨57, _⟩ => ⟨S1x4096x1024, .f32⟩
  | .hbm, ⟨58, _⟩ => ⟨S_, .f32⟩
  | .hbm, ⟨59, _⟩ => ⟨S1x1024, .f32⟩
  | .hbm, ⟨60, _⟩ => ⟨S1x1x1024, .f32⟩
  | .hbm, ⟨61, _⟩ => ⟨S1x4096x1024, .f32⟩
  | .hbm, ⟨62, _⟩ => ⟨S1x4096x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S_, .f32⟩
  | .hbm, ⟨67, _⟩ => ⟨S4x1024, .f32⟩
  | .hbm, ⟨68, _⟩ => ⟨S4x1024, .f32⟩
  | .hbm, ⟨69, _⟩ => ⟨S_, .f32⟩
  | .hbm, ⟨70, _⟩ => ⟨S1x4099x1024, .f32⟩
  | .hbm, ⟨71, _⟩ => ⟨S1x4099x1024, .f32⟩
  | .hbm, ⟨72, _⟩ => ⟨S1x4096x1024, .f32⟩
  | .hbm, ⟨73, _⟩ => ⟨S_, .f32⟩
  | .hbm, ⟨74, _⟩ => ⟨S1x1024, .f32⟩
  | .hbm, ⟨75, _⟩ => ⟨S1x1x1024, .f32⟩
  | .hbm, ⟨76, _⟩ => ⟨S1x4096x1024, .f32⟩
  | .hbm, ⟨77, _⟩ => ⟨S1x4096x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S_, .f32⟩
  | .hbm, ⟨82, _⟩ => ⟨S4x1024, .f32⟩
  | .hbm, ⟨83, _⟩ => ⟨S4x1024, .f32⟩
  | .hbm, ⟨84, _⟩ => ⟨S_, .f32⟩
  | .hbm, ⟨85, _⟩ => ⟨S1x4099x1024, .f32⟩
  | .hbm, ⟨86, _⟩ => ⟨S1x4099x1024, .f32⟩
  | .hbm, ⟨87, _⟩ => ⟨S_, .f32⟩
  | .hbm, ⟨88, _⟩ => ⟨S1x1024, .f32⟩
  | .hbm, ⟨89, _⟩ => ⟨S1x1x1024, .f32⟩
  | .hbm, ⟨90, _⟩ => ⟨S_, .f32⟩
  | .hbm, ⟨91, _⟩ => ⟨S1024, .f32⟩
  | .hbm, ⟨92, _⟩ => ⟨S1x4096x1024, .f32⟩
  | .hbm, ⟨93, _⟩ => ⟨S_, .f32⟩
  | .hbm, ⟨94, _⟩ => ⟨S1x1024, .f32⟩
  | .hbm, ⟨95, _⟩ => ⟨S1x1x1024, .f32⟩
  | .hbm, ⟨96, _⟩ => ⟨S1x4096x1024, .f32⟩
  | .hbm, ⟨97, _⟩ => ⟨S1x4096x1024, .f32⟩
  | .hbm, ⟨98, _⟩ => ⟨S_, .f32⟩
  | .hbm, ⟨99, _⟩ => ⟨S1024, .f32⟩
  | .hbm, ⟨100, _⟩ => ⟨S1x1024, .f32⟩
  | .hbm, ⟨101, _⟩ => ⟨S_, .f32⟩
  | .hbm, ⟨102, _⟩ => ⟨S4x1024, .f32⟩
  | .hbm, ⟨103, _⟩ => ⟨S4x1024, .f32⟩
  | .hbm, ⟨104, _⟩ => ⟨S_, .f32⟩
  | .hbm, ⟨105, _⟩ => ⟨S1x4099x1024, .f32⟩
  | .hbm, ⟨106, _⟩ => ⟨S1x4099x1024, .f32⟩
  | .hbm, ⟨107, _⟩ => ⟨S1x3x1024, .f32⟩
  | .hbm, ⟨108, _⟩ => ⟨S1x4096x1024, .f32⟩
  | .hbm, ⟨109, _⟩ => ⟨S1x1024, .f32⟩
  | .hbm, ⟨110, _⟩ => ⟨S1x4x1024, .f32⟩
  | .hbm, ⟨111, _⟩ => ⟨S_, .f32⟩
  | .hbm, ⟨112, _⟩ => ⟨S1x4096x6144, .f32⟩
  | .hbm, ⟨113, _⟩ => ⟨S1x4096x1024, .f32⟩
  | .hbm, ⟨114, _⟩ => ⟨S4096x1024, .f32⟩
  | .hbm, ⟨115, _⟩ => ⟨S4096x1024, .bf16⟩
  | .hbm, ⟨116, _⟩ => ⟨S4x1024, .f32⟩
  | .hbm, ⟨117, _⟩ => ⟨S_, .i32⟩
  | .hbm, ⟨118, _⟩ => ⟨S_, .f32⟩
  | .hbm, ⟨119, _⟩ => ⟨S8x1024, .f32⟩
  | _, _ => ⟨S1x4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_1 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst_2 : Ref sig .tc := ⟨.hbm, 50, rfl⟩
abbrev main_v43 : Ref sig .tc := ⟨.hbm, 51, rfl⟩
abbrev main_v44 : Ref sig .tc := ⟨.hbm, 52, rfl⟩
abbrev main_cst_3 : Ref sig .tc := ⟨.hbm, 53, rfl⟩
abbrev main_v45 : Ref sig .tc := ⟨.hbm, 54, rfl⟩
abbrev main_cst_4 : Ref sig .tc := ⟨.hbm, 55, rfl⟩
abbrev main_v46 : Ref sig .tc := ⟨.hbm, 56, rfl⟩
abbrev main_v47 : Ref sig .tc := ⟨.hbm, 57, rfl⟩
abbrev main_cst_5 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_6 : Ref sig .tc := ⟨.hbm, 63, rfl⟩
abbrev main_v52 : Ref sig .tc := ⟨.hbm, 64, rfl⟩
abbrev main_v53 : Ref sig .tc := ⟨.hbm, 65, rfl⟩
abbrev main_cst_7 : Ref sig .tc := ⟨.hbm, 66, rfl⟩
abbrev main_v54 : Ref sig .tc := ⟨.hbm, 67, rfl⟩
abbrev main_v55 : Ref sig .tc := ⟨.hbm, 68, rfl⟩
abbrev main_cst_8 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_9 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_10 : Ref sig .tc := ⟨.hbm, 78, rfl⟩
abbrev main_v63 : Ref sig .tc := ⟨.hbm, 79, rfl⟩
abbrev main_v64 : Ref sig .tc := ⟨.hbm, 80, rfl⟩
abbrev main_cst_11 : Ref sig .tc := ⟨.hbm, 81, rfl⟩
abbrev main_v65 : Ref sig .tc := ⟨.hbm, 82, rfl⟩
abbrev main_v66 : Ref sig .tc := ⟨.hbm, 83, rfl⟩
abbrev main_cst_12 : Ref sig .tc := ⟨.hbm, 84, rfl⟩
abbrev main_v67 : Ref sig .tc := ⟨.hbm, 85, rfl⟩
abbrev main_v68 : Ref sig .tc := ⟨.hbm, 86, rfl⟩
abbrev main_cst_13 : Ref sig .tc := ⟨.hbm, 87, rfl⟩
abbrev main_v69 : Ref sig .tc := ⟨.hbm, 88, rfl⟩
abbrev main_v70 : Ref sig .tc := ⟨.hbm, 89, rfl⟩
abbrev main_cst_14 : Ref sig .tc := ⟨.hbm, 90, rfl⟩
abbrev main_v71 : Ref sig .tc := ⟨.hbm, 91, rfl⟩
abbrev main_v72 : Ref sig .tc := ⟨.hbm, 92, rfl⟩
abbrev main_cst_15 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_16 : Ref sig .tc := ⟨.hbm, 98, rfl⟩
abbrev main_v77 : Ref sig .tc := ⟨.hbm, 99, rfl⟩
abbrev main_v78 : Ref sig .tc := ⟨.hbm, 100, rfl⟩
abbrev main_cst_17 : Ref sig .tc := ⟨.hbm, 101, rfl⟩
abbrev main_v79 : Ref sig .tc := ⟨.hbm, 102, rfl⟩
abbrev main_v80 : Ref sig .tc := ⟨.hbm, 103, rfl⟩
abbrev main_cst_18 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_19 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_c : Ref sig .tc := ⟨.hbm, 117, rfl⟩
abbrev main_call0_v0 : Ref sig .tc := ⟨.hbm, 118, rfl⟩
abbrev main_v92 : Ref sig .tc := ⟨.hbm, 119, rfl⟩

abbrev nD : Nat := 1
abbrev τ : Topo := Topo.v7x

variable {F : FTy → Type} [FloatOps F]
-- ==== BwdMerge.lean ====
abbrev S1x4096x6144 : Shape := ⟨3, ![1, 4096, 6144]⟩
abbrev S1x4096x1024 : Shape := ⟨3, ![1, 4096, 1024]⟩
abbrev S1x1024x1024 : Shape := ⟨3, ![1, 1024, 1024]⟩
abbrev S1024x1024 : Shape := ⟨2, ![1024, 1024]⟩
abbrev S4096x1024 : Shape := ⟨2, ![4096, 1024]⟩
abbrev S4096x6144 : Shape := ⟨2, ![4096, 6144]⟩
abbrev S4096x2048 : Shape := ⟨2, ![4096, 2048]⟩
abbrev S256x1024 : Shape := ⟨2, ![256, 1024]⟩
abbrev S256x2048 : Shape := ⟨2, ![256, 2048]⟩

abbrev nBuf : Space → Nat
  | .hbm => 29
  | .vmem => 25
  | .smem => 0
  | _ => 0

abbrev bufTy : (tb : Table) → Fin (tcTables nBuf tb) → BufTy
  | .hbm, ⟨0, _⟩ => ⟨S1x4096x6144, .f32⟩
  | .hbm, ⟨1, _⟩ => ⟨S1x4096x1024, .f32⟩
  | .hbm, ⟨2, _⟩ => ⟨S1x4096x1024, .f32⟩
  | .hbm, ⟨3, _⟩ => ⟨S1x1024x1024, .f32⟩
  | .hbm, ⟨4, _⟩ => ⟨S1x1024x1024, .f32⟩
  | .hbm, ⟨5, _⟩ => ⟨S1x1024x1024, .f32⟩
  | .hbm, ⟨6, _⟩ => ⟨S1x4096x1024, .f32⟩
  | .hbm, ⟨7, _⟩ => ⟨S1024x1024, .f32⟩
  | .hbm, ⟨8, _⟩ => ⟨S1x4096x1024, .f32⟩
  | .hbm, ⟨9, _⟩ => ⟨S1024x1024, .f32⟩
  | .hbm, ⟨10, _⟩ => ⟨S1x4096x1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x6144, .f32⟩
  | .hbm, ⟨21, _⟩ => ⟨S4096x6144, .bf16⟩
  | .hbm, ⟨22, _⟩ => ⟨S4096x2048, .bf16⟩
  | .hbm, ⟨23, _⟩ => ⟨S4096x1024, .f32⟩
  | .hbm, ⟨24, _⟩ => ⟨S4096x1024, .f32⟩
  | .hbm, ⟨25, _⟩ => ⟨S4096x1024, .bf16⟩
  | .hbm, ⟨26, _⟩ => ⟨S4096x1024, .bf16⟩
  | .hbm, ⟨27, _⟩ => ⟨S4096x1024, .bf16⟩
  | .hbm, ⟨28, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x2048, .bf16⟩
  | .local _ .vmem, ⟨7, _⟩ => ⟨S256x2048, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S256x2048, .bf16⟩
  | .local _ .vmem, ⟨12, _⟩ => ⟨S256x2048, .bf16⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | _, _ => ⟨S1x4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev main_v15_3 : Ref sig .tc := ⟨.hbm, 25, rfl⟩
abbrev main_v15_4 : Ref sig .tc := ⟨.hbm, 26, rfl⟩
abbrev main_v15_5 : Ref sig .tc := ⟨.hbm, 27, rfl⟩
abbrev main_v15_6 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== BwdMergeRefIdeal.lean ====
abbrev S1x4096x6144 : Shape := ⟨3, ![1, 4096, 6144]⟩
abbrev S1x4096x1024 : Shape := ⟨3, ![1, 4096, 1024]⟩
abbrev S1x1024x1024 : Shape := ⟨3, ![1, 1024, 1024]⟩
abbrev S_ : Shape := ⟨0, ![]⟩
abbrev S1024x1024 : Shape := ⟨2, ![1024, 1024]⟩
abbrev S1x4096x2048 : Shape := ⟨3, ![1, 4096, 2048]⟩
abbrev S4096x2048 : Shape := ⟨2, ![4096, 2048]⟩
abbrev S4096x1024 : Shape := ⟨2, ![4096, 1024]⟩

abbrev nBuf : Space → Nat
  | .hbm => 73
  | .vmem => 0
  | .smem => 0
  | _ => 0

abbrev bufTy : (tb : Table) → Fin (tcTables nBuf tb) → BufTy
  | .hbm, ⟨0, _⟩ => ⟨S1x4096x6144, .f32⟩
  | .hbm, ⟨1, _⟩ => ⟨S1x4096x1024, .f32⟩
  | .hbm, ⟨2, _⟩ => ⟨S1x4096x1024, .f32⟩
  | .hbm, ⟨3, _⟩ => ⟨S1x1024x1024, .f32⟩
  | .hbm, ⟨4, _⟩ => ⟨S1x1024x1024, .f32⟩
  | .hbm, ⟨5, _⟩ => ⟨S1x1024x1024, .f32⟩
  | .hbm, ⟨6, _⟩ => ⟨S1x4096x1024, .f32⟩
  | .hbm, ⟨7, _⟩ => ⟨S_, .f32⟩
  | .hbm, ⟨8, _⟩ => ⟨S1x4096x1024, .f32⟩
  | .hbm, ⟨9, _⟩ => ⟨S1x4096x1024, .f32⟩
  | .hbm, ⟨10, _⟩ => ⟨S1x4096x1024, .f32⟩
  | .hbm, ⟨11, _⟩ => ⟨S1x4096x1024, .f32⟩
  | .hbm, ⟨12, _⟩ => ⟨S_, .f32⟩
  | .hbm, ⟨13, _⟩ => ⟨S1x4096x1024, .f32⟩
  | .hbm, ⟨14, _⟩ => ⟨S1x4096x1024, .f32⟩
  | .hbm, ⟨15, _⟩ => ⟨S_, .f32⟩
  | .hbm, ⟨16, _⟩ => ⟨S1x4096x1024, .f32⟩
  | .hbm, ⟨17, _⟩ => ⟨S1x4096x1024, .f32⟩
  | .hbm, ⟨18, _⟩ => ⟨S_, .f32⟩
  | .hbm, ⟨19, _⟩ => ⟨S1x4096x1024, .f32⟩
  | .hbm, ⟨20, _⟩ => ⟨S1x4096x1024, .f32⟩
  | .hbm, ⟨21, _⟩ => ⟨S1x4096x1024, .f32⟩
  | .hbm, ⟨22, _⟩ => ⟨S1024x1024, .f32⟩
  | .hbm, ⟨23, _⟩ => ⟨S1x4096x1024, .f32⟩
  | .hbm, ⟨24, _⟩ => ⟨S1x4096x1024, .f32⟩
  | .hbm, ⟨25, _⟩ => ⟨S1x4096x1024, .f32⟩
  | .hbm, ⟨26, _⟩ => ⟨S1x4096x1024, .f32⟩
  | .hbm, ⟨27, _⟩ => ⟨S1x4096x1024, .f32⟩
  | .hbm, ⟨28, _⟩ => ⟨S1x4096x1024, .f32⟩
  | .hbm, ⟨29, _⟩ => ⟨S_, .f32⟩
  | .hbm, ⟨30, _⟩ => ⟨S1x4096x1024, .f32⟩
  | .hbm, ⟨31, _⟩ => ⟨S1x4096x1024, .f32⟩
  | .hbm, ⟨32, _⟩ => ⟨S_, .f32⟩
  | .hbm, ⟨33, _⟩ => ⟨S1x4096x1024, .f32⟩
  | .hbm, ⟨34, _⟩ => ⟨S1x4096x1024, .f32⟩
  | .hbm, ⟨35, _⟩ => ⟨S_, .f32⟩
  | .hbm, ⟨36, _⟩ => ⟨S1x4096x1024, .f32⟩
  | .hbm, ⟨37, _⟩ => ⟨S1x4096x1024, .f32⟩
  | .hbm, ⟨38, _⟩ => ⟨S1x4096x1024, .f32⟩
  | .hbm, ⟨39, _⟩ => ⟨S1024x1024, .f32⟩
  | .hbm, ⟨40, _⟩ => ⟨S1x4096x1024, .f32⟩
  | .hbm, ⟨41, _⟩ => ⟨S1x4096x1024, .f32⟩
  | .hbm, ⟨42, _⟩ => ⟨S1x4096x1024, .f32⟩
  | .hbm, ⟨43, _⟩ => ⟨S1x4096x1024, .f32⟩
  | .hbm, ⟨44, _⟩ => ⟨S1024x1024, .f32⟩
  | .hbm, ⟨45, _⟩ => ⟨S1x4096x1024, .f32⟩
  | .hbm, ⟨46, _⟩ => ⟨S1x4096x1024, .f32⟩
  | .hbm, ⟨47, _⟩ => ⟨S1x4096x1024, .f32⟩
  | .hbm, ⟨48, _⟩ => ⟨S1x4096x1024, .f32⟩
  | .hbm, ⟨49, _⟩ => ⟨S1x4096x1024, .f32⟩
  | .hbm, ⟨50, _⟩ => ⟨S1x4096x1024, .f32⟩
  | .hbm, ⟨51, _⟩ => ⟨S_, .f32⟩
  | .hbm, ⟨52, _⟩ => ⟨S1x4096x6144, .f32⟩
  | .hbm, ⟨53, _⟩ => ⟨S1x4096x1024, .f32⟩
  | .hbm, ⟨54, _⟩ => ⟨S1x4096x1024, .f32⟩
  | .hbm, ⟨55, _⟩ => ⟨S1x4096x1024, .f32⟩
  | .hbm, ⟨56, _⟩ => ⟨S1x4096x1024, .f32⟩
  | .hbm, ⟨57, _⟩ => ⟨S_, .f32⟩
  | .hbm, ⟨58, _⟩ => ⟨S1x4096x6144, .f32⟩
  | .hbm, ⟨59, _⟩ => ⟨S1x4096x6144, .f32⟩
  | .hbm, ⟨60, _⟩ => ⟨S1x4096x2048, .f32⟩
  | .hbm, ⟨61, _⟩ => ⟨S4096x2048, .f32⟩
  | .hbm, ⟨62, _⟩ => ⟨S4096x2048, .bf16⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .bf16⟩
  | .hbm, ⟨67, _⟩ => ⟨S4096x1024, .f32⟩
  | .hbm, ⟨68, _⟩ => ⟨S4096x1024, .bf16⟩
  | .hbm, ⟨69, _⟩ => ⟨S4096x1024, .f32⟩
  | .hbm, ⟨70, _⟩ => ⟨S4096x1024, .bf16⟩
  | .hbm, ⟨71, _⟩ => ⟨S4096x1024, .f32⟩
  | .hbm, ⟨72, _⟩ => ⟨S4096x1024, .bf16⟩
  | _, _ => ⟨S1x4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩

abbrev nD : Nat := 1
abbrev τ : Topo := Topo.v7x

variable {F : FTy → Type} [FloatOps F]
-- ==== Fsm.lean ====
abbrev S1x4096x6144 : Shape := ⟨3, ![1, 4096, 6144]⟩
abbrev S1x4096x1024 : Shape := ⟨3, ![1, 4096, 1024]⟩
abbrev S1x1024 : Shape := ⟨2, ![1, 1024]⟩
abbrev S1x4x128x128 : Shape := ⟨4, ![1, 4, 128, 128]⟩
abbrev S1x4x128 : Shape := ⟨3, ![1, 4, 128]⟩
abbrev S1x1024x1024 : Shape := ⟨3, ![1, 1024, 1024]⟩
abbrev S4x128 : Shape := ⟨2, ![4, 128]⟩
abbrev S128x4 : Shape := ⟨2, ![128, 4]⟩
abbrev S128x4x1 : Shape := ⟨3, ![128, 4, 1]⟩
abbrev S128x4x256 : Shape := ⟨3, ![128, 4, 256]⟩
abbrev S128x1024 : Shape := ⟨2, ![128, 1024]⟩
abbrev S1024x1024 : Shape := ⟨2, ![1024, 1024]⟩
abbrev S4096x1024 : Shape := ⟨2, ![4096, 1024]⟩
abbrev S4096x6144 : Shape := ⟨2, ![4096, 6144]⟩
abbrev S4x128x128 : Shape := ⟨3, ![4, 128, 128]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x256 : Shape := ⟨2, ![128, 256]⟩

abbrev nBuf : Space → Nat
  | .hbm => 33
  | .vmem => 28
  | .smem => 0
  | _ => 0

abbrev bufTy : (tb : Table) → Fin (tcTables nBuf tb) → BufTy
  | .hbm, ⟨0, _⟩ => ⟨S1x4096x6144, .f32⟩
  | .hbm, ⟨1, _⟩ => ⟨S1x4096x1024, .f32⟩
  | .hbm, ⟨2, _⟩ => ⟨S1x4096x1024, .f32⟩
  | .hbm, ⟨3, _⟩ => ⟨S1x1024, .f32⟩
  | .hbm, ⟨4, _⟩ => ⟨S1x1024, .f32⟩
  | .hbm, ⟨5, _⟩ => ⟨S1x4x128x128, .f32⟩
  | .hbm, ⟨6, _⟩ => ⟨S1x4x128, .f32⟩
  | .hbm, ⟨7, _⟩ => ⟨S1x1024x1024, .f32⟩
  | .hbm, ⟨8, _⟩ => ⟨S1x1024x1024, .f32⟩
  | .hbm, ⟨9, _⟩ => ⟨S1x1024x1024, .f32⟩
  | .hbm, ⟨10, _⟩ => ⟨S1x1024, .f32⟩
  | .hbm, ⟨11, _⟩ => ⟨S4x128, .f32⟩
  | .hbm, ⟨12, _⟩ => ⟨S128x4, .f32⟩
  | .hbm, ⟨13, _⟩ => ⟨S128x4x1, .f32⟩
  | .hbm, ⟨14, _⟩ => ⟨S128x4x256, .f32⟩
  | .hbm, ⟨15, _⟩ => ⟨S128x1024, .f32⟩
  | .hbm, ⟨16, _⟩ => ⟨S1024x1024, .f32⟩
  | .hbm, ⟨17, _⟩ => ⟨S1024x1024, .bf16⟩
  | .hbm, ⟨18, _⟩ => ⟨S1024x1024, .f32⟩
  | .hbm, ⟨19, _⟩ => ⟨S1024x1024, .bf16⟩
  | .hbm, ⟨20, _⟩ => ⟨S1024x1024, .f32⟩
  | .hbm, ⟨21, _⟩ => ⟨S1024x1024, .bf16⟩
  | .hbm, ⟨22, _⟩ => ⟨S4096x1024, .f32⟩
  | .hbm, ⟨23, _⟩ => ⟨S4096x1024, .bf16⟩
  | .hbm, ⟨24, _⟩ => ⟨S4096x6144, .f32⟩
  | .hbm, ⟨25, _⟩ => ⟨S4096x6144, .bf16⟩
  | .hbm, ⟨26, _⟩ => ⟨S4096x1024, .f32⟩
  | .hbm, ⟨27, _⟩ => ⟨S4x128x128, .f32⟩
  | .hbm, ⟨28, _⟩ => ⟨S4096x1024, .bf16⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .bf16⟩
  | .local _ .vmem, ⟨7, _⟩ => ⟨S256x2048, .bf16⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S4x128x128, .f32⟩
  | .local _ .vmem, ⟨13, _⟩ => ⟨S128x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S256x1024, .bf16⟩
  | .local _ .vmem, ⟨19, _⟩ => ⟨S256x1024, .bf16⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .bf16⟩
  | .local _ .vmem, ⟨27, _⟩ => ⟨S256x1024, .bf16⟩
  | _, _ => ⟨S1x4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_v17_2 : Ref sig .tc := ⟨.hbm, 30, rfl⟩
abbrev main_v17_3 : Ref sig .tc := ⟨.hbm, 31, rfl⟩
abbrev main_v17_4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== FsmIdeal.lean ====
variable {F : FTy → Type} [FloatOps F] [Named F]
def κ : String → Option EReal := fun
  | "k01" => some ((80338380498831 / 2251799813685248 : ℝ) : EReal)
  | _ => none
-- ==== FsmRefIdeal.lean ====
abbrev S1x4096x6144 : Shape := ⟨3, ![1, 4096, 6144]⟩
abbrev S1x4096x1024 : Shape := ⟨3, ![1, 4096, 1024]⟩
abbrev S1x1024 : Shape := ⟨2, ![1, 1024]⟩
abbrev S1x4x128x128 : Shape := ⟨4, ![1, 4, 128, 128]⟩
abbrev S1x4x128 : Shape := ⟨3, ![1, 4, 128]⟩
abbrev S1x1024x1024 : Shape := ⟨3, ![1, 1024, 1024]⟩
abbrev S_ : Shape := ⟨0, ![]⟩
abbrev S1024 : Shape := ⟨1, ![1024]⟩
abbrev S4x128x128 : Shape := ⟨3, ![4, 128, 128]⟩
abbrev S4x128 : Shape := ⟨2, ![4, 128]⟩
abbrev S1x4096 : Shape := ⟨2, ![1, 4096]⟩
abbrev S1x4096x1 : Shape := ⟨3, ![1, 4096, 1]⟩
abbrev S1x1x1024 : Shape := ⟨3, ![1, 1, 1024]⟩
abbrev S1x32x128x4x256 : Shape := ⟨5, ![1, 32, 128, 4, 256]⟩
abbrev S128x128 : Shape := ⟨2, ![128, 128]⟩
abbrev S1x128x128 : Shape := ⟨3, ![1, 128, 128]⟩
abbrev S4x1x32x256x128 : Shape := ⟨5, ![4, 1, 32, 256, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S1024x1024 : Shape := ⟨2, ![1024, 1024]⟩
abbrev S4096x1024 : Shape := ⟨2, ![4096, 1024]⟩

abbrev nBuf : Space → Nat
  | .hbm => 156
  | .vmem => 0
  | .smem => 0
  | _ => 0

abbrev hbmTy0_0 (i : Nat) : BufTy := match i % 128 with
  | 0 => ⟨S1x4096x6144, .f32⟩
  | 1 => ⟨S1x4096x1024, .f32⟩
  | 2 => ⟨S1x4096x1024, .f32⟩
  | 3 => ⟨S1x1024, .f32⟩
  | 4 => ⟨S1x1024, .f32⟩
  | 5 => ⟨S1x4x128x128, .f32⟩
  | 6 => ⟨S1x4x128, .f32⟩
  | 7 => ⟨S1x1024x1024, .f32⟩
  | 8 => ⟨S1x1024x1024, .f32⟩
  | 9 => ⟨S1x1024x1024, .f32⟩
  | 10 => ⟨S1x1024, .f32⟩
  | 11 => ⟨S1x4096x1024, .f32⟩
  | 12 => ⟨S1x4096x1024, .f32⟩
  | 13 => ⟨S1x4096x1024, .f32⟩
  | 14 => ⟨S_, .f32⟩
  | 15 => ⟨S1x4096x1024, .f32⟩
  | 16 => ⟨S1x4096x1024, .f32⟩
  | 17 => ⟨S1x4096x1024, .f32⟩
  | 18 => ⟨S_, .f32⟩
  | 19 => ⟨S1x4096x1024, .f32⟩
  | 20 => ⟨S1x4096x1024, .f32⟩
  | 21 => ⟨S1x4096x1024, .f32⟩
  | 22 => ⟨S_, .f32⟩
  | 23 => ⟨S1x4096x1024, .f32⟩
  | 24 => ⟨S1x4096x1024, .f32⟩
  | 25 => ⟨S_, .f32⟩
  | 26 => ⟨S1x4096x1024, .f32⟩
  | 27 => ⟨S1x4096x1024, .f32⟩
  | 28 => ⟨S1x4096x1024, .f32⟩
  | 29 => ⟨S1x4096x1024, .f32⟩
  | 30 => ⟨S1x4096x1024, .f32⟩
  | 31 => ⟨S1x4096x1024, .f32⟩
  | 32 => ⟨S_, .f32⟩
  | 33 => ⟨S1x4096x1024, .f32⟩
  | 34 => ⟨S1x4096x1024, .f32⟩
  | 35 => ⟨S1x4096x1024, .f32⟩
  | 36 => ⟨S_, .f32⟩
  | 37 => ⟨S1x4096x1024, .f32⟩
  | 38 => ⟨S1x4096x1024, .f32⟩
  | 39 => ⟨S1x4096x1024, .f32⟩
  | 40 => ⟨S_, .f32⟩
  | 41 => ⟨S1x4096x1024, .f32⟩
  | 42 => ⟨S1x4096x1024, .f32⟩
  | 43 => ⟨S_, .f32⟩
  | 44 => ⟨S1x4096x1024, .f32⟩
  | 45 => ⟨S1x4096x1024, .f32⟩
  | 46 => ⟨S1x4096x1024, .f32⟩
  | 47 => ⟨S1024, .f32⟩
  | 48 => ⟨S1024, .f32⟩
  | 49 => ⟨S4x128x128, .f32⟩
  | 50 => ⟨S4x128, .f32⟩
  | 51 => ⟨S_, .f32⟩
  | 52 => ⟨S1x4096, .f32⟩
  | 53 => ⟨S1x4096x1, .f32⟩
  | 54 => ⟨S_, .f32⟩
  | 55 => ⟨S1x4096x1, .f32⟩
  | 56 => ⟨S1x4096x1, .f32⟩
  | 57 => ⟨S1x4096x1024, .f32⟩
  | 58 => ⟨S1x4096x1024, .f32⟩
  | 59 => ⟨S1x4096x1024, .f32⟩
  | 60 => ⟨S_, .f32⟩
  | 61 => ⟨S1x4096, .f32⟩
  | 62 => ⟨S1x4096x1, .f32⟩
  | 63 => ⟨S_, .f32⟩
  | 64 => ⟨S1x4096x1, .f32⟩
  | 65 => ⟨S1x4096x1, .f32⟩
  | 66 => ⟨S1x4096x1024, .f32⟩
  | 67 => ⟨S1x4096x1024, .f32⟩
  | 68 => ⟨S_, .f32⟩
  | 69 => ⟨S1x4096x1, .f32⟩
  | 70 => ⟨S1x4096x1, .f32⟩
  | 71 => ⟨S1x4096x1, .f32⟩
  | 72 => ⟨S1x4096x1024, .f32⟩
  | 73 => ⟨S1x4096x1024, .f32⟩
  | 74 => ⟨S1x1x1024, .f32⟩
  | 75 => ⟨S1x4096x1024, .f32⟩
  | 76 => ⟨S1x4096x1024, .f32⟩
  | 77 => ⟨S1x1x1024, .f32⟩
  | 78 => ⟨S1x4096x1024, .f32⟩
  | 79 => ⟨S1x4096x1024, .f32⟩
  | 80 => ⟨S1x32x128x4x256, .f32⟩
  | 81 => ⟨S_, .f32⟩
  | 82 => ⟨S128x128, .f32⟩
  | 83 => ⟨S128x128, .i32⟩
  | 84 => ⟨S_, .i32⟩
  | 85 => ⟨S128x128, .i32⟩
  | 86 => ⟨S128x128, .i32⟩
  | 87 => ⟨S128x128, .i32⟩
  | 88 => ⟨S128x128, .i1⟩
  | 89 => ⟨S_, .f32⟩
  | 90 => ⟨S128x128, .f32⟩
  | 91 => ⟨S128x128, .f32⟩
  | 92 => ⟨S1x128x128, .f32⟩
  | 93 => ⟨S4x128x128, .f32⟩
  | 94 => ⟨S4x128x128, .f32⟩
  | 95 => ⟨S4x1x32x256x128, .f32⟩
  | 96 => ⟨S1x32x128x4x256, .f32⟩
  | 97 => ⟨S128x4, .f32⟩
  | 98 => ⟨S128x4x1, .f32⟩
  | 99 => ⟨S1x1x128x4x1, .f32⟩
  | 100 => ⟨S1x32x128x4x256, .f32⟩
  | 101 => ⟨S1x32x128x4x256, .f32⟩
  | 102 => ⟨S1x4096x1024, .f32⟩
  | 103 => ⟨S1x4096x1024, .f32⟩
  | 104 => ⟨S1024x1024, .f32⟩
  | 105 => ⟨S1x4096x1024, .f32⟩
  | 106 => ⟨S1024x1024, .f32⟩
  | 107 => ⟨S1x4096x1024, .f32⟩
  | 108 => ⟨S1x4096x1024, .f32⟩
  | 109 => ⟨S1x4096x1024, .f32⟩
  | 110 => ⟨S1x4096x1024, .f32⟩
  | 111 => ⟨S_, .f32⟩
  | 112 => ⟨S1x4096x1024, .f32⟩
  | 113 => ⟨S1x4096x1024, .f32⟩
  | 114 => ⟨S_, .f32⟩
  | 115 => ⟨S1x4096x1024, .f32⟩
  | 116 => ⟨S1x4096x1024, .f32⟩
  | 117 => ⟨S1x4096x1024, .f32⟩
  | 118 => ⟨S1x4096x1024, .f32⟩
  | 119 => ⟨S1x4096x1024, .f32⟩
  | 120 => ⟨S1x4096x1024, .f32⟩
  | 121 => ⟨S_, .f32⟩
  | 122 => ⟨S1x4096x1024, .f32⟩
  | 123 => ⟨S1x4096x1024, .f32⟩
  | 124 => ⟨S_, .f32⟩
  | 125 => ⟨S1x4096x1024, .f32⟩
  | 126 => ⟨S1x4096x1024, .f32⟩
  | 127 => ⟨S1x4096x1024, .f32⟩
  | _ => ⟨S1x4096x6144, .f32⟩

abbrev hbmTy0_1 (i : Nat) : BufTy := match i % 128 with
  | 0 => ⟨S1x4096x1024, .f32⟩
  | 1 => ⟨S1024x1024, .f32⟩
  | 2 => ⟨S1x4096x1024, .f32⟩
  | 3 => ⟨S1x4096x1024, .f32⟩
  | 4 => ⟨S1024, .f32⟩
  | 5 => ⟨S1x4096x1024, .f32⟩
  | 6 => ⟨S_, .f32⟩
  | 7 => ⟨S1x4096, .f32⟩
  | 8 => ⟨S1x4096x1, .f32⟩
  | 9 => ⟨S_, .f32⟩
  | 10 => ⟨S1x4096x1, .f32⟩
  | 11 => ⟨S1x4096x1, .f32⟩
  | 12 => ⟨S_, .f32⟩
  | 13 => ⟨S1x4096x1, .f32⟩
  | 14 => ⟨S1x4096x1, .f32⟩
  | 15 => ⟨S1x4096x1, .f32⟩
  | 16 => ⟨S1x4096x1024, .f32⟩
  | 17 => ⟨S1x4096x1024, .f32⟩
  | 18 => ⟨S1x1x1024, .f32⟩
  | 19 => ⟨S1x4096x1024, .f32⟩
  | 20 => ⟨S1x4096x1024, .f32⟩
  | 21 => ⟨S4096x1024, .f32⟩
  | 22 => ⟨S4096x1024, .bf16⟩
  | 23 => ⟨S4096x1024, .f32⟩
  | 24 => ⟨S4096x1024, .f32⟩
  | 25 => ⟨S4096x1024, .f32⟩
  | 26 => ⟨S4096x1024, .f32⟩
  | 27 => ⟨S4096x1024, .bf16⟩
  | _ => ⟨S1x4096x6144, .f32⟩

abbrev hbmTy (i : Nat) : BufTy := match i / 128 with
  | 0 => hbmTy0_0 i
  | 1 => hbmTy0_1 i
  | _ => ⟨S1x4096x6144, .f32⟩

abbrev bufTy : (tb : Table) → Fin (tcTables nBuf tb) → BufTy
  | .hbm, ⟨i, _⟩ => hbmTy i
  | _, _ => ⟨S1x4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_11 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_call0_v0 : Ref sig .tc := ⟨.hbm, 83, rfl⟩
abbrev main_call0_c : Ref sig .tc := ⟨.hbm, 84, rfl⟩
abbrev main_call0_v1 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_call0_cst : Ref sig .tc := ⟨.hbm, 89, rfl⟩
abbrev main_call0_v5 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_13 : Ref sig .tc := ⟨.hbm, 111, rfl⟩
abbrev main_v78 : Ref sig .tc := ⟨.hbm, 112, rfl⟩
abbrev main_v79 : Ref sig .tc := ⟨.hbm, 113, rfl⟩
abbrev main_cst_14 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_15 : Ref sig .tc := ⟨.hbm, 121, rfl⟩
abbrev main_v86 : Ref sig .tc := ⟨.hbm, 122, rfl⟩
abbrev main_v87 : Ref sig .tc := ⟨.hbm, 123, rfl⟩
abbrev main_cst_16 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_17 : Ref sig .tc := ⟨.hbm, 134, rfl⟩
abbrev main_v97 : Ref sig .tc := ⟨.hbm, 135, rfl⟩
abbrev main_v98 : Ref sig .tc := ⟨.hbm, 136, rfl⟩
abbrev main_cst_18 : Ref sig .tc := ⟨.hbm, 137, rfl⟩
abbrev main_v99 : Ref sig .tc := ⟨.hbm, 138, rfl⟩
abbrev main_v100 : Ref sig .tc := ⟨.hbm, 139, rfl⟩
abbrev main_cst_19 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩

abbrev nD : Nat := 1
abbrev τ : Topo := Topo.v7x

variable {F : FTy → Type} [FloatOps F]
-- ==== Wgrad.lean ====
abbrev S1x4096x1024 : Shape := ⟨3, ![1, 4096, 1024]⟩
abbrev S1x1024 : Shape := ⟨2, ![1, 1024]⟩
abbrev S4096x6144 : Shape := ⟨2, ![4096, 6144]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S4x1024x1536 : Shape := ⟨3, ![4, 1024, 1536]⟩
abbrev S2048x1024 : Shape := ⟨2, ![2048, 1024]⟩
abbrev S2048x1536 : Shape := ⟨2, ![2048, 1536]⟩
abbrev S1x1024x1536 : Shape := ⟨3, ![1, 1024, 1536]⟩
abbrev S1024x1536 : Shape := ⟨2, ![1024, 1536]⟩

abbrev nBuf : Space → Nat
  | .hbm => 21
  | .vmem => 7
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S4096x6144, .bf16⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4x1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1x1024x1536, .bf16⟩
  | .local _ .vmem, ⟨5, _⟩ => ⟨S1x1024x1536, .bf16⟩
  | .local _ .vmem, ⟨6, _⟩ => ⟨S1024x1536, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgradRefIdeal.lean ====
abbrev S1x4096x1024 : Shape := ⟨3, ![1, 4096, 1024]⟩
abbrev S1x1024 : Shape := ⟨2, ![1, 1024]⟩
abbrev S4096x6144 : Shape := ⟨2, ![4096, 6144]⟩
abbrev S_ : Shape := ⟨0, ![]⟩
abbrev S1x1024x6144 : Shape := ⟨3, ![1, 1024, 6144]⟩
abbrev S1024 : Shape := ⟨1, ![1024]⟩
abbrev S1x4096 : Shape := ⟨2, ![1, 4096]⟩
abbrev S1x4096x1 : Shape := ⟨3, ![1, 4096, 1]⟩
abbrev S1x1x1024 : Shape := ⟨3, ![1, 1, 1024]⟩
abbrev S1024x6144 : Shape := ⟨2, ![1024, 6144]⟩
abbrev S1x4096x6144 : Shape := ⟨3, ![1, 4096, 6144]⟩
abbrev S6144x1024 : Shape := ⟨2, ![6144, 1024]⟩
abbrev S1024x4x1536 : Shape := ⟨3, ![1024, 4, 1536]⟩
abbrev S4x1024x1536 : Shape := ⟨3, ![4, 1024, 1536]⟩

abbrev nBuf : Space → Nat
  | .hbm => 33
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S4096x6144, .bf16⟩
  | .hbm, ⟨3, _⟩ => ⟨S_, .f32⟩
  | .hbm, ⟨4, _⟩ => ⟨S1x1024x6144, .f32⟩
  | .hbm, ⟨5, _⟩ => ⟨S1024, .f32⟩
  | .hbm, ⟨6, _⟩ => ⟨S1x4096x1024, .f32⟩
  | .hbm, ⟨7, _⟩ => ⟨S_, .f32⟩
  | .hbm, ⟨8, _⟩ => ⟨S1x4096, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S1x4096x1024, .f32⟩
  | .hbm, ⟨18, _⟩ => ⟨S1x4096x1024, .f32⟩
  | .hbm, ⟨19, _⟩ => ⟨S1x1x1024, .f32⟩
  | .hbm, ⟨20, _⟩ => ⟨S1x4096x1024, .f32⟩
  | .hbm, ⟨21, _⟩ => ⟨S1x4096x1024, .f32⟩
  | .hbm, ⟨22, _⟩ => ⟨S1024x6144, .f32⟩
  | .hbm, ⟨23, _⟩ => ⟨S1x4096x6144, .f32⟩
  | .hbm, ⟨24, _⟩ => ⟨S4096x6144, .f32⟩
  | .hbm, ⟨25, _⟩ => ⟨S1x4096x6144, .f32⟩
  | .hbm, ⟨26, _⟩ => ⟨S6144x1024, .f32⟩
  | .hbm, ⟨27, _⟩ => ⟨S1024x6144, .f32⟩
  | .hbm, ⟨28, _⟩ => ⟨S1x1024x6144, .f32⟩
  | .hbm, ⟨29, _⟩ => ⟨S1024x6144, .f32⟩
  | .hbm, ⟨30, _⟩ => ⟨S1024x4x1536, .f32⟩
  | .hbm, ⟨31, _⟩ => ⟨S4x1024x1536, .f32⟩
  | .hbm, ⟨32, _⟩ => ⟨S4x1024x1536, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Wsq.lean ====
abbrev S1x4096x1024 : Shape := ⟨3, ![1, 4096, 1024]⟩
abbrev S4096x1024 : Shape := ⟨2, ![4096, 1024]⟩
abbrev S1024x1024 : Shape := ⟨2, ![1024, 1024]⟩

abbrev nBuf : Space → Nat
  | .hbm => 21
  | .vmem => 18
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1x4096x1024, .f32⟩
  | .hbm, ⟨4, _⟩ => ⟨S1x4096x1024, .f32⟩
  | .hbm, ⟨5, _⟩ => ⟨S1x4096x1024, .f32⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S4096x1024, .bf16⟩
  | .hbm, ⟨10, _⟩ => ⟨S4096x1024, .f32⟩
  | .hbm, ⟨11, _⟩ => ⟨S4096x1024, .bf16⟩
  | .hbm, ⟨12, _⟩ => ⟨S4096x1024, .f32⟩
  | .hbm, ⟨13, _⟩ => ⟨S4096x1024, .bf16⟩
  | .hbm, ⟨14, _⟩ => ⟨S4096x1024, .f32⟩
  | .hbm, ⟨15, _⟩ => ⟨S4096x1024, .bf16⟩
  | .hbm, ⟨16, _⟩ => ⟨S4096x1024, .f32⟩
  | .hbm, ⟨17, _⟩ => ⟨S4096x1024, .bf16⟩
  | .hbm, ⟨18, _⟩ => ⟨S1024x1024, .bf16⟩
  | .hbm, ⟨19, _⟩ => ⟨S1024x1024, .bf16⟩
  | .hbm, ⟨20, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v11 : BitVec 1 := Scalar.cmpi .eq arg0 c3_i32
  let v12 : BitVec 32 := Scalar.extui v11
  let c0_i32_6 : BitVec 32 := 0#32
  let v13 : BitVec 1 := Scalar.cmpi .ne v12 c0_i32_6
  v13

def k0_cond6 (i : grid0.Coords) : BitVec 1 :=
  let arg0 : BitVec 32 := BitVec.ofNat 32 (i 0).val
  let c3_i32_16 : BitVec 32 := 3#32
  let v25 : BitVec 1 := Scalar.cmpi .eq arg0 c3_i32_16
  let v26 : BitVec 32 := Scalar.extui v25
  let c0_i32_17 : BitVec 32 := 0#32
  let v27 : BitVec 1 := Scalar.cmpi .ne v26 c0_i32_17
  v27

def k0_cond9 (i : grid0.Coords) : BitVec 1 :=
  let arg0 : BitVec 32 := BitVec.ofNat 32 (i 0).val
  let c3_i32_27 : BitVec 32 := 3#32
  let v39 : BitVec 1 := Scalar.cmpi .eq arg0 c3_i32_27
  let v40 : BitVec 32 := Scalar.extui v39
  let c0_i32_28 : BitVec 32 := 0#32
  let v41 : BitVec 1 := Scalar.cmpi .ne v40 c0_i32_28
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== WsqRefIdeal.lean ====
abbrev S1x4096x1024 : Shape := ⟨3, ![1, 4096, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 29
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1x4096x1024, .f32⟩
  | .hbm, ⟨4, _⟩ => ⟨S1x4096x1024, .f32⟩
  | .hbm, ⟨5, _⟩ => ⟨S1x4096x1024, .f32⟩
  | .hbm, ⟨6, _⟩ => ⟨S_, .f32⟩
  | .hbm, ⟨7, _⟩ => ⟨S1x1024x1024, .f32⟩
  | .hbm, ⟨8, _⟩ => ⟨S1024x1024, .f32⟩
  | .hbm, ⟨9, _⟩ => ⟨S1x4096x1024, .f32⟩
  | .hbm, ⟨10, _⟩ => ⟨S1024x1024, .f32⟩
  | .hbm, ⟨11, _⟩ => ⟨S1x4096x1024, .f32⟩
  | .hbm, ⟨12, _⟩ => ⟨S1024x1024, .f32⟩
  | .hbm, ⟨13, _⟩ => ⟨S1x4096x1024, .f32⟩
  | .hbm, ⟨14, _⟩ => ⟨S1024x1024, .f32⟩
  | .hbm, ⟨15, _⟩ => ⟨S1024x1024, .f32⟩
  | .hbm, ⟨16, _⟩ => ⟨S1x1024x1024, .f32⟩
  | .hbm, ⟨17, _⟩ => ⟨S1024x1024, .f32⟩
  | .hbm, ⟨18, _⟩ => ⟨S1024x1024, .f32⟩
  | .hbm, ⟨19, _⟩ => ⟨S1x1024x1024, .f32⟩
  | .hbm, ⟨20, _⟩ => ⟨S1024x1024, .f32⟩
  | .hbm, ⟨21, _⟩ => ⟨S1024x1024, .f32⟩
  | .hbm, ⟨22, _⟩ => ⟨S1x1024x1024, .f32⟩
  | .hbm, ⟨23, _⟩ => ⟨S1024x1024, .f32⟩
  | .hbm, ⟨24, _⟩ => ⟨S1024x1024, .bf16⟩
  | .hbm, ⟨25, _⟩ => ⟨S1024x1024, .f32⟩
  | .hbm, ⟨26, _⟩ => ⟨S1024x1024, .bf16⟩
  | .hbm, ⟨27, _⟩ => ⟨S1024x1024, .f32⟩
  | .hbm, ⟨28, _⟩ => ⟨S1024x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Adamw.lean ====
abbrev S1024x1536 : Shape := ⟨2, ![1024, 1536]⟩
abbrev S256x256 : Shape := ⟨2, ![256, 256]⟩
abbrev S256x1536 : Shape := ⟨2, ![256, 1536]⟩
abbrev S64x256 : Shape := ⟨2, ![64, 256]⟩

abbrev nBuf : Space → Nat
  | .hbm => 24
  | .vmem => 48
  | .smem => 0
  | _ => 0

abbrev bufTy : (tb : Table) → Fin (tcTables nBuf tb) → BufTy
  | .hbm, ⟨0, _⟩ => ⟨S1024x1536, .f32⟩
  | .hbm, ⟨1, _⟩ => ⟨S256x256, .f32⟩
  | .hbm, ⟨2, _⟩ => ⟨S256x256, .f32⟩
  | .hbm, ⟨3, _⟩ => ⟨S1024x1536, .f32⟩
  | .hbm, ⟨4, _⟩ => ⟨S256x256, .f32⟩
  | .hbm, ⟨5, _⟩ => ⟨S256x256, .f32⟩
  | .hbm, ⟨6, _⟩ => ⟨S1024x1536, .f32⟩
  | .hbm, ⟨7, _⟩ => ⟨S256x256, .f32⟩
  | .hbm, ⟨8, _⟩ => ⟨S256x256, .f32⟩
  | .hbm, ⟨9, _⟩ => ⟨S1024x1536, .f32⟩
  | .hbm, ⟨10, _⟩ => ⟨S256x256, .f32⟩
  | .hbm, ⟨11, _⟩ => ⟨S256x256, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S1024x1536, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S256x256, .f32⟩
  | .local _ .vmem, ⟨0, _⟩ => ⟨S256x1536, .f32⟩
  | .local _ .vmem, ⟨1, _⟩ => ⟨S256x1536, .f32⟩
  | .local _ .vmem, ⟨2, _⟩ => ⟨S64x256, .f32⟩
  | .local _ .vmem, ⟨3, _⟩ => ⟨S64x256, .f32⟩
  | .local _ .vmem, ⟨4, _⟩ => ⟨S64x256, .f32⟩
  | .local _ .vmem, ⟨5, _⟩ => ⟨S64x256, .f32⟩
  | .local _ .vmem, ⟨6, _⟩ => ⟨S256x1536, .f32⟩
  | .local _ .vmem, ⟨7, _⟩ => ⟨S256x1536, .f32⟩
  | .local _ .vmem, ⟨8, _⟩ => ⟨S64x256, .f32⟩
  | .local _ .vmem, ⟨9, _⟩ => ⟨S64x256, .f32⟩
  | .local _ .vmem, ⟨10, _⟩ => ⟨S64x256, .f32⟩
  | .local _ .vmem, ⟨11, _⟩ => ⟨S64x256, .f32⟩
  | .local _ .vmem, ⟨12, _⟩ => ⟨S256x1536, .f32⟩
  | .local _ .vmem, ⟨13, _⟩ => ⟨S256x1536, .f32⟩
  | .local _ .vmem, ⟨14, _⟩ => ⟨S64x256, .f32⟩
  | .local _ .vmem, ⟨15, _⟩ => ⟨S64x256, .f32⟩
  | .local _ .vmem, ⟨16, _⟩ => ⟨S64x256, .f32⟩
  | .local _ .vmem, ⟨17, _⟩ => ⟨S64x256, .f32⟩
  | .local _ .vmem, ⟨18, _⟩ => ⟨S256x1536, .f32⟩
  | .local _ .vmem, ⟨19, _⟩ => ⟨S256x1536, .f32⟩
  | .local _ .vmem, ⟨20, _⟩ => ⟨S64x256, .f32⟩
  | .local _ .vmem, ⟨21, _⟩ => ⟨S64x256, .f32⟩
  | .local _ .vmem, ⟨22, _⟩ => ⟨S64x256, .f32⟩
  | .local _ .vmem, ⟨23, _⟩ => ⟨S64x256, .f32⟩
  | .local _ .vmem, ⟨24, _⟩ => ⟨S256x1536, .f32⟩
  | .local _ .vmem, ⟨25, _⟩ => ⟨S256x1536, .f32⟩
  | .local _ .vmem, ⟨26, _⟩ => ⟨S256x1536, .f32⟩
  | .local _ .vmem, ⟨27, _⟩ => ⟨S256x1536, .f32⟩
  | .local _ .vmem, ⟨28, _⟩ => ⟨S256x1536, .f32⟩
  | .local _ .vmem, ⟨29, _⟩ => ⟨S256x1536, .f32⟩
  | .local _ .vmem, ⟨30, _⟩ => ⟨S256x1536, .f32⟩
  | .local _ .vmem, ⟨31, _⟩ => ⟨S256x1536, .f32⟩
  | .local _ .vmem, ⟨32, _⟩ => ⟨S64x256, .f32⟩
  | .local _ .vmem, ⟨33, _⟩ => ⟨S64x256, .f32⟩
  | .local _ .vmem, ⟨34, _⟩ => ⟨S64x256, .f32⟩
  | .local _ .vmem, ⟨35, _⟩ => ⟨S64x256, .f32⟩
  | .local _ .vmem, ⟨36, _⟩ => ⟨S64x256, .f32⟩
  | .local _ .vmem, ⟨37, _⟩ => ⟨S64x256, .f32⟩
  | .local _ .vmem, ⟨38, _⟩ => ⟨S64x256, .f32⟩
  | .local _ .vmem, ⟨39, _⟩ => ⟨S64x256, .f32⟩
  | .local _ .vmem, ⟨40, _⟩ => ⟨S64x256, .f32⟩
  | .local _ .vmem, ⟨41, _⟩ => ⟨S64x256, .f32⟩
  | .local _ .vmem, ⟨42, _⟩ => ⟨S64x256, .f32⟩
  | .local _ .vmem, ⟨43, _⟩ => ⟨S64x256, .f32⟩
  | .local _ .vmem, ⟨44, _⟩ => ⟨S64x256, .f32⟩
  | .local _ .vmem, ⟨45, _⟩ => ⟨S64x256, .f32⟩
  | .local _ .vmem, ⟨46, _⟩ => ⟨S64x256, .f32⟩
  | .local _ .vmem, ⟨47, _⟩ => ⟨S64x256, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev main_v0_9 : Ref sig .tc := ⟨.hbm, 21, rfl⟩
abbrev main_v0_10 : Ref sig .tc := ⟨.hbm, 22, rfl⟩
abbrev main_v0_11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1536 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1536 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1536 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S64x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S64x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S64x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S64x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S64x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S64x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== AdamwRefIdeal.lean ====
abbrev S1024x1536 : Shape := ⟨2, ![1024, 1536]⟩
abbrev S256x256 : Shape := ⟨2, ![256, 256]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S256x256, .f32⟩
  | .hbm, ⟨2, _⟩ => ⟨S256x256, .f32⟩
  | .hbm, ⟨3, _⟩ => ⟨S1024x1536, .f32⟩
  | .hbm, ⟨4, _⟩ => ⟨S256x256, .f32⟩
  | .hbm, ⟨5, _⟩ => ⟨S256x256, .f32⟩
  | .hbm, ⟨6, _⟩ => ⟨S1024x1536, .f32⟩
  | .hbm, ⟨7, _⟩ => ⟨S256x256, .f32⟩
  | .hbm, ⟨8, _⟩ => ⟨S256x256, .f32⟩
  | .hbm, ⟨9, _⟩ => ⟨S1024x1536, .f32⟩
  | .hbm, ⟨10, _⟩ => ⟨S256x256, .f32⟩
  | .hbm, ⟨11, _⟩ => ⟨S256x256, .f32⟩
  | .hbm, ⟨12, _⟩ => ⟨S_, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S1024x1536, .f32⟩
  | .hbm, ⟨23, _⟩ => ⟨S_, .f32⟩
  | .hbm, ⟨24, _⟩ => ⟨S1024x1536, .f32⟩
  | .hbm, ⟨25, _⟩ => ⟨S1024x1536, .f32⟩
  | .hbm, ⟨26, _⟩ => ⟨S1024x1536, .f32⟩
  | .hbm, ⟨27, _⟩ => ⟨S_, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | .hbm, ⟨37, _⟩ => ⟨S1024x1536, .f32⟩
  | .hbm, ⟨38, _⟩ => ⟨S_, .f32⟩
  | .hbm, ⟨39, _⟩ => ⟨S1024x1536, .f32⟩
  | .hbm, ⟨40, _⟩ => ⟨S1024x1536, .f32⟩
  | .hbm, ⟨41, _⟩ => ⟨S1024x1536, .f32⟩
  | .hbm, ⟨42, _⟩ => ⟨S_, .f32⟩
  | .hbm, ⟨43, _⟩ => ⟨S1024x1536, .f32⟩
  | .hbm, ⟨44, _⟩ => ⟨S1024x1536, .f32⟩
  | .hbm, ⟨45, _⟩ => ⟨S_, .f32⟩
  | .hbm, ⟨46, _⟩ => ⟨S256x256, .f32⟩
  | .hbm, ⟨47, _⟩ => ⟨S256x256, .f32⟩
  | .hbm, ⟨48, _⟩ => ⟨S_, .f32⟩
  | .hbm, ⟨49, _⟩ => ⟨S256x256, .f32⟩
  | .hbm, ⟨50, _⟩ => ⟨S256x256, .f32⟩
  | .hbm, ⟨51, _⟩ => ⟨S256x256, .f32⟩
  | .hbm, ⟨52, _⟩ => ⟨S_, .f32⟩
  | .hbm, ⟨53, _⟩ => ⟨S256x256, .f32⟩
  | .hbm, ⟨54, _⟩ => ⟨S256x256, .f32⟩
  | .hbm, ⟨55, _⟩ => ⟨S256x256, .f32⟩
  | .hbm, ⟨56, _⟩ => ⟨S_, .f32⟩
  | .hbm, ⟨57, _⟩ => ⟨S256x256, .f32⟩
  | .hbm, ⟨58, _⟩ => ⟨S256x256, .f32⟩
  | .hbm, ⟨59, _⟩ => ⟨S256x256, .f32⟩
  | .hbm, ⟨60, _⟩ => ⟨S_, .f32⟩
  | .hbm, ⟨61, _⟩ => ⟨S256x256, .f32⟩
  | .hbm, ⟨62, _⟩ => ⟨S256x256, .f32⟩
  | .hbm, ⟨63, _⟩ => ⟨S_, .f32⟩
  | .hbm, ⟨64, _⟩ => ⟨S256x256, .f32⟩
  | .hbm, ⟨65, _⟩ => ⟨S256x256, .f32⟩
  | .hbm, ⟨66, _⟩ => ⟨S256x256, .f32⟩
  | .hbm, ⟨67, _⟩ => ⟨S_, .f32⟩
  | .hbm, ⟨68, _⟩ => ⟨S256x256, .f32⟩
  | .hbm, ⟨69, _⟩ => ⟨S256x256, .f32⟩
  | .hbm, ⟨70, _⟩ => ⟨S256x256, .f32⟩
  | .hbm, ⟨71, _⟩ => ⟨S_, .f32⟩
  | .hbm, ⟨72, _⟩ => ⟨S256x256, .f32⟩
  | .hbm, ⟨73, _⟩ => ⟨S256x256, .f32⟩
  | .hbm, ⟨74, _⟩ => ⟨S256x256, .f32⟩
  | .hbm, ⟨75, _⟩ => ⟨S_, .f32⟩
  | .hbm, ⟨76, _⟩ => ⟨S256x256, .f32⟩
  | .hbm, ⟨77, _⟩ => ⟨S256x256, .f32⟩
  | .hbm, ⟨78, _⟩ => ⟨S_, .f32⟩
  | .hbm, ⟨79, _⟩ => ⟨S256x256, .f32⟩
  | .hbm, ⟨80, _⟩ => ⟨S256x256, .f32⟩
  | .hbm, ⟨81, _⟩ => ⟨S_, .f32⟩
  | .hbm, ⟨82, _⟩ => ⟨S256x256, .f32⟩
  | .hbm, ⟨83, _⟩ => ⟨S256x256, .f32⟩
  | .hbm, ⟨84, _⟩ => ⟨S256x256, .f32⟩
  | .hbm, ⟨85, _⟩ => ⟨S_, .f32⟩
  | .hbm, ⟨86, _⟩ => ⟨S256x256, .f32⟩
  | .hbm, ⟨87, _⟩ => ⟨S256x256, .f32⟩
  | .hbm, ⟨88, _⟩ => ⟨S256x256, .f32⟩
  | .hbm, ⟨89, _⟩ => ⟨S_, .f32⟩
  | .hbm, ⟨90, _⟩ => ⟨S256x256, .f32⟩
  | .hbm, ⟨91, _⟩ => ⟨S256x256, .f32⟩
  | .hbm, ⟨92, _⟩ => ⟨S256x256, .f32⟩
  | .hbm, ⟨93, _⟩ => ⟨S_, .f32⟩
  | .hbm, ⟨94, _⟩ => ⟨S256x256, .f32⟩
  | .hbm, ⟨95, _⟩ => ⟨S256x256, .f32⟩
  | .hbm, ⟨96, _⟩ => ⟨S_, .f32⟩
  | .hbm, ⟨97, _⟩ => ⟨S256x256, .f32⟩
  | .hbm, ⟨98, _⟩ => ⟨S256x256, .f32⟩
  | .hbm, ⟨99, _⟩ => ⟨S256x256, .f32⟩
  | .hbm, ⟨100, _⟩ => ⟨S_, .f32⟩
  | .hbm, ⟨101, _⟩ => ⟨S256x256, .f32⟩
  | .hbm, ⟨102, _⟩ => ⟨S256x256, .f32⟩
  | .hbm, ⟨103, _⟩ => ⟨S256x256, .f32⟩
  | .hbm, ⟨104, _⟩ => ⟨S_, .f32⟩
  | .hbm, ⟨105, _⟩ => ⟨S256x256, .f32⟩
  | .hbm, ⟨106, _⟩ => ⟨S256x256, .f32⟩
  | .hbm, ⟨107, _⟩ => ⟨S256x256, .f32⟩
  | .hbm, ⟨108, _⟩ => ⟨S_, .f32⟩
  | .hbm, ⟨109, _⟩ => ⟨S256x256, .f32⟩
  | .hbm, ⟨110, _⟩ => ⟨S256x256, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== SmallA.lean ====
abbrev S1x1024 : Shape := ⟨2, ![1, 1024]⟩
abbrev S4x256 : Shape := ⟨2, ![4, 256]⟩
abbrev S4x64 : Shape := ⟨2, ![4, 64]⟩

abbrev nBuf : Space → Nat
  | .hbm => 28
  | .vmem => 28
  | .smem => 0
  | _ => 0

abbrev bufTy : (tb : Table) → Fin (tcTables nBuf tb) → BufTy
  | .hbm, ⟨0, _⟩ => ⟨S1x1024, .f32⟩
  | .hbm, ⟨1, _⟩ => ⟨S4x256, .f32⟩
  | .hbm, ⟨2, _⟩ => ⟨S1x1024, .f32⟩
  | .hbm, ⟨3, _⟩ => ⟨S4x64, .f32⟩
  | .hbm, ⟨4, _⟩ => ⟨S1x1024, .f32⟩
  | .hbm, ⟨5, _⟩ => ⟨S4x256, .f32⟩
  | .hbm, ⟨6, _⟩ => ⟨S1x1024, .f32⟩
  | .hbm, ⟨7, _⟩ => ⟨S4x64, .f32⟩
  | .hbm, ⟨8, _⟩ => ⟨S1x1024, .f32⟩
  | .hbm, ⟨9, _⟩ => ⟨S4x256, .f32⟩
  | .hbm, ⟨10, _⟩ => ⟨S1x1024, .f32⟩
  | .hbm, ⟨11, _⟩ => ⟨S4x64, .f32⟩
  | .hbm, ⟨12, _⟩ => ⟨S1x1024, .f32⟩
  | .hbm, ⟨13, _⟩ => ⟨S4x256, .f32⟩
  | .hbm, ⟨14, _⟩ => ⟨S1x1024, .f32⟩
  | .hbm, ⟨15, _⟩ => ⟨S4x64, .f32⟩
  | .hbm, ⟨16, _⟩ => ⟨S1x1024, .f32⟩
  | .hbm, ⟨17, _⟩ => ⟨S4x256, .f32⟩
  | .hbm, ⟨18, _⟩ => ⟨S1x1024, .f32⟩
  | .hbm, ⟨19, _⟩ => ⟨S4x64, .f32⟩
  | .hbm, ⟨20, _⟩ => ⟨S1x1024, .f32⟩
  | .hbm, ⟨21, _⟩ => ⟨S4x256, .f32⟩
  | .hbm, ⟨22, _⟩ => ⟨S1x1024, .f32⟩
  | .hbm, ⟨23, _⟩ => ⟨S4x64, .f32⟩
  | .hbm, ⟨24, _⟩ => ⟨S1x1024, .f32⟩
  | .hbm, ⟨25, _⟩ => ⟨S4x256, .f32⟩
  | .hbm, ⟨26, _⟩ => ⟨S1x1024, .f32⟩
  | .hbm, ⟨27, _⟩ => ⟨S4x64, .f32⟩
  | .local _ .vmem, ⟨0, _⟩ => ⟨S1x1024, .f32⟩
  | .local _ .vmem, ⟨1, _⟩ => ⟨S4x256, .f32⟩
  | .local _ .vmem, ⟨2, _⟩ => ⟨S1x1024, .f32⟩
  | .local _ .vmem, ⟨3, _⟩ => ⟨S4x64, .f32⟩
  | .local _ .vmem, ⟨4, _⟩ => ⟨S1x1024, .f32⟩
  | .local _ .vmem, ⟨5, _⟩ => ⟨S4x256, .f32⟩
  | .local _ .vmem, ⟨6, _⟩ => ⟨S1x1024, .f32⟩
  | .local _ .vmem, ⟨7, _⟩ => ⟨S4x64, .f32⟩
  | .local _ .vmem, ⟨8, _⟩ => ⟨S1x1024, .f32⟩
  | .local _ .vmem, ⟨9, _⟩ => ⟨S4x256, .f32⟩
  | .local _ .vmem, ⟨10, _⟩ => ⟨S1x1024, .f32⟩
  | .local _ .vmem, ⟨11, _⟩ => ⟨S4x64, .f32⟩
  | .local _ .vmem, ⟨12, _⟩ => ⟨S1x1024, .f32⟩
  | .local _ .vmem, ⟨13, _⟩ => ⟨S4x256, .f32⟩
  | .local _ .vmem, ⟨14, _⟩ => ⟨S1x1024, .f32⟩
  | .local _ .vmem, ⟨15, _⟩ => ⟨S4x64, .f32⟩
  | .local _ .vmem, ⟨16, _⟩ => ⟨S1x1024, .f32⟩
  | .local _ .vmem, ⟨17, _⟩ => ⟨S4x256, .f32⟩
  | .local _ .vmem, ⟨18, _⟩ => ⟨S1x1024, .f32⟩
  | .local _ .vmem, ⟨19, _⟩ => ⟨S4x64, .f32⟩
  | .local _ .vmem, ⟨20, _⟩ => ⟨S1x1024, .f32⟩
  | .local _ .vmem, ⟨21, _⟩ => ⟨S4x256, .f32⟩
  | .local _ .vmem, ⟨22, _⟩ => ⟨S1x1024, .f32⟩
  | .local _ .vmem, ⟨23, _⟩ => ⟨S4x64, .f32⟩
  | .local _ .vmem, ⟨24, _⟩ => ⟨S1x1024, .f32⟩
  | .local _ .vmem, ⟨25, _⟩ => ⟨S4x256, .f32⟩
  | .local _ .vmem, ⟨26, _⟩ => ⟨S1x1024, .f32⟩
  | .local _ .vmem, ⟨27, _⟩ => ⟨S4x64, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S4x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S4x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S4x64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S4x256 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S4x64 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== SmallAIdeal.lean ====
abbrev S1x1024 : Shape := ⟨2, ![1, 1024]⟩
abbrev S4x256 : Shape := ⟨2, ![4, 256]⟩
abbrev S4x64 : Shape := ⟨2, ![4, 64]⟩

abbrev nBuf : Space → Nat
  | .hbm => 28
  | .vmem => 28
  | .smem => 0
  | _ => 0

abbrev bufTy : (tb : Table) → Fin (tcTables nBuf tb) → BufTy
  | .hbm, ⟨0, _⟩ => ⟨S1x1024, .f32⟩
  | .hbm, ⟨1, _⟩ => ⟨S4x256, .f32⟩
  | .hbm, ⟨2, _⟩ => ⟨S1x1024, .f32⟩
  | .hbm, ⟨3, _⟩ => ⟨S4x64, .f32⟩
  | .hbm, ⟨4, _⟩ => ⟨S1x1024, .f32⟩
  | .hbm, ⟨5, _⟩ => ⟨S4x256, .f32⟩
  | .hbm, ⟨6, _⟩ => ⟨S1x1024, .f32⟩
  | .hbm, ⟨7, _⟩ => ⟨S4x64, .f32⟩
  | .hbm, ⟨8, _⟩ => ⟨S1x1024, .f32⟩
  | .hbm, ⟨9, _⟩ => ⟨S4x256, .f32⟩
  | .hbm, ⟨10, _⟩ => ⟨S1x1024, .f32⟩
  | .hbm, ⟨11, _⟩ => ⟨S4x64, .f32⟩
  | .hbm, ⟨12, _⟩ => ⟨S1x1024, .f32⟩
  | .hbm, ⟨13, _⟩ => ⟨S4x256, .f32⟩
  | .hbm, ⟨14, _⟩ => ⟨S1x1024, .f32⟩
  | .hbm, ⟨15, _⟩ => ⟨S4x64, .f32⟩
  | .hbm, ⟨16, _⟩ => ⟨S1x1024, .f32⟩
  | .hbm, ⟨17, _⟩ => ⟨S4x256, .f32⟩
  | .hbm, ⟨18, _⟩ => ⟨S1x1024, .f32⟩
  | .hbm, ⟨19, _⟩ => ⟨S4x64, .f32⟩
  | .hbm, ⟨20, _⟩ => ⟨S1x1024, .f32⟩
  | .hbm, ⟨21, _⟩ => ⟨S4x256, .f32⟩
  | .hbm, ⟨22, _⟩ => ⟨S1x1024, .f32⟩
  | .hbm, ⟨23, _⟩ => ⟨S4x64, .f32⟩
  | .hbm, ⟨24, _⟩ => ⟨S1x1024, .f32⟩
  | .hbm, ⟨25, _⟩ => ⟨S4x256, .f32⟩
  | .hbm, ⟨26, _⟩ => ⟨S1x1024, .f32⟩
  | .hbm, ⟨27, _⟩ => ⟨S4x64, .f32⟩
  | .local _ .vmem, ⟨0, _⟩ => ⟨S1x1024, .f32⟩
  | .local _ .vmem, ⟨1, _⟩ => ⟨S4x256, .f32⟩
  | .local _ .vmem, ⟨2, _⟩ => ⟨S1x1024, .f32⟩
  | .local _ .vmem, ⟨3, _⟩ => ⟨S4x64, .f32⟩
  | .local _ .vmem, ⟨4, _⟩ => ⟨S1x1024, .f32⟩
  | .local _ .vmem, ⟨5, _⟩ => ⟨S4x256, .f32⟩
  | .local _ .vmem, ⟨6, _⟩ => ⟨S1x1024, .f32⟩
  | .local _ .vmem, ⟨7, _⟩ => ⟨S4x64, .f32⟩
  | .local _ .vmem, ⟨8, _⟩ => ⟨S1x1024, .f32⟩
  | .local _ .vmem, ⟨9, _⟩ => ⟨S4x256, .f32⟩
  | .local _ .vmem, ⟨10, _⟩ => ⟨S1x1024, .f32⟩
  | .local _ .vmem, ⟨11, _⟩ => ⟨S4x64, .f32⟩
  | .local _ .vmem, ⟨12, _⟩ => ⟨S1x1024, .f32⟩
  | .local _ .vmem, ⟨13, _⟩ => ⟨S4x256, .f32⟩
  | .local _ .vmem, ⟨14, _⟩ => ⟨S1x1024, .f32⟩
  | .local _ .vmem, ⟨15, _⟩ => ⟨S4x64, .f32⟩
  | .local _ .vmem, ⟨16, _⟩ => ⟨S1x1024, .f32⟩
  | .local _ .vmem, ⟨17, _⟩ => ⟨S4x256, .f32⟩
  | .local _ .vmem, ⟨18, _⟩ => ⟨S1x1024, .f32⟩
  | .local _ .vmem, ⟨19, _⟩ => ⟨S4x64, .f32⟩
  | .local _ .vmem, ⟨20, _⟩ => ⟨S1x1024, .f32⟩
  | .local _ .vmem, ⟨21, _⟩ => ⟨S4x256, .f32⟩
  | .local _ .vmem, ⟨22, _⟩ => ⟨S1x1024, .f32⟩
  | .local _ .vmem, ⟨23, _⟩ => ⟨S4x64, .f32⟩
  | .local _ .vmem, ⟨24, _⟩ => ⟨S1x1024, .f32⟩
  | .local _ .vmem, ⟨25, _⟩ => ⟨S4x256, .f32⟩
  | .local _ .vmem, ⟨26, _⟩ => ⟨S1x1024, .f32⟩
  | .local _ .vmem, ⟨27, _⟩ => ⟨S4x64, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S4x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S4x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S4x64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S4x256 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S4x64 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== SmallARefIdeal.lean ====
abbrev S1x1024 : Shape := ⟨2, ![1, 1024]⟩
abbrev S4x256 : Shape := ⟨2, ![4, 256]⟩
abbrev S4x64 : Shape := ⟨2, ![4, 64]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S1x1024, .f32⟩
  | 1 => ⟨S4x256, .f32⟩
  | 2 => ⟨S1x1024, .f32⟩
  | 3 => ⟨S4x64, .f32⟩
  | 4 => ⟨S1x1024, .f32⟩
  | 5 => ⟨S4x256, .f32⟩
  | 6 => ⟨S1x1024, .f32⟩
  | 7 => ⟨S4x64, .f32⟩
  | 8 => ⟨S1x1024, .f32⟩
  | 9 => ⟨S4x256, .f32⟩
  | 10 => ⟨S1x1024, .f32⟩
  | 11 => ⟨S4x64, .f32⟩
  | 12 => ⟨S1x1024, .f32⟩
  | 13 => ⟨S4x256, .f32⟩
  | 14 => ⟨S1x1024, .f32⟩
  | 15 => ⟨S4x64, .f32⟩
  | 16 => ⟨S_, .f32⟩
  | 17 => ⟨S1x1024, .f32⟩
  | 18 => ⟨S1x1024, .f32⟩
  | 19 => ⟨S_, .f32⟩
  | 20 => ⟨S1x1024, .f32⟩
  | 21 => ⟨S1x1024, .f32⟩
  | 22 => ⟨S1x1024, .f32⟩
  | 23 => ⟨S_, .f32⟩
  | 24 => ⟨S1x1024, .f32⟩
  | 25 => ⟨S1x1024, .f32⟩
  | 26 => ⟨S1x1024, .f32⟩
  | 27 => ⟨S_, .f32⟩
  | 28 => ⟨S1x1024, .f32⟩
  | 29 => ⟨S1x1024, .f32⟩
  | 30 => ⟨S1x1024, .f32⟩
  | 31 => ⟨S_, .f32⟩
  | 32 => ⟨S1x1024, .f32⟩
  | 33 => ⟨S1x1024, .f32⟩
  | 34 => ⟨S_, .f32⟩
  | 35 => ⟨S1x1024, .f32⟩
  | 36 => ⟨S1x1024, .f32⟩
  | 37 => ⟨S1x1024, .f32⟩
  | 38 => ⟨S_, .f32⟩
  | 39 => ⟨S1x1024, .f32⟩
  | 40 => ⟨S1x1024, .f32⟩
  | 41 => ⟨S1x1024, .f32⟩
  | 42 => ⟨S_, .f32⟩
  | 43 => ⟨S1x1024, .f32⟩
  | 44 => ⟨S1x1024, .f32⟩
  | 45 => ⟨S1x1024, .f32⟩
  | 46 => ⟨S_, .f32⟩
  | 47 => ⟨S1x1024, .f32⟩
  | 48 => ⟨S1x1024, .f32⟩
  | 49 => ⟨S_, .f32⟩
  | 50 => ⟨S4x256, .f32⟩
  | 51 => ⟨S4x256, .f32⟩
  | 52 => ⟨S_, .f32⟩
  | 53 => ⟨S4x256, .f32⟩
  | 54 => ⟨S4x256, .f32⟩
  | 55 => ⟨S4x256, .f32⟩
  | 56 => ⟨S_, .f32⟩
  | 57 => ⟨S4x256, .f32⟩
  | 58 => ⟨S4x256, .f32⟩
  | 59 => ⟨S4x256, .f32⟩
  | 60 => ⟨S_, .f32⟩
  | 61 => ⟨S4x256, .f32⟩
  | 62 => ⟨S4x256, .f32⟩
  | 63 => ⟨S4x256, .f32⟩
  | 64 => ⟨S_, .f32⟩
  | 65 => ⟨S4x256, .f32⟩
  | 66 => ⟨S4x256, .f32⟩
  | 67 => ⟨S_, .f32⟩
  | 68 => ⟨S4x256, .f32⟩
  | 69 => ⟨S4x256, .f32⟩
  | 70 => ⟨S4x256, .f32⟩
  | 71 => ⟨S_, .f32⟩
  | 72 => ⟨S4x256, .f32⟩
  | 73 => ⟨S4x256, .f32⟩
  | 74 => ⟨S4x256, .f32⟩
  | 75 => ⟨S_, .f32⟩
  | 76 => ⟨S4x256, .f32⟩
  | 77 => ⟨S4x256, .f32⟩
  | 78 => ⟨S4x256, .f32⟩
  | 79 => ⟨S_, .f32⟩
  | 80 => ⟨S4x256, .f32⟩
  | 81 => ⟨S4x256, .f32⟩
  | 82 => ⟨S_, .f32⟩
  | 83 => ⟨S1x1024, .f32⟩
  | 84 => ⟨S1x1024, .f32⟩
  | 85 => ⟨S_, .f32⟩
  | 86 => ⟨S1x1024, .f32⟩
  | 87 => ⟨S1x1024, .f32⟩
  | 88 => ⟨S1x1024, .f32⟩
  | 89 => ⟨S_, .f32⟩
  | 90 => ⟨S1x1024, .f32⟩
  | 91 => ⟨S1x1024, .f32⟩
  | 92 => ⟨S1x1024, .f32⟩
  | 93 => ⟨S_, .f32⟩
  | 94 => ⟨S1x1024, .f32⟩
  | 95 => ⟨S1x1024, .f32⟩
  | 96 => ⟨S1x1024, .f32⟩
  | 97 => ⟨S_, .f32⟩
  | 98 => ⟨S1x1024, .f32⟩
  | 99 => ⟨S1x1024, .f32⟩
  | 100 => ⟨S_, .f32⟩
  | 101 => ⟨S1x1024, .f32⟩
  | 102 => ⟨S1x1024, .f32⟩
  | 103 => ⟨S1x1024, .f32⟩
  | 104 => ⟨S_, .f32⟩
  | 105 => ⟨S1x1024, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S_, .f32⟩
  | 116 => ⟨S4x64, .f32⟩
  | 117 => ⟨S4x64, .f32⟩
  | 118 => ⟨S_, .f32⟩
  | 119 => ⟨S4x64, .f32⟩
  | 120 => ⟨S4x64, .f32⟩
  | 121 => ⟨S4x64, .f32⟩
  | 122 => ⟨S_, .f32⟩
  | 123 => ⟨S4x64, .f32⟩
  | 124 => ⟨S4x64, .f32⟩
  | 125 => ⟨S4x64, .f32⟩
  | 126 => ⟨S_, .f32⟩
  | 127 => ⟨S4x64, .f32⟩
  | _ => ⟨S1x1024, .f32⟩

abbrev hbmTy0_1 (i : Nat) : BufTy := match i % 128 with
  | 0 => ⟨S4x64, .f32⟩
  | 1 => ⟨S4x64, .f32⟩
  | 2 => ⟨S_, .f32⟩
  | 3 => ⟨S4x64, .f32⟩
  | 4 => ⟨S4x64, .f32⟩
  | 5 => ⟨S_, .f32⟩
  | 6 => ⟨S4x64, .f32⟩
  | 7 => ⟨S4x64, .f32⟩
  | 8 => ⟨S4x64, .f32⟩
  | 9 => ⟨S_, .f32⟩
  | 10 => ⟨S4x64, .f32⟩
  | 11 => ⟨S4x64, .f32⟩
  | 12 => ⟨S4x64, .f32⟩
  | 13 => ⟨S_, .f32⟩
  | 14 => ⟨S4x64, .f32⟩
  | 15 => ⟨S4x64, .f32⟩
  | 16 => ⟨S4x64, .f32⟩
  | 17 => ⟨S_, .f32⟩
  | 18 => ⟨S4x64, .f32⟩
  | 19 => ⟨S4x64, .f32⟩
  | _ => ⟨S1x1024, .f32⟩

abbrev hbmTy (i : Nat) : BufTy := match i / 128 with
  | 0 => hbmTy0_0 i
  | 1 => hbmTy0_1 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== SmallB.lean ====
abbrev S4x64 : Shape := ⟨2, ![4, 64]⟩
abbrev S1x1024 : Shape := ⟨2, ![1, 1024]⟩

abbrev nBuf : Space → Nat
  | .hbm => 28
  | .vmem => 28
  | .smem => 0
  | _ => 0

abbrev bufTy : (tb : Table) → Fin (tcTables nBuf tb) → BufTy
  | .hbm, ⟨0, _⟩ => ⟨S4x64, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4x64, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4x64, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S4x64, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S4x64, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S4x64, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S4x64, .f32⟩
  | .hbm, ⟨25, _⟩ => ⟨S1x1024, .f32⟩
  | .hbm, ⟨26, _⟩ => ⟨S1x1024, .f32⟩
  | .hbm, ⟨27, _⟩ => ⟨S1x1024, .f32⟩
  | .local _ .vmem, ⟨0, _⟩ => ⟨S4x64, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S4x64, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S4x64, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S4x64, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S4x64, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S4x64, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S4x64, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S4x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S4x64 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== SmallBIdeal.lean ====
abbrev S4x64 : Shape := ⟨2, ![4, 64]⟩
abbrev S1x1024 : Shape := ⟨2, ![1, 1024]⟩

abbrev nBuf : Space → Nat
  | .hbm => 28
  | .vmem => 28
  | .smem => 0
  | _ => 0

abbrev bufTy : (tb : Table) → Fin (tcTables nBuf tb) → BufTy
  | .hbm, ⟨0, _⟩ => ⟨S4x64, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4x64, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4x64, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S4x64, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S4x64, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S4x64, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S4x64, .f32⟩
  | .hbm, ⟨25, _⟩ => ⟨S1x1024, .f32⟩
  | .hbm, ⟨26, _⟩ => ⟨S1x1024, .f32⟩
  | .hbm, ⟨27, _⟩ => ⟨S1x1024, .f32⟩
  | .local _ .vmem, ⟨0, _⟩ => ⟨S4x64, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S4x64, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S4x64, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S4x64, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S4x64, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S4x64, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S4x64, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S4x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S4x64 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== SmallBRefIdeal.lean ====
abbrev S4x64 : Shape := ⟨2, ![4, 64]⟩
abbrev S1x1024 : Shape := ⟨2, ![1, 1024]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S4x64, .f32⟩
  | 1 => ⟨S1x1024, .f32⟩
  | 2 => ⟨S1x1024, .f32⟩
  | 3 => ⟨S1x1024, .f32⟩
  | 4 => ⟨S4x64, .f32⟩
  | 5 => ⟨S1x1024, .f32⟩
  | 6 => ⟨S1x1024, .f32⟩
  | 7 => ⟨S1x1024, .f32⟩
  | 8 => ⟨S4x64, .f32⟩
  | 9 => ⟨S1x1024, .f32⟩
  | 10 => ⟨S1x1024, .f32⟩
  | 11 => ⟨S1x1024, .f32⟩
  | 12 => ⟨S4x64, .f32⟩
  | 13 => ⟨S1x1024, .f32⟩
  | 14 => ⟨S1x1024, .f32⟩
  | 15 => ⟨S1x1024, .f32⟩
  | 16 => ⟨S_, .f32⟩
  | 17 => ⟨S4x64, .f32⟩
  | 18 => ⟨S4x64, .f32⟩
  | 19 => ⟨S_, .f32⟩
  | 20 => ⟨S4x64, .f32⟩
  | 21 => ⟨S4x64, .f32⟩
  | 22 => ⟨S4x64, .f32⟩
  | 23 => ⟨S_, .f32⟩
  | 24 => ⟨S4x64, .f32⟩
  | 25 => ⟨S4x64, .f32⟩
  | 26 => ⟨S4x64, .f32⟩
  | 27 => ⟨S_, .f32⟩
  | 28 => ⟨S4x64, .f32⟩
  | 29 => ⟨S4x64, .f32⟩
  | 30 => ⟨S4x64, .f32⟩
  | 31 => ⟨S_, .f32⟩
  | 32 => ⟨S4x64, .f32⟩
  | 33 => ⟨S4x64, .f32⟩
  | 34 => ⟨S_, .f32⟩
  | 35 => ⟨S4x64, .f32⟩
  | 36 => ⟨S4x64, .f32⟩
  | 37 => ⟨S4x64, .f32⟩
  | 38 => ⟨S_, .f32⟩
  | 39 => ⟨S4x64, .f32⟩
  | 40 => ⟨S4x64, .f32⟩
  | 41 => ⟨S4x64, .f32⟩
  | 42 => ⟨S_, .f32⟩
  | 43 => ⟨S4x64, .f32⟩
  | 44 => ⟨S4x64, .f32⟩
  | 45 => ⟨S4x64, .f32⟩
  | 46 => ⟨S_, .f32⟩
  | 47 => ⟨S4x64, .f32⟩
  | 48 => ⟨S4x64, .f32⟩
  | 49 => ⟨S_, .f32⟩
  | 50 => ⟨S1x1024, .f32⟩
  | 51 => ⟨S1x1024, .f32⟩
  | 52 => ⟨S_, .f32⟩
  | 53 => ⟨S1x1024, .f32⟩
  | 54 => ⟨S1x1024, .f32⟩
  | 55 => ⟨S1x1024, .f32⟩
  | 56 => ⟨S_, .f32⟩
  | 57 => ⟨S1x1024, .f32⟩
  | 58 => ⟨S1x1024, .f32⟩
  | 59 => ⟨S1x1024, .f32⟩
  | 60 => ⟨S_, .f32⟩
  | 61 => ⟨S1x1024, .f32⟩
  | 62 => ⟨S1x1024, .f32⟩
  | 63 => ⟨S1x1024, .f32⟩
  | 64 => ⟨S_, .f32⟩
  | 65 => ⟨S1x1024, .f32⟩
  | 66 => ⟨S1x1024, .f32⟩
  | 67 => ⟨S_, .f32⟩
  | 68 => ⟨S1x1024, .f32⟩
  | 69 => ⟨S1x1024, .f32⟩
  | 70 => ⟨S1x1024, .f32⟩
  | 71 => ⟨S_, .f32⟩
  | 72 => ⟨S1x1024, .f32⟩
  | 73 => ⟨S1x1024, .f32⟩
  | 74 => ⟨S1x1024, .f32⟩
  | 75 => ⟨S_, .f32⟩
  | 76 => ⟨S1x1024, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S_, .f32⟩
  | 83 => ⟨S1x1024, .f32⟩
  | 84 => ⟨S1x1024, .f32⟩
  | 85 => ⟨S_, .f32⟩
  | 86 => ⟨S1x1024, .f32⟩
  | 87 => ⟨S1x1024, .f32⟩
  | 88 => ⟨S1x1024, .f32⟩
  | 89 => ⟨S_, .f32⟩
  | 90 => ⟨S1x1024, .f32⟩
  | 91 => ⟨S1x1024, .f32⟩
  | 92 => ⟨S1x1024, .f32⟩
  | 93 => ⟨S_, .f32⟩
  | 94 => ⟨S1x1024, .f32⟩
  | 95 => ⟨S1x1024, .f32⟩
  | 96 => ⟨S1x1024, .f32⟩
  | 97 => ⟨S_, .f32⟩
  | 98 => ⟨S1x1024, .f32⟩
  | 99 => ⟨S1x1024, .f32⟩
  | 100 => ⟨S_, .f32⟩
  | 101 => ⟨S1x1024, .f32⟩
  | 102 => ⟨S1x1024, .f32⟩
  | 103 => ⟨S1x1024, .f32⟩
  | 104 => ⟨S_, .f32⟩
  | 105 => ⟨S1x1024, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S_, .f32⟩
  | 116 => ⟨S1x1024, .f32⟩
  | 117 => ⟨S1x1024, .f32⟩
  | 118 => ⟨S_, .f32⟩
  | 119 => ⟨S1x1024, .f32⟩
  | 120 => ⟨S1x1024, .f32⟩
  | 121 => ⟨S1x1024, .f32⟩
  | 122 => ⟨S_, .f32⟩
  | 123 => ⟨S1x1024, .f32⟩
  | 124 => ⟨S1x1024, .f32⟩
  | 125 => ⟨S1x1024, .f32⟩
  | 126 => ⟨S_, .f32⟩
  | 127 => ⟨S1x1024, .f32⟩
  | _ => ⟨S4x64, .f32⟩

abbrev hbmTy0_1 (i : Nat) : BufTy := match i % 128 with
  | 0 => ⟨S1x1024, .f32⟩
  | 1 => ⟨S1x1024, .f32⟩
  | 2 => ⟨S_, .f32⟩
  | 3 => ⟨S1x1024, .f32⟩
  | 4 => ⟨S1x1024, .f32⟩
  | 5 => ⟨S_, .f32⟩
  | 6 => ⟨S1x1024, .f32⟩
  | 7 => ⟨S1x1024, .f32⟩
  | 8 => ⟨S1x1024, .f32⟩
  | 9 => ⟨S_, .f32⟩
  | 10 => ⟨S1x1024, .f32⟩
  | 11 => ⟨S1x1024, .f32⟩
  | 12 => ⟨S1x1024, .f32⟩
  | 13 => ⟨S_, .f32⟩
  | 14 => ⟨S1x1024, .f32⟩
  | 15 => ⟨S1x1024, .f32⟩
  | 16 => ⟨S1x1024, .f32⟩
  | 17 => ⟨S_, .f32⟩
  | 18 => ⟨S1x1024, .f32⟩
  | 19 => ⟨S1x1024, .f32⟩
  | _ => ⟨S4x64, .f32⟩

abbrev hbmTy (i : Nat) : BufTy := match i / 128 with
  | 0 => hbmTy0_0 i
  | 1 => hbmTy0_1 i
  | _ => ⟨S4x64, .f32⟩

abbrev bufTy : (tb : Table) → Fin (tcTables nBuf tb) → BufTy
  | .hbm, ⟨i, _⟩ => hbmTy i
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== SmallC.lean ====
abbrev S512x128 : Shape := ⟨2, ![512, 128]⟩
abbrev S4x128 : Shape := ⟨2, ![4, 128]⟩
abbrev S1x1024 : Shape := ⟨2, ![1, 1024]⟩

abbrev nBuf : Space → Nat
  | .hbm => 28
  | .vmem => 28
  | .smem => 0
  | _ => 0

abbrev bufTy : (tb : Table) → Fin (tcTables nBuf tb) → BufTy
  | .hbm, ⟨0, _⟩ => ⟨S512x128, .f32⟩
  | .hbm, ⟨1, _⟩ => ⟨S4x128, .f32⟩
  | .hbm, ⟨2, _⟩ => ⟨S1x1024, .f32⟩
  | .hbm, ⟨3, _⟩ => ⟨S1x1024, .f32⟩
  | .hbm, ⟨4, _⟩ => ⟨S512x128, .f32⟩
  | .hbm, ⟨5, _⟩ => ⟨S4x128, .f32⟩
  | .hbm, ⟨6, _⟩ => ⟨S1x1024, .f32⟩
  | .hbm, ⟨7, _⟩ => ⟨S1x1024, .f32⟩
  | .hbm, ⟨8, _⟩ => ⟨S512x128, .f32⟩
  | .hbm, ⟨9, _⟩ => ⟨S4x128, .f32⟩
  | .hbm, ⟨10, _⟩ => ⟨S1x1024, .f32⟩
  | .hbm, ⟨11, _⟩ => ⟨S1x1024, .f32⟩
  | .hbm, ⟨12, _⟩ => ⟨S512x128, .f32⟩
  | .hbm, ⟨13, _⟩ => ⟨S4x128, .f32⟩
  | .hbm, ⟨14, _⟩ => ⟨S1x1024, .f32⟩
  | .hbm, ⟨15, _⟩ => ⟨S1x1024, .f32⟩
  | .hbm, ⟨16, _⟩ => ⟨S512x128, .f32⟩
  | .hbm, ⟨17, _⟩ => ⟨S4x128, .f32⟩
  | .hbm, ⟨18, _⟩ => ⟨S1x1024, .f32⟩
  | .hbm, ⟨19, _⟩ => ⟨S1x1024, .f32⟩
  | .hbm, ⟨20, _⟩ => ⟨S512x128, .f32⟩
  | .hbm, ⟨21, _⟩ => ⟨S4x128, .f32⟩
  | .hbm, ⟨22, _⟩ => ⟨S1x1024, .f32⟩
  | .hbm, ⟨23, _⟩ => ⟨S1x1024, .f32⟩
  | .hbm, ⟨24, _⟩ => ⟨S512x128, .f32⟩
  | .hbm, ⟨25, _⟩ => ⟨S4x128, .f32⟩
  | .hbm, ⟨26, _⟩ => ⟨S1x1024, .f32⟩
  | .hbm, ⟨27, _⟩ => ⟨S1x1024, .f32⟩
  | .local _ .vmem, ⟨0, _⟩ => ⟨S512x128, .f32⟩
  | .local _ .vmem, ⟨1, _⟩ => ⟨S4x128, .f32⟩
  | .local _ .vmem, ⟨2, _⟩ => ⟨S1x1024, .f32⟩
  | .local _ .vmem, ⟨3, _⟩ => ⟨S1x1024, .f32⟩
  | .local _ .vmem, ⟨4, _⟩ => ⟨S512x128, .f32⟩
  | .local _ .vmem, ⟨5, _⟩ => ⟨S4x128, .f32⟩
  | .local _ .vmem, ⟨6, _⟩ => ⟨S1x1024, .f32⟩
  | .local _ .vmem, ⟨7, _⟩ => ⟨S1x1024, .f32⟩
  | .local _ .vmem, ⟨8, _⟩ => ⟨S512x128, .f32⟩
  | .local _ .vmem, ⟨9, _⟩ => ⟨S4x128, .f32⟩
  | .local _ .vmem, ⟨10, _⟩ => ⟨S1x1024, .f32⟩
  | .local _ .vmem, ⟨11, _⟩ => ⟨S1x1024, .f32⟩
  | .local _ .vmem, ⟨12, _⟩ => ⟨S512x128, .f32⟩
  | .local _ .vmem, ⟨13, _⟩ => ⟨S4x128, .f32⟩
  | .local _ .vmem, ⟨14, _⟩ => ⟨S1x1024, .f32⟩
  | .local _ .vmem, ⟨15, _⟩ => ⟨S1x1024, .f32⟩
  | .local _ .vmem, ⟨16, _⟩ => ⟨S512x128, .f32⟩
  | .local _ .vmem, ⟨17, _⟩ => ⟨S4x128, .f32⟩
  | .local _ .vmem, ⟨18, _⟩ => ⟨S1x1024, .f32⟩
  | .local _ .vmem, ⟨19, _⟩ => ⟨S1x1024, .f32⟩
  | .local _ .vmem, ⟨20, _⟩ => ⟨S512x128, .f32⟩
  | .local _ .vmem, ⟨21, _⟩ => ⟨S4x128, .f32⟩
  | .local _ .vmem, ⟨22, _⟩ => ⟨S1x1024, .f32⟩
  | .local _ .vmem, ⟨23, _⟩ => ⟨S1x1024, .f32⟩
  | .local _ .vmem, ⟨24, _⟩ => ⟨S512x128, .f32⟩
  | .local _ .vmem, ⟨25, _⟩ => ⟨S4x128, .f32⟩
  | .local _ .vmem, ⟨26, _⟩ => ⟨S1x1024, .f32⟩
  | .local _ .vmem, ⟨27, _⟩ => ⟨S1x1024, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S512x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S512x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S512x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S4x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S512x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S4x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== SmallCRefIdeal.lean ====
abbrev S512x128 : Shape := ⟨2, ![512, 128]⟩
abbrev S4x128 : Shape := ⟨2, ![4, 128]⟩
abbrev S1x1024 : Shape := ⟨2, ![1, 1024]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S512x128, .f32⟩
  | 1 => ⟨S4x128, .f32⟩
  | 2 => ⟨S1x1024, .f32⟩
  | 3 => ⟨S1x1024, .f32⟩
  | 4 => ⟨S512x128, .f32⟩
  | 5 => ⟨S4x128, .f32⟩
  | 6 => ⟨S1x1024, .f32⟩
  | 7 => ⟨S1x1024, .f32⟩
  | 8 => ⟨S512x128, .f32⟩
  | 9 => ⟨S4x128, .f32⟩
  | 10 => ⟨S1x1024, .f32⟩
  | 11 => ⟨S1x1024, .f32⟩
  | 12 => ⟨S512x128, .f32⟩
  | 13 => ⟨S4x128, .f32⟩
  | 14 => ⟨S1x1024, .f32⟩
  | 15 => ⟨S1x1024, .f32⟩
  | 16 => ⟨S_, .f32⟩
  | 17 => ⟨S512x128, .f32⟩
  | 18 => ⟨S512x128, .f32⟩
  | 19 => ⟨S_, .f32⟩
  | 20 => ⟨S512x128, .f32⟩
  | 21 => ⟨S512x128, .f32⟩
  | 22 => ⟨S512x128, .f32⟩
  | 23 => ⟨S_, .f32⟩
  | 24 => ⟨S512x128, .f32⟩
  | 25 => ⟨S512x128, .f32⟩
  | 26 => ⟨S512x128, .f32⟩
  | 27 => ⟨S_, .f32⟩
  | 28 => ⟨S512x128, .f32⟩
  | 29 => ⟨S512x128, .f32⟩
  | 30 => ⟨S512x128, .f32⟩
  | 31 => ⟨S_, .f32⟩
  | 32 => ⟨S512x128, .f32⟩
  | 33 => ⟨S512x128, .f32⟩
  | 34 => ⟨S_, .f32⟩
  | 35 => ⟨S512x128, .f32⟩
  | 36 => ⟨S512x128, .f32⟩
  | 37 => ⟨S512x128, .f32⟩
  | 38 => ⟨S_, .f32⟩
  | 39 => ⟨S512x128, .f32⟩
  | 40 => ⟨S512x128, .f32⟩
  | 41 => ⟨S512x128, .f32⟩
  | 42 => ⟨S_, .f32⟩
  | 43 => ⟨S512x128, .f32⟩
  | 44 => ⟨S512x128, .f32⟩
  | 45 => ⟨S512x128, .f32⟩
  | 46 => ⟨S_, .f32⟩
  | 47 => ⟨S512x128, .f32⟩
  | 48 => ⟨S512x128, .f32⟩
  | 49 => ⟨S_, .f32⟩
  | 50 => ⟨S4x128, .f32⟩
  | 51 => ⟨S4x128, .f32⟩
  | 52 => ⟨S_, .f32⟩
  | 53 => ⟨S4x128, .f32⟩
  | 54 => ⟨S4x128, .f32⟩
  | 55 => ⟨S4x128, .f32⟩
  | 56 => ⟨S_, .f32⟩
  | 57 => ⟨S4x128, .f32⟩
  | 58 => ⟨S4x128, .f32⟩
  | 59 => ⟨S4x128, .f32⟩
  | 60 => ⟨S_, .f32⟩
  | 61 => ⟨S4x128, .f32⟩
  | 62 => ⟨S4x128, .f32⟩
  | 63 => ⟨S4x128, .f32⟩
  | 64 => ⟨S_, .f32⟩
  | 65 => ⟨S4x128, .f32⟩
  | 66 => ⟨S4x128, .f32⟩
  | 67 => ⟨S_, .f32⟩
  | 68 => ⟨S4x128, .f32⟩
  | 69 => ⟨S4x128, .f32⟩
  | 70 => ⟨S4x128, .f32⟩
  | 71 => ⟨S_, .f32⟩
  | 72 => ⟨S4x128, .f32⟩
  | 73 => ⟨S4x128, .f32⟩
  | 74 => ⟨S4x128, .f32⟩
  | 75 => ⟨S_, .f32⟩
  | 76 => ⟨S4x128, .f32⟩
  | 77 => ⟨S4x128, .f32⟩
  | 78 => ⟨S4x128, .f32⟩
  | 79 => ⟨S_, .f32⟩
  | 80 => ⟨S4x128, .f32⟩
  | 81 => ⟨S4x128, .f32⟩
  | 82 => ⟨S_, .f32⟩
  | 83 => ⟨S1x1024, .f32⟩
  | 84 => ⟨S1x1024, .f32⟩
  | 85 => ⟨S_, .f32⟩
  | 86 => ⟨S1x1024, .f32⟩
  | 87 => ⟨S1x1024, .f32⟩
  | 88 => ⟨S1x1024, .f32⟩
  | 89 => ⟨S_, .f32⟩
  | 90 => ⟨S1x1024, .f32⟩
  | 91 => ⟨S1x1024, .f32⟩
  | 92 => ⟨S1x1024, .f32⟩
  | 93 => ⟨S_, .f32⟩
  | 94 => ⟨S1x1024, .f32⟩
  | 95 => ⟨S1x1024, .f32⟩
  | 96 => ⟨S1x1024, .f32⟩
  | 97 => ⟨S_, .f32⟩
  | 98 => ⟨S1x1024, .f32⟩
  | 99 => ⟨S1x1024, .f32⟩
  | 100 => ⟨S_, .f32⟩
  | 101 => ⟨S1x1024, .f32⟩
  | 102 => ⟨S1x1024, .f32⟩
  | 103 => ⟨S1x1024, .f32⟩
  | 104 => ⟨S_, .f32⟩
  | 105 => ⟨S1x1024, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S_, .f32⟩
  | 116 => ⟨S1x1024, .f32⟩
  | 117 => ⟨S1x1024, .f32⟩
  | 118 => ⟨S_, .f32⟩
  | 119 => ⟨S1x1024, .f32⟩
  | 120 => ⟨S1x1024, .f32⟩
  | 121 => ⟨S1x1024, .f32⟩
  | 122 => ⟨S_, .f32⟩
  | 123 => ⟨S1x1024, .f32⟩
  | 124 => ⟨S1x1024, .f32⟩
  | 125 => ⟨S1x1024, .f32⟩
  | 126 => ⟨S_, .f32⟩
  | 127 => ⟨S1x1024, .f32⟩
  | _ => ⟨S512x128, .f32⟩

abbrev hbmTy0_1 (i : Nat) : BufTy := match i % 128 with
  | 0 => ⟨S1x1024, .f32⟩
  | 1 => ⟨S1x1024, .f32⟩
  | 2 => ⟨S_, .f32⟩
  | 3 => ⟨S1x1024, .f32⟩
  | 4 => ⟨S1x1024, .f32⟩
  | 5 => ⟨S_, .f32⟩
  | 6 => ⟨S1x1024, .f32⟩
  | 7 => ⟨S1x1024, .f32⟩
  | 8 => ⟨S1x1024, .f32⟩
  | 9 => ⟨S_, .f32⟩
  | 10 => ⟨S1x1024, .f32⟩
  | 11 => ⟨S1x1024, .f32⟩
  | 12 => ⟨S1x1024, .f32⟩
  | 13 => ⟨S_, .f32⟩
  | 14 => ⟨S1x1024, .f32⟩
  | 15 => ⟨S1x1024, .f32⟩
  | 16 => ⟨S1x1024, .f32⟩
  | 17 => ⟨S_, .f32⟩
  | 18 => ⟨S1x1024, .f32⟩
  | 19 => ⟨S1x1024, .f32⟩
  | _ => ⟨S512x128, .f32⟩

abbrev hbmTy (i : Nat) : BufTy := match i / 128 with
  | 0 => hbmTy0_0 i
  | 1 => hbmTy0_1 i
  | _ => ⟨S512x128, .f32⟩

abbrev bufTy : (tb : Table) → Fin (tcTables nBuf tb) → BufTy
  | .hbm, ⟨i, _⟩ => hbmTy i
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== Proof.RmsMath.lean ====
/- The gradient of a root-mean-square normalisation over the extended reals: the form a kernel computes
   (`r * (a - x̂ * mean (a * x̂))`) against the form that differentiating the forward lines gives. No finiteness is
   asked: an infinite entry makes the row's mean square infinite, so `r = 0` and both forms vanish. -/
module

public import Idealize.ShloMosaic.PureOps.Ideal
public import Idealize.ShloMosaic.PureOps.Ideal.Laws

@[expose] public section

noncomputable section

namespace Cert.Math

open Idealize.ShloMosaic

/-- Multiplying by a nonnegative real distributes over a finite sum. -/
theorem coe_mul_sum {ι : Type*} (s : Finset ι) (f : ι → EReal) {r : ℝ} (hr : 0 ≤ r) :
    (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (by exact_mod_cast hr) (EReal.coe_ne_top r) _ _

theorem add_self_eq (y : EReal) : y + y = ((2 : ℝ) : EReal) * y := by
  induction y with
  | bot => rw [EReal.coe_mul_bot_of_pos (by norm_num)]; rfl
  | top => rw [EReal.coe_mul_top_of_pos (by norm_num)]; rfl
  | coe y => rw [← EReal.coe_add, ← EReal.coe_mul]; congr 1; ring

theorem mul_self_nonneg' (x : EReal) : 0 ≤ x * x := by
  induction x with
  | bot => simp
  | top => simp
  | coe x => rw [← EReal.coe_mul]; exact_mod_cast mul_self_nonneg x

/-- A sum of nonnegative terms with an infinite one is infinite. -/
theorem sum_eq_top {ι : Type*} (s : Finset ι) (f : ι → EReal) (h0 : ∀ i, 0 ≤ f i) {i : ι} (hi : i ∈ s)
    (h : f i = ⊤) : ∑ j ∈ s, f j = ⊤ :=
  top_le_iff.mp (h ▸ Finset.single_le_sum (fun j _ => h0 j) hi)

theorem div_pos_coe {N : ℝ} (hN : 0 < N) (x : EReal) : Ideal.div x (N : EReal) = ((N⁻¹ : ℝ) : EReal) * x := by
  rw [Ideal.div_coe hN.ne', mul_comm, one_div]

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The mean square of a row plus the constant under the root. -/
def msq {n : ℕ} (N e : EReal) (X : Fin n → EReal) : EReal := Ideal.div (∑ i, X i * X i) N + e

/-- A row is finite with a positive `msq`, or its `msq` is infinite. -/
theorem msq_cases {n : ℕ} {N e : ℝ} (hN : 0 < N) (he : 0 < e) (X : Fin n → EReal) :
    (∃ x : Fin n → ℝ, (∀ i, X i = x i) ∧ ∃ v : ℝ, 0 < v ∧ msq (N : EReal) (e : EReal) X = v) ∨ msq (N : EReal) (e : EReal) X = ⊤ := by
  by_cases h : ∃ i, X i = ⊤ ∨ X i = ⊥
  · right
    obtain ⟨i, hi⟩ := h
    have : ∑ i, X i * X i = ⊤ := sum_eq_top _ _ (fun j => mul_self_nonneg' (X j)) (Finset.mem_univ i)
      (by rcases hi with hi | hi <;> rw [hi] <;> rfl)
    rw [msq, this, div_pos_coe hN, EReal.coe_mul_top_of_pos (by positivity), EReal.top_add_coe]
  · left
    have h' : ∀ i, ((X i).toReal : EReal) = X i := fun i =>
      EReal.coe_toReal (fun h0 => h ⟨i, .inl h0⟩) (fun h0 => h ⟨i, .inr h0⟩)
    refine ⟨fun i => (X i).toReal, fun i => (h' i).symm, N⁻¹ * (∑ i, (X i).toReal * (X i).toReal) + e, ?_, ?_⟩
    · have : 0 ≤ ∑ i, (X i).toReal * (X i).toReal := Finset.sum_nonneg fun i _ => mul_self_nonneg _
      positivity
    · rw [msq, div_pos_coe hN, EReal.coe_add, EReal.coe_mul, ← coe_sum]
      congr 2
      exact Finset.sum_congr rfl fun i _ => by rw [EReal.coe_mul, h']

theorem rsqrt_coe_pos {v : ℝ} (hv : 0 < v) : Ideal.rsqrt (v : EReal) = (((Real.sqrt v)⁻¹ : ℝ) : EReal) := by
  rw [Ideal.rsqrt_coe, if_neg (by linarith), if_neg hv.ne']

/-- The normalisation's gradient, both forms. -/
theorem rms_bwd {n : ℕ} {N e : ℝ} (hN : 0 < N) (he : 0 < e) (X A : Fin n → EReal) (j : Fin n) :
    Ideal.rsqrt (msq (N : EReal) (e : EReal) X)
        * (A j - X j * Ideal.rsqrt (msq (N : EReal) (e : EReal) X)
            * Ideal.div (∑ i, A i * (X i * Ideal.rsqrt (msq (N : EReal) (e : EReal) X))) (N : EReal))
      = A j * Ideal.rsqrt (msq (N : EReal) (e : EReal) X)
        + (X j * Ideal.div ((∑ i, X i * A i) * (((-(1 / 2) : ℝ) : EReal)
              * Ideal.div (Ideal.rsqrt (msq (N : EReal) (e : EReal) X)) (msq (N : EReal) (e : EReal) X))) (N : EReal)
          + Ideal.div ((∑ i, X i * A i) * (((-(1 / 2) : ℝ) : EReal)
              * Ideal.div (Ideal.rsqrt (msq (N : EReal) (e : EReal) X)) (msq (N : EReal) (e : EReal) X))) (N : EReal) * X j) := by
  rcases msq_cases hN he X with ⟨x, hx, v, hv, hm⟩ | hm
  · rw [hm, rsqrt_coe_pos hv]
    set ρ : ℝ := (Real.sqrt v)⁻¹ with hρ
    have hρ0 : 0 < ρ := inv_pos.mpr (Real.sqrt_pos.mpr hv)
    have hρ2 : v⁻¹ = ρ * ρ := by rw [hρ, ← mul_inv, Real.mul_self_sqrt hv.le]
    rw [div_pos_coe hv, hρ2]
    have hS : ∑ i, A i * (X i * (ρ : EReal)) = (ρ : EReal) * ∑ i, X i * A i := by
      rw [coe_mul_sum _ _ hρ0.le]
      exact Finset.sum_congr rfl fun i _ => by rw [← mul_assoc, mul_comm, mul_comm (A i)]
    rw [hS, div_pos_coe hN, div_pos_coe hN, hx j]
    generalize ∑ i, X i * A i = S
    rw [mul_comm _ (x j : EReal), add_self_eq, sub_eq_add_neg,
      EReal.left_distrib_of_nonneg_of_ne_top (by exact_mod_cast hρ0.le) (EReal.coe_ne_top ρ), mul_comm (ρ : EReal) (A j)]
    congr 1
    have e1 : (ρ : EReal) * -((x j : EReal) * (ρ : EReal) * (((N⁻¹ : ℝ) : EReal) * ((ρ : EReal) * S)))
        = ((-(ρ * x j * ρ * N⁻¹ * ρ) : ℝ) : EReal) * S := by
      rw [EReal.coe_neg, neg_mul, mul_neg]; push_cast; simp only [mul_assoc]
    have e2 : ((2 : ℝ) : EReal) * ((x j : EReal) * (((N⁻¹ : ℝ) : EReal) * (S * (((-(1 / 2) : ℝ) : EReal) * (((ρ * ρ : ℝ) : EReal) * (ρ : EReal))))))
        = ((2 * x j * N⁻¹ * -(1 / 2) * (ρ * ρ) * ρ : ℝ) : EReal) * S := by
      simp only [EReal.coe_mul, mul_assoc]
      rw [mul_comm S]; simp only [mul_assoc]
    rw [e1, e2]
    congr 2; ring
  · rw [hm, Ideal.rsqrt_top, zero_mul, mul_zero, zero_add]
    have : Ideal.div 0 ⊤ = 0 := by unfold Ideal.div; rw [if_neg (by simp), zero_mul]
    rw [this, mul_zero, mul_zero, div_pos_coe hN, mul_zero, mul_zero, zero_mul, zero_add]

end Cert.Math

end
-- ==== Proof.Sums.lean ====
/- Sums over axes of size one. -/
module

public import Idealize.ShloMosaic.PureOps.Ideal
public import Idealize.ShloMosaic.Lib.Pointwise

@[expose] public section

noncomputable section

namespace Cert.Math

open Idealize.ShloMosaic

/-- A sum over two leading axes of size one. -/
theorem sum_first_two {n : ℕ} (h : (⟨3, ![1, 1, n]⟩ : Shape).ReducesTo [0, 1] ⟨1, ![n]⟩) (v : (⟨3, ![1, 1, n]⟩ : Shape).Idx → EReal)
    (init : EReal) (j : Fin n) : Ideal.hostReduceAdd h v init (ix1 j) = init + v (ix3 0 0 j) := by
  unfold Ideal.hostReduceAdd
  refine congrArg (init + ·) (Finset.sum_eq_single_of_mem _ (Finset.mem_filter.mpr ⟨Finset.mem_univ _, ?_⟩) fun i hi hne => (hne ?_).elim)
  · funext b
    apply Fin.ext
    match b with
    | ⟨0, _⟩ => rfl
  · have e := congrArg Fin.val (congrFun (Finset.mem_filter.mp hi).2 ⟨0, Nat.one_pos⟩)
    funext a
    apply Fin.ext
    match a with
    | ⟨0, h0⟩ => have := (i ⟨0, h0⟩).isLt; exact Nat.lt_one_iff.mp this
    | ⟨1, h1⟩ => have := (i ⟨1, h1⟩).isLt; exact Nat.lt_one_iff.mp this
    | ⟨2, _⟩ => exact e

/-- A sum over a first and a last axis of size one. -/
theorem sum_first_last {n : ℕ} (h : (⟨3, ![1, n, 1]⟩ : Shape).ReducesTo [0, 2] ⟨1, ![n]⟩) (v : (⟨3, ![1, n, 1]⟩ : Shape).Idx → EReal)
    (init : EReal) (j : Fin n) : Ideal.hostReduceAdd h v init (ix1 j) = init + v (ix3 0 j 0) := by
  unfold Ideal.hostReduceAdd
  refine congrArg (init + ·) (Finset.sum_eq_single_of_mem _ (Finset.mem_filter.mpr ⟨Finset.mem_univ _, ?_⟩) fun i hi hne => (hne ?_).elim)
  · funext b
    apply Fin.ext
    match b with
    | ⟨0, _⟩ => rfl
  · have e := congrArg Fin.val (congrFun (Finset.mem_filter.mp hi).2 ⟨0, Nat.one_pos⟩)
    funext a
    apply Fin.ext
    match a with
    | ⟨0, h0⟩ => have := (i ⟨0, h0⟩).isLt; exact Nat.lt_one_iff.mp this
    | ⟨1, _⟩ => exact e
    | ⟨2, h2⟩ => have := (i ⟨2, h2⟩).isLt; exact Nat.lt_one_iff.mp this

/-- A sum over two leading axes of size one, two axes kept. -/
theorem sum_first_two4 {n k : ℕ} (h : (⟨4, ![1, 1, n, k]⟩ : Shape).ReducesTo [0, 1] ⟨2, ![n, k]⟩) (v : (⟨4, ![1, 1, n, k]⟩ : Shape).Idx → EReal)
    (init : EReal) (a : Fin n) (b : Fin k) : Ideal.hostReduceAdd h v init (ix2 a b) = init + v (ix4 0 0 a b) := by
  unfold Ideal.hostReduceAdd
  refine congrArg (init + ·) (Finset.sum_eq_single_of_mem _ (Finset.mem_filter.mpr ⟨Finset.mem_univ _, ?_⟩) fun i hi hne => (hne ?_).elim)
  · funext c
    apply Fin.ext
    match c with
    | ⟨0, _⟩ => rfl
    | ⟨1, _⟩ => rfl
  · have e := (Finset.mem_filter.mp hi).2
    have e0 := congrArg Fin.val (congrFun e ⟨0, Nat.two_pos⟩)
    have e1 := congrArg Fin.val (congrFun e ⟨1, Nat.one_lt_two⟩)
    funext c
    apply Fin.ext
    match c with
    | ⟨0, h0⟩ => have := (i ⟨0, h0⟩).isLt; exact Nat.lt_one_iff.mp this
    | ⟨1, h1⟩ => have := (i ⟨1, h1⟩).isLt; exact Nat.lt_one_iff.mp this
    | ⟨2, _⟩ => exact e0
    | ⟨3, _⟩ => exact e1

end Cert.Math

end
-- ==== Proof.BwdInRef.lean ====
/- The differentiated forward lines of the input projection and its norm, read element by element. -/
module

public import proofs.«01_k».proof.Proof.RmsMath
public import proofs.«01_k».proof.Proof.Sums
public import proofs.«01_k».proof.Proof.Gen.BwdInRefIdeal.Read
public import Idealize.ShloMosaic.Lib.Pointwise

@[expose] public section

set_option maxRecDepth 16384

noncomputable section

namespace Cert.Math

open Idealize.ShloMosaic

theorem bits_1024 : Ideal.ofBits .f32 0x44800000#32 = ((1024 : ℝ) : EReal) := by
  simp [Ideal.ofBits, Ideal.ieee]; rw [← EReal.coe_mul]; norm_num

theorem bits_neg_half : Ideal.ofBits .f32 0xBF000000#32 = ((-(1 / 2) : ℝ) : EReal) := by
  simp [Ideal.ofBits, Ideal.ieee]; rw [← EReal.coe_mul]; norm_num

theorem bits_eps : ∃ e : ℝ, 0 < e ∧ Ideal.ofBits .f32 0x358637BD#32 = (e : EReal) := by
  simp [Ideal.ofBits, Ideal.ieee]; rw [← EReal.coe_mul]; norm_num

end Cert.Math

namespace Cert.BwdInRefIdeal.Hand

open Cert.BwdInRefIdeal Cert.BwdInRefIdeal.Gen Cert.BwdInRefIdeal.Read Idealize.ShloMosaic Idealize.ShloMosaic.TcCoe Idealize.SL.Sem

/-- A row's root factor. -/
def inv (X : Fin 1024 → EReal) : EReal :=
  Ideal.rsqrt (Cert.Math.msq (Ideal.ofBits .f32 0x44800000#32) (Ideal.ofBits .f32 0x358637BD#32) X)

/-- The product of a row of `dz` with a row of the projection. -/
def prj (w : FVec Ideal S1x1024x6144 .f32) (dz : FVec Ideal S4096x6144 .bf16) (t : Fin 4096) (j : Fin 1024) : EReal :=
  ∑ k : Fin 6144, dz (ix2 t k) * w (ix3 0 j k)

variable (x : FVec Ideal S1x4096x1024 .f32) (g : FVec Ideal S1x1024 .f32) (w : FVec Ideal S1x1024x6144 .f32)
  (dz : FVec Ideal S4096x6144 .bf16) (dh : FVec Ideal S1x4096x1024 .f32) (t : Fin 4096) (j : Fin 1024)

theorem v7_at (a b : Fin 1) : val_main_v7 (F := Ideal) x (ix3 a t b)
    = Cert.Math.msq (Ideal.ofBits .f32 0x44800000#32) (Ideal.ofBits .f32 0x358637BD#32) fun k => x (ix3 0 t k) := by
  obtain rfl := Subsingleton.elim a 0
  pointwise [val_main_v7, val_main_v6, val_main_v5, val_main_v4, val_main_v3, val_main_v2, val_main_v1, val_main_cst, val_main_cst_0, val_main_cst_1]
  first | rfl | (simp only [zero_add]; rfl)

theorem v8_at (a b : Fin 1) : val_main_v8 (F := Ideal) x (ix3 a t b) = inv fun k => x (ix3 0 t k) := by
  unfold val_main_v8 inv
  pointwise [v7_at]

theorem v21_at (a : Fin 1) : val_main_v21 (F := Ideal) w dz (ix3 a t j) = prj w dz t j := by
  pointwise [val_main_v21, val_main_v20, val_main_v19, val_main_v17, prj]

theorem v26_at (a : Fin 1) : val_main_v26 (F := Ideal) g w dz (ix3 a t j) = prj w dz t j * g (ix2 0 j) := by
  pointwise [val_main_v26, v21_at, val_main_v25, val_main_v14, val_main_v0]

theorem v38_at (a : Fin 1) : val_main_v38 (F := Ideal) x g w dz (ix2 a t)
    = Ideal.div ((∑ k, x (ix3 0 t k) * (prj w dz t k * g (ix2 0 k)))
        * (Ideal.ofBits .f32 0xBF000000#32 * Ideal.div (inv fun k => x (ix3 0 t k))
          (Cert.Math.msq (Ideal.ofBits .f32 0x44800000#32) (Ideal.ofBits .f32 0x358637BD#32) fun k => x (ix3 0 t k))))
        (Ideal.ofBits .f32 0x44800000#32) := by
  pointwise [val_main_v38, val_main_v37]
  refine (Cert.Math.sum_first_last _ _ _ t).trans ?_
  pointwise [val_main_cst_7, val_main_v36, val_main_v35, val_main_v34, val_main_v30, val_main_v29, val_main_v28, val_main_cst_5, val_main_cst_6,
    v26_at, val_main_v11, val_main_v10, val_main_v9, val_main_cst_2, v8_at, v7_at]

/-- The input's gradient. -/
theorem dx_at : val_main_v45 (F := Ideal) x g w dz dh (ix2 t j) = dh (ix3 0 t j) + inv (fun k => x (ix3 0 t k))
    * (prj w dz t j * g (ix2 0 j) - x (ix3 0 t j) * inv (fun k => x (ix3 0 t k))
      * Ideal.div (∑ k, prj w dz t k * g (ix2 0 k) * (x (ix3 0 t k) * inv fun k => x (ix3 0 t k))) (Ideal.ofBits .f32 0x44800000#32)) := by
  have e : val_main_v45 (F := Ideal) x g w dz dh (ix2 t j) = dh (ix3 0 t j) + prj w dz t j * g (ix2 0 j) * inv (fun k => x (ix3 0 t k))
      + x (ix3 0 t j) * val_main_v38 (F := Ideal) x g w dz (ix2 0 t) + val_main_v38 (F := Ideal) x g w dz (ix2 0 t) * x (ix3 0 t j) := by
    pointwise [val_main_v45, val_main_v43, val_main_v42, val_main_v41, val_main_v33, val_main_v40, val_main_v39, val_main_v32, v26_at, val_main_v31, v8_at]
  obtain ⟨ε, hε, he⟩ := Cert.Math.bits_eps
  rw [e, v38_at]
  unfold inv
  rw [he, Cert.Math.bits_1024, Cert.Math.bits_neg_half,
    Cert.Math.rms_bwd (by norm_num) hε (fun k => x (ix3 0 t k)) (fun k => prj w dz t k * g (ix2 0 k)) j, add_assoc, add_assoc]

/-- The gain's gradient. -/
theorem dg_at (a : Fin 1) : val_main_v44 (F := Ideal) x w dz (ix2 a j)
    = ∑ t : Fin 4096, prj w dz t j * (x (ix3 0 t j) * inv fun k => x (ix3 0 t k)) := by
  pointwise [val_main_v44, val_main_v27]
  refine (Cert.Math.sum_first_two _ _ _ j).trans ?_
  pointwise [val_main_v24, val_main_v23, val_main_v22, v21_at, val_main_v13, val_main_v12, v8_at, val_main_cst_3, val_main_cst_4]
  exact Finset.sum_congr rfl fun t _ => mul_comm _ _

end Cert.BwdInRefIdeal.Hand

end
-- ==== Proof.BwdInRun.lean ====
/- The input projection's gradient fused with the mixing norm's, tile by tile: the call's two result arrays after its run
   are the differentiated forward lines' two results. -/
module

public import proofs.«01_k».proof.Proof.Gen.BwdInIdeal.Value
public import proofs.«01_k».proof.Defs
public import proofs.«01_k».proof.Proof.BwdInRef
public import proofs.«01_k».proof.Proof.Gen.BwdInRefIdeal.Run
public import Idealize.ShloMosaic.Lib.Pointwise
public import Idealize.ShloMosaic.Lib.Claim
public import Idealize.ShloMosaic.Lib.Quiescent
public import Idealize.ShloMosaic.Lib.Pipeline.ValueKit

@[expose] public section

set_option maxRecDepth 16384

noncomputable section

namespace Cert.BwdInIdeal.Hand

open Cert.BwdInIdeal Cert.BwdInIdeal.Gen Idealize.ShloMosaic Idealize.ShloMosaic.TcCoe Idealize.SL.Sem
open Idealize.ShloMosaic.Pipeline (Dat)
open Cert.BwdInRefIdeal.Hand (inv prj)

/-- The product of a tile of `dz` with the projection's four parts. -/
def dn (x0 : Vec Ideal S512x6144 .bf16) (x3 : Vec Ideal S4x1024x1536 .bf16) : FVec Ideal S512x1024 .f32 :=
  k0_pay6
    (View.ld x0 (Rect.unit (s := S512x6144) ![0, 0] S512x1536.size inb_S512x6144_S512x1536_0_0))
    (View.ld x3 (Rect.unit (s := S4x1024x1536) ![0, 0, 0] S1x1024x1536.size inb_S4x1024x1536_S1x1024x1536_0_0_0))
    (View.ld x0 (Rect.unit (s := S512x6144) ![0, 1536] S512x1536.size inb_S512x6144_S512x1536_0_1536))
    (View.ld x3 (Rect.unit (s := S4x1024x1536) ![1, 0, 0] S1x1024x1536.size inb_S4x1024x1536_S1x1024x1536_1_0_0))
    (View.ld x0 (Rect.unit (s := S512x6144) ![0, 3072] S512x1536.size inb_S512x6144_S512x1536_0_3072))
    (View.ld x3 (Rect.unit (s := S4x1024x1536) ![2, 0, 0] S1x1024x1536.size inb_S4x1024x1536_S1x1024x1536_2_0_0))
    (View.ld x0 (Rect.unit (s := S512x6144) ![0, 4608] S512x1536.size inb_S512x6144_S512x1536_0_4608))
    (View.ld x3 (Rect.unit (s := S4x1024x1536) ![3, 0, 0] S1x1024x1536.size inb_S4x1024x1536_S1x1024x1536_3_0_0))

/-- A tile of the input's gradient. -/
def dxT (x0 : Vec Ideal S512x6144 .bf16) (x1 x2 : Vec Ideal S512x1024 .f32) (x3 : Vec Ideal S4x1024x1536 .bf16) (x4 : Vec Ideal S1x1024 .f32) : FVec Ideal S512x1024 .f32 :=
  k0_pay4 (dn x0 x3) (k0_pay7 x1) (k0_pay8 x1) x2 x4

/-- The gain's gradient after a tile, from what the tiles before left. -/
def dgT (x0 : Vec Ideal S512x6144 .bf16) (x1 : Vec Ideal S512x1024 .f32) (x3 : Vec Ideal S4x1024x1536 .bf16) (g : Vec Ideal S1x1024 .f32) : FVec Ideal S1x1024 .f32 :=
  k0_pay3 (dn x0 x3) (k0_pay7 x1) (k0_pay8 x1) g

/-- The tile's product, element by element: the sum over the projection's columns, part by part. -/
theorem dn_at (x0 : FVec Ideal S512x6144 .bf16) (x3 : FVec Ideal S4x1024x1536 .bf16) (r : Fin 512) (l : Fin 1024) :
    dn x0 x3 (ix2 r l) = ∑ p : Fin 4, ∑ k : Fin 1536, x0 (ix2 r ⟨p.val * 1536 + k.val, by omega⟩) * x3 (ix3 p l k) := by
  rw [Fin.sum_univ_four]
  unfold dn
  pointwise [k0_pay6]

/-- A tile of the input's gradient, element by element. -/
theorem dxT_at (x0 : FVec Ideal S512x6144 .bf16) (x1 x2 : FVec Ideal S512x1024 .f32) (x3 : FVec Ideal S4x1024x1536 .bf16)
    (x4 : FVec Ideal S1x1024 .f32) (r : Fin 512) (l : Fin 1024) :
    dxT x0 x1 x2 x3 x4 (ix2 r l) = x2 (ix2 r l) + inv (fun k => x1 (ix2 r k))
      * (dn x0 x3 (ix2 r l) * x4 (ix2 0 l) - x1 (ix2 r l) * inv (fun k => x1 (ix2 r k))
        * Ideal.div (∑ k, dn x0 x3 (ix2 r k) * x4 (ix2 0 k) * (x1 (ix2 r k) * inv fun k => x1 (ix2 r k))) (Ideal.ofBits .f32 0x44800000#32)) := by
  unfold dxT
  pointwise [k0_pay4, k0_pay7, k0_pay8, k0_pay2, k0_pay1]
  rfl

/-- What a tile adds to the gain's gradient. -/
def dgP (x0 : FVec Ideal S512x6144 .bf16) (x1 : FVec Ideal S512x1024 .f32) (x3 : FVec Ideal S4x1024x1536 .bf16) (j : S1x1024.Idx) : EReal :=
  ∑ r : Fin 512, dn x0 x3 (ix2 r (j 1)) * (x1 (ix2 r (j 1)) * inv fun k => x1 (ix2 r k))

theorem dgT_at (x0 : FVec Ideal S512x6144 .bf16) (x1 : FVec Ideal S512x1024 .f32) (x3 : FVec Ideal S4x1024x1536 .bf16)
    (g : FVec Ideal S1x1024 .f32) (j : S1x1024.Idx) :
    dgT x0 x1 x3 g j = g j + dgP x0 x1 x3 j := by
  unfold dgT dgP
  idx_vars j
  pointwise [k0_pay3, k0_pay7, k0_pay8, k0_pay2, k0_pay1]
  rfl

theorem zero_at (j : S1x1024.Idx) : k0_pay5 (F := Ideal) j = 0 := by
  pointwise [k0_pay5]

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![0, 0, 0] ∧ win0_4.index t = ![0, 0] ∧ win0_5.index t = ![t.val, 0] ∧ win0_6.index t = ![0, 0] :=
  (by decide +kernel : ∀ t : Fin grid0.N, _)

/-- The call's arguments. -/
abbrev aX : FVec Ideal S1x4096x1024 .f32 := m ((c : Thread nD τ).loc main_arg0)
abbrev aG : FVec Ideal S1x1024 .f32 := m ((c : Thread nD τ).loc main_arg1)
abbrev aW : FVec Ideal S1x1024x6144 .f32 := m ((c : Thread nD τ).loc main_arg2)
abbrev aZ : FVec Ideal S4096x6144 .bf16 := m ((c : Thread nD τ).loc main_arg3)
abbrev aH : FVec Ideal S1x4096x1024 .f32 := m ((c : Thread nD τ).loc main_arg4)

/-- The array row a tile's row is. -/
abbrev row (t : Fin cfg0.N) (r : Fin 512) : Fin 4096 := ⟨t.val * 512 + r.val, by have h : t.val < 8 := lt_of_lt_of_eq t.isLt N_0; omega⟩

abbrev b0 (t : Fin cfg0.N) : FVec Ideal S512x6144 .bf16 := iblk m c 0 t
abbrev b1 (t : Fin cfg0.N) : FVec Ideal S512x1024 .f32 := iblk m c 1 t
abbrev b2 (t : Fin cfg0.N) : FVec Ideal S512x1024 .f32 := iblk m c 2 t
abbrev b3 (t : Fin cfg0.N) : FVec Ideal S4x1024x1536 .bf16 := iblk m c 3 t
abbrev b4 (t : Fin cfg0.N) : FVec Ideal S1x1024 .f32 := iblk m c 4 t

theorem b0_at (t : Fin cfg0.N) (r : Fin 512) (k : Fin 6144) : b0 m c t (ix2 r k) = aZ m c (ix2 (row t r) k) := by
  blk_ext [iblk, V, idx t]

theorem b1_at (t : Fin cfg0.N) (r : Fin 512) (k : Fin 1024) : b1 m c t (ix2 r k) = aX m c (ix3 0 (row t r) k) := by
  have e : (b1 m c t (ix2 r k) : EReal) = (V m c main_v4 : FVec Ideal S4096x1024 .f32) (ix2 (row t r) k) := by blk_ext [iblk, idx t]
  rw [e]; entry_read; pointwise

theorem b2_at (t : Fin cfg0.N) (r : Fin 512) (k : Fin 1024) : b2 m c t (ix2 r k) = aH m c (ix3 0 (row t r) k) := by
  have e : (b2 m c t (ix2 r k) : EReal) = (V m c main_v5 : FVec Ideal S4096x1024 .f32) (ix2 (row t r) k) := by blk_ext [iblk, idx t]
  rw [e]; entry_read; pointwise

theorem b3_at (t : Fin cfg0.N) (p : Fin 4) (l : Fin 1024) (k : Fin 1536) :
    b3 m c t (ix3 p l k) = aW m c (ix3 0 l ⟨p.val * 1536 + k.val, by omega⟩) := by
  have e : (b3 m c t (ix3 p l k) : EReal) = (V m c main_v3 : FVec Ideal S4x1024x1536 .bf16) (ix3 p l k) := by blk_ext [iblk, idx t]
  rw [e]; entry_read; pointwise

theorem b4_at (t : Fin cfg0.N) (k : Fin 1024) : b4 m c t (ix2 0 k) = aG m c (ix2 0 k) := by
  blk_ext [iblk, V, idx t]

theorem dn_blk (t : Fin cfg0.N) (r : Fin 512) (l : Fin 1024) :
    dn (b0 m c t) (b3 m c t) (ix2 r l) = prj (aW m c) (aZ m c) (row t r) l := by
  rw [dn_at]
  unfold prj
  rw [Fin.sum_univ_tiles 4 1536 rfl]
  refine Finset.sum_congr rfl fun p _ => Finset.sum_congr rfl fun k _ => ?_
  rw [b0_at, b3_at]

theorem outs5 (t : Fin cfg0.N) : (outsAt0 m c t.val t.isLt).1 = dxT (b0 m c t) (b1 m c t) (b2 m c t) (b3 m c t) (b4 m c t) := by
  unfold dxT dn
  by_cases h : t.val % 8 = 0
  · rw [outsAt0_A m c t h]; frame_out
  · rw [outsAt0_B m c t h]; frame_out

theorem outs6_A (t : Fin cfg0.N) (h : t.val % 8 = 0) :
    (outsAt0 m c t.val t.isLt).2 = dgT (b0 m c t) (b1 m c t) (b3 m c t) (k0_pay5 (F := Ideal)) := by
  unfold dgT dn
  rw [outsAt0_A m c t h]; frame_out

theorem outs6_B (t : Fin cfg0.N) (h : ¬t.val % 8 = 0) :
    (outsAt0 m c t.val t.isLt).2 = dgT (b0 m c t) (b1 m c t) (b3 m c t) (outsAt0 m c (t.val - 1) (Nat.lt_of_le_of_lt (Nat.sub_le _ _) t.isLt)).2 := by
  unfold dgT dn
  rw [outsAt0_B m c t h]; frame_out

theorem dx_blk (t : Fin cfg0.N) (r : Fin 512) (l : Fin 1024) :
    dxT (b0 m c t) (b1 m c t) (b2 m c t) (b3 m c t) (b4 m c t) (ix2 r l)
      = Cert.BwdInRefIdeal.Read.val_main_v45 (F := Ideal) (aX m c) (aG m c) (aW m c) (aZ m c) (aH m c) (ix2 (row t r) l) := by
  rw [dxT_at, Cert.BwdInRefIdeal.Hand.dx_at]
  simp only [dn_blk, b1_at, b2_at, b4_at]

theorem dg_blk (t : Fin cfg0.N) (l : Fin 1024) :
    dgP (b0 m c t) (b1 m c t) (b3 m c t) (ix2 0 l)
      = ∑ r : Fin 512, prj (aW m c) (aZ m c) (row t r) l * (aX m c (ix3 0 (row t r) l) * inv fun k => aX m c (ix3 0 (row t r) k)) := by
  unfold dgP
  refine Finset.sum_congr rfl fun r _ => ?_
  show dn (b0 m c t) (b3 m c t) (ix2 r l) * (b1 m c t (ix2 r l) * inv fun k => b1 m c t (ix2 r k)) = _
  simp only [dn_blk, b1_at]

/-- The input's gradient after the run. -/
theorem final5 : (dats m 0 c).arrAt 5 (cfgs 0).N
    = Cert.BwdInRefIdeal.Read.val_main_v45 (F := Ideal) (aX m c) (aG m c) (aW m c) (aZ m c) (aH m c) := by
  refine (dats m 0 c).arrAt_eq_of_covers 5 _ (by decide +kernel) fun t _ y => ?_
  blk_simp
  rw [after0_5, outs5]
  have ey : ((cfg0.win 5).blk t).view.emb y = ix2 (row t (y 0)) (y 1) := by blk_ext [idx t]
  rw [ey]
  exact (congrArg _ (eq_ix2 y)).trans (dx_blk m c t (y 0) (y 1))

/-- The tiles' parts add up to the gain's gradient. -/
theorem dg_sum (j : S1x1024.Idx) : ∑ t : Fin cfg0.N, dgP (b0 m c t) (b1 m c t) (b3 m c t) j
    = Cert.BwdInRefIdeal.Read.val_main_v44 (F := Ideal) (aX m c) (aW m c) (aZ m c) j := by
  have ej : j = ix2 0 (j 1) := by blk_ext
  rw [ej]
  refine Eq.trans ?_ (Cert.BwdInRefIdeal.Hand.dg_at (aX m c) (aW m c) (aZ m c) (j 1) 0).symm
  rw [Fin.sum_univ_tiles 8 512 rfl]
  exact Finset.sum_congr rfl fun t _ => dg_blk m c t (j 1)

/-- The gain's gradient after the run. -/
theorem final6 : (dats m 0 c).arrAt 6 (cfgs 0).N
    = Cert.BwdInRefIdeal.Read.val_main_v44 (F := Ideal) (aX m c) (aW m c) (aZ m c) := by
  refine (dats m 0 c).arrAt_eq_of_after_last 6 t0_7 (by decide +kernel) _ fun j => ?_
  blk_simp
  rw [after0_6, Pipeline.eq_sum_fin_of_reset_step_apply_last (fun n h => (outsAt0 m c n h).2) 8 (fun _ => 0)
    (fun t j => dgP (b0 m c t) (b1 m c t) (b3 m c t) j)
    (fun t h j => by rw [outs6_A m c t h, dgT_at, zero_at])
    (fun t h j => by rw [outs6_B m c t h, dgT_at])
    (le_of_eq N_0) t0_7 rfl j, zero_add]
  exact dg_sum m c j

end Cert.BwdInIdeal.Hand

namespace Cert.BwdIn.Hand

open Idealize.ShloMosaic Idealize.ShloMosaic.TcCoe Idealize.SL.Sem

/-- The call and the differentiated forward lines give the same two gradients. -/
theorem algebraic : Cert.algebraic_BwdInIdeal_BwdInRefIdeal := by
  pair_intro
  · run_from Cert.BwdInIdeal.Gen.run_main m g
  · run_from Cert.BwdInRefIdeal.Value.run m' g'
    · exact (Cert.BwdInRefIdeal.Read.val_main_v45_eq m' c).trans (by rw [Cert.BwdInIdeal.Hand.final5]; simp only [hagree c])
    · exact (Cert.BwdInRefIdeal.Read.val_main_v44_eq _ _ _).trans (Cert.BwdInIdeal.Hand.final6 m c).symm

/-- The differentiated forward lines run, and leave their arguments. -/
theorem frame_ref : Cert.quiescent_BwdInRefIdeal := by
  intro m g _
  run_from Cert.BwdInRefIdeal.Value.run m g
  · exact fun _ => ⟨trivial, trivial, trivial, trivial, trivial⟩
  · exact sem_eq_zero_of_no_sems rfl _

end Cert.BwdIn.Hand

end
-- ==== Proof.MlpRef.lean ====
/- The feed-forward part with its two norms and the loss: each row's quantities in the form a kernel computes them, and
   the differentiated forward lines read as those. -/
module

public import proofs.«01_k».proof.Proof.BwdInRef
public import proofs.«01_k».proof.Proof.Gen.MlpRefIdeal.Read
public import Idealize.ShloMosaic.Lib.Pointwise

@[expose] public section

set_option maxRecDepth 16384

noncomputable section

namespace Cert.Math

open Idealize.ShloMosaic

/-- A sum over both axes of an array of one row. -/
theorem sum_one_row {n : ℕ} (h : (⟨2, ![1, n]⟩ : Shape).ReducesTo [0, 1] ⟨0, ![]⟩) (v : (⟨2, ![1, n]⟩ : Shape).Idx → EReal)
    (init : EReal) (j : (⟨0, ![]⟩ : Shape).Idx) : Ideal.hostReduceAdd h v init j = init + ∑ t : Fin n, v (ix2 0 t) := by
  unfold Ideal.hostReduceAdd
  refine congrArg (init + ·) ?_
  rw [Finset.filter_true_of_mem fun i _ => funext fun b => b.elim0]
  refine (Finset.sum_bij (fun t _ => ix2 0 t) (fun _ _ => Finset.mem_univ _) (fun a _ b _ e => ?_) (fun i _ => ⟨i 1, Finset.mem_univ _, ?_⟩)
    fun _ _ => rfl).symm
  · exact congrFun e 1
  · funext a
    apply Fin.ext
    match a with
    | ⟨0, h0⟩ => have := (i ⟨0, h0⟩).isLt; exact (Nat.lt_one_iff.mp this).symm
    | ⟨1, _⟩ => rfl

theorem bits_half : Ideal.ofBits .f32 0x3F000000#32 = ((1 / 2 : ℝ) : EReal) := by
  simp [Ideal.ofBits, Ideal.ieee]; rw [← EReal.coe_mul]; norm_num

theorem bits_inv_1024 : Ideal.ofBits .f32 0x3A800000#32 = ((1 / 1024 : ℝ) : EReal) := by
  simp [Ideal.ofBits, Ideal.ieee]; rw [← EReal.coe_mul]; norm_num

theorem bits_inv_2048 : Ideal.ofBits .f32 0x3A000000#32 = ((1 / 2048 : ℝ) : EReal) := by
  simp [Ideal.ofBits, Ideal.ieee]; rw [← EReal.coe_mul]; norm_num

/-- The squared error's cotangent: half of it twice over the width. -/
theorem err_ct (d : EReal) : d * Ideal.div (Ideal.ofBits .f32 0x3F000000#32) (Ideal.ofBits .f32 0x44800000#32)
    + Ideal.div (Ideal.ofBits .f32 0x3F000000#32) (Ideal.ofBits .f32 0x44800000#32) * d = d * Ideal.ofBits .f32 0x3A800000#32 := by
  rw [bits_half, bits_1024, bits_inv_1024, div_pos_coe (by norm_num), ← EReal.coe_mul, mul_comm _ d, add_self_eq,
    mul_comm d, ← mul_assoc, ← EReal.coe_mul, mul_comm d]
  congr 2; norm_num

/-- Half the sum of the rows' means is the sum of squares times one constant. -/
theorem loss_sum {ι : Type*} [Fintype ι] (f : ι → EReal) : Ideal.ofBits .f32 0x3F000000#32 * ∑ t, Ideal.div (f t) (Ideal.ofBits .f32 0x44800000#32)
    = ∑ t, Ideal.ofBits .f32 0x3A000000#32 * f t := by
  rw [bits_half, bits_1024, bits_inv_2048, coe_mul_sum _ _ (by norm_num)]
  refine Finset.sum_congr rfl fun t _ => ?_
  rw [div_pos_coe (by norm_num), ← mul_assoc, ← EReal.coe_mul]
  congr 2; norm_num

end Cert.Math

namespace Cert.MlpRefIdeal.Hand

open Cert.MlpRefIdeal Cert.MlpRefIdeal.Gen Cert.MlpRefIdeal.Read Idealize.ShloMosaic Idealize.ShloMosaic.TcCoe Idealize.SL.Sem
open Cert.BwdInRefIdeal.Hand (inv)

/-- The two gains and the two projections. -/
structure Wts where
  g2 : Fin 1024 → EReal
  g3 : Fin 1024 → EReal
  U : Fin 1024 → Fin 4096 → EReal
  D : Fin 4096 → Fin 1024 → EReal

namespace Wts

variable (p : Wts) (X T : Fin 1024 → EReal)

/-- The normalised row into the feed-forward part. -/
def n2 (j : Fin 1024) : EReal := X j * inv X * p.g2 j
/-- The clipped projection. -/
def rl (f : Fin 4096) : EReal := max (∑ j, p.n2 X j * p.U j f) 0
/-- The row after the feed-forward part. -/
def h2 (j : Fin 1024) : EReal := X j + ∑ f, p.rl X f * p.rl X f * p.D f j
/-- That row, normalised. -/
def xh (j : Fin 1024) : EReal := p.h2 X j * inv (p.h2 X)
/-- The row's error. -/
def df (j : Fin 1024) : EReal := p.xh X j * p.g3 j - T j
/-- The loss's gradient in the output. -/
def dy (j : Fin 1024) : EReal := p.df X T j * Ideal.ofBits .f32 0x3A800000#32
/-- The gradient in the row before the last norm. -/
def dh2 (j : Fin 1024) : EReal := inv (p.h2 X) * (p.dy X T j * p.g3 j
  - p.xh X j * Ideal.div (∑ k, p.dy X T k * p.g3 k * p.xh X k) (Ideal.ofBits .f32 0x44800000#32))
/-- The gradient in the first projection's result. -/
def dup (f : Fin 4096) : EReal := (∑ j, p.dh2 X T j * p.D f j) * (Ideal.ofBits .f32 0x40000000#32 * p.rl X f)
/-- The gradient in the normalised row. -/
def dn2 (j : Fin 1024) : EReal := ∑ f, p.dup X T f * p.U j f
/-- The gradient in the row the part starts from. -/
def dh1 (j : Fin 1024) : EReal := p.dh2 X T j + inv X * (p.dn2 X T j * p.g2 j
  - X j * inv X * Ideal.div (∑ k, p.dn2 X T k * p.g2 k * (X k * inv X)) (Ideal.ofBits .f32 0x44800000#32))

end Wts

/-- The gains and projections of the call's arguments. -/
def wts (x1 : FVec Ideal S1x1024 .f32) (x2 : FVec Ideal S1x1024x4096 .f32) (x3 : FVec Ideal S1x4096x1024 .f32) (x4 : FVec Ideal S1024 .f32) : Wts :=
  ⟨fun j => x1 (ix2 0 j), fun j => x4 (ix1 j), fun j f => x2 (ix3 0 j f), fun f j => x3 (ix3 0 f j)⟩

variable (x0 : FVec Ideal S1x4096x1024 .f32) (x1 : FVec Ideal S1x1024 .f32) (x2 : FVec Ideal S1x1024x4096 .f32) (x3 : FVec Ideal S1x4096x1024 .f32)
  (x4 : FVec Ideal S1024 .f32) (x5 : FVec Ideal S1x4096x1024 .f32) (t : Fin 4096)

/-- A row of the argument, and of the target. -/
abbrev row (x : FVec Ideal S1x4096x1024 .f32) (t : Fin 4096) (j : Fin 1024) : EReal := x (ix3 0 t j)

/-- What a row's sum of squares is to the root. -/
abbrev ms (X : Fin 1024 → EReal) : EReal := Cert.Math.msq (Ideal.ofBits .f32 0x44800000#32) (Ideal.ofBits .f32 0x358637BD#32) X

theorem v9_at (a b : Fin 1) : val_main_v9 (F := Ideal) x0 (ix3 a t b) = ms (row x0 t) := by
  obtain rfl := Subsingleton.elim a 0
  pointwise [val_main_v9, val_main_v8, val_main_v7, val_main_v6, val_main_v5, val_main_v4, val_main_v3, val_main_cst_1, val_main_cst_2, val_main_cst_3]
  first | rfl | (simp only [zero_add]; rfl)

theorem v10_at (a b : Fin 1) : val_main_v10 (F := Ideal) x0 (ix3 a t b) = inv (row x0 t) := by
  unfold val_main_v10 Cert.BwdInRefIdeal.Hand.inv
  pointwise [v9_at]

theorem v15_at (a : Fin 1) (j : Fin 1024) : val_main_v15 (F := Ideal) x0 (ix3 a t j) = x0 (ix3 0 t j) * inv (row x0 t) := by
  obtain rfl := Subsingleton.elim a 0
  pointwise [val_main_v15, val_main_v14, v10_at]

theorem v18_at (a : Fin 1) (j : Fin 1024) : val_main_v18 (F := Ideal) x0 x1 (ix3 a t j) = (wts x1 x2 x3 x4).n2 (row x0 t) j := by
  obtain rfl := Subsingleton.elim a 0
  pointwise [val_main_v18, val_main_v17, val_main_v16, v15_at, val_main_v2, Wts.n2, wts]

theorem v21_at (a : Fin 1) (f : Fin 4096) : val_main_v21 (F := Ideal) x0 x1 x2 (ix3 a t f)
    = ∑ j, (wts x1 x2 x3 x4).n2 (row x0 t) j * (wts x1 x2 x3 x4).U j f := by
  pointwise [val_main_v21, val_main_v20, val_main_v19, val_main_v0, val_main_cst, v18_at x0 x1 x2 x3 x4]
  rfl

theorem v22_at (a : Fin 1) (f : Fin 4096) : val_main_v22 (F := Ideal) x0 x1 x2 (ix3 a t f) = (wts x1 x2 x3 x4).rl (row x0 t) f := by
  pointwise [val_main_v22, val_main_call0_v0, val_main_call0_cst, v21_at x0 x1 x2 x3 x4]
  rfl

theorem v26_at (a : Fin 1) (f : Fin 4096) : val_main_v26 (F := Ideal) x0 x1 x2 (ix3 a t f)
    = (wts x1 x2 x3 x4).rl (row x0 t) f * (wts x1 x2 x3 x4).rl (row x0 t) f := by
  pointwise [val_main_v26, v22_at x0 x1 x2 x3 x4]

theorem v32_at (a : Fin 1) (j : Fin 1024) : val_main_v32 (F := Ideal) x0 x1 x2 x3 (ix3 a t j) = (wts x1 x2 x3 x4).h2 (row x0 t) j := by
  obtain rfl := Subsingleton.elim a 0
  pointwise [val_main_v32, val_main_v31, val_main_v30, val_main_v29, val_main_v1, val_main_cst_0, v26_at x0 x1 x2 x3 x4]
  rfl

theorem v39_at (a b : Fin 1) : val_main_v39 (F := Ideal) x0 x1 x2 x3 (ix3 a t b) = ms ((wts x1 x2 x3 x4).h2 (row x0 t)) := by
  obtain rfl := Subsingleton.elim a 0
  pointwise [val_main_v39, val_main_v38, val_main_v37, val_main_v36, val_main_v35, val_main_v34, val_main_v33, v32_at x0 x1 x2 x3 x4,
    val_main_cst_8, val_main_cst_9, val_main_cst_10]
  first | rfl | (simp only [zero_add]; rfl)

theorem v40_at (a b : Fin 1) : val_main_v40 (F := Ideal) x0 x1 x2 x3 (ix3 a t b) = inv ((wts x1 x2 x3 x4).h2 (row x0 t)) := by
  unfold val_main_v40 Cert.BwdInRefIdeal.Hand.inv
  pointwise [v39_at x0 x1 x2 x3 x4]

theorem v45_at (a : Fin 1) (j : Fin 1024) : val_main_v45 (F := Ideal) x0 x1 x2 x3 (ix3 a t j) = (wts x1 x2 x3 x4).xh (row x0 t) j := by
  pointwise [val_main_v45, val_main_v44, v32_at x0 x1 x2 x3 x4, v40_at x0 x1 x2 x3 x4, Wts.xh]

theorem v49_at (a : Fin 1) (j : Fin 1024) : val_main_v49 (F := Ideal) x0 x1 x2 x3 x4 x5 (ix3 a t j)
    = (wts x1 x2 x3 x4).df (row x0 t) (row x5 t) j := by
  obtain rfl := Subsingleton.elim a 0
  pointwise [val_main_v49, val_main_v48, val_main_v47, val_main_v46, v45_at x0 x1 x2 x3 x4, Wts.df, wts]

theorem v63_at (a : Fin 1) (j : Fin 1024) : val_main_v63 (F := Ideal) x0 x1 x2 x3 x4 x5 (ix3 a t j)
    = (wts x1 x2 x3 x4).dy (row x0 t) (row x5 t) j := by
  pointwise [val_main_v63, val_main_v62, val_main_v61, val_main_v60, val_main_v59, val_main_v58, val_main_v57, val_main_v56,
    val_main_cst_16, val_main_cst_17, val_main_cst_18, v49_at]
  exact Cert.Math.err_ct _

theorem v68_at (a : Fin 1) (j : Fin 1024) : val_main_v68 (F := Ideal) x0 x1 x2 x3 x4 x5 (ix3 a t j)
    = (wts x1 x2 x3 x4).dy (row x0 t) (row x5 t) j * x4 (ix1 j) := by
  pointwise [val_main_v68, val_main_v67, val_main_v46, v63_at]

/-- What a norm's row factor hands back, over the width. -/
def mean_ct (X A : Fin 1024 → EReal) : EReal := Ideal.div ((∑ k, X k * A k) * (Ideal.ofBits .f32 0xBF000000#32 * Ideal.div (inv X) (ms X)))
  (Ideal.ofBits .f32 0x44800000#32)

/-- A norm's gradient from its three terms. -/
theorem rms_sum (X A : Fin 1024 → EReal) (j : Fin 1024) : A j * inv X + X j * mean_ct X A + mean_ct X A * X j
    = inv X * (A j - X j * inv X * Ideal.div (∑ k, A k * (X k * inv X)) (Ideal.ofBits .f32 0x44800000#32)) := by
  obtain ⟨ε, hε, he⟩ := Cert.Math.bits_eps
  unfold mean_ct ms Cert.BwdInRefIdeal.Hand.inv
  rw [he, Cert.Math.bits_1024, Cert.Math.bits_neg_half, Cert.Math.rms_bwd (by norm_num) hε X A j, add_assoc]

theorem v79_at (a : Fin 1) : val_main_v79 (F := Ideal) x0 x1 x2 x3 x4 x5 (ix2 a t)
    = mean_ct ((wts x1 x2 x3 x4).h2 (row x0 t)) fun k => (wts x1 x2 x3 x4).dy (row x0 t) (row x5 t) k * x4 (ix1 k) := by
  pointwise [val_main_v79, val_main_v78]
  refine (Cert.Math.sum_first_last _ _ _ t).trans ?_
  pointwise [val_main_cst_23, val_main_v77, val_main_v76, val_main_v75, val_main_v72, val_main_v71, val_main_v70, val_main_cst_21, val_main_cst_22,
    v68_at, v32_at x0 x1 x2 x3 x4, val_main_v43, val_main_v42, val_main_v41, val_main_cst_11, v40_at x0 x1 x2 x3 x4, v39_at x0 x1 x2 x3 x4, mean_ct]

theorem v84_at (a : Fin 1) (j : Fin 1024) : val_main_v84 (F := Ideal) x0 x1 x2 x3 x4 x5 (ix3 a t j)
    = (wts x1 x2 x3 x4).dh2 (row x0 t) (row x5 t) j := by
  pointwise [val_main_v84, val_main_v83, val_main_v82, val_main_v81, val_main_v80, val_main_v74, val_main_v73, v79_at, v68_at, v32_at x0 x1 x2 x3 x4,
    v40_at x0 x1 x2 x3 x4]
  exact rms_sum ((wts x1 x2 x3 x4).h2 (row x0 t)) (fun k => (wts x1 x2 x3 x4).dy (row x0 t) (row x5 t) k * x4 (ix1 k)) j

theorem v88_at (a : Fin 1) (f : Fin 4096) : val_main_v88 (F := Ideal) x0 x1 x2 x3 x4 x5 (ix3 a t f)
    = (wts x1 x2 x3 x4).dup (row x0 t) (row x5 t) f := by
  pointwise [val_main_v88, val_main_v87, val_main_v86, val_main_v85, val_main_v28, val_main_v27, val_main_v24, val_main_v23, val_main_v29,
    val_main_cst_5, val_main_cst_7, val_main_cst_24, v84_at, v22_at x0 x1 x2 x3 x4, v21_at x0 x1 x2 x3 x4]
  split_ifs with h
  · rfl
  · unfold Wts.dup Wts.rl
    rw [max_eq_right (not_lt.mp h), mul_zero, mul_zero]

theorem v89_at (a : Fin 1) (j : Fin 1024) : val_main_v89 (F := Ideal) x0 x1 x2 x3 x4 x5 (ix3 a t j)
    = (wts x1 x2 x3 x4).dn2 (row x0 t) (row x5 t) j := by
  pointwise [val_main_v89, val_main_v19, v88_at]
  rfl

theorem v94_at (a : Fin 1) (j : Fin 1024) : val_main_v94 (F := Ideal) x0 x1 x2 x3 x4 x5 (ix3 a t j)
    = (wts x1 x2 x3 x4).dn2 (row x0 t) (row x5 t) j * x1 (ix2 0 j) := by
  pointwise [val_main_v94, val_main_v93, val_main_v16, val_main_v2, v89_at]

theorem v106_at (a : Fin 1) : val_main_v106 (F := Ideal) x0 x1 x2 x3 x4 x5 (ix2 a t)
    = mean_ct (row x0 t) fun k => (wts x1 x2 x3 x4).dn2 (row x0 t) (row x5 t) k * x1 (ix2 0 k) := by
  pointwise [val_main_v106, val_main_v105]
  refine (Cert.Math.sum_first_last _ _ _ t).trans ?_
  pointwise [val_main_cst_29, val_main_v104, val_main_v103, val_main_v102, val_main_v98, val_main_v97, val_main_v96, val_main_cst_27, val_main_cst_28,
    v94_at, val_main_v13, val_main_v12, val_main_v11, val_main_cst_4, v10_at, v9_at, mean_ct]

/-- The first result: the loss in every element. -/
theorem loss_at (y : S8x128.Idx) : val_main_v113 (F := Ideal) x0 x1 x2 x3 x4 x5 y
    = ∑ t : Fin 4096, Ideal.ofBits .f32 0x3A000000#32
      * ∑ j, (wts x1 x2 x3 x4).df (row x0 t) (row x5 t) j * (wts x1 x2 x3 x4).df (row x0 t) (row x5 t) j := by
  rw [← Cert.Math.loss_sum]
  pointwise [val_main_v113, val_main_v55, val_main_cst_15]
  refine congrArg _ ((Cert.Math.sum_one_row _ _ _ _).trans ?_)
  pointwise [val_main_cst_14, val_main_v53, val_main_v52, val_main_v51, val_main_v50, val_main_cst_12, val_main_cst_13, v49_at]

/-- The second: the gradient in the part's argument. -/
theorem dh1_at (j : Fin 1024) : val_main_v114 (F := Ideal) x0 x1 x2 x3 x4 x5 (ix2 t j)
    = (wts x1 x2 x3 x4).dh1 (row x0 t) (row x5 t) j := by
  pointwise [val_main_v114, val_main_v111, val_main_v110, val_main_v109, val_main_v108, val_main_v107, val_main_v101, val_main_v100, val_main_v99,
    v84_at, v94_at, v106_at, v10_at]
  rw [add_assoc, add_assoc, ← add_assoc (_ * inv _)]
  exact congrArg _ (rms_sum (row x0 t) (fun k => (wts x1 x2 x3 x4).dn2 (row x0 t) (row x5 t) k * x1 (ix2 0 k)) j)

/-- The third and the fourth: the gradients in the two gains. -/
theorem dg2_at (a : Fin 1) (j : Fin 1024) : val_main_v112 (F := Ideal) x0 x1 x2 x3 x4 x5 (ix2 a j)
    = ∑ t : Fin 4096, (wts x1 x2 x3 x4).dn2 (row x0 t) (row x5 t) j * (x0 (ix3 0 t j) * inv (row x0 t)) := by
  pointwise [val_main_v112, val_main_v95]
  refine (Cert.Math.sum_first_two _ _ _ j).trans ?_
  pointwise [val_main_cst_26, val_main_v92, val_main_v91, val_main_v90, val_main_cst_25, v15_at, v89_at]
  exact Finset.sum_congr rfl fun t _ => mul_comm _ _

theorem dg3_at (a : Fin 1) (j : Fin 1024) : val_main_v115 (F := Ideal) x0 x1 x2 x3 x4 x5 (ix2 a j)
    = ∑ t : Fin 4096, (wts x1 x2 x3 x4).dy (row x0 t) (row x5 t) j * (wts x1 x2 x3 x4).xh (row x0 t) j := by
  pointwise [val_main_v115, val_main_v69]
  refine (Cert.Math.sum_first_two _ _ _ j).trans ?_
  pointwise [val_main_cst_20, val_main_v66, val_main_v65, val_main_v64, val_main_cst_19, v45_at x0 x1 x2 x3 x4, v63_at]
  exact Finset.sum_congr rfl fun t _ => mul_comm _ _

/-- The last three: the activation, and the gradients in the two projections' results. -/
theorem act_at (f : Fin 4096) : val_main_v117 (F := Ideal) x0 x1 x2 (ix2 t f)
    = (wts x1 x2 x3 x4).rl (row x0 t) f * (wts x1 x2 x3 x4).rl (row x0 t) f := by
  pointwise [val_main_v117, val_main_v116, v26_at x0 x1 x2 x3 x4]

theorem dup_at (f : Fin 4096) : val_main_v119 (F := Ideal) x0 x1 x2 x3 x4 x5 (ix2 t f) = (wts x1 x2 x3 x4).dup (row x0 t) (row x5 t) f := by
  pointwise [val_main_v119, val_main_v118, v88_at]

theorem dh2_at (j : Fin 1024) : val_main_v121 (F := Ideal) x0 x1 x2 x3 x4 x5 (ix2 t j) = (wts x1 x2 x3 x4).dh2 (row x0 t) (row x5 t) j := by
  pointwise [val_main_v121, val_main_v120, v84_at]

end Cert.MlpRefIdeal.Hand

end
-- ==== Proof.MlpTile.lean ====
/- The feed-forward part's gradient on one tile of rows: what the call computes from the tile's blocks is, row by row, the
   rows' quantities. -/
module

public import proofs.«01_k».proof.Proof.Gen.MlpIdeal.Value
public import proofs.«01_k».proof.Proof.MlpRef
public import Idealize.ShloMosaic.Lib.Pointwise
public import Idealize.ShloMosaic.Lib.Pipeline.ReadBack
public import Idealize.ShloMosaic.Lib.Pipeline.ValueKit

@[expose] public section

set_option maxRecDepth 16384

noncomputable section

namespace Cert.MlpIdeal.Hand

open Cert.MlpIdeal Cert.MlpIdeal.Gen Idealize.ShloMosaic Idealize.ShloMosaic.TcCoe Idealize.SL.Sem
open Cert.BwdInRefIdeal.Hand (inv)
open Cert.MlpRefIdeal.Hand (Wts)

section Kept

variable (a0 a1 a2 a3 : FVec Ideal S256x1024 .f32)

/-- The four parts a point keeps, the last one first. -/
def kept : List (View.Piece (Elt Ideal) S256x4096 .f32) := [⟨Rect.unit ![0, 3072] ![256, 1024] inb_S256x4096_S256x1024_0_3072, a3⟩, ⟨Rect.unit ![0, 2048] ![256, 1024] inb_S256x4096_S256x1024_0_2048, a2⟩, ⟨Rect.unit ![0, 1024] ![256, 1024] inb_S256x4096_S256x1024_0_1024, a1⟩, ⟨Rect.unit ![0, 0] ![256, 1024] inb_S256x4096_S256x1024_0_0, a0⟩]

theorem kept_0 : (View.whole cc0_scratch0).readCov (kept a0 a1 a2 a3) (Rect.unit ![0, 0] ![256, 1024] inb_S256x4096_S256x1024_0_0).toLoadRect = a0 := by
  unfold kept
  rw [View.readCov_skip _ _ _ _ _ (by decide), View.readCov_skip _ _ _ _ _ (by decide), View.readCov_skip _ _ _ _ _ (by decide), View.readCov_cons_toLoadRect]
theorem kept_1 : (View.whole cc0_scratch0).readCov (kept a0 a1 a2 a3) (Rect.unit ![0, 1024] ![256, 1024] inb_S256x4096_S256x1024_0_1024).toLoadRect = a1 := by
  unfold kept
  rw [View.readCov_skip _ _ _ _ _ (by decide), View.readCov_skip _ _ _ _ _ (by decide), View.readCov_cons_toLoadRect]
theorem kept_2 : (View.whole cc0_scratch0).readCov (kept a0 a1 a2 a3) (Rect.unit ![0, 2048] ![256, 1024] inb_S256x4096_S256x1024_0_2048).toLoadRect = a2 := by
  unfold kept
  rw [View.readCov_skip _ _ _ _ _ (by decide), View.readCov_cons_toLoadRect]
theorem kept_3 : (View.whole cc0_scratch0).readCov (kept a0 a1 a2 a3) (Rect.unit ![0, 3072] ![256, 1024] inb_S256x4096_S256x1024_0_3072).toLoadRect = a3 := View.readCov_cons_toLoadRect _ _ _ _

end Kept

/-- A tile's blocks: the normalised rows, the rows, the targets, the two projections and the two gains. -/
structure Tile where
  n2 : Vec Ideal S256x1024 .bf16
  h1 : Vec Ideal S256x1024 .f32
  tg : Vec Ideal S256x1024 .f32
  up : Vec Ideal S4x1024x1024 .bf16
  dn : Vec Ideal S4096x1024 .bf16
  g2 : Vec Ideal S1x1024 .f32
  g3 : Vec Ideal S1x1024 .f32

namespace Tile

variable (b : Tile)

/-- The projections' four parts. -/
def u0 : Vec Ideal S1x1024x1024 .bf16 := View.ld b.up (Rect.unit (s := S4x1024x1024) ![0, 0, 0] S1x1024x1024.size inb_S4x1024x1024_S1x1024x1024_0_0_0)
def u1 : Vec Ideal S1x1024x1024 .bf16 := View.ld b.up (Rect.unit (s := S4x1024x1024) ![1, 0, 0] S1x1024x1024.size inb_S4x1024x1024_S1x1024x1024_1_0_0)
def u2 : Vec Ideal S1x1024x1024 .bf16 := View.ld b.up (Rect.unit (s := S4x1024x1024) ![2, 0, 0] S1x1024x1024.size inb_S4x1024x1024_S1x1024x1024_2_0_0)
def u3 : Vec Ideal S1x1024x1024 .bf16 := View.ld b.up (Rect.unit (s := S4x1024x1024) ![3, 0, 0] S1x1024x1024.size inb_S4x1024x1024_S1x1024x1024_3_0_0)
def d0 : Vec Ideal S1024x1024 .bf16 := View.ld b.dn (Rect.unit (s := S4096x1024) ![0, 0] S1024x1024.size inb_S4096x1024_S1024x1024_0_0)
def d1 : Vec Ideal S1024x1024 .bf16 := View.ld b.dn (Rect.unit (s := S4096x1024) ![1024, 0] S1024x1024.size inb_S4096x1024_S1024x1024_1024_0)
def d2 : Vec Ideal S1024x1024 .bf16 := View.ld b.dn (Rect.unit (s := S4096x1024) ![2048, 0] S1024x1024.size inb_S4096x1024_S1024x1024_2048_0)
def d3 : Vec Ideal S1024x1024 .bf16 := View.ld b.dn (Rect.unit (s := S4096x1024) ![3072, 0] S1024x1024.size inb_S4096x1024_S1024x1024_3072_0)

/-- The clipped projection's four parts, as the point keeps them. -/
def ks := kept (k0_pay8 b.n2 b.u0) (k0_pay12 b.n2 b.u1) (k0_pay15 (k0_pay5 b.n2) b.u2) (k0_pay19 (k0_pay5 b.n2) b.u3)
def r0 : FVec Ideal S256x1024 .f32 := (View.whole cc0_scratch0).readCov b.ks (Rect.unit (s := S256x4096) ![0, 0] ![256, 1024] inb_S256x4096_S256x1024_0_0).toLoadRect
def r1 : FVec Ideal S256x1024 .f32 := (View.whole cc0_scratch0).readCov b.ks (Rect.unit (s := S256x4096) ![0, 1024] ![256, 1024] inb_S256x4096_S256x1024_0_1024).toLoadRect
def r2 : FVec Ideal S256x1024 .f32 := (View.whole cc0_scratch0).readCov b.ks (Rect.unit (s := S256x4096) ![0, 2048] ![256, 1024] inb_S256x4096_S256x1024_0_2048).toLoadRect
def r3 : FVec Ideal S256x1024 .f32 := (View.whole cc0_scratch0).readCov b.ks (Rect.unit (s := S256x4096) ![0, 3072] ![256, 1024] inb_S256x4096_S256x1024_0_3072).toLoadRect

/-- The rows after three parts, and the last part's activation. -/
def sA : FVec Ideal S256x1024 .f32 := k0_pay17 (k0_pay5 b.n2) (k0_pay10 b.n2 b.h1 b.u0 b.d0) (k0_pay11 b.n2 b.u1) b.d1 b.u2 b.d2
def sB : FVec Ideal S256x1024 .bf16 := k0_pay20 (k0_pay5 b.n2) b.u3

def xh : FVec Ideal S256x1024 .f32 := k0_pay23 b.sA b.sB b.d3
def iv : FVec Ideal S256x1 .f32 := k0_pay22 b.sA b.sB b.d3
def dy : FVec Ideal S256x1024 .f32 := k0_pay26 b.sA b.sB b.d3 b.g3 b.tg
/-- The loss and the last gain's gradient after a tile, from what the tiles before left. -/
def loss (L : FVec Ideal S8x128 .f32) : FVec Ideal S8x128 .f32 := k0_pay25 b.sA b.sB b.d3 b.g3 b.tg L
def dg3 (g : FVec Ideal S1x1024 .f32) : FVec Ideal S1x1024 .f32 := k0_pay27 b.xh b.dy g
def dh2 : FVec Ideal S256x1024 .f32 := k0_pay28 b.iv b.xh b.dy b.g3
def dh2b : FVec Ideal S256x1024 .bf16 := k0_pay29 b.iv b.xh b.dy b.g3
/-- The gradient in the first projection's result, part by part. -/
def p0 : FVec Ideal S256x1024 .bf16 := k0_pay31 b.iv b.xh b.dy b.g3 b.d0 b.r0
def p1 : FVec Ideal S256x1024 .bf16 := k0_pay33 b.dh2b b.d1 b.r1
def p2 : FVec Ideal S256x1024 .bf16 := k0_pay34 b.dh2b b.d2 b.r2
def q3 : FVec Ideal S256x1024 .f32 := k0_pay36 b.dh2b b.d3
def p3 : FVec Ideal S256x1024 .bf16 := k0_pay37 b.q3 b.r3
/-- Its product with the first projection's three parts. -/
def sC : FVec Ideal S256x1024 .f32 :=
  k0_pay35 b.dh2b k0_pay30 b.p0 (k0_pay32 b.u0) (constant S256x1024 .f32 0x00000000#32) b.d1 b.r1 b.u1 b.d2 b.r2 b.u2
def dg2 (g : FVec Ideal S1x1024 .f32) : FVec Ideal S1x1024 .f32 := k0_pay41 (k0_pay6 b.h1) b.sC b.q3 b.r3 b.u3 g
def dh1 : FVec Ideal S256x1024 .f32 :=
  k0_pay1 b.dh2 (k0_pay39 (k0_pay6 b.h1)) (k0_pay42 b.sC b.q3 b.r3 b.u3 b.g2) (k0_pay43 (k0_pay6 b.h1) b.sC b.q3 b.r3 b.u3 b.g2)

/-- The blocks hold the rows `X` and `T`. -/
structure Holds (p : Wts) (X T : Fin 256 → Fin 1024 → EReal) : Prop where
  n2 : ∀ r j, (b.n2 (ix2 r j) : EReal) = p.n2 (X r) j
  h1 : ∀ r j, (b.h1 (ix2 r j) : EReal) = X r j
  tg : ∀ r j, (b.tg (ix2 r j) : EReal) = T r j
  up : ∀ (k : Fin 4) j (l : Fin 1024), (b.up (ix3 k j l) : EReal) = p.U j ⟨k.val * 1024 + l.val, by omega⟩
  dn : ∀ f j, (b.dn (ix2 f j) : EReal) = p.D f j
  g2 : ∀ j, (b.g2 (ix2 0 j) : EReal) = p.g2 j
  g3 : ∀ j, (b.g3 (ix2 0 j) : EReal) = p.g3 j

variable {b} {p : Wts} {X T : Fin 256 → Fin 1024 → EReal}

/-- The column a part's column is. -/
abbrev col (k : Fin 4) (l : Fin 1024) : Fin 4096 := ⟨k.val * 1024 + l.val, by omega⟩

theorem u0_at (h : b.Holds p X T) (j l : Fin 1024) : (b.u0 (ix3 0 j l) : EReal) = p.U j (col 0 l) := by
  rw [← h.up]; unfold u0; pointwise
theorem u1_at (h : b.Holds p X T) (j l : Fin 1024) : (b.u1 (ix3 0 j l) : EReal) = p.U j (col 1 l) := by
  rw [← h.up]; unfold u1; pointwise
theorem u2_at (h : b.Holds p X T) (j l : Fin 1024) : (b.u2 (ix3 0 j l) : EReal) = p.U j (col 2 l) := by
  rw [← h.up]; unfold u2; pointwise
theorem u3_at (h : b.Holds p X T) (j l : Fin 1024) : (b.u3 (ix3 0 j l) : EReal) = p.U j (col 3 l) := by
  rw [← h.up]; unfold u3; pointwise
theorem d0_at (h : b.Holds p X T) (l j : Fin 1024) : (b.d0 (ix2 l j) : EReal) = p.D (col 0 l) j := by
  rw [← h.dn]; unfold d0; pointwise; blk_ext
theorem d1_at (h : b.Holds p X T) (l j : Fin 1024) : (b.d1 (ix2 l j) : EReal) = p.D (col 1 l) j := by
  rw [← h.dn]; unfold d1; pointwise; blk_ext
theorem d2_at (h : b.Holds p X T) (l j : Fin 1024) : (b.d2 (ix2 l j) : EReal) = p.D (col 2 l) j := by
  rw [← h.dn]; unfold d2; pointwise; blk_ext
theorem d3_at (h : b.Holds p X T) (l j : Fin 1024) : (b.d3 (ix2 l j) : EReal) = p.D (col 3 l) j := by
  rw [← h.dn]; unfold d3; pointwise; blk_ext

theorem r0_at (h : b.Holds p X T) (r : Fin 256) (l : Fin 1024) : b.r0 (ix2 r l) = p.rl (X r) (col 0 l) := by
  unfold r0 ks Wts.rl
  rw [kept_0]
  pointwise [k0_pay8, k0_pay7, k0_pay5, u0_at h, h.n2]
theorem r1_at (h : b.Holds p X T) (r : Fin 256) (l : Fin 1024) : b.r1 (ix2 r l) = p.rl (X r) (col 1 l) := by
  unfold r1 ks Wts.rl
  rw [kept_1]
  pointwise [k0_pay12, k0_pay11, k0_pay5, u1_at h, h.n2]
theorem r2_at (h : b.Holds p X T) (r : Fin 256) (l : Fin 1024) : b.r2 (ix2 r l) = p.rl (X r) (col 2 l) := by
  unfold r2 ks Wts.rl
  rw [kept_2]
  pointwise [k0_pay15, k0_pay14, k0_pay5, u2_at h, h.n2]
theorem r3_at (h : b.Holds p X T) (r : Fin 256) (l : Fin 1024) : b.r3 (ix2 r l) = p.rl (X r) (col 3 l) := by
  unfold r3 ks Wts.rl
  rw [kept_3]
  pointwise [k0_pay19, k0_pay18, k0_pay5, u3_at h, h.n2]

/-- A sum over the wide axis, part by part. -/
theorem sum_parts (f : Fin 4096 → EReal) : ∑ i, f i = (∑ l, f (col 0 l)) + (∑ l, f (col 1 l)) + (∑ l, f (col 2 l)) + ∑ l, f (col 3 l) := by
  rw [Fin.sum_univ_tiles 4 1024 rfl, Fin.sum_univ_four]

/-- The activation, part by part. -/
theorem a0_at (h : b.Holds p X T) (r : Fin 256) (l : Fin 1024) :
    k0_pay9 (F := Ideal) b.n2 b.u0 (ix2 r l) = p.rl (X r) (col 0 l) * p.rl (X r) (col 0 l) := by
  unfold Wts.rl
  pointwise [k0_pay9, k0_pay7, k0_pay5, u0_at h, h.n2]
theorem a1_at (h : b.Holds p X T) (r : Fin 256) (l : Fin 1024) :
    k0_pay13 (F := Ideal) (k0_pay11 b.n2 b.u1) (ix2 r l) = p.rl (X r) (col 1 l) * p.rl (X r) (col 1 l) := by
  unfold Wts.rl
  pointwise [k0_pay13, k0_pay11, k0_pay5, u1_at h, h.n2]
theorem a2_at (h : b.Holds p X T) (r : Fin 256) (l : Fin 1024) :
    k0_pay16 (F := Ideal) (k0_pay5 b.n2) b.u2 (ix2 r l) = p.rl (X r) (col 2 l) * p.rl (X r) (col 2 l) := by
  unfold Wts.rl
  pointwise [k0_pay16, k0_pay14, k0_pay5, u2_at h, h.n2]
theorem a3_at (h : b.Holds p X T) (r : Fin 256) (l : Fin 1024) : b.sB (ix2 r l) = p.rl (X r) (col 3 l) * p.rl (X r) (col 3 l) := by
  unfold sB Wts.rl
  pointwise [k0_pay20, k0_pay18, k0_pay5, u3_at h, h.n2]

theorem h2_at (h : b.Holds p X T) (r : Fin 256) (j : Fin 1024) : k0_pay21 (F := Ideal) b.sA b.sB b.d3 (ix2 r j) = p.h2 (X r) j := by
  unfold Wts.h2 sA
  rw [sum_parts]
  pointwise [k0_pay21, k0_pay17, k0_pay10, k0_pay6, a0_at h, a1_at h, a2_at h, a3_at h, d0_at h, d1_at h, d2_at h, d3_at h, h.h1]
  simp only [add_assoc]

theorem iv_at (h : b.Holds p X T) (r : Fin 256) (a : Fin 1) : b.iv (ix2 r a) = inv (p.h2 (X r)) := by
  unfold iv
  pointwise [k0_pay22, h2_at h]
  rfl

theorem xh_at (h : b.Holds p X T) (r : Fin 256) (j : Fin 1024) : b.xh (ix2 r j) = p.xh (X r) j := by
  have e := iv_at h
  unfold iv at e
  unfold xh Wts.xh
  pointwise [k0_pay23, h2_at h, e]

theorem df_at (h : b.Holds p X T) (r : Fin 256) (j : Fin 1024) : k0_pay24 (F := Ideal) b.sA b.sB b.d3 b.g3 b.tg (ix2 r j) = p.df (X r) (T r) j := by
  have e := xh_at h
  unfold xh at e
  unfold Wts.df
  pointwise [k0_pay24, e, h.g3, h.tg]

theorem dy_at (h : b.Holds p X T) (r : Fin 256) (j : Fin 1024) : b.dy (ix2 r j) = p.dy (X r) (T r) j := by
  unfold dy Wts.dy
  pointwise [k0_pay26, df_at h]

theorem loss_at (h : b.Holds p X T) (L : FVec Ideal S8x128 .f32) (y : S8x128.Idx) :
    b.loss L y = L y + ∑ r, Ideal.ofBits .f32 0x3A000000#32 * ∑ j, p.df (X r) (T r) j * p.df (X r) (T r) j := by
  rw [Cert.Math.bits_inv_2048, ← Cert.Math.coe_mul_sum _ _ (by norm_num), ← Cert.Math.bits_inv_2048]
  unfold loss
  idx_vars y
  pointwise [k0_pay25, df_at h]

theorem dg3_at (h : b.Holds p X T) (g : FVec Ideal S1x1024 .f32) (j : S1x1024.Idx) :
    b.dg3 g j = g j + ∑ r, p.dy (X r) (T r) (j 1) * p.xh (X r) (j 1) := by
  unfold dg3
  idx_vars j
  pointwise [k0_pay27, dy_at h, xh_at h]

theorem dh2_at (h : b.Holds p X T) (r : Fin 256) (j : Fin 1024) : b.dh2 (ix2 r j) = p.dh2 (X r) (T r) j := by
  unfold dh2 Wts.dh2
  pointwise [k0_pay28, dy_at h, xh_at h, iv_at h, h.g3]

theorem dh2b_at (h : b.Holds p X T) (r : Fin 256) (j : Fin 1024) : b.dh2b (ix2 r j) = p.dh2 (X r) (T r) j := by
  rw [← dh2_at h]
  unfold dh2b
  pointwise [k0_pay29]
  rfl

theorem p0_at (h : b.Holds p X T) (r : Fin 256) (l : Fin 1024) : b.p0 (ix2 r l) = p.dup (X r) (T r) (col 0 l) := by
  have e := dh2b_at h
  unfold dh2b at e
  unfold p0 Wts.dup
  pointwise [k0_pay31, e, d0_at h, r0_at h]
theorem p1_at (h : b.Holds p X T) (r : Fin 256) (l : Fin 1024) : b.p1 (ix2 r l) = p.dup (X r) (T r) (col 1 l) := by
  unfold p1 Wts.dup
  pointwise [k0_pay33, dh2b_at h, d1_at h, r1_at h]
theorem p2_at (h : b.Holds p X T) (r : Fin 256) (l : Fin 1024) : b.p2 (ix2 r l) = p.dup (X r) (T r) (col 2 l) := by
  unfold p2 Wts.dup
  pointwise [k0_pay34, dh2b_at h, d2_at h, r2_at h]
theorem p3_at (h : b.Holds p X T) (r : Fin 256) (l : Fin 1024) : b.p3 (ix2 r l) = p.dup (X r) (T r) (col 3 l) := by
  unfold p3 q3 Wts.dup
  pointwise [k0_pay37, k0_pay36, dh2b_at h, d3_at h, r3_at h]

theorem dn2_at (h : b.Holds p X T) (r : Fin 256) (j : Fin 1024) : k0_pay38 (F := Ideal) b.sC b.q3 b.r3 b.u3 (ix2 r j) = p.dn2 (X r) (T r) j := by
  have e1 := p1_at h
  have e2 := p2_at h
  have e3 := p3_at h
  unfold p1 at e1
  unfold p2 at e2
  unfold p3 at e3
  unfold Wts.dn2 sC
  rw [sum_parts]
  pointwise [k0_pay38, k0_pay35, k0_pay30, k0_pay32, p0_at h, e1, e2, e3, u0_at h, u1_at h, u2_at h, u3_at h]

theorem iv1_at (h : b.Holds p X T) (r : Fin 256) (a : Fin 1) : k0_pay39 (F := Ideal) b.h1 (ix2 r a) = inv (X r) := by
  pointwise [k0_pay39, h.h1]
  rfl

theorem dg2_at (h : b.Holds p X T) (g : FVec Ideal S1x1024 .f32) (j : S1x1024.Idx) :
    b.dg2 g j = g j + ∑ r, p.dn2 (X r) (T r) (j 1) * (X r (j 1) * inv (X r)) := by
  unfold dg2
  idx_vars j
  pointwise [k0_pay41, k0_pay40, iv1_at h, dn2_at h, k0_pay6, h.h1]

theorem dh1_at (h : b.Holds p X T) (r : Fin 256) (j : Fin 1024) : b.dh1 (ix2 r j) = p.dh1 (X r) (T r) j := by
  unfold dh1 Wts.dh1
  pointwise [k0_pay1, k0_pay43, k0_pay42, k0_pay40, iv1_at h, dn2_at h, dh2_at h, k0_pay6, h.h1, h.g2]

end Tile

end Cert.MlpIdeal.Hand

end
-- ==== Proof.MlpRun.lean ====
/- The feed-forward part's gradient: the call's seven result arrays after its run are the differentiated forward lines'. -/
module

public import proofs.«01_k».proof.Proof.Gen.MlpIdeal.Value
public import proofs.«01_k».proof.Defs
public import proofs.«01_k».proof.Proof.MlpTile
public import proofs.«01_k».proof.Proof.Gen.MlpRefIdeal.Run
public import Idealize.ShloMosaic.Lib.Pointwise
public import Idealize.ShloMosaic.Lib.Claim
public import Idealize.ShloMosaic.Lib.Quiescent
public import Idealize.ShloMosaic.Lib.Pipeline.ReadBack
public import Idealize.ShloMosaic.Lib.Pipeline.ValueKit

@[expose] public section

set_option maxRecDepth 16384

noncomputable section

namespace Cert.MlpIdeal.Hand

open Cert.MlpIdeal Cert.MlpIdeal.Gen Idealize.ShloMosaic Idealize.ShloMosaic.TcCoe Idealize.SL.Sem
open Idealize.ShloMosaic.Pipeline (Dat)
open Cert.BwdInRefIdeal.Hand (inv)
open Cert.MlpRefIdeal.Hand (Wts wts)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![0, 0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0] :=
  (by decide +kernel : ∀ t : Fin grid0.N, _)

/-- The call's arguments. -/
abbrev aX : FVec Ideal S1x4096x1024 .f32 := m ((c : Thread nD τ).loc main_arg0)
abbrev aG2 : FVec Ideal S1x1024 .f32 := m ((c : Thread nD τ).loc main_arg1)
abbrev aU : FVec Ideal S1x1024x4096 .f32 := m ((c : Thread nD τ).loc main_arg2)
abbrev aD : FVec Ideal S1x4096x1024 .f32 := m ((c : Thread nD τ).loc main_arg3)
abbrev aG3 : FVec Ideal S1024 .f32 := m ((c : Thread nD τ).loc main_arg4)
abbrev aT : FVec Ideal S1x4096x1024 .f32 := m ((c : Thread nD τ).loc main_arg5)

/-- The array row a tile's row is. -/
abbrev row (t : Fin cfg0.N) (r : Fin 256) : Fin 4096 := ⟨t.val * 256 + r.val, by have h : t.val < 16 := lt_of_lt_of_eq t.isLt N_0; omega⟩

/-- The weights, and the rows and targets of a tile. -/
abbrev W : Wts := wts (aG2 m c) (aU m c) (aD m c) (aG3 m c)
abbrev rowX (t : Fin cfg0.N) (r : Fin 256) : Fin 1024 → EReal := Cert.MlpRefIdeal.Hand.row (aX m c) (row t r)
abbrev rowT (t : Fin cfg0.N) (r : Fin 256) : Fin 1024 → EReal := Cert.MlpRefIdeal.Hand.row (aT m c) (row t r)

abbrev b0 (t : Fin cfg0.N) : FVec Ideal S256x1024 .bf16 := iblk m c 0 t
abbrev b1 (t : Fin cfg0.N) : FVec Ideal S256x1024 .f32 := iblk m c 1 t
abbrev b2 (t : Fin cfg0.N) : FVec Ideal S256x1024 .f32 := iblk m c 2 t
abbrev b3 (t : Fin cfg0.N) : FVec Ideal S4x1024x1024 .bf16 := iblk m c 3 t
abbrev b4 (t : Fin cfg0.N) : FVec Ideal S4096x1024 .bf16 := iblk m c 4 t
abbrev b5 (t : Fin cfg0.N) : FVec Ideal S1x1024 .f32 := iblk m c 5 t
abbrev b6 (t : Fin cfg0.N) : FVec Ideal S1x1024 .f32 := iblk m c 6 t

theorem b0_at (t : Fin cfg0.N) (r : Fin 256) (j : Fin 1024) : (b0 m c t (ix2 r j) : EReal) = (W m c).n2 (rowX m c t r) j := by
  have e : (b0 m c t (ix2 r j) : EReal) = (V m c main_v14 : FVec Ideal S4096x1024 .bf16) (ix2 (row t r) j) := by blk_ext [iblk, idx t]
  rw [e]; entry_read; pointwise; rfl

theorem b1_at (t : Fin cfg0.N) (r : Fin 256) (j : Fin 1024) : (b1 m c t (ix2 r j) : EReal) = rowX m c t r j := by
  have e : (b1 m c t (ix2 r j) : EReal) = (V m c main_v0 : FVec Ideal S4096x1024 .f32) (ix2 (row t r) j) := by blk_ext [iblk, idx t]
  rw [e]; entry_read; pointwise

theorem b2_at (t : Fin cfg0.N) (r : Fin 256) (j : Fin 1024) : (b2 m c t (ix2 r j) : EReal) = rowT m c t r j := by
  have e : (b2 m c t (ix2 r j) : EReal) = (V m c main_v1 : FVec Ideal S4096x1024 .f32) (ix2 (row t r) j) := by blk_ext [iblk, idx t]
  rw [e]; entry_read; pointwise

theorem b3_at (t : Fin cfg0.N) (k : Fin 4) (j l : Fin 1024) : (b3 m c t (ix3 k j l) : EReal) = (W m c).U j ⟨k.val * 1024 + l.val, by omega⟩ := by
  have e : (b3 m c t (ix3 k j l) : EReal) = (V m c main_v18 : FVec Ideal S4x1024x1024 .bf16) (ix3 k j l) := by blk_ext [iblk, idx t]
  rw [e]; entry_read; pointwise; rfl

theorem b4_at (t : Fin cfg0.N) (f : Fin 4096) (j : Fin 1024) : (b4 m c t (ix2 f j) : EReal) = (W m c).D f j := by
  have e : (b4 m c t (ix2 f j) : EReal) = (V m c main_v20 : FVec Ideal S4096x1024 .bf16) (ix2 f j) := by blk_ext [iblk, idx t]
  rw [e]; entry_read; pointwise; rfl

theorem b5_at (t : Fin cfg0.N) (j : Fin 1024) : (b5 m c t (ix2 0 j) : EReal) = (W m c).g2 j := by
  have e : (b5 m c t (ix2 0 j) : EReal) = aG2 m c (ix2 0 j) := by blk_ext [iblk, V, idx t]
  rw [e]; rfl

theorem b6_at (t : Fin cfg0.N) (j : Fin 1024) : (b6 m c t (ix2 0 j) : EReal) = (W m c).g3 j := by
  have e : (b6 m c t (ix2 0 j) : EReal) = (V m c main_v21 : FVec Ideal S1x1024 .f32) (ix2 0 j) := by blk_ext [iblk, idx t]
  rw [e]; entry_read; pointwise; rfl

/-- A grid point's blocks. -/
abbrev tile (t : Fin cfg0.N) : Tile := ⟨b0 m c t, b1 m c t, b2 m c t, b3 m c t, b4 m c t, b5 m c t, b6 m c t⟩

theorem holds (t : Fin cfg0.N) : (tile m c t).Holds (W m c) (rowX m c t) (rowT m c t) :=
  ⟨b0_at m c t, b1_at m c t, b2_at m c t, b3_at m c t, b4_at m c t, b5_at m c t, b6_at m c t⟩

theorem outs10 (t : Fin cfg0.N) : (outsAt0 m c t.val t.isLt).2.2.2.1 = (tile m c t).dh1 := by
  by_cases h : t.val % 16 = 0
  · rw [outsAt0_A m c t h]; frame_out; simp only [Tile.dh1, Tile.dh2, Tile.dh2b, Tile.iv, Tile.xh, Tile.dy, Tile.p0, Tile.q3, Tile.sC, Tile.r0, Tile.r1, Tile.r2, Tile.r3, Tile.ks, Tile.sA, Tile.sB, Tile.u0, Tile.u1, Tile.u2, Tile.u3, Tile.d0, Tile.d1, Tile.d2, Tile.d3, kept]
  · rw [outsAt0_B m c t h]; frame_out; simp only [Tile.dh1, Tile.dh2, Tile.dh2b, Tile.iv, Tile.xh, Tile.dy, Tile.p0, Tile.q3, Tile.sC, Tile.r0, Tile.r1, Tile.r2, Tile.r3, Tile.ks, Tile.sA, Tile.sB, Tile.u0, Tile.u1, Tile.u2, Tile.u3, Tile.d0, Tile.d1, Tile.d2, Tile.d3, kept]

theorem outs9 (t : Fin cfg0.N) : (outsAt0 m c t.val t.isLt).2.2.1 = (tile m c t).dh2b := by
  by_cases h : t.val % 16 = 0
  · rw [outsAt0_A m c t h]; frame_out; simp only [Tile.dh2b, Tile.iv, Tile.xh, Tile.dy, Tile.sA, Tile.sB, Tile.u0, Tile.u1, Tile.u2, Tile.u3, Tile.d0, Tile.d1, Tile.d2, Tile.d3, kept]
  · rw [outsAt0_B m c t h]; frame_out; simp only [Tile.dh2b, Tile.iv, Tile.xh, Tile.dy, Tile.sA, Tile.sB, Tile.u0, Tile.u1, Tile.u2, Tile.u3, Tile.d0, Tile.d1, Tile.d2, Tile.d3, kept]

theorem outs11_A (t : Fin cfg0.N) (h : t.val % 16 = 0) : (outsAt0 m c t.val t.isLt).2.2.2.2.1 = (tile m c t).loss (k0_pay2 (F := Ideal)) := by
  rw [outsAt0_A m c t h]; frame_out; simp only [Tile.loss, Tile.sA, Tile.sB, Tile.u0, Tile.u1, Tile.u2, Tile.u3, Tile.d0, Tile.d1, Tile.d2, Tile.d3, kept]

theorem outs11_B (t : Fin cfg0.N) (h : ¬t.val % 16 = 0) : (outsAt0 m c t.val t.isLt).2.2.2.2.1
    = (tile m c t).loss (outsAt0 m c (t.val - 1) (Nat.lt_of_le_of_lt (Nat.sub_le _ _) t.isLt)).2.2.2.2.1 := by
  rw [outsAt0_B m c t h]; frame_out; simp only [Tile.loss, Tile.sA, Tile.sB, Tile.u0, Tile.u1, Tile.u2, Tile.u3, Tile.d0, Tile.d1, Tile.d2, Tile.d3, kept]

theorem outs12_A (t : Fin cfg0.N) (h : t.val % 16 = 0) : (outsAt0 m c t.val t.isLt).2.2.2.2.2.1 = (tile m c t).dg3 (k0_pay3 (F := Ideal)) := by
  rw [outsAt0_A m c t h]; frame_out; simp only [Tile.dg3, Tile.xh, Tile.dy, Tile.sA, Tile.sB, Tile.u0, Tile.u1, Tile.u2, Tile.u3, Tile.d0, Tile.d1, Tile.d2, Tile.d3, kept]

theorem outs12_B (t : Fin cfg0.N) (h : ¬t.val % 16 = 0) : (outsAt0 m c t.val t.isLt).2.2.2.2.2.1
    = (tile m c t).dg3 (outsAt0 m c (t.val - 1) (Nat.lt_of_le_of_lt (Nat.sub_le _ _) t.isLt)).2.2.2.2.2.1 := by
  rw [outsAt0_B m c t h]; frame_out; simp only [Tile.dg3, Tile.xh, Tile.dy, Tile.sA, Tile.sB, Tile.u0, Tile.u1, Tile.u2, Tile.u3, Tile.d0, Tile.d1, Tile.d2, Tile.d3, kept]

theorem outs13_A (t : Fin cfg0.N) (h : t.val % 16 = 0) : (outsAt0 m c t.val t.isLt).2.2.2.2.2.2 = (tile m c t).dg2 (k0_pay4 (F := Ideal)) := by
  rw [outsAt0_A m c t h]; frame_out; simp only [Tile.dg2, Tile.dh2b, Tile.iv, Tile.xh, Tile.dy, Tile.p0, Tile.q3, Tile.sC, Tile.r0, Tile.r1, Tile.r2, Tile.r3, Tile.ks, Tile.sA, Tile.sB, Tile.u0, Tile.u1, Tile.u2, Tile.u3, Tile.d0, Tile.d1, Tile.d2, Tile.d3, kept]

theorem outs13_B (t : Fin cfg0.N) (h : ¬t.val % 16 = 0) : (outsAt0 m c t.val t.isLt).2.2.2.2.2.2
    = (tile m c t).dg2 (outsAt0 m c (t.val - 1) (Nat.lt_of_le_of_lt (Nat.sub_le _ _) t.isLt)).2.2.2.2.2.2 := by
  rw [outsAt0_B m c t h]; frame_out; simp only [Tile.dg2, Tile.dh2b, Tile.iv, Tile.xh, Tile.dy, Tile.p0, Tile.q3, Tile.sC, Tile.r0, Tile.r1, Tile.r2, Tile.r3, Tile.ks, Tile.sA, Tile.sB, Tile.u0, Tile.u1, Tile.u2, Tile.u3, Tile.d0, Tile.d1, Tile.d2, Tile.d3, kept]

theorem part (k : Fin 4) (o : ℕ) (ho : o = k.val * 1024) (f : Fin 4096) (x : Fin 1024) (h : (f : ℕ) = o + x.val) : f = Tile.col k x := Fin.ext (by rw [h, ho])

/-- The activation's and the first projection's gradient's element of a tile. -/
abbrev act (t : Fin cfg0.N) (y : S256x4096.Idx) : EReal := (W m c).rl (rowX m c t (y 0)) (y 1) * (W m c).rl (rowX m c t (y 0)) (y 1)
abbrev dup (t : Fin cfg0.N) (y : S256x4096.Idx) : EReal := (W m c).dup (rowX m c t (y 0)) (rowT m c t (y 0)) (y 1)

theorem act_piece (t : Fin cfg0.N) (k : Fin 4) (o : ℕ) (ho : o = k.val * 1024) (w : FVec Ideal S256x1024 .bf16)
    (hw : ∀ r l, w (ix2 r l) = (W m c).rl (rowX m c t r) (Tile.col k l) * (W m c).rl (rowX m c t r) (Tile.col k l))
    (y : S256x4096.Idx) (x : S256x1024.Idx) (h0 : (y 0 : ℕ) = x 0) (h1 : (y 1 : ℕ) = o + x 1) : w x = act m c t y := by
  have e0 : (y 0 : Fin 256) = x 0 := Fin.ext h0
  have e1 : (y 1 : Fin 4096) = Tile.col k (x 1) := part k o ho _ _ h1
  unfold act
  rw [e0, e1]
  exact (congrArg w (eq_ix2 x)).trans (hw _ _)

theorem dup_piece (t : Fin cfg0.N) (k : Fin 4) (o : ℕ) (ho : o = k.val * 1024) (w : FVec Ideal S256x1024 .bf16)
    (hw : ∀ r l, w (ix2 r l) = (W m c).dup (rowX m c t r) (rowT m c t r) (Tile.col k l))
    (y : S256x4096.Idx) (x : S256x1024.Idx) (h0 : (y 0 : ℕ) = x 0) (h1 : (y 1 : ℕ) = o + x 1) : w x = dup m c t y := by
  have e0 : (y 0 : Fin 256) = x 0 := Fin.ext h0
  have e1 : (y 1 : Fin 4096) = Tile.col k (x 1) := part k o ho _ _ h1
  unfold dup
  rw [e0, e1]
  exact (congrArg w (eq_ix2 x)).trans (hw _ _)

theorem outs7_A (t : Fin cfg0.N) (hc : t.val % 16 = 0) (y : S256x4096.Idx) : (outsAt0 m c t.val t.isLt).1 y = act m c t y := by
  have e0 := Tile.a0_at (holds m c t)
  have e1 := Tile.a1_at (holds m c t)
  have e2 := Tile.a2_at (holds m c t)
  have e3 := Tile.a3_at (holds m c t)
  simp only [Tile.u0, Tile.u1, Tile.u2, Tile.u3, Tile.sB] at e0 e1 e2 e3
  rw [outsAt0_A m c t hc]; frame_out
  canon_tiles y h
  case piece0 => exact act_piece m c t 3 3072 rfl _ e3 _ _ h0 h1
  case piece1 => exact act_piece m c t 2 2048 rfl _ e2 _ _ h0 h1
  case piece2 => exact act_piece m c t 1 1024 rfl _ e1 _ _ h0 h1
  case piece3 => exact act_piece m c t 0 0 rfl _ e0 _ _ h0 (by simpa using h1)

theorem outs7_B (t : Fin cfg0.N) (hc : ¬t.val % 16 = 0) (y : S256x4096.Idx) : (outsAt0 m c t.val t.isLt).1 y = act m c t y := by
  have e0 := Tile.a0_at (holds m c t)
  have e1 := Tile.a1_at (holds m c t)
  have e2 := Tile.a2_at (holds m c t)
  have e3 := Tile.a3_at (holds m c t)
  simp only [Tile.u0, Tile.u1, Tile.u2, Tile.u3, Tile.sB] at e0 e1 e2 e3
  rw [outsAt0_B m c t hc]; frame_out
  canon_tiles y h
  case piece0 => exact act_piece m c t 3 3072 rfl _ e3 _ _ h0 h1
  case piece1 => exact act_piece m c t 2 2048 rfl _ e2 _ _ h0 h1
  case piece2 => exact act_piece m c t 1 1024 rfl _ e1 _ _ h0 h1
  case piece3 => exact act_piece m c t 0 0 rfl _ e0 _ _ h0 (by simpa using h1)

theorem outs8_A (t : Fin cfg0.N) (hc : t.val % 16 = 0) (y : S256x4096.Idx) : (outsAt0 m c t.val t.isLt).2.1 y = dup m c t y := by
  have e0 := Tile.p0_at (holds m c t)
  have e1 := Tile.p1_at (holds m c t)
  have e2 := Tile.p2_at (holds m c t)
  have e3 := Tile.p3_at (holds m c t)
  simp only [Tile.dh2b, Tile.iv, Tile.xh, Tile.dy, Tile.p0, Tile.p1, Tile.p2, Tile.p3, Tile.q3, Tile.r0, Tile.r1, Tile.r2, Tile.r3, Tile.ks, Tile.sA, Tile.sB, Tile.u0, Tile.u1, Tile.u2, Tile.u3, Tile.d0, Tile.d1, Tile.d2, Tile.d3, kept] at e0 e1 e2 e3
  rw [outsAt0_A m c t hc]; frame_out
  canon_tiles y h
  case piece0 => exact dup_piece m c t 3 3072 rfl _ e3 _ _ h0 h1
  case piece1 => exact dup_piece m c t 2 2048 rfl _ e2 _ _ h0 h1
  case piece2 => exact dup_piece m c t 1 1024 rfl _ e1 _ _ h0 h1
  case piece3 => exact dup_piece m c t 0 0 rfl _ e0 _ _ h0 (by simpa using h1)

theorem outs8_B (t : Fin cfg0.N) (hc : ¬t.val % 16 = 0) (y : S256x4096.Idx) : (outsAt0 m c t.val t.isLt).2.1 y = dup m c t y := by
  have e0 := Tile.p0_at (holds m c t)
  have e1 := Tile.p1_at (holds m c t)
  have e2 := Tile.p2_at (holds m c t)
  have e3 := Tile.p3_at (holds m c t)
  simp only [Tile.dh2b, Tile.iv, Tile.xh, Tile.dy, Tile.p0, Tile.p1, Tile.p2, Tile.p3, Tile.q3, Tile.r0, Tile.r1, Tile.r2, Tile.r3, Tile.ks, Tile.sA, Tile.sB, Tile.u0, Tile.u1, Tile.u2, Tile.u3, Tile.d0, Tile.d1, Tile.d2, Tile.d3, kept] at e0 e1 e2 e3
  rw [outsAt0_B m c t hc]; frame_out
  canon_tiles y h
  case piece0 => exact dup_piece m c t 3 3072 rfl _ e3 _ _ h0 h1
  case piece1 => exact dup_piece m c t 2 2048 rfl _ e2 _ _ h0 h1
  case piece2 => exact dup_piece m c t 1 1024 rfl _ e1 _ _ h0 h1
  case piece3 => exact dup_piece m c t 0 0 rfl _ e0 _ _ h0 (by simpa using h1)

/-- Case by case, each window after a point. -/
theorem outs7 (t : Fin cfg0.N) (y : S256x4096.Idx) : (outsAt0 m c t.val t.isLt).1 y = act m c t y :=
  if hc : t.val % 16 = 0 then outs7_A m c t hc y else outs7_B m c t hc y
theorem outs8 (t : Fin cfg0.N) (y : S256x4096.Idx) : (outsAt0 m c t.val t.isLt).2.1 y = dup m c t y :=
  if hc : t.val % 16 = 0 then outs8_A m c t hc y else outs8_B m c t hc y

/-- The activation after the run. -/
theorem final7 : (dats m 0 c).arrAt 7 (cfgs 0).N = Cert.MlpRefIdeal.Read.val_main_v117 (F := Ideal) (aX m c) (aG2 m c) (aU m c) := by
  refine (dats m 0 c).arrAt_eq_of_covers 7 _ (by decide +kernel) fun t _ y => ?_
  blk_simp
  rw [after0_7, outs7]
  have ey : ((cfg0.win 7).blk t).view.emb y = ix2 (row t (y 0)) (y 1) := by blk_ext [idx t]
  rw [ey]
  exact (Cert.MlpRefIdeal.Hand.act_at (aX m c) (aG2 m c) (aU m c) (aD m c) (aG3 m c) (row t (y 0)) (y 1)).symm

/-- The first projection's gradient after the run. -/
theorem final8 : (dats m 0 c).arrAt 8 (cfgs 0).N = Cert.MlpRefIdeal.Read.val_main_v119 (F := Ideal) (aX m c) (aG2 m c) (aU m c) (aD m c) (aG3 m c) (aT m c) := by
  refine (dats m 0 c).arrAt_eq_of_covers 8 _ (by decide +kernel) fun t _ y => ?_
  blk_simp
  rw [after0_8, outs8]
  have ey : ((cfg0.win 8).blk t).view.emb y = ix2 (row t (y 0)) (y 1) := by blk_ext [idx t]
  rw [ey]
  exact (Cert.MlpRefIdeal.Hand.dup_at (aX m c) (aG2 m c) (aU m c) (aD m c) (aG3 m c) (aT m c) (row t (y 0)) (y 1)).symm

/-- The gradient before the last norm after the run. -/
theorem final9 : (dats m 0 c).arrAt 9 (cfgs 0).N = Cert.MlpRefIdeal.Read.val_main_v121 (F := Ideal) (aX m c) (aG2 m c) (aU m c) (aD m c) (aG3 m c) (aT m c) := by
  refine (dats m 0 c).arrAt_eq_of_covers 9 _ (by decide +kernel) fun t _ y => ?_
  blk_simp
  rw [after0_9, outs9]
  have ey : ((cfg0.win 9).blk t).view.emb y = ix2 (row t (y 0)) (y 1) := by blk_ext [idx t]
  rw [ey]
  exact (congrArg _ (eq_ix2 y)).trans ((Tile.dh2b_at (holds m c t) (y 0) (y 1)).trans (Cert.MlpRefIdeal.Hand.dh2_at (aX m c) (aG2 m c) (aU m c) (aD m c) (aG3 m c) (aT m c) (row t (y 0)) (y 1)).symm)

/-- The argument's gradient after the run. -/
theorem final10 : (dats m 0 c).arrAt 10 (cfgs 0).N = Cert.MlpRefIdeal.Read.val_main_v114 (F := Ideal) (aX m c) (aG2 m c) (aU m c) (aD m c) (aG3 m c) (aT m c) := by
  refine (dats m 0 c).arrAt_eq_of_covers 10 _ (by decide +kernel) fun t _ y => ?_
  blk_simp
  rw [after0_10, outs10]
  have ey : ((cfg0.win 10).blk t).view.emb y = ix2 (row t (y 0)) (y 1) := by blk_ext [idx t]
  rw [ey]
  exact (congrArg _ (eq_ix2 y)).trans ((Tile.dh1_at (holds m c t) (y 0) (y 1)).trans (Cert.MlpRefIdeal.Hand.dh1_at (aX m c) (aG2 m c) (aU m c) (aD m c) (aG3 m c) (aT m c) (row t (y 0)) (y 1)).symm)

/-- What a tile adds to the loss and to the gains' gradients. -/
def lossP (t : Fin cfg0.N) : EReal :=
  ∑ r, Ideal.ofBits .f32 0x3A000000#32 * ∑ j, (W m c).df (rowX m c t r) (rowT m c t r) j * (W m c).df (rowX m c t r) (rowT m c t r) j
def dg3P (t : Fin cfg0.N) (l : Fin 1024) : EReal := ∑ r, (W m c).dy (rowX m c t r) (rowT m c t r) l * (W m c).xh (rowX m c t r) l
def dg2P (t : Fin cfg0.N) (l : Fin 1024) : EReal :=
  ∑ r, (W m c).dn2 (rowX m c t r) (rowT m c t r) l * (rowX m c t r l * inv (rowX m c t r))

theorem zero2_at (j : S8x128.Idx) : k0_pay2 (F := Ideal) j = 0 := by pointwise [k0_pay2]
theorem zero3_at (j : S1x1024.Idx) : k0_pay3 (F := Ideal) j = 0 := by pointwise [k0_pay3]
theorem zero4_at (j : S1x1024.Idx) : k0_pay4 (F := Ideal) j = 0 := by pointwise [k0_pay4]

/-- The tiles' parts add up. -/
theorem loss_sum (y : S8x128.Idx) : ∑ t : Fin cfg0.N, lossP m c t = Cert.MlpRefIdeal.Read.val_main_v113 (F := Ideal) (aX m c) (aG2 m c) (aU m c) (aD m c) (aG3 m c) (aT m c) y := by
  refine Eq.trans ?_ (Cert.MlpRefIdeal.Hand.loss_at (aX m c) (aG2 m c) (aU m c) (aD m c) (aG3 m c) (aT m c) y).symm
  rw [Fin.sum_univ_tiles 16 256 rfl]
  rfl

theorem dg3_sum (j : S1x1024.Idx) : ∑ t : Fin cfg0.N, dg3P m c t (j 1) = Cert.MlpRefIdeal.Read.val_main_v115 (F := Ideal) (aX m c) (aG2 m c) (aU m c) (aD m c) (aG3 m c) (aT m c) j := by
  have ej : j = ix2 0 (j 1) := by blk_ext
  rw [ej]
  refine Eq.trans ?_ (Cert.MlpRefIdeal.Hand.dg3_at (aX m c) (aG2 m c) (aU m c) (aD m c) (aG3 m c) (aT m c) 0 (j 1)).symm
  rw [Fin.sum_univ_tiles 16 256 rfl]
  rfl

theorem dg2_sum (j : S1x1024.Idx) : ∑ t : Fin cfg0.N, dg2P m c t (j 1) = Cert.MlpRefIdeal.Read.val_main_v112 (F := Ideal) (aX m c) (aG2 m c) (aU m c) (aD m c) (aG3 m c) (aT m c) j := by
  have ej : j = ix2 0 (j 1) := by blk_ext
  rw [ej]
  refine Eq.trans ?_ (Cert.MlpRefIdeal.Hand.dg2_at (aX m c) (aG2 m c) (aU m c) (aD m c) (aG3 m c) (aT m c) 0 (j 1)).symm
  rw [Fin.sum_univ_tiles 16 256 rfl]
  rfl

/-- The loss after the run. -/
theorem final11 : (dats m 0 c).arrAt 11 (cfgs 0).N = Cert.MlpRefIdeal.Read.val_main_v113 (F := Ideal) (aX m c) (aG2 m c) (aU m c) (aD m c) (aG3 m c) (aT m c) := by
  refine (dats m 0 c).arrAt_eq_of_after_last 11 t0_15 (by decide +kernel) _ fun j => ?_
  blk_simp
  rw [after0_11, Pipeline.eq_sum_fin_of_reset_step_apply_last (fun n h => (outsAt0 m c n h).2.2.2.2.1) 16 (fun _ => 0)
    (fun t j => lossP m c t)
    (fun t h j => by rw [outs11_A m c t h, Tile.loss_at (holds m c t), zero2_at]; rfl)
    (fun t h j => by rw [outs11_B m c t h, Tile.loss_at (holds m c t)]; rfl)
    (le_of_eq N_0) t0_15 rfl j, zero_add]
  exact loss_sum m c j

/-- The last gain's gradient after the run. -/
theorem final12 : (dats m 0 c).arrAt 12 (cfgs 0).N = Cert.MlpRefIdeal.Read.val_main_v115 (F := Ideal) (aX m c) (aG2 m c) (aU m c) (aD m c) (aG3 m c) (aT m c) := by
  refine (dats m 0 c).arrAt_eq_of_after_last 12 t0_15 (by decide +kernel) _ fun j => ?_
  blk_simp
  rw [after0_12, Pipeline.eq_sum_fin_of_reset_step_apply_last (fun n h => (outsAt0 m c n h).2.2.2.2.2.1) 16 (fun _ => 0)
    (fun t j => dg3P m c t (j 1))
    (fun t h j => by rw [outs12_A m c t h, Tile.dg3_at (holds m c t), zero3_at]; rfl)
    (fun t h j => by rw [outs12_B m c t h, Tile.dg3_at (holds m c t)]; rfl)
    (le_of_eq N_0) t0_15 rfl j, zero_add]
  exact dg3_sum m c j

/-- The first gain's gradient after the run. -/
theorem final13 : (dats m 0 c).arrAt 13 (cfgs 0).N = Cert.MlpRefIdeal.Read.val_main_v112 (F := Ideal) (aX m c) (aG2 m c) (aU m c) (aD m c) (aG3 m c) (aT m c) := by
  refine (dats m 0 c).arrAt_eq_of_after_last 13 t0_15 (by decide +kernel) _ fun j => ?_
  blk_simp
  rw [after0_13, Pipeline.eq_sum_fin_of_reset_step_apply_last (fun n h => (outsAt0 m c n h).2.2.2.2.2.2) 16 (fun _ => 0)
    (fun t j => dg2P m c t (j 1))
    (fun t h j => by rw [outs13_A m c t h, Tile.dg2_at (holds m c t), zero4_at]; rfl)
    (fun t h j => by rw [outs13_B m c t h, Tile.dg2_at (holds m c t)]; rfl)
    (le_of_eq N_0) t0_15 rfl j, zero_add]
  exact dg2_sum m c j

end Cert.MlpIdeal.Hand

namespace Cert.Mlp.Hand

open Idealize.ShloMosaic Idealize.ShloMosaic.TcCoe Idealize.SL.Sem

/-- The reference's arguments are the call's. -/
theorem agree (m : (ℓ : Loc Cert.MlpIdeal.nD Cert.MlpIdeal.τ Cert.MlpIdeal.sig) → Buf (Elt Ideal) ℓ)
    (m' : (ℓ : Loc Cert.MlpRefIdeal.nD Cert.MlpRefIdeal.τ Cert.MlpRefIdeal.sig) → Buf (Elt Ideal) ℓ) (c : Dev Cert.MlpIdeal.nD)
    (h : m' ((c : Thread Cert.MlpRefIdeal.nD Cert.MlpRefIdeal.τ).loc Cert.MlpRefIdeal.main_arg0) = Cert.MlpIdeal.Hand.aX m c
      ∧ m' ((c : Thread Cert.MlpRefIdeal.nD Cert.MlpRefIdeal.τ).loc Cert.MlpRefIdeal.main_arg1) = Cert.MlpIdeal.Hand.aG2 m c
      ∧ m' ((c : Thread Cert.MlpRefIdeal.nD Cert.MlpRefIdeal.τ).loc Cert.MlpRefIdeal.main_arg2) = Cert.MlpIdeal.Hand.aU m c
      ∧ m' ((c : Thread Cert.MlpRefIdeal.nD Cert.MlpRefIdeal.τ).loc Cert.MlpRefIdeal.main_arg3) = Cert.MlpIdeal.Hand.aD m c
      ∧ m' ((c : Thread Cert.MlpRefIdeal.nD Cert.MlpRefIdeal.τ).loc Cert.MlpRefIdeal.main_arg4) = Cert.MlpIdeal.Hand.aG3 m c
      ∧ m' ((c : Thread Cert.MlpRefIdeal.nD Cert.MlpRefIdeal.τ).loc Cert.MlpRefIdeal.main_arg5) = Cert.MlpIdeal.Hand.aT m c) :
    StableHlo.launchContents m' c (Proc.devRef .tc Cert.MlpRefIdeal.main_arg0) = Cert.MlpIdeal.Hand.aX m c
      ∧ StableHlo.launchContents m' c (Proc.devRef .tc Cert.MlpRefIdeal.main_arg1) = Cert.MlpIdeal.Hand.aG2 m c
      ∧ StableHlo.launchContents m' c (Proc.devRef .tc Cert.MlpRefIdeal.main_arg2) = Cert.MlpIdeal.Hand.aU m c
      ∧ StableHlo.launchContents m' c (Proc.devRef .tc Cert.MlpRefIdeal.main_arg3) = Cert.MlpIdeal.Hand.aD m c
      ∧ StableHlo.launchContents m' c (Proc.devRef .tc Cert.MlpRefIdeal.main_arg4) = Cert.MlpIdeal.Hand.aG3 m c
      ∧ StableHlo.launchContents m' c (Proc.devRef .tc Cert.MlpRefIdeal.main_arg5) = Cert.MlpIdeal.Hand.aT m c := h

set_option maxHeartbeats 4000000 in
/-- The call and the differentiated forward lines give the same loss and gradients. -/
theorem algebraic : Cert.algebraic_MlpIdeal_MlpRefIdeal := by
  pair_intro
  · run_from Cert.MlpIdeal.Gen.run_main m g
  · rename' hagree => hag
    run_from Cert.MlpRefIdeal.Value.run m' g'
    · obtain ⟨e0, e1, e2, e3, e4, e5⟩ := agree m m' c (hag c)
      exact (Cert.MlpRefIdeal.Read.val_main_v113_eq (StableHlo.launchContents m' c)).trans (by rw [e0, e1, e2, e3, e4, e5]; exact (Cert.MlpIdeal.Hand.final11 m c).symm)
    · obtain ⟨e0, e1, e2, e3, e4, e5⟩ := agree m m' c (hag c)
      exact (Cert.MlpRefIdeal.Read.val_main_v114_eq (StableHlo.launchContents m' c)).trans (by rw [e0, e1, e2, e3, e4, e5]; exact (Cert.MlpIdeal.Hand.final10 m c).symm)
    · obtain ⟨e0, e1, e2, e3, e4, e5⟩ := agree m m' c (hag c)
      exact (Cert.MlpRefIdeal.Read.val_main_v112_eq (StableHlo.launchContents m' c)).trans (by rw [e0, e1, e2, e3, e4, e5]; exact (Cert.MlpIdeal.Hand.final13 m c).symm)
    · obtain ⟨e0, e1, e2, e3, e4, e5⟩ := agree m m' c (hag c)
      exact (Cert.MlpRefIdeal.Read.val_main_v115_eq (StableHlo.launchContents m' c)).trans (by rw [e0, e1, e2, e3, e4, e5]; exact (Cert.MlpIdeal.Hand.final12 m c).symm)
    · obtain ⟨e0, e1, e2, e3, e4, e5⟩ := agree m m' c (hag c)
      exact (Cert.MlpRefIdeal.Read.val_main_v117_eq (StableHlo.launchContents m' c)).trans (by rw [e0, e1, e2]; exact (Cert.MlpIdeal.Hand.final7 m c).symm)
    · obtain ⟨e0, e1, e2, e3, e4, e5⟩ := agree m m' c (hag c)
      exact (Cert.MlpRefIdeal.Read.val_main_v119_eq (StableHlo.launchContents m' c)).trans (by rw [e0, e1, e2, e3, e4, e5]; exact (Cert.MlpIdeal.Hand.final8 m c).symm)
    · obtain ⟨e0, e1, e2, e3, e4, e5⟩ := agree m m' c (hag c)
      exact (Cert.MlpRefIdeal.Read.val_main_v121_eq (StableHlo.launchContents m' c)).trans (by rw [e0, e1, e2, e3, e4, e5]; exact (Cert.MlpIdeal.Hand.final9 m c).symm)

/-- The differentiated forward lines run, and leave their arguments. -/
theorem frame_ref : Cert.quiescent_MlpRefIdeal := by
  intro m g _
  run_from Cert.MlpRefIdeal.Value.run m g
  · exact fun _ => ⟨trivial, trivial, trivial, trivial, trivial, trivial⟩
  · exact sem_eq_zero_of_no_sems rfl _

end Cert.Mlp.Hand

end
-- ==== Proof.Finite.lean ====
/- A printed predicate that all elements are finite, read back: each element is a real number. -/
module

public import Idealize.ShloMosaic.Lib.ReduceAll
public import Idealize.ShloMosaic.Lib.Pointwise
public import Idealize.ShloMosaic.Lib.StableHlo

@[expose] public section

noncomputable section

namespace Cert.Finite

open Idealize.ShloMosaic

abbrev S0 : Shape := ⟨0, ![]⟩

theorem bits_top : Ideal.ofBits .f32 0x7F800000#32 = ⊤ := by simp [Ideal.ofBits, Ideal.ieee]

theorem real_of_lt (x : EReal) (h : max x (-x) < ⊤) : x = (x.toReal : EReal) := by
  obtain ⟨h1, h2⟩ := max_lt_iff.mp h
  refine (EReal.coe_toReal h1.ne fun e => ?_).symm
  rw [e] at h2; exact absurd h2 (by simp)

/-- One conjunct of the predicate. -/
theorem real_of_all {s : Shape} {axes : List (Fin s.rank)} (x : FVec Ideal s .f32) (hb : S0.BroadcastsInDim s (![] : Fin 0 → Fin s.rank)) (hr : s.ReducesTo axes S0)
    (hu : 0 < S0.numel) (e : Host.reduce IntOp.andi (cmpf .olt (Host.absf x) (broadcastInDim s ![] hb (constant S0 .f32 0x7F800000#32))) (constantI S0 1 1#1) hr hu = fun _ => 1#1)
    (i : s.Idx) : x i = (((x i : EReal).toReal : ℝ) : EReal) := by
  have h := Host.reduce_andi_all _ _ hr hu (fun a => a.elim0) (congrFun e _) i
  have h' : Ideal.cmp .olt (max (x i : EReal) (-(x i : EReal))) (Ideal.ofBits .f32 0x7F800000#32) = 1#1 := h
  rw [bits_top] at h'
  refine real_of_lt _ ?_
  by_contra hn
  simp [Ideal.cmp, hn] at h'

theorem and_split {s : Shape} {a b : IVec s 1} (e : andi a b = fun _ => 1#1) : a = (fun _ => 1#1) ∧ b = fun _ => 1#1 :=
  ⟨funext fun i => (IntOp.andi_eq_one.1 (congrFun e i)).1, funext fun i => (IntOp.andi_eq_one.1 (congrFun e i)).2⟩

end Cert.Finite

end
-- ==== Proof.LruMath.lean ====
/- The gated linear recurrence over the reals: the doubling form of its scan and that form's derivative, the recurrence
   inside a group of eight rows, and the scalar functions of the decay and the gate. -/
module

public import Idealize.ShloMosaic.PureOps.Ideal
public import Idealize.ShloMosaic.PureOps.Ideal.Laws

@[expose] public section

noncomputable section

namespace Cert.LruMath

open Idealize.ShloMosaic

/-! ### The scan `h (t+1) = b (t+1) + a (t+1) * h t` by doubling, over 4096 rows -/

/-- A sequence shifted down by `s` rows, zeros coming in. -/
def back (s : ℕ) (f : ℕ → ℝ) (t : ℕ) : ℝ := if t < s then 0 else f (t - s)
/-- A sequence shifted up by `s` rows, zeros coming in. -/
def fwd (s : ℕ) (f : ℕ → ℝ) (t : ℕ) : ℝ := if t + s < 4096 then f (t + s) else 0

section Scan

variable (a b g : ℕ → ℝ)

/-- The recurrence. -/
def scan : ℕ → ℝ
  | 0 => b 0
  | t + 1 => b (t + 1) + a (t + 1) * scan t

/-- The doubling's two sequences at level `k`. -/
def A : ℕ → ℕ → ℝ
  | 0 => a
  | k + 1 => fun t => A k t * back (2 ^ k) (A k) t
def B : ℕ → ℕ → ℝ
  | 0 => b
  | k + 1 => fun t => A a k t * back (2 ^ k) (B k) t + B k t

theorem scan_eq (k t : ℕ) : scan a b t = B a b k t + A a k t * back (2 ^ k) (scan a b) t := by
  induction k generalizing t with
  | zero => cases t with
    | zero => simp [scan, A, B, back]
    | succ t => simp [scan, A, B, back]
  | succ k ih =>
    rw [ih t]
    have hp : 2 ^ (k + 1) = 2 ^ k + 2 ^ k := by ring
    simp only [A, B, back]
    by_cases h : t < 2 ^ k
    · have h' : t < 2 ^ (k + 1) := by omega
      rw [if_pos h, if_pos h, if_pos h, if_pos h']; ring
    · rw [if_neg h, if_neg h, if_neg h, ih (t - 2 ^ k)]
      by_cases h' : t < 2 ^ (k + 1)
      · have h2 : t - 2 ^ k < 2 ^ k := by omega
        rw [if_pos h']; simp only [back]; rw [if_pos h2]; ring
      · have h2 : ¬ t - 2 ^ k < 2 ^ k := by omega
        have e : t - 2 ^ k - 2 ^ k = t - 2 ^ (k + 1) := by omega
        rw [if_neg h']; simp only [back]; rw [if_neg h2, e]; ring

theorem B_last (t : ℕ) (h : t < 4096) : B a b 12 t = scan a b t := by
  rw [scan_eq a b 12 t]; simp [back, h]

/-- What the doubling's derivative passes down: the gradient in `B`, and in `A`, after `j` levels from the last. -/
def GB : ℕ → ℕ → ℝ
  | 0 => g
  | j + 1 => fun t => GB j t + fwd (2 ^ (11 - j)) (fun u => A a (11 - j) u * GB j u) t
def GA : ℕ → ℕ → ℝ
  | 0 => fun _ => 0
  | j + 1 => fun t => GB a g j t * back (2 ^ (11 - j)) (B a b (11 - j)) t + GA j t * back (2 ^ (11 - j)) (A a (11 - j)) t
      + fwd (2 ^ (11 - j)) (fun u => A a (11 - j) u * GA j u) t

theorem GB_eq (j : ℕ) (hj : j ≤ 12) (t : ℕ) :
    GB a g j t = g t + fwd (2 ^ (12 - j)) (fun u => A a (12 - j) u * GB a g j u) t := by
  induction j generalizing t with
  | zero => simp [GB, fwd]
  | succ j ih =>
    have e : 12 - j = (11 - j) + 1 := by omega
    have e' : 12 - (j + 1) = 11 - j := by omega
    have hp : 2 ^ (11 - j + 1) = 2 ^ (11 - j) + 2 ^ (11 - j) := by ring
    rw [e']
    simp only [GB, fwd]
    have h1 := ih (by omega) t
    rw [e] at h1
    simp only [A, fwd, hp] at h1
    generalize 2 ^ (11 - j) = s at *
    by_cases h : t + s < 4096
    · rw [if_pos h, if_pos h]
      by_cases h2 : t + s + s < 4096
      · have h3 : t + (s + s) < 4096 := by omega
        have h4 : ¬ t + (s + s) < s := by omega
        have e5 : t + (s + s) - s = t + s := by omega
        rw [if_pos h2]
        rw [if_pos h3, back, if_neg h4, e5] at h1
        rw [h1, ← add_assoc t s s]; ring
      · have h3 : ¬ t + (s + s) < 4096 := by omega
        rw [if_neg h2]
        rw [if_neg h3] at h1
        rw [h1]; ring
    · have h3 : ¬ t + (s + s) < 4096 := by omega
      rw [if_neg h3] at h1
      rw [if_neg h, if_neg h, h1, add_zero]

/-- The gradient in `A` is the gradient in `B` times the earlier value. -/
theorem GA_eq (j : ℕ) (hj : j ≤ 12) (t : ℕ) (ht : t < 4096) :
    GA a b g j t = GB a g j t * back (2 ^ (12 - j)) (scan a b) t := by
  induction j generalizing t with
  | zero => simp [GA, back, ht]
  | succ j ih =>
    have e : 12 - j = (11 - j) + 1 := by omega
    have e' : 12 - (j + 1) = 11 - j := by omega
    have hp : 2 ^ (11 - j + 1) = 2 ^ (11 - j) + 2 ^ (11 - j) := by ring
    rw [e']
    have h0 := ih (by omega)
    rw [e, hp] at h0
    have hs := scan_eq a b (11 - j)
    simp only [GA, GB, fwd]
    generalize 2 ^ (11 - j) = s at *
    rw [h0 t ht]
    have h1 : GB a g j t * back s (B a b (11 - j)) t + GB a g j t * back (s + s) (scan a b) t * back s (A a (11 - j)) t
        = GB a g j t * back s (scan a b) t := by
      simp only [back]
      by_cases h : t < s
      · have h' : t < s + s := by omega
        rw [if_pos h, if_pos h, if_pos h, if_pos h']; ring
      · rw [if_neg h, if_neg h, if_neg h, hs (t - s)]
        simp only [back]
        by_cases h' : t < s + s
        · have h2 : t - s < s := by omega
          rw [if_pos h', if_pos h2]; ring
        · have h2 : ¬ t - s < s := by omega
          have e : t - s - s = t - (s + s) := by omega
          rw [if_neg h', if_neg h2, e]; ring
    rw [h1, add_mul]
    congr 1
    by_cases h : t + s < 4096
    · rw [if_pos h, if_pos h, h0 (t + s) h]
      simp only [back]
      by_cases h' : t < s
      · have h2 : t + s < s + s := by omega
        rw [if_pos h', if_pos h2]; ring
      · have h2 : ¬ t + s < s + s := by omega
        have e : t + s - (s + s) = t - s := by omega
        rw [if_neg h', if_neg h2, e]; ring
    · rw [if_neg h, if_neg h]; ring

/-- The adjoint recurrence: `lam t = g t + a (t+1) * lam (t+1)`, from the last of 4096 rows. -/
def lam (t : ℕ) : ℝ := GB a g 12 t

theorem lam_eq (t : ℕ) : lam a g t = g t + if t + 1 < 4096 then a (t + 1) * lam a g (t + 1) else 0 := by
  have := GB_eq a g 12 (le_refl _) t
  simpa [fwd, A, lam] using this

theorem GA_last (t : ℕ) (ht : t < 4096) : GA a b g 12 t = lam a g t * back 1 (scan a b) t := by
  have := GA_eq a b g 12 (le_refl _) t ht
  simpa [lam] using this

end Scan

/-! ### The recurrence inside a group of eight rows -/

/-- A group's two sequences after the steps 1, 2 and 4: the row `p` from the rows above it. -/
def upA (s : ℕ) (a : ℕ → ℝ) (p : ℕ) : ℝ := if p < 8 - s then a p * a (p + s) else a p
def upB (s : ℕ) (a b : ℕ → ℝ) (p : ℕ) : ℝ := if p < 8 - s then a p * b (p + s) + b p else b p

/-- Rows solving `H p = b p + a p * H (p+1)` are the group's last form of what enters. -/
theorem up_eq (a b H : ℕ → ℝ) (h : ∀ p, p < 8 → H p = b p + a p * H (p + 1)) (p : ℕ) (hp : p < 8) :
    upA 4 (upA 2 (upA 1 a)) p * H 8 + upB 4 (upA 2 (upA 1 a)) (upB 2 (upA 1 a) (upB 1 a b)) p = H p := by
  have h0 := h 0 (by omega); have h1 := h 1 (by omega); have h2 := h 2 (by omega); have h3 := h 3 (by omega)
  have h4 := h 4 (by omega); have h5 := h 5 (by omega); have h6 := h 6 (by omega); have h7 := h 7 (by omega)
  have hq : p = 0 ∨ p = 1 ∨ p = 2 ∨ p = 3 ∨ p = 4 ∨ p = 5 ∨ p = 6 ∨ p = 7 := by omega
  rcases hq with rfl | rfl | rfl | rfl | rfl | rfl | rfl | rfl <;> simp [upA, upB] <;>
    simp only [h0, h1, h2, h3, h4, h5, h6, h7] <;> ring

/-- The forward group: the row `p` from the rows below it. -/
def dnA (s : ℕ) (a : ℕ → ℝ) (p : ℕ) : ℝ := if s ≤ p then a p * a (p - s) else a p
def dnB (s : ℕ) (a b : ℕ → ℝ) (p : ℕ) : ℝ := if s ≤ p then a p * b (p - s) + b p else b p

theorem dn_eq (a b H : ℕ → ℝ) (C : ℝ) (hz : H 0 = b 0 + a 0 * C) (h : ∀ p, p < 7 → H (p + 1) = b (p + 1) + a (p + 1) * H p) (p : ℕ) (hp : p < 8) :
    dnA 4 (dnA 2 (dnA 1 a)) p * C + dnB 4 (dnA 2 (dnA 1 a)) (dnB 2 (dnA 1 a) (dnB 1 a b)) p = H p := by
  have h0 := h 0 (by omega); have h1 := h 1 (by omega); have h2 := h 2 (by omega); have h3 := h 3 (by omega)
  have h4 := h 4 (by omega); have h5 := h 5 (by omega); have h6 := h 6 (by omega)
  norm_num at h0 h1 h2 h3 h4 h5 h6
  have hq : p = 0 ∨ p = 1 ∨ p = 2 ∨ p = 3 ∨ p = 4 ∨ p = 5 ∨ p = 6 ∨ p = 7 := by omega
  rcases hq with rfl | rfl | rfl | rfl | rfl | rfl | rfl | rfl <;> simp [dnA, dnB] <;>
    simp only [h0, h1, h2, h3, h4, h5, h6, hz] <;> ring

/-! ### The decay, the gate and their derivatives -/

/-- `log (1 + exp (-x))`, the form that is exact for both signs. -/
def spn (x : ℝ) : ℝ := max (-x) 0 + Real.log (1 + Real.exp (-|x|))
def sgm (x : ℝ) : ℝ := (1 + Real.exp (-x))⁻¹

theorem spn_eq (x : ℝ) : spn x = Real.log (1 + Real.exp (-x)) := by
  unfold spn
  rcases le_total 0 x with h | h
  · rw [abs_of_nonneg h, max_eq_right (by linarith), zero_add]
  · rw [abs_of_nonpos h, max_eq_left (by linarith), neg_neg]
    have e : 1 + Real.exp (-x) = Real.exp (-x) * (1 + Real.exp x) := by
      rw [mul_add, mul_one, ← Real.exp_add]; simp [add_comm]
    rw [e, Real.log_mul (Real.exp_pos _).ne' (by positivity), Real.log_exp]

theorem spn_pos (x : ℝ) : 0 < spn x := by
  rw [spn_eq]; exact Real.log_pos (by linarith [Real.exp_pos (-x)])

/-- The derivative of the recurrence's rate: `exp (-x - log (1 + exp (-x)))` is the gate of `-x`. -/
theorem exp_sub_spn (x : ℝ) : Real.exp (-x - spn x) = sgm (-x) := by
  rw [spn_eq, Real.exp_sub, Real.exp_log (by positivity), sgm, neg_neg]
  have h : 0 < Real.exp (-x) := Real.exp_pos _
  have hx : Real.exp x = (Real.exp (-x))⁻¹ := by rw [Real.exp_neg, inv_inv]
  rw [hx]; field_simp; ring

theorem sgm_pos (x : ℝ) : 0 < sgm x := inv_pos.mpr (by positivity)

/-- `-2 tanh L / (1 - tanh L) = 1 - exp (2 L)`. -/
theorem tanh_ratio (L : ℝ) : 1 - Real.tanh L ≠ 0 ∧ (-2 * Real.tanh L) * (1 / (1 - Real.tanh L)) = 1 - Real.exp (2 * L) := by
  have hp : 0 < Real.exp L := Real.exp_pos _
  have hn : 0 < Real.exp (-L) := Real.exp_pos _
  have hpn : Real.exp L * Real.exp (-L) = 1 := by rw [← Real.exp_add]; simp
  have e2 : Real.exp (2 * L) = Real.exp L * Real.exp L := by rw [← Real.exp_add]; ring_nf
  have ht : Real.tanh L = (Real.exp L - Real.exp (-L)) / (Real.exp L + Real.exp (-L)) := by
    rw [Real.tanh_eq_sinh_div_cosh, Real.sinh_eq, Real.cosh_eq]; field_simp
  have h1 : 1 - Real.tanh L = 2 * Real.exp (-L) / (Real.exp L + Real.exp (-L)) := by rw [ht]; field_simp; ring
  refine ⟨?_, ?_⟩
  · rw [h1]; positivity
  · rw [h1, ht, e2]; field_simp; nlinarith [hpn]

end Cert.LruMath
-- ==== Proof.GatesMath.lean ====
/- The gated recurrent unit over the reals: what its forward lines compute of finite arguments, and its gradients. -/
module

public import proofs.«01_k».proof.Proof.LruMath
public import Idealize.ShloMosaic.Lib.Pointwise

@[expose] public section

noncomputable section

namespace Cert.GatesMath

open Idealize.ShloMosaic Cert.LruMath

/-- The head a column belongs to, its place in the head, and the column of a head's place. -/
abbrev hd (j : Fin 1024) : Fin 4 := ⟨j.val / 256, by omega⟩
abbrev lo (j : Fin 1024) : Fin 256 := ⟨j.val % 256, by omega⟩
abbrev col (h : Fin 4) (x : Fin 256) : Fin 1024 := ⟨h.val * 256 + x.val, by omega⟩

theorem hd_col (h : Fin 4) (x : Fin 256) : hd (col h x) = h := Fin.ext (by simp only [hd, col]; omega)
theorem lo_col (h : Fin 4) (x : Fin 256) : lo (col h x) = x := Fin.ext (by simp only [lo, col]; omega)
theorem col_hd_lo (j : Fin 1024) : col (hd j) (lo j) = j := Fin.ext (by simp only [hd, lo, col]; omega)

/-- The two constants of the gate's smooth unit, as the forward lines' words hold them. -/
def k0 : ℝ := 6693141 / 8388608
def k1 : ℝ := 12003091 / 268435456

/-- The smooth unit. -/
def gel (x : ℝ) : ℝ := x * (1 / 2 * (1 + Real.tanh (k0 * (x + k1 * (x * x * x)))))

/-- The arguments: the unit's two inputs by rows, the convolution, the two gates, the rate, and the result's gradient. -/
structure Data where
  xa : ℕ → Fin 1024 → ℝ
  ga : ℕ → Fin 1024 → ℝ
  cw : Fin 4 → Fin 1024 → ℝ
  cb : Fin 1024 → ℝ
  wr : Fin 4 → Fin 256 → Fin 256 → ℝ
  br : Fin 4 → Fin 256 → ℝ
  wi : Fin 4 → Fin 256 → Fin 256 → ℝ
  bi : Fin 4 → Fin 256 → ℝ
  lm : Fin 1024 → ℝ
  dy : ℕ → Fin 1024 → ℝ

namespace Data

variable (D : Data) (t : ℕ) (j : Fin 1024)

/-- A row sequence's rows `s` earlier. -/
def bk (s : ℕ) (f : ℕ → Fin 1024 → ℝ) (t : ℕ) (j : Fin 1024) : ℝ := back s (fun u => f u j) t

def xc : ℝ := D.cb j + D.xa t j * D.cw 0 j + bk 1 D.xa t j * D.cw 1 j + bk 2 D.xa t j * D.cw 2 j + bk 3 D.xa t j * D.cw 3 j
def pr : ℝ := ∑ x, D.wr (hd j) x (lo j) * D.xc t (col (hd j) x) + D.br (hd j) (lo j)
def pi : ℝ := ∑ x, D.wi (hd j) x (lo j) * D.xc t (col (hd j) x) + D.bi (hd j) (lo j)
def r : ℝ := sgm (D.pr t j)
def ig : ℝ := sgm (D.pi t j)
def sp : ℝ := spn (D.lm j)
def la : ℝ := -8 * D.r t j * D.sp j
def a : ℝ := Real.exp (D.la t j)
def q : ℝ := 1 - Real.exp (2 * D.la t j)
def mult : ℝ := Real.sqrt (D.q t j)
def bx : ℝ := D.xc t j * D.ig t j * D.mult t j
/-- The recurrence's rows. -/
def h : ℝ := scan (fun u => D.a u j) (fun u => D.bx u j) t
def gg : ℝ := gel (D.ga t j)
def g : ℝ := D.dy t j * D.gg t j
/-- The recurrence's adjoint. -/
def lam : ℝ := LruMath.lam (fun u => D.a u j) (fun u => D.g u j) t
def dir : ℝ := D.lam t j * D.ig t j * D.mult t j
/-- The gradient in the decay's logarithm. -/
def dla : ℝ := D.a t j * (D.lam t j * bk 1 D.h t j - D.lam t j * D.ig t j * D.xc t j * D.a t j * (D.mult t j)⁻¹)
def dpr : ℝ := D.dla t j * D.r t j * (-8 * D.sp j) * (1 - D.r t j)
def dpi : ℝ := D.dir t j * D.xc t j * (1 - D.ig t j)
def dxc : ℝ := D.dir t j + ∑ x, (D.dpr t (col (hd j) x) * D.wr (hd j) (lo j) x)
  + ∑ x, (D.dpi t (col (hd j) x) * D.wi (hd j) (lo j) x)
def dwr (h : Fin 4) (i k : Fin 256) : ℝ := ∑ t : Fin 4096, D.xc t (col h i) * D.dpr t (col h k)
def dwi (h : Fin 4) (i k : Fin 256) : ℝ := ∑ t : Fin 4096, D.xc t (col h i) * D.dpi t (col h k)
def dbr : ℝ := ∑ t : Fin 4096, D.dpr t j
def dbi : ℝ := ∑ t : Fin 4096, D.dpi t j
def dlm : ℝ := ∑ t : Fin 4096, D.dla t j * D.r t j * (8 * sgm (-D.lm j))

theorem la_neg : D.la t j < 0 := by
  have h1 : 0 < D.r t j := sgm_pos _
  have h2 : 0 < D.sp j := spn_pos _
  have := mul_pos h1 h2
  unfold la; nlinarith

theorem q_pos : 0 < D.q t j := by
  have h := D.la_neg t j
  have : Real.exp (2 * D.la t j) < 1 := by rw [Real.exp_lt_one_iff]; linarith
  unfold q; linarith

theorem mult_pos : 0 < D.mult t j := Real.sqrt_pos.mpr (D.q_pos t j)

end Data

/-! ### Real numbers among the extended ones -/

theorem bits_half : Ideal.ofBits .f32 0x3F000000#32 = ((1 / 2 : ℝ) : EReal) := by
  simp [Ideal.ofBits, Ideal.ieee]; rw [← EReal.coe_mul]; norm_num
theorem bits_one : Ideal.ofBits .f32 0x3F800000#32 = ((1 : ℝ) : EReal) := by
  simp [Ideal.ofBits, Ideal.ieee]; rw [← EReal.coe_mul]; norm_num
theorem bits_two : Ideal.ofBits .f32 0x40000000#32 = ((2 : ℝ) : EReal) := by
  simp [Ideal.ofBits, Ideal.ieee]; rw [← EReal.coe_mul]; norm_num
theorem bits_m8 : Ideal.ofBits .f32 0xC1000000#32 = ((-8 : ℝ) : EReal) := by
  simp [Ideal.ofBits, Ideal.ieee]; rw [← EReal.coe_mul]; norm_num
theorem bits_8 : Ideal.ofBits .f32 0x41000000#32 = ((8 : ℝ) : EReal) := by
  simp [Ideal.ofBits, Ideal.ieee]; rw [← EReal.coe_mul]; norm_num
theorem bits_m2 : Ideal.ofBits .f32 0xC0000000#32 = ((-2 : ℝ) : EReal) := by
  simp [Ideal.ofBits, Ideal.ieee]; rw [← EReal.coe_mul]; norm_num
theorem bits_k0 : Ideal.ofBits .f32 0x3F4C422A#32 = ((k0 : ℝ) : EReal) := by
  simp [Ideal.ofBits, Ideal.ieee, k0]; rw [← EReal.coe_mul]; norm_num
theorem bits_k1 : Ideal.ofBits .f32 0x3D372713#32 = ((k1 : ℝ) : EReal) := by
  simp [Ideal.ofBits, Ideal.ieee, k1]; rw [← EReal.coe_mul]; norm_num

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem coe_inv_exp (x : ℝ) : Ideal.div ((1 : ℝ) : EReal) (((1 + Real.exp (-x) : ℝ)) : EReal) = ((sgm x : ℝ) : EReal) := by
  have h : 0 < 1 + Real.exp (-x) := by positivity
  rw [Ideal.div_coe h.ne', ← EReal.coe_mul, one_mul, one_div]; rfl

theorem coe_div {x y : ℝ} (h : y ≠ 0) : Ideal.div (x : EReal) (y : EReal) = ((x / y : ℝ) : EReal) := by
  rw [Ideal.div_coe h, ← EReal.coe_mul, mul_one_div]

theorem coe_sqrt {x : ℝ} (h : 0 < x) : Ideal.sqrt (x : EReal) = ((Real.sqrt x : ℝ) : EReal) := by
  rw [Ideal.sqrt_coe, if_neg (not_lt.mpr h.le)]

theorem coe_rsqrt {x : ℝ} (h : 0 < x) : Ideal.rsqrt (x : EReal) = (((Real.sqrt x)⁻¹ : ℝ) : EReal) := by
  rw [Ideal.rsqrt_coe, if_neg (not_lt.mpr h.le), if_neg h.ne']

theorem coe_log {x : ℝ} (h : 0 < x) : Ideal.log (x : EReal) = ((Real.log x : ℝ) : EReal) := by
  rw [Ideal.log_coe, if_neg (not_le.mpr h)]

theorem coe_max (x y : ℝ) : max (x : EReal) (y : EReal) = ((max x y : ℝ) : EReal) := (EReal.coe_strictMono.monotone.map_max).symm

theorem ite_coe (p : Prop) [Decidable p] (x : ℝ) : (if p then (0 : EReal) else (x : EReal)) = ((if p then 0 else x : ℝ) : EReal) := by
  split <;> simp
theorem ite_coe' (p : Prop) [Decidable p] (x : ℝ) : (if p then (x : EReal) else 0) = ((if p then x else 0 : ℝ) : EReal) := by
  split <;> simp

/-- The convolution's rows, counted from the padded start. -/
theorem pad_at (f : ℕ → Fin 1024 → ℝ) (k t : ℕ) (hk : k ≤ 3) (j : Fin 1024) :
    (if k + t < 3 then (0 : ℝ) else f (k + t - 3) j) = Data.bk (3 - k) f t j := by
  unfold Data.bk back
  by_cases h : k + t < 3
  · rw [if_pos h, if_pos (by omega)]
  · rw [if_neg h, if_neg (by omega)]; congr 1; omega

theorem bits_inf : Ideal.ofBits .f32 2139095040#32 = ⊤ := by simp [Ideal.ofBits, Ideal.ieee]

theorem coe_spn (x : ℝ) : max (-(x : EReal)) 0 + Ideal.log1p (Ideal.exp (-FloatOps.absf (F := Ideal) (φ := .f32) (-(x : EReal)))) = ((spn x : ℝ) : EReal) := by
  rw [Ideal.absf_def]
  simp only [← EReal.coe_neg, ← EReal.coe_zero, coe_max, Ideal.exp_coe, Ideal.log1p, ← EReal.coe_one, ← EReal.coe_add]
  rw [coe_log (by positivity), ← EReal.coe_add, neg_neg, max_comm (-x) x]; rfl

/-- The step's scale. -/
theorem coe_mult {x : ℝ} (h : 0 < 1 - Real.exp x) : Ideal.sqrt (-(Ideal.exp (x : EReal) - 1)) = ((Real.sqrt (1 - Real.exp x) : ℝ) : EReal) := by
  rw [Ideal.exp_coe, ← EReal.coe_one, ← EReal.coe_sub, ← EReal.coe_neg, neg_sub, coe_sqrt h]

/-- A gate's value. -/
theorem gate_at (s : ℝ) : Ideal.div 1 (1 + Ideal.exp (-(s : EReal))) = ((sgm s : ℝ) : EReal) := by
  rw [← EReal.coe_neg, Ideal.exp_coe, ← EReal.coe_one, ← EReal.coe_add, coe_inv_exp]

/-! ### Masks by rows -/

theorem slt_word (n k : ℕ) (hn : n < 2 ^ 31) (hk : k < 2 ^ 31) (x y : EReal) :
    Scalar.select (IntOp.cmpi CmpIPredicate.slt (BitVec.ofNat 32 n) (BitVec.ofNat 32 k)) x y = if n < k then x else y := by
  have e : IntOp.cmpi CmpIPredicate.slt (BitVec.ofNat 32 n) (BitVec.ofNat 32 k) = if n < k then 1#1 else 0#1 := by
    have h1 : (BitVec.ofNat 32 n).toInt = n := by rw [BitVec.toInt_eq_toNat_of_lt] <;> simp only [BitVec.toNat_ofNat] <;> omega
    have h2 : (BitVec.ofNat 32 k).toInt = k := by rw [BitVec.toInt_eq_toNat_of_lt] <;> simp only [BitVec.toNat_ofNat] <;> omega
    by_cases h : n < k <;> simp [IntOp.cmpi, BitVec.slt, h1, h2, h]
  rw [e]; by_cases h : n < k <;> simp [h, Scalar.select]

theorem sge_word (n k : ℕ) (hn : n < 2 ^ 31) (hk : k < 2 ^ 31) (x y : EReal) :
    Scalar.select (IntOp.cmpi CmpIPredicate.sge (BitVec.ofNat 32 n) (BitVec.ofNat 32 k)) x y = if k ≤ n then x else y := by
  have e : IntOp.cmpi CmpIPredicate.sge (BitVec.ofNat 32 n) (BitVec.ofNat 32 k) = if k ≤ n then 1#1 else 0#1 := by
    have h1 : (BitVec.ofNat 32 n).toInt = n := by rw [BitVec.toInt_eq_toNat_of_lt] <;> simp only [BitVec.toNat_ofNat] <;> omega
    have h2 : (BitVec.ofNat 32 k).toInt = k := by rw [BitVec.toInt_eq_toNat_of_lt] <;> simp only [BitVec.toNat_ofNat] <;> omega
    by_cases h : k ≤ n <;> simp [IntOp.cmpi, BitVec.sle, h1, h2, h]
  rw [e]; by_cases h : k ≤ n <;> simp [h, Scalar.select]

/-- The rate as a tile computes it: `log (1 + e)` of a small `e` by the quotient `e / ((1 + e) - 1)`. -/
theorem coe_rate (x : ℝ) : max (0 - (x : EReal)) 0 + (if 1 + Ideal.exp (0 - FloatOps.absf (F := Ideal) (φ := .f32) (x : EReal)) = 1 then Ideal.exp (0 - FloatOps.absf (F := Ideal) (φ := .f32) (x : EReal))
      else Ideal.log (1 + Ideal.exp (0 - FloatOps.absf (F := Ideal) (φ := .f32) (x : EReal))) * Ideal.div (Ideal.exp (0 - FloatOps.absf (F := Ideal) (φ := .f32) (x : EReal)))
        (if 1 + Ideal.exp (0 - FloatOps.absf (F := Ideal) (φ := .f32) (x : EReal)) = 1 then 1 else 1 + Ideal.exp (0 - FloatOps.absf (F := Ideal) (φ := .f32) (x : EReal)) - 1))
    = ((spn x : ℝ) : EReal) := by
  rw [Ideal.absf_def]
  have he : 0 < Real.exp (-|x|) := Real.exp_pos _
  have e1 : Ideal.exp (0 - max (x : EReal) (-(x : EReal))) = ((Real.exp (-|x|) : ℝ) : EReal) := by
    rw [← EReal.coe_neg, coe_max, ← EReal.coe_zero, ← EReal.coe_sub, Ideal.exp_coe, zero_sub]; rfl
  rw [e1]
  have e2 : (1 : EReal) + ((Real.exp (-|x|) : ℝ) : EReal) = ((1 + Real.exp (-|x|) : ℝ) : EReal) := by
    rw [EReal.coe_add, EReal.coe_one]
  have e3 : ((1 + Real.exp (-|x|) : ℝ) : EReal) ≠ 1 := by
    rw [← EReal.coe_one, Ne, EReal.coe_eq_coe_iff]; linarith
  rw [e2, if_neg e3, if_neg e3, coe_log (by positivity), ← EReal.coe_one, ← EReal.coe_sub, add_sub_cancel_left, coe_div he.ne', div_self he.ne',
    ← EReal.coe_zero, ← EReal.coe_sub, coe_max, ← EReal.coe_mul, ← EReal.coe_add, mul_one, zero_sub]
  rfl

/-- A row sequence holds real rows. -/
def Rd (v : ℕ → Fin 1024 → EReal) (f : ℕ → Fin 1024 → ℝ) : Prop := ∀ t j, t < 4096 → v t j = (f t j : EReal)

end Cert.GatesMath
-- ==== Proof.GatesTile.lean ====
/- One grid point of the unit's gradients: the values it stores are the real functions of GatesMath at its tile of rows. -/
module

public import proofs.«01_k».proof.Proof.GatesMath
public import proofs.«01_k».proof.Proof.Gen.BwdGatesIdeal.Value
public import Idealize.ShloMosaic.Lib.Pointwise
public import Idealize.ShloMosaic.Lib.Pipeline.ValueKit

@[expose] public section

set_option maxRecDepth 16384

noncomputable section

namespace Cert.BwdGatesIdeal.Hand

open Cert.BwdGatesIdeal Cert.BwdGatesIdeal.Gen Idealize.ShloMosaic Idealize.ShloMosaic.TcCoe Idealize.SL.Sem
open Cert.LruMath Cert.GatesMath

/-- What a point reads: its coordinates, its blocks in the windows' order, and the row carried from the tile after it. -/
structure Tile where
  i : grid0.Coords
  x0 : FVec Ideal S256x1024 .f32
  x1 : FVec Ideal S256x1024 .bf16
  x2 : FVec Ideal S256x1024 .f32
  x3 : FVec Ideal S8x1024 .f32
  x4 : FVec Ideal S256x1024 .f32
  x5 : FVec Ideal S256x1024 .f32
  x6 : FVec Ideal S256x1024 .f32
  x7 : Vec Ideal S4x256x256 .bf16
  x8 : Vec Ideal S4x256x256 .bf16
  x9 : FVec Ideal S1x1024 .f32
  cr : FVec Ideal S1x1024 .f32

namespace Tile

variable (b : Tile)

/-- The words of zero and one half. -/
abbrev z0 : Ideal .f32 := FloatOps.ofBits FTy.f32 0#32
abbrev hf : Ideal .f32 := FloatOps.ofBits FTy.f32 1056964608#32

/-! The values of a point, each under the number its line has in the kernel. -/

def wr0 : Vec Ideal S1x256x256 .bf16 := View.ld b.x7 (Rect.unit (s := S4x256x256) ![0, 0, 0] S1x256x256.size inb_S4x256x256_S1x256x256_0_0_0)
def wi0 : Vec Ideal S1x256x256 .bf16 := View.ld b.x8 (Rect.unit (s := S4x256x256) ![0, 0, 0] S1x256x256.size inb_S4x256x256_S1x256x256_0_0_0)
def wr1 : Vec Ideal S1x256x256 .bf16 := View.ld b.x7 (Rect.unit (s := S4x256x256) ![1, 0, 0] S1x256x256.size inb_S4x256x256_S1x256x256_1_0_0)
def wi1 : Vec Ideal S1x256x256 .bf16 := View.ld b.x8 (Rect.unit (s := S4x256x256) ![1, 0, 0] S1x256x256.size inb_S4x256x256_S1x256x256_1_0_0)
def wr2 : Vec Ideal S1x256x256 .bf16 := View.ld b.x7 (Rect.unit (s := S4x256x256) ![2, 0, 0] S1x256x256.size inb_S4x256x256_S1x256x256_2_0_0)
def wi2 : Vec Ideal S1x256x256 .bf16 := View.ld b.x8 (Rect.unit (s := S4x256x256) ![2, 0, 0] S1x256x256.size inb_S4x256x256_S1x256x256_2_0_0)
def wr3 : Vec Ideal S1x256x256 .bf16 := View.ld b.x7 (Rect.unit (s := S4x256x256) ![3, 0, 0] S1x256x256.size inb_S4x256x256_S1x256x256_3_0_0)
def wi3 : Vec Ideal S1x256x256 .bf16 := View.ld b.x8 (Rect.unit (s := S4x256x256) ![3, 0, 0] S1x256x256.size inb_S4x256x256_S1x256x256_3_0_0)
def v7 : FVec Ideal S8x1024 .f32 := k0_pay9 (F := Ideal) b.i b.x3
def v9 : FVec Ideal S256x1024 .f32 := k0_pay10 (F := Ideal) b.x4
def v11 : FVec Ideal S256x1024 .f32 := k0_pay11 (F := Ideal) b.x5
def v13 : FVec Ideal S256x1024 .f32 := k0_pay12 (F := Ideal) b.x6
def v14 : FVec Ideal S256x1024 .bf16 := k0_pay13 (F := Ideal) b.x4
def v33 : FVec Ideal S1x1024 .f32 := k0_pay14 (F := Ideal) b.x9
def v35 : FVec Ideal S1x1024 .f32 := k0_pay15 (F := Ideal) b.x9
def v38 : FVec Ideal S1x1024 .f32 := k0_pay16 (F := Ideal) b.v33 b.v35 z0
def v43 : FVec Ideal S256x1024 .f32 := k0_pay18 (F := Ideal) b.v11 b.v33 b.v35 z0
def v50 : FVec Ideal S256x1024 .f32 := k0_pay20 (F := Ideal) b.v11 b.v33 b.v35 z0
def v55 : FVec Ideal S256x1024 .f32 := k0_pay21 (F := Ideal) b.v11 b.v33 b.v35 z0
def v66 : FVec Ideal S256x1024 .f32 := k0_pay22 (F := Ideal) b.v7 b.x2
def v68 : FVec Ideal S256x1024 .f32 := k0_pay23 (F := Ideal) b.x0
def v71 : FVec Ideal S256x1024 .f32 := k0_pay24 (F := Ideal) b.x1
def v78 : FVec Ideal S256x1024 .f32 := k0_pay25 (F := Ideal) b.x1
def v114 : FVec Ideal S32x8x1024 .f32 := k0_pay30 (F := Ideal) b.v43 b.v68 b.v71 b.v78 hf
def v116 : FVec Ideal S32x8x1024 .f32 := k0_pay31 (F := Ideal) b.v43
def v117 : FVec Ideal S32x8x1024 .f32 := k0_pay32 (F := Ideal) b.v43
def v122 : FVec Ideal S32x8x1024 .f32 := k0_pay34 (F := Ideal) b.v43 b.v68 b.v71 b.v78 hf
def v123 : FVec Ideal S32x8x1024 .f32 := k0_pay35 (F := Ideal) b.v114 k0_pay33 b.v122
def v125 : FVec Ideal S32x8x1024 .f32 := k0_pay36 (F := Ideal) b.v116 b.v117 k0_pay33
def v132 : FVec Ideal S8x1024 .f32 := k0_pay37 (F := Ideal) b.cr b.v114 b.v116 b.v117 k0_pay33 b.v122
def v140 : FVec Ideal S8x1024 .f32 := k0_pay38 (F := Ideal) b.cr b.v114 b.v116 b.v117 k0_pay33 b.v122
def v148 : FVec Ideal S8x1024 .f32 := k0_pay39 (F := Ideal) b.cr b.v114 b.v116 b.v117 k0_pay33 b.v122
def v156 : FVec Ideal S8x1024 .f32 := k0_pay40 (F := Ideal) b.cr b.v114 b.v116 b.v117 k0_pay33 b.v122
def v164 : FVec Ideal S8x1024 .f32 := k0_pay41 (F := Ideal) b.cr b.v114 b.v116 b.v117 k0_pay33 b.v122
def v172 : FVec Ideal S8x1024 .f32 := k0_pay42 (F := Ideal) b.cr b.v114 b.v116 b.v117 k0_pay33 b.v122
def v180 : FVec Ideal S8x1024 .f32 := k0_pay43 (F := Ideal) b.cr b.v114 b.v116 b.v117 k0_pay33 b.v122
def v181 : FVec Ideal S1x1024 .f32 := k0_pay44 (F := Ideal) b.cr b.v114 b.v116 b.v117 k0_pay33 b.v122
def v182 : FVec Ideal S1x8x1024 .f32 := k0_pay45 (F := Ideal) b.v116 b.v117 k0_pay33
def v188 : FVec Ideal S8x1024 .f32 := k0_pay46 (F := Ideal) b.v123 b.v181 b.v182
def v196 : FVec Ideal S8x1024 .f32 := k0_pay47 (F := Ideal) b.v123 b.v125 b.v181 b.v182
def v204 : FVec Ideal S8x1024 .f32 := k0_pay48 (F := Ideal) b.v123 b.v125 b.v181 b.v182
def v212 : FVec Ideal S8x1024 .f32 := k0_pay49 (F := Ideal) b.v123 b.v125 b.v181 b.v182
def v220 : FVec Ideal S8x1024 .f32 := k0_pay50 (F := Ideal) b.v123 b.v125 b.v181 b.v182
def v228 : FVec Ideal S8x1024 .f32 := k0_pay51 (F := Ideal) b.v123 b.v125 b.v181 b.v182
def v236 : FVec Ideal S8x1024 .f32 := k0_pay52 (F := Ideal) b.v123 b.v125 b.v181 b.v182
def v241 : FVec Ideal S8x1024 .f32 := k0_pay53 (F := Ideal) b.v123 b.v125 b.v181 b.v182
def v242 : FVec Ideal S1x8x1024 .f32 := k0_pay54 (F := Ideal) b.v123
def v244 : FVec Ideal S8x1024 .f32 := k0_pay55 (F := Ideal) b.v241 b.v242
def v252 : FVec Ideal S8x1024 .f32 := k0_pay56 (F := Ideal) b.v123 b.v125 b.v241 b.v242
def v260 : FVec Ideal S8x1024 .f32 := k0_pay57 (F := Ideal) b.v123 b.v125 b.v241 b.v242
def v268 : FVec Ideal S8x1024 .f32 := k0_pay58 (F := Ideal) b.v123 b.v125 b.v241 b.v242
def v276 : FVec Ideal S8x1024 .f32 := k0_pay59 (F := Ideal) b.v123 b.v125 b.v241 b.v242
def v284 : FVec Ideal S8x1024 .f32 := k0_pay60 (F := Ideal) b.v123 b.v125 b.v241 b.v242
def v292 : FVec Ideal S8x1024 .f32 := k0_pay61 (F := Ideal) b.v123 b.v125 b.v241 b.v242
def v300 : FVec Ideal S8x1024 .f32 := k0_pay62 (F := Ideal) b.v123 b.v125 b.v241 b.v242
def v301 : FVec Ideal S1x1024 .f32 := k0_pay63 (F := Ideal) b.v123 b.v125 b.v241 b.v242
def v302 : FVec Ideal S1x8x1024 .f32 := k0_pay64 (F := Ideal) b.v125
def v308 : FVec Ideal S8x1024 .f32 := k0_pay65 (F := Ideal) b.v123 b.v301 b.v302
def v316 : FVec Ideal S8x1024 .f32 := k0_pay66 (F := Ideal) b.v123 b.v125 b.v301 b.v302
def v324 : FVec Ideal S8x1024 .f32 := k0_pay67 (F := Ideal) b.v123 b.v125 b.v301 b.v302
def v332 : FVec Ideal S8x1024 .f32 := k0_pay68 (F := Ideal) b.v123 b.v125 b.v301 b.v302
def v340 : FVec Ideal S8x1024 .f32 := k0_pay69 (F := Ideal) b.v123 b.v125 b.v301 b.v302
def v348 : FVec Ideal S8x1024 .f32 := k0_pay70 (F := Ideal) b.v123 b.v125 b.v301 b.v302
def v356 : FVec Ideal S8x1024 .f32 := k0_pay71 (F := Ideal) b.v123 b.v125 b.v301 b.v302
def v361 : FVec Ideal S8x1024 .f32 := k0_pay72 (F := Ideal) b.v123 b.v125 b.v301 b.v302
def v362 : FVec Ideal S1x8x1024 .f32 := k0_pay73 (F := Ideal) b.v123
def v364 : FVec Ideal S8x1024 .f32 := k0_pay74 (F := Ideal) b.v361 b.v362
def v372 : FVec Ideal S8x1024 .f32 := k0_pay75 (F := Ideal) b.v123 b.v125 b.v361 b.v362
def v380 : FVec Ideal S8x1024 .f32 := k0_pay76 (F := Ideal) b.v123 b.v125 b.v361 b.v362
def v382 : FVec Ideal S256x1024 .f32 := k0_pay77 (F := Ideal) b.v123 b.v125 b.v132 b.v140 b.v148 b.v156 b.v164 b.v172 b.v180 b.v188 b.v196 b.v204 b.v212 b.v220 b.v228 b.v236 b.v244 b.v252 b.v260 b.v268 b.v276 b.v284 b.v292 b.v300 b.v308 b.v316 b.v324 b.v332 b.v340 b.v348 b.v356 b.v361 b.v362
def v389 : FVec Ideal S256x1024 .f32 := k0_pay80 (F := Ideal) b.v13 b.v55 b.v123 b.v125 b.v132 b.v140 b.v148 b.v156 b.v164 b.v172 b.v180 b.v188 b.v196 b.v204 b.v212 b.v220 b.v228 b.v236 b.v244 b.v252 b.v260 b.v268 b.v276 b.v284 b.v292 b.v300 b.v308 b.v316 b.v324 b.v332 b.v340 b.v348 b.v356 b.v361 b.v362
def v396 : FVec Ideal S256x1024 .f32 := k0_pay81 (F := Ideal) b.v9 b.v11 b.v13 b.v43 b.v50 b.v66 b.v123 b.v125 b.v132 b.v140 b.v148 b.v156 b.v164 b.v172 b.v180 b.v188 b.v196 b.v204 b.v212 b.v220 b.v228 b.v236 b.v244 b.v252 b.v260 b.v268 b.v276 b.v284 b.v292 b.v300 b.v308 b.v316 b.v324 b.v332 b.v340 b.v348 b.v356 b.v361 b.v362
def v433 : FVec Ideal S256x1024 .bf16 := k0_pay87 (F := Ideal) b.v11 b.v38 b.v396
def v434 : FVec Ideal S256x1024 .bf16 := k0_pay88 (F := Ideal) b.v9 b.v13 b.v389
def v443 : FVec Ideal S256x256 .f32 := k0_pay89 (F := Ideal) b.v9 b.v11 b.v13 b.v38 b.v389 b.v396 b.wr0 b.wi0
def v470 : FVec Ideal S256x256 .f32 := k0_pay92 (F := Ideal) b.v433 b.v434 b.wr1 b.wi1
def v497 : FVec Ideal S256x256 .f32 := k0_pay96 (F := Ideal) b.v433 b.v434 b.wr2 b.wi2
def v524 : FVec Ideal S256x256 .f32 := k0_pay99 (F := Ideal) b.v433 b.v434 b.wr3 b.wi3
def dxc : FVec Ideal S256x1024 .f32 := k0_pay2 (F := Ideal) b.v389 b.v443 b.v470 b.v497 b.v524
def car : FVec Ideal S1x1024 .f32 := k0_pay78 (F := Ideal) b.v43 b.v123 b.v125 b.v361 b.v362
def dlm (p : FVec Ideal S1x1024 .f32) : FVec Ideal S1x1024 .f32 := k0_pay82 (F := Ideal) b.v9 b.v11 b.v13 b.v43 b.v50 b.v66 b.v123 b.v125 b.v132 b.v140 b.v148 b.v156 b.v164 b.v172 b.v180 b.v188 b.v196 b.v204 b.v212 b.v220 b.v228 b.v236 b.v244 b.v252 b.v260 b.v268 b.v276 b.v284 b.v292 b.v300 b.v308 b.v316 b.v324 b.v332 b.v340 b.v348 b.v356 b.v361 b.v362 p b.x9
def dbr (p : FVec Ideal S1x1024 .f32) : FVec Ideal S1x1024 .f32 := k0_pay85 (F := Ideal) b.v11 b.v38 b.v396 p
def dbi (p : FVec Ideal S1x1024 .f32) : FVec Ideal S1x1024 .f32 := k0_pay86 (F := Ideal) b.v9 b.v13 b.v389 p

/-- The groups of eight rows of the adjoint, the first rows first. -/
def grp : Fin 32 → FVec Ideal S8x1024 .f32 := ![b.v380, b.v372, b.v364, b.v356, b.v348, b.v340, b.v332, b.v324, b.v316, b.v308, b.v300, b.v292, b.v284, b.v276, b.v268, b.v260, b.v252, b.v244, b.v236, b.v228, b.v220, b.v212, b.v204, b.v196, b.v188, b.v180, b.v172, b.v164, b.v156, b.v148, b.v140, b.v132]

/-- The row a tile passes to the tile before it. -/
def _root_.Cert.GatesMath.Data.cin (D : Data) (T : ℕ) (j : Fin 1024) : ℝ :=
  if 256 * T + 256 < 4096 then D.a (256 * T + 256) j * D.lam (256 * T + 256) j else 0

/-- The point's blocks are tile `T` of the arguments' rows. -/
structure Holds (D : Data) (T : ℕ) : Prop where
  lt : T < 16
  i0 : (b.i 0).val = 15 - T
  dy : ∀ r j, b.x0 (ix2 r j) = ((D.dy (256 * T + r.val) j : ℝ) : EReal)
  ga : ∀ r j, b.x1 (ix2 r j) = ((D.ga (256 * T + r.val) j : ℝ) : EReal)
  h : ∀ r j, b.x2 (ix2 r j) = ((D.h (256 * T + r.val) j : ℝ) : EReal)
  hp : T ≠ 0 → ∀ p j, b.x3 (ix2 p j) = ((D.h (256 * T - 8 + p.val) j : ℝ) : EReal)
  xc : ∀ r j, b.x4 (ix2 r j) = ((D.xc (256 * T + r.val) j : ℝ) : EReal)
  r : ∀ r j, b.x5 (ix2 r j) = ((D.r (256 * T + r.val) j : ℝ) : EReal)
  ig : ∀ r j, b.x6 (ix2 r j) = ((D.ig (256 * T + r.val) j : ℝ) : EReal)
  wr : ∀ h i k, b.x7 (ix3 h i k) = ((D.wr h i k : ℝ) : EReal)
  wi : ∀ h i k, b.x8 (ix3 h i k) = ((D.wi h i k : ℝ) : EReal)
  lm : ∀ j, b.x9 (ix2 0 j) = ((D.lm j : ℝ) : EReal)
  cr : ∀ j, b.cr (ix2 0 j) = ((D.cin T j : ℝ) : EReal)

/-! ### Masks by rows -/

theorem eq_word (n k : ℕ) (hn : n < 2 ^ 32) (hk : k < 2 ^ 32) (x y : EReal) :
    Scalar.select (Scalar.cmpi CmpIPredicate.eq (BitVec.ofNat 32 n) (BitVec.ofNat 32 k)) x y = if n = k then x else y := by
  have e : (BitVec.ofNat 32 n = BitVec.ofNat 32 k) ↔ n = k := by
    constructor
    · intro h; have := congrArg BitVec.toNat h; simp only [BitVec.toNat_ofNat] at this; omega
    · rintro rfl; rfl
  rw [show Scalar.cmpi CmpIPredicate.eq (BitVec.ofNat 32 n) (BitVec.ofNat 32 k) = BitVec.ofBool (BitVec.ofNat 32 n == BitVec.ofNat 32 k) from rfl]
  by_cases h : n = k
  · rw [beq_iff_eq.mpr (e.mpr h), if_pos h]; rfl
  · rw [beq_eq_false_iff_ne.mpr (fun hh => h (e.mp hh)), if_neg h]; rfl

/-- One step inside a group, of the factors and of the sums. -/
theorem up_a (K s : ℕ) (hs : s + K = 8) (h0 : 0 < s) (f : Fin 8 → EReal) (a : ℕ → ℝ) (hf : ∀ p, f p = ((a p.val : ℝ) : EReal)) (p : Fin 8) :
    Scalar.select (IntOp.cmpi CmpIPredicate.slt (BitVec.ofNat 32 p.val) (BitVec.ofNat 32 K)) (f p * f ⟨(p.val + 8 - K) % 8, Nat.mod_lt _ (by decide)⟩) (f p)
      = ((upA s a p.val : ℝ) : EReal) := by
  rw [slt_word _ _ (by omega) (by omega)]; unfold upA
  by_cases h : p.val < K
  · rw [if_pos h, if_pos (by omega), hf, hf, ← EReal.coe_mul]
    simp only [show (p.val + 8 - K) % 8 = p.val + s by omega]
  · rw [if_neg h, if_neg (by omega), hf]

theorem up_b (K s : ℕ) (hs : s + K = 8) (h0 : 0 < s) (f v : Fin 8 → EReal) (a c : ℕ → ℝ) (hf : ∀ p, f p = ((a p.val : ℝ) : EReal))
    (hv : ∀ p, v p = ((c p.val : ℝ) : EReal)) (p : Fin 8) :
    Scalar.select (IntOp.cmpi CmpIPredicate.slt (BitVec.ofNat 32 p.val) (BitVec.ofNat 32 K)) (f p * v ⟨(p.val + 8 - K) % 8, Nat.mod_lt _ (by decide)⟩ + v p) (v p)
      = ((upB s a c p.val : ℝ) : EReal) := by
  rw [slt_word _ _ (by omega) (by omega)]; unfold upB
  by_cases h : p.val < K
  · rw [if_pos h, if_pos (by omega), hf, hv, hv, ← EReal.coe_mul, ← EReal.coe_add]
    simp only [show (p.val + 8 - K) % 8 = p.val + s by omega]
  · rw [if_neg h, if_neg (by omega), hv]

/-- The second constant times the first, under its name. -/
theorem k01_eq : Named.named (F := Ideal) Cert.BwdGatesIdeal.κ "k01" (φ := .f32) 1024598649#32 = ((k0 * k1 : ℝ) : EReal) := by
  have h : Named.named (F := Ideal) Cert.BwdGatesIdeal.κ "k01" (φ := .f32) 1024598649#32 = ((80338380498831 / 2251799813685248 : ℝ) : EReal) :=
    IdealRules.named_const.ideal_named_scalar _ _ _ _ rfl
  rw [h]; congr 1; unfold k0 k1; norm_num

variable {b} {D : Data} {T : ℕ} (H : b.Holds D T)
include H

/-! ### The decay -/

theorem sp_at (j : Fin 1024) : max (b.v35 (ix2 0 j)) 0 + b.v33 (ix2 0 j) = ((D.sp j : ℝ) : EReal) := by
  unfold v33 v35
  pointwise [k0_pay15, k0_pay14]
  rw [H.lm, Ideal.absf_def]
  have he : 0 < Real.exp (-|D.lm j|) := Real.exp_pos _
  have e1 : Ideal.exp (0 - max (D.lm j : EReal) (-(D.lm j : EReal))) = ((Real.exp (-|D.lm j|) : ℝ) : EReal) := by
    rw [← EReal.coe_neg, coe_max, ← EReal.coe_zero, ← EReal.coe_sub, Ideal.exp_coe, zero_sub]; rfl
  rw [e1]
  have e2 : (1 : EReal) + ((Real.exp (-|D.lm j|) : ℝ) : EReal) = ((1 + Real.exp (-|D.lm j|) : ℝ) : EReal) := by
    rw [EReal.coe_add, EReal.coe_one]
  have e3 : ((1 + Real.exp (-|D.lm j|) : ℝ) : EReal) ≠ 1 := by
    rw [← EReal.coe_one, Ne, EReal.coe_eq_coe_iff]; linarith
  rw [e2, if_neg e3, if_neg e3, coe_log (by positivity), ← EReal.coe_one, ← EReal.coe_sub, add_sub_cancel_left, coe_div he.ne', div_self he.ne',
    ← EReal.coe_zero, ← EReal.coe_sub, coe_max, ← EReal.coe_mul, ← EReal.coe_add, mul_one, zero_sub]
  rfl

theorem v38_at (j : Fin 1024) : b.v38 (ix2 0 j) = ((D.sp j : ℝ) : EReal) := by
  unfold v38
  pointwise [k0_pay16]
  exact sp_at H j

theorem v11_at (r : Fin 256) (j : Fin 1024) : b.v11 (ix2 r j) = ((D.r (256 * T + r.val) j : ℝ) : EReal) := by
  unfold v11; pointwise [k0_pay11]; exact H.r r j

theorem v9_at (r : Fin 256) (j : Fin 1024) : b.v9 (ix2 r j) = ((D.xc (256 * T + r.val) j : ℝ) : EReal) := by
  unfold v9; pointwise [k0_pay10]; exact H.xc r j

theorem v14_at (r : Fin 256) (j : Fin 1024) : b.v14 (ix2 r j) = ((D.xc (256 * T + r.val) j : ℝ) : EReal) := by
  unfold v14; pointwise [k0_pay13, k0_pay10]; exact H.xc r j

theorem v13_at (r : Fin 256) (j : Fin 1024) : b.v13 (ix2 r j) = ((D.ig (256 * T + r.val) j : ℝ) : EReal) := by
  unfold v13; pointwise [k0_pay12]; exact H.ig r j

theorem la_at (r : Fin 256) (j : Fin 1024) : k0_pay17 (F := Ideal) b.v11 b.v33 b.v35 0 (ix2 r j) = ((D.la (256 * T + r.val) j : ℝ) : EReal) := by
  pointwise [k0_pay17, k0_pay16]
  rw [sp_at H, v11_at H, bits_m8, ← EReal.coe_mul, ← EReal.coe_mul, mul_right_comm]; rfl

theorem v43_at (r : Fin 256) (j : Fin 1024) : b.v43 (ix2 r j) = ((D.a (256 * T + r.val) j : ℝ) : EReal) := by
  unfold v43
  pointwise [k0_pay18]
  rw [la_at H, Ideal.exp_coe]; rfl

theorem q_at (r : Fin 256) (j : Fin 1024) : k0_pay19 (F := Ideal) b.v11 b.v33 b.v35 0 (ix2 r j) = ((D.q (256 * T + r.val) j : ℝ) : EReal) := by
  pointwise [k0_pay19]
  have h := tanh_ratio (D.la (256 * T + r.val) j)
  rw [la_at H, bits_m2, Ideal.tanh_coe, ← EReal.coe_mul, ← EReal.coe_one, ← EReal.coe_sub, Ideal.div_coe h.1, ← EReal.coe_mul, h.2]; rfl

theorem rq_at (r : Fin 256) (j : Fin 1024) : k0_pay20 (F := Ideal) b.v11 b.v33 b.v35 0 (ix2 r j) = (((D.mult (256 * T + r.val) j)⁻¹ : ℝ) : EReal) := by
  pointwise [k0_pay20]
  rw [q_at H, coe_rsqrt (D.q_pos _ j)]; rfl

theorem v50_at (r : Fin 256) (j : Fin 1024) : b.v50 (ix2 r j) = (((D.mult (256 * T + r.val) j)⁻¹ : ℝ) : EReal) := by
  unfold v50
  pointwise []
  exact rq_at H r j

theorem v55_at (r : Fin 256) (j : Fin 1024) : b.v55 (ix2 r j) = ((D.mult (256 * T + r.val) j : ℝ) : EReal) := by
  unfold v55
  pointwise [k0_pay21]
  have hq := D.q_pos (256 * T + r.val) j
  rw [rq_at H, q_at H, if_pos (by rw [← EReal.coe_zero]; exact EReal.coe_lt_coe_iff.mpr hq), ← EReal.coe_mul]
  have hm := D.mult_pos (256 * T + r.val) j
  have : D.q (256 * T + r.val) j = D.mult (256 * T + r.val) j * D.mult (256 * T + r.val) j := (Real.mul_self_sqrt hq.le).symm
  rw [this, mul_assoc, mul_inv_cancel₀ hm.ne', mul_one]

/-- The recurrence's rows one row earlier. -/
theorem v66_at (r : Fin 256) (j : Fin 1024) : b.v66 (ix2 r j) = ((Data.bk 1 D.h (256 * T + r.val) j : ℝ) : EReal) := by
  unfold v66 v7
  pointwise [k0_pay22, k0_pay9]
  have hT := H.lt
  have far : 0 < r.val → b.x2 (ix2 ⟨(r.val + 256 - 1) % 256, Nat.mod_lt _ (by decide)⟩ j) = ((Data.bk 1 D.h (256 * T + r.val) j : ℝ) : EReal) := fun h => by
    rw [H.h]; unfold Data.bk back
    rw [if_neg (by omega)]; congr 3; dsimp only; omega
  by_cases h8 : r.val < 8
  · rw [dif_pos h8, slt_word _ _ (by omega) (by omega), eq_word _ _ (by omega) (by omega)]
    by_cases h0 : r.val < 1
    · rw [if_pos h0]
      by_cases hz : T = 0
      · rw [if_pos (by rw [H.i0]; omega)]; unfold Data.bk back; rw [if_pos (by omega)]; rfl
      · rw [if_neg (by rw [H.i0]; omega), H.hp hz]; unfold Data.bk back
        rw [if_neg (by omega)]; congr 3; dsimp only; omega
    · rw [if_neg h0]; exact far (by omega)
  · rw [dif_neg h8]
    refine (congrArg (fun q => b.x2 (ix2 q j)) (Fin.ext ?_)).trans (far (by omega))
    dsimp only; omega

/-! ### What enters the adjoint -/

/-- The gate's smooth unit times the result's gradient. -/
theorem g_at (r : Fin 256) (j : Fin 1024) :
    b.v68 (ix2 r j) * (b.v71 (ix2 r j) * (Ideal.ofBits .f32 1056964608#32 + Ideal.ofBits .f32 1056964608#32 * b.v78 (ix2 r j)))
      = ((D.g (256 * T + r.val) j : ℝ) : EReal) := by
  unfold v68 v71 v78
  pointwise [k0_pay23, k0_pay24, k0_pay25]
  rw [H.dy, H.ga, k01_eq, bits_k0, bits_half]
  simp only [← EReal.coe_mul, ← EReal.coe_add, Ideal.tanh_coe]
  unfold Data.g Data.gg gel
  congr 2
  rw [show k0 * (D.ga (256 * T + r.val) j + k1 * (D.ga (256 * T + r.val) j * D.ga (256 * T + r.val) j * D.ga (256 * T + r.val) j))
    = D.ga (256 * T + r.val) j * (k0 + k0 * k1 * (D.ga (256 * T + r.val) j * D.ga (256 * T + r.val) j)) by ring]
  ring

/-- A group's factors: the decay one row later, and one at the tile's last row. -/
def _root_.Cert.GatesMath.Data.al (D : Data) (T : ℕ) (g : Fin 32) (j : Fin 1024) (p : ℕ) : ℝ :=
  if g.val * 8 + p = 255 then 1 else D.a (256 * T + (g.val * 8 + p) + 1) j
def _root_.Cert.GatesMath.Data.be (D : Data) (T : ℕ) (g : Fin 32) (j : Fin 1024) (p : ℕ) : ℝ := D.g (256 * T + (g.val * 8 + p)) j

theorem al_at (g : Fin 32) (p : Fin 8) (j : Fin 1024) : k0_pay26 (F := Ideal) b.v43 (ix3 g p j) = ((D.al T g j p.val : ℝ) : EReal) := by
  pointwise [k0_pay26]
  unfold Data.al
  by_cases h : g.val * 8 + p.val < 248
  · rw [dif_pos h, v43_at H, if_neg (by omega)]
    exact congrArg (fun n => ((D.a n j : ℝ) : EReal)) (by dsimp only; omega)
  · rw [dif_neg h, sge_word _ _ (by omega) (by omega)]
    by_cases h7 : g.val * 8 + p.val = 255
    · rw [if_pos (by omega), if_pos h7]; rfl
    · rw [if_neg (by omega), if_neg h7, v43_at H]
      exact congrArg (fun n => ((D.a n j : ℝ) : EReal)) (by dsimp only; omega)

theorem al1_at (g : Fin 32) (p : Fin 8) (j : Fin 1024) : k0_pay28 (F := Ideal) b.v43 (ix3 g p j) = ((upA 1 (D.al T g j) p.val : ℝ) : EReal) := by
  pointwise [k0_pay28, k0_pay27]
  exact up_a 7 1 rfl (by decide) (fun p => k0_pay26 (F := Ideal) b.v43 (ix3 g p j)) _ (fun p => al_at H g p j) p

theorem v116_at (g : Fin 32) (p : Fin 8) (j : Fin 1024) : b.v116 (ix3 g p j) = ((upA 2 (upA 1 (D.al T g j)) p.val : ℝ) : EReal) := by
  unfold v116
  pointwise [k0_pay31, k0_pay29]
  exact up_a 6 2 rfl (by decide) (fun p => k0_pay28 (F := Ideal) b.v43 (ix3 g p j)) _ (fun p => al1_at H g p j) p

theorem v125_at (g : Fin 32) (p : Fin 8) (j : Fin 1024) : b.v125 (ix3 g p j) = ((upA 4 (upA 2 (upA 1 (D.al T g j))) p.val : ℝ) : EReal) := by
  unfold v125 v117
  pointwise [k0_pay36, k0_pay33, k0_pay32]
  exact up_a 4 4 rfl (by decide) (fun p => b.v116 (ix3 g p j)) _ (fun p => v116_at H g p j) p

theorem v114_at (g : Fin 32) (p : Fin 8) (j : Fin 1024) :
    b.v114 (ix3 g p j) = ((upB 2 (upA 1 (D.al T g j)) (upB 1 (D.al T g j) (D.be T g j)) p.val : ℝ) : EReal) := by
  unfold v114
  pointwise [k0_pay30, k0_pay29, k0_pay27]
  simp only [g_at H]
  exact up_b 6 2 rfl (by decide) (fun p => k0_pay28 (F := Ideal) b.v43 (ix3 g p j)) _ _ _ (fun p => al1_at H g p j)
    (fun p => up_b 7 1 rfl (by decide) (fun p => k0_pay26 (F := Ideal) b.v43 (ix3 g p j)) (fun p => ((D.be T g j p.val : ℝ) : EReal)) _ _
      (fun p => al_at H g p j) (fun p => rfl) p) p

theorem v123_at (g : Fin 32) (p : Fin 8) (j : Fin 1024) :
    b.v123 (ix3 g p j) = ((upB 4 (upA 2 (upA 1 (D.al T g j))) (upB 2 (upA 1 (D.al T g j)) (upB 1 (D.al T g j) (D.be T g j))) p.val : ℝ) : EReal) := by
  unfold v123 v122
  pointwise [k0_pay35, k0_pay33, k0_pay34]
  exact up_b 4 4 rfl (by decide) (fun p => b.v116 (ix3 g p j)) (fun p => b.v114 (ix3 g p j)) _ _ (fun p => v116_at H g p j) (fun p => v114_at H g p j) p

/-! ### The adjoint, group by group -/

omit H in
theorem step (p : Fin 8) (j : Fin 1024) : ∀ g : Fin 32,
    b.grp g (ix2 p j) = b.v125 (ix3 g p j) * (if h : g.val < 31 then b.grp ⟨g.val + 1, by omega⟩ (ix2 0 j) else b.cr (ix2 0 j)) + b.v123 (ix3 g p j)
  | 0 => by show b.v380 (ix2 p j) = b.v125 (ix3 0 p j) * b.v372 (ix2 0 j) + b.v123 (ix3 0 p j); unfold v380 ; pointwise [k0_pay76]; rfl
  | 1 => by show b.v372 (ix2 p j) = b.v125 (ix3 1 p j) * b.v364 (ix2 0 j) + b.v123 (ix3 1 p j); unfold v372 ; pointwise [k0_pay75]; rfl
  | 2 => by show b.v364 (ix2 p j) = b.v125 (ix3 2 p j) * b.v356 (ix2 0 j) + b.v123 (ix3 2 p j); unfold v364 v361 v362; pointwise [k0_pay72, k0_pay73, k0_pay74]; rfl
  | 3 => by show b.v356 (ix2 p j) = b.v125 (ix3 3 p j) * b.v348 (ix2 0 j) + b.v123 (ix3 3 p j); unfold v356 ; pointwise [k0_pay71]; rfl
  | 4 => by show b.v348 (ix2 p j) = b.v125 (ix3 4 p j) * b.v340 (ix2 0 j) + b.v123 (ix3 4 p j); unfold v348 ; pointwise [k0_pay70]; rfl
  | 5 => by show b.v340 (ix2 p j) = b.v125 (ix3 5 p j) * b.v332 (ix2 0 j) + b.v123 (ix3 5 p j); unfold v340 ; pointwise [k0_pay69]; rfl
  | 6 => by show b.v332 (ix2 p j) = b.v125 (ix3 6 p j) * b.v324 (ix2 0 j) + b.v123 (ix3 6 p j); unfold v332 ; pointwise [k0_pay68]; rfl
  | 7 => by show b.v324 (ix2 p j) = b.v125 (ix3 7 p j) * b.v316 (ix2 0 j) + b.v123 (ix3 7 p j); unfold v324 ; pointwise [k0_pay67]; rfl
  | 8 => by show b.v316 (ix2 p j) = b.v125 (ix3 8 p j) * b.v308 (ix2 0 j) + b.v123 (ix3 8 p j); unfold v316 ; pointwise [k0_pay66]; rfl
  | 9 => by show b.v308 (ix2 p j) = b.v125 (ix3 9 p j) * b.v300 (ix2 0 j) + b.v123 (ix3 9 p j); unfold v308 v301 v302; pointwise [k0_pay63, k0_pay64, k0_pay65]; rfl
  | 10 => by show b.v300 (ix2 p j) = b.v125 (ix3 10 p j) * b.v292 (ix2 0 j) + b.v123 (ix3 10 p j); unfold v300 ; pointwise [k0_pay62]; rfl
  | 11 => by show b.v292 (ix2 p j) = b.v125 (ix3 11 p j) * b.v284 (ix2 0 j) + b.v123 (ix3 11 p j); unfold v292 ; pointwise [k0_pay61]; rfl
  | 12 => by show b.v284 (ix2 p j) = b.v125 (ix3 12 p j) * b.v276 (ix2 0 j) + b.v123 (ix3 12 p j); unfold v284 ; pointwise [k0_pay60]; rfl
  | 13 => by show b.v276 (ix2 p j) = b.v125 (ix3 13 p j) * b.v268 (ix2 0 j) + b.v123 (ix3 13 p j); unfold v276 ; pointwise [k0_pay59]; rfl
  | 14 => by show b.v268 (ix2 p j) = b.v125 (ix3 14 p j) * b.v260 (ix2 0 j) + b.v123 (ix3 14 p j); unfold v268 ; pointwise [k0_pay58]; rfl
  | 15 => by show b.v260 (ix2 p j) = b.v125 (ix3 15 p j) * b.v252 (ix2 0 j) + b.v123 (ix3 15 p j); unfold v260 ; pointwise [k0_pay57]; rfl
  | 16 => by show b.v252 (ix2 p j) = b.v125 (ix3 16 p j) * b.v244 (ix2 0 j) + b.v123 (ix3 16 p j); unfold v252 ; pointwise [k0_pay56]; rfl
  | 17 => by show b.v244 (ix2 p j) = b.v125 (ix3 17 p j) * b.v236 (ix2 0 j) + b.v123 (ix3 17 p j); unfold v244 v241 v242; pointwise [k0_pay53, k0_pay54, k0_pay55]; rfl
  | 18 => by show b.v236 (ix2 p j) = b.v125 (ix3 18 p j) * b.v228 (ix2 0 j) + b.v123 (ix3 18 p j); unfold v236 ; pointwise [k0_pay52]; rfl
  | 19 => by show b.v228 (ix2 p j) = b.v125 (ix3 19 p j) * b.v220 (ix2 0 j) + b.v123 (ix3 19 p j); unfold v228 ; pointwise [k0_pay51]; rfl
  | 20 => by show b.v220 (ix2 p j) = b.v125 (ix3 20 p j) * b.v212 (ix2 0 j) + b.v123 (ix3 20 p j); unfold v220 ; pointwise [k0_pay50]; rfl
  | 21 => by show b.v212 (ix2 p j) = b.v125 (ix3 21 p j) * b.v204 (ix2 0 j) + b.v123 (ix3 21 p j); unfold v212 ; pointwise [k0_pay49]; rfl
  | 22 => by show b.v204 (ix2 p j) = b.v125 (ix3 22 p j) * b.v196 (ix2 0 j) + b.v123 (ix3 22 p j); unfold v204 ; pointwise [k0_pay48]; rfl
  | 23 => by show b.v196 (ix2 p j) = b.v125 (ix3 23 p j) * b.v188 (ix2 0 j) + b.v123 (ix3 23 p j); unfold v196 ; pointwise [k0_pay47]; rfl
  | 24 => by show b.v188 (ix2 p j) = b.v125 (ix3 24 p j) * b.v180 (ix2 0 j) + b.v123 (ix3 24 p j); unfold v188 v181 v182; pointwise [k0_pay44, k0_pay45, k0_pay46]; rfl
  | 25 => by show b.v180 (ix2 p j) = b.v125 (ix3 25 p j) * b.v172 (ix2 0 j) + b.v123 (ix3 25 p j); unfold v180 ; pointwise [k0_pay43]; rfl
  | 26 => by show b.v172 (ix2 p j) = b.v125 (ix3 26 p j) * b.v164 (ix2 0 j) + b.v123 (ix3 26 p j); unfold v172 ; pointwise [k0_pay42]; rfl
  | 27 => by show b.v164 (ix2 p j) = b.v125 (ix3 27 p j) * b.v156 (ix2 0 j) + b.v123 (ix3 27 p j); unfold v164 ; pointwise [k0_pay41]; rfl
  | 28 => by show b.v156 (ix2 p j) = b.v125 (ix3 28 p j) * b.v148 (ix2 0 j) + b.v123 (ix3 28 p j); unfold v156 ; pointwise [k0_pay40]; rfl
  | 29 => by show b.v148 (ix2 p j) = b.v125 (ix3 29 p j) * b.v140 (ix2 0 j) + b.v123 (ix3 29 p j); unfold v148 ; pointwise [k0_pay39]; rfl
  | 30 => by show b.v140 (ix2 p j) = b.v125 (ix3 30 p j) * b.v132 (ix2 0 j) + b.v123 (ix3 30 p j); unfold v140 ; pointwise [k0_pay38]; rfl
  | 31 => by show b.v132 (ix2 p j) = b.v125 (ix3 31 p j) * b.cr (ix2 0 j) + b.v123 (ix3 31 p j); unfold v132 ; pointwise [k0_pay37]; rfl
  | ⟨n + 32, h⟩ => absurd h (by omega)

/-- What enters a group. -/
def _root_.Cert.GatesMath.Data.ent (D : Data) (T : ℕ) (g : Fin 32) (j : Fin 1024) : ℝ :=
  if g.val < 31 then D.lam (256 * T + ((g.val + 1) * 8)) j else D.cin T j

theorem chain (g : Fin 32) (p : Fin 8) (j : Fin 1024) :
    upA 4 (upA 2 (upA 1 (D.al T g j))) p.val * D.ent T g j + upB 4 (upA 2 (upA 1 (D.al T g j))) (upB 2 (upA 1 (D.al T g j)) (upB 1 (D.al T g j) (D.be T g j))) p.val
      = D.lam (256 * T + (g.val * 8 + p.val)) j := by
  have hT := H.lt
  have key := up_eq (D.al T g j) (D.be T g j) (fun p => if p < 8 then D.lam (256 * T + (g.val * 8 + p)) j else D.ent T g j) (fun q hq => by
    have hl : D.lam (256 * T + (g.val * 8 + q)) j = _ := LruMath.lam_eq (fun u => D.a u j) (fun u => D.g u j) (256 * T + (g.val * 8 + q))
    simp only [if_pos hq]
    rw [hl]
    unfold Data.be Data.al
    congr 1
    by_cases h5 : g.val * 8 + q = 255
    · rw [if_pos h5, if_neg (by omega : ¬q + 1 < 8), one_mul]
      unfold Data.ent Data.cin
      rw [if_neg (by omega : ¬g.val < 31), h5]; rfl
    · rw [if_neg h5, if_pos (by omega : 256 * T + (g.val * 8 + q) + 1 < 4096)]
      by_cases h7 : q + 1 < 8
      · rw [if_pos h7]; rfl
      · rw [if_neg h7]; unfold Data.ent
        rw [if_pos (by omega), show 256 * T + (g.val + 1) * 8 = 256 * T + (g.val * 8 + q) + 1 by omega]; rfl) p.val p.isLt
  simpa using key

theorem grp_at (n : ℕ) : ∀ (g : Fin 32) (p : Fin 8) (j : Fin 1024), g.val + n = 31 → b.grp g (ix2 p j) = ((D.lam (256 * T + (g.val * 8 + p.val)) j : ℝ) : EReal) := by
  induction n with
  | zero =>
    intro g p j hg
    rw [step, dif_neg (by omega), v125_at H, v123_at H, H.cr, ← chain H g p j, EReal.coe_add, EReal.coe_mul]
    unfold Data.ent; rw [if_neg (by omega)]
  | succ n ih =>
    intro g p j hg
    rw [step, dif_pos (by omega), v125_at H, v123_at H, ih ⟨g.val + 1, by omega⟩ 0 j (by dsimp only; omega), ← chain H g p j, EReal.coe_add, EReal.coe_mul]
    unfold Data.ent; rw [if_pos (by omega)]; rfl

/-- The adjoint of the tile's rows. -/
theorem lam_at (r : Fin 256) (j : Fin 1024) : b.v382 (ix2 r j) = ((D.lam (256 * T + r.val) j : ℝ) : EReal) := by
  have hr := r.isLt
  have e : b.v382 (ix2 r j) = b.grp ⟨r.val / 8, by omega⟩ (ix2 ⟨r.val % 8, by omega⟩ j) :=
    concatenate_ofFn_apply (t := S256x1024) (s₁ := S8x1024) 0 b.grp concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S256x1024_d0 rfl 8 rfl (ix2 r j) ⟨r.val / 8, by omega⟩ rfl
      (ix2 ⟨r.val % 8, by omega⟩ j) rfl (fun a ha => by
        have : a = 1 := by
          rcases a with ⟨a, h⟩
          have h2 : a < 2 := h
          rcases Nat.lt_or_ge a 1 with h1 | h1
          · exact absurd (Fin.ext (by simp only [Fin.val_cast]; omega)) ha
          · exact Fin.ext (by show a = 1; omega)
        subst this; rfl)
  rw [e, grp_at H (31 - r.val / 8) _ _ j (by dsimp only; omega)]
  congr 3; dsimp only; omega

/-- The row passed on. -/
theorem car_at (j : Fin 1024) : b.car (ix2 0 j) = ((D.a (256 * T) j * D.lam (256 * T) j : ℝ) : EReal) := by
  have e : b.car (ix2 0 j) = b.v43 (ix2 0 j) * b.grp 0 (ix2 0 j) := by
    unfold car; pointwise [k0_pay78]; rfl
  rw [e, v43_at H, grp_at H 31 0 0 j rfl, EReal.coe_mul]; rfl

/-! ### The gradients -/

theorem v389_at (r : Fin 256) (j : Fin 1024) : b.v389 (ix2 r j) = ((D.dir (256 * T + r.val) j : ℝ) : EReal) := by
  have e : b.v389 (ix2 r j) = b.v382 (ix2 r j) * b.v13 (ix2 r j) * b.v55 (ix2 r j) := by
    unfold v389; pointwise [k0_pay80, k0_pay79]; rfl
  rw [e, lam_at H, v13_at H, v55_at H, ← EReal.coe_mul, ← EReal.coe_mul]; rfl

theorem v396_at (r : Fin 256) (j : Fin 1024) : b.v396 (ix2 r j) = ((D.dla (256 * T + r.val) j * D.r (256 * T + r.val) j : ℝ) : EReal) := by
  have e : b.v396 (ix2 r j) = b.v43 (ix2 r j) * (b.v382 (ix2 r j) * b.v66 (ix2 r j) - b.v382 (ix2 r j) * b.v13 (ix2 r j) * b.v9 (ix2 r j) * b.v43 (ix2 r j) * b.v50 (ix2 r j))
      * b.v11 (ix2 r j) := by
    unfold v396; pointwise [k0_pay81, k0_pay79]; rfl
  rw [e, lam_at H, v13_at H, v43_at H, v66_at H, v9_at H, v50_at H, v11_at H]
  simp only [← EReal.coe_mul, ← EReal.coe_sub]; rfl

theorem dpr_at (r : Fin 256) (j : Fin 1024) : b.v433 (ix2 r j) = ((D.dpr (256 * T + r.val) j : ℝ) : EReal) := by
  unfold v433
  pointwise [k0_pay83, k0_pay87]
  rw [v396_at H, v38_at H, v11_at H, bits_m8, ← EReal.coe_one]
  simp only [← EReal.coe_mul, ← EReal.coe_sub]; rfl

theorem dpi_at (r : Fin 256) (j : Fin 1024) : b.v434 (ix2 r j) = ((D.dpi (256 * T + r.val) j : ℝ) : EReal) := by
  unfold v434
  pointwise [k0_pay84, k0_pay88]
  rw [v389_at H, v9_at H, v13_at H, ← EReal.coe_one]
  simp only [← EReal.coe_mul, ← EReal.coe_sub]; rfl

theorem dbr_at (p : FVec Ideal S1x1024 .f32) (j : Fin 1024) : b.dbr p (ix2 0 j) = p (ix2 0 j) + ((∑ x : Fin 256, D.dpr (256 * T + x.val) j : ℝ) : EReal) := by
  have e : b.dbr p (ix2 0 j) = p (ix2 0 j) + ∑ x : Fin 256, b.v433 (ix2 x j) := by
    unfold dbr v433; pointwise [k0_pay85, k0_pay83, k0_pay87]
  rw [e]; simp only [dpr_at H, coe_sum]

theorem dbi_at (p : FVec Ideal S1x1024 .f32) (j : Fin 1024) : b.dbi p (ix2 0 j) = p (ix2 0 j) + ((∑ x : Fin 256, D.dpi (256 * T + x.val) j : ℝ) : EReal) := by
  have e : b.dbi p (ix2 0 j) = p (ix2 0 j) + ∑ x : Fin 256, b.v434 (ix2 x j) := by
    unfold dbi v434; pointwise [k0_pay86, k0_pay84, k0_pay88]
  rw [e]; simp only [dpi_at H, coe_sum]

theorem dlm_at (p : FVec Ideal S1x1024 .f32) (j : Fin 1024) :
    b.dlm p (ix2 0 j) = p (ix2 0 j) + ((∑ x : Fin 256, D.dla (256 * T + x.val) j * D.r (256 * T + x.val) j * (8 * sgm (-D.lm j)) : ℝ) : EReal) := by
  have e : b.dlm p (ix2 0 j) = p (ix2 0 j) + (∑ x : Fin 256, b.v396 (ix2 x j)) * (Ideal.ofBits .f32 1090519040#32 * Ideal.logistic (0 - b.x9 (ix2 0 j))) := by
    unfold dlm v396; pointwise [k0_pay82]
  rw [e, H.lm, bits_8, ← EReal.coe_zero, ← EReal.coe_sub, zero_sub, Ideal.logistic_coe, ← EReal.coe_mul]
  simp only [v396_at H, coe_sum, ← EReal.coe_mul, Finset.sum_mul]; rfl

/-- The gradient of the convolution's rows, the two gates' products with the head the column belongs to. -/
theorem head_at (r : Fin 256) (j : Fin 1024) (h : Fin 4) (hj : hd j = h) (f : Fin 256 → Fin 1024) (hf : ∀ x, f x = col h x) (y : Fin 256) (hy : y = lo j) :
    b.v389 (ix2 r j) + (∑ x, b.v433 (ix2 r (f x)) * b.x7 (ix3 h y x) + ∑ x, b.v434 (ix2 r (f x)) * b.x8 (ix3 h y x))
      = ((D.dxc (256 * T + r.val) j : ℝ) : EReal) := by
  subst hj hy
  simp only [hf, v389_at H, dpr_at H, dpi_at H, H.wr, H.wi, ← EReal.coe_mul, coe_sum, ← EReal.coe_add, ← add_assoc]; rfl

omit H in
theorem w_at (w : Vec Ideal S4x256x256 .bf16) (h : Fin 4) (inb : ∀ a, (![h.val, 0, 0] : Fin 3 → ℕ) a + S1x256x256.size a ≤ S4x256x256.size a) (i k : Fin 256) :
    View.ld w (Rect.unit (s := S4x256x256) ![h.val, 0, 0] S1x256x256.size inb) (ix3 0 i k) = w (ix3 h i k) := by
  refine congrArg w ?_
  blk_ext
  · show h.val + 1 * 0 = h.val; omega
  · show 0 + 1 * i.val = i.val; omega
  · show 0 + 1 * k.val = k.val; omega

omit H in
theorem wr0_at (i k : Fin 256) : b.wr0 (ix3 0 i k) = b.x7 (ix3 0 i k) := w_at b.x7 0 _ i k

omit H in
theorem wi0_at (i k : Fin 256) : b.wi0 (ix3 0 i k) = b.x8 (ix3 0 i k) := w_at b.x8 0 _ i k

omit H in
theorem wr1_at (i k : Fin 256) : b.wr1 (ix3 0 i k) = b.x7 (ix3 1 i k) := w_at b.x7 1 _ i k

omit H in
theorem wi1_at (i k : Fin 256) : b.wi1 (ix3 0 i k) = b.x8 (ix3 1 i k) := w_at b.x8 1 _ i k

omit H in
theorem wr2_at (i k : Fin 256) : b.wr2 (ix3 0 i k) = b.x7 (ix3 2 i k) := w_at b.x7 2 _ i k

omit H in
theorem wi2_at (i k : Fin 256) : b.wi2 (ix3 0 i k) = b.x8 (ix3 2 i k) := w_at b.x8 2 _ i k

omit H in
theorem wr3_at (i k : Fin 256) : b.wr3 (ix3 0 i k) = b.x7 (ix3 3 i k) := w_at b.x7 3 _ i k

omit H in
theorem wi3_at (i k : Fin 256) : b.wi3 (ix3 0 i k) = b.x8 (ix3 3 i k) := w_at b.x8 3 _ i k

theorem dxc_at (r : Fin 256) (j : Fin 1024) : b.dxc (ix2 r j) = ((D.dxc (256 * T + r.val) j : ℝ) : EReal) := by
  have hj := j.isLt
  have e0 : k0_pay87 (F := Ideal) b.v11 b.v38 b.v396 = b.v433 := rfl
  have e1 : k0_pay88 (F := Ideal) b.v9 b.v13 b.v389 = b.v434 := rfl
  unfold dxc v443 v470 v497 v524
  pointwise [k0_pay2, k0_pay89, k0_pay92, k0_pay96, k0_pay99]
  rw [e0, e1]
  simp only [wr0_at, wr1_at, wr2_at, wr3_at, wi0_at, wi1_at, wi2_at, wi3_at]
  by_cases h0 : j.val < 256
  · rw [dif_pos h0]
    exact head_at H r j 0 (Fin.ext (by simp only [hd]; omega)) (fun x => ⟨x.val, by omega⟩) (fun x => Fin.ext (by simp [col])) ⟨j.val, h0⟩ (Fin.ext (by simp only [lo]; omega))
  rw [dif_neg h0]
  by_cases h1 : j.val - 256 < 256
  · rw [dif_pos h1]
    exact head_at H r j 1 (Fin.ext (by simp only [hd]; omega)) (fun x => ⟨256 + x.val, by omega⟩) (fun x => Fin.ext (by simp [col])) ⟨j.val - 256, h1⟩ (Fin.ext (by simp only [lo]; omega))
  rw [dif_neg h1]
  by_cases h2 : j.val - 256 - 256 < 256
  · rw [dif_pos h2]
    exact head_at H r j 2 (Fin.ext (by simp only [hd]; omega)) (fun x => ⟨512 + x.val, by omega⟩) (fun x => Fin.ext (by simp [col])) ⟨j.val - 256 - 256, h2⟩ (Fin.ext (by simp only [lo]; omega))
  rw [dif_neg h2]
  exact head_at H r j 3 (Fin.ext (by simp only [hd]; omega)) (fun x => ⟨768 + x.val, by omega⟩) (fun x => Fin.ext (by simp [col])) ⟨j.val - 256 - 256 - 256, by omega⟩
    (Fin.ext (by simp only [lo]; omega))

end Tile

end Cert.BwdGatesIdeal.Hand

end
-- ==== Proof.GatesRef.lean ====
/- The unit's reference, read line by line: its values and its gradients are the real functions of GatesMath. -/
module

public import proofs.«01_k».proof.Proof.GatesMath
public import proofs.«01_k».proof.Proof.Gen.BwdGatesRefIdeal.Read
public import Idealize.ShloMosaic.Lib.Pointwise

@[expose] public section

set_option maxRecDepth 16384

noncomputable section

namespace Cert.BwdGatesRefIdeal.Hand

open Cert.BwdGatesRefIdeal Cert.BwdGatesRefIdeal.Read Idealize.ShloMosaic Idealize.ShloMosaic.TcCoe Idealize.SL.Sem
open Cert.LruMath Cert.GatesMath

/-- The arguments hold real numbers. -/
structure Args (x0 : FVec Ideal S1x4096x6144 .f32) (x1 : FVec Ideal S1x4x1024 .f32) (x2 : FVec Ideal S1x1024 .f32)
    (x3 : FVec Ideal S1x4x256x256 .f32) (x4 : FVec Ideal S1x4x256 .f32) (x5 : FVec Ideal S1x4x256x256 .f32)
    (x6 : FVec Ideal S1x4x256 .f32) (x7 : FVec Ideal S1x1024 .f32) (x8 : FVec Ideal S1x4096x1024 .f32) (D : Data) : Prop where
  xa : ∀ (t : Fin 4096) (j : Fin 1024), x0 (ix3 0 t ⟨j.val, by omega⟩) = ((D.xa t j : ℝ) : EReal)
  ga : ∀ (t : Fin 4096) (j : Fin 1024), x0 (ix3 0 t ⟨1024 + j.val, by omega⟩) = ((D.ga t j : ℝ) : EReal)
  cw : ∀ (k : Fin 4) (j : Fin 1024), x1 (ix3 0 k j) = ((D.cw k j : ℝ) : EReal)
  cb : ∀ j : Fin 1024, x2 (ix2 0 j) = ((D.cb j : ℝ) : EReal)
  wr : ∀ (h : Fin 4) (i k : Fin 256), x3 (ix4 0 h i k) = ((D.wr h i k : ℝ) : EReal)
  br : ∀ (h : Fin 4) (k : Fin 256), x4 (ix3 0 h k) = ((D.br h k : ℝ) : EReal)
  wi : ∀ (h : Fin 4) (i k : Fin 256), x5 (ix4 0 h i k) = ((D.wi h i k : ℝ) : EReal)
  bi : ∀ (h : Fin 4) (k : Fin 256), x6 (ix3 0 h k) = ((D.bi h k : ℝ) : EReal)
  lm : ∀ j : Fin 1024, x7 (ix2 0 j) = ((D.lm j : ℝ) : EReal)
  dy : ∀ (t : Fin 4096) (j : Fin 1024), x8 (ix3 0 t j) = ((D.dy t j : ℝ) : EReal)

/-- A row array holds real rows. -/
def Is (v : FVec Ideal S1x4096x1024 .f32) (f : ℕ → Fin 1024 → ℝ) : Prop :=
  ∀ (t : Fin 4096) (j : Fin 1024), v (ix3 0 t j) = ((f t j : ℝ) : EReal)

/-- The rows `s` earlier, zeros before the first. -/
theorem back_at {X : FVec Ideal S1x4096x1024 .f32} {f : ℕ → Fin 1024 → ℝ} (h : Is X f) (s : ℕ) (t : Fin 4096) (j : Fin 1024)
    (p : ¬ (t : ℕ) < s → (t : ℕ) - s < 4096) :
    (if h : (t : ℕ) < s then (0 : EReal) else X (ix3 0 ⟨(t : ℕ) - s, p h⟩ j)) = ((Data.bk s f t j : ℝ) : EReal) := by
  simp only [h _ _, Data.bk, back, dite_eq_ite, ite_coe]

/-- A product's rows `s` later, zeros after the last. -/
theorem fwd_at {X Y : FVec Ideal S1x4096x1024 .f32} {f g : ℕ → Fin 1024 → ℝ} (hX : Is X f) (hY : Is Y g) (s n : ℕ) (hn : s + n = 4096)
    (t : Fin 4096) (j : Fin 1024) (p : (t : ℕ) < n → s + (t : ℕ) < 4096) :
    (if h : (t : ℕ) < n then X (ix3 0 ⟨s + (t : ℕ), p h⟩ j) * Y (ix3 0 ⟨s + (t : ℕ), p h⟩ j) else (0 : EReal))
      = ((fwd s (fun u => f u j * g u j) t : ℝ) : EReal) := by
  simp only [hX _ _, hY _ _, ← EReal.coe_mul, dite_eq_ite, ite_coe', fwd]
  congr 1
  by_cases h : (t : ℕ) < n
  · rw [if_pos h, if_pos (by omega), Nat.add_comm]
  · rw [if_neg h, if_neg (by omega)]

variable {x0 : FVec Ideal S1x4096x6144 .f32} {x1 : FVec Ideal S1x4x1024 .f32} {x2 : FVec Ideal S1x1024 .f32}
  {x3 : FVec Ideal S1x4x256x256 .f32} {x4 : FVec Ideal S1x4x256 .f32} {x5 : FVec Ideal S1x4x256x256 .f32}
  {x6 : FVec Ideal S1x4x256 .f32} {x7 : FVec Ideal S1x1024 .f32} {x8 : FVec Ideal S1x4096x1024 .f32} {D : Data}
  (H : Args x0 x1 x2 x3 x4 x5 x6 x7 x8 D)
include H

theorem xc_is : Is (val_main_v34 (F := Ideal) x0 x1 x2) D.xc := fun t j => by
  pointwise [val_main_v34, val_main_v27, val_main_v20, val_main_v13, val_main_v12, val_main_v11, val_main_v2, val_main_v10, val_main_v5, val_main_v4, val_main_v3, val_main_cst, val_main_v0, val_main_v9, val_main_v8, val_main_v7, val_main_v6, val_main_v1, val_main_v19, val_main_v14, val_main_v18, val_main_v17, val_main_v16, val_main_v15, val_main_v26, val_main_v21, val_main_v25, val_main_v24, val_main_v23, val_main_v22, val_main_v33, val_main_v28, val_main_v32, val_main_v31, val_main_v30, val_main_v29]
  simp only [H.xa, H.cw, H.cb, dite_eq_ite, ite_coe, ← EReal.coe_add, ← EReal.coe_mul]
  rw [pad_at D.xa 2 t (by decide), pad_at D.xa 1 t (by decide), show (if (t : ℕ) < 3 then (0 : ℝ) else D.xa (t - 3) j) = _ from
    (by rw [Nat.zero_add] : _ = if 0 + (t : ℕ) < 3 then (0 : ℝ) else D.xa (0 + t - 3) j).trans (pad_at D.xa 0 t (by decide) j)]
  rfl

/-- A gate's values by heads. -/
theorem r4_at (t : Fin 4096) (h : Fin 4) (x : Fin 256) : (val_main_v52 (F := Ideal) x0 x1 x2 x3 x4) (ix4 0 t h x) = ((D.r t (col h x) : ℝ) : EReal) := by
  pointwise [val_main_v52, val_main_v51, val_main_cst_1, val_main_v50, val_main_v49, val_main_cst_0, val_main_v48, val_main_v47, val_main_v46, val_main_v43, val_main_v42, val_main_v36, val_main_v41, val_main_v45, val_main_v44, val_main_v37]
  simp only [H.wr, H.br, xc_is H _ _, ← EReal.coe_mul, coe_sum, ← EReal.coe_add, gate_at]
  simp only [Data.r, Data.pr, hd_col, lo_col]

/-- A gate's values by heads. -/
theorem ig4_at (t : Fin 4096) (h : Fin 4) (x : Fin 256) : (val_main_v67 (F := Ideal) x0 x1 x2 x5 x6) (ix4 0 t h x) = ((D.ig t (col h x) : ℝ) : EReal) := by
  pointwise [val_main_v67, val_main_v66, val_main_cst_4, val_main_v65, val_main_v64, val_main_cst_3, val_main_v63, val_main_v62, val_main_v61, val_main_v58, val_main_v57, val_main_v38, val_main_v41, val_main_v60, val_main_v59, val_main_v39]
  simp only [H.wi, H.bi, xc_is H _ _, ← EReal.coe_mul, coe_sum, ← EReal.coe_add, gate_at]
  simp only [Data.ig, Data.pi, hd_col, lo_col]

theorem r_is : Is (val_main_v56 (F := Ideal) x0 x1 x2 x3 x4) D.r := fun t j => by
  pointwise [val_main_v56]
  exact (r4_at H t _ _).trans (by rw [col_hd_lo])

theorem ig_is : Is (val_main_v71 (F := Ideal) x0 x1 x2 x5 x6) D.ig := fun t j => by
  pointwise [val_main_v71]
  exact (ig4_at H t _ _).trans (by rw [col_hd_lo])

theorem dr4_at (t : Fin 4096) (h : Fin 4) (x : Fin 256) : (val_main_v55 (F := Ideal) x0 x1 x2 x3 x4) (ix4 0 t h x) = ((D.r t (col h x) * (1 - D.r t (col h x)) : ℝ) : EReal) := by
  pointwise [val_main_v55, val_main_v54, val_main_v53, val_main_cst_2]
  rw [r4_at H, ← EReal.coe_one, ← EReal.coe_sub, ← EReal.coe_mul]

theorem dig4_at (t : Fin 4096) (h : Fin 4) (x : Fin 256) : (val_main_v70 (F := Ideal) x0 x1 x2 x5 x6) (ix4 0 t h x) = ((D.ig t (col h x) * (1 - D.ig t (col h x)) : ℝ) : EReal) := by
  pointwise [val_main_v70, val_main_v69, val_main_v68, val_main_cst_5]
  rw [ig4_at H, ← EReal.coe_one, ← EReal.coe_sub, ← EReal.coe_mul]

/-- The rate: `log (1 + exp (-x))`. -/
theorem sp_at (j : Fin 1024) : (val_main_v75_0 (F := Ideal) x7) (ix1 j) = ((D.sp j : ℝ) : EReal) := by
  pointwise [val_main_v75_0, val_main_call0_v4, val_main_call0_v3, val_main_v74, val_main_v40, val_main_call0_v2, val_main_call0_cst, val_main_call0_v6, val_main_call0_v5, val_main_call0_v11, val_main_call0_v1, val_main_call0_v0, val_main_call0_v10, val_main_call0_v9, val_main_call0_v8, val_main_call0_v7]
  simp only [H.lm, ne_eq, not_true_eq_false, if_false]
  exact coe_spn _

/-- The rate's derivative. -/
theorem dsp_at (j : Fin 1024) : (val_main_v75_1 (F := Ideal) x7) (ix1 j) = ((sgm (-D.lm j) : ℝ) : EReal) := by
  pointwise [val_main_v75_1, val_main_call0_v21, val_main_call0_v16, val_main_call0_v14, val_main_v74, val_main_v40, val_main_call0_v13, val_main_call0_cst_0, val_main_call0_v15, val_main_call0_cst_1, val_main_call0_v20, val_main_call0_v18, val_main_call0_v17, val_main_call0_cst_2, val_main_call0_v19, val_main_call0_cst_3]
  simp only [H.lm, sp_at H, bits_inf]
  rw [← EReal.coe_neg, if_neg (EReal.coe_ne_top _), if_neg (EReal.coe_ne_top _), ← EReal.coe_sub, Ideal.exp_coe]
  exact congrArg _ (exp_sub_spn _)

theorem m8r_is : Is (val_main_v73 (F := Ideal) x0 x1 x2 x3 x4) (fun t j => -8 * D.r t j) := fun t j => by
  pointwise [val_main_v73, val_main_v72, val_main_cst_6]
  rw [r_is H, bits_m8, ← EReal.coe_mul]

theorem la_is : Is (val_main_v78 (F := Ideal) x0 x1 x2 x3 x4 x7) D.la := fun t j => by
  pointwise [val_main_v78, val_main_v77, val_main_v76]
  rw [m8r_is H, sp_at H, ← EReal.coe_mul]; rfl

theorem a_is : Is (val_main_v79 (F := Ideal) x0 x1 x2 x3 x4 x7) D.a := fun t j => by
  pointwise [val_main_v79]
  rw [la_is H, Ideal.exp_coe]; rfl

theorem e2_is : Is (val_main_v83 (F := Ideal) x0 x1 x2 x3 x4 x7) (fun t j => Real.exp (2 * D.la t j)) := fun t j => by
  pointwise [val_main_v83, val_main_v81, val_main_v80, val_main_cst_7]
  rw [la_is H, bits_two, ← EReal.coe_mul, Ideal.exp_coe]

theorem mult_is : Is (val_main_v85 (F := Ideal) x0 x1 x2 x3 x4 x7) D.mult := fun t j => by
  pointwise [val_main_v85, val_main_v84, val_main_v82, val_main_v81, val_main_v80, val_main_cst_7]
  rw [la_is H, bits_two, ← EReal.coe_mul]
  exact coe_mult (D.q_pos t j)

theorem hm_is : Is (val_main_v87 (F := Ideal) x0 x1 x2 x3 x4 x7) (fun t j => 1 / 2 / D.mult t j) := fun t j => by
  pointwise [val_main_v87, val_main_v86, val_main_cst_8]
  rw [mult_is H, bits_half, coe_div (D.mult_pos t j).ne']

theorem xi_is : Is (val_main_v88 (F := Ideal) x0 x1 x2 x5 x6) (fun t j => D.xc t j * D.ig t j) := fun t j => by
  pointwise [val_main_v88]
  rw [xc_is H, ig_is H, ← EReal.coe_mul]

theorem bx_is : Is (val_main_v89 (F := Ideal) x0 x1 x2 x3 x4 x5 x6 x7) D.bx := fun t j => by
  pointwise [val_main_v89]
  rw [xi_is H, mult_is H, ← EReal.coe_mul]; rfl

/-- The gate's smooth unit times the result's gradient. -/
theorem g_is : Is (val_main_v260 (F := Ideal) x0 x8) D.g := fun t j => by
  pointwise [val_main_v260, val_main_v258, val_main_v35, val_main_v257, val_main_v256, val_main_cst_60, val_main_v255, val_main_v254, val_main_cst_59, val_main_v253, val_main_v252, val_main_v251, val_main_cst_58, val_main_v250, val_main_v249, val_main_v248, val_main_cst_57, val_main_v247, val_main_v246]
  simp only [H.ga, H.dy, bits_k0, bits_k1, bits_half]
  simp only [← EReal.coe_mul, ← EReal.coe_add, Ideal.tanh_coe, ← EReal.coe_one]
  rfl

/-! ### The scan by doubling -/

theorem A0 : Is (val_main_v79 (F := Ideal) x0 x1 x2 x3 x4 x7) (fun t j => A (fun u => D.a u j) 0 t) := a_is H

theorem Ab0 : Is (val_main_v93 (F := Ideal) x0 x1 x2 x3 x4 x7) (Data.bk 1 (fun t j => A (fun u => D.a u j) 0 t)) := fun t j => by
  pointwise [val_main_v93, val_main_v91, val_main_cst_9, val_main_v92]
  exact back_at (A0 H) 1 t j _

theorem A1 : Is (val_main_v95 (F := Ideal) x0 x1 x2 x3 x4 x7) (fun t j => A (fun u => D.a u j) 1 t) := fun t j => by
  pointwise [val_main_v95]
  rw [A0 H, Ab0 H, ← EReal.coe_mul]; rfl

theorem Ab1 : Is (val_main_v106 (F := Ideal) x0 x1 x2 x3 x4 x7) (Data.bk 2 (fun t j => A (fun u => D.a u j) 1 t)) := fun t j => by
  pointwise [val_main_v106, val_main_v104, val_main_cst_13, val_main_v105]
  exact back_at (A1 H) 2 t j _

theorem A2 : Is (val_main_v108 (F := Ideal) x0 x1 x2 x3 x4 x7) (fun t j => A (fun u => D.a u j) 2 t) := fun t j => by
  pointwise [val_main_v108]
  rw [A1 H, Ab1 H, ← EReal.coe_mul]; rfl

theorem Ab2 : Is (val_main_v119 (F := Ideal) x0 x1 x2 x3 x4 x7) (Data.bk 4 (fun t j => A (fun u => D.a u j) 2 t)) := fun t j => by
  pointwise [val_main_v119, val_main_v117, val_main_cst_17, val_main_v118]
  exact back_at (A2 H) 4 t j _

theorem A3 : Is (val_main_v121 (F := Ideal) x0 x1 x2 x3 x4 x7) (fun t j => A (fun u => D.a u j) 3 t) := fun t j => by
  pointwise [val_main_v121]
  rw [A2 H, Ab2 H, ← EReal.coe_mul]; rfl

theorem Ab3 : Is (val_main_v132 (F := Ideal) x0 x1 x2 x3 x4 x7) (Data.bk 8 (fun t j => A (fun u => D.a u j) 3 t)) := fun t j => by
  pointwise [val_main_v132, val_main_v130, val_main_cst_21, val_main_v131]
  exact back_at (A3 H) 8 t j _

theorem A4 : Is (val_main_v134 (F := Ideal) x0 x1 x2 x3 x4 x7) (fun t j => A (fun u => D.a u j) 4 t) := fun t j => by
  pointwise [val_main_v134]
  rw [A3 H, Ab3 H, ← EReal.coe_mul]; rfl

theorem Ab4 : Is (val_main_v145 (F := Ideal) x0 x1 x2 x3 x4 x7) (Data.bk 16 (fun t j => A (fun u => D.a u j) 4 t)) := fun t j => by
  pointwise [val_main_v145, val_main_v143, val_main_cst_25, val_main_v144]
  exact back_at (A4 H) 16 t j _

theorem A5 : Is (val_main_v147 (F := Ideal) x0 x1 x2 x3 x4 x7) (fun t j => A (fun u => D.a u j) 5 t) := fun t j => by
  pointwise [val_main_v147]
  rw [A4 H, Ab4 H, ← EReal.coe_mul]; rfl

theorem Ab5 : Is (val_main_v158 (F := Ideal) x0 x1 x2 x3 x4 x7) (Data.bk 32 (fun t j => A (fun u => D.a u j) 5 t)) := fun t j => by
  pointwise [val_main_v158, val_main_v156, val_main_cst_29, val_main_v157]
  exact back_at (A5 H) 32 t j _

theorem A6 : Is (val_main_v160 (F := Ideal) x0 x1 x2 x3 x4 x7) (fun t j => A (fun u => D.a u j) 6 t) := fun t j => by
  pointwise [val_main_v160]
  rw [A5 H, Ab5 H, ← EReal.coe_mul]; rfl

theorem Ab6 : Is (val_main_v171 (F := Ideal) x0 x1 x2 x3 x4 x7) (Data.bk 64 (fun t j => A (fun u => D.a u j) 6 t)) := fun t j => by
  pointwise [val_main_v171, val_main_v169, val_main_cst_33, val_main_v170]
  exact back_at (A6 H) 64 t j _

theorem A7 : Is (val_main_v173 (F := Ideal) x0 x1 x2 x3 x4 x7) (fun t j => A (fun u => D.a u j) 7 t) := fun t j => by
  pointwise [val_main_v173]
  rw [A6 H, Ab6 H, ← EReal.coe_mul]; rfl

theorem Ab7 : Is (val_main_v184 (F := Ideal) x0 x1 x2 x3 x4 x7) (Data.bk 128 (fun t j => A (fun u => D.a u j) 7 t)) := fun t j => by
  pointwise [val_main_v184, val_main_v182, val_main_cst_37, val_main_v183]
  exact back_at (A7 H) 128 t j _

theorem A8 : Is (val_main_v186 (F := Ideal) x0 x1 x2 x3 x4 x7) (fun t j => A (fun u => D.a u j) 8 t) := fun t j => by
  pointwise [val_main_v186]
  rw [A7 H, Ab7 H, ← EReal.coe_mul]; rfl

theorem Ab8 : Is (val_main_v197 (F := Ideal) x0 x1 x2 x3 x4 x7) (Data.bk 256 (fun t j => A (fun u => D.a u j) 8 t)) := fun t j => by
  pointwise [val_main_v197, val_main_v195, val_main_cst_41, val_main_v196]
  exact back_at (A8 H) 256 t j _

theorem A9 : Is (val_main_v199 (F := Ideal) x0 x1 x2 x3 x4 x7) (fun t j => A (fun u => D.a u j) 9 t) := fun t j => by
  pointwise [val_main_v199]
  rw [A8 H, Ab8 H, ← EReal.coe_mul]; rfl

theorem Ab9 : Is (val_main_v210 (F := Ideal) x0 x1 x2 x3 x4 x7) (Data.bk 512 (fun t j => A (fun u => D.a u j) 9 t)) := fun t j => by
  pointwise [val_main_v210, val_main_v208, val_main_cst_45, val_main_v209]
  exact back_at (A9 H) 512 t j _

theorem A10 : Is (val_main_v212 (F := Ideal) x0 x1 x2 x3 x4 x7) (fun t j => A (fun u => D.a u j) 10 t) := fun t j => by
  pointwise [val_main_v212]
  rw [A9 H, Ab9 H, ← EReal.coe_mul]; rfl

theorem Ab10 : Is (val_main_v223 (F := Ideal) x0 x1 x2 x3 x4 x7) (Data.bk 1024 (fun t j => A (fun u => D.a u j) 10 t)) := fun t j => by
  pointwise [val_main_v223, val_main_v221, val_main_cst_49, val_main_v222]
  exact back_at (A10 H) 1024 t j _

theorem A11 : Is (val_main_v225 (F := Ideal) x0 x1 x2 x3 x4 x7) (fun t j => A (fun u => D.a u j) 11 t) := fun t j => by
  pointwise [val_main_v225]
  rw [A10 H, Ab10 H, ← EReal.coe_mul]; rfl

theorem Ab11 : Is (val_main_v236 (F := Ideal) x0 x1 x2 x3 x4 x7) (Data.bk 2048 (fun t j => A (fun u => D.a u j) 11 t)) := fun t j => by
  pointwise [val_main_v236, val_main_v234, val_main_cst_53, val_main_v235]
  exact back_at (A11 H) 2048 t j _

theorem B0 : Is (val_main_v89 (F := Ideal) x0 x1 x2 x3 x4 x5 x6 x7) (fun t j => B (fun u => D.a u j) (fun u => D.bx u j) 0 t) := bx_is H

theorem Bb0 : Is (val_main_v99 (F := Ideal) x0 x1 x2 x3 x4 x5 x6 x7) (Data.bk 1 (fun t j => B (fun u => D.a u j) (fun u => D.bx u j) 0 t)) := fun t j => by
  pointwise [val_main_v99, val_main_v97, val_main_cst_11, val_main_v98]
  exact back_at (B0 H) 1 t j _

theorem B1 : Is (val_main_v102 (F := Ideal) x0 x1 x2 x3 x4 x5 x6 x7) (fun t j => B (fun u => D.a u j) (fun u => D.bx u j) 1 t) := fun t j => by
  pointwise [val_main_v102, val_main_v101]
  rw [A0 H, Bb0 H, B0 H, ← EReal.coe_mul, ← EReal.coe_add]; rfl

theorem Bb1 : Is (val_main_v112 (F := Ideal) x0 x1 x2 x3 x4 x5 x6 x7) (Data.bk 2 (fun t j => B (fun u => D.a u j) (fun u => D.bx u j) 1 t)) := fun t j => by
  pointwise [val_main_v112, val_main_v110, val_main_cst_15, val_main_v111]
  exact back_at (B1 H) 2 t j _

theorem B2 : Is (val_main_v115 (F := Ideal) x0 x1 x2 x3 x4 x5 x6 x7) (fun t j => B (fun u => D.a u j) (fun u => D.bx u j) 2 t) := fun t j => by
  pointwise [val_main_v115, val_main_v114]
  rw [A1 H, Bb1 H, B1 H, ← EReal.coe_mul, ← EReal.coe_add]; rfl

theorem Bb2 : Is (val_main_v125 (F := Ideal) x0 x1 x2 x3 x4 x5 x6 x7) (Data.bk 4 (fun t j => B (fun u => D.a u j) (fun u => D.bx u j) 2 t)) := fun t j => by
  pointwise [val_main_v125, val_main_v123, val_main_cst_19, val_main_v124]
  exact back_at (B2 H) 4 t j _

theorem B3 : Is (val_main_v128 (F := Ideal) x0 x1 x2 x3 x4 x5 x6 x7) (fun t j => B (fun u => D.a u j) (fun u => D.bx u j) 3 t) := fun t j => by
  pointwise [val_main_v128, val_main_v127]
  rw [A2 H, Bb2 H, B2 H, ← EReal.coe_mul, ← EReal.coe_add]; rfl

theorem Bb3 : Is (val_main_v138 (F := Ideal) x0 x1 x2 x3 x4 x5 x6 x7) (Data.bk 8 (fun t j => B (fun u => D.a u j) (fun u => D.bx u j) 3 t)) := fun t j => by
  pointwise [val_main_v138, val_main_v136, val_main_cst_23, val_main_v137]
  exact back_at (B3 H) 8 t j _

theorem B4 : Is (val_main_v141 (F := Ideal) x0 x1 x2 x3 x4 x5 x6 x7) (fun t j => B (fun u => D.a u j) (fun u => D.bx u j) 4 t) := fun t j => by
  pointwise [val_main_v141, val_main_v140]
  rw [A3 H, Bb3 H, B3 H, ← EReal.coe_mul, ← EReal.coe_add]; rfl

theorem Bb4 : Is (val_main_v151 (F := Ideal) x0 x1 x2 x3 x4 x5 x6 x7) (Data.bk 16 (fun t j => B (fun u => D.a u j) (fun u => D.bx u j) 4 t)) := fun t j => by
  pointwise [val_main_v151, val_main_v149, val_main_cst_27, val_main_v150]
  exact back_at (B4 H) 16 t j _

theorem B5 : Is (val_main_v154 (F := Ideal) x0 x1 x2 x3 x4 x5 x6 x7) (fun t j => B (fun u => D.a u j) (fun u => D.bx u j) 5 t) := fun t j => by
  pointwise [val_main_v154, val_main_v153]
  rw [A4 H, Bb4 H, B4 H, ← EReal.coe_mul, ← EReal.coe_add]; rfl

theorem Bb5 : Is (val_main_v164 (F := Ideal) x0 x1 x2 x3 x4 x5 x6 x7) (Data.bk 32 (fun t j => B (fun u => D.a u j) (fun u => D.bx u j) 5 t)) := fun t j => by
  pointwise [val_main_v164, val_main_v162, val_main_cst_31, val_main_v163]
  exact back_at (B5 H) 32 t j _

theorem B6 : Is (val_main_v167 (F := Ideal) x0 x1 x2 x3 x4 x5 x6 x7) (fun t j => B (fun u => D.a u j) (fun u => D.bx u j) 6 t) := fun t j => by
  pointwise [val_main_v167, val_main_v166]
  rw [A5 H, Bb5 H, B5 H, ← EReal.coe_mul, ← EReal.coe_add]; rfl

theorem Bb6 : Is (val_main_v177 (F := Ideal) x0 x1 x2 x3 x4 x5 x6 x7) (Data.bk 64 (fun t j => B (fun u => D.a u j) (fun u => D.bx u j) 6 t)) := fun t j => by
  pointwise [val_main_v177, val_main_v175, val_main_cst_35, val_main_v176]
  exact back_at (B6 H) 64 t j _

theorem B7 : Is (val_main_v180 (F := Ideal) x0 x1 x2 x3 x4 x5 x6 x7) (fun t j => B (fun u => D.a u j) (fun u => D.bx u j) 7 t) := fun t j => by
  pointwise [val_main_v180, val_main_v179]
  rw [A6 H, Bb6 H, B6 H, ← EReal.coe_mul, ← EReal.coe_add]; rfl

theorem Bb7 : Is (val_main_v190 (F := Ideal) x0 x1 x2 x3 x4 x5 x6 x7) (Data.bk 128 (fun t j => B (fun u => D.a u j) (fun u => D.bx u j) 7 t)) := fun t j => by
  pointwise [val_main_v190, val_main_v188, val_main_cst_39, val_main_v189]
  exact back_at (B7 H) 128 t j _

theorem B8 : Is (val_main_v193 (F := Ideal) x0 x1 x2 x3 x4 x5 x6 x7) (fun t j => B (fun u => D.a u j) (fun u => D.bx u j) 8 t) := fun t j => by
  pointwise [val_main_v193, val_main_v192]
  rw [A7 H, Bb7 H, B7 H, ← EReal.coe_mul, ← EReal.coe_add]; rfl

theorem Bb8 : Is (val_main_v203 (F := Ideal) x0 x1 x2 x3 x4 x5 x6 x7) (Data.bk 256 (fun t j => B (fun u => D.a u j) (fun u => D.bx u j) 8 t)) := fun t j => by
  pointwise [val_main_v203, val_main_v201, val_main_cst_43, val_main_v202]
  exact back_at (B8 H) 256 t j _

theorem B9 : Is (val_main_v206 (F := Ideal) x0 x1 x2 x3 x4 x5 x6 x7) (fun t j => B (fun u => D.a u j) (fun u => D.bx u j) 9 t) := fun t j => by
  pointwise [val_main_v206, val_main_v205]
  rw [A8 H, Bb8 H, B8 H, ← EReal.coe_mul, ← EReal.coe_add]; rfl

theorem Bb9 : Is (val_main_v216 (F := Ideal) x0 x1 x2 x3 x4 x5 x6 x7) (Data.bk 512 (fun t j => B (fun u => D.a u j) (fun u => D.bx u j) 9 t)) := fun t j => by
  pointwise [val_main_v216, val_main_v214, val_main_cst_47, val_main_v215]
  exact back_at (B9 H) 512 t j _

theorem B10 : Is (val_main_v219 (F := Ideal) x0 x1 x2 x3 x4 x5 x6 x7) (fun t j => B (fun u => D.a u j) (fun u => D.bx u j) 10 t) := fun t j => by
  pointwise [val_main_v219, val_main_v218]
  rw [A9 H, Bb9 H, B9 H, ← EReal.coe_mul, ← EReal.coe_add]; rfl

theorem Bb10 : Is (val_main_v229 (F := Ideal) x0 x1 x2 x3 x4 x5 x6 x7) (Data.bk 1024 (fun t j => B (fun u => D.a u j) (fun u => D.bx u j) 10 t)) := fun t j => by
  pointwise [val_main_v229, val_main_v227, val_main_cst_51, val_main_v228]
  exact back_at (B10 H) 1024 t j _

theorem B11 : Is (val_main_v232 (F := Ideal) x0 x1 x2 x3 x4 x5 x6 x7) (fun t j => B (fun u => D.a u j) (fun u => D.bx u j) 11 t) := fun t j => by
  pointwise [val_main_v232, val_main_v231]
  rw [A10 H, Bb10 H, B10 H, ← EReal.coe_mul, ← EReal.coe_add]; rfl

theorem Bb11 : Is (val_main_v242 (F := Ideal) x0 x1 x2 x3 x4 x5 x6 x7) (Data.bk 2048 (fun t j => B (fun u => D.a u j) (fun u => D.bx u j) 11 t)) := fun t j => by
  pointwise [val_main_v242, val_main_v240, val_main_cst_55, val_main_v241]
  exact back_at (B11 H) 2048 t j _

theorem B12 : Is (val_main_v245 (F := Ideal) x0 x1 x2 x3 x4 x5 x6 x7) (fun t j => B (fun u => D.a u j) (fun u => D.bx u j) 12 t) := fun t j => by
  pointwise [val_main_v245, val_main_v244]
  rw [A11 H, Bb11 H, B11 H, ← EReal.coe_mul, ← EReal.coe_add]; rfl

/-- The recurrence's rows. -/
theorem h_is : Is (val_main_v245 (F := Ideal) x0 x1 x2 x3 x4 x5 x6 x7) D.h := fun t j => (B12 H t j).trans (congrArg _ (B_last _ _ _ t.isLt))

end Cert.BwdGatesRefIdeal.Hand

end
-- ==== Proof.GatesBlocks.lean ====
/- The unit's gradients: what the host hands to the call, and the blocks of a grid point, as the real functions of GatesMath. -/
module

public import proofs.«01_k».proof.Proof.GatesTile
public import proofs.«01_k».proof.Proof.GatesRef
public import Idealize.ShloMosaic.Lib.Claim
public import Idealize.ShloMosaic.Lib.StableHlo.RunRead
public import Idealize.ShloMosaic.Lib.Pipeline.ValueKit

@[expose] public section

set_option maxRecDepth 16384

noncomputable section

namespace Cert.BwdGatesIdeal.Hand

open Cert.BwdGatesIdeal Cert.BwdGatesIdeal.Gen Idealize.ShloMosaic Idealize.ShloMosaic.TcCoe Idealize.SL.Sem
open Cert.LruMath Cert.GatesMath

variable (m : (ℓ : Loc nD τ sig) → Buf (Elt Ideal) ℓ) (c : Dev nD)

/-- The call's arguments. -/
abbrev V0 : FVec Ideal S1x4096x6144 .f32 := m ((c : Thread nD τ).loc main_arg0)
abbrev V1 : FVec Ideal S1x4x1024 .f32 := m ((c : Thread nD τ).loc main_arg1)
abbrev V2 : FVec Ideal S1x1024 .f32 := m ((c : Thread nD τ).loc main_arg2)
abbrev V3 : FVec Ideal S1x4x256x256 .f32 := m ((c : Thread nD τ).loc main_arg3)
abbrev V4 : FVec Ideal S1x4x256 .f32 := m ((c : Thread nD τ).loc main_arg4)
abbrev V5 : FVec Ideal S1x4x256x256 .f32 := m ((c : Thread nD τ).loc main_arg5)
abbrev V6 : FVec Ideal S1x4x256 .f32 := m ((c : Thread nD τ).loc main_arg6)
abbrev V7 : FVec Ideal S1x1024 .f32 := m ((c : Thread nD τ).loc main_arg7)
abbrev V8 : FVec Ideal S1x4096x1024 .f32 := m ((c : Thread nD τ).loc main_arg8)

/-- A concatenation of two arrays, its operands apart. -/
def cat2 {α : Type} (S : Shape) (d : Fin S.rank) (s1 s2 : Shape) (a : s1.Idx → α) (b : s2.Idx → α) (h : Shape.Concatenates [s1, s2] S d) : S.Idx → α :=
  concatenate S d [⟨s1, a⟩, ⟨s2, b⟩] h
theorem cat2_eq {α : Type} (S : Shape) (d : Fin S.rank) (s1 s2 : Shape) (a : s1.Idx → α) (b : s2.Idx → α) (h : Shape.Concatenates [s1, s2] S d) :
    concatenate S d [⟨s1, a⟩, ⟨s2, b⟩] h = cat2 S d s1 s2 a b h := (rfl)

/-- The first axis of size one dropped. -/
theorem drop1 (v : FVec Ideal S1x4096x1024 .f32) (r : Fin 4096) (j : Fin 1024) :
    shapeCast S4096x1024 v shapeCasts_S1x4096x1024_S4096x1024 (ix2 r j) = v (ix3 0 r j) := by pointwise

/-! The arrays that the host's forward lines hand to the call are the reference's own. -/

set_option maxHeartbeats 2000000 in
theorem h_host (r : Fin 4096) (j : Fin 1024) : ((V m c main_v219 : FVec Ideal S4096x1024 .f32) (ix2 r j) : EReal)
    = Cert.BwdGatesRefIdeal.Read.val_main_v245 (F := Ideal) (V0 m c) (V1 m c) (V2 m c) (V3 m c) (V4 m c) (V5 m c) (V6 m c) (V7 m c) (ix3 0 r j) := by
  show StableHlo.after [hostOps0, hostOps0_1, hostOps0_2].flatten (fun b => m (c, b)) (Proc.tc.devRef main_v219) (ix2 r j) = _
  rw [show ([hostOps0, hostOps0_1, hostOps0_2].flatten : List (HloOp τ sig (Elt Ideal))) = hostOps0 ++ hostOps0_1 ++ hostOps0_2 from rfl]
  after_reads_simp [cat2_eq]
  exact drop1 _ _ _

set_option maxHeartbeats 2000000 in
theorem xc_host (r : Fin 4096) (j : Fin 1024) : ((V m c main_v220 : FVec Ideal S4096x1024 .f32) (ix2 r j) : EReal)
    = Cert.BwdGatesRefIdeal.Read.val_main_v34 (F := Ideal) (V0 m c) (V1 m c) (V2 m c) (ix3 0 r j) := by
  show StableHlo.after [hostOps0, hostOps0_1, hostOps0_2].flatten (fun b => m (c, b)) (Proc.tc.devRef main_v220) (ix2 r j) = _
  rw [show ([hostOps0, hostOps0_1, hostOps0_2].flatten : List (HloOp τ sig (Elt Ideal))) = hostOps0 ++ hostOps0_1 ++ hostOps0_2 from rfl]
  after_reads_simp [cat2_eq]
  exact drop1 _ _ _

set_option maxHeartbeats 2000000 in
theorem r_host (r : Fin 4096) (j : Fin 1024) : ((V m c main_v221 : FVec Ideal S4096x1024 .f32) (ix2 r j) : EReal)
    = Cert.BwdGatesRefIdeal.Read.val_main_v56 (F := Ideal) (V0 m c) (V1 m c) (V2 m c) (V3 m c) (V4 m c) (ix3 0 r j) := by
  show StableHlo.after [hostOps0, hostOps0_1, hostOps0_2].flatten (fun b => m (c, b)) (Proc.tc.devRef main_v221) (ix2 r j) = _
  rw [show ([hostOps0, hostOps0_1, hostOps0_2].flatten : List (HloOp τ sig (Elt Ideal))) = hostOps0 ++ hostOps0_1 ++ hostOps0_2 from rfl]
  after_reads_simp [cat2_eq]
  exact drop1 _ _ _

set_option maxHeartbeats 2000000 in
theorem ig_host (r : Fin 4096) (j : Fin 1024) : ((V m c main_v222 : FVec Ideal S4096x1024 .f32) (ix2 r j) : EReal)
    = Cert.BwdGatesRefIdeal.Read.val_main_v71 (F := Ideal) (V0 m c) (V1 m c) (V2 m c) (V5 m c) (V6 m c) (ix3 0 r j) := by
  show StableHlo.after [hostOps0, hostOps0_1, hostOps0_2].flatten (fun b => m (c, b)) (Proc.tc.devRef main_v222) (ix2 r j) = _
  rw [show ([hostOps0, hostOps0_1, hostOps0_2].flatten : List (HloOp τ sig (Elt Ideal))) = hostOps0 ++ hostOps0_1 ++ hostOps0_2 from rfl]
  after_reads_simp [cat2_eq]
  exact drop1 _ _ _

set_option maxHeartbeats 2000000 in
theorem dy_host (r : Fin 4096) (j : Fin 1024) : ((V m c main_v216 : FVec Ideal S4096x1024 .f32) (ix2 r j) : EReal) = V8 m c (ix3 0 r j) := by
  show StableHlo.after [hostOps0, hostOps0_1, hostOps0_2].flatten (fun b => m (c, b)) (Proc.tc.devRef main_v216) (ix2 r j) = _
  rw [show ([hostOps0, hostOps0_1, hostOps0_2].flatten : List (HloOp τ sig (Elt Ideal))) = hostOps0 ++ hostOps0_1 ++ hostOps0_2 from rfl]
  after_reads_simp [cat2_eq]
  exact drop1 _ _ _

set_option maxHeartbeats 2000000 in
theorem z_host (r : Fin 4096) (j : Fin 6144) : ((V m c main_v218 : FVec Ideal S4096x6144 .bf16) (ix2 r j) : EReal) = V0 m c (ix3 0 r j) := by
  show StableHlo.after [hostOps0, hostOps0_1, hostOps0_2].flatten (fun b => m (c, b)) (Proc.tc.devRef main_v218) (ix2 r j) = _
  rw [show ([hostOps0, hostOps0_1, hostOps0_2].flatten : List (HloOp τ sig (Elt Ideal))) = hostOps0 ++ hostOps0_1 ++ hostOps0_2 from rfl]
  after_reads_simp [cat2_eq]
  pointwise

set_option maxHeartbeats 2000000 in
theorem wr_host (h : Fin 4) (i k : Fin 256) : ((V m c main_v213 : FVec Ideal S4x256x256 .bf16) (ix3 h i k) : EReal) = V3 m c (ix4 0 h i k) := by
  show StableHlo.after [hostOps0, hostOps0_1, hostOps0_2].flatten (fun b => m (c, b)) (Proc.tc.devRef main_v213) (ix3 h i k) = _
  rw [show ([hostOps0, hostOps0_1, hostOps0_2].flatten : List (HloOp τ sig (Elt Ideal))) = hostOps0 ++ hostOps0_1 ++ hostOps0_2 from rfl]
  after_reads_simp [cat2_eq]
  pointwise

set_option maxHeartbeats 2000000 in
theorem wi_host (h : Fin 4) (i k : Fin 256) : ((V m c main_v215 : FVec Ideal S4x256x256 .bf16) (ix3 h i k) : EReal) = V5 m c (ix4 0 h i k) := by
  show StableHlo.after [hostOps0, hostOps0_1, hostOps0_2].flatten (fun b => m (c, b)) (Proc.tc.devRef main_v215) (ix3 h i k) = _
  rw [show ([hostOps0, hostOps0_1, hostOps0_2].flatten : List (HloOp τ sig (Elt Ideal))) = hostOps0 ++ hostOps0_1 ++ hostOps0_2 from rfl]
  after_reads_simp [cat2_eq]
  pointwise

/-- The windows' block indices: the tiles run from the last to the first. -/
theorem idx : ∀ t : Fin cfg0.N, win0_0.index t = ![15 - t.val, 0] ∧ win0_1.index t = ![15 - t.val, 1] ∧ win0_2.index t = ![15 - t.val, 0]
    ∧ win0_3.index t = ![(15 - t.val) * 32 - 1, 0] ∧ win0_4.index t = ![15 - t.val, 0] ∧ win0_5.index t = ![15 - t.val, 0]
    ∧ win0_6.index t = ![15 - t.val, 0] ∧ win0_7.index t = ![0, 0, 0] ∧ win0_8.index t = ![0, 0, 0] ∧ win0_9.index t = ![0, 0]
    ∧ win0_10.index t = ![15 - t.val, 0] ∧ (grid0.coords t 0).val = t.val :=
  (by decide +kernel : ∀ t : Fin grid0.N, _)

theorem lt16 (t : Fin cfg0.N) : t.val < 16 := lt_of_lt_of_eq t.isLt N_0

/-- The array row a tile's row is. -/
abbrev row (t : Fin cfg0.N) (r : Fin 256) : Fin 4096 := ⟨256 * (15 - t.val) + r.val, by omega⟩

abbrev b0 (t : Fin cfg0.N) : FVec Ideal S256x1024 .f32 := iblk m c 0 t
abbrev b1 (t : Fin cfg0.N) : FVec Ideal S256x1024 .bf16 := iblk m c 1 t
abbrev b2 (t : Fin cfg0.N) : FVec Ideal S256x1024 .f32 := iblk m c 2 t
abbrev b3 (t : Fin cfg0.N) : FVec Ideal S8x1024 .f32 := iblk m c 3 t
abbrev b4 (t : Fin cfg0.N) : FVec Ideal S256x1024 .f32 := iblk m c 4 t
abbrev b5 (t : Fin cfg0.N) : FVec Ideal S256x1024 .f32 := iblk m c 5 t
abbrev b6 (t : Fin cfg0.N) : FVec Ideal S256x1024 .f32 := iblk m c 6 t
abbrev b7 (t : Fin cfg0.N) : FVec Ideal S4x256x256 .bf16 := iblk m c 7 t
abbrev b8 (t : Fin cfg0.N) : FVec Ideal S4x256x256 .bf16 := iblk m c 8 t
abbrev b9 (t : Fin cfg0.N) : FVec Ideal S1x1024 .f32 := iblk m c 9 t

/-- A grid point's blocks, with the row it finds carried. -/
abbrev tile (t : Fin cfg0.N) (cr : FVec Ideal S1x1024 .f32) : Tile :=
  ⟨grid0.coords t, b0 m c t, b1 m c t, b2 m c t, b3 m c t, b4 m c t, b5 m c t, b6 m c t, b7 m c t, b8 m c t, b9 m c t, cr⟩

variable {m c} {D : Data}
variable (A : Cert.BwdGatesRefIdeal.Hand.Args (V0 m c) (V1 m c) (V2 m c) (V3 m c) (V4 m c) (V5 m c) (V6 m c) (V7 m c) (V8 m c) D)
include A

theorem b0_at (t : Fin cfg0.N) (r : Fin 256) (j : Fin 1024) : (b0 m c t (ix2 r j) : EReal) = ((D.dy (row t r).val j : ℝ) : EReal) := by
  have e : (b0 m c t (ix2 r j) : EReal) = (V m c main_v216 : FVec Ideal S4096x1024 .f32) (ix2 (row t r) j) := by blk_ext [iblk, idx t]
  rw [e, dy_host]; exact A.dy _ _

theorem b1_at (t : Fin cfg0.N) (r : Fin 256) (j : Fin 1024) : (b1 m c t (ix2 r j) : EReal) = ((D.ga (row t r).val j : ℝ) : EReal) := by
  have e : (b1 m c t (ix2 r j) : EReal) = (V m c main_v218 : FVec Ideal S4096x6144 .bf16) (ix2 (row t r) ⟨1024 + j.val, by omega⟩) := by blk_ext [iblk, idx t]
  rw [e, z_host]; exact A.ga _ _

theorem b2_at (t : Fin cfg0.N) (r : Fin 256) (j : Fin 1024) : (b2 m c t (ix2 r j) : EReal) = ((D.h (row t r).val j : ℝ) : EReal) := by
  have e : (b2 m c t (ix2 r j) : EReal) = (V m c main_v219 : FVec Ideal S4096x1024 .f32) (ix2 (row t r) j) := by blk_ext [iblk, idx t]
  rw [e, h_host]; exact Cert.BwdGatesRefIdeal.Hand.h_is A _ _

theorem b3_at (t : Fin cfg0.N) (ht : 15 - t.val ≠ 0) (p : Fin 8) (j : Fin 1024) :
    (b3 m c t (ix2 p j) : EReal) = ((D.h (256 * (15 - t.val) - 8 + p.val) j : ℝ) : EReal) := by
  have hb : 256 * (15 - t.val) - 8 + p.val < 4096 := by omega
  have e : (b3 m c t (ix2 p j) : EReal) = (V m c main_v219 : FVec Ideal S4096x1024 .f32) (ix2 ⟨256 * (15 - t.val) - 8 + p.val, hb⟩ j) := by blk_ext [iblk, idx t]
  rw [e, h_host]; exact Cert.BwdGatesRefIdeal.Hand.h_is A ⟨256 * (15 - t.val) - 8 + p.val, hb⟩ j

theorem b4_at (t : Fin cfg0.N) (r : Fin 256) (j : Fin 1024) : (b4 m c t (ix2 r j) : EReal) = ((D.xc (row t r).val j : ℝ) : EReal) := by
  have e : (b4 m c t (ix2 r j) : EReal) = (V m c main_v220 : FVec Ideal S4096x1024 .f32) (ix2 (row t r) j) := by blk_ext [iblk, idx t]
  rw [e, xc_host]; exact Cert.BwdGatesRefIdeal.Hand.xc_is A _ _

theorem b5_at (t : Fin cfg0.N) (r : Fin 256) (j : Fin 1024) : (b5 m c t (ix2 r j) : EReal) = ((D.r (row t r).val j : ℝ) : EReal) := by
  have e : (b5 m c t (ix2 r j) : EReal) = (V m c main_v221 : FVec Ideal S4096x1024 .f32) (ix2 (row t r) j) := by blk_ext [iblk, idx t]
  rw [e, r_host]; exact Cert.BwdGatesRefIdeal.Hand.r_is A _ _

theorem b6_at (t : Fin cfg0.N) (r : Fin 256) (j : Fin 1024) : (b6 m c t (ix2 r j) : EReal) = ((D.ig (row t r).val j : ℝ) : EReal) := by
  have e : (b6 m c t (ix2 r j) : EReal) = (V m c main_v222 : FVec Ideal S4096x1024 .f32) (ix2 (row t r) j) := by blk_ext [iblk, idx t]
  rw [e, ig_host]; exact Cert.BwdGatesRefIdeal.Hand.ig_is A _ _

theorem b7_at (t : Fin cfg0.N) (h : Fin 4) (i k : Fin 256) : (b7 m c t (ix3 h i k) : EReal) = ((D.wr h i k : ℝ) : EReal) := by
  have e : (b7 m c t (ix3 h i k) : EReal) = (V m c main_v213 : FVec Ideal S4x256x256 .bf16) (ix3 h i k) := by blk_ext [iblk, idx t]
  rw [e, wr_host]; exact A.wr _ _ _

theorem b8_at (t : Fin cfg0.N) (h : Fin 4) (i k : Fin 256) : (b8 m c t (ix3 h i k) : EReal) = ((D.wi h i k : ℝ) : EReal) := by
  have e : (b8 m c t (ix3 h i k) : EReal) = (V m c main_v215 : FVec Ideal S4x256x256 .bf16) (ix3 h i k) := by blk_ext [iblk, idx t]
  rw [e, wi_host]; exact A.wi _ _ _

theorem b9_at (t : Fin cfg0.N) (j : Fin 1024) : (b9 m c t (ix2 0 j) : EReal) = ((D.lm j : ℝ) : EReal) := by
  have e : (b9 m c t (ix2 0 j) : EReal) = V7 m c (ix2 0 j) := by blk_ext [iblk, V, idx t]
  rw [e]; exact A.lm _

set_option maxHeartbeats 2000000 in
/-- With the right row carried, a point's blocks hold its tile's rows. -/
theorem holds (t : Fin cfg0.N) (cr : FVec Ideal S1x1024 .f32) (h : ∀ j, cr (ix2 0 j) = ((D.cin (15 - t.val) j : ℝ) : EReal)) :
    (tile m c t cr).Holds D (15 - t.val) where
  lt := by omega
  i0 := by have h := (idx t).2.2.2.2.2.2.2.2.2.2.2; have := lt16 t; show (grid0.coords t 0).val = _; omega
  dy := b0_at A t
  ga := b1_at A t
  h := b2_at A t
  hp := b3_at A t
  xc := b4_at A t
  r := b5_at A t
  ig := b6_at A t
  wr := b7_at A t
  wi := b8_at A t
  lm := b9_at A t
  cr := h

end Cert.BwdGatesIdeal.Hand

end
-- ==== Proof.GatesOuts.lean ====
/- One device's gradients of the gated recurrence: what a grid point leaves in the windows. -/
module

public import proofs.«01_k».proof.Proof.GatesBlocks
public import Idealize.ShloMosaic.Lib.Pipeline.ReadBack

@[expose] public section

set_option maxRecDepth 16384

noncomputable section

namespace Cert.BwdGatesIdeal.Hand

open Cert.BwdGatesIdeal Cert.BwdGatesIdeal.Gen Idealize.ShloMosaic Idealize.ShloMosaic.TcCoe Idealize.SL.Sem
open Idealize.ShloMosaic.Pipeline (Dat)
open Cert.LruMath Cert.GatesMath

/-! ### The two weights' gradients: a store per head over whatever the window held -/

/-- Head `h`'s block of a weight's window. -/
abbrev hr0 : Rect S4x256x256 := Rect.unit ![0, 0, 0] ![1, 256, 256] inb_S4x256x256_S1x256x256_0_0_0
abbrev hr1 : Rect S4x256x256 := Rect.unit ![1, 0, 0] ![1, 256, 256] inb_S4x256x256_S1x256x256_1_0_0
abbrev hr2 : Rect S4x256x256 := Rect.unit ![2, 0, 0] ![1, 256, 256] inb_S4x256x256_S1x256x256_2_0_0
abbrev hr3 : Rect S4x256x256 := Rect.unit ![3, 0, 0] ![1, 256, 256] inb_S4x256x256_S1x256x256_3_0_0

theorem piece_at (w : FVec Ideal S1x256x256 .f32) (ws : Fin 4 → FVec Ideal S1x256x256 .f32) (k : Fin 4) (e : ws k = w) (x : S1x256x256.Idx) (y : S4x256x256.Idx)
    (h : y = ix3 k (x 1) (x 2)) : w x = (ws (y 0)) (ix3 0 (y 1) (y 2)) := by
  subst h e
  exact congrArg (ws k) (by blk_ext)

/-- What the four heads' stores leave at an element. -/
theorem heads_at (w0 w1 w2 w3 : FVec Ideal S1x256x256 .f32) (L : List (View.Piece (Elt Ideal) S4x256x256 .f32)) (h : Fin 4) (i k : Fin 256) :
    View.canon (Val := Elt Ideal) (e := .f32) (⟨hr3, w3⟩ :: ⟨hr2, w2⟩ :: ⟨hr1, w1⟩ :: ⟨hr0, w0⟩ :: L) (ix3 h i k) = (![w0, w1, w2, w3] h) (ix3 0 i k) := by
  refine View.canon_append_of_piecesOf (Val := Elt Ideal) (fun y : S4x256x256.Idx => (![w0, w1, w2, w3] (y 0)) (ix3 0 (y 1) (y 2))) L
    [⟨hr3, w3⟩, ⟨hr2, w2⟩, ⟨hr1, w1⟩, ⟨hr0, w0⟩] ⟨fun x => ?_, fun x => ?_, fun x => ?_, fun x => ?_, trivial⟩ (ix3 h i k)
    (View.cover_of_tiled_head _ _ _ (by rfl) _)
  · exact piece_at w3 ![w0, w1, w2, w3] 3 rfl x _ (by blk_ext)
  · exact piece_at w2 ![w0, w1, w2, w3] 2 rfl x _ (by blk_ext)
  · exact piece_at w1 ![w0, w1, w2, w3] 1 rfl x _ (by blk_ext)
  · exact piece_at w0 ![w0, w1, w2, w3] 0 rfl x _ (by blk_ext)

/-- A head's load after the fill and the other heads' stores reads the fill. -/
theorem load0 {κ : Kind} {sp : Space} (v : View sig κ sp S4x256x256 .f32) (Z : Vec Ideal S4x256x256 .f32) : v.readCov (Val := Elt Ideal)
    [⟨Rect.unit ![0, 0, 0] ![4, 256, 256] inb_S4x256x256_S4x256x256_0_0_0, Z⟩] hr0.toLoadRect = View.ld Z hr0 :=
  View.readCov_fill _ inb_S4x256x256_S4x256x256_0_0_0 Z _ hr0 (by decide)
theorem load1 {κ : Kind} {sp : Space} (v : View sig κ sp S4x256x256 .f32) (Z : Vec Ideal S4x256x256 .f32) (w0) : v.readCov (Val := Elt Ideal)
    [⟨hr0, w0⟩, ⟨Rect.unit ![0, 0, 0] ![4, 256, 256] inb_S4x256x256_S4x256x256_0_0_0, Z⟩] hr1.toLoadRect = View.ld Z hr1 := by
  rw [View.readCov_skip _ _ _ _ _ (by decide)]
  exact View.readCov_fill _ inb_S4x256x256_S4x256x256_0_0_0 Z _ hr1 (by decide)
theorem load2 {κ : Kind} {sp : Space} (v : View sig κ sp S4x256x256 .f32) (Z : Vec Ideal S4x256x256 .f32) (w0 w1) : v.readCov (Val := Elt Ideal)
    [⟨hr1, w1⟩, ⟨hr0, w0⟩, ⟨Rect.unit ![0, 0, 0] ![4, 256, 256] inb_S4x256x256_S4x256x256_0_0_0, Z⟩] hr2.toLoadRect = View.ld Z hr2 := by
  rw [View.readCov_skip _ _ _ _ _ (by decide), View.readCov_skip _ _ _ _ _ (by decide)]
  exact View.readCov_fill _ inb_S4x256x256_S4x256x256_0_0_0 Z _ hr2 (by decide)
theorem load3 {κ : Kind} {sp : Space} (v : View sig κ sp S4x256x256 .f32) (Z : Vec Ideal S4x256x256 .f32) (w0 w1 w2) : v.readCov (Val := Elt Ideal)
    [⟨hr2, w2⟩, ⟨hr1, w1⟩, ⟨hr0, w0⟩, ⟨Rect.unit ![0, 0, 0] ![4, 256, 256] inb_S4x256x256_S4x256x256_0_0_0, Z⟩] hr3.toLoadRect = View.ld Z hr3 := by
  rw [View.readCov_skip _ _ _ _ _ (by decide), View.readCov_skip _ _ _ _ _ (by decide), View.readCov_skip _ _ _ _ _ (by decide)]
  exact View.readCov_fill _ inb_S4x256x256_S4x256x256_0_0_0 Z _ hr3 (by decide)

namespace Tile

/-- A weight's window after a point: a head's block is what it held and the tile's product. -/
def dwr (b : Tile) (p0 p1 p2 p3 : Vec Ideal S1x256x256 .f32) (L : List (View.Piece (Elt Ideal) S4x256x256 .f32)) : Vec Ideal S4x256x256 .f32 :=
  View.canon (Val := Elt Ideal) (e := .f32) (⟨hr3, k0_pay100 (F := Ideal) b.v14 b.v433 p3⟩ :: ⟨hr2, k0_pay97 (F := Ideal) b.v14 b.v433 p2⟩
    :: ⟨hr1, k0_pay94 (F := Ideal) (k0_pay93 (F := Ideal) b.v14 b.v433 p1)⟩ :: ⟨hr0, k0_pay90 (F := Ideal) b.v14 b.v433 p0⟩ :: L)
def dwi (b : Tile) (p0 p1 p2 p3 : Vec Ideal S1x256x256 .f32) (L : List (View.Piece (Elt Ideal) S4x256x256 .f32)) : Vec Ideal S4x256x256 .f32 :=
  View.canon (Val := Elt Ideal) (e := .f32) (⟨hr3, k0_pay1 (F := Ideal) (k0_pay101 (F := Ideal) b.v14 b.v434 p3)⟩ :: ⟨hr2, k0_pay98 (F := Ideal) b.v14 b.v434 p2⟩
    :: ⟨hr1, k0_pay95 (F := Ideal) b.v14 b.v434 p1⟩ :: ⟨hr0, k0_pay91 (F := Ideal) b.v14 b.v434 p0⟩ :: L)

variable {b : Tile} {D : Data} {T : ℕ} (H : b.Holds D T)

/-- A head's product of a tile. -/
theorem prod_at (u v : FVec Ideal S256x1024 .bf16) (f g : ℕ → Fin 1024 → ℝ) (hu : ∀ r j, u (ix2 r j) = ((f (256 * T + r.val) j : ℝ) : EReal))
    (hv : ∀ r j, v (ix2 r j) = ((g (256 * T + r.val) j : ℝ) : EReal)) (p : EReal) (h : Fin 4) (i k : Fin 256) (a c : Fin 1024) (ha : a = col h i) (hc : c = col h k) :
    p + ∑ x : Fin 256, u (ix2 x a) * v (ix2 x c) = p + ((∑ x : Fin 256, f (256 * T + x.val) (col h i) * g (256 * T + x.val) (col h k) : ℝ) : EReal) := by
  subst ha hc
  simp only [hu, hv, ← EReal.coe_mul, coe_sum]

include H

theorem dwr_at (p0 p1 p2 p3 : Vec Ideal S1x256x256 .f32) (L : List (View.Piece (Elt Ideal) S4x256x256 .f32)) (h : Fin 4) (i k : Fin 256) :
    (b.dwr p0 p1 p2 p3 L (ix3 h i k) : EReal) = (![p0, p1, p2, p3] h : FVec Ideal S1x256x256 .f32) (ix3 0 i k)
      + ((∑ x : Fin 256, D.xc (256 * T + x.val) (col h i) * D.dpr (256 * T + x.val) (col h k) : ℝ) : EReal) := by
  refine (heads_at _ _ _ _ L h i k).trans ?_
  match h with
  | 0 => exact (show k0_pay90 (F := Ideal) b.v14 b.v433 p0 (ix3 0 i k) = p0 (ix3 0 i k) + ∑ x : Fin 256, b.v14 (ix2 x ⟨i.val, by omega⟩) * b.v433 (ix2 x ⟨k.val, by omega⟩) by pointwise [k0_pay90]).trans (prod_at b.v14 b.v433 D.xc D.dpr (v14_at H) (dpr_at H) _ 0 i k ⟨i.val, by omega⟩ ⟨k.val, by omega⟩ (Fin.ext (by simp [col])) (Fin.ext (by simp [col])))
  | 1 => exact (show k0_pay94 (F := Ideal) (k0_pay93 (F := Ideal) b.v14 b.v433 p1) (ix3 0 i k) = p1 (ix3 0 i k) + ∑ x : Fin 256, b.v14 (ix2 x ⟨256 + i.val, by omega⟩) * b.v433 (ix2 x ⟨256 + k.val, by omega⟩) by pointwise [k0_pay94, k0_pay93]).trans (prod_at b.v14 b.v433 D.xc D.dpr (v14_at H) (dpr_at H) _ 1 i k ⟨256 + i.val, by omega⟩ ⟨256 + k.val, by omega⟩ (Fin.ext (by simp [col])) (Fin.ext (by simp [col])))
  | 2 => exact (show k0_pay97 (F := Ideal) b.v14 b.v433 p2 (ix3 0 i k) = p2 (ix3 0 i k) + ∑ x : Fin 256, b.v14 (ix2 x ⟨512 + i.val, by omega⟩) * b.v433 (ix2 x ⟨512 + k.val, by omega⟩) by pointwise [k0_pay97]).trans (prod_at b.v14 b.v433 D.xc D.dpr (v14_at H) (dpr_at H) _ 2 i k ⟨512 + i.val, by omega⟩ ⟨512 + k.val, by omega⟩ (Fin.ext (by simp [col])) (Fin.ext (by simp [col])))
  | 3 => exact (show k0_pay100 (F := Ideal) b.v14 b.v433 p3 (ix3 0 i k) = p3 (ix3 0 i k) + ∑ x : Fin 256, b.v14 (ix2 x ⟨768 + i.val, by omega⟩) * b.v433 (ix2 x ⟨768 + k.val, by omega⟩) by pointwise [k0_pay100]).trans (prod_at b.v14 b.v433 D.xc D.dpr (v14_at H) (dpr_at H) _ 3 i k ⟨768 + i.val, by omega⟩ ⟨768 + k.val, by omega⟩ (Fin.ext (by simp [col])) (Fin.ext (by simp [col])))

theorem dwi_at (p0 p1 p2 p3 : Vec Ideal S1x256x256 .f32) (L : List (View.Piece (Elt Ideal) S4x256x256 .f32)) (h : Fin 4) (i k : Fin 256) :
    (b.dwi p0 p1 p2 p3 L (ix3 h i k) : EReal) = (![p0, p1, p2, p3] h : FVec Ideal S1x256x256 .f32) (ix3 0 i k)
      + ((∑ x : Fin 256, D.xc (256 * T + x.val) (col h i) * D.dpi (256 * T + x.val) (col h k) : ℝ) : EReal) := by
  refine (heads_at _ _ _ _ L h i k).trans ?_
  match h with
  | 0 => exact (show k0_pay91 (F := Ideal) b.v14 b.v434 p0 (ix3 0 i k) = p0 (ix3 0 i k) + ∑ x : Fin 256, b.v14 (ix2 x ⟨i.val, by omega⟩) * b.v434 (ix2 x ⟨k.val, by omega⟩) by pointwise [k0_pay91]).trans (prod_at b.v14 b.v434 D.xc D.dpi (v14_at H) (dpi_at H) _ 0 i k ⟨i.val, by omega⟩ ⟨k.val, by omega⟩ (Fin.ext (by simp [col])) (Fin.ext (by simp [col])))
  | 1 => exact (show k0_pay95 (F := Ideal) b.v14 b.v434 p1 (ix3 0 i k) = p1 (ix3 0 i k) + ∑ x : Fin 256, b.v14 (ix2 x ⟨256 + i.val, by omega⟩) * b.v434 (ix2 x ⟨256 + k.val, by omega⟩) by pointwise [k0_pay95]).trans (prod_at b.v14 b.v434 D.xc D.dpi (v14_at H) (dpi_at H) _ 1 i k ⟨256 + i.val, by omega⟩ ⟨256 + k.val, by omega⟩ (Fin.ext (by simp [col])) (Fin.ext (by simp [col])))
  | 2 => exact (show k0_pay98 (F := Ideal) b.v14 b.v434 p2 (ix3 0 i k) = p2 (ix3 0 i k) + ∑ x : Fin 256, b.v14 (ix2 x ⟨512 + i.val, by omega⟩) * b.v434 (ix2 x ⟨512 + k.val, by omega⟩) by pointwise [k0_pay98]).trans (prod_at b.v14 b.v434 D.xc D.dpi (v14_at H) (dpi_at H) _ 2 i k ⟨512 + i.val, by omega⟩ ⟨512 + k.val, by omega⟩ (Fin.ext (by simp [col])) (Fin.ext (by simp [col])))
  | 3 => exact (show k0_pay1 (F := Ideal) (k0_pay101 (F := Ideal) b.v14 b.v434 p3) (ix3 0 i k) = p3 (ix3 0 i k) + ∑ x : Fin 256, b.v14 (ix2 x ⟨768 + i.val, by omega⟩) * b.v434 (ix2 x ⟨768 + k.val, by omega⟩) by pointwise [k0_pay1, k0_pay101]).trans (prod_at b.v14 b.v434 D.xc D.dpi (v14_at H) (dpi_at H) _ 3 i k ⟨768 + i.val, by omega⟩ ⟨768 + k.val, by omega⟩ (Fin.ext (by simp [col])) (Fin.ext (by simp [col])))

end Tile

/-! ### What a point leaves -/

section Outs

variable (m : (ℓ : Loc nD τ sig) → Buf (Elt Ideal) ℓ) (c : Dev nD)

/-- The row a point finds carried: the point before's, and zero at the first. -/
def cr (t : Fin cfg0.N) : FVec Ideal S1x1024 .f32 := if t.val % 16 = 0 then k0_pay8 (F := Ideal) else (outsAt0 m c (t.val - 1) (Nat.lt_of_le_of_lt (Nat.sub_le _ _) t.isLt)).2.2.2.2.2.2

theorem outs10_A (t : Fin cfg0.N) (h : t.val % 16 = 0) : (outsAt0 m c t.val t.isLt).1 = (tile m c t (cr m c t)).dxc := by
  rw [outsAt0_A m c t h]; frame_out; simp only [cr, if_pos h, Tile.dwr, Tile.dwi, ↓load0, ↓load1, ↓load2, ↓load3, tile, Tile.z0, Tile.hf, Tile.wr0, Tile.wi0, Tile.wr1, Tile.wi1, Tile.wr2, Tile.wi2, Tile.wr3, Tile.wi3, Tile.v7, Tile.v9, Tile.v11, Tile.v13, Tile.v14, Tile.v33, Tile.v35, Tile.v38, Tile.v43, Tile.v50, Tile.v55, Tile.v66, Tile.v68, Tile.v71, Tile.v78, Tile.v114, Tile.v116, Tile.v117, Tile.v122, Tile.v123, Tile.v125, Tile.v132, Tile.v140, Tile.v148, Tile.v156, Tile.v164, Tile.v172, Tile.v180, Tile.v181, Tile.v182, Tile.v188, Tile.v196, Tile.v204, Tile.v212, Tile.v220, Tile.v228, Tile.v236, Tile.v241, Tile.v242, Tile.v244, Tile.v252, Tile.v260, Tile.v268, Tile.v276, Tile.v284, Tile.v292, Tile.v300, Tile.v301, Tile.v302, Tile.v308, Tile.v316, Tile.v324, Tile.v332, Tile.v340, Tile.v348, Tile.v356, Tile.v361, Tile.v362, Tile.v364, Tile.v372, Tile.v380, Tile.v382, Tile.v389, Tile.v396, Tile.v433, Tile.v434, Tile.v443, Tile.v470, Tile.v497, Tile.v524, Tile.dxc, Tile.car, Tile.dlm, Tile.dbr, Tile.dbi]

theorem outs10_B (t : Fin cfg0.N) (h : ¬t.val % 16 = 0) : (outsAt0 m c t.val t.isLt).1 = (tile m c t (cr m c t)).dxc := by
  rw [outsAt0_B m c t h]; frame_out; simp only [cr, if_neg h, Tile.dwr, Tile.dwi, read_unread_whole, tile, Tile.z0, Tile.hf, Tile.wr0, Tile.wi0, Tile.wr1, Tile.wi1, Tile.wr2, Tile.wi2, Tile.wr3, Tile.wi3, Tile.v7, Tile.v9, Tile.v11, Tile.v13, Tile.v14, Tile.v33, Tile.v35, Tile.v38, Tile.v43, Tile.v50, Tile.v55, Tile.v66, Tile.v68, Tile.v71, Tile.v78, Tile.v114, Tile.v116, Tile.v117, Tile.v122, Tile.v123, Tile.v125, Tile.v132, Tile.v140, Tile.v148, Tile.v156, Tile.v164, Tile.v172, Tile.v180, Tile.v181, Tile.v182, Tile.v188, Tile.v196, Tile.v204, Tile.v212, Tile.v220, Tile.v228, Tile.v236, Tile.v241, Tile.v242, Tile.v244, Tile.v252, Tile.v260, Tile.v268, Tile.v276, Tile.v284, Tile.v292, Tile.v300, Tile.v301, Tile.v302, Tile.v308, Tile.v316, Tile.v324, Tile.v332, Tile.v340, Tile.v348, Tile.v356, Tile.v361, Tile.v362, Tile.v364, Tile.v372, Tile.v380, Tile.v382, Tile.v389, Tile.v396, Tile.v433, Tile.v434, Tile.v443, Tile.v470, Tile.v497, Tile.v524, Tile.dxc, Tile.car, Tile.dlm, Tile.dbr, Tile.dbi]

theorem outs16_A (t : Fin cfg0.N) (h : t.val % 16 = 0) : (outsAt0 m c t.val t.isLt).2.2.2.2.2.2 = (tile m c t (cr m c t)).car := by
  rw [outsAt0_A m c t h]; frame_out; simp only [cr, if_pos h, Tile.dwr, Tile.dwi, ↓load0, ↓load1, ↓load2, ↓load3, tile, Tile.z0, Tile.hf, Tile.wr0, Tile.wi0, Tile.wr1, Tile.wi1, Tile.wr2, Tile.wi2, Tile.wr3, Tile.wi3, Tile.v7, Tile.v9, Tile.v11, Tile.v13, Tile.v14, Tile.v33, Tile.v35, Tile.v38, Tile.v43, Tile.v50, Tile.v55, Tile.v66, Tile.v68, Tile.v71, Tile.v78, Tile.v114, Tile.v116, Tile.v117, Tile.v122, Tile.v123, Tile.v125, Tile.v132, Tile.v140, Tile.v148, Tile.v156, Tile.v164, Tile.v172, Tile.v180, Tile.v181, Tile.v182, Tile.v188, Tile.v196, Tile.v204, Tile.v212, Tile.v220, Tile.v228, Tile.v236, Tile.v241, Tile.v242, Tile.v244, Tile.v252, Tile.v260, Tile.v268, Tile.v276, Tile.v284, Tile.v292, Tile.v300, Tile.v301, Tile.v302, Tile.v308, Tile.v316, Tile.v324, Tile.v332, Tile.v340, Tile.v348, Tile.v356, Tile.v361, Tile.v362, Tile.v364, Tile.v372, Tile.v380, Tile.v382, Tile.v389, Tile.v396, Tile.v433, Tile.v434, Tile.v443, Tile.v470, Tile.v497, Tile.v524, Tile.dxc, Tile.car, Tile.dlm, Tile.dbr, Tile.dbi]

theorem outs16_B (t : Fin cfg0.N) (h : ¬t.val % 16 = 0) : (outsAt0 m c t.val t.isLt).2.2.2.2.2.2 = (tile m c t (cr m c t)).car := by
  rw [outsAt0_B m c t h]; frame_out; simp only [cr, if_neg h, Tile.dwr, Tile.dwi, read_unread_whole, tile, Tile.z0, Tile.hf, Tile.wr0, Tile.wi0, Tile.wr1, Tile.wi1, Tile.wr2, Tile.wi2, Tile.wr3, Tile.wi3, Tile.v7, Tile.v9, Tile.v11, Tile.v13, Tile.v14, Tile.v33, Tile.v35, Tile.v38, Tile.v43, Tile.v50, Tile.v55, Tile.v66, Tile.v68, Tile.v71, Tile.v78, Tile.v114, Tile.v116, Tile.v117, Tile.v122, Tile.v123, Tile.v125, Tile.v132, Tile.v140, Tile.v148, Tile.v156, Tile.v164, Tile.v172, Tile.v180, Tile.v181, Tile.v182, Tile.v188, Tile.v196, Tile.v204, Tile.v212, Tile.v220, Tile.v228, Tile.v236, Tile.v241, Tile.v242, Tile.v244, Tile.v252, Tile.v260, Tile.v268, Tile.v276, Tile.v284, Tile.v292, Tile.v300, Tile.v301, Tile.v302, Tile.v308, Tile.v316, Tile.v324, Tile.v332, Tile.v340, Tile.v348, Tile.v356, Tile.v361, Tile.v362, Tile.v364, Tile.v372, Tile.v380, Tile.v382, Tile.v389, Tile.v396, Tile.v433, Tile.v434, Tile.v443, Tile.v470, Tile.v497, Tile.v524, Tile.dxc, Tile.car, Tile.dlm, Tile.dbr, Tile.dbi]

theorem outs12_A (t : Fin cfg0.N) (h : t.val % 16 = 0) : (outsAt0 m c t.val t.isLt).2.2.1 = (tile m c t (cr m c t)).dbr (k0_pay4 (F := Ideal)) := by
  rw [outsAt0_A m c t h]; frame_out; simp only [cr, if_pos h, Tile.dwr, Tile.dwi, ↓load0, ↓load1, ↓load2, ↓load3, tile, Tile.z0, Tile.hf, Tile.wr0, Tile.wi0, Tile.wr1, Tile.wi1, Tile.wr2, Tile.wi2, Tile.wr3, Tile.wi3, Tile.v7, Tile.v9, Tile.v11, Tile.v13, Tile.v14, Tile.v33, Tile.v35, Tile.v38, Tile.v43, Tile.v50, Tile.v55, Tile.v66, Tile.v68, Tile.v71, Tile.v78, Tile.v114, Tile.v116, Tile.v117, Tile.v122, Tile.v123, Tile.v125, Tile.v132, Tile.v140, Tile.v148, Tile.v156, Tile.v164, Tile.v172, Tile.v180, Tile.v181, Tile.v182, Tile.v188, Tile.v196, Tile.v204, Tile.v212, Tile.v220, Tile.v228, Tile.v236, Tile.v241, Tile.v242, Tile.v244, Tile.v252, Tile.v260, Tile.v268, Tile.v276, Tile.v284, Tile.v292, Tile.v300, Tile.v301, Tile.v302, Tile.v308, Tile.v316, Tile.v324, Tile.v332, Tile.v340, Tile.v348, Tile.v356, Tile.v361, Tile.v362, Tile.v364, Tile.v372, Tile.v380, Tile.v382, Tile.v389, Tile.v396, Tile.v433, Tile.v434, Tile.v443, Tile.v470, Tile.v497, Tile.v524, Tile.dxc, Tile.car, Tile.dlm, Tile.dbr, Tile.dbi]

theorem outs12_B (t : Fin cfg0.N) (h : ¬t.val % 16 = 0) : (outsAt0 m c t.val t.isLt).2.2.1 = (tile m c t (cr m c t)).dbr (outsAt0 m c (t.val - 1) (Nat.lt_of_le_of_lt (Nat.sub_le _ _) t.isLt)).2.2.1 := by
  rw [outsAt0_B m c t h]; frame_out; simp only [cr, if_neg h, Tile.dwr, Tile.dwi, read_unread_whole, tile, Tile.z0, Tile.hf, Tile.wr0, Tile.wi0, Tile.wr1, Tile.wi1, Tile.wr2, Tile.wi2, Tile.wr3, Tile.wi3, Tile.v7, Tile.v9, Tile.v11, Tile.v13, Tile.v14, Tile.v33, Tile.v35, Tile.v38, Tile.v43, Tile.v50, Tile.v55, Tile.v66, Tile.v68, Tile.v71, Tile.v78, Tile.v114, Tile.v116, Tile.v117, Tile.v122, Tile.v123, Tile.v125, Tile.v132, Tile.v140, Tile.v148, Tile.v156, Tile.v164, Tile.v172, Tile.v180, Tile.v181, Tile.v182, Tile.v188, Tile.v196, Tile.v204, Tile.v212, Tile.v220, Tile.v228, Tile.v236, Tile.v241, Tile.v242, Tile.v244, Tile.v252, Tile.v260, Tile.v268, Tile.v276, Tile.v284, Tile.v292, Tile.v300, Tile.v301, Tile.v302, Tile.v308, Tile.v316, Tile.v324, Tile.v332, Tile.v340, Tile.v348, Tile.v356, Tile.v361, Tile.v362, Tile.v364, Tile.v372, Tile.v380, Tile.v382, Tile.v389, Tile.v396, Tile.v433, Tile.v434, Tile.v443, Tile.v470, Tile.v497, Tile.v524, Tile.dxc, Tile.car, Tile.dlm, Tile.dbr, Tile.dbi]

theorem outs14_A (t : Fin cfg0.N) (h : t.val % 16 = 0) : (outsAt0 m c t.val t.isLt).2.2.2.2.1 = (tile m c t (cr m c t)).dbi (k0_pay6 (F := Ideal)) := by
  rw [outsAt0_A m c t h]; frame_out; simp only [cr, if_pos h, Tile.dwr, Tile.dwi, ↓load0, ↓load1, ↓load2, ↓load3, tile, Tile.z0, Tile.hf, Tile.wr0, Tile.wi0, Tile.wr1, Tile.wi1, Tile.wr2, Tile.wi2, Tile.wr3, Tile.wi3, Tile.v7, Tile.v9, Tile.v11, Tile.v13, Tile.v14, Tile.v33, Tile.v35, Tile.v38, Tile.v43, Tile.v50, Tile.v55, Tile.v66, Tile.v68, Tile.v71, Tile.v78, Tile.v114, Tile.v116, Tile.v117, Tile.v122, Tile.v123, Tile.v125, Tile.v132, Tile.v140, Tile.v148, Tile.v156, Tile.v164, Tile.v172, Tile.v180, Tile.v181, Tile.v182, Tile.v188, Tile.v196, Tile.v204, Tile.v212, Tile.v220, Tile.v228, Tile.v236, Tile.v241, Tile.v242, Tile.v244, Tile.v252, Tile.v260, Tile.v268, Tile.v276, Tile.v284, Tile.v292, Tile.v300, Tile.v301, Tile.v302, Tile.v308, Tile.v316, Tile.v324, Tile.v332, Tile.v340, Tile.v348, Tile.v356, Tile.v361, Tile.v362, Tile.v364, Tile.v372, Tile.v380, Tile.v382, Tile.v389, Tile.v396, Tile.v433, Tile.v434, Tile.v443, Tile.v470, Tile.v497, Tile.v524, Tile.dxc, Tile.car, Tile.dlm, Tile.dbr, Tile.dbi]

theorem outs14_B (t : Fin cfg0.N) (h : ¬t.val % 16 = 0) : (outsAt0 m c t.val t.isLt).2.2.2.2.1 = (tile m c t (cr m c t)).dbi (outsAt0 m c (t.val - 1) (Nat.lt_of_le_of_lt (Nat.sub_le _ _) t.isLt)).2.2.2.2.1 := by
  rw [outsAt0_B m c t h]; frame_out; simp only [cr, if_neg h, Tile.dwr, Tile.dwi, read_unread_whole, tile, Tile.z0, Tile.hf, Tile.wr0, Tile.wi0, Tile.wr1, Tile.wi1, Tile.wr2, Tile.wi2, Tile.wr3, Tile.wi3, Tile.v7, Tile.v9, Tile.v11, Tile.v13, Tile.v14, Tile.v33, Tile.v35, Tile.v38, Tile.v43, Tile.v50, Tile.v55, Tile.v66, Tile.v68, Tile.v71, Tile.v78, Tile.v114, Tile.v116, Tile.v117, Tile.v122, Tile.v123, Tile.v125, Tile.v132, Tile.v140, Tile.v148, Tile.v156, Tile.v164, Tile.v172, Tile.v180, Tile.v181, Tile.v182, Tile.v188, Tile.v196, Tile.v204, Tile.v212, Tile.v220, Tile.v228, Tile.v236, Tile.v241, Tile.v242, Tile.v244, Tile.v252, Tile.v260, Tile.v268, Tile.v276, Tile.v284, Tile.v292, Tile.v300, Tile.v301, Tile.v302, Tile.v308, Tile.v316, Tile.v324, Tile.v332, Tile.v340, Tile.v348, Tile.v356, Tile.v361, Tile.v362, Tile.v364, Tile.v372, Tile.v380, Tile.v382, Tile.v389, Tile.v396, Tile.v433, Tile.v434, Tile.v443, Tile.v470, Tile.v497, Tile.v524, Tile.dxc, Tile.car, Tile.dlm, Tile.dbr, Tile.dbi]

theorem outs15_A (t : Fin cfg0.N) (h : t.val % 16 = 0) : (outsAt0 m c t.val t.isLt).2.2.2.2.2.1 = (tile m c t (cr m c t)).dlm (k0_pay7 (F := Ideal)) := by
  rw [outsAt0_A m c t h]; frame_out; simp only [cr, if_pos h, Tile.dwr, Tile.dwi, ↓load0, ↓load1, ↓load2, ↓load3, tile, Tile.z0, Tile.hf, Tile.wr0, Tile.wi0, Tile.wr1, Tile.wi1, Tile.wr2, Tile.wi2, Tile.wr3, Tile.wi3, Tile.v7, Tile.v9, Tile.v11, Tile.v13, Tile.v14, Tile.v33, Tile.v35, Tile.v38, Tile.v43, Tile.v50, Tile.v55, Tile.v66, Tile.v68, Tile.v71, Tile.v78, Tile.v114, Tile.v116, Tile.v117, Tile.v122, Tile.v123, Tile.v125, Tile.v132, Tile.v140, Tile.v148, Tile.v156, Tile.v164, Tile.v172, Tile.v180, Tile.v181, Tile.v182, Tile.v188, Tile.v196, Tile.v204, Tile.v212, Tile.v220, Tile.v228, Tile.v236, Tile.v241, Tile.v242, Tile.v244, Tile.v252, Tile.v260, Tile.v268, Tile.v276, Tile.v284, Tile.v292, Tile.v300, Tile.v301, Tile.v302, Tile.v308, Tile.v316, Tile.v324, Tile.v332, Tile.v340, Tile.v348, Tile.v356, Tile.v361, Tile.v362, Tile.v364, Tile.v372, Tile.v380, Tile.v382, Tile.v389, Tile.v396, Tile.v433, Tile.v434, Tile.v443, Tile.v470, Tile.v497, Tile.v524, Tile.dxc, Tile.car, Tile.dlm, Tile.dbr, Tile.dbi]

theorem outs15_B (t : Fin cfg0.N) (h : ¬t.val % 16 = 0) : (outsAt0 m c t.val t.isLt).2.2.2.2.2.1 = (tile m c t (cr m c t)).dlm (outsAt0 m c (t.val - 1) (Nat.lt_of_le_of_lt (Nat.sub_le _ _) t.isLt)).2.2.2.2.2.1 := by
  rw [outsAt0_B m c t h]; frame_out; simp only [cr, if_neg h, Tile.dwr, Tile.dwi, read_unread_whole, tile, Tile.z0, Tile.hf, Tile.wr0, Tile.wi0, Tile.wr1, Tile.wi1, Tile.wr2, Tile.wi2, Tile.wr3, Tile.wi3, Tile.v7, Tile.v9, Tile.v11, Tile.v13, Tile.v14, Tile.v33, Tile.v35, Tile.v38, Tile.v43, Tile.v50, Tile.v55, Tile.v66, Tile.v68, Tile.v71, Tile.v78, Tile.v114, Tile.v116, Tile.v117, Tile.v122, Tile.v123, Tile.v125, Tile.v132, Tile.v140, Tile.v148, Tile.v156, Tile.v164, Tile.v172, Tile.v180, Tile.v181, Tile.v182, Tile.v188, Tile.v196, Tile.v204, Tile.v212, Tile.v220, Tile.v228, Tile.v236, Tile.v241, Tile.v242, Tile.v244, Tile.v252, Tile.v260, Tile.v268, Tile.v276, Tile.v284, Tile.v292, Tile.v300, Tile.v301, Tile.v302, Tile.v308, Tile.v316, Tile.v324, Tile.v332, Tile.v340, Tile.v348, Tile.v356, Tile.v361, Tile.v362, Tile.v364, Tile.v372, Tile.v380, Tile.v382, Tile.v389, Tile.v396, Tile.v433, Tile.v434, Tile.v443, Tile.v470, Tile.v497, Tile.v524, Tile.dxc, Tile.car, Tile.dlm, Tile.dbr, Tile.dbi]

theorem outs11_A (t : Fin cfg0.N) (h : t.val % 16 = 0) : (outsAt0 m c t.val t.isLt).2.1 = (tile m c t (cr m c t)).dwr (View.ld (k0_pay3 (F := Ideal)) hr0) (View.ld (k0_pay3 (F := Ideal)) hr1) (View.ld (k0_pay3 (F := Ideal)) hr2) (View.ld (k0_pay3 (F := Ideal)) hr3) [⟨Rect.unit ![0, 0, 0] ![4, 256, 256] inb_S4x256x256_S4x256x256_0_0_0, k0_pay3 (F := Ideal)⟩] := by
  rw [outsAt0_A m c t h]; frame_out; simp only [cr, if_pos h, Tile.dwr, Tile.dwi, ↓load0, ↓load1, ↓load2, ↓load3, tile, Tile.z0, Tile.hf, Tile.wr0, Tile.wi0, Tile.wr1, Tile.wi1, Tile.wr2, Tile.wi2, Tile.wr3, Tile.wi3, Tile.v7, Tile.v9, Tile.v11, Tile.v13, Tile.v14, Tile.v33, Tile.v35, Tile.v38, Tile.v43, Tile.v50, Tile.v55, Tile.v66, Tile.v68, Tile.v71, Tile.v78, Tile.v114, Tile.v116, Tile.v117, Tile.v122, Tile.v123, Tile.v125, Tile.v132, Tile.v140, Tile.v148, Tile.v156, Tile.v164, Tile.v172, Tile.v180, Tile.v181, Tile.v182, Tile.v188, Tile.v196, Tile.v204, Tile.v212, Tile.v220, Tile.v228, Tile.v236, Tile.v241, Tile.v242, Tile.v244, Tile.v252, Tile.v260, Tile.v268, Tile.v276, Tile.v284, Tile.v292, Tile.v300, Tile.v301, Tile.v302, Tile.v308, Tile.v316, Tile.v324, Tile.v332, Tile.v340, Tile.v348, Tile.v356, Tile.v361, Tile.v362, Tile.v364, Tile.v372, Tile.v380, Tile.v382, Tile.v389, Tile.v396, Tile.v433, Tile.v434, Tile.v443, Tile.v470, Tile.v497, Tile.v524, Tile.dxc, Tile.car, Tile.dlm, Tile.dbr, Tile.dbi]

theorem outs11_B (t : Fin cfg0.N) (h : ¬t.val % 16 = 0) : (outsAt0 m c t.val t.isLt).2.1 = (tile m c t (cr m c t)).dwr (View.ld (outsAt0 m c (t.val - 1) (Nat.lt_of_le_of_lt (Nat.sub_le _ _) t.isLt)).2.1 hr0) (View.ld (outsAt0 m c (t.val - 1) (Nat.lt_of_le_of_lt (Nat.sub_le _ _) t.isLt)).2.1 hr1) (View.ld (outsAt0 m c (t.val - 1) (Nat.lt_of_le_of_lt (Nat.sub_le _ _) t.isLt)).2.1 hr2) (View.ld (outsAt0 m c (t.val - 1) (Nat.lt_of_le_of_lt (Nat.sub_le _ _) t.isLt)).2.1 hr3) [] := by
  rw [outsAt0_B m c t h]; frame_out; simp only [cr, if_neg h, Tile.dwr, Tile.dwi, read_unread_whole, tile, Tile.z0, Tile.hf, Tile.wr0, Tile.wi0, Tile.wr1, Tile.wi1, Tile.wr2, Tile.wi2, Tile.wr3, Tile.wi3, Tile.v7, Tile.v9, Tile.v11, Tile.v13, Tile.v14, Tile.v33, Tile.v35, Tile.v38, Tile.v43, Tile.v50, Tile.v55, Tile.v66, Tile.v68, Tile.v71, Tile.v78, Tile.v114, Tile.v116, Tile.v117, Tile.v122, Tile.v123, Tile.v125, Tile.v132, Tile.v140, Tile.v148, Tile.v156, Tile.v164, Tile.v172, Tile.v180, Tile.v181, Tile.v182, Tile.v188, Tile.v196, Tile.v204, Tile.v212, Tile.v220, Tile.v228, Tile.v236, Tile.v241, Tile.v242, Tile.v244, Tile.v252, Tile.v260, Tile.v268, Tile.v276, Tile.v284, Tile.v292, Tile.v300, Tile.v301, Tile.v302, Tile.v308, Tile.v316, Tile.v324, Tile.v332, Tile.v340, Tile.v348, Tile.v356, Tile.v361, Tile.v362, Tile.v364, Tile.v372, Tile.v380, Tile.v382, Tile.v389, Tile.v396, Tile.v433, Tile.v434, Tile.v443, Tile.v470, Tile.v497, Tile.v524, Tile.dxc, Tile.car, Tile.dlm, Tile.dbr, Tile.dbi]

theorem outs13_A (t : Fin cfg0.N) (h : t.val % 16 = 0) : (outsAt0 m c t.val t.isLt).2.2.2.1 = (tile m c t (cr m c t)).dwi (View.ld (k0_pay5 (F := Ideal)) hr0) (View.ld (k0_pay5 (F := Ideal)) hr1) (View.ld (k0_pay5 (F := Ideal)) hr2) (View.ld (k0_pay5 (F := Ideal)) hr3) [⟨Rect.unit ![0, 0, 0] ![4, 256, 256] inb_S4x256x256_S4x256x256_0_0_0, k0_pay5 (F := Ideal)⟩] := by
  rw [outsAt0_A m c t h]; frame_out; simp only [cr, if_pos h, Tile.dwr, Tile.dwi, ↓load0, ↓load1, ↓load2, ↓load3, tile, Tile.z0, Tile.hf, Tile.wr0, Tile.wi0, Tile.wr1, Tile.wi1, Tile.wr2, Tile.wi2, Tile.wr3, Tile.wi3, Tile.v7, Tile.v9, Tile.v11, Tile.v13, Tile.v14, Tile.v33, Tile.v35, Tile.v38, Tile.v43, Tile.v50, Tile.v55, Tile.v66, Tile.v68, Tile.v71, Tile.v78, Tile.v114, Tile.v116, Tile.v117, Tile.v122, Tile.v123, Tile.v125, Tile.v132, Tile.v140, Tile.v148, Tile.v156, Tile.v164, Tile.v172, Tile.v180, Tile.v181, Tile.v182, Tile.v188, Tile.v196, Tile.v204, Tile.v212, Tile.v220, Tile.v228, Tile.v236, Tile.v241, Tile.v242, Tile.v244, Tile.v252, Tile.v260, Tile.v268, Tile.v276, Tile.v284, Tile.v292, Tile.v300, Tile.v301, Tile.v302, Tile.v308, Tile.v316, Tile.v324, Tile.v332, Tile.v340, Tile.v348, Tile.v356, Tile.v361, Tile.v362, Tile.v364, Tile.v372, Tile.v380, Tile.v382, Tile.v389, Tile.v396, Tile.v433, Tile.v434, Tile.v443, Tile.v470, Tile.v497, Tile.v524, Tile.dxc, Tile.car, Tile.dlm, Tile.dbr, Tile.dbi]

theorem outs13_B (t : Fin cfg0.N) (h : ¬t.val % 16 = 0) : (outsAt0 m c t.val t.isLt).2.2.2.1 = (tile m c t (cr m c t)).dwi (View.ld (outsAt0 m c (t.val - 1) (Nat.lt_of_le_of_lt (Nat.sub_le _ _) t.isLt)).2.2.2.1 hr0) (View.ld (outsAt0 m c (t.val - 1) (Nat.lt_of_le_of_lt (Nat.sub_le _ _) t.isLt)).2.2.2.1 hr1) (View.ld (outsAt0 m c (t.val - 1) (Nat.lt_of_le_of_lt (Nat.sub_le _ _) t.isLt)).2.2.2.1 hr2) (View.ld (outsAt0 m c (t.val - 1) (Nat.lt_of_le_of_lt (Nat.sub_le _ _) t.isLt)).2.2.2.1 hr3) [] := by
  rw [outsAt0_B m c t h]; frame_out; simp only [cr, if_neg h, Tile.dwr, Tile.dwi, read_unread_whole, tile, Tile.z0, Tile.hf, Tile.wr0, Tile.wi0, Tile.wr1, Tile.wi1, Tile.wr2, Tile.wi2, Tile.wr3, Tile.wi3, Tile.v7, Tile.v9, Tile.v11, Tile.v13, Tile.v14, Tile.v33, Tile.v35, Tile.v38, Tile.v43, Tile.v50, Tile.v55, Tile.v66, Tile.v68, Tile.v71, Tile.v78, Tile.v114, Tile.v116, Tile.v117, Tile.v122, Tile.v123, Tile.v125, Tile.v132, Tile.v140, Tile.v148, Tile.v156, Tile.v164, Tile.v172, Tile.v180, Tile.v181, Tile.v182, Tile.v188, Tile.v196, Tile.v204, Tile.v212, Tile.v220, Tile.v228, Tile.v236, Tile.v241, Tile.v242, Tile.v244, Tile.v252, Tile.v260, Tile.v268, Tile.v276, Tile.v284, Tile.v292, Tile.v300, Tile.v301, Tile.v302, Tile.v308, Tile.v316, Tile.v324, Tile.v332, Tile.v340, Tile.v348, Tile.v356, Tile.v361, Tile.v362, Tile.v364, Tile.v372, Tile.v380, Tile.v382, Tile.v389, Tile.v396, Tile.v433, Tile.v434, Tile.v443, Tile.v470, Tile.v497, Tile.v524, Tile.dxc, Tile.car, Tile.dlm, Tile.dbr, Tile.dbi]

end Outs

end Cert.BwdGatesIdeal.Hand

end
-- ==== Proof.GatesRefBack.lean ====
/- The unit's reference, backward: the scan's adjoint and the gradients. -/
module

public import proofs.«01_k».proof.Proof.GatesRef
public import proofs.«01_k».proof.Proof.Sums

@[expose] public section

set_option maxRecDepth 16384

noncomputable section

namespace Cert.BwdGatesRefIdeal.Hand

open Cert.BwdGatesRefIdeal Cert.BwdGatesRefIdeal.Read Idealize.ShloMosaic Idealize.ShloMosaic.TcCoe Idealize.SL.Sem
open Cert.LruMath Cert.GatesMath

variable {x0 : FVec Ideal S1x4096x6144 .f32} {x1 : FVec Ideal S1x4x1024 .f32} {x2 : FVec Ideal S1x1024 .f32}
  {x3 : FVec Ideal S1x4x256x256 .f32} {x4 : FVec Ideal S1x4x256 .f32} {x5 : FVec Ideal S1x4x256x256 .f32}
  {x6 : FVec Ideal S1x4x256 .f32} {x7 : FVec Ideal S1x1024 .f32} {x8 : FVec Ideal S1x4096x1024 .f32} {D : Data}
  (H : Args x0 x1 x2 x3 x4 x5 x6 x7 x8 D)
include H

theorem G0 : Is (val_main_v260 (F := Ideal) x0 x8) (fun t j => GB (fun u => D.a u j) (fun u => D.g u j) 0 t) := g_is H

theorem G1 : Is (val_main_v266 (F := Ideal) x0 x1 x2 x3 x4 x7 x8) (fun t j => GB (fun u => D.a u j) (fun u => D.g u j) 1 t) := fun t j => by
  pointwise [val_main_v266, val_main_v265, val_main_v264, val_main_v261, val_main_cst_61]
  rw [G0 H, fwd_at (A11 H) (G0 H) 2048 2048 rfl, ← EReal.coe_add]; rfl

theorem G2 : Is (val_main_v272 (F := Ideal) x0 x1 x2 x3 x4 x7 x8) (fun t j => GB (fun u => D.a u j) (fun u => D.g u j) 2 t) := fun t j => by
  pointwise [val_main_v272, val_main_v271, val_main_v270, val_main_v267, val_main_cst_62]
  rw [G1 H, fwd_at (A10 H) (G1 H) 1024 3072 rfl, ← EReal.coe_add]; rfl

theorem G3 : Is (val_main_v285 (F := Ideal) x0 x1 x2 x3 x4 x7 x8) (fun t j => GB (fun u => D.a u j) (fun u => D.g u j) 3 t) := fun t j => by
  pointwise [val_main_v285, val_main_v284, val_main_v283, val_main_v280, val_main_cst_64]
  rw [G2 H, fwd_at (A9 H) (G2 H) 512 3584 rfl, ← EReal.coe_add]; rfl

theorem G4 : Is (val_main_v298 (F := Ideal) x0 x1 x2 x3 x4 x7 x8) (fun t j => GB (fun u => D.a u j) (fun u => D.g u j) 4 t) := fun t j => by
  pointwise [val_main_v298, val_main_v297, val_main_v296, val_main_v293, val_main_cst_66]
  rw [G3 H, fwd_at (A8 H) (G3 H) 256 3840 rfl, ← EReal.coe_add]; rfl

theorem G5 : Is (val_main_v311 (F := Ideal) x0 x1 x2 x3 x4 x7 x8) (fun t j => GB (fun u => D.a u j) (fun u => D.g u j) 5 t) := fun t j => by
  pointwise [val_main_v311, val_main_v310, val_main_v309, val_main_v306, val_main_cst_68]
  rw [G4 H, fwd_at (A7 H) (G4 H) 128 3968 rfl, ← EReal.coe_add]; rfl

theorem G6 : Is (val_main_v324 (F := Ideal) x0 x1 x2 x3 x4 x7 x8) (fun t j => GB (fun u => D.a u j) (fun u => D.g u j) 6 t) := fun t j => by
  pointwise [val_main_v324, val_main_v323, val_main_v322, val_main_v319, val_main_cst_70]
  rw [G5 H, fwd_at (A6 H) (G5 H) 64 4032 rfl, ← EReal.coe_add]; rfl

theorem G7 : Is (val_main_v337 (F := Ideal) x0 x1 x2 x3 x4 x7 x8) (fun t j => GB (fun u => D.a u j) (fun u => D.g u j) 7 t) := fun t j => by
  pointwise [val_main_v337, val_main_v336, val_main_v335, val_main_v332, val_main_cst_72]
  rw [G6 H, fwd_at (A5 H) (G6 H) 32 4064 rfl, ← EReal.coe_add]; rfl

theorem G8 : Is (val_main_v350 (F := Ideal) x0 x1 x2 x3 x4 x7 x8) (fun t j => GB (fun u => D.a u j) (fun u => D.g u j) 8 t) := fun t j => by
  pointwise [val_main_v350, val_main_v349, val_main_v348, val_main_v345, val_main_cst_74]
  rw [G7 H, fwd_at (A4 H) (G7 H) 16 4080 rfl, ← EReal.coe_add]; rfl

theorem G9 : Is (val_main_v363 (F := Ideal) x0 x1 x2 x3 x4 x7 x8) (fun t j => GB (fun u => D.a u j) (fun u => D.g u j) 9 t) := fun t j => by
  pointwise [val_main_v363, val_main_v362, val_main_v361, val_main_v358, val_main_cst_76]
  rw [G8 H, fwd_at (A3 H) (G8 H) 8 4088 rfl, ← EReal.coe_add]; rfl

theorem G10 : Is (val_main_v376 (F := Ideal) x0 x1 x2 x3 x4 x7 x8) (fun t j => GB (fun u => D.a u j) (fun u => D.g u j) 10 t) := fun t j => by
  pointwise [val_main_v376, val_main_v375, val_main_v374, val_main_v371, val_main_cst_78]
  rw [G9 H, fwd_at (A2 H) (G9 H) 4 4092 rfl, ← EReal.coe_add]; rfl

theorem G11 : Is (val_main_v389 (F := Ideal) x0 x1 x2 x3 x4 x7 x8) (fun t j => GB (fun u => D.a u j) (fun u => D.g u j) 11 t) := fun t j => by
  pointwise [val_main_v389, val_main_v388, val_main_v387, val_main_v384, val_main_cst_80]
  rw [G10 H, fwd_at (A1 H) (G10 H) 2 4094 rfl, ← EReal.coe_add]; rfl

theorem G12 : Is (val_main_v402 (F := Ideal) x0 x1 x2 x3 x4 x7 x8) (fun t j => GB (fun u => D.a u j) (fun u => D.g u j) 12 t) := fun t j => by
  pointwise [val_main_v402, val_main_v401, val_main_v400, val_main_v397, val_main_cst_82]
  rw [G11 H, fwd_at (A0 H) (G11 H) 1 4095 rfl, ← EReal.coe_add]; rfl

theorem L1 : Is (val_main_v262 (F := Ideal) x0 x1 x2 x3 x4 x5 x6 x7 x8) (fun t j => GA (fun u => D.a u j) (fun u => D.bx u j) (fun u => D.g u j) 1 t) := fun t j => by
  pointwise [val_main_v262]
  rw [G0 H, Bb11 H, ← EReal.coe_mul]
  simp only [GA, zero_mul, mul_zero, add_zero, fwd, ite_self]; rfl

theorem L2 : Is (val_main_v279 (F := Ideal) x0 x1 x2 x3 x4 x5 x6 x7 x8) (fun t j => GA (fun u => D.a u j) (fun u => D.bx u j) (fun u => D.g u j) 2 t) := fun t j => by
  pointwise [val_main_v279, val_main_v275, val_main_v268, val_main_v274, val_main_v278, val_main_v277, val_main_v273, val_main_cst_63]
  rw [G1 H, L1 H, Bb10 H, Ab10 H, fwd_at (A10 H) (L1 H) 1024 3072 rfl, ← EReal.coe_mul, ← EReal.coe_mul, ← EReal.coe_add, ← EReal.coe_add]; rfl

theorem L3 : Is (val_main_v292 (F := Ideal) x0 x1 x2 x3 x4 x5 x6 x7 x8) (fun t j => GA (fun u => D.a u j) (fun u => D.bx u j) (fun u => D.g u j) 3 t) := fun t j => by
  pointwise [val_main_v292, val_main_v288, val_main_v281, val_main_v287, val_main_v291, val_main_v290, val_main_v286, val_main_cst_65]
  rw [G2 H, L2 H, Bb9 H, Ab9 H, fwd_at (A9 H) (L2 H) 512 3584 rfl, ← EReal.coe_mul, ← EReal.coe_mul, ← EReal.coe_add, ← EReal.coe_add]; rfl

theorem L4 : Is (val_main_v305 (F := Ideal) x0 x1 x2 x3 x4 x5 x6 x7 x8) (fun t j => GA (fun u => D.a u j) (fun u => D.bx u j) (fun u => D.g u j) 4 t) := fun t j => by
  pointwise [val_main_v305, val_main_v301, val_main_v294, val_main_v300, val_main_v304, val_main_v303, val_main_v299, val_main_cst_67]
  rw [G3 H, L3 H, Bb8 H, Ab8 H, fwd_at (A8 H) (L3 H) 256 3840 rfl, ← EReal.coe_mul, ← EReal.coe_mul, ← EReal.coe_add, ← EReal.coe_add]; rfl

theorem L5 : Is (val_main_v318 (F := Ideal) x0 x1 x2 x3 x4 x5 x6 x7 x8) (fun t j => GA (fun u => D.a u j) (fun u => D.bx u j) (fun u => D.g u j) 5 t) := fun t j => by
  pointwise [val_main_v318, val_main_v314, val_main_v307, val_main_v313, val_main_v317, val_main_v316, val_main_v312, val_main_cst_69]
  rw [G4 H, L4 H, Bb7 H, Ab7 H, fwd_at (A7 H) (L4 H) 128 3968 rfl, ← EReal.coe_mul, ← EReal.coe_mul, ← EReal.coe_add, ← EReal.coe_add]; rfl

theorem L6 : Is (val_main_v331 (F := Ideal) x0 x1 x2 x3 x4 x5 x6 x7 x8) (fun t j => GA (fun u => D.a u j) (fun u => D.bx u j) (fun u => D.g u j) 6 t) := fun t j => by
  pointwise [val_main_v331, val_main_v327, val_main_v320, val_main_v326, val_main_v330, val_main_v329, val_main_v325, val_main_cst_71]
  rw [G5 H, L5 H, Bb6 H, Ab6 H, fwd_at (A6 H) (L5 H) 64 4032 rfl, ← EReal.coe_mul, ← EReal.coe_mul, ← EReal.coe_add, ← EReal.coe_add]; rfl

theorem L7 : Is (val_main_v344 (F := Ideal) x0 x1 x2 x3 x4 x5 x6 x7 x8) (fun t j => GA (fun u => D.a u j) (fun u => D.bx u j) (fun u => D.g u j) 7 t) := fun t j => by
  pointwise [val_main_v344, val_main_v340, val_main_v333, val_main_v339, val_main_v343, val_main_v342, val_main_v338, val_main_cst_73]
  rw [G6 H, L6 H, Bb5 H, Ab5 H, fwd_at (A5 H) (L6 H) 32 4064 rfl, ← EReal.coe_mul, ← EReal.coe_mul, ← EReal.coe_add, ← EReal.coe_add]; rfl

theorem L8 : Is (val_main_v357 (F := Ideal) x0 x1 x2 x3 x4 x5 x6 x7 x8) (fun t j => GA (fun u => D.a u j) (fun u => D.bx u j) (fun u => D.g u j) 8 t) := fun t j => by
  pointwise [val_main_v357, val_main_v353, val_main_v346, val_main_v352, val_main_v356, val_main_v355, val_main_v351, val_main_cst_75]
  rw [G7 H, L7 H, Bb4 H, Ab4 H, fwd_at (A4 H) (L7 H) 16 4080 rfl, ← EReal.coe_mul, ← EReal.coe_mul, ← EReal.coe_add, ← EReal.coe_add]; rfl

theorem L9 : Is (val_main_v370 (F := Ideal) x0 x1 x2 x3 x4 x5 x6 x7 x8) (fun t j => GA (fun u => D.a u j) (fun u => D.bx u j) (fun u => D.g u j) 9 t) := fun t j => by
  pointwise [val_main_v370, val_main_v366, val_main_v359, val_main_v365, val_main_v369, val_main_v368, val_main_v364, val_main_cst_77]
  rw [G8 H, L8 H, Bb3 H, Ab3 H, fwd_at (A3 H) (L8 H) 8 4088 rfl, ← EReal.coe_mul, ← EReal.coe_mul, ← EReal.coe_add, ← EReal.coe_add]; rfl

theorem L10 : Is (val_main_v383 (F := Ideal) x0 x1 x2 x3 x4 x5 x6 x7 x8) (fun t j => GA (fun u => D.a u j) (fun u => D.bx u j) (fun u => D.g u j) 10 t) := fun t j => by
  pointwise [val_main_v383, val_main_v379, val_main_v372, val_main_v378, val_main_v382, val_main_v381, val_main_v377, val_main_cst_79]
  rw [G9 H, L9 H, Bb2 H, Ab2 H, fwd_at (A2 H) (L9 H) 4 4092 rfl, ← EReal.coe_mul, ← EReal.coe_mul, ← EReal.coe_add, ← EReal.coe_add]; rfl

theorem L11 : Is (val_main_v396 (F := Ideal) x0 x1 x2 x3 x4 x5 x6 x7 x8) (fun t j => GA (fun u => D.a u j) (fun u => D.bx u j) (fun u => D.g u j) 11 t) := fun t j => by
  pointwise [val_main_v396, val_main_v392, val_main_v385, val_main_v391, val_main_v395, val_main_v394, val_main_v390, val_main_cst_81]
  rw [G10 H, L10 H, Bb1 H, Ab1 H, fwd_at (A1 H) (L10 H) 2 4094 rfl, ← EReal.coe_mul, ← EReal.coe_mul, ← EReal.coe_add, ← EReal.coe_add]; rfl

theorem L12 : Is (val_main_v409 (F := Ideal) x0 x1 x2 x3 x4 x5 x6 x7 x8) (fun t j => GA (fun u => D.a u j) (fun u => D.bx u j) (fun u => D.g u j) 12 t) := fun t j => by
  pointwise [val_main_v409, val_main_v405, val_main_v398, val_main_v404, val_main_v408, val_main_v407, val_main_v403, val_main_cst_83]
  rw [G11 H, L11 H, Bb0 H, Ab0 H, fwd_at (A0 H) (L11 H) 1 4095 rfl, ← EReal.coe_mul, ← EReal.coe_mul, ← EReal.coe_add, ← EReal.coe_add]; rfl

theorem lam_is : Is (val_main_v402 (F := Ideal) x0 x1 x2 x3 x4 x7 x8) D.lam := G12 H
/-- The gradient in the decay. -/
theorem da_is : Is (val_main_v409 (F := Ideal) x0 x1 x2 x3 x4 x5 x6 x7 x8) (fun t j => D.lam t j * Data.bk 1 D.h t j) := fun t j =>
  (L12 H t j).trans (congrArg _ (GA_last _ _ _ t t.isLt))

/-! ### The gradients of the unit's arguments -/

theorem lm_is : Is (val_main_v411 (F := Ideal) x0 x1 x2 x3 x4 x7 x8) (fun t j => D.lam t j * D.mult t j) := fun t j => by
  pointwise [val_main_v411]
  rw [lam_is H, mult_is H, ← EReal.coe_mul]

theorem dir_is : Is (val_main_v413 (F := Ideal) x0 x1 x2 x3 x4 x5 x6 x7 x8) D.dir := fun t j => by
  pointwise [val_main_v413]
  rw [lm_is H, ig_is H, ← EReal.coe_mul]; congr 1; unfold Data.dir; ring

theorem dla_is : Is (val_main_v420 (F := Ideal) x0 x1 x2 x3 x4 x5 x6 x7 x8) D.dla := fun t j => by
  pointwise [val_main_v420, val_main_v418, val_main_v417, val_main_cst_84, val_main_v416, val_main_v415, val_main_v414, val_main_v410, val_main_v419]
  rw [xi_is H, lam_is H, hm_is H, e2_is H, da_is H, a_is H, bits_two]
  simp only [← EReal.coe_mul, ← EReal.coe_neg, ← EReal.coe_add]
  congr 1
  have e : Real.exp (2 * D.la t j) = D.a t j * D.a t j := by unfold Data.a; rw [← Real.exp_add]; ring_nf
  unfold Data.dla; rw [e]; ring

theorem dpi_at (t : Fin 4096) (h : Fin 4) (x : Fin 256) : (val_main_v432 (F := Ideal) x0 x1 x2 x3 x4 x5 x6 x7 x8) (ix4 0 t h x) = ((D.dpi t (col h x) : ℝ) : EReal) := by
  pointwise [val_main_v432, val_main_v431, val_main_v412]
  rw [xc_is H, lm_is H, dig4_at H]
  simp only [← EReal.coe_mul]
  congr 1; unfold Data.dpi Data.dir; ring

theorem dpr_at (t : Fin 4096) (h : Fin 4) (x : Fin 256) : (val_main_v442 (F := Ideal) x0 x1 x2 x3 x4 x5 x6 x7 x8) (ix4 0 t h x) = ((D.dpr t (col h x) : ℝ) : EReal) := by
  pointwise [val_main_v442, val_main_v441, val_main_v430, val_main_v429, val_main_cst_87, val_main_v425, val_main_v424, val_main_v76]
  rw [dla_is H, sp_at H, dr4_at H, bits_m8]
  simp only [← EReal.coe_mul]
  congr 1; unfold Data.dpr; ring

theorem dbi_at (h : Fin 4) (x : Fin 256) : (val_main_v435 (F := Ideal) x0 x1 x2 x3 x4 x5 x6 x7 x8) (ix2 h x) = ((D.dbi (col h x) : ℝ) : EReal) := by
  pointwise [val_main_v435, val_main_cst_89]
  refine (Cert.Math.sum_first_two4 _ _ _ h x).trans ?_
  pointwise [val_main_v434, val_main_v433, val_main_cst_88]
  simp only [dpi_at H, coe_sum, zero_add]
  rfl

theorem dbr_at (h : Fin 4) (x : Fin 256) : (val_main_v445 (F := Ideal) x0 x1 x2 x3 x4 x5 x6 x7 x8) (ix2 h x) = ((D.dbr (col h x) : ℝ) : EReal) := by
  pointwise [val_main_v445, val_main_cst_91]
  refine (Cert.Math.sum_first_two4 _ _ _ h x).trans ?_
  pointwise [val_main_v444, val_main_v443, val_main_cst_90]
  simp only [dpr_at H, coe_sum, zero_add]
  rfl

/-- The gradients, result by result. -/
theorem dxc_at (t : Fin 4096) (j : Fin 1024) : (val_main_v459 (F := Ideal) x0 x1 x2 x3 x4 x5 x6 x7 x8) (ix2 t j) = ((D.dxc t j : ℝ) : EReal) := by
  pointwise [val_main_v459, val_main_v453, val_main_v452, val_main_v449, val_main_v438, val_main_v437, val_main_v436, val_main_v38, val_main_v448, val_main_v447, val_main_v446, val_main_v36]
  simp only [dir_is H _ _, dpi_at H, dpr_at H, H.wr, H.wi, ← EReal.coe_mul, coe_sum, ← EReal.coe_add]
  congr 1
  simp only [Data.dxc]
  ring

theorem dwr_at (h : Fin 4) (i k : Fin 256) : (val_main_v460 (F := Ideal) x0 x1 x2 x3 x4 x5 x6 x7 x8) (ix3 h i k) = ((D.dwr h i k : ℝ) : EReal) := by
  pointwise [val_main_v460, val_main_v458, val_main_v451, val_main_v450, val_main_v446, val_main_v41]
  simp only [xc_is H _ _, dpr_at H, ← EReal.coe_mul, coe_sum, Fin.sum_univ_one]
  exact congrArg _ (Finset.sum_congr rfl fun t _ => mul_comm _ _)

theorem dwi_at (h : Fin 4) (i k : Fin 256) : (val_main_v462 (F := Ideal) x0 x1 x2 x3 x4 x5 x6 x7 x8) (ix3 h i k) = ((D.dwi h i k : ℝ) : EReal) := by
  pointwise [val_main_v462, val_main_v456, val_main_v440, val_main_v439, val_main_v436, val_main_v41]
  simp only [xc_is H _ _, dpi_at H, ← EReal.coe_mul, coe_sum, Fin.sum_univ_one]
  exact congrArg _ (Finset.sum_congr rfl fun t _ => mul_comm _ _)

theorem db1_at (j : Fin 1024) : (val_main_v461 (F := Ideal) x0 x1 x2 x3 x4 x5 x6 x7 x8) (ix2 0 j) = ((D.dbr j : ℝ) : EReal) := by
  pointwise [val_main_v461, val_main_v457]
  exact (dbr_at H _ _).trans (by rw [col_hd_lo])

theorem db2_at (j : Fin 1024) : (val_main_v463 (F := Ideal) x0 x1 x2 x3 x4 x5 x6 x7 x8) (ix2 0 j) = ((D.dbi j : ℝ) : EReal) := by
  pointwise [val_main_v463, val_main_v455]
  exact (dbi_at H _ _).trans (by rw [col_hd_lo])

theorem sum_at (j : Fin 1024) : (val_main_v426 (F := Ideal) x0 x1 x2 x3 x4 x5 x6 x7 x8) (ix1 j) = ((∑ t : Fin 4096, -8 * D.r t j * D.dla t j : ℝ) : EReal) := by
  pointwise [val_main_v426, val_main_cst_86]
  refine (Cert.Math.sum_first_two _ _ _ j).trans ?_
  pointwise [val_main_v423, val_main_v422, val_main_v421, val_main_cst_85]
  simp only [m8r_is H _ _, dla_is H _ _, ← EReal.coe_mul, coe_sum, zero_add]

theorem dlm_at (j : Fin 1024) : (val_main_v454 (F := Ideal) x0 x1 x2 x3 x4 x5 x6 x7 x8) (ix2 0 j) = ((D.dlm j : ℝ) : EReal) := by
  pointwise [val_main_v454, val_main_v428, val_main_v427]
  rw [sum_at H, dsp_at H, ← EReal.coe_mul, ← EReal.coe_neg]
  congr 1
  rw [Data.dlm, Finset.sum_mul, ← Finset.sum_neg_distrib]
  exact Finset.sum_congr rfl fun t _ => by ring

end Cert.BwdGatesRefIdeal.Hand

end
-- ==== Proof.GatesRun.lean ====
/- One device's gradients of the gated recurrence: after the call's run its six result arrays are the differentiated forward lines'. -/
module

public import proofs.«01_k».proof.Defs
public import proofs.«01_k».proof.Proof.Finite
public import proofs.«01_k».proof.Proof.GatesOuts
public import proofs.«01_k».proof.Proof.GatesRefBack
public import proofs.«01_k».proof.Proof.Gen.BwdGatesIdeal.Value
public import proofs.«01_k».proof.Proof.Gen.BwdGatesRefIdeal.Run
public import Idealize.ShloMosaic.Lib.Quiescent

@[expose] public section

set_option maxRecDepth 16384

noncomputable section

namespace Cert.BwdGatesIdeal.Hand

open Cert.BwdGatesIdeal Cert.BwdGatesIdeal.Gen Idealize.ShloMosaic Idealize.ShloMosaic.TcCoe Idealize.SL.Sem
open Idealize.ShloMosaic.Pipeline (Dat)
open Cert.LruMath Cert.GatesMath

theorem zero3_at (j : S4x256x256.Idx) : k0_pay3 (F := Ideal) j = 0 := by pointwise [k0_pay3]
theorem zero4_at (j : S1x1024.Idx) : k0_pay4 (F := Ideal) j = 0 := by pointwise [k0_pay4]
theorem zero5_at (j : S4x256x256.Idx) : k0_pay5 (F := Ideal) j = 0 := by pointwise [k0_pay5]
theorem zero6_at (j : S1x1024.Idx) : k0_pay6 (F := Ideal) j = 0 := by pointwise [k0_pay6]
theorem zero7_at (j : S1x1024.Idx) : k0_pay7 (F := Ideal) j = 0 := by pointwise [k0_pay7]
theorem zero8_at (j : S1x1024.Idx) : k0_pay8 (F := Ideal) j = 0 := by pointwise [k0_pay8]

/-- The tiles, from the last to the first, are all the rows. -/
theorem rev_sum (f : ℕ → ℝ) : ∑ t : Fin cfg0.N, ((∑ x : Fin 256, f (256 * (15 - t.val) + x.val) : ℝ) : EReal) = ((∑ t : Fin 4096, f t.val : ℝ) : EReal) := by
  rw [coe_sum, Fin.sum_univ_tiles 16 256 rfl]
  refine congrArg _ ?_
  show ∑ t : Fin 16, ∑ x : Fin 256, f (256 * (15 - t.val) + x.val) = _
  refine Fintype.sum_equiv Fin.revPerm _ _ fun t => Finset.sum_congr rfl fun x _ => ?_
  refine congrArg f ?_
  simp only [Fin.revPerm_apply, Fin.val_rev]
  have := t.isLt
  omega

/-- The heads' blocks of what the window held. -/
theorem ld_heads (v : Vec Ideal S4x256x256 .f32) (h : Fin 4) (i k : Fin 256) :
    (![View.ld v hr0, View.ld v hr1, View.ld v hr2, View.ld v hr3] h : FVec Ideal S1x256x256 .f32) (ix3 0 i k) = v (ix3 h i k) := by
  match h with
  | 0 => exact congrArg v (by blk_ext <;> [exact (show 0 + 1 * 0 = 0 from rfl); exact (show 0 + 1 * i.val = i.val by omega); exact (show 0 + 1 * k.val = k.val by omega)])
  | 1 => exact congrArg v (by blk_ext <;> [exact (show 1 + 1 * 0 = 1 from rfl); exact (show 0 + 1 * i.val = i.val by omega); exact (show 0 + 1 * k.val = k.val by omega)])
  | 2 => exact congrArg v (by blk_ext <;> [exact (show 2 + 1 * 0 = 2 from rfl); exact (show 0 + 1 * i.val = i.val by omega); exact (show 0 + 1 * k.val = k.val by omega)])
  | 3 => exact congrArg v (by blk_ext <;> [exact (show 3 + 1 * 0 = 3 from rfl); exact (show 0 + 1 * i.val = i.val by omega); exact (show 0 + 1 * k.val = k.val by omega)])

variable {m : (ℓ : Loc nD τ sig) → Buf (Elt Ideal) ℓ} {c : Dev nD} {D : Data}
variable (A : Cert.BwdGatesRefIdeal.Hand.Args (V0 m c) (V1 m c) (V2 m c) (V3 m c) (V4 m c) (V5 m c) (V6 m c) (V7 m c) (V8 m c) D)
include A

/-- The row carried out of a point. -/
theorem carry : ∀ (n : ℕ) (hn : n < cfg0.N) (j : Fin 1024), ((outsAt0 m c n hn).2.2.2.2.2.2 (ix2 0 j) : EReal)
    = ((D.a (256 * (15 - n)) j * D.lam (256 * (15 - n)) j : ℝ) : EReal) := by
  intro n
  induction n with
  | zero =>
    intro hn j
    refine (congrFun (outs16_A m c ⟨0, hn⟩ rfl) _).trans (Tile.car_at (holds A ⟨0, hn⟩ _ fun i => ?_) j)
    unfold cr
    rw [if_pos (show (⟨0, hn⟩ : Fin cfg0.N).val % 16 = 0 from rfl), zero8_at]
    exact EReal.coe_zero.symm
  | succ n ih =>
    intro hn j
    have hl := lt16 ⟨n + 1, hn⟩
    have h0 : ¬(⟨n + 1, hn⟩ : Fin cfg0.N).val % 16 = 0 := by dsimp only at hl ⊢; omega
    refine (congrFun (outs16_B m c ⟨n + 1, hn⟩ h0) _).trans (Tile.car_at (holds A ⟨n + 1, hn⟩ _ fun i => ?_) j)
    unfold cr
    rw [if_neg h0]
    refine (ih (Nat.lt_of_succ_lt hn) i).trans ?_
    dsimp only at hl
    unfold Data.cin
    rw [if_pos (by dsimp only; omega), show 256 * (15 - (⟨n + 1, hn⟩ : Fin cfg0.N).val) + 256 = 256 * (15 - n) from by dsimp only; omega]

/-- What a point finds carried. -/
theorem cr_at (t : Fin cfg0.N) (j : Fin 1024) : (cr m c t (ix2 0 j) : EReal) = ((D.cin (15 - t.val) j : ℝ) : EReal) := by
  have hl := lt16 t
  unfold cr Data.cin
  by_cases h : t.val % 16 = 0
  · rw [if_pos h, if_neg (by omega), zero8_at]; exact EReal.coe_zero.symm
  · rw [if_neg h, if_pos (by omega)]
    refine (carry A _ _ j).trans ?_
    rw [show 256 * (15 - t.val) + 256 = 256 * (15 - (t.val - 1)) from by omega]

/-- A point's blocks hold its tile's rows. -/
theorem at_point (t : Fin cfg0.N) : (tile m c t (cr m c t)).Holds D (15 - t.val) := holds A t _ (cr_at A t)

theorem outs10 (t : Fin cfg0.N) : (outsAt0 m c t.val t.isLt).1 = (tile m c t (cr m c t)).dxc := by
  by_cases h : t.val % 16 = 0
  · exact outs10_A m c t h
  · exact outs10_B m c t h

/-- The gradient in the convolution's result, tile by tile. -/
theorem final10 : (dats m 0 c).arrAt 10 (cfgs 0).N = Cert.BwdGatesRefIdeal.Read.val_main_v459 (F := Ideal) (V0 m c) (V1 m c) (V2 m c) (V3 m c) (V4 m c) (V5 m c) (V6 m c) (V7 m c) (V8 m c) := by
  refine (dats m 0 c).arrAt_eq_of_covers 10 _ (by decide +kernel) fun t _ y => ?_
  blk_simp
  rw [after0_10, outs10 A]
  have ey : ((cfg0.win 10).blk t).view.emb y = ix2 (row t (y 0)) (y 1) := by blk_ext [idx t]
  rw [ey]
  exact (congrArg _ (eq_ix2 y)).trans ((Tile.dxc_at (at_point A t) (y 0) (y 1)).trans (Cert.BwdGatesRefIdeal.Hand.dxc_at A (row t (y 0)) (y 1)).symm)

/-- The first gate's weights' gradient after the run. -/
theorem final11 : (dats m 0 c).arrAt 11 (cfgs 0).N = Cert.BwdGatesRefIdeal.Read.val_main_v460 (F := Ideal) (V0 m c) (V1 m c) (V2 m c) (V3 m c) (V4 m c) (V5 m c) (V6 m c) (V7 m c) (V8 m c) := by
  refine (dats m 0 c).arrAt_eq_of_after_last 11 t0_15 (by decide +kernel) _ fun j => ?_
  blk_simp
  have ej : j = ix3 (j 0) (j 1) (j 2) := eq_ix3 j
  rw [after0_11, Pipeline.eq_sum_fin_of_reset_step_apply_last (fun n h => (outsAt0 m c n h).2.1) 16 (fun _ => 0)
    (fun t j => ((∑ x : Fin 256, (fun r => D.xc r (col (j 0) (j 1)) * D.dpr r (col (j 0) (j 2))) (256 * (15 - t.val) + x.val) : ℝ) : EReal))
    (fun t h j => by
      rw [outs11_A m c t h]
      exact (congrArg _ (eq_ix3 j)).trans ((Tile.dwr_at (at_point A t) _ _ _ _ _ _ _ _).trans (congrArg (· + _) ((ld_heads _ (j 0) (j 1) (j 2)).trans (zero3_at _)))))
    (fun t h j => by
      rw [outs11_B m c t h]
      exact (congrArg _ (eq_ix3 j)).trans ((Tile.dwr_at (at_point A t) _ _ _ _ _ _ _ _).trans (congrArg (· + _) ((ld_heads _ (j 0) (j 1) (j 2)).trans (congrArg _ (eq_ix3 j).symm)))))
    (le_of_eq N_0) t0_15 rfl j, zero_add, rev_sum (fun r => D.xc r (col (j 0) (j 1)) * D.dpr r (col (j 0) (j 2)))]
  rw [ej]
  exact (Cert.BwdGatesRefIdeal.Hand.dwr_at A (j 0) (j 1) (j 2)).symm

/-- The second gate's weights' gradient after the run. -/
theorem final13 : (dats m 0 c).arrAt 13 (cfgs 0).N = Cert.BwdGatesRefIdeal.Read.val_main_v462 (F := Ideal) (V0 m c) (V1 m c) (V2 m c) (V3 m c) (V4 m c) (V5 m c) (V6 m c) (V7 m c) (V8 m c) := by
  refine (dats m 0 c).arrAt_eq_of_after_last 13 t0_15 (by decide +kernel) _ fun j => ?_
  blk_simp
  have ej : j = ix3 (j 0) (j 1) (j 2) := eq_ix3 j
  rw [after0_13, Pipeline.eq_sum_fin_of_reset_step_apply_last (fun n h => (outsAt0 m c n h).2.2.2.1) 16 (fun _ => 0)
    (fun t j => ((∑ x : Fin 256, (fun r => D.xc r (col (j 0) (j 1)) * D.dpi r (col (j 0) (j 2))) (256 * (15 - t.val) + x.val) : ℝ) : EReal))
    (fun t h j => by
      rw [outs13_A m c t h]
      exact (congrArg _ (eq_ix3 j)).trans ((Tile.dwi_at (at_point A t) _ _ _ _ _ _ _ _).trans (congrArg (· + _) ((ld_heads _ (j 0) (j 1) (j 2)).trans (zero5_at _)))))
    (fun t h j => by
      rw [outs13_B m c t h]
      exact (congrArg _ (eq_ix3 j)).trans ((Tile.dwi_at (at_point A t) _ _ _ _ _ _ _ _).trans (congrArg (· + _) ((ld_heads _ (j 0) (j 1) (j 2)).trans (congrArg _ (eq_ix3 j).symm)))))
    (le_of_eq N_0) t0_15 rfl j, zero_add, rev_sum (fun r => D.xc r (col (j 0) (j 1)) * D.dpi r (col (j 0) (j 2)))]
  rw [ej]
  exact (Cert.BwdGatesRefIdeal.Hand.dwi_at A (j 0) (j 1) (j 2)).symm

/-- The first gate's shift's gradient after the run. -/
theorem final12 : (dats m 0 c).arrAt 12 (cfgs 0).N = Cert.BwdGatesRefIdeal.Read.val_main_v461 (F := Ideal) (V0 m c) (V1 m c) (V2 m c) (V3 m c) (V4 m c) (V5 m c) (V6 m c) (V7 m c) (V8 m c) := by
  refine (dats m 0 c).arrAt_eq_of_after_last 12 t0_15 (by decide +kernel) _ fun j => ?_
  blk_simp
  have ej : ∀ j : S1x1024.Idx, j = ix2 0 (j 1) := fun j => by blk_ext
  rw [after0_12, Pipeline.eq_sum_fin_of_reset_step_apply_last (fun n h => (outsAt0 m c n h).2.2.1) 16 (fun _ => 0)
    (fun t j => ((∑ x : Fin 256, (fun r => D.dpr r (j 1)) (256 * (15 - t.val) + x.val) : ℝ) : EReal))
    (fun t h j => by
      rw [outs12_A m c t h]
      exact (congrArg _ (ej j)).trans ((Tile.dbr_at (at_point A t) _ (j 1)).trans (congrArg (· + _) (zero4_at _))))
    (fun t h j => by
      rw [outs12_B m c t h]
      exact (congrArg _ (ej j)).trans ((Tile.dbr_at (at_point A t) _ (j 1)).trans (congrArg (· + _) (congrArg _ (ej j).symm))))
    (le_of_eq N_0) t0_15 rfl j, zero_add, rev_sum (fun r => D.dpr r (j 1))]
  rw [ej j]
  exact (Cert.BwdGatesRefIdeal.Hand.db1_at A (j 1)).symm

/-- The second gate's shift's gradient after the run. -/
theorem final14 : (dats m 0 c).arrAt 14 (cfgs 0).N = Cert.BwdGatesRefIdeal.Read.val_main_v463 (F := Ideal) (V0 m c) (V1 m c) (V2 m c) (V3 m c) (V4 m c) (V5 m c) (V6 m c) (V7 m c) (V8 m c) := by
  refine (dats m 0 c).arrAt_eq_of_after_last 14 t0_15 (by decide +kernel) _ fun j => ?_
  blk_simp
  have ej : ∀ j : S1x1024.Idx, j = ix2 0 (j 1) := fun j => by blk_ext
  rw [after0_14, Pipeline.eq_sum_fin_of_reset_step_apply_last (fun n h => (outsAt0 m c n h).2.2.2.2.1) 16 (fun _ => 0)
    (fun t j => ((∑ x : Fin 256, (fun r => D.dpi r (j 1)) (256 * (15 - t.val) + x.val) : ℝ) : EReal))
    (fun t h j => by
      rw [outs14_A m c t h]
      exact (congrArg _ (ej j)).trans ((Tile.dbi_at (at_point A t) _ (j 1)).trans (congrArg (· + _) (zero6_at _))))
    (fun t h j => by
      rw [outs14_B m c t h]
      exact (congrArg _ (ej j)).trans ((Tile.dbi_at (at_point A t) _ (j 1)).trans (congrArg (· + _) (congrArg _ (ej j).symm))))
    (le_of_eq N_0) t0_15 rfl j, zero_add, rev_sum (fun r => D.dpi r (j 1))]
  rw [ej j]
  exact (Cert.BwdGatesRefIdeal.Hand.db2_at A (j 1)).symm

/-- The rate's gradient after the run. -/
theorem final15 : (dats m 0 c).arrAt 15 (cfgs 0).N = Cert.BwdGatesRefIdeal.Read.val_main_v454 (F := Ideal) (V0 m c) (V1 m c) (V2 m c) (V3 m c) (V4 m c) (V5 m c) (V6 m c) (V7 m c) (V8 m c) := by
  refine (dats m 0 c).arrAt_eq_of_after_last 15 t0_15 (by decide +kernel) _ fun j => ?_
  blk_simp
  have ej : ∀ j : S1x1024.Idx, j = ix2 0 (j 1) := fun j => by blk_ext
  rw [after0_15, Pipeline.eq_sum_fin_of_reset_step_apply_last (fun n h => (outsAt0 m c n h).2.2.2.2.2.1) 16 (fun _ => 0)
    (fun t j => ((∑ x : Fin 256, (fun r => D.dla r (j 1) * D.r r (j 1) * (8 * sgm (-D.lm (j 1)))) (256 * (15 - t.val) + x.val) : ℝ) : EReal))
    (fun t h j => by
      rw [outs15_A m c t h]
      exact (congrArg _ (ej j)).trans ((Tile.dlm_at (at_point A t) _ (j 1)).trans (congrArg (· + _) (zero7_at _))))
    (fun t h j => by
      rw [outs15_B m c t h]
      exact (congrArg _ (ej j)).trans ((Tile.dlm_at (at_point A t) _ (j 1)).trans (congrArg (· + _) (congrArg _ (ej j).symm))))
    (le_of_eq N_0) t0_15 rfl j, zero_add, rev_sum (fun r => D.dla r (j 1) * D.r r (j 1) * (8 * sgm (-D.lm (j 1))))]
  rw [ej j]
  exact (Cert.BwdGatesRefIdeal.Hand.dlm_at A (j 1)).symm

end Cert.BwdGatesIdeal.Hand

end
-- ==== Proof.GatesClaim.lean ====
/- The gated recurrence's gradients: the predicate read back, and the claims. -/
module

public import proofs.«01_k».proof.Proof.GatesRun

@[expose] public section

set_option maxRecDepth 16384

noncomputable section

namespace Cert.Pre_gates_finite.Hand

open Idealize.ShloMosaic

/-- The predicate's shapes fit. -/
instance facts : Cert.Pre_gates_finite.Facts where
  bcast_S_S1x4096x6144 := by decide
  reducesTo_S1x4096x6144_S_d0_1_2 := by decide
  h_S_ := by decide
  bcast_S_S1x4x1024 := by decide
  reducesTo_S1x4x1024_S_d0_1_2 := by decide
  bcast_S_S1x1024 := by decide
  reducesTo_S1x1024_S_d0_1 := by decide
  bcast_S_S1x4x256x256 := by decide
  reducesTo_S1x4x256x256_S_d0_1_2_3 := by decide
  bcast_S_S1x4x256 := by decide
  reducesTo_S1x4x256_S_d0_1_2 := by decide
  bcast_S_S1x4096x1024 := by decide
  reducesTo_S1x4096x1024_S_d0_1_2 := by decide

variable (x0 : FVec Ideal S1x4096x6144 .f32) (x1 : FVec Ideal S1x4x1024 .f32) (x2 : FVec Ideal S1x1024 .f32) (x3 : FVec Ideal S1x4x256x256 .f32)
  (x4 : FVec Ideal S1x4x256 .f32) (x5 : FVec Ideal S1x4x256x256 .f32) (x6 : FVec Ideal S1x4x256 .f32) (x7 : FVec Ideal S1x1024 .f32) (x8 : FVec Ideal S1x4096x1024 .f32)

/-- An element, as a real number. -/
abbrev re (x : EReal) : ℝ := x.toReal

/-- The arguments' rows as real numbers. -/
def data : Cert.GatesMath.Data where
  xa t j := if h : t < 4096 then re (x0 (ix3 0 ⟨t, h⟩ ⟨j.val, by omega⟩)) else 0
  ga t j := if h : t < 4096 then re (x0 (ix3 0 ⟨t, h⟩ ⟨1024 + j.val, by omega⟩)) else 0
  cw k j := re (x1 (ix3 0 k j))
  cb j := re (x2 (ix2 0 j))
  wr h i k := re (x3 (ix4 0 h i k))
  br h k := re (x4 (ix3 0 h k))
  wi h i k := re (x5 (ix4 0 h i k))
  bi h k := re (x6 (ix3 0 h k))
  lm j := re (x7 (ix2 0 j))
  dy t j := if h : t < 4096 then re (x8 (ix3 0 ⟨t, h⟩ j)) else 0

/-- Under the predicate the arguments are those real numbers. -/
theorem args (e : Cert.Pre_gates_finite.fn (F := Ideal) x0 x1 x2 x3 x4 x5 x6 x7 x8 = fun _ => 1#1) :
    Cert.BwdGatesRefIdeal.Hand.Args x0 x1 x2 x3 x4 x5 x6 x7 x8 (data x0 x1 x2 x3 x4 x5 x6 x7 x8) := by
  obtain ⟨e, e8⟩ := Cert.Finite.and_split e
  obtain ⟨e, e7⟩ := Cert.Finite.and_split e
  obtain ⟨e, e6⟩ := Cert.Finite.and_split e
  obtain ⟨e, e5⟩ := Cert.Finite.and_split e
  obtain ⟨e, e4⟩ := Cert.Finite.and_split e
  obtain ⟨e, e3⟩ := Cert.Finite.and_split e
  obtain ⟨e, e2⟩ := Cert.Finite.and_split e
  obtain ⟨e0, e1⟩ := Cert.Finite.and_split e
  have r0 := Cert.Finite.real_of_all x0 _ _ _ e0
  have r1 := Cert.Finite.real_of_all x1 _ _ _ e1
  have r2 := Cert.Finite.real_of_all x2 _ _ _ e2
  have r3 := Cert.Finite.real_of_all x3 _ _ _ e3
  have r4 := Cert.Finite.real_of_all x4 _ _ _ e4
  have r5 := Cert.Finite.real_of_all x5 _ _ _ e5
  have r6 := Cert.Finite.real_of_all x6 _ _ _ e6
  have r7 := Cert.Finite.real_of_all x7 _ _ _ e7
  have r8 := Cert.Finite.real_of_all x8 _ _ _ e8
  exact { xa := fun t j => (r0 _).trans (by simp [data]), ga := fun t j => (r0 _).trans (by simp [data]), cw := fun k j => r1 _, cb := fun j => r2 _,
          wr := fun h i k => r3 _, br := fun h k => r4 _, wi := fun h i k => r5 _, bi := fun h k => r6 _, lm := fun j => r7 _, dy := fun t j => (r8 _).trans (by simp [data]) }

end Cert.Pre_gates_finite.Hand

namespace Cert.BwdGates.Hand

open Idealize.ShloMosaic Idealize.ShloMosaic.TcCoe Idealize.SL.Sem

/-- The reference's arguments are the call's. -/
theorem agree (m : (ℓ : Loc Cert.BwdGatesIdeal.nD Cert.BwdGatesIdeal.τ Cert.BwdGatesIdeal.sig) → Buf (Elt Ideal) ℓ)
    (m' : (ℓ : Loc Cert.BwdGatesRefIdeal.nD Cert.BwdGatesRefIdeal.τ Cert.BwdGatesRefIdeal.sig) → Buf (Elt Ideal) ℓ) (c : Dev Cert.BwdGatesIdeal.nD)
    (h : m' ((c : Thread Cert.BwdGatesRefIdeal.nD Cert.BwdGatesRefIdeal.τ).loc Cert.BwdGatesRefIdeal.main_arg0) = Cert.BwdGatesIdeal.Hand.V0 m c
      ∧ m' ((c : Thread Cert.BwdGatesRefIdeal.nD Cert.BwdGatesRefIdeal.τ).loc Cert.BwdGatesRefIdeal.main_arg1) = Cert.BwdGatesIdeal.Hand.V1 m c
      ∧ m' ((c : Thread Cert.BwdGatesRefIdeal.nD Cert.BwdGatesRefIdeal.τ).loc Cert.BwdGatesRefIdeal.main_arg2) = Cert.BwdGatesIdeal.Hand.V2 m c
      ∧ m' ((c : Thread Cert.BwdGatesRefIdeal.nD Cert.BwdGatesRefIdeal.τ).loc Cert.BwdGatesRefIdeal.main_arg3) = Cert.BwdGatesIdeal.Hand.V3 m c
      ∧ m' ((c : Thread Cert.BwdGatesRefIdeal.nD Cert.BwdGatesRefIdeal.τ).loc Cert.BwdGatesRefIdeal.main_arg4) = Cert.BwdGatesIdeal.Hand.V4 m c
      ∧ m' ((c : Thread Cert.BwdGatesRefIdeal.nD Cert.BwdGatesRefIdeal.τ).loc Cert.BwdGatesRefIdeal.main_arg5) = Cert.BwdGatesIdeal.Hand.V5 m c
      ∧ m' ((c : Thread Cert.BwdGatesRefIdeal.nD Cert.BwdGatesRefIdeal.τ).loc Cert.BwdGatesRefIdeal.main_arg6) = Cert.BwdGatesIdeal.Hand.V6 m c
      ∧ m' ((c : Thread Cert.BwdGatesRefIdeal.nD Cert.BwdGatesRefIdeal.τ).loc Cert.BwdGatesRefIdeal.main_arg7) = Cert.BwdGatesIdeal.Hand.V7 m c
      ∧ m' ((c : Thread Cert.BwdGatesRefIdeal.nD Cert.BwdGatesRefIdeal.τ).loc Cert.BwdGatesRefIdeal.main_arg8) = Cert.BwdGatesIdeal.Hand.V8 m c) :
    StableHlo.launchContents m' c (Proc.devRef .tc Cert.BwdGatesRefIdeal.main_arg0) = Cert.BwdGatesIdeal.Hand.V0 m c
      ∧ StableHlo.launchContents m' c (Proc.devRef .tc Cert.BwdGatesRefIdeal.main_arg1) = Cert.BwdGatesIdeal.Hand.V1 m c
      ∧ StableHlo.launchContents m' c (Proc.devRef .tc Cert.BwdGatesRefIdeal.main_arg2) = Cert.BwdGatesIdeal.Hand.V2 m c
      ∧ StableHlo.launchContents m' c (Proc.devRef .tc Cert.BwdGatesRefIdeal.main_arg3) = Cert.BwdGatesIdeal.Hand.V3 m c
      ∧ StableHlo.launchContents m' c (Proc.devRef .tc Cert.BwdGatesRefIdeal.main_arg4) = Cert.BwdGatesIdeal.Hand.V4 m c
      ∧ StableHlo.launchContents m' c (Proc.devRef .tc Cert.BwdGatesRefIdeal.main_arg5) = Cert.BwdGatesIdeal.Hand.V5 m c
      ∧ StableHlo.launchContents m' c (Proc.devRef .tc Cert.BwdGatesRefIdeal.main_arg6) = Cert.BwdGatesIdeal.Hand.V6 m c
      ∧ StableHlo.launchContents m' c (Proc.devRef .tc Cert.BwdGatesRefIdeal.main_arg7) = Cert.BwdGatesIdeal.Hand.V7 m c
      ∧ StableHlo.launchContents m' c (Proc.devRef .tc Cert.BwdGatesRefIdeal.main_arg8) = Cert.BwdGatesIdeal.Hand.V8 m c := h

set_option maxHeartbeats 4000000 in
/-- On finite arguments the call and the differentiated forward lines give the same gradients. -/
theorem algebraic : Cert.algebraic_BwdGatesIdeal_BwdGatesRefIdeal_pre_gates_finite := by
  pair_intro
  · exact Cert.BwdGatesIdeal.Value.run_blocks m g
  · rename' hagree => hag
    run_from Cert.BwdGatesRefIdeal.Value.run m' g'
    · obtain ⟨e0, e1, e2, e3, e4, e5, e6, e7, e8⟩ := agree m m' c (hag c)
      exact (Cert.BwdGatesRefIdeal.Read.val_main_v459_eq (StableHlo.launchContents m' c)).trans (by rw [e0, e1, e2, e3, e4, e5, e6, e7, e8]; exact (Cert.BwdGatesIdeal.Hand.final10 (Cert.Pre_gates_finite.Hand.args _ _ _ _ _ _ _ _ _ (hpre c))).symm)
    · obtain ⟨e0, e1, e2, e3, e4, e5, e6, e7, e8⟩ := agree m m' c (hag c)
      exact (Cert.BwdGatesRefIdeal.Read.val_main_v460_eq (StableHlo.launchContents m' c)).trans (by rw [e0, e1, e2, e3, e4, e5, e6, e7, e8]; exact (Cert.BwdGatesIdeal.Hand.final11 (Cert.Pre_gates_finite.Hand.args _ _ _ _ _ _ _ _ _ (hpre c))).symm)
    · obtain ⟨e0, e1, e2, e3, e4, e5, e6, e7, e8⟩ := agree m m' c (hag c)
      exact (Cert.BwdGatesRefIdeal.Read.val_main_v461_eq (StableHlo.launchContents m' c)).trans (by rw [e0, e1, e2, e3, e4, e5, e6, e7, e8]; exact (Cert.BwdGatesIdeal.Hand.final12 (Cert.Pre_gates_finite.Hand.args _ _ _ _ _ _ _ _ _ (hpre c))).symm)
    · obtain ⟨e0, e1, e2, e3, e4, e5, e6, e7, e8⟩ := agree m m' c (hag c)
      exact (Cert.BwdGatesRefIdeal.Read.val_main_v462_eq (StableHlo.launchContents m' c)).trans (by rw [e0, e1, e2, e3, e4, e5, e6, e7, e8]; exact (Cert.BwdGatesIdeal.Hand.final13 (Cert.Pre_gates_finite.Hand.args _ _ _ _ _ _ _ _ _ (hpre c))).symm)
    · obtain ⟨e0, e1, e2, e3, e4, e5, e6, e7, e8⟩ := agree m m' c (hag c)
      exact (Cert.BwdGatesRefIdeal.Read.val_main_v463_eq (StableHlo.launchContents m' c)).trans (by rw [e0, e1, e2, e3, e4, e5, e6, e7, e8]; exact (Cert.BwdGatesIdeal.Hand.final14 (Cert.Pre_gates_finite.Hand.args _ _ _ _ _ _ _ _ _ (hpre c))).symm)
    · obtain ⟨e0, e1, e2, e3, e4, e5, e6, e7, e8⟩ := agree m m' c (hag c)
      exact (Cert.BwdGatesRefIdeal.Read.val_main_v454_eq (StableHlo.launchContents m' c)).trans (by rw [e0, e1, e2, e3, e4, e5, e6, e7, e8]; exact (Cert.BwdGatesIdeal.Hand.final15 (Cert.Pre_gates_finite.Hand.args _ _ _ _ _ _ _ _ _ (hpre c))).symm)

/-- The differentiated forward lines run, and leave their arguments. -/
theorem frame_ref : Cert.quiescent_BwdGatesRefIdeal := by
  intro m g _
  run_from Cert.BwdGatesRefIdeal.Value.run m g
  · exact fun _ => ⟨trivial, trivial, trivial, trivial, trivial, trivial, trivial, trivial, trivial⟩
  · exact sem_eq_zero_of_no_sems rfl _

/-- The one word given its value: the product of the smooth unit's two constants. -/
theorem preserves : Cert.preserves_BwdGates_BwdGatesIdeal :=
  IdealRules.named_const.statement Cert.BwdGatesIdeal.κ "k01" .f32 0x3D122279#32 ((80338380498831 / 2251799813685248 : ℝ) : EReal) rfl

end Cert.BwdGates.Hand

end
-- ==== Proof.LruTile.lean ====
/- One grid point of the recurrent unit's forward call: the values it stores are the real functions of GatesMath at its tile of rows. -/
module

public import proofs.«01_k».proof.Proof.GatesMath
public import proofs.«01_k».proof.Proof.Gen.LruIdeal.Value
public import Idealize.ShloMosaic.Lib.Pointwise
public import Idealize.ShloMosaic.Lib.Pipeline.ValueKit

@[expose] public section

set_option maxRecDepth 16384

noncomputable section

namespace Cert.LruIdeal.Hand

open Cert.LruIdeal Cert.LruIdeal.Gen Idealize.ShloMosaic Idealize.ShloMosaic.TcCoe Idealize.SL.Sem
open Cert.LruMath Cert.GatesMath

/-- What a point reads: its blocks in the windows' order, then the rows and the state the tile before it leaves. -/
structure Tile where
  x0 : Vec Ideal S256x1024 .bf16
  x1 : Vec Ideal S256x1024 .bf16
  x2 : Vec Ideal S4x1024 .f32
  x3 : Vec Ideal S1x1024 .f32
  x4 : Vec Ideal S4x256x256 .bf16
  x5 : Vec Ideal S1x1024 .f32
  x6 : Vec Ideal S4x256x256 .bf16
  x7 : Vec Ideal S1x1024 .f32
  x8 : Vec Ideal S1x1024 .f32
  tl : Vec Ideal S8x1024 .f32
  cr : Vec Ideal S1x1024 .f32

namespace Tile

variable (b : Tile)

/-- The number of a row in its group of eight. -/
abbrev rows8 : IVec S32x8x1024 32 := iota .tc S32x8x1024 32 [1] iota_S32x8x1024_d1_w32

/-! The values of a point, each under the number its line has in the kernel. -/

def wr0 : Vec Ideal S1x256x256 .bf16 := View.ld b.x4 (Rect.unit (s := S4x256x256) ![0, 0, 0] S1x256x256.size inb_S4x256x256_S1x256x256_0_0_0)
def wi0 : Vec Ideal S1x256x256 .bf16 := View.ld b.x6 (Rect.unit (s := S4x256x256) ![0, 0, 0] S1x256x256.size inb_S4x256x256_S1x256x256_0_0_0)
def wr1 : Vec Ideal S1x256x256 .bf16 := View.ld b.x4 (Rect.unit (s := S4x256x256) ![1, 0, 0] S1x256x256.size inb_S4x256x256_S1x256x256_1_0_0)
def wi1 : Vec Ideal S1x256x256 .bf16 := View.ld b.x6 (Rect.unit (s := S4x256x256) ![1, 0, 0] S1x256x256.size inb_S4x256x256_S1x256x256_1_0_0)
def wr2 : Vec Ideal S1x256x256 .bf16 := View.ld b.x4 (Rect.unit (s := S4x256x256) ![2, 0, 0] S1x256x256.size inb_S4x256x256_S1x256x256_2_0_0)
def wi2 : Vec Ideal S1x256x256 .bf16 := View.ld b.x6 (Rect.unit (s := S4x256x256) ![2, 0, 0] S1x256x256.size inb_S4x256x256_S1x256x256_2_0_0)
def wr3 : Vec Ideal S1x256x256 .bf16 := View.ld b.x4 (Rect.unit (s := S4x256x256) ![3, 0, 0] S1x256x256.size inb_S4x256x256_S1x256x256_3_0_0)
def wi3 : Vec Ideal S1x256x256 .bf16 := View.ld b.x6 (Rect.unit (s := S4x256x256) ![3, 0, 0] S1x256x256.size inb_S4x256x256_S1x256x256_3_0_0)
def v5 : FVec Ideal S256x1024 .f32 := k0_pay4 (F := Ideal) b.x0
def v40 : FVec Ideal S256x1024 .f32 := k0_pay6 (F := Ideal) b.x0 b.tl b.x2 b.x3
def v41 : FVec Ideal S1x1024 .f32 := k0_pay7 (F := Ideal) b.x2
def v53 : FVec Ideal S256x1024 .f32 := k0_pay8 (F := Ideal) b.v5 b.tl b.v40 b.v41
def v54 : FVec Ideal S256x1024 .bf16 := k0_pay9 (F := Ideal) b.v5 b.tl b.v40 b.v41
def v58 : FVec Ideal S256x256 .f32 := k0_pay10 (F := Ideal) b.v5 b.tl b.v40 b.v41 b.wr0
def v62 : FVec Ideal S256x256 .f32 := k0_pay11 (F := Ideal) b.v5 b.tl b.v40 b.v41 b.wi0
def v66 : FVec Ideal S256x256 .f32 := k0_pay12 (F := Ideal) b.v5 b.tl b.v40 b.v41 b.wr1
def v70 : FVec Ideal S256x256 .f32 := k0_pay13 (F := Ideal) b.v5 b.tl b.v40 b.v41 b.wi1
def v74 : FVec Ideal S256x256 .f32 := k0_pay14 (F := Ideal) b.v5 b.tl b.v40 b.v41 b.wr2
def v75 : FVec Ideal S256x256 .bf16 := k0_pay15 (F := Ideal) b.v5 b.tl b.v40 b.v41
def v92 : FVec Ideal S256x1024 .f32 := k0_pay16 (F := Ideal) b.v54 b.v58 b.v66 b.v74 b.wr3 b.x5
def v98 : FVec Ideal S256x1024 .f32 := k0_pay17 (F := Ideal) b.v54 b.v62 b.v70 b.v75 b.wi2 b.wi3 b.x7
def v103 : FVec Ideal S1x1024 .f32 := k0_pay18 (F := Ideal) b.x8
def v107 : IVec S1x1024 1 := k0_pay20 (F := Ideal) b.x8
def v108 : FVec Ideal S1x1024 .f32 := k0_pay21 (F := Ideal) b.x8
def v114 : FVec Ideal S1x1024 .f32 := k0_pay22 (F := Ideal) b.x8
def v150 : FVec Ideal S32x8x1024 .f32 := k0_pay25 (F := Ideal) b.v92 b.x8 b.v103 b.v107 b.v108 b.v114
def v151 : FVec Ideal S32x8x1024 .f32 := k0_pay26 (F := Ideal) b.v53 b.v92 b.v98 b.x8 b.v103 b.v107 b.v108 b.v114
def v177 : FVec Ideal S32x8x1024 .f32 := k0_pay32 (F := Ideal) b.v150 b.v151 rows8 1#32
def v179 : FVec Ideal S32x8x1024 .f32 := k0_pay33 (F := Ideal) b.v150 rows8 1#32
def v186 : FVec Ideal S8x1024 .f32 := k0_pay34 (F := Ideal) b.cr b.v150 b.v151 rows8 1#32
def v194 : FVec Ideal S8x1024 .f32 := k0_pay35 (F := Ideal) b.cr b.v150 b.v151 rows8 1#32
def v202 : FVec Ideal S8x1024 .f32 := k0_pay36 (F := Ideal) b.cr b.v150 b.v151 rows8 1#32
def v203 : FVec Ideal S1x1024 .f32 := k0_pay37 (F := Ideal) b.cr b.v150 b.v151 rows8 1#32
def v204 : FVec Ideal S1x8x1024 .f32 := k0_pay38 (F := Ideal) b.v150 rows8 1#32
def v210 : FVec Ideal S8x1024 .f32 := k0_pay39 (F := Ideal) b.v177 b.v203 b.v204
def v218 : FVec Ideal S8x1024 .f32 := k0_pay40 (F := Ideal) b.v177 b.v179 b.v203 b.v204
def v226 : FVec Ideal S8x1024 .f32 := k0_pay41 (F := Ideal) b.v177 b.v179 b.v203 b.v204
def v234 : FVec Ideal S8x1024 .f32 := k0_pay42 (F := Ideal) b.v177 b.v179 b.v203 b.v204
def v242 : FVec Ideal S8x1024 .f32 := k0_pay43 (F := Ideal) b.v177 b.v179 b.v203 b.v204
def v250 : FVec Ideal S8x1024 .f32 := k0_pay44 (F := Ideal) b.v177 b.v179 b.v203 b.v204
def v258 : FVec Ideal S8x1024 .f32 := k0_pay45 (F := Ideal) b.v177 b.v179 b.v203 b.v204
def v263 : FVec Ideal S8x1024 .f32 := k0_pay46 (F := Ideal) b.v177 b.v179 b.v203 b.v204
def v264 : FVec Ideal S1x8x1024 .f32 := k0_pay47 (F := Ideal) b.v177
def v266 : FVec Ideal S8x1024 .f32 := k0_pay48 (F := Ideal) b.v263 b.v264
def v274 : FVec Ideal S8x1024 .f32 := k0_pay49 (F := Ideal) b.v177 b.v179 b.v263 b.v264
def v282 : FVec Ideal S8x1024 .f32 := k0_pay50 (F := Ideal) b.v177 b.v179 b.v263 b.v264
def v290 : FVec Ideal S8x1024 .f32 := k0_pay51 (F := Ideal) b.v177 b.v179 b.v263 b.v264
def v298 : FVec Ideal S8x1024 .f32 := k0_pay52 (F := Ideal) b.v177 b.v179 b.v263 b.v264
def v306 : FVec Ideal S8x1024 .f32 := k0_pay53 (F := Ideal) b.v177 b.v179 b.v263 b.v264
def v314 : FVec Ideal S8x1024 .f32 := k0_pay54 (F := Ideal) b.v177 b.v179 b.v263 b.v264
def v322 : FVec Ideal S8x1024 .f32 := k0_pay55 (F := Ideal) b.v177 b.v179 b.v263 b.v264
def v323 : FVec Ideal S1x1024 .f32 := k0_pay56 (F := Ideal) b.v177 b.v179 b.v263 b.v264
def v324 : FVec Ideal S1x8x1024 .f32 := k0_pay57 (F := Ideal) b.v179
def v330 : FVec Ideal S8x1024 .f32 := k0_pay58 (F := Ideal) b.v177 b.v323 b.v324
def v338 : FVec Ideal S8x1024 .f32 := k0_pay59 (F := Ideal) b.v177 b.v179 b.v323 b.v324
def v346 : FVec Ideal S8x1024 .f32 := k0_pay60 (F := Ideal) b.v177 b.v179 b.v323 b.v324
def v354 : FVec Ideal S8x1024 .f32 := k0_pay61 (F := Ideal) b.v177 b.v179 b.v323 b.v324
def v362 : FVec Ideal S8x1024 .f32 := k0_pay62 (F := Ideal) b.v177 b.v179 b.v323 b.v324
def v370 : FVec Ideal S8x1024 .f32 := k0_pay63 (F := Ideal) b.v177 b.v179 b.v323 b.v324
def v378 : FVec Ideal S8x1024 .f32 := k0_pay64 (F := Ideal) b.v177 b.v179 b.v323 b.v324
def v383 : FVec Ideal S8x1024 .f32 := k0_pay65 (F := Ideal) b.v177 b.v179 b.v323 b.v324
def v384 : FVec Ideal S1x8x1024 .f32 := k0_pay66 (F := Ideal) b.v177
def v386 : FVec Ideal S8x1024 .f32 := k0_pay67 (F := Ideal) b.v383 b.v384
def v394 : FVec Ideal S8x1024 .f32 := k0_pay68 (F := Ideal) b.v177 b.v179 b.v383 b.v384
def v402 : FVec Ideal S8x1024 .f32 := k0_pay69 (F := Ideal) b.v177 b.v179 b.v383 b.v384
def v410 : FVec Ideal S8x1024 .f32 := k0_pay70 (F := Ideal) b.v177 b.v179 b.v383 b.v384
def v418 : FVec Ideal S8x1024 .f32 := k0_pay71 (F := Ideal) b.v177 b.v179 b.v383 b.v384
def v426 : FVec Ideal S8x1024 .f32 := k0_pay72 (F := Ideal) b.v177 b.v179 b.v383 b.v384
def v434 : FVec Ideal S8x1024 .f32 := k0_pay73 (F := Ideal) b.v177 b.v179 b.v383 b.v384
def v436 : FVec Ideal S256x1024 .f32 := k0_pay74 (F := Ideal) b.v177 b.v179 b.v186 b.v194 b.v202 b.v210 b.v218 b.v226 b.v234 b.v242 b.v250 b.v258 b.v266 b.v274 b.v282 b.v290 b.v298 b.v306 b.v314 b.v322 b.v330 b.v338 b.v346 b.v354 b.v362 b.v370 b.v378 b.v383 b.v384
def ya : FVec Ideal S256x1024 .bf16 := k0_pay1 (F := Ideal) b.v436 b.x1
def tlo : FVec Ideal S8x1024 .f32 := k0_pay24 (F := Ideal) b.v5
def car : FVec Ideal S1x1024 .f32 := k0_pay75 (F := Ideal) b.v177 b.v179 b.v383 b.v384

/-- The groups of eight rows of the recurrence. -/
def grp : Fin 32 → FVec Ideal S8x1024 .f32 := ![b.v186, b.v194, b.v202, b.v210, b.v218, b.v226, b.v234, b.v242, b.v250, b.v258, b.v266, b.v274, b.v282, b.v290, b.v298, b.v306, b.v314, b.v322, b.v330, b.v338, b.v346, b.v354, b.v362, b.v370, b.v378, b.v386, b.v394, b.v402, b.v410, b.v418, b.v426, b.v434]

/-- The state before a tile. -/
def _root_.Cert.GatesMath.Data.hin (D : Data) (T : ℕ) (j : Fin 1024) : ℝ := if T = 0 then 0 else D.h (256 * T - 1) j
/-- The eight rows before a tile. -/
def _root_.Cert.GatesMath.Data.tin (D : Data) (T : ℕ) (p : ℕ) (j : Fin 1024) : ℝ := if T = 0 then 0 else D.xa (256 * T - 8 + p) j

/-- The point's blocks are tile `T` of the arguments' rows. -/
structure Holds (D : Data) (T : ℕ) : Prop where
  xa : ∀ r j, b.x0 (ix2 r j) = ((D.xa (256 * T + r.val) j : ℝ) : EReal)
  ga : ∀ r j, b.x1 (ix2 r j) = ((D.ga (256 * T + r.val) j : ℝ) : EReal)
  cw : ∀ k j, b.x2 (ix2 k j) = ((D.cw k j : ℝ) : EReal)
  cb : ∀ j, b.x3 (ix2 0 j) = ((D.cb j : ℝ) : EReal)
  wr : ∀ h i k, b.x4 (ix3 h i k) = ((D.wr h i k : ℝ) : EReal)
  br : ∀ j, b.x5 (ix2 0 j) = ((D.br (hd j) (lo j) : ℝ) : EReal)
  wi : ∀ h i k, b.x6 (ix3 h i k) = ((D.wi h i k : ℝ) : EReal)
  bi : ∀ j, b.x7 (ix2 0 j) = ((D.bi (hd j) (lo j) : ℝ) : EReal)
  lm : ∀ j, b.x8 (ix2 0 j) = ((D.lm j : ℝ) : EReal)
  tl : ∀ p j, b.tl (ix2 p j) = ((D.tin T p.val j : ℝ) : EReal)
  cr : ∀ j, b.cr (ix2 0 j) = ((D.hin T j : ℝ) : EReal)

/-- The second constant times the first, under its name. -/
theorem k01_eq : Named.named (F := Ideal) Cert.LruIdeal.κ "k01" (φ := .f32) 1024598649#32 = ((k0 * k1 : ℝ) : EReal) := by
  have h : Named.named (F := Ideal) Cert.LruIdeal.κ "k01" (φ := .f32) 1024598649#32 = ((80338380498831 / 2251799813685248 : ℝ) : EReal) :=
    IdealRules.named_const.ideal_named_scalar _ _ _ _ rfl
  rw [h]; congr 1; unfold k0 k1; norm_num

variable {b} {D : Data} {T : ℕ} (H : b.Holds D T)
include H

theorem v5_at (r : Fin 256) (j : Fin 1024) : b.v5 (ix2 r j) = ((D.xa (256 * T + r.val) j : ℝ) : EReal) := by
  unfold v5; pointwise [k0_pay4]; exact H.xa r j

/-- The input's rows `k` earlier, by the rows before the tile. -/
theorem sh_at (k : ℕ) (h0 : 0 < k) (h8 : k ≤ 3) (r : Fin 256) (j : Fin 1024) :
    (if h : r.val < 8 then Scalar.select (IntOp.cmpi CmpIPredicate.slt (BitVec.ofNat 32 r.val) (BitVec.ofNat 32 k))
        (b.tl (ix2 ⟨(r.val + 8 - k) % 8, Nat.mod_lt _ (by decide)⟩ j)) (b.v5 (ix2 ⟨(r.val + 256 - k) % 256, Nat.mod_lt _ (by decide)⟩ j))
      else b.v5 (ix2 ⟨(8 + (r.val - 8) + 256 - k) % 256, Nat.mod_lt _ (by decide)⟩ j)) = ((Data.bk k D.xa (256 * T + r.val) j : ℝ) : EReal) := by
  unfold Data.bk back
  by_cases h : r.val < 8
  · rw [dif_pos h, slt_word _ _ (by omega) (by omega)]
    by_cases hk : r.val < k
    · rw [if_pos hk, H.tl]; unfold Data.tin
      by_cases hT : T = 0
      · rw [if_pos hT, if_pos (by omega)]
      · rw [if_neg hT, if_neg (by omega)]; congr 2; dsimp only; omega
    · rw [if_neg hk, v5_at H, if_neg (by omega)]; congr 2; dsimp only; omega
  · rw [dif_neg h, v5_at H, if_neg (by omega)]; congr 2; dsimp only; omega

theorem v53_at (r : Fin 256) (j : Fin 1024) : b.v53 (ix2 r j) = ((D.xc (256 * T + r.val) j : ℝ) : EReal) := by
  have e0 : k0_pay4 (F := Ideal) b.x0 = b.v5 := rfl
  have s1 := sh_at H 1 (by decide) (by decide) r j
  have s2 := sh_at H 2 (by decide) (by decide) r j
  have s3 := sh_at H 3 (by decide) (by decide) r j
  unfold v53 v40 v41
  pointwise [k0_pay8, k0_pay6, k0_pay7, k0_pay5]
  rw [e0]
  refine (congrArg₂ (· + ·) (congrArg₂ (· + ·) (congrArg₂ (· + ·) (congrArg₂ (· + ·) (H.cb j) (congrArg₂ (· * ·) (H.cw 0 j) (v5_at H r j)))
    (congrArg₂ (· * ·) (H.cw 1 j) s1)) (congrArg₂ (· * ·) (H.cw 2 j) s2)) (congrArg₂ (· * ·) (H.cw 3 j) s3)).trans ?_
  simp only [← EReal.coe_mul, ← EReal.coe_add]
  congr 1; unfold Data.xc; ring

theorem v54_at (r : Fin 256) (j : Fin 1024) : b.v54 (ix2 r j) = ((D.xc (256 * T + r.val) j : ℝ) : EReal) := by
  unfold v54; pointwise [k0_pay9]; exact v53_at H r j

/-- A head's product. -/
theorem head_at (w : Vec Ideal S1x256x256 .bf16) (f : Fin 4 → Fin 256 → Fin 256 → ℝ) (h : Fin 4) (hw : ∀ i k, w (ix3 0 i k) = ((f h i k : ℝ) : EReal))
    (r : Fin 256) (j : Fin 1024) (hj : hd j = h) (c : Fin 256 → Fin 1024) (hc : ∀ x, c x = col h x) (y : Fin 256) (hy : y = lo j) :
    ∑ x, b.v54 (ix2 r (c x)) * w (ix3 0 x y) = ((∑ x, f (hd j) x (lo j) * D.xc (256 * T + r.val) (col (hd j) x) : ℝ) : EReal) := by
  subst hj hy
  simp only [hc, v54_at H, hw, ← EReal.coe_mul, coe_sum]
  exact congrArg _ (Finset.sum_congr rfl fun x _ => mul_comm _ _)

omit H in
theorem w_at (w : Vec Ideal S4x256x256 .bf16) (h : Fin 4) (inb : ∀ a, (![h.val, 0, 0] : Fin 3 → ℕ) a + S1x256x256.size a ≤ S4x256x256.size a) (i k : Fin 256) :
    View.ld w (Rect.unit (s := S4x256x256) ![h.val, 0, 0] S1x256x256.size inb) (ix3 0 i k) = w (ix3 h i k) := by
  refine congrArg w ?_
  blk_ext
  · show h.val + 1 * 0 = h.val; omega
  · show 0 + 1 * i.val = i.val; omega
  · show 0 + 1 * k.val = k.val; omega

/-- The four heads side by side. -/
theorem heads_at (w0 w1 w2 w3 : Vec Ideal S1x256x256 .bf16) (f : Fin 4 → Fin 256 → Fin 256 → ℝ)
    (h0 : ∀ i k, w0 (ix3 0 i k) = ((f 0 i k : ℝ) : EReal)) (h1 : ∀ i k, w1 (ix3 0 i k) = ((f 1 i k : ℝ) : EReal))
    (h2 : ∀ i k, w2 (ix3 0 i k) = ((f 2 i k : ℝ) : EReal)) (h3 : ∀ i k, w3 (ix3 0 i k) = ((f 3 i k : ℝ) : EReal))
    (r : Fin 256) (j : Fin 1024) :
    (if h : j.val < 256 then ∑ x : Fin 256, b.v54 (ix2 r ⟨x.val, by omega⟩) * w0 (ix3 0 x ⟨j.val, h⟩)
      else if h : j.val - 256 < 256 then ∑ x : Fin 256, b.v54 (ix2 r ⟨256 + x.val, by omega⟩) * w1 (ix3 0 x ⟨j.val - 256, h⟩)
      else if h : j.val - 256 - 256 < 256 then ∑ x : Fin 256, b.v54 (ix2 r ⟨512 + x.val, by omega⟩) * w2 (ix3 0 x ⟨j.val - 256 - 256, h⟩)
      else ∑ x : Fin 256, b.v54 (ix2 r ⟨768 + x.val, by omega⟩) * w3 (ix3 0 x ⟨j.val - 256 - 256 - 256, by omega⟩))
      = ((∑ x, f (hd j) x (lo j) * D.xc (256 * T + r.val) (col (hd j) x) : ℝ) : EReal) := by
  have hj := j.isLt
  by_cases hh0 : j.val < 256
  · rw [dif_pos hh0]
    exact head_at H w0 f 0 h0 r j (Fin.ext (by simp only [hd]; omega)) (fun x => ⟨x.val, by omega⟩) (fun x => Fin.ext (by simp [col])) ⟨j.val, hh0⟩ (Fin.ext (by simp only [lo]; omega))
  rw [dif_neg hh0]
  by_cases hh1 : j.val - 256 < 256
  · rw [dif_pos hh1]
    exact head_at H w1 f 1 h1 r j (Fin.ext (by simp only [hd]; omega)) (fun x => ⟨256 + x.val, by omega⟩) (fun x => Fin.ext (by simp [col])) ⟨j.val - 256, hh1⟩ (Fin.ext (by simp only [lo]; omega))
  rw [dif_neg hh1]
  by_cases hh2 : j.val - 256 - 256 < 256
  · rw [dif_pos hh2]
    exact head_at H w2 f 2 h2 r j (Fin.ext (by simp only [hd]; omega)) (fun x => ⟨512 + x.val, by omega⟩) (fun x => Fin.ext (by simp [col])) ⟨j.val - 256 - 256, hh2⟩ (Fin.ext (by simp only [lo]; omega))
  rw [dif_neg hh2]
  exact head_at H w3 f 3 h3 r j (Fin.ext (by simp only [hd]; omega)) (fun x => ⟨768 + x.val, by omega⟩) (fun x => Fin.ext (by simp [col])) ⟨j.val - 256 - 256 - 256, by omega⟩
    (Fin.ext (by simp only [lo]; omega))

theorem gate_tile (s : ℝ) : Ideal.logistic (s : EReal) = ((sgm s : ℝ) : EReal) := Ideal.logistic_coe s

theorem v92_at (r : Fin 256) (j : Fin 1024) : b.v92 (ix2 r j) = ((D.r (256 * T + r.val) j : ℝ) : EReal) := by
  have e0 : k0_pay9 (F := Ideal) b.v5 b.tl b.v40 b.v41 = b.v54 := rfl
  unfold v92 v58 v66 v74
  pointwise [k0_pay16, k0_pay10, k0_pay12, k0_pay14]
  rw [e0]
  have hs := heads_at H b.wr0 b.wr1 b.wr2 b.wr3 D.wr (fun i k => (w_at b.x4 0 _ i k).trans (H.wr _ _ _)) (fun i k => (w_at b.x4 1 _ i k).trans (H.wr _ _ _))
    (fun i k => (w_at b.x4 2 _ i k).trans (H.wr _ _ _)) (fun i k => (w_at b.x4 3 _ i k).trans (H.wr _ _ _)) r j
  have hb := H.br j
  refine (congrArg Ideal.logistic (congrArg₂ (· + ·) hs hb)).trans ?_
  rw [← EReal.coe_add, gate_tile H]
  rfl

theorem v98_at (r : Fin 256) (j : Fin 1024) : b.v98 (ix2 r j) = ((D.ig (256 * T + r.val) j : ℝ) : EReal) := by
  have e0 : k0_pay9 (F := Ideal) b.v5 b.tl b.v40 b.v41 = b.v54 := rfl
  unfold v98 v62 v70 v75
  pointwise [k0_pay17, k0_pay11, k0_pay13, k0_pay15]
  rw [e0]
  have hs := heads_at H b.wi0 b.wi1 b.wi2 b.wi3 D.wi (fun i k => (w_at b.x6 0 _ i k).trans (H.wi _ _ _)) (fun i k => (w_at b.x6 1 _ i k).trans (H.wi _ _ _))
    (fun i k => (w_at b.x6 2 _ i k).trans (H.wi _ _ _)) (fun i k => (w_at b.x6 3 _ i k).trans (H.wi _ _ _)) r j
  have hb := H.bi j
  refine (congrArg Ideal.logistic (congrArg₂ (· + ·) hs hb)).trans ?_
  rw [← EReal.coe_add, gate_tile H]
  rfl

theorem la_at (r : Fin 256) (j : Fin 1024) : k0_pay23 (F := Ideal) b.v92 b.x8 b.v103 b.v107 b.v108 b.v114 (ix2 r j) = ((D.la (256 * T + r.val) j : ℝ) : EReal) := by
  unfold v103 v107 v108 v114
  pointwise [k0_pay23, k0_pay18, k0_pay19, k0_pay20, k0_pay21, k0_pay22]
  rw [H.lm, coe_rate, v92_at H, bits_m8, ← EReal.coe_mul, ← EReal.coe_mul, mul_right_comm]; rfl

theorem al_at (g : Fin 32) (p : Fin 8) (j : Fin 1024) : b.v150 (ix3 g p j) = ((D.a (256 * T + (g.val * 8 + p.val)) j : ℝ) : EReal) := by
  unfold v150
  pointwise [k0_pay25]
  rw [la_at H, Ideal.exp_coe]; rfl

theorem be_at (g : Fin 32) (p : Fin 8) (j : Fin 1024) : b.v151 (ix3 g p j) = ((D.bx (256 * T + (g.val * 8 + p.val)) j : ℝ) : EReal) := by
  unfold v151
  pointwise [k0_pay26]
  rw [la_at H, v53_at H, v98_at H, bits_m2, Ideal.tanh_coe]
  have h := tanh_ratio (D.la (256 * T + (g.val * 8 + p.val)) j)
  have hq := D.q_pos (256 * T + (g.val * 8 + p.val)) j
  have hm := D.mult_pos (256 * T + (g.val * 8 + p.val)) j
  have e : Ideal.div ((-2 : ℝ) * (Real.tanh (D.la (256 * T + (g.val * 8 + p.val)) j) : EReal)) (1 - (Real.tanh (D.la (256 * T + (g.val * 8 + p.val)) j) : EReal))
      = ((D.q (256 * T + (g.val * 8 + p.val)) j : ℝ) : EReal) := by
    rw [← EReal.coe_mul, ← EReal.coe_one, ← EReal.coe_sub, Ideal.div_coe h.1, ← EReal.coe_mul, h.2]; rfl
  rw [e, coe_rsqrt hq, if_pos (by rw [← EReal.coe_zero]; exact EReal.coe_lt_coe_iff.mpr hq)]
  simp only [← EReal.coe_mul]
  congr 1
  have : D.q (256 * T + (g.val * 8 + p.val)) j = D.mult (256 * T + (g.val * 8 + p.val)) j * D.mult (256 * T + (g.val * 8 + p.val)) j := (Real.mul_self_sqrt hq.le).symm
  unfold Data.bx
  congr 1
  change D.q (256 * T + (g.val * 8 + p.val)) j * (D.mult (256 * T + (g.val * 8 + p.val)) j)⁻¹ = _
  rw [this, mul_assoc, mul_inv_cancel₀ hm.ne', mul_one]

/-! ### Inside a group -/

omit H in
theorem dn_a (s : ℕ) (hs : s ≤ 8) (f : Fin 8 → EReal) (a : ℕ → ℝ) (hf : ∀ p, f p = ((a p.val : ℝ) : EReal)) (p : Fin 8) :
    Scalar.select (IntOp.cmpi CmpIPredicate.sge (BitVec.ofNat 32 p.val) (BitVec.ofNat 32 s)) (f p * f ⟨(p.val + 8 - s) % 8, Nat.mod_lt _ (by decide)⟩) (f p)
      = ((dnA s a p.val : ℝ) : EReal) := by
  rw [sge_word _ _ (by omega) (by omega)]; unfold dnA
  by_cases h : s ≤ p.val
  · rw [if_pos h, if_pos h, hf, hf, ← EReal.coe_mul]
    simp only [show (p.val + 8 - s) % 8 = p.val - s by omega]
  · rw [if_neg h, if_neg h, hf]

omit H in
theorem dn_b (s : ℕ) (hs : s ≤ 8) (f v : Fin 8 → EReal) (a c : ℕ → ℝ) (hf : ∀ p, f p = ((a p.val : ℝ) : EReal))
    (hv : ∀ p, v p = ((c p.val : ℝ) : EReal)) (p : Fin 8) :
    Scalar.select (IntOp.cmpi CmpIPredicate.sge (BitVec.ofNat 32 p.val) (BitVec.ofNat 32 s)) (f p * v ⟨(p.val + 8 - s) % 8, Nat.mod_lt _ (by decide)⟩ + v p) (v p)
      = ((dnB s a c p.val : ℝ) : EReal) := by
  rw [sge_word _ _ (by omega) (by omega)]; unfold dnB
  by_cases h : s ≤ p.val
  · rw [if_pos h, if_pos h, hf, hv, hv, ← EReal.coe_mul, ← EReal.coe_add]
    simp only [show (p.val + 8 - s) % 8 = p.val - s by omega]
  · rw [if_neg h, if_neg h, hv]

omit H in
/-- A group's factors and terms, by its own rows. -/
def _root_.Cert.GatesMath.Data.fa (D : Data) (T : ℕ) (g : Fin 32) (j : Fin 1024) (p : ℕ) : ℝ := D.a (256 * T + (g.val * 8 + p)) j
omit H in
def _root_.Cert.GatesMath.Data.fb (D : Data) (T : ℕ) (g : Fin 32) (j : Fin 1024) (p : ℕ) : ℝ := D.bx (256 * T + (g.val * 8 + p)) j

theorem a1_at (g : Fin 32) (p : Fin 8) (j : Fin 1024) : k0_pay28 (F := Ideal) b.v150 rows8 1#32 (ix3 g p j) = ((dnA 1 (D.fa T g j) p.val : ℝ) : EReal) := by
  pointwise [k0_pay28, k0_pay27]
  exact dn_a 1 (by decide) (fun p => b.v150 (ix3 g p j)) _ (fun p => al_at H g p j) p

theorem a2_at (g : Fin 32) (p : Fin 8) (j : Fin 1024) : k0_pay30 (F := Ideal) b.v150 rows8 1#32 (ix3 g p j) = ((dnA 2 (dnA 1 (D.fa T g j)) p.val : ℝ) : EReal) := by
  pointwise [k0_pay30, k0_pay29]
  exact dn_a 2 (by decide) (fun p => k0_pay28 (F := Ideal) b.v150 rows8 1#32 (ix3 g p j)) _ (fun p => a1_at H g p j) p

theorem v179_at (g : Fin 32) (p : Fin 8) (j : Fin 1024) : b.v179 (ix3 g p j) = ((dnA 4 (dnA 2 (dnA 1 (D.fa T g j))) p.val : ℝ) : EReal) := by
  unfold v179
  pointwise [k0_pay33, k0_pay31]
  exact dn_a 4 (by decide) (fun p => k0_pay30 (F := Ideal) b.v150 rows8 1#32 (ix3 g p j)) _ (fun p => a2_at H g p j) p

theorem v177_at (g : Fin 32) (p : Fin 8) (j : Fin 1024) :
    b.v177 (ix3 g p j) = ((dnB 4 (dnA 2 (dnA 1 (D.fa T g j))) (dnB 2 (dnA 1 (D.fa T g j)) (dnB 1 (D.fa T g j) (D.fb T g j))) p.val : ℝ) : EReal) := by
  unfold v177
  pointwise [k0_pay32, k0_pay27, k0_pay29, k0_pay31]
  exact dn_b 4 (by decide) (fun p => k0_pay30 (F := Ideal) b.v150 rows8 1#32 (ix3 g p j)) _ _ _ (fun p => a2_at H g p j)
    (fun p => dn_b 2 (by decide) (fun p => k0_pay28 (F := Ideal) b.v150 rows8 1#32 (ix3 g p j)) _ _ _ (fun p => a1_at H g p j)
      (fun p => dn_b 1 (by decide) (fun p => b.v150 (ix3 g p j)) (fun p => b.v151 (ix3 g p j)) _ _ (fun p => al_at H g p j) (fun p => be_at H g p j) p) p) p

/-! ### The recurrence, group by group -/

omit H in
theorem step (p : Fin 8) (j : Fin 1024) : ∀ g : Fin 32,
    b.grp g (ix2 p j) = b.v179 (ix3 g p j) * (if h : 0 < g.val then b.grp ⟨g.val - 1, by omega⟩ (ix2 7 j) else b.cr (ix2 0 j)) + b.v177 (ix3 g p j)
  | 0 => by show b.v186 (ix2 p j) = b.v179 (ix3 0 p j) * b.cr (ix2 0 j) + b.v177 (ix3 0 p j); unfold v186; pointwise [k0_pay34]; rfl
  | 1 => by show b.v194 (ix2 p j) = b.v179 (ix3 1 p j) * b.v186 (ix2 7 j) + b.v177 (ix3 1 p j); unfold v194; pointwise [k0_pay35]; rfl
  | 2 => by show b.v202 (ix2 p j) = b.v179 (ix3 2 p j) * b.v194 (ix2 7 j) + b.v177 (ix3 2 p j); unfold v202; pointwise [k0_pay36]; rfl
  | 3 => by show b.v210 (ix2 p j) = b.v179 (ix3 3 p j) * b.v202 (ix2 7 j) + b.v177 (ix3 3 p j); unfold v210 v203 v204; pointwise [k0_pay37, k0_pay38, k0_pay39]; rfl
  | 4 => by show b.v218 (ix2 p j) = b.v179 (ix3 4 p j) * b.v210 (ix2 7 j) + b.v177 (ix3 4 p j); unfold v218; pointwise [k0_pay40]; rfl
  | 5 => by show b.v226 (ix2 p j) = b.v179 (ix3 5 p j) * b.v218 (ix2 7 j) + b.v177 (ix3 5 p j); unfold v226; pointwise [k0_pay41]; rfl
  | 6 => by show b.v234 (ix2 p j) = b.v179 (ix3 6 p j) * b.v226 (ix2 7 j) + b.v177 (ix3 6 p j); unfold v234; pointwise [k0_pay42]; rfl
  | 7 => by show b.v242 (ix2 p j) = b.v179 (ix3 7 p j) * b.v234 (ix2 7 j) + b.v177 (ix3 7 p j); unfold v242; pointwise [k0_pay43]; rfl
  | 8 => by show b.v250 (ix2 p j) = b.v179 (ix3 8 p j) * b.v242 (ix2 7 j) + b.v177 (ix3 8 p j); unfold v250; pointwise [k0_pay44]; rfl
  | 9 => by show b.v258 (ix2 p j) = b.v179 (ix3 9 p j) * b.v250 (ix2 7 j) + b.v177 (ix3 9 p j); unfold v258; pointwise [k0_pay45]; rfl
  | 10 => by show b.v266 (ix2 p j) = b.v179 (ix3 10 p j) * b.v258 (ix2 7 j) + b.v177 (ix3 10 p j); unfold v266 v263 v264; pointwise [k0_pay46, k0_pay47, k0_pay48]; rfl
  | 11 => by show b.v274 (ix2 p j) = b.v179 (ix3 11 p j) * b.v266 (ix2 7 j) + b.v177 (ix3 11 p j); unfold v274; pointwise [k0_pay49]; rfl
  | 12 => by show b.v282 (ix2 p j) = b.v179 (ix3 12 p j) * b.v274 (ix2 7 j) + b.v177 (ix3 12 p j); unfold v282; pointwise [k0_pay50]; rfl
  | 13 => by show b.v290 (ix2 p j) = b.v179 (ix3 13 p j) * b.v282 (ix2 7 j) + b.v177 (ix3 13 p j); unfold v290; pointwise [k0_pay51]; rfl
  | 14 => by show b.v298 (ix2 p j) = b.v179 (ix3 14 p j) * b.v290 (ix2 7 j) + b.v177 (ix3 14 p j); unfold v298; pointwise [k0_pay52]; rfl
  | 15 => by show b.v306 (ix2 p j) = b.v179 (ix3 15 p j) * b.v298 (ix2 7 j) + b.v177 (ix3 15 p j); unfold v306; pointwise [k0_pay53]; rfl
  | 16 => by show b.v314 (ix2 p j) = b.v179 (ix3 16 p j) * b.v306 (ix2 7 j) + b.v177 (ix3 16 p j); unfold v314; pointwise [k0_pay54]; rfl
  | 17 => by show b.v322 (ix2 p j) = b.v179 (ix3 17 p j) * b.v314 (ix2 7 j) + b.v177 (ix3 17 p j); unfold v322; pointwise [k0_pay55]; rfl
  | 18 => by show b.v330 (ix2 p j) = b.v179 (ix3 18 p j) * b.v322 (ix2 7 j) + b.v177 (ix3 18 p j); unfold v330 v323 v324; pointwise [k0_pay56, k0_pay57, k0_pay58]; rfl
  | 19 => by show b.v338 (ix2 p j) = b.v179 (ix3 19 p j) * b.v330 (ix2 7 j) + b.v177 (ix3 19 p j); unfold v338; pointwise [k0_pay59]; rfl
  | 20 => by show b.v346 (ix2 p j) = b.v179 (ix3 20 p j) * b.v338 (ix2 7 j) + b.v177 (ix3 20 p j); unfold v346; pointwise [k0_pay60]; rfl
  | 21 => by show b.v354 (ix2 p j) = b.v179 (ix3 21 p j) * b.v346 (ix2 7 j) + b.v177 (ix3 21 p j); unfold v354; pointwise [k0_pay61]; rfl
  | 22 => by show b.v362 (ix2 p j) = b.v179 (ix3 22 p j) * b.v354 (ix2 7 j) + b.v177 (ix3 22 p j); unfold v362; pointwise [k0_pay62]; rfl
  | 23 => by show b.v370 (ix2 p j) = b.v179 (ix3 23 p j) * b.v362 (ix2 7 j) + b.v177 (ix3 23 p j); unfold v370; pointwise [k0_pay63]; rfl
  | 24 => by show b.v378 (ix2 p j) = b.v179 (ix3 24 p j) * b.v370 (ix2 7 j) + b.v177 (ix3 24 p j); unfold v378; pointwise [k0_pay64]; rfl
  | 25 => by show b.v386 (ix2 p j) = b.v179 (ix3 25 p j) * b.v378 (ix2 7 j) + b.v177 (ix3 25 p j); unfold v386 v383 v384; pointwise [k0_pay65, k0_pay66, k0_pay67]; rfl
  | 26 => by show b.v394 (ix2 p j) = b.v179 (ix3 26 p j) * b.v386 (ix2 7 j) + b.v177 (ix3 26 p j); unfold v394; pointwise [k0_pay68]; rfl
  | 27 => by show b.v402 (ix2 p j) = b.v179 (ix3 27 p j) * b.v394 (ix2 7 j) + b.v177 (ix3 27 p j); unfold v402; pointwise [k0_pay69]; rfl
  | 28 => by show b.v410 (ix2 p j) = b.v179 (ix3 28 p j) * b.v402 (ix2 7 j) + b.v177 (ix3 28 p j); unfold v410; pointwise [k0_pay70]; rfl
  | 29 => by show b.v418 (ix2 p j) = b.v179 (ix3 29 p j) * b.v410 (ix2 7 j) + b.v177 (ix3 29 p j); unfold v418; pointwise [k0_pay71]; rfl
  | 30 => by show b.v426 (ix2 p j) = b.v179 (ix3 30 p j) * b.v418 (ix2 7 j) + b.v177 (ix3 30 p j); unfold v426; pointwise [k0_pay72]; rfl
  | 31 => by show b.v434 (ix2 p j) = b.v179 (ix3 31 p j) * b.v426 (ix2 7 j) + b.v177 (ix3 31 p j); unfold v434; pointwise [k0_pay73]; rfl
  | ⟨n + 32, h⟩ => absurd h (by omega)

/-- What enters a group. -/
def _root_.Cert.GatesMath.Data.fin (D : Data) (T : ℕ) (g : Fin 32) (j : Fin 1024) : ℝ :=
  if 0 < g.val then D.h (256 * T + g.val * 8 - 1) j else D.hin T j

theorem h_step (t : ℕ) (j : Fin 1024) : D.h (t + 1) j = D.bx (t + 1) j + D.a (t + 1) j * D.h t j := rfl

theorem chain (g : Fin 32) (p : Fin 8) (j : Fin 1024) :
    dnA 4 (dnA 2 (dnA 1 (D.fa T g j))) p.val * D.fin T g j + dnB 4 (dnA 2 (dnA 1 (D.fa T g j))) (dnB 2 (dnA 1 (D.fa T g j)) (dnB 1 (D.fa T g j) (D.fb T g j))) p.val
      = D.h (256 * T + (g.val * 8 + p.val)) j := by
  refine dn_eq (D.fa T g j) (D.fb T g j) (fun p => D.h (256 * T + (g.val * 8 + p)) j) (D.fin T g j) ?_ (fun q _ => h_step H _ _) p.val p.isLt
  unfold Data.fa Data.fb Data.fin Data.hin
  rw [Nat.add_zero]
  by_cases h : 0 < g.val
  · rw [if_pos h]
    obtain ⟨u, hu⟩ : ∃ u, 256 * T + g.val * 8 = u + 1 := ⟨256 * T + g.val * 8 - 1, by omega⟩
    rw [hu]; exact h_step H _ _
  · rw [if_neg h]
    by_cases hT : T = 0
    · rw [if_pos hT, show 256 * T + g.val * 8 = 0 by omega, mul_zero, add_zero]; rfl
    · rw [if_neg hT]
      obtain ⟨u, hu⟩ : ∃ u, 256 * T + g.val * 8 = u + 1 := ⟨256 * T + g.val * 8 - 1, by omega⟩
      rw [hu, show 256 * T - 1 = u by omega]; exact h_step H _ _

theorem grp_at (n : ℕ) : ∀ (g : Fin 32) (p : Fin 8) (j : Fin 1024), g.val = n → b.grp g (ix2 p j) = ((D.h (256 * T + (g.val * 8 + p.val)) j : ℝ) : EReal) := by
  induction n with
  | zero =>
    intro g p j hg
    rw [step, dif_neg (by omega), v179_at H, v177_at H, H.cr, ← chain H g p j, EReal.coe_add, EReal.coe_mul]
    unfold Data.fin; rw [if_neg (by omega)]
  | succ n ih =>
    intro g p j hg
    rw [step, dif_pos (by omega), v179_at H, v177_at H, ih ⟨g.val - 1, by omega⟩ 7 j (by dsimp only; omega), ← chain H g p j, EReal.coe_add, EReal.coe_mul]
    unfold Data.fin; rw [if_pos (by omega)]
    rw [show 256 * T + ((⟨g.val - 1, by omega⟩ : Fin 32).val * 8 + (7 : Fin 8).val) = 256 * T + g.val * 8 - 1 by dsimp only; have : (7 : Fin 8).val = 7 := rfl; omega]

/-- The recurrence's rows of the tile. -/
theorem h_at (r : Fin 256) (j : Fin 1024) : b.v436 (ix2 r j) = ((D.h (256 * T + r.val) j : ℝ) : EReal) := by
  have hr := r.isLt
  have e : b.v436 (ix2 r j) = b.grp ⟨r.val / 8, by omega⟩ (ix2 ⟨r.val % 8, by omega⟩ j) :=
    concatenate_ofFn_apply (t := S256x1024) (s₁ := S8x1024) 0 b.grp concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S256x1024_d0 rfl 8 rfl (ix2 r j) ⟨r.val / 8, by omega⟩ rfl
      (ix2 ⟨r.val % 8, by omega⟩ j) rfl (fun a ha => by
        have : a = 1 := by
          rcases a with ⟨a, h⟩
          have h2 : a < 2 := h
          rcases Nat.lt_or_ge a 1 with h1 | h1
          · exact absurd (Fin.ext (by simp only [Fin.val_cast]; omega)) ha
          · exact Fin.ext (by show a = 1; omega)
        subst this; rfl)
  rw [e, grp_at H (r.val / 8) _ _ j rfl]
  congr 3; dsimp only; omega

/-! ### What is stored and passed on -/

/-- The row passed on. -/
theorem car_at (j : Fin 1024) : b.car (ix2 0 j) = ((D.hin (T + 1) j : ℝ) : EReal) := by
  have e : b.car (ix2 0 j) = b.grp 31 (ix2 7 j) := by
    unfold car; pointwise [k0_pay75]; rfl
  rw [e, grp_at H 31 31 7 j rfl]
  unfold Data.hin; rw [if_neg (by omega)]; rfl

theorem tlo_at (p : Fin 8) (j : Fin 1024) : b.tlo (ix2 p j) = ((D.tin (T + 1) p.val j : ℝ) : EReal) := by
  unfold tlo
  pointwise [k0_pay24]
  rw [v5_at H]
  unfold Data.tin; rw [if_neg (by omega), show 256 * (T + 1) - 8 + p.val = 256 * T + (248 + p.val) by omega]

theorem ya_at (r : Fin 256) (j : Fin 1024) : b.ya (ix2 r j) = ((D.h (256 * T + r.val) j * D.gg (256 * T + r.val) j : ℝ) : EReal) := by
  unfold ya
  pointwise [k0_pay1]
  rw [h_at H, H.ga, k01_eq, bits_k0, bits_half]
  simp only [← EReal.coe_mul, ← EReal.coe_add, Ideal.tanh_coe]
  unfold Data.gg gel
  congr 2
  rw [show k0 * (D.ga (256 * T + r.val) j + k1 * (D.ga (256 * T + r.val) j * D.ga (256 * T + r.val) j * D.ga (256 * T + r.val) j))
    = D.ga (256 * T + r.val) j * (k0 + k0 * k1 * (D.ga (256 * T + r.val) j * D.ga (256 * T + r.val) j)) by ring]
  ring

end Tile

end Cert.LruIdeal.Hand

end
-- ==== Proof.ScanTree.lean ====
/- The scan that halves its rows: each level combines neighbouring rows, and on the way up the odd rows are the half's
   scan and the even rows one step after it. Every level solves its own recurrence. -/
module

public import proofs.«01_k».proof.Proof.LruMath
public import Idealize.ShloMosaic.Lib.Pointwise
public import Idealize.ShloMosaic.Lib.KernelVsHost

@[expose] public section

noncomputable section

namespace Cert.ScanTree

open Idealize.ShloMosaic

/-! ### Over the real numbers -/

def hA (a : ℕ → ℝ) (t : ℕ) : ℝ := a (2 * t) * a (1 + 2 * t)
def hB (a b : ℕ → ℝ) (t : ℕ) : ℝ := a (1 + 2 * t) * b (2 * t) + b (1 + 2 * t)

/-- The half's scan is the scan at the odd rows. -/
theorem scan_half (a b : ℕ → ℝ) (t : ℕ) : LruMath.scan (hA a) (hB a b) t = LruMath.scan a b (1 + 2 * t) := by
  induction t with
  | zero => simp [LruMath.scan, hB]; ring
  | succ t ih =>
    have e : 1 + 2 * (t + 1) = (1 + 2 * t) + 1 + 1 := by ring
    rw [e, LruMath.scan, LruMath.scan, LruMath.scan, ih, hA, hB, show 2 * (t + 1) = 1 + 2 * t + 1 from by ring, show 1 + (1 + 2 * t + 1) = 1 + 2 * t + 1 + 1 from by ring]
    ring

/-- A level of the way up, by the half's rows `s`. -/
def upTo (a b s : ℕ → ℝ) (t : ℕ) : ℝ := if t % 2 = 1 then s (t / 2) else if t = 0 then b 0 else a t * s (t / 2 - 1) + b t

theorem upTo_scan (a b : ℕ → ℝ) (t : ℕ) : upTo a b (LruMath.scan (hA a) (hB a b)) t = LruMath.scan a b t := by
  unfold upTo
  simp only [scan_half]
  by_cases h : t % 2 = 1
  · rw [if_pos h, show 1 + 2 * (t / 2) = t from by omega]
  · rw [if_neg h]
    by_cases h0 : t = 0
    · rw [if_pos h0, h0, LruMath.scan]
    · rw [if_neg h0]
      obtain ⟨u, rfl⟩ : ∃ u, t = u + 1 := ⟨t - 1, by omega⟩
      rw [LruMath.scan, show 1 + 2 * ((u + 1) / 2 - 1) = u from by omega]; ring

/-! ### The printed operations -/

abbrev Sh (n : ℕ) : Shape := ⟨3, ![1, n, 1024]⟩
abbrev S0 : Shape := ⟨0, ![]⟩

/-- A row array holds real rows. -/
def Rows (n : ℕ) (v : FVec Ideal (Sh n) .f32) (f : ℕ → Fin 1024 → ℝ) : Prop :=
  ∀ (t : Fin n) (j : Fin 1024), v (ix3 0 t j) = ((f t j : ℝ) : EReal)

variable {n m p : ℕ} {A B : FVec Ideal (Sh n) .f32} {f g : ℕ → Fin 1024 → ℝ}

theorem slice_rows (s : ℕ) (h : (Sh n).SlicesBy ![0, s, 0] ![1, 2, 1] (Sh m)) (hb : ∀ t, t < m → s + 2 * t < n) (H : Rows n A f) :
    Rows m (Host.slice (Sh m) ![0, s, 0] ![1, 2, 1] A h) (fun t j => f (s + 2 * t) j) := fun t j => by
  refine (congrArg A ?_).trans (H ⟨s + 2 * t, hb t t.isLt⟩ j)
  funext a
  apply Fin.ext
  match a with
  | ⟨0, _⟩ => rfl
  | ⟨1, _⟩ => rfl
  | ⟨2, _⟩ => show 0 + 1 * j.val = j.val; omega

theorem cut_rows (h : (Sh n).Slices ![0, 0, 0] (Sh m)) (hb : ∀ t, t < m → t < n) (H : Rows n A f) :
    Rows m (extractStridedSlice (Sh m) ![0, 0, 0] A h) f := fun t j => by
  refine (congrArg A ?_).trans (H ⟨t, hb t t.isLt⟩ j)
  funext a
  apply Fin.ext
  match a with
  | ⟨0, _⟩ => rfl
  | ⟨1, _⟩ => show 0 + t.val = t.val; omega
  | ⟨2, _⟩ => show 0 + j.val = j.val; omega

theorem mul_rows (HA : Rows n A f) (HB : Rows n B g) : Rows n (mulf A B) (fun t j => f t j * g t j) := fun t j => by
  show A (ix3 0 t j) * B (ix3 0 t j) = _
  rw [HA, HB, ← EReal.coe_mul]

theorem add_rows (HA : Rows n A f) (HB : Rows n B g) : Rows n (addf A B) (fun t j => f t j + g t j) := fun t j => by
  show A (ix3 0 t j) + B (ix3 0 t j) = _
  rw [HA, HB, ← EReal.coe_add]

theorem down_A (hn : n = 2 * m) (h0 : (Sh n).SlicesBy ![0, 0, 0] ![1, 2, 1] (Sh m)) (h1 : (Sh n).SlicesBy ![0, 1, 0] ![1, 2, 1] (Sh m))
    (HA : Rows n A f) : Rows m (mulf (Host.slice (Sh m) ![0, 0, 0] ![1, 2, 1] A h0) (Host.slice (Sh m) ![0, 1, 0] ![1, 2, 1] A h1))
      (fun t j => hA (fun u => f u j) t) := fun t j => by
  refine (mul_rows (slice_rows 0 h0 (fun t _ => by omega) HA) (slice_rows 1 h1 (fun t _ => by omega) HA) t j).trans ?_
  beta_reduce
  rw [Nat.zero_add]; rfl

theorem down_B (hn : n = 2 * m) (h0 : (Sh n).SlicesBy ![0, 0, 0] ![1, 2, 1] (Sh m)) (h1 h1' : (Sh n).SlicesBy ![0, 1, 0] ![1, 2, 1] (Sh m))
    (HA : Rows n A f) (HB : Rows n B g) :
    Rows m (addf (mulf (Host.slice (Sh m) ![0, 1, 0] ![1, 2, 1] A h1) (Host.slice (Sh m) ![0, 0, 0] ![1, 2, 1] B h0))
      (Host.slice (Sh m) ![0, 1, 0] ![1, 2, 1] B h1')) (fun t j => hB (fun u => f u j) (fun u => g u j) t) := fun t j => by
  refine (add_rows (mul_rows (slice_rows 1 h1 (fun t _ => by omega) HA) (slice_rows 0 h0 (fun t _ => by omega) HB))
    (slice_rows 1 h1' (fun t _ => by omega) HB) t j).trans ?_
  beta_reduce
  rw [Nat.zero_add]; rfl

/-- A row array's rows at every other place, zeros between. -/
theorem spread_rows (lo : ℕ) (hi : Fin 3 → ℕ) (hl : lo < 2) (hn : n = 2 * m) {S : FVec Ideal (Sh m) .f32} {s : ℕ → Fin 1024 → ℝ} (H : Rows m S s)
    (h : (Sh m).Pads ![0, lo, 0] hi ![0, 1, 0] (Sh n)) (hu : 0 < S0.numel) :
    Rows n (pad (Sh n) ![0, lo, 0] hi ![0, 1, 0] S (constant S0 .f32 0x00000000#32) h hu) (fun t j => if t % 2 = lo then s (t / 2) j else 0) := fun t j => by
  beta_reduce
  by_cases e : t.val % 2 = lo
  · rw [if_pos e]
    refine (pad_apply_of_inside _ _ _ S _ h hu _ (ix3 0 ⟨t.val / 2, by omega⟩ j) fun a => ?_).trans (H ⟨t.val / 2, by omega⟩ j)
    match a with
    | ⟨0, _⟩ => rfl
    | ⟨1, _⟩ => show t.val = lo + t.val / 2 * 2; omega
    | ⟨2, _⟩ => show j.val = 0 + j.val * 1; omega
  · rw [if_neg e]
    refine (pad_apply_of_not_inside _ _ _ S _ h hu _ 1 ?_).trans (Ideal.ofBits_zero .f32)
    rintro ⟨h1, h2, -⟩
    have h1' : lo ≤ t.val := h1
    have h2' : (t.val - lo) % 2 = 0 := h2
    omega

/-- A first row, then the others. -/
theorem cat_rows (hm : p + 1 = m) {X : FVec Ideal (Sh 1) .f32} {Y : FVec Ideal (Sh p) .f32} {x y : ℕ → Fin 1024 → ℝ} (HX : Rows 1 X x) (HY : Rows p Y y)
    (h : Shape.Concatenates [Sh 1, Sh p] (Sh m) 1) :
    Rows m (concatenate (Sh m) 1 [⟨Sh 1, X⟩, ⟨Sh p, Y⟩] h) (fun t j => if t = 0 then x 0 j else y (t - 1) j) := fun t j => by
  beta_reduce
  by_cases e : t.val = 0
  · rw [if_pos e]
    refine (concatenate_pair_apply_left 1 X Y h _ rfl (ix3 0 0 j) fun b => ?_).trans (HX 0 j)
    match b with
    | ⟨0, _⟩ => rfl
    | ⟨1, _⟩ => exact e.symm
    | ⟨2, _⟩ => rfl
  · rw [if_neg e]
    refine (concatenate_pair_apply_right 1 X Y h _ rfl rfl (ix3 0 ⟨t.val - 1, by omega⟩ j) (fun b hb => ?_) ?_).trans (HY ⟨t.val - 1, by omega⟩ j)
    · match b with
      | ⟨0, _⟩ => rfl
      | ⟨1, _⟩ => exact absurd rfl hb
      | ⟨2, _⟩ => rfl
    · show t.val - 1 + 1 = t.val; omega

/-- A level of the way up. -/
theorem up_rows (hn : n = 2 * m) (hm : p + 1 = m) {S : FVec Ideal (Sh m) .f32}
    (HA : Rows n A f) (HB : Rows n B g) (HS : Rows m S fun t j => LruMath.scan (hA fun u => f u j) (hB (fun u => f u j) fun u => g u j) t)
    {h2 h2' : (Sh n).SlicesBy ![0, 2, 0] ![1, 2, 1] (Sh p)} {hS : (Sh m).Slices ![0, 0, 0] (Sh p)} {hf : (Sh n).Slices ![0, 0, 0] (Sh 1)}
    {hc : Shape.Concatenates [Sh 1, Sh p] (Sh m) 1} {hp : (Sh m).Pads ![0, 0, 0] ![0, 1, 0] ![0, 1, 0] (Sh n)}
    {hp' : (Sh m).Pads ![0, 1, 0] ![0, 0, 0] ![0, 1, 0] (Sh n)} {hu hu' : 0 < S0.numel} :
    Rows n (addf (pad (Sh n) ![0, 0, 0] ![0, 1, 0] ![0, 1, 0] (concatenate (Sh m) 1 [⟨Sh 1, extractStridedSlice (Sh 1) ![0, 0, 0] B hf⟩,
        ⟨Sh p, addf (mulf (Host.slice (Sh p) ![0, 2, 0] ![1, 2, 1] A h2) (extractStridedSlice (Sh p) ![0, 0, 0] S hS))
          (Host.slice (Sh p) ![0, 2, 0] ![1, 2, 1] B h2')⟩] hc) (constant S0 .f32 0x00000000#32) hp hu)
        (pad (Sh n) ![0, 1, 0] ![0, 0, 0] ![0, 1, 0] S (constant S0 .f32 0x00000000#32) hp' hu'))
      (fun t j => LruMath.scan (fun u => f u j) (fun u => g u j) t) := fun t j => by
  have e := add_rows (spread_rows 0 ![0, 1, 0] (by decide) hn (cat_rows hm (cut_rows hf (fun t ht => by omega) HB)
    (add_rows (mul_rows (slice_rows 2 h2 (fun t _ => by omega) HA) (cut_rows hS (fun t _ => by omega) HS))
      (slice_rows 2 h2' (fun t _ => by omega) HB)) hc) hp hu) (spread_rows 1 ![0, 0, 0] (by decide) hn HS hp' hu') t j
  refine e.trans (congrArg _ ?_)
  beta_reduce
  rw [← upTo_scan (fun u => f u j) (fun u => g u j) t]
  unfold upTo
  by_cases h : t.val % 2 = 1
  · rw [if_neg (by omega), if_pos h, if_pos h, zero_add]
  · rw [if_pos (by omega), if_neg h, if_neg h, add_zero]
    by_cases h0 : t.val = 0
    · rw [if_pos (by omega), if_pos h0]
    · rw [if_neg (by omega), if_neg h0, show 2 + 2 * (t.val / 2 - 1) = t.val from by omega]

/-- The factors and the terms of a level, `k` levels down. -/
def iA (a : ℕ → Fin 1024 → ℝ) : ℕ → ℕ → Fin 1024 → ℝ
  | 0 => a
  | k + 1 => fun t j => hA (fun u => iA a k u j) t
def iB (a b : ℕ → Fin 1024 → ℝ) : ℕ → ℕ → Fin 1024 → ℝ
  | 0 => b
  | k + 1 => fun t j => hB (fun u => iA a k u j) (fun u => iB a b k u j) t

/-- A level's solution. -/
def iS (a b : ℕ → Fin 1024 → ℝ) (k : ℕ) (t : ℕ) (j : Fin 1024) : ℝ := LruMath.scan (fun u => iA a k u j) (fun u => iB a b k u j) t

end Cert.ScanTree

end
-- ==== Proof.LruRef.lean ====
/- The recurrent unit's forward reference, read line by line: its values are the real functions of GatesMath. -/
module

public import proofs.«01_k».proof.Proof.GatesMath
public import proofs.«01_k».proof.Proof.ScanTree
public import proofs.«01_k».proof.Proof.Gen.LruRefIdeal.Read
public import Idealize.ShloMosaic.Lib.Pointwise

@[expose] public section

set_option maxRecDepth 16384

noncomputable section

namespace Cert.LruRefIdeal.Hand

open Cert.LruRefIdeal Cert.LruRefIdeal.Read Idealize.ShloMosaic Idealize.ShloMosaic.TcCoe Idealize.SL.Sem
open Cert.GatesMath Cert.ScanTree

/-- The arguments hold real numbers. -/
structure Args (x0 : FVec Ideal S1x4096x6144 .f32) (x1 : FVec Ideal S1x4x1024 .f32) (x2 : FVec Ideal S1x1024 .f32)
    (x3 : FVec Ideal S1x4x256x256 .f32) (x4 : FVec Ideal S1x4x256 .f32) (x5 : FVec Ideal S1x4x256x256 .f32)
    (x6 : FVec Ideal S1x4x256 .f32) (x7 : FVec Ideal S1x1024 .f32) (D : Data) : Prop where
  xa : ∀ (t : Fin 4096) (j : Fin 1024), x0 (ix3 0 t ⟨j.val, by omega⟩) = ((D.xa t j : ℝ) : EReal)
  ga : ∀ (t : Fin 4096) (j : Fin 1024), x0 (ix3 0 t ⟨1024 + j.val, by omega⟩) = ((D.ga t j : ℝ) : EReal)
  cw : ∀ (k : Fin 4) (j : Fin 1024), x1 (ix3 0 k j) = ((D.cw k j : ℝ) : EReal)
  cb : ∀ j : Fin 1024, x2 (ix2 0 j) = ((D.cb j : ℝ) : EReal)
  wr : ∀ (h : Fin 4) (i k : Fin 256), x3 (ix4 0 h i k) = ((D.wr h i k : ℝ) : EReal)
  br : ∀ (h : Fin 4) (k : Fin 256), x4 (ix3 0 h k) = ((D.br h k : ℝ) : EReal)
  wi : ∀ (h : Fin 4) (i k : Fin 256), x5 (ix4 0 h i k) = ((D.wi h i k : ℝ) : EReal)
  bi : ∀ (h : Fin 4) (k : Fin 256), x6 (ix3 0 h k) = ((D.bi h k : ℝ) : EReal)
  lm : ∀ j : Fin 1024, x7 (ix2 0 j) = ((D.lm j : ℝ) : EReal)

variable {x0 : FVec Ideal S1x4096x6144 .f32} {x1 : FVec Ideal S1x4x1024 .f32} {x2 : FVec Ideal S1x1024 .f32}
  {x3 : FVec Ideal S1x4x256x256 .f32} {x4 : FVec Ideal S1x4x256 .f32} {x5 : FVec Ideal S1x4x256x256 .f32}
  {x6 : FVec Ideal S1x4x256 .f32} {x7 : FVec Ideal S1x1024 .f32} {D : Data}
  (H : Args x0 x1 x2 x3 x4 x5 x6 x7 D)
include H

/-- The padded rows: three of zeros, then the input's. -/
theorem pad3 (k : ℕ) (hk : k ≤ 3) (t : Fin 4096) (j : Fin 1024) : (val_main_v3 (F := Ideal) x0) (ix3 0 ⟨k + t.val, by omega⟩ j) = ((Data.bk (3 - k) D.xa t j : ℝ) : EReal) := by
  by_cases h : k + t.val < 3
  · refine (pad_apply_of_not_inside _ _ _ _ _ _ _ _ 1 ?_).trans ?_
    · rintro ⟨h1, -, -⟩
      have h1' : 3 ≤ k + t.val := h1
      omega
    · rw [← pad_at D.xa k t hk, if_pos h]
      exact (sitofp_zero (φ := .f32)).trans EReal.coe_zero.symm
  · refine (pad_apply_of_inside _ _ _ _ _ _ _ _ (ix3 0 ⟨k + t.val - 3, by omega⟩ j) fun a => ?_).trans ?_
    · match a with
      | ⟨0, _⟩ => rfl
      | ⟨1, _⟩ => show k + t.val = 3 + (k + t.val - 3) * 1; omega
      | ⟨2, _⟩ => show j.val = 0 + j.val * 1; omega
    · rw [← pad_at D.xa k t hk, if_neg h]
      pointwise [val_main_v0]
      exact H.xa _ _

theorem pad0 (t : Fin 4096) (j : Fin 1024) : (val_main_v3 (F := Ideal) x0) (ix3 0 ⟨t.val, by omega⟩ j) = ((Data.bk 3 D.xa t j : ℝ) : EReal) := by
  have e := pad3 H 0 (by decide) t j
  simp only [Nat.zero_add, Nat.sub_zero] at e
  exact e

theorem xc_is : Rows 4096 (val_main_v33 (F := Ideal) x0 x1 x2) D.xc := fun t j => by
  pointwise [val_main_v33, val_main_v26, val_main_v19, val_main_v12, val_main_v11, val_main_v10, val_main_v2, val_main_v9, val_main_v4, val_main_v8, val_main_v7, val_main_v6, val_main_v5, val_main_v1, val_main_v18, val_main_v13, val_main_v17, val_main_v16, val_main_v15, val_main_v14, val_main_v25, val_main_v20, val_main_v24, val_main_v23, val_main_v22, val_main_v21, val_main_v32, val_main_v27, val_main_v31, val_main_v30, val_main_v29, val_main_v28]
  simp only [pad0 H, pad3 H 3 (by decide) t j, pad3 H 2 (by decide) t j, pad3 H 1 (by decide) t j, H.cw, H.cb, ← EReal.coe_add, ← EReal.coe_mul]
  rfl

/-- A gate's values by heads. -/
theorem r4_at (t : Fin 4096) (h : Fin 4) (x : Fin 256) : (val_main_v50 (F := Ideal) x0 x1 x2 x3 x4) (ix4 0 t h x) = ((D.r t (col h x) : ℝ) : EReal) := by
  pointwise [val_main_v50, val_main_v49, val_main_cst_0, val_main_v48, val_main_v47, val_main_cst, val_main_v46, val_main_v45, val_main_v44, val_main_v41, val_main_v40, val_main_v34, val_main_v39, val_main_v43, val_main_v42, val_main_v35]
  simp only [H.wr, H.br, xc_is H _ _, ← EReal.coe_mul, coe_sum, ← EReal.coe_add, gate_at]
  simp only [Data.r, Data.pr, hd_col, lo_col]

/-- A gate's values by heads. -/
theorem ig4_at (t : Fin 4096) (h : Fin 4) (x : Fin 256) : (val_main_v62 (F := Ideal) x0 x1 x2 x5 x6) (ix4 0 t h x) = ((D.ig t (col h x) : ℝ) : EReal) := by
  pointwise [val_main_v62, val_main_v61, val_main_cst_2, val_main_v60, val_main_v59, val_main_cst_1, val_main_v58, val_main_v57, val_main_v56, val_main_v53, val_main_v52, val_main_v36, val_main_v39, val_main_v55, val_main_v54, val_main_v37]
  simp only [H.wi, H.bi, xc_is H _ _, ← EReal.coe_mul, coe_sum, ← EReal.coe_add, gate_at]
  simp only [Data.ig, Data.pi, hd_col, lo_col]

theorem r_is : Rows 4096 (val_main_v51 (F := Ideal) x0 x1 x2 x3 x4) D.r := fun t j => by
  pointwise [val_main_v51]
  exact (r4_at H t _ _).trans (by rw [col_hd_lo])

theorem ig_is : Rows 4096 (val_main_v63 (F := Ideal) x0 x1 x2 x5 x6) D.ig := fun t j => by
  pointwise [val_main_v63]
  exact (ig4_at H t _ _).trans (by rw [col_hd_lo])

/-- The rate: `log (1 + exp (-x))`. -/
theorem sp_at (j : Fin 1024) : (val_main_v67 (F := Ideal) x7) (ix1 j) = ((D.sp j : ℝ) : EReal) := by
  pointwise [val_main_v67, val_main_call1_v4, val_main_call1_v3, val_main_v66, val_main_v38, val_main_call1_v2, val_main_call1_cst, val_main_call1_v6, val_main_call1_v5, val_main_call1_v11, val_main_call1_v1, val_main_call1_v0, val_main_call1_v10, val_main_call1_v9, val_main_call1_v8, val_main_call1_v7]
  simp only [H.lm, ne_eq, not_true_eq_false, if_false]
  exact coe_spn _

theorem la_is : Rows 4096 (val_main_v70 (F := Ideal) x0 x1 x2 x3 x4 x7) D.la := fun t j => by
  pointwise [val_main_v70, val_main_v65, val_main_v64, val_main_cst_3, val_main_v69, val_main_v68]
  rw [r_is H, sp_at H, bits_m8, ← EReal.coe_mul, ← EReal.coe_mul]; rfl

theorem a_is : Rows 4096 (val_main_v71 (F := Ideal) x0 x1 x2 x3 x4 x7) D.a := fun t j => by
  pointwise [val_main_v71]
  rw [la_is H, Ideal.exp_coe]; rfl

theorem mult_is : Rows 4096 (val_main_v76 (F := Ideal) x0 x1 x2 x3 x4 x7) D.mult := fun t j => by
  pointwise [val_main_v76, val_main_v75, val_main_v74, val_main_v73, val_main_v72, val_main_cst_4]
  rw [la_is H, bits_two, ← EReal.coe_mul]
  exact coe_mult (D.q_pos t j)

theorem bx_is : Rows 4096 (val_main_v78 (F := Ideal) x0 x1 x2 x3 x4 x5 x6 x7) D.bx := fun t j => by
  pointwise [val_main_v78, val_main_v77]
  rw [xc_is H, ig_is H, mult_is H, ← EReal.coe_mul, ← EReal.coe_mul]; rfl

/-! ### The scan by halving -/

theorem A0 : Rows 4096 (val_main_v71 (F := Ideal) x0 x1 x2 x3 x4 x7) (iA D.a 0) := a_is H
theorem B0 : Rows 4096 (val_main_v78 (F := Ideal) x0 x1 x2 x3 x4 x5 x6 x7) (iB D.a D.bx 0) := bx_is H

theorem A1 : Rows 2048 (val_main_v83 (F := Ideal) x0 x1 x2 x3 x4 x7) (iA D.a 1) := down_A (n := 4096) (m := 2048) rfl _ _ (A0 H)
theorem B1 : Rows 2048 (val_main_v85 (F := Ideal) x0 x1 x2 x3 x4 x5 x6 x7) (iB D.a D.bx 1) := down_B (n := 4096) (m := 2048) rfl _ _ _ (A0 H) (B0 H)
theorem A2 : Rows 1024 (val_main_v90 (F := Ideal) x0 x1 x2 x3 x4 x7) (iA D.a 2) := down_A (n := 2048) (m := 1024) rfl _ _ (A1 H)
theorem B2 : Rows 1024 (val_main_v92 (F := Ideal) x0 x1 x2 x3 x4 x5 x6 x7) (iB D.a D.bx 2) := down_B (n := 2048) (m := 1024) rfl _ _ _ (A1 H) (B1 H)
theorem A3 : Rows 512 (val_main_v97 (F := Ideal) x0 x1 x2 x3 x4 x7) (iA D.a 3) := down_A (n := 1024) (m := 512) rfl _ _ (A2 H)
theorem B3 : Rows 512 (val_main_v99 (F := Ideal) x0 x1 x2 x3 x4 x5 x6 x7) (iB D.a D.bx 3) := down_B (n := 1024) (m := 512) rfl _ _ _ (A2 H) (B2 H)
theorem A4 : Rows 256 (val_main_v104 (F := Ideal) x0 x1 x2 x3 x4 x7) (iA D.a 4) := down_A (n := 512) (m := 256) rfl _ _ (A3 H)
theorem B4 : Rows 256 (val_main_v106 (F := Ideal) x0 x1 x2 x3 x4 x5 x6 x7) (iB D.a D.bx 4) := down_B (n := 512) (m := 256) rfl _ _ _ (A3 H) (B3 H)
theorem A5 : Rows 128 (val_main_v111 (F := Ideal) x0 x1 x2 x3 x4 x7) (iA D.a 5) := down_A (n := 256) (m := 128) rfl _ _ (A4 H)
theorem B5 : Rows 128 (val_main_v113 (F := Ideal) x0 x1 x2 x3 x4 x5 x6 x7) (iB D.a D.bx 5) := down_B (n := 256) (m := 128) rfl _ _ _ (A4 H) (B4 H)
theorem A6 : Rows 64 (val_main_v118 (F := Ideal) x0 x1 x2 x3 x4 x7) (iA D.a 6) := down_A (n := 128) (m := 64) rfl _ _ (A5 H)
theorem B6 : Rows 64 (val_main_v120 (F := Ideal) x0 x1 x2 x3 x4 x5 x6 x7) (iB D.a D.bx 6) := down_B (n := 128) (m := 64) rfl _ _ _ (A5 H) (B5 H)
theorem A7 : Rows 32 (val_main_v125 (F := Ideal) x0 x1 x2 x3 x4 x7) (iA D.a 7) := down_A (n := 64) (m := 32) rfl _ _ (A6 H)
theorem B7 : Rows 32 (val_main_v127 (F := Ideal) x0 x1 x2 x3 x4 x5 x6 x7) (iB D.a D.bx 7) := down_B (n := 64) (m := 32) rfl _ _ _ (A6 H) (B6 H)
theorem A8 : Rows 16 (val_main_v132 (F := Ideal) x0 x1 x2 x3 x4 x7) (iA D.a 8) := down_A (n := 32) (m := 16) rfl _ _ (A7 H)
theorem B8 : Rows 16 (val_main_v134 (F := Ideal) x0 x1 x2 x3 x4 x5 x6 x7) (iB D.a D.bx 8) := down_B (n := 32) (m := 16) rfl _ _ _ (A7 H) (B7 H)
theorem A9 : Rows 8 (val_main_v139 (F := Ideal) x0 x1 x2 x3 x4 x7) (iA D.a 9) := down_A (n := 16) (m := 8) rfl _ _ (A8 H)
theorem B9 : Rows 8 (val_main_v141 (F := Ideal) x0 x1 x2 x3 x4 x5 x6 x7) (iB D.a D.bx 9) := down_B (n := 16) (m := 8) rfl _ _ _ (A8 H) (B8 H)
theorem A10 : Rows 4 (val_main_v146 (F := Ideal) x0 x1 x2 x3 x4 x7) (iA D.a 10) := down_A (n := 8) (m := 4) rfl _ _ (A9 H)
theorem B10 : Rows 4 (val_main_v148 (F := Ideal) x0 x1 x2 x3 x4 x5 x6 x7) (iB D.a D.bx 10) := down_B (n := 8) (m := 4) rfl _ _ _ (A9 H) (B9 H)
theorem A11 : Rows 2 (val_main_v153 (F := Ideal) x0 x1 x2 x3 x4 x7) (iA D.a 11) := down_A (n := 4) (m := 2) rfl _ _ (A10 H)
theorem B11 : Rows 2 (val_main_v155 (F := Ideal) x0 x1 x2 x3 x4 x5 x6 x7) (iB D.a D.bx 11) := down_B (n := 4) (m := 2) rfl _ _ _ (A10 H) (B10 H)
theorem A12 : Rows 1 (val_main_v160 (F := Ideal) x0 x1 x2 x3 x4 x7) (iA D.a 12) := down_A (n := 2) (m := 1) rfl _ _ (A11 H)
theorem B12 : Rows 1 (val_main_v162 (F := Ideal) x0 x1 x2 x3 x4 x5 x6 x7) (iB D.a D.bx 12) := down_B (n := 2) (m := 1) rfl _ _ _ (A11 H) (B11 H)

theorem S12 : Rows 1 (val_main_v162 (F := Ideal) x0 x1 x2 x3 x4 x5 x6 x7) (iS D.a D.bx 12) := fun t j => by
  obtain rfl : t = 0 := Subsingleton.elim _ _
  exact B12 H 0 j
theorem S11 : Rows 2 (val_main_v179 (F := Ideal) x0 x1 x2 x3 x4 x5 x6 x7) (iS D.a D.bx 11) :=
  up_rows (n := 2) (m := 1) (p := 0) rfl rfl (A11 H) (B11 H) (S12 H)
theorem S10 : Rows 4 (val_main_v196 (F := Ideal) x0 x1 x2 x3 x4 x5 x6 x7) (iS D.a D.bx 10) :=
  up_rows (n := 4) (m := 2) (p := 1) rfl rfl (A10 H) (B10 H) (S11 H)
theorem S9 : Rows 8 (val_main_v213 (F := Ideal) x0 x1 x2 x3 x4 x5 x6 x7) (iS D.a D.bx 9) :=
  up_rows (n := 8) (m := 4) (p := 3) rfl rfl (A9 H) (B9 H) (S10 H)
theorem S8 : Rows 16 (val_main_v230 (F := Ideal) x0 x1 x2 x3 x4 x5 x6 x7) (iS D.a D.bx 8) :=
  up_rows (n := 16) (m := 8) (p := 7) rfl rfl (A8 H) (B8 H) (S9 H)
theorem S7 : Rows 32 (val_main_v247 (F := Ideal) x0 x1 x2 x3 x4 x5 x6 x7) (iS D.a D.bx 7) :=
  up_rows (n := 32) (m := 16) (p := 15) rfl rfl (A7 H) (B7 H) (S8 H)
theorem S6 : Rows 64 (val_main_v264 (F := Ideal) x0 x1 x2 x3 x4 x5 x6 x7) (iS D.a D.bx 6) :=
  up_rows (n := 64) (m := 32) (p := 31) rfl rfl (A6 H) (B6 H) (S7 H)
theorem S5 : Rows 128 (val_main_v281 (F := Ideal) x0 x1 x2 x3 x4 x5 x6 x7) (iS D.a D.bx 5) :=
  up_rows (n := 128) (m := 64) (p := 63) rfl rfl (A5 H) (B5 H) (S6 H)
theorem S4 : Rows 256 (val_main_v298 (F := Ideal) x0 x1 x2 x3 x4 x5 x6 x7) (iS D.a D.bx 4) :=
  up_rows (n := 256) (m := 128) (p := 127) rfl rfl (A4 H) (B4 H) (S5 H)
theorem S3 : Rows 512 (val_main_v315 (F := Ideal) x0 x1 x2 x3 x4 x5 x6 x7) (iS D.a D.bx 3) :=
  up_rows (n := 512) (m := 256) (p := 255) rfl rfl (A3 H) (B3 H) (S4 H)
theorem S2 : Rows 1024 (val_main_v332 (F := Ideal) x0 x1 x2 x3 x4 x5 x6 x7) (iS D.a D.bx 2) :=
  up_rows (n := 1024) (m := 512) (p := 511) rfl rfl (A2 H) (B2 H) (S3 H)
theorem S1 : Rows 2048 (val_main_v349 (F := Ideal) x0 x1 x2 x3 x4 x5 x6 x7) (iS D.a D.bx 1) :=
  up_rows (n := 2048) (m := 1024) (p := 1023) rfl rfl (A1 H) (B1 H) (S2 H)
theorem S0 : Rows 4096 (val_main_v366 (F := Ideal) x0 x1 x2 x3 x4 x5 x6 x7) (iS D.a D.bx 0) :=
  up_rows (n := 4096) (m := 2048) (p := 2047) rfl rfl (A0 H) (B0 H) (S1 H)

/-- The recurrence's rows. -/
theorem h_is : Rows 4096 (val_main_v366 (F := Ideal) x0 x1 x2 x3 x4 x5 x6 x7) D.h := S0 H

theorem gg_is : Rows 4096 (val_main_v380 (F := Ideal) x0) D.gg := fun t j => by
  pointwise [val_main_v380, val_main_v367, val_main_v379, val_main_v378, val_main_cst_56, val_main_v377, val_main_v376, val_main_cst_55, val_main_v375, val_main_v374, val_main_v373, val_main_cst_54, val_main_v372, val_main_v371, val_main_v370, val_main_cst_53, val_main_v369, val_main_v368]
  simp only [H.ga, bits_k0, bits_k1, bits_half]
  simp only [← EReal.coe_mul, ← EReal.coe_add, Ideal.tanh_coe, ← EReal.coe_one]
  rfl

/-! ### The results -/

theorem ya_at (t : Fin 4096) (j : Fin 1024) : (val_main_v383 (F := Ideal) x0 x1 x2 x3 x4 x5 x6 x7) (ix2 t j) = ((D.h t j * D.gg t j : ℝ) : EReal) := by
  pointwise [val_main_v383, val_main_v382, val_main_v381]
  rw [h_is H, gg_is H, ← EReal.coe_mul]

theorem h_at (t : Fin 4096) (j : Fin 1024) : (val_main_v384 (F := Ideal) x0 x1 x2 x3 x4 x5 x6 x7) (ix2 t j) = ((D.h t j : ℝ) : EReal) := by
  pointwise [val_main_v384]
  exact h_is H t j

theorem xc_at (t : Fin 4096) (j : Fin 1024) : (val_main_v385 (F := Ideal) x0 x1 x2) (ix2 t j) = ((D.xc t j : ℝ) : EReal) := by
  pointwise [val_main_v385]
  exact xc_is H t j

theorem r_at (t : Fin 4096) (j : Fin 1024) : (val_main_v386 (F := Ideal) x0 x1 x2 x3 x4) (ix2 t j) = ((D.r t j : ℝ) : EReal) := by
  pointwise [val_main_v386]
  exact r_is H t j

theorem ig_at (t : Fin 4096) (j : Fin 1024) : (val_main_v387 (F := Ideal) x0 x1 x2 x5 x6) (ix2 t j) = ((D.ig t j : ℝ) : EReal) := by
  pointwise [val_main_v387]
  exact ig_is H t j

end Cert.LruRefIdeal.Hand

end
-- ==== Proof.LruBlocks.lean ====
/- The recurrent unit's forward call: what the host hands to the call, and the blocks of a grid point, as the real functions of GatesMath. -/
module

public import proofs.«01_k».proof.Proof.LruTile
public import proofs.«01_k».proof.Proof.LruRef
public import Idealize.ShloMosaic.Lib.Claim
public import Idealize.ShloMosaic.Lib.StableHlo.RunRead
public import Idealize.ShloMosaic.Lib.Pipeline.ValueKit

@[expose] public section

set_option maxRecDepth 16384

noncomputable section

namespace Cert.LruIdeal.Hand

open Cert.LruIdeal Cert.LruIdeal.Gen Idealize.ShloMosaic Idealize.ShloMosaic.TcCoe Idealize.SL.Sem
open Cert.LruMath Cert.GatesMath

variable (m : (ℓ : Loc nD τ sig) → Buf (Elt Ideal) ℓ) (c : Dev nD)

/-- The call's arguments. -/
abbrev V0 : FVec Ideal S1x4096x6144 .f32 := m ((c : Thread nD τ).loc main_arg0)
abbrev V1 : FVec Ideal S1x4x1024 .f32 := m ((c : Thread nD τ).loc main_arg1)
abbrev V2 : FVec Ideal S1x1024 .f32 := m ((c : Thread nD τ).loc main_arg2)
abbrev V3 : FVec Ideal S1x4x256x256 .f32 := m ((c : Thread nD τ).loc main_arg3)
abbrev V4 : FVec Ideal S1x4x256 .f32 := m ((c : Thread nD τ).loc main_arg4)
abbrev V5 : FVec Ideal S1x4x256x256 .f32 := m ((c : Thread nD τ).loc main_arg5)
abbrev V6 : FVec Ideal S1x4x256 .f32 := m ((c : Thread nD τ).loc main_arg6)
abbrev V7 : FVec Ideal S1x1024 .f32 := m ((c : Thread nD τ).loc main_arg7)

/-! What the host's lines hand to the call. -/

theorem z_host (r : Fin 4096) (j : Fin 6144) : ((V m c main_v5 : FVec Ideal S4096x6144 .bf16) (ix2 r j) : EReal) = V0 m c (ix3 0 r j) := by
  show StableHlo.after hostOps0 (fun b => m (c, b)) (Proc.tc.devRef main_v5) (ix2 r j) = _
  after_reads_simp
  pointwise

theorem cw_host (k : Fin 4) (j : Fin 1024) : ((V m c main_v6 : FVec Ideal S4x1024 .f32) (ix2 k j) : EReal) = V1 m c (ix3 0 k j) := by
  show StableHlo.after hostOps0 (fun b => m (c, b)) (Proc.tc.devRef main_v6) (ix2 k j) = _
  after_reads_simp
  pointwise

theorem wr_host (h : Fin 4) (i k : Fin 256) : ((V m c main_v1 : FVec Ideal S4x256x256 .bf16) (ix3 h i k) : EReal) = V3 m c (ix4 0 h i k) := by
  show StableHlo.after hostOps0 (fun b => m (c, b)) (Proc.tc.devRef main_v1) (ix3 h i k) = _
  after_reads_simp
  pointwise

theorem wi_host (h : Fin 4) (i k : Fin 256) : ((V m c main_v3 : FVec Ideal S4x256x256 .bf16) (ix3 h i k) : EReal) = V5 m c (ix4 0 h i k) := by
  show StableHlo.after hostOps0 (fun b => m (c, b)) (Proc.tc.devRef main_v3) (ix3 h i k) = _
  after_reads_simp
  pointwise

theorem br_host (j : Fin 1024) : ((V m c main_v7 : FVec Ideal S1x1024 .f32) (ix2 0 j) : EReal) = V4 m c (ix3 0 (hd j) (lo j)) := by
  show StableHlo.after hostOps0 (fun b => m (c, b)) (Proc.tc.devRef main_v7) (ix2 0 j) = _
  after_reads_simp
  pointwise

theorem bi_host (j : Fin 1024) : ((V m c main_v8 : FVec Ideal S1x1024 .f32) (ix2 0 j) : EReal) = V6 m c (ix3 0 (hd j) (lo j)) := by
  show StableHlo.after hostOps0 (fun b => m (c, b)) (Proc.tc.devRef main_v8) (ix2 0 j) = _
  after_reads_simp
  pointwise

/-- The windows' block indices: the tiles run from the first to the last. -/
theorem idx : ∀ t : Fin cfg0.N, win0_0.index t = ![t.val, 0] ∧ win0_1.index t = ![t.val, 1] ∧ win0_2.index t = ![0, 0]
    ∧ win0_3.index t = ![0, 0] ∧ win0_4.index t = ![0, 0, 0] ∧ win0_5.index t = ![0, 0] ∧ win0_6.index t = ![0, 0, 0] ∧ win0_7.index t = ![0, 0]
    ∧ win0_8.index t = ![0, 0] ∧ win0_9.index t = ![t.val, 0] ∧ win0_10.index t = ![t.val, 0] ∧ win0_11.index t = ![t.val, 0]
    ∧ win0_12.index t = ![t.val, 0] ∧ win0_13.index t = ![t.val, 0] :=
  (by decide +kernel : ∀ t : Fin grid0.N, _)

theorem lt16 (t : Fin cfg0.N) : t.val < 16 := lt_of_lt_of_eq t.isLt N_0

/-- The array row a tile's row is. -/
abbrev row (t : Fin cfg0.N) (r : Fin 256) : Fin 4096 := ⟨256 * t.val + r.val, by have := lt16 t; omega⟩

abbrev b0 (t : Fin cfg0.N) : FVec Ideal S256x1024 .bf16 := iblk m c 0 t
abbrev b1 (t : Fin cfg0.N) : FVec Ideal S256x1024 .bf16 := iblk m c 1 t
abbrev b2 (t : Fin cfg0.N) : FVec Ideal S4x1024 .f32 := iblk m c 2 t
abbrev b3 (t : Fin cfg0.N) : FVec Ideal S1x1024 .f32 := iblk m c 3 t
abbrev b4 (t : Fin cfg0.N) : FVec Ideal S4x256x256 .bf16 := iblk m c 4 t
abbrev b5 (t : Fin cfg0.N) : FVec Ideal S1x1024 .f32 := iblk m c 5 t
abbrev b6 (t : Fin cfg0.N) : FVec Ideal S4x256x256 .bf16 := iblk m c 6 t
abbrev b7 (t : Fin cfg0.N) : FVec Ideal S1x1024 .f32 := iblk m c 7 t
abbrev b8 (t : Fin cfg0.N) : FVec Ideal S1x1024 .f32 := iblk m c 8 t

/-- A grid point's blocks, with the rows and the state it finds carried. -/
abbrev tile (t : Fin cfg0.N) (tl : FVec Ideal S8x1024 .f32) (cr : FVec Ideal S1x1024 .f32) : Tile :=
  ⟨b0 m c t, b1 m c t, b2 m c t, b3 m c t, b4 m c t, b5 m c t, b6 m c t, b7 m c t, b8 m c t, tl, cr⟩

variable {m c} {D : Data}
variable (A : Cert.LruRefIdeal.Hand.Args (V0 m c) (V1 m c) (V2 m c) (V3 m c) (V4 m c) (V5 m c) (V6 m c) (V7 m c) D)
include A

theorem b0_at (t : Fin cfg0.N) (r : Fin 256) (j : Fin 1024) : (b0 m c t (ix2 r j) : EReal) = ((D.xa (row t r).val j : ℝ) : EReal) := by
  have e : (b0 m c t (ix2 r j) : EReal) = (V m c main_v5 : FVec Ideal S4096x6144 .bf16) (ix2 (row t r) ⟨j.val, by omega⟩) := by blk_ext [iblk, idx t]
  rw [e, z_host]; exact A.xa _ _

theorem b1_at (t : Fin cfg0.N) (r : Fin 256) (j : Fin 1024) : (b1 m c t (ix2 r j) : EReal) = ((D.ga (row t r).val j : ℝ) : EReal) := by
  have e : (b1 m c t (ix2 r j) : EReal) = (V m c main_v5 : FVec Ideal S4096x6144 .bf16) (ix2 (row t r) ⟨1024 + j.val, by omega⟩) := by blk_ext [iblk, idx t]
  rw [e, z_host]; exact A.ga _ _

theorem b2_at (t : Fin cfg0.N) (k : Fin 4) (j : Fin 1024) : (b2 m c t (ix2 k j) : EReal) = ((D.cw k j : ℝ) : EReal) := by
  have e : (b2 m c t (ix2 k j) : EReal) = (V m c main_v6 : FVec Ideal S4x1024 .f32) (ix2 k j) := by blk_ext [iblk, idx t]
  rw [e, cw_host]; exact A.cw _ _

theorem b3_at (t : Fin cfg0.N) (j : Fin 1024) : (b3 m c t (ix2 0 j) : EReal) = ((D.cb j : ℝ) : EReal) := by
  have e : (b3 m c t (ix2 0 j) : EReal) = V2 m c (ix2 0 j) := by blk_ext [iblk, V, idx t]
  rw [e]; exact A.cb _

theorem b4_at (t : Fin cfg0.N) (h : Fin 4) (i k : Fin 256) : (b4 m c t (ix3 h i k) : EReal) = ((D.wr h i k : ℝ) : EReal) := by
  have e : (b4 m c t (ix3 h i k) : EReal) = (V m c main_v1 : FVec Ideal S4x256x256 .bf16) (ix3 h i k) := by blk_ext [iblk, idx t]
  rw [e, wr_host]; exact A.wr _ _ _

theorem b5_at (t : Fin cfg0.N) (j : Fin 1024) : (b5 m c t (ix2 0 j) : EReal) = ((D.br (hd j) (lo j) : ℝ) : EReal) := by
  have e : (b5 m c t (ix2 0 j) : EReal) = (V m c main_v7 : FVec Ideal S1x1024 .f32) (ix2 0 j) := by blk_ext [iblk, idx t]
  rw [e, br_host]; exact A.br _ _

theorem b6_at (t : Fin cfg0.N) (h : Fin 4) (i k : Fin 256) : (b6 m c t (ix3 h i k) : EReal) = ((D.wi h i k : ℝ) : EReal) := by
  have e : (b6 m c t (ix3 h i k) : EReal) = (V m c main_v3 : FVec Ideal S4x256x256 .bf16) (ix3 h i k) := by blk_ext [iblk, idx t]
  rw [e, wi_host]; exact A.wi _ _ _

theorem b7_at (t : Fin cfg0.N) (j : Fin 1024) : (b7 m c t (ix2 0 j) : EReal) = ((D.bi (hd j) (lo j) : ℝ) : EReal) := by
  have e : (b7 m c t (ix2 0 j) : EReal) = (V m c main_v8 : FVec Ideal S1x1024 .f32) (ix2 0 j) := by blk_ext [iblk, idx t]
  rw [e, bi_host]; exact A.bi _ _

theorem b8_at (t : Fin cfg0.N) (j : Fin 1024) : (b8 m c t (ix2 0 j) : EReal) = ((D.lm j : ℝ) : EReal) := by
  have e : (b8 m c t (ix2 0 j) : EReal) = V7 m c (ix2 0 j) := by blk_ext [iblk, V, idx t]
  rw [e]; exact A.lm _

set_option maxHeartbeats 2000000 in
/-- With the right rows and state carried, a point's blocks hold its tile's rows. -/
theorem holds (t : Fin cfg0.N) (tl : FVec Ideal S8x1024 .f32) (cr : FVec Ideal S1x1024 .f32)
    (h1 : ∀ p j, tl (ix2 p j) = ((D.tin t.val p.val j : ℝ) : EReal)) (h2 : ∀ j, cr (ix2 0 j) = ((D.hin t.val j : ℝ) : EReal)) :
    (tile m c t tl cr).Holds D t.val where
  xa := b0_at A t
  ga := b1_at A t
  cw := b2_at A t
  cb := b3_at A t
  wr := b4_at A t
  br := b5_at A t
  wi := b6_at A t
  bi := b7_at A t
  lm := b8_at A t
  tl := h1
  cr := h2

end Cert.LruIdeal.Hand

end
-- ==== Proof.LruOuts.lean ====
/- The recurrent unit's forward call: what a grid point leaves in the windows and carries on. -/
module

public import proofs.«01_k».proof.Proof.LruBlocks
public import Idealize.ShloMosaic.Lib.Pipeline.ReadBack

@[expose] public section

set_option maxRecDepth 16384

noncomputable section

namespace Cert.LruIdeal.Hand

open Cert.LruIdeal Cert.LruIdeal.Gen Idealize.ShloMosaic Idealize.ShloMosaic.TcCoe Idealize.SL.Sem
open Idealize.ShloMosaic.Pipeline (Dat)
open Cert.LruMath Cert.GatesMath

variable (m : (ℓ : Loc nD τ sig) → Buf (Elt Ideal) ℓ) (c : Dev nD)

/-- The rows a point finds carried: the point before's, and zero at the first. -/
def tl (t : Fin cfg0.N) : FVec Ideal S8x1024 .f32 := if t.val % 16 = 0 then k0_pay2 (F := Ideal) else (outsAt0 m c (t.val - 1) (Nat.lt_of_le_of_lt (Nat.sub_le _ _) t.isLt)).2.2.2.2.2.1
/-- The state a point finds carried: the point before's, and zero at the first. -/
def cr (t : Fin cfg0.N) : FVec Ideal S1x1024 .f32 := if t.val % 16 = 0 then k0_pay3 (F := Ideal) else (outsAt0 m c (t.val - 1) (Nat.lt_of_le_of_lt (Nat.sub_le _ _) t.isLt)).2.2.2.2.2.2

/-- A grid point's blocks with what it finds. -/
abbrev pt (t : Fin cfg0.N) : Tile := tile m c t (tl m c t) (cr m c t)

set_option maxHeartbeats 2000000 in
theorem outs_ya (t : Fin cfg0.N) : (outsAt0 m c t.val t.isLt).1 = (pt m c t).ya := by
  by_cases h : t.val % 16 = 0
  · rw [outsAt0_A m c t h]; frame_out; simp only [cr, tl, if_pos h, pt, tile, Tile.wr0, Tile.wi0, Tile.wr1, Tile.wi1, Tile.wr2, Tile.wi2, Tile.wr3, Tile.wi3, Tile.v5, Tile.v40, Tile.v41, Tile.v53, Tile.v54, Tile.v58, Tile.v62, Tile.v66, Tile.v70, Tile.v74, Tile.v75, Tile.v92, Tile.v98, Tile.v103, Tile.v107, Tile.v108, Tile.v114, Tile.v150, Tile.v151, Tile.v177, Tile.v179, Tile.v186, Tile.v194, Tile.v202, Tile.v203, Tile.v204, Tile.v210, Tile.v218, Tile.v226, Tile.v234, Tile.v242, Tile.v250, Tile.v258, Tile.v263, Tile.v264, Tile.v266, Tile.v274, Tile.v282, Tile.v290, Tile.v298, Tile.v306, Tile.v314, Tile.v322, Tile.v323, Tile.v324, Tile.v330, Tile.v338, Tile.v346, Tile.v354, Tile.v362, Tile.v370, Tile.v378, Tile.v383, Tile.v384, Tile.v386, Tile.v394, Tile.v402, Tile.v410, Tile.v418, Tile.v426, Tile.v434, Tile.v436, Tile.ya, Tile.tlo, Tile.car]
  · rw [outsAt0_B m c t h]; frame_out; simp only [cr, tl, if_neg h, read_unread_whole, pt, tile, Tile.wr0, Tile.wi0, Tile.wr1, Tile.wi1, Tile.wr2, Tile.wi2, Tile.wr3, Tile.wi3, Tile.v5, Tile.v40, Tile.v41, Tile.v53, Tile.v54, Tile.v58, Tile.v62, Tile.v66, Tile.v70, Tile.v74, Tile.v75, Tile.v92, Tile.v98, Tile.v103, Tile.v107, Tile.v108, Tile.v114, Tile.v150, Tile.v151, Tile.v177, Tile.v179, Tile.v186, Tile.v194, Tile.v202, Tile.v203, Tile.v204, Tile.v210, Tile.v218, Tile.v226, Tile.v234, Tile.v242, Tile.v250, Tile.v258, Tile.v263, Tile.v264, Tile.v266, Tile.v274, Tile.v282, Tile.v290, Tile.v298, Tile.v306, Tile.v314, Tile.v322, Tile.v323, Tile.v324, Tile.v330, Tile.v338, Tile.v346, Tile.v354, Tile.v362, Tile.v370, Tile.v378, Tile.v383, Tile.v384, Tile.v386, Tile.v394, Tile.v402, Tile.v410, Tile.v418, Tile.v426, Tile.v434, Tile.v436, Tile.ya, Tile.tlo, Tile.car]

set_option maxHeartbeats 2000000 in
theorem outs_v436 (t : Fin cfg0.N) : (outsAt0 m c t.val t.isLt).2.1 = (pt m c t).v436 := by
  by_cases h : t.val % 16 = 0
  · rw [outsAt0_A m c t h]; frame_out; simp only [cr, tl, if_pos h, pt, tile, Tile.wr0, Tile.wi0, Tile.wr1, Tile.wi1, Tile.wr2, Tile.wi2, Tile.wr3, Tile.wi3, Tile.v5, Tile.v40, Tile.v41, Tile.v53, Tile.v54, Tile.v58, Tile.v62, Tile.v66, Tile.v70, Tile.v74, Tile.v75, Tile.v92, Tile.v98, Tile.v103, Tile.v107, Tile.v108, Tile.v114, Tile.v150, Tile.v151, Tile.v177, Tile.v179, Tile.v186, Tile.v194, Tile.v202, Tile.v203, Tile.v204, Tile.v210, Tile.v218, Tile.v226, Tile.v234, Tile.v242, Tile.v250, Tile.v258, Tile.v263, Tile.v264, Tile.v266, Tile.v274, Tile.v282, Tile.v290, Tile.v298, Tile.v306, Tile.v314, Tile.v322, Tile.v323, Tile.v324, Tile.v330, Tile.v338, Tile.v346, Tile.v354, Tile.v362, Tile.v370, Tile.v378, Tile.v383, Tile.v384, Tile.v386, Tile.v394, Tile.v402, Tile.v410, Tile.v418, Tile.v426, Tile.v434, Tile.v436, Tile.ya, Tile.tlo, Tile.car]
  · rw [outsAt0_B m c t h]; frame_out; simp only [cr, tl, if_neg h, read_unread_whole, pt, tile, Tile.wr0, Tile.wi0, Tile.wr1, Tile.wi1, Tile.wr2, Tile.wi2, Tile.wr3, Tile.wi3, Tile.v5, Tile.v40, Tile.v41, Tile.v53, Tile.v54, Tile.v58, Tile.v62, Tile.v66, Tile.v70, Tile.v74, Tile.v75, Tile.v92, Tile.v98, Tile.v103, Tile.v107, Tile.v108, Tile.v114, Tile.v150, Tile.v151, Tile.v177, Tile.v179, Tile.v186, Tile.v194, Tile.v202, Tile.v203, Tile.v204, Tile.v210, Tile.v218, Tile.v226, Tile.v234, Tile.v242, Tile.v250, Tile.v258, Tile.v263, Tile.v264, Tile.v266, Tile.v274, Tile.v282, Tile.v290, Tile.v298, Tile.v306, Tile.v314, Tile.v322, Tile.v323, Tile.v324, Tile.v330, Tile.v338, Tile.v346, Tile.v354, Tile.v362, Tile.v370, Tile.v378, Tile.v383, Tile.v384, Tile.v386, Tile.v394, Tile.v402, Tile.v410, Tile.v418, Tile.v426, Tile.v434, Tile.v436, Tile.ya, Tile.tlo, Tile.car]

set_option maxHeartbeats 2000000 in
theorem outs_v53 (t : Fin cfg0.N) : (outsAt0 m c t.val t.isLt).2.2.1 = (pt m c t).v53 := by
  by_cases h : t.val % 16 = 0
  · rw [outsAt0_A m c t h]; frame_out; simp only [cr, tl, if_pos h, pt, tile, Tile.wr0, Tile.wi0, Tile.wr1, Tile.wi1, Tile.wr2, Tile.wi2, Tile.wr3, Tile.wi3, Tile.v5, Tile.v40, Tile.v41, Tile.v53, Tile.v54, Tile.v58, Tile.v62, Tile.v66, Tile.v70, Tile.v74, Tile.v75, Tile.v92, Tile.v98, Tile.v103, Tile.v107, Tile.v108, Tile.v114, Tile.v150, Tile.v151, Tile.v177, Tile.v179, Tile.v186, Tile.v194, Tile.v202, Tile.v203, Tile.v204, Tile.v210, Tile.v218, Tile.v226, Tile.v234, Tile.v242, Tile.v250, Tile.v258, Tile.v263, Tile.v264, Tile.v266, Tile.v274, Tile.v282, Tile.v290, Tile.v298, Tile.v306, Tile.v314, Tile.v322, Tile.v323, Tile.v324, Tile.v330, Tile.v338, Tile.v346, Tile.v354, Tile.v362, Tile.v370, Tile.v378, Tile.v383, Tile.v384, Tile.v386, Tile.v394, Tile.v402, Tile.v410, Tile.v418, Tile.v426, Tile.v434, Tile.v436, Tile.ya, Tile.tlo, Tile.car]
  · rw [outsAt0_B m c t h]; frame_out; simp only [cr, tl, if_neg h, read_unread_whole, pt, tile, Tile.wr0, Tile.wi0, Tile.wr1, Tile.wi1, Tile.wr2, Tile.wi2, Tile.wr3, Tile.wi3, Tile.v5, Tile.v40, Tile.v41, Tile.v53, Tile.v54, Tile.v58, Tile.v62, Tile.v66, Tile.v70, Tile.v74, Tile.v75, Tile.v92, Tile.v98, Tile.v103, Tile.v107, Tile.v108, Tile.v114, Tile.v150, Tile.v151, Tile.v177, Tile.v179, Tile.v186, Tile.v194, Tile.v202, Tile.v203, Tile.v204, Tile.v210, Tile.v218, Tile.v226, Tile.v234, Tile.v242, Tile.v250, Tile.v258, Tile.v263, Tile.v264, Tile.v266, Tile.v274, Tile.v282, Tile.v290, Tile.v298, Tile.v306, Tile.v314, Tile.v322, Tile.v323, Tile.v324, Tile.v330, Tile.v338, Tile.v346, Tile.v354, Tile.v362, Tile.v370, Tile.v378, Tile.v383, Tile.v384, Tile.v386, Tile.v394, Tile.v402, Tile.v410, Tile.v418, Tile.v426, Tile.v434, Tile.v436, Tile.ya, Tile.tlo, Tile.car]

set_option maxHeartbeats 2000000 in
theorem outs_v92 (t : Fin cfg0.N) : (outsAt0 m c t.val t.isLt).2.2.2.1 = (pt m c t).v92 := by
  by_cases h : t.val % 16 = 0
  · rw [outsAt0_A m c t h]; frame_out; simp only [cr, tl, if_pos h, pt, tile, Tile.wr0, Tile.wi0, Tile.wr1, Tile.wi1, Tile.wr2, Tile.wi2, Tile.wr3, Tile.wi3, Tile.v5, Tile.v40, Tile.v41, Tile.v53, Tile.v54, Tile.v58, Tile.v62, Tile.v66, Tile.v70, Tile.v74, Tile.v75, Tile.v92, Tile.v98, Tile.v103, Tile.v107, Tile.v108, Tile.v114, Tile.v150, Tile.v151, Tile.v177, Tile.v179, Tile.v186, Tile.v194, Tile.v202, Tile.v203, Tile.v204, Tile.v210, Tile.v218, Tile.v226, Tile.v234, Tile.v242, Tile.v250, Tile.v258, Tile.v263, Tile.v264, Tile.v266, Tile.v274, Tile.v282, Tile.v290, Tile.v298, Tile.v306, Tile.v314, Tile.v322, Tile.v323, Tile.v324, Tile.v330, Tile.v338, Tile.v346, Tile.v354, Tile.v362, Tile.v370, Tile.v378, Tile.v383, Tile.v384, Tile.v386, Tile.v394, Tile.v402, Tile.v410, Tile.v418, Tile.v426, Tile.v434, Tile.v436, Tile.ya, Tile.tlo, Tile.car]
  · rw [outsAt0_B m c t h]; frame_out; simp only [cr, tl, if_neg h, read_unread_whole, pt, tile, Tile.wr0, Tile.wi0, Tile.wr1, Tile.wi1, Tile.wr2, Tile.wi2, Tile.wr3, Tile.wi3, Tile.v5, Tile.v40, Tile.v41, Tile.v53, Tile.v54, Tile.v58, Tile.v62, Tile.v66, Tile.v70, Tile.v74, Tile.v75, Tile.v92, Tile.v98, Tile.v103, Tile.v107, Tile.v108, Tile.v114, Tile.v150, Tile.v151, Tile.v177, Tile.v179, Tile.v186, Tile.v194, Tile.v202, Tile.v203, Tile.v204, Tile.v210, Tile.v218, Tile.v226, Tile.v234, Tile.v242, Tile.v250, Tile.v258, Tile.v263, Tile.v264, Tile.v266, Tile.v274, Tile.v282, Tile.v290, Tile.v298, Tile.v306, Tile.v314, Tile.v322, Tile.v323, Tile.v324, Tile.v330, Tile.v338, Tile.v346, Tile.v354, Tile.v362, Tile.v370, Tile.v378, Tile.v383, Tile.v384, Tile.v386, Tile.v394, Tile.v402, Tile.v410, Tile.v418, Tile.v426, Tile.v434, Tile.v436, Tile.ya, Tile.tlo, Tile.car]

set_option maxHeartbeats 2000000 in
theorem outs_v98 (t : Fin cfg0.N) : (outsAt0 m c t.val t.isLt).2.2.2.2.1 = (pt m c t).v98 := by
  by_cases h : t.val % 16 = 0
  · rw [outsAt0_A m c t h]; frame_out; simp only [cr, tl, if_pos h, pt, tile, Tile.wr0, Tile.wi0, Tile.wr1, Tile.wi1, Tile.wr2, Tile.wi2, Tile.wr3, Tile.wi3, Tile.v5, Tile.v40, Tile.v41, Tile.v53, Tile.v54, Tile.v58, Tile.v62, Tile.v66, Tile.v70, Tile.v74, Tile.v75, Tile.v92, Tile.v98, Tile.v103, Tile.v107, Tile.v108, Tile.v114, Tile.v150, Tile.v151, Tile.v177, Tile.v179, Tile.v186, Tile.v194, Tile.v202, Tile.v203, Tile.v204, Tile.v210, Tile.v218, Tile.v226, Tile.v234, Tile.v242, Tile.v250, Tile.v258, Tile.v263, Tile.v264, Tile.v266, Tile.v274, Tile.v282, Tile.v290, Tile.v298, Tile.v306, Tile.v314, Tile.v322, Tile.v323, Tile.v324, Tile.v330, Tile.v338, Tile.v346, Tile.v354, Tile.v362, Tile.v370, Tile.v378, Tile.v383, Tile.v384, Tile.v386, Tile.v394, Tile.v402, Tile.v410, Tile.v418, Tile.v426, Tile.v434, Tile.v436, Tile.ya, Tile.tlo, Tile.car]
  · rw [outsAt0_B m c t h]; frame_out; simp only [cr, tl, if_neg h, read_unread_whole, pt, tile, Tile.wr0, Tile.wi0, Tile.wr1, Tile.wi1, Tile.wr2, Tile.wi2, Tile.wr3, Tile.wi3, Tile.v5, Tile.v40, Tile.v41, Tile.v53, Tile.v54, Tile.v58, Tile.v62, Tile.v66, Tile.v70, Tile.v74, Tile.v75, Tile.v92, Tile.v98, Tile.v103, Tile.v107, Tile.v108, Tile.v114, Tile.v150, Tile.v151, Tile.v177, Tile.v179, Tile.v186, Tile.v194, Tile.v202, Tile.v203, Tile.v204, Tile.v210, Tile.v218, Tile.v226, Tile.v234, Tile.v242, Tile.v250, Tile.v258, Tile.v263, Tile.v264, Tile.v266, Tile.v274, Tile.v282, Tile.v290, Tile.v298, Tile.v306, Tile.v314, Tile.v322, Tile.v323, Tile.v324, Tile.v330, Tile.v338, Tile.v346, Tile.v354, Tile.v362, Tile.v370, Tile.v378, Tile.v383, Tile.v384, Tile.v386, Tile.v394, Tile.v402, Tile.v410, Tile.v418, Tile.v426, Tile.v434, Tile.v436, Tile.ya, Tile.tlo, Tile.car]

set_option maxHeartbeats 2000000 in
theorem outs_tlo (t : Fin cfg0.N) : (outsAt0 m c t.val t.isLt).2.2.2.2.2.1 = (pt m c t).tlo := by
  by_cases h : t.val % 16 = 0
  · rw [outsAt0_A m c t h]; frame_out; simp only [cr, tl, if_pos h, pt, tile, Tile.wr0, Tile.wi0, Tile.wr1, Tile.wi1, Tile.wr2, Tile.wi2, Tile.wr3, Tile.wi3, Tile.v5, Tile.v40, Tile.v41, Tile.v53, Tile.v54, Tile.v58, Tile.v62, Tile.v66, Tile.v70, Tile.v74, Tile.v75, Tile.v92, Tile.v98, Tile.v103, Tile.v107, Tile.v108, Tile.v114, Tile.v150, Tile.v151, Tile.v177, Tile.v179, Tile.v186, Tile.v194, Tile.v202, Tile.v203, Tile.v204, Tile.v210, Tile.v218, Tile.v226, Tile.v234, Tile.v242, Tile.v250, Tile.v258, Tile.v263, Tile.v264, Tile.v266, Tile.v274, Tile.v282, Tile.v290, Tile.v298, Tile.v306, Tile.v314, Tile.v322, Tile.v323, Tile.v324, Tile.v330, Tile.v338, Tile.v346, Tile.v354, Tile.v362, Tile.v370, Tile.v378, Tile.v383, Tile.v384, Tile.v386, Tile.v394, Tile.v402, Tile.v410, Tile.v418, Tile.v426, Tile.v434, Tile.v436, Tile.ya, Tile.tlo, Tile.car]
  · rw [outsAt0_B m c t h]; frame_out; simp only [cr, tl, if_neg h, read_unread_whole, pt, tile, Tile.wr0, Tile.wi0, Tile.wr1, Tile.wi1, Tile.wr2, Tile.wi2, Tile.wr3, Tile.wi3, Tile.v5, Tile.v40, Tile.v41, Tile.v53, Tile.v54, Tile.v58, Tile.v62, Tile.v66, Tile.v70, Tile.v74, Tile.v75, Tile.v92, Tile.v98, Tile.v103, Tile.v107, Tile.v108, Tile.v114, Tile.v150, Tile.v151, Tile.v177, Tile.v179, Tile.v186, Tile.v194, Tile.v202, Tile.v203, Tile.v204, Tile.v210, Tile.v218, Tile.v226, Tile.v234, Tile.v242, Tile.v250, Tile.v258, Tile.v263, Tile.v264, Tile.v266, Tile.v274, Tile.v282, Tile.v290, Tile.v298, Tile.v306, Tile.v314, Tile.v322, Tile.v323, Tile.v324, Tile.v330, Tile.v338, Tile.v346, Tile.v354, Tile.v362, Tile.v370, Tile.v378, Tile.v383, Tile.v384, Tile.v386, Tile.v394, Tile.v402, Tile.v410, Tile.v418, Tile.v426, Tile.v434, Tile.v436, Tile.ya, Tile.tlo, Tile.car]

set_option maxHeartbeats 2000000 in
theorem outs_car (t : Fin cfg0.N) : (outsAt0 m c t.val t.isLt).2.2.2.2.2.2 = (pt m c t).car := by
  by_cases h : t.val % 16 = 0
  · rw [outsAt0_A m c t h]; frame_out; simp only [cr, tl, if_pos h, pt, tile, Tile.wr0, Tile.wi0, Tile.wr1, Tile.wi1, Tile.wr2, Tile.wi2, Tile.wr3, Tile.wi3, Tile.v5, Tile.v40, Tile.v41, Tile.v53, Tile.v54, Tile.v58, Tile.v62, Tile.v66, Tile.v70, Tile.v74, Tile.v75, Tile.v92, Tile.v98, Tile.v103, Tile.v107, Tile.v108, Tile.v114, Tile.v150, Tile.v151, Tile.v177, Tile.v179, Tile.v186, Tile.v194, Tile.v202, Tile.v203, Tile.v204, Tile.v210, Tile.v218, Tile.v226, Tile.v234, Tile.v242, Tile.v250, Tile.v258, Tile.v263, Tile.v264, Tile.v266, Tile.v274, Tile.v282, Tile.v290, Tile.v298, Tile.v306, Tile.v314, Tile.v322, Tile.v323, Tile.v324, Tile.v330, Tile.v338, Tile.v346, Tile.v354, Tile.v362, Tile.v370, Tile.v378, Tile.v383, Tile.v384, Tile.v386, Tile.v394, Tile.v402, Tile.v410, Tile.v418, Tile.v426, Tile.v434, Tile.v436, Tile.ya, Tile.tlo, Tile.car]
  · rw [outsAt0_B m c t h]; frame_out; simp only [cr, tl, if_neg h, read_unread_whole, pt, tile, Tile.wr0, Tile.wi0, Tile.wr1, Tile.wi1, Tile.wr2, Tile.wi2, Tile.wr3, Tile.wi3, Tile.v5, Tile.v40, Tile.v41, Tile.v53, Tile.v54, Tile.v58, Tile.v62, Tile.v66, Tile.v70, Tile.v74, Tile.v75, Tile.v92, Tile.v98, Tile.v103, Tile.v107, Tile.v108, Tile.v114, Tile.v150, Tile.v151, Tile.v177, Tile.v179, Tile.v186, Tile.v194, Tile.v202, Tile.v203, Tile.v204, Tile.v210, Tile.v218, Tile.v226, Tile.v234, Tile.v242, Tile.v250, Tile.v258, Tile.v263, Tile.v264, Tile.v266, Tile.v274, Tile.v282, Tile.v290, Tile.v298, Tile.v306, Tile.v314, Tile.v322, Tile.v323, Tile.v324, Tile.v330, Tile.v338, Tile.v346, Tile.v354, Tile.v362, Tile.v370, Tile.v378, Tile.v383, Tile.v384, Tile.v386, Tile.v394, Tile.v402, Tile.v410, Tile.v418, Tile.v426, Tile.v434, Tile.v436, Tile.ya, Tile.tlo, Tile.car]

end Cert.LruIdeal.Hand

end
-- ==== Proof.LruRun.lean ====
/- The recurrent unit's forward call: after its run the five result arrays are the forward lines'. -/
module

public import proofs.«01_k».proof.Defs
public import proofs.«01_k».proof.Proof.Finite
public import proofs.«01_k».proof.Proof.LruOuts
public import proofs.«01_k».proof.Proof.Gen.LruIdeal.Value
public import proofs.«01_k».proof.Proof.Gen.LruRefIdeal.Run
public import Idealize.ShloMosaic.Lib.Quiescent

@[expose] public section

set_option maxRecDepth 16384

noncomputable section

namespace Cert.LruIdeal.Hand

open Cert.LruIdeal Cert.LruIdeal.Gen Idealize.ShloMosaic Idealize.ShloMosaic.TcCoe Idealize.SL.Sem
open Idealize.ShloMosaic.Pipeline (Dat)
open Cert.LruMath Cert.GatesMath

theorem zero2_at (j : S8x1024.Idx) : k0_pay2 (F := Ideal) j = 0 := by pointwise [k0_pay2]
theorem zero3_at (j : S1x1024.Idx) : k0_pay3 (F := Ideal) j = 0 := by pointwise [k0_pay3]

variable {m : (ℓ : Loc nD τ sig) → Buf (Elt Ideal) ℓ} {c : Dev nD} {D : Data}
variable (A : Cert.LruRefIdeal.Hand.Args (V0 m c) (V1 m c) (V2 m c) (V3 m c) (V4 m c) (V5 m c) (V6 m c) (V7 m c) D)
include A

/-- A point's blocks hold its tile's rows. -/
theorem at_point : ∀ (n : ℕ) (hn : n < cfg0.N), (pt m c ⟨n, hn⟩).Holds D n := by
  intro n
  induction n with
  | zero =>
    intro hn
    refine holds A ⟨0, hn⟩ _ _ (fun p j => ?_) (fun j => ?_)
    · unfold tl Data.tin
      rw [if_pos (show (⟨0, hn⟩ : Fin cfg0.N).val % 16 = 0 from rfl), if_pos (show (⟨0, hn⟩ : Fin cfg0.N).val = 0 from rfl), zero2_at]
      exact EReal.coe_zero.symm
    · unfold cr Data.hin
      rw [if_pos (show (⟨0, hn⟩ : Fin cfg0.N).val % 16 = 0 from rfl), if_pos (show (⟨0, hn⟩ : Fin cfg0.N).val = 0 from rfl), zero3_at]
      exact EReal.coe_zero.symm
  | succ n ih =>
    intro hn
    have hl := lt16 ⟨n + 1, hn⟩
    have h0 : ¬(⟨n + 1, hn⟩ : Fin cfg0.N).val % 16 = 0 := by dsimp only at hl ⊢; omega
    refine holds A ⟨n + 1, hn⟩ _ _ (fun p j => ?_) (fun j => ?_)
    · unfold tl
      rw [if_neg h0]
      exact (congrFun (outs_tlo m c ⟨n, Nat.lt_of_succ_lt hn⟩) _).trans (Tile.tlo_at (ih (Nat.lt_of_succ_lt hn)) p j)
    · unfold cr
      rw [if_neg h0]
      exact (congrFun (outs_car m c ⟨n, Nat.lt_of_succ_lt hn⟩) _).trans (Tile.car_at (ih (Nat.lt_of_succ_lt hn)) j)

/-- The gated unit's result, tile by tile. -/
theorem final9 : (dats m 0 c).arrAt 9 (cfgs 0).N = Cert.LruRefIdeal.Read.val_main_v383 (F := Ideal) (V0 m c) (V1 m c) (V2 m c) (V3 m c) (V4 m c) (V5 m c) (V6 m c) (V7 m c) := by
  refine (dats m 0 c).arrAt_eq_of_covers 9 _ (by decide +kernel) fun t _ y => ?_
  blk_simp
  rw [after0_9, outs_ya]
  have ey : ((cfg0.win 9).blk t).view.emb y = ix2 (row t (y 0)) (y 1) := by blk_ext [idx t]
  rw [ey]
  exact (congrArg _ (eq_ix2 y)).trans ((Tile.ya_at (at_point A t.val t.isLt) (y 0) (y 1)).trans (Cert.LruRefIdeal.Hand.ya_at A (row t (y 0)) (y 1)).symm)

/-- The recurrence, tile by tile. -/
theorem final10 : (dats m 0 c).arrAt 10 (cfgs 0).N = Cert.LruRefIdeal.Read.val_main_v384 (F := Ideal) (V0 m c) (V1 m c) (V2 m c) (V3 m c) (V4 m c) (V5 m c) (V6 m c) (V7 m c) := by
  refine (dats m 0 c).arrAt_eq_of_covers 10 _ (by decide +kernel) fun t _ y => ?_
  blk_simp
  rw [after0_10, outs_v436]
  have ey : ((cfg0.win 10).blk t).view.emb y = ix2 (row t (y 0)) (y 1) := by blk_ext [idx t]
  rw [ey]
  exact (congrArg _ (eq_ix2 y)).trans ((Tile.h_at (at_point A t.val t.isLt) (y 0) (y 1)).trans (Cert.LruRefIdeal.Hand.h_at A (row t (y 0)) (y 1)).symm)

/-- The convolution's result, tile by tile. -/
theorem final11 : (dats m 0 c).arrAt 11 (cfgs 0).N = Cert.LruRefIdeal.Read.val_main_v385 (F := Ideal) (V0 m c) (V1 m c) (V2 m c) := by
  refine (dats m 0 c).arrAt_eq_of_covers 11 _ (by decide +kernel) fun t _ y => ?_
  blk_simp
  rw [after0_11, outs_v53]
  have ey : ((cfg0.win 11).blk t).view.emb y = ix2 (row t (y 0)) (y 1) := by blk_ext [idx t]
  rw [ey]
  exact (congrArg _ (eq_ix2 y)).trans ((Tile.v53_at (at_point A t.val t.isLt) (y 0) (y 1)).trans (Cert.LruRefIdeal.Hand.xc_at A (row t (y 0)) (y 1)).symm)

/-- The first gate, tile by tile. -/
theorem final12 : (dats m 0 c).arrAt 12 (cfgs 0).N = Cert.LruRefIdeal.Read.val_main_v386 (F := Ideal) (V0 m c) (V1 m c) (V2 m c) (V3 m c) (V4 m c) := by
  refine (dats m 0 c).arrAt_eq_of_covers 12 _ (by decide +kernel) fun t _ y => ?_
  blk_simp
  rw [after0_12, outs_v92]
  have ey : ((cfg0.win 12).blk t).view.emb y = ix2 (row t (y 0)) (y 1) := by blk_ext [idx t]
  rw [ey]
  exact (congrArg _ (eq_ix2 y)).trans ((Tile.v92_at (at_point A t.val t.isLt) (y 0) (y 1)).trans (Cert.LruRefIdeal.Hand.r_at A (row t (y 0)) (y 1)).symm)

/-- The second gate, tile by tile. -/
theorem final13 : (dats m 0 c).arrAt 13 (cfgs 0).N = Cert.LruRefIdeal.Read.val_main_v387 (F := Ideal) (V0 m c) (V1 m c) (V2 m c) (V5 m c) (V6 m c) := by
  refine (dats m 0 c).arrAt_eq_of_covers 13 _ (by decide +kernel) fun t _ y => ?_
  blk_simp
  rw [after0_13, outs_v98]
  have ey : ((cfg0.win 13).blk t).view.emb y = ix2 (row t (y 0)) (y 1) := by blk_ext [idx t]
  rw [ey]
  exact (congrArg _ (eq_ix2 y)).trans ((Tile.v98_at (at_point A t.val t.isLt) (y 0) (y 1)).trans (Cert.LruRefIdeal.Hand.ig_at A (row t (y 0)) (y 1)).symm)

end Cert.LruIdeal.Hand

end
-- ==== Proof.LruClaim.lean ====
/- The recurrent unit's forward call: the predicate read back, and the claims. -/
module

public import proofs.«01_k».proof.Proof.LruRun

@[expose] public section

set_option maxRecDepth 16384

noncomputable section

namespace Cert.Pre_lru_finite.Hand

open Idealize.ShloMosaic

/-- The predicate's shapes fit. -/
instance facts : Cert.Pre_lru_finite.Facts where
  bcast_S_S1x4096x6144 := by decide
  reducesTo_S1x4096x6144_S_d0_1_2 := by decide
  h_S_ := by decide
  bcast_S_S1x4x1024 := by decide
  reducesTo_S1x4x1024_S_d0_1_2 := by decide
  bcast_S_S1x1024 := by decide
  reducesTo_S1x1024_S_d0_1 := by decide
  bcast_S_S1x4x256x256 := by decide
  reducesTo_S1x4x256x256_S_d0_1_2_3 := by decide
  bcast_S_S1x4x256 := by decide
  reducesTo_S1x4x256_S_d0_1_2 := by decide

variable (x0 : FVec Ideal S1x4096x6144 .f32) (x1 : FVec Ideal S1x4x1024 .f32) (x2 : FVec Ideal S1x1024 .f32) (x3 : FVec Ideal S1x4x256x256 .f32)
  (x4 : FVec Ideal S1x4x256 .f32) (x5 : FVec Ideal S1x4x256x256 .f32) (x6 : FVec Ideal S1x4x256 .f32) (x7 : FVec Ideal S1x1024 .f32)

/-- An element, as a real number. -/
abbrev re (x : EReal) : ℝ := x.toReal

/-- The arguments' rows as real numbers. -/
def data : Cert.GatesMath.Data where
  xa t j := if h : t < 4096 then re (x0 (ix3 0 ⟨t, h⟩ ⟨j.val, by omega⟩)) else 0
  ga t j := if h : t < 4096 then re (x0 (ix3 0 ⟨t, h⟩ ⟨1024 + j.val, by omega⟩)) else 0
  cw k j := re (x1 (ix3 0 k j))
  cb j := re (x2 (ix2 0 j))
  wr h i k := re (x3 (ix4 0 h i k))
  br h k := re (x4 (ix3 0 h k))
  wi h i k := re (x5 (ix4 0 h i k))
  bi h k := re (x6 (ix3 0 h k))
  lm j := re (x7 (ix2 0 j))
  dy _ _ := 0

/-- Under the predicate the arguments are those real numbers. -/
theorem args (e : Cert.Pre_lru_finite.fn (F := Ideal) x0 x1 x2 x3 x4 x5 x6 x7 = fun _ => 1#1) :
    Cert.LruRefIdeal.Hand.Args x0 x1 x2 x3 x4 x5 x6 x7 (data x0 x1 x2 x3 x4 x5 x6 x7) := by
  obtain ⟨e, e7⟩ := Cert.Finite.and_split e
  obtain ⟨e, e6⟩ := Cert.Finite.and_split e
  obtain ⟨e, e5⟩ := Cert.Finite.and_split e
  obtain ⟨e, e4⟩ := Cert.Finite.and_split e
  obtain ⟨e, e3⟩ := Cert.Finite.and_split e
  obtain ⟨e, e2⟩ := Cert.Finite.and_split e
  obtain ⟨e0, e1⟩ := Cert.Finite.and_split e
  have r0 := Cert.Finite.real_of_all x0 _ _ _ e0
  have r1 := Cert.Finite.real_of_all x1 _ _ _ e1
  have r2 := Cert.Finite.real_of_all x2 _ _ _ e2
  have r3 := Cert.Finite.real_of_all x3 _ _ _ e3
  have r4 := Cert.Finite.real_of_all x4 _ _ _ e4
  have r5 := Cert.Finite.real_of_all x5 _ _ _ e5
  have r6 := Cert.Finite.real_of_all x6 _ _ _ e6
  have r7 := Cert.Finite.real_of_all x7 _ _ _ e7
  exact { xa := fun t j => (r0 _).trans (by simp [data]), ga := fun t j => (r0 _).trans (by simp [data]), cw := fun k j => r1 _, cb := fun j => r2 _,
          wr := fun h i k => r3 _, br := fun h k => r4 _, wi := fun h i k => r5 _, bi := fun h k => r6 _, lm := fun j => r7 _ }

end Cert.Pre_lru_finite.Hand

namespace Cert.Lru.Hand

open Idealize.ShloMosaic Idealize.ShloMosaic.TcCoe Idealize.SL.Sem

/-- The reference's arguments are the call's. -/
theorem agree (m : (ℓ : Loc Cert.LruIdeal.nD Cert.LruIdeal.τ Cert.LruIdeal.sig) → Buf (Elt Ideal) ℓ)
    (m' : (ℓ : Loc Cert.LruRefIdeal.nD Cert.LruRefIdeal.τ Cert.LruRefIdeal.sig) → Buf (Elt Ideal) ℓ) (c : Dev Cert.LruIdeal.nD)
    (h : m' ((c : Thread Cert.LruRefIdeal.nD Cert.LruRefIdeal.τ).loc Cert.LruRefIdeal.main_arg0) = Cert.LruIdeal.Hand.V0 m c
      ∧ m' ((c : Thread Cert.LruRefIdeal.nD Cert.LruRefIdeal.τ).loc Cert.LruRefIdeal.main_arg1) = Cert.LruIdeal.Hand.V1 m c
      ∧ m' ((c : Thread Cert.LruRefIdeal.nD Cert.LruRefIdeal.τ).loc Cert.LruRefIdeal.main_arg2) = Cert.LruIdeal.Hand.V2 m c
      ∧ m' ((c : Thread Cert.LruRefIdeal.nD Cert.LruRefIdeal.τ).loc Cert.LruRefIdeal.main_arg3) = Cert.LruIdeal.Hand.V3 m c
      ∧ m' ((c : Thread Cert.LruRefIdeal.nD Cert.LruRefIdeal.τ).loc Cert.LruRefIdeal.main_arg4) = Cert.LruIdeal.Hand.V4 m c
      ∧ m' ((c : Thread Cert.LruRefIdeal.nD Cert.LruRefIdeal.τ).loc Cert.LruRefIdeal.main_arg5) = Cert.LruIdeal.Hand.V5 m c
      ∧ m' ((c : Thread Cert.LruRefIdeal.nD Cert.LruRefIdeal.τ).loc Cert.LruRefIdeal.main_arg6) = Cert.LruIdeal.Hand.V6 m c
      ∧ m' ((c : Thread Cert.LruRefIdeal.nD Cert.LruRefIdeal.τ).loc Cert.LruRefIdeal.main_arg7) = Cert.LruIdeal.Hand.V7 m c) :
    StableHlo.launchContents m' c (Proc.devRef .tc Cert.LruRefIdeal.main_arg0) = Cert.LruIdeal.Hand.V0 m c
      ∧ StableHlo.launchContents m' c (Proc.devRef .tc Cert.LruRefIdeal.main_arg1) = Cert.LruIdeal.Hand.V1 m c
      ∧ StableHlo.launchContents m' c (Proc.devRef .tc Cert.LruRefIdeal.main_arg2) = Cert.LruIdeal.Hand.V2 m c
      ∧ StableHlo.launchContents m' c (Proc.devRef .tc Cert.LruRefIdeal.main_arg3) = Cert.LruIdeal.Hand.V3 m c
      ∧ StableHlo.launchContents m' c (Proc.devRef .tc Cert.LruRefIdeal.main_arg4) = Cert.LruIdeal.Hand.V4 m c
      ∧ StableHlo.launchContents m' c (Proc.devRef .tc Cert.LruRefIdeal.main_arg5) = Cert.LruIdeal.Hand.V5 m c
      ∧ StableHlo.launchContents m' c (Proc.devRef .tc Cert.LruRefIdeal.main_arg6) = Cert.LruIdeal.Hand.V6 m c
      ∧ StableHlo.launchContents m' c (Proc.devRef .tc Cert.LruRefIdeal.main_arg7) = Cert.LruIdeal.Hand.V7 m c := h

set_option maxHeartbeats 4000000 in
/-- On finite arguments the call and the forward lines give the same five arrays. -/
theorem algebraic : Cert.algebraic_LruIdeal_LruRefIdeal_pre_lru_finite := by
  pair_intro
  · exact Cert.LruIdeal.Value.run_blocks m g
  · rename' hagree => hag
    run_from Cert.LruRefIdeal.Value.run m' g'
    · obtain ⟨e0, e1, e2, e3, e4, e5, e6, e7⟩ := agree m m' c (hag c)
      exact (Cert.LruRefIdeal.Read.val_main_v383_eq (StableHlo.launchContents m' c)).trans (by rw [e0, e1, e2, e3, e4, e5, e6, e7]; exact (Cert.LruIdeal.Hand.final9 (Cert.Pre_lru_finite.Hand.args _ _ _ _ _ _ _ _ (hpre c))).symm)
    · obtain ⟨e0, e1, e2, e3, e4, e5, e6, e7⟩ := agree m m' c (hag c)
      exact (Cert.LruRefIdeal.Read.val_main_v384_eq (StableHlo.launchContents m' c)).trans (by rw [e0, e1, e2, e3, e4, e5, e6, e7]; exact (Cert.LruIdeal.Hand.final10 (Cert.Pre_lru_finite.Hand.args _ _ _ _ _ _ _ _ (hpre c))).symm)
    · obtain ⟨e0, e1, e2, e3, e4, e5, e6, e7⟩ := agree m m' c (hag c)
      exact (Cert.LruRefIdeal.Read.val_main_v385_eq (StableHlo.launchContents m' c)).trans (by rw [e0, e1, e2]; exact (Cert.LruIdeal.Hand.final11 (Cert.Pre_lru_finite.Hand.args _ _ _ _ _ _ _ _ (hpre c))).symm)
    · obtain ⟨e0, e1, e2, e3, e4, e5, e6, e7⟩ := agree m m' c (hag c)
      exact (Cert.LruRefIdeal.Read.val_main_v386_eq (StableHlo.launchContents m' c)).trans (by rw [e0, e1, e2, e3, e4]; exact (Cert.LruIdeal.Hand.final12 (Cert.Pre_lru_finite.Hand.args _ _ _ _ _ _ _ _ (hpre c))).symm)
    · obtain ⟨e0, e1, e2, e3, e4, e5, e6, e7⟩ := agree m m' c (hag c)
      exact (Cert.LruRefIdeal.Read.val_main_v387_eq (StableHlo.launchContents m' c)).trans (by rw [e0, e1, e2, e5, e6]; exact (Cert.LruIdeal.Hand.final13 (Cert.Pre_lru_finite.Hand.args _ _ _ _ _ _ _ _ (hpre c))).symm)

/-- The forward lines run, and leave their arguments. -/
theorem frame_ref : Cert.quiescent_LruRefIdeal := by
  intro m g _
  run_from Cert.LruRefIdeal.Value.run m g
  · exact fun _ => ⟨trivial, trivial, trivial, trivial, trivial, trivial, trivial, trivial⟩
  · exact sem_eq_zero_of_no_sems rfl _

/-- The one word given its value: the product of the smooth unit's two constants. -/
theorem preserves : Cert.preserves_Lru_LruIdeal :=
  IdealRules.named_const.statement Cert.LruIdeal.κ "k01" .f32 0x3D122279#32 ((80338380498831 / 2251799813685248 : ℝ) : EReal) rfl

end Cert.Lru.Hand

end
-- ==== Proof.SguMath.lean ====
/- The spatial gate over the reals: what its forward lines compute of finite arguments, and its gradients. -/
module

public import proofs.«01_k».proof.Proof.GatesMath

@[expose] public section

noncomputable section

namespace Cert.SguMath

open Idealize.ShloMosaic Cert.GatesMath

/-- A row's chunk, its place in the chunk, and the row of a chunk's place. -/
abbrev ch (t : Fin 4096) : Fin 32 := ⟨t.val / 128, by omega⟩
abbrev ps (t : Fin 4096) : Fin 128 := ⟨t.val % 128, by omega⟩
abbrev row (n : Fin 32) (p : Fin 128) : Fin 4096 := ⟨n.val * 128 + p.val, by omega⟩

theorem ch_row (n : Fin 32) (p : Fin 128) : ch (row n p) = n := Fin.ext (by simp only [ch, row]; omega)
theorem ps_row (n : Fin 32) (p : Fin 128) : ps (row n p) = p := Fin.ext (by simp only [ps, row]; omega)
theorem row_ch_ps (t : Fin 4096) : row (ch t) (ps t) = t := Fin.ext (by simp only [ch, ps, row]; omega)

/-- The smooth unit's tangent part, and its derivative. -/
def th (x : ℝ) : ℝ := Real.tanh (k0 * (x + k1 * (x * x * x)))
def gelD (x : ℝ) : ℝ := 1 / 2 * (1 + th x) + x * (1 - th x * th x) * (1 / 2 * k0 + 3 / 2 * (k0 * k1) * (x * x))

/-- The norm's constant. -/
def eps : ℝ := 2748779 / 274877906944

/-- The arguments: the gate's two inputs by rows, the norm's scale and shift, the mixing weights and biases by groups, and
the result's gradient. -/
structure Data where
  u : Fin 4096 → Fin 1024 → ℝ
  v : Fin 4096 → Fin 1024 → ℝ
  lg : Fin 1024 → ℝ
  lb : Fin 1024 → ℝ
  ws : Fin 4 → Fin 128 → Fin 128 → ℝ
  bs : Fin 4 → Fin 128 → ℝ
  dy : Fin 4096 → Fin 1024 → ℝ

namespace Data

variable (D : Data) (t : Fin 4096) (j : Fin 1024)

def gv : ℝ := gel (D.v t j)
def gu : ℝ := gel (D.u t j)
def mu : ℝ := (∑ j, D.gv t j) / 1024
def d : ℝ := D.gv t j - D.mu t
/-- The variance with the norm's constant. -/
def va : ℝ := (∑ j, D.d t j * D.d t j) / 1024 + eps
def rs : ℝ := (Real.sqrt (D.va t))⁻¹
def vh : ℝ := D.d t j * D.rs t
def vn : ℝ := D.vh t j * D.lg j + D.lb j
/-- The weights on and below the diagonal. -/
def wm (g : Fin 4) (p q : Fin 128) : ℝ := if q.val ≤ p.val then D.ws g p q else 0
def sp : ℝ := ∑ q, D.vn (row (ch t) q) j * D.wm (hd j) (ps t) q + D.bs (hd j) (ps t)
def dzu : ℝ := D.dy t j * D.sp t j * gelD (D.u t j)
def dsp : ℝ := D.gu t j * D.dy t j
def dvn : ℝ := ∑ p, D.dsp (row (ch t) p) j * D.wm (hd j) p (ps t)
def dlg : ℝ := ∑ t, D.vh t j * D.dvn t j
def dlb : ℝ := ∑ t, D.dvn t j
def dvh : ℝ := D.dvn t j * D.lg j
def dgv : ℝ := D.rs t * (D.dvh t j - (∑ i, D.dvh t i) / 1024 - D.vh t j * ((∑ i, D.dvh t i * D.vh t i) / 1024))
def dzv : ℝ := D.dgv t j * gelD (D.v t j)
def dz (k : Fin 2048) : ℝ := if h : k.val < 1024 then D.dzu t ⟨k.val, h⟩ else D.dzv t ⟨k.val - 1024, by omega⟩
def dws (g : Fin 4) (p q : Fin 128) : ℝ :=
  if q.val ≤ p.val then ∑ n, ∑ c, D.dsp (row n p) (col g c) * D.vn (row n q) (col g c) else 0
def dbs (g : Fin 4) (p : Fin 128) : ℝ := ∑ n, ∑ c, D.dsp (row n p) (col g c)

theorem va_pos : 0 < D.va t := by
  have h : 0 ≤ ∑ j, D.d t j * D.d t j := Finset.sum_nonneg fun j _ => mul_self_nonneg _
  have e : 0 < eps := by unfold eps; norm_num
  unfold va; positivity

theorem sum_d : ∑ j, D.d t j = 0 := by
  simp only [d, Finset.sum_sub_distrib, Finset.sum_const, Finset.card_univ, Fintype.card_fin, nsmul_eq_mul, mu]
  ring

theorem rs_sq : D.rs t * D.rs t = (D.va t)⁻¹ := by
  unfold rs
  rw [← mul_inv, Real.mul_self_sqrt (D.va_pos t).le]

/-- The norm's gradient as the differentiated lines compute it. -/
theorem dgv_lines : D.dvh t j * D.rs t + (∑ i, D.d t i * D.dvh t i) * (-1 / 2 * (D.rs t / D.va t)) / 1024 * (2 * D.d t j)
    + (∑ i, -(D.dvh t i * D.rs t) + ∑ i, -((∑ i, D.d t i * D.dvh t i) * (-1 / 2 * (D.rs t / D.va t)) / 1024 * (2 * D.d t i))) / 1024
    = D.dgv t j := by
  have e1 : ∑ i, -((∑ i, D.d t i * D.dvh t i) * (-1 / 2 * (D.rs t / D.va t)) / 1024 * (2 * D.d t i)) = 0 := by
    rw [Finset.sum_neg_distrib, ← Finset.mul_sum, ← Finset.mul_sum, sum_d]; ring
  have e2 : ∑ i, -(D.dvh t i * D.rs t) = -((∑ i, D.dvh t i) * D.rs t) := by rw [Finset.sum_neg_distrib, Finset.sum_mul]
  have e3 : ∑ i, D.dvh t i * D.vh t i = (∑ i, D.d t i * D.dvh t i) * D.rs t := by
    rw [Finset.sum_mul]; exact Finset.sum_congr rfl fun i _ => by unfold vh; ring
  have e4 : D.rs t / D.va t = D.rs t * (D.rs t * D.rs t) := by rw [rs_sq]; rfl
  rw [e1, e2, e4, dgv, e3, vh]
  ring

end Data

/-- The smooth unit's gradient as the differentiated lines compute it. -/
theorem gel_lines (x a : ℝ) : a * (1 / 2 * (1 + th x)) + k0 * (1 / 2 * (x * a) * ((1 + th x) * (1 - th x)))
    + k1 * (k0 * (1 / 2 * (x * a) * ((1 + th x) * (1 - th x)))) * (3 * (x * x)) = a * gelD x := by
  unfold gelD; ring

theorem bits_three : Ideal.ofBits .f32 0x40400000#32 = ((3 : ℝ) : EReal) := by
  simp [Ideal.ofBits, Ideal.ieee]; rw [← EReal.coe_mul]; norm_num
theorem bits_mhalf : Ideal.ofBits .f32 0xBF000000#32 = ((-1 / 2 : ℝ) : EReal) := by
  simp [Ideal.ofBits, Ideal.ieee]; rw [← EReal.coe_mul]; norm_num
theorem bits_1024 : Ideal.ofBits .f32 0x44800000#32 = ((1024 : ℝ) : EReal) := by
  simp [Ideal.ofBits, Ideal.ieee]; rw [← EReal.coe_mul]; norm_num
theorem bits_eps : Ideal.ofBits .f32 0x3727C5AC#32 = ((eps : ℝ) : EReal) := by
  simp [Ideal.ofBits, Ideal.ieee, eps]; rw [← EReal.coe_mul]; norm_num

theorem div_1024 (x : ℝ) : Ideal.div (x : EReal) ((1024 : ℝ) : EReal) = ((x / 1024 : ℝ) : EReal) := coe_div (by norm_num)

end Cert.SguMath

end
-- ==== Proof.SguTile.lean ====
/- One grid point of the gating unit's gradients: the values it computes are the real functions of SguMath at its tile of rows. -/
module

public import proofs.«01_k».proof.Proof.SguMath
public import proofs.«01_k».proof.Proof.Gen.BwdSguIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.BwdSguIdeal.Hand

open Cert.BwdSguIdeal Cert.BwdSguIdeal.Gen Idealize.ShloMosaic Idealize.ShloMosaic.TcCoe Idealize.SL.Sem
open Cert.GatesMath hiding Data
open Cert.SguMath

/-- What a point reads: its blocks in the windows' order. -/
structure Tile where
  x0 : Vec Ideal S256x1024 .f32
  x1 : Vec Ideal S256x1024 .bf16
  x2 : Vec Ideal S256x1024 .bf16
  x3 : Vec Ideal S1x1024 .f32
  x4 : Vec Ideal S1x1024 .f32
  x5 : Vec Ideal S4x128x128 .f32
  x6 : Vec Ideal S128x1024 .f32

/-- The array row of a tile's row. -/
abbrev tr (T : Fin 16) (r : Fin 256) : Fin 4096 := ⟨256 * T.val + r.val, by omega⟩
/-- The chunks of a tile, and the tile's row of a place in its first and its second chunk. -/
abbrev c0 (T : Fin 16) : Fin 32 := ⟨2 * T.val, by omega⟩
abbrev c1 (T : Fin 16) : Fin 32 := ⟨2 * T.val + 1, by omega⟩
abbrev r0 (p : Fin 128) : Fin 256 := ⟨p.val, by omega⟩
abbrev r1 (p : Fin 128) : Fin 256 := ⟨128 + p.val, by omega⟩

theorem tr_r0 (T : Fin 16) (p : Fin 128) : tr T (r0 p) = row (c0 T) p := Fin.ext (by simp only [tr, r0, row, c0]; omega)
theorem tr_r1 (T : Fin 16) (p : Fin 128) : tr T (r1 p) = row (c1 T) p := Fin.ext (by simp only [tr, r1, row, c1]; omega)

/-- A group's columns. -/
abbrev k0c (c : Fin 256) : Fin 1024 := ⟨c.val, by omega⟩
abbrev k1c (c : Fin 256) : Fin 1024 := ⟨256 + c.val, by omega⟩
abbrev k2c (c : Fin 256) : Fin 1024 := ⟨512 + c.val, by omega⟩
abbrev k3c (c : Fin 256) : Fin 1024 := ⟨768 + c.val, by omega⟩

theorem k0c_col (c : Fin 256) : k0c c = col 0 c := Fin.ext (by simp [col])
theorem k1c_col (c : Fin 256) : k1c c = col 1 c := Fin.ext (by simp [col])
theorem k2c_col (c : Fin 256) : k2c c = col 2 c := Fin.ext (by simp [col])
theorem k3c_col (c : Fin 256) : k3c c = col 3 c := Fin.ext (by simp [col])

/-- The group blocks of a 1024-column array of 128 rows. -/
abbrev g0 : Rect S128x1024 := Rect.unit ![0, 0] ![128, 256] inb_S128x1024_S128x256_0_0
abbrev g1 : Rect S128x1024 := Rect.unit ![0, 256] ![128, 256] inb_S128x1024_S128x256_0_256
abbrev g2 : Rect S128x1024 := Rect.unit ![0, 512] ![128, 256] inb_S128x1024_S128x256_0_512
abbrev g3 : Rect S128x1024 := Rect.unit ![0, 768] ![128, 256] inb_S128x1024_S128x256_0_768
/-- The group blocks of the mixing weights. -/
abbrev m0 : Rect S4x128x128 := Rect.unit ![0, 0, 0] ![1, 128, 128] inb_S4x128x128_S1x128x128_0_0_0
abbrev m1 : Rect S4x128x128 := Rect.unit ![1, 0, 0] ![1, 128, 128] inb_S4x128x128_S1x128x128_1_0_0
abbrev m2 : Rect S4x128x128 := Rect.unit ![2, 0, 0] ![1, 128, 128] inb_S4x128x128_S1x128x128_2_0_0
abbrev m3 : Rect S4x128x128 := Rect.unit ![3, 0, 0] ![1, 128, 128] inb_S4x128x128_S1x128x128_3_0_0

namespace Tile

variable (b : Tile)

/-! The values of a point, each under the number its line has in the kernel. -/

def v28 : FVec Ideal S256x1024 .f32 := k0_pay14 (F := Ideal) b.x1
def v29 : FVec Ideal S256x1024 .f32 := k0_pay15 (F := Ideal) b.x1
def v30 : FVec Ideal S256x1024 .f32 := k0_pay16 (F := Ideal) b.x2
def v31 : FVec Ideal S256x1024 .f32 := k0_pay17 (F := Ideal) b.x2
def v37 : FVec Ideal S256x1024 .f32 := k0_pay18 (F := Ideal) b.x2
def v39 : FVec Ideal S256x1024 .f32 := k0_pay19 (F := Ideal) b.x2
def v40 : FVec Ideal S256x1024 .f32 := k0_pay20 (F := Ideal)
def v51 : FVec Ideal S256x1024 .f32 := k0_pay22 (F := Ideal) b.v30 b.v31 b.v37 b.v39 v40
def v66 : FVec Ideal S256x1 .f32 := k0_pay24 (F := Ideal) b.v30 b.v39 v40
def v68 : FVec Ideal S256x1024 .f32 := k0_pay25 (F := Ideal) b.v30 b.v39 v40
def v75 : FVec Ideal S256x1024 .bf16 := k0_pay26 (F := Ideal) b.v30 b.v39 v40 b.x3 b.x4
def v77 : FVec Ideal S256x1024 .f32 := k0_pay27 (F := Ideal) b.x0
def v85 : FVec Ideal S128x128 .bf16 := k0_pay30 (F := Ideal) k0_pay28 (k0_pay29 (F := Ideal) (View.ld b.x5 m0)) (FloatOps.ofBits FTy.f32 0#32)
def v90 : FVec Ideal S128x128 .bf16 := k0_pay31 (F := Ideal) k0_pay28 (View.ld b.x5 m1)
def v95 : FVec Ideal S128x128 .bf16 := k0_pay32 (F := Ideal) k0_pay28 (View.ld b.x5 m2)
def v100 : FVec Ideal S128x128 .bf16 := k0_pay33 (F := Ideal) k0_pay28 (View.ld b.x5 m3)

/-- The blocks hold the data of tile `T`. -/
structure Holds (D : SguMath.Data) (T : Fin 16) : Prop where
  dy : ∀ r j, b.x0 (ix2 r j) = ((D.dy (tr T r) j : ℝ) : EReal)
  u : ∀ r j, b.x1 (ix2 r j) = ((D.u (tr T r) j : ℝ) : EReal)
  v : ∀ r j, b.x2 (ix2 r j) = ((D.v (tr T r) j : ℝ) : EReal)
  lg : ∀ j, b.x3 (ix2 0 j) = ((D.lg j : ℝ) : EReal)
  lb : ∀ j, b.x4 (ix2 0 j) = ((D.lb j : ℝ) : EReal)
  ws : ∀ g p q, b.x5 (ix3 g p q) = ((D.ws g p q : ℝ) : EReal)
  bs : ∀ p j, b.x6 (ix2 p j) = ((D.bs (hd j) p : ℝ) : EReal)

/-- The second constant times the first, and that product with a half more, under their names. -/
theorem k01_eq : Named.named (F := Ideal) Cert.BwdSguIdeal.κ "k01" (φ := .f32) 0x3D122279#32 = ((k0 * k1 : ℝ) : EReal) := by
  have h : Named.named (F := Ideal) Cert.BwdSguIdeal.κ "k01" (φ := .f32) 0x3D122279#32 = ((80338380498831 / 2251799813685248 : ℝ) : EReal) :=
    IdealRules.named_const.ideal_named_scalar _ _ _ _ rfl
  rw [h]; congr 1; unfold k0 k1; norm_num
theorem k01x_eq : Named.named (F := Ideal) Cert.BwdSguIdeal.κ "k01x" (φ := .f32) 0x3D5B33B6#32 = ((3 / 2 * (k0 * k1) : ℝ) : EReal) := by
  have h : Named.named (F := Ideal) Cert.BwdSguIdeal.κ "k01x" (φ := .f32) 0x3D5B33B6#32 = ((241015141496493 / 4503599627370496 : ℝ) : EReal) :=
    IdealRules.named_const.ideal_named_scalar _ _ _ _ rfl
  rw [h]; congr 1; unfold k0 k1; norm_num
theorem bits_k0h : Ideal.ofBits .f32 0x3ECC422A#32 = ((1 / 2 * k0 : ℝ) : EReal) := by
  rw [show (1 / 2 * k0 : ℝ) = 6693141 / 16777216 by unfold k0; norm_num]
  simp [Ideal.ofBits, Ideal.ieee]; rw [← EReal.coe_mul]; norm_num

/-- The smooth unit and its derivative as a tile computes them. -/
theorem gel_tile (x : ℝ) : x * (1 / 2 + 1 / 2 * Real.tanh (x * (k0 + k0 * k1 * (x * x)))) = gel x := by
  rw [show x * (k0 + k0 * k1 * (x * x)) = k0 * (x + k1 * (x * x * x)) by ring]; unfold gel; ring
theorem gelD_tile (x : ℝ) : 1 / 2 + 1 / 2 * Real.tanh (x * (k0 + k0 * k1 * (x * x)))
    + x * (1 - Real.tanh (x * (k0 + k0 * k1 * (x * x))) * Real.tanh (x * (k0 + k0 * k1 * (x * x)))) * (1 / 2 * k0 + 3 / 2 * (k0 * k1) * (x * x)) = gelD x := by
  rw [show x * (k0 + k0 * k1 * (x * x)) = k0 * (x + k1 * (x * x * x)) by ring]; unfold gelD th; ring

variable {b} {D : SguMath.Data} {T : Fin 16} (H : b.Holds D T)
include H

/-! ### The units, the norm and the weights -/

theorem v28_at (r : Fin 256) (j : Fin 1024) : b.v28 (ix2 r j) = ((gelD (D.u (tr T r) j) : ℝ) : EReal) := by
  unfold v28
  pointwise [k0_pay14, k0_pay13, k0_pay12, k0_pay11, k0_pay10]
  rw [H.u, k01_eq, k01x_eq, bits_k0, bits_half, bits_k0h]
  simp only [← EReal.coe_one, ← EReal.coe_mul, ← EReal.coe_add, ← EReal.coe_sub, Ideal.tanh_coe]
  exact congrArg _ (gelD_tile _)

theorem v29_at (r : Fin 256) (j : Fin 1024) : b.v29 (ix2 r j) = ((D.gu (tr T r) j : ℝ) : EReal) := by
  unfold v29
  pointwise [k0_pay15, k0_pay13, k0_pay12, k0_pay11, k0_pay10]
  rw [H.u, k01_eq, bits_k0, bits_half]
  simp only [← EReal.coe_mul, ← EReal.coe_add, Ideal.tanh_coe]
  exact congrArg _ (gel_tile _)

theorem v51_at (r : Fin 256) (j : Fin 1024) : b.v51 (ix2 r j) = ((gelD (D.v (tr T r) j) : ℝ) : EReal) := by
  unfold v51 v30 v31 v37 v39 v40
  pointwise [k0_pay22, k0_pay21, k0_pay20, k0_pay19, k0_pay18, k0_pay17, k0_pay16]
  rw [H.v, k01_eq, k01x_eq, bits_k0, bits_half, bits_k0h]
  simp only [← EReal.coe_one, ← EReal.coe_mul, ← EReal.coe_add, ← EReal.coe_sub, Ideal.tanh_coe]
  exact congrArg _ (gelD_tile _)

theorem gv_at (r : Fin 256) (j : Fin 1024) : b.v30 (ix2 r j) * (v40 (ix2 r j) + b.v39 (ix2 r j)) = ((D.gv (tr T r) j : ℝ) : EReal) := by
  unfold v30 v39 v40
  pointwise [k0_pay20, k0_pay19, k0_pay18, k0_pay17, k0_pay16]
  rw [H.v, k01_eq, bits_k0, bits_half]
  simp only [← EReal.coe_mul, ← EReal.coe_add, Ideal.tanh_coe]
  exact congrArg _ (gel_tile _)

theorem d_at (r : Fin 256) (j : Fin 1024) : k0_pay23 (F := Ideal) b.v30 b.v39 v40 (ix2 r j) = ((D.d (tr T r) j : ℝ) : EReal) := by
  pointwise [k0_pay23, k0_pay21]
  simp only [gv_at H, bits_1024, coe_sum, div_1024, ← EReal.coe_sub]
  rfl

theorem v66_at (r : Fin 256) : b.v66 (ix2 r 0) = ((D.rs (tr T r) : ℝ) : EReal) := by
  unfold v66
  pointwise [k0_pay24]
  simp only [d_at H, ← EReal.coe_mul, bits_1024, bits_eps, coe_sum, div_1024, ← EReal.coe_add]
  exact coe_rsqrt (D.va_pos (tr T r))

theorem v68_at (r : Fin 256) (j : Fin 1024) : b.v68 (ix2 r j) = ((D.vh (tr T r) j : ℝ) : EReal) := by
  unfold v68
  have h := v66_at H r
  unfold v66 at h
  pointwise [k0_pay25]
  rw [d_at H, h, ← EReal.coe_mul]; rfl

theorem v75_at (r : Fin 256) (j : Fin 1024) : b.v75 (ix2 r j) = ((D.vn (tr T r) j : ℝ) : EReal) := by
  unfold v75
  have h := v68_at H r j
  unfold v68 at h
  pointwise [k0_pay26]
  rw [h, H.lg, H.lb, ← EReal.coe_mul, ← EReal.coe_add]; rfl

theorem v77_at (r : Fin 256) (j : Fin 1024) : b.v77 (ix2 r j) = ((D.dy (tr T r) j : ℝ) : EReal) := by
  unfold v77
  pointwise [k0_pay27]
  exact H.dy r j

theorem v85_at (p q : Fin 128) : b.v85 (ix2 p q) = ((D.wm 0 p q : ℝ) : EReal) := by
  unfold v85
  pointwise [k0_pay30, k0_pay29, k0_pay28]
  rw [sge_word _ _ (by omega) (by omega), H.ws, ite_coe']; rfl

theorem v90_at (p q : Fin 128) : b.v90 (ix2 p q) = ((D.wm 1 p q : ℝ) : EReal) := by
  unfold v90
  pointwise [k0_pay31, k0_pay28]
  rw [sge_word _ _ (by omega) (by omega), H.ws, ite_coe']; rfl

theorem v95_at (p q : Fin 128) : b.v95 (ix2 p q) = ((D.wm 2 p q : ℝ) : EReal) := by
  unfold v95
  pointwise [k0_pay32, k0_pay28]
  rw [sge_word _ _ (by omega) (by omega), H.ws, ite_coe']; rfl

theorem v100_at (p q : Fin 128) : b.v100 (ix2 p q) = ((D.wm 3 p q : ℝ) : EReal) := by
  unfold v100
  pointwise [k0_pay33, k0_pay28]
  rw [sge_word _ _ (by omega) (by omega), H.ws, ite_coe']; rfl

theorem b0_at (p : Fin 128) (c : Fin 256) : (View.ld b.x6 g0 : FVec Ideal S128x256 .f32) (ix2 p c) = ((D.bs 0 p : ℝ) : EReal) := by
  refine (congrArg b.x6 (show g0.emb (ix2 p c) = ix2 p (k0c c) by blk_ext)).trans ((H.bs p (k0c c)).trans ?_)
  rw [k0c_col, hd_col]

theorem b1_at (p : Fin 128) (c : Fin 256) : (View.ld b.x6 g1 : FVec Ideal S128x256 .f32) (ix2 p c) = ((D.bs 1 p : ℝ) : EReal) := by
  refine (congrArg b.x6 (show g1.emb (ix2 p c) = ix2 p (k1c c) by blk_ext)).trans ((H.bs p (k1c c)).trans ?_)
  rw [k1c_col, hd_col]

theorem b2_at (p : Fin 128) (c : Fin 256) : (View.ld b.x6 g2 : FVec Ideal S128x256 .f32) (ix2 p c) = ((D.bs 2 p : ℝ) : EReal) := by
  refine (congrArg b.x6 (show g2.emb (ix2 p c) = ix2 p (k2c c) by blk_ext)).trans ((H.bs p (k2c c)).trans ?_)
  rw [k2c_col, hd_col]

theorem b3_at (p : Fin 128) (c : Fin 256) : (View.ld b.x6 g3 : FVec Ideal S128x256 .f32) (ix2 p c) = ((D.bs 3 p : ℝ) : EReal) := by
  refine (congrArg b.x6 (show g3.emb (ix2 p c) = ix2 p (k3c c) by blk_ext)).trans ((H.bs p (k3c c)).trans ?_)
  rw [k3c_col, hd_col]

end Tile

end Cert.BwdSguIdeal.Hand

end
-- ==== Proof.SguArrays.lean ====
/- One grid point of the gating unit's gradients: what the blocks it stores leave in its arrays. -/
module

public import proofs.«01_k».proof.Proof.SguTile

@[expose] public section

set_option maxRecDepth 16384

noncomputable section

/-- A chunk's share of a mixing weight's gradient. -/
def Cert.SguMath.Data.pdws (D : Cert.SguMath.Data) (n : Fin 32) (g : Fin 4) (p q : Fin 128) : ℝ :=
  if q.val ≤ p.val then ∑ c, D.dsp (Cert.SguMath.row n p) (Cert.GatesMath.col g c) * D.vn (Cert.SguMath.row n q) (Cert.GatesMath.col g c) else 0

namespace Cert.BwdSguIdeal.Hand

open Cert.BwdSguIdeal Cert.BwdSguIdeal.Gen Idealize.ShloMosaic Idealize.ShloMosaic.TcCoe Idealize.SL.Sem
open Cert.GatesMath hiding Data
open Cert.SguMath

/-- The group blocks of the weights' gradient. -/
abbrev w0 : Rect S128x512 := Rect.unit ![0, 0] ![128, 128] inb_S128x512_S128x128_0_0
abbrev w1 : Rect S128x512 := Rect.unit ![0, 128] ![128, 128] inb_S128x512_S128x128_0_128
abbrev w2 : Rect S128x512 := Rect.unit ![0, 256] ![128, 128] inb_S128x512_S128x128_0_256
abbrev w3 : Rect S128x512 := Rect.unit ![0, 384] ![128, 128] inb_S128x512_S128x128_0_384
/-- A column of the weights' gradient: its group, its place there, and back. -/
abbrev gk (k : Fin 512) : Fin 4 := ⟨k.val / 128, by omega⟩
abbrev lk (k : Fin 512) : Fin 128 := ⟨k.val % 128, by omega⟩

theorem eq_word (n k : ℕ) (hn : n < 2 ^ 32) (hk : k < 2 ^ 32) (x y : EReal) :
    Scalar.select (IntOp.cmpi CmpIPredicate.eq (BitVec.ofNat 32 n) (BitVec.ofNat 32 k)) x y = if n = k then x else y := by
  have e : BitVec.ofNat 32 n = BitVec.ofNat 32 k ↔ n = k :=
    ⟨fun h => by have := congrArg BitVec.toNat h; simp only [BitVec.toNat_ofNat] at this; omega, fun h => by rw [h]⟩
  by_cases h : n = k
  · simp [IntOp.cmpi, h, Scalar.select]
  · have e' : (BitVec.ofNat 32 n == BitVec.ofNat 32 k) = false := beq_eq_false_iff_ne.mpr fun c => h (e.mp c)
    simp [IntOp.cmpi, e', h, Scalar.select]

/-- A block's piece of an array's function. -/
theorem piece2 {a d A B : ℕ} {e : EltTy} (w : (⟨2, ![a, d]⟩ : Shape).Idx → Elt Ideal e) (G : (⟨2, ![A, B]⟩ : Shape).Idx → Elt Ideal e)
    (f : Fin a → Fin A) (k : Fin d → Fin B) (hw : ∀ p c, w (ix2 p c) = G (ix2 (f p) (k c))) (x : (⟨2, ![a, d]⟩ : Shape).Idx)
    (y : (⟨2, ![A, B]⟩ : Shape).Idx) (hy : y = ix2 (f (x 0)) (k (x 1))) : w x = G y := by
  subst hy
  exact (congrArg w (eq_ix2 x)).trans (hw _ _)

theorem canon_of_piecesOf {s : Shape} {e : EltTy} (G : s.Idx → Elt Ideal e) (L : List (View.Piece (Elt Ideal) s e)) (h : View.PiecesOf G L) (y : s.Idx)
    (hc : ∃ p ∈ L, y ∈ p.1.set) : View.canon L y = G y := by
  have := View.canon_append_of_piecesOf G [] L h y hc
  rwa [List.append_nil] at this

namespace Tile

variable (b : Tile)

/-- The gradient of the norm's result, stored by blocks and read back whole. -/
def dvnA : Vec Ideal S256x1024 .f32 := (View.whole cc0_scratch0).readCov (Val := Elt Ideal) (e := .f32) (s := S256x1024)
    [⟨Rect.unit (s := S256x1024) ![128, 768] ![128, 256] inb_S256x1024_S128x256_128_768, k0_pay102 (F := Ideal) b.v100 (k0_pay98 (F := Ideal) b.v29 b.v77)⟩,
    ⟨Rect.unit (s := S256x1024) ![128, 512] ![128, 256] inb_S256x1024_S128x256_128_512, k0_pay93 (F := Ideal) b.v95 (k0_pay87 (F := Ideal) b.v77) (k0_pay89 (F := Ideal) b.v29)⟩,
    ⟨Rect.unit (s := S256x1024) ![128, 256] ![128, 256] inb_S256x1024_S128x256_128_256, k0_pay84 (F := Ideal) b.v29 b.v90 (k0_pay78 (F := Ideal) b.v77)⟩,
    ⟨Rect.unit (s := S256x1024) ![128, 0] ![128, 256] inb_S256x1024_S128x256_128_0, k0_pay75 (F := Ideal) b.v29 b.v77 b.v85⟩,
    ⟨Rect.unit (s := S256x1024) ![0, 768] ![128, 256] inb_S256x1024_S128x256_0_768, k0_pay67 (F := Ideal) b.v29 b.v77 b.v100⟩,
    ⟨Rect.unit (s := S256x1024) ![0, 512] ![128, 256] inb_S256x1024_S128x256_0_512, k0_pay56 (F := Ideal) b.v29 b.v77 b.v95⟩,
    ⟨Rect.unit (s := S256x1024) ![0, 256] ![128, 256] inb_S256x1024_S128x256_0_256, k0_pay48 (F := Ideal) b.v29 b.v77 b.v90⟩,
    ⟨Rect.unit (s := S256x1024) ![0, 0] ![128, 256] inb_S256x1024_S128x256_0_0, k0_pay40 (F := Ideal) b.v85 (k0_pay39 (F := Ideal) b.v29 b.v77)⟩]
    (Rect.unit (s := S256x1024) ![0, 0] ![256, 1024] inb_S256x1024_S256x1024_0_0).toLoadRect

/-- The gradient of the unit's two inputs. -/
def dzA : Vec Ideal S256x2048 .bf16 := View.canon (Val := Elt Ideal) (e := .bf16) (s := S256x2048)
    [⟨Rect.unit (s := S256x2048) ![0, 1024] ![256, 1024] inb_S256x2048_S256x1024_0_1024, k0_pay1 (F := Ideal) b.v51 b.v66 b.v68 (k0_pay106 (F := Ideal) b.dvnA b.x3)⟩,
    ⟨Rect.unit (s := S256x2048) ![128, 768] ![128, 256] inb_S256x2048_S128x256_128_768, k0_pay97 (F := Ideal) b.v28 b.v75 b.v77 b.v100 (View.ld b.x6 g3)⟩,
    ⟨Rect.unit (s := S256x2048) ![128, 512] ![128, 256] inb_S256x2048_S128x256_128_512, k0_pay88 (F := Ideal) b.v28 b.v75 b.v77 b.v95 (View.ld b.x6 g2)⟩,
    ⟨Rect.unit (s := S256x2048) ![128, 256] ![128, 256] inb_S256x2048_S128x256_128_256, k0_pay80 (F := Ideal) b.v28 (k0_pay79 (F := Ideal) b.v75 b.v77 b.v90 (View.ld b.x6 g1))⟩,
    ⟨Rect.unit (s := S256x2048) ![128, 0] ![128, 256] inb_S256x2048_S128x256_128_0, k0_pay71 (F := Ideal) b.v28 b.v77 b.v85 (k0_pay69 (F := Ideal) b.v75) (constant S128x256 FTy.f32 0#32) (View.ld b.x6 g0)⟩,
    ⟨Rect.unit (s := S256x2048) ![0, 768] ![128, 256] inb_S256x2048_S128x256_0_768, k0_pay63 (F := Ideal) b.v28 b.v75 b.v77 b.v100 (View.ld b.x6 g3)⟩,
    ⟨Rect.unit (s := S256x2048) ![0, 512] ![128, 256] inb_S256x2048_S128x256_0_512, k0_pay52 (F := Ideal) b.v28 b.v75 b.v77 b.v95 (View.ld b.x6 g2)⟩,
    ⟨Rect.unit (s := S256x2048) ![0, 256] ![128, 256] inb_S256x2048_S128x256_0_256, k0_pay44 (F := Ideal) b.v28 b.v75 b.v77 b.v90 (View.ld b.x6 g1)⟩,
    ⟨Rect.unit (s := S256x2048) ![0, 0] ![128, 256] inb_S256x2048_S128x256_0_0, k0_pay36 (F := Ideal) b.v28 b.v75 b.v77 k0_pay28 (k0_pay29 (F := Ideal) (View.ld b.x5 m0)) (FloatOps.ofBits FTy.f32 0#32) (View.ld b.x6 g0)⟩]

/-- The running gradients of the norm's scale and shift. -/
def dlgA (q : Vec Ideal S1x1024 .f32) : Vec Ideal S1x1024 .f32 := k0_pay104 (F := Ideal) b.v68 b.dvnA q
def dlbA (q : Vec Ideal S1x1024 .f32) : Vec Ideal S1x1024 .f32 := k0_pay105 (F := Ideal) b.dvnA q

def a0 (q : Vec Ideal S128x1024 .f32) : FVec Ideal S128x256 .f32 := k0_pay73 (F := Ideal) b.v29 b.v77 (k0_pay38 (F := Ideal) b.v29 b.v77 (View.ld q g0))
def a1 (q : Vec Ideal S128x1024 .f32) : FVec Ideal S128x256 .f32 := k0_pay82 (F := Ideal) b.v29 (k0_pay78 (F := Ideal) b.v77) (k0_pay46 (F := Ideal) b.v29 b.v77 (View.ld q g1))
def a2 (q : Vec Ideal S128x1024 .f32) : FVec Ideal S128x256 .f32 := k0_pay91 (F := Ideal) (k0_pay87 (F := Ideal) b.v77) (k0_pay89 (F := Ideal) b.v29) (k0_pay54 (F := Ideal) b.v29 b.v77 (View.ld q g2))
def a3 (q : Vec Ideal S128x1024 .f32) : FVec Ideal S128x256 .f32 := k0_pay100 (F := Ideal) (k0_pay99 (F := Ideal) b.v29 b.v77 (k0_pay65 (F := Ideal) b.v29 b.v77 (View.ld q g3)))

/-- The running sum of the mixed values' gradients. -/
def spA (q : Vec Ideal S128x1024 .f32) (L : List (View.Piece (Elt Ideal) S128x1024 .f32)) : Vec Ideal S128x1024 .f32 := View.canon (Val := Elt Ideal) (e := .f32)
    (⟨g3, b.a3 q⟩ :: ⟨g2, b.a2 q⟩ :: ⟨g1, b.a1 q⟩ :: ⟨g0, b.a0 q⟩ ::
    ⟨g3, k0_pay65 (F := Ideal) b.v29 b.v77 (View.ld q g3)⟩ :: ⟨g2, k0_pay54 (F := Ideal) b.v29 b.v77 (View.ld q g2)⟩ :: ⟨g1, k0_pay46 (F := Ideal) b.v29 b.v77 (View.ld q g1)⟩ :: ⟨g0, k0_pay38 (F := Ideal) b.v29 b.v77 (View.ld q g0)⟩ :: L)

/-- The running gradient of the mixing weights. -/
def dwA (q : Vec Ideal S128x512 .f32) (L : List (View.Piece (Elt Ideal) S128x512 .f32)) : Vec Ideal S128x512 .f32 := View.canon (Val := Elt Ideal) (e := .f32)
    (⟨w3, k0_pay103 (F := Ideal) k0_pay28 (k0_pay95 (F := Ideal) b.v75) (k0_pay98 (F := Ideal) b.v29 b.v77) (k0_pay68 (F := Ideal) b.v29 b.v75 b.v77 k0_pay28 (View.ld q w3))⟩ ::
    ⟨w2, k0_pay94 (F := Ideal) k0_pay28 (k0_pay86 (F := Ideal) b.v75) (k0_pay87 (F := Ideal) b.v77) (k0_pay89 (F := Ideal) b.v29) (k0_pay60 (F := Ideal) k0_pay28 (k0_pay57 (F := Ideal) (View.ld q w2)) (k0_pay58 (F := Ideal) b.v29 b.v75 b.v77) (k0_pay59 (F := Ideal)))⟩ ::
    ⟨w1, k0_pay85 (F := Ideal) b.v29 k0_pay28 (k0_pay77 (F := Ideal) b.v75) (k0_pay78 (F := Ideal) b.v77) (k0_pay49 (F := Ideal) k0_pay28 (k0_pay42 (F := Ideal) b.v75) (k0_pay47 (F := Ideal) b.v29 b.v77) (View.ld q w1))⟩ ::
    ⟨w0, k0_pay76 (F := Ideal) b.v29 b.v77 k0_pay28 (k0_pay69 (F := Ideal) b.v75) (k0_pay41 (F := Ideal) k0_pay28 (k0_pay34 (F := Ideal) b.v75) (k0_pay39 (F := Ideal) b.v29 b.v77) (View.ld q w0))⟩ ::
    ⟨w3, k0_pay68 (F := Ideal) b.v29 b.v75 b.v77 k0_pay28 (View.ld q w3)⟩ ::
    ⟨w2, k0_pay60 (F := Ideal) k0_pay28 (k0_pay57 (F := Ideal) (View.ld q w2)) (k0_pay58 (F := Ideal) b.v29 b.v75 b.v77) (k0_pay59 (F := Ideal))⟩ ::
    ⟨w1, k0_pay49 (F := Ideal) k0_pay28 (k0_pay42 (F := Ideal) b.v75) (k0_pay47 (F := Ideal) b.v29 b.v77) (View.ld q w1)⟩ ::
    ⟨w0, k0_pay41 (F := Ideal) k0_pay28 (k0_pay34 (F := Ideal) b.v75) (k0_pay39 (F := Ideal) b.v29 b.v77) (View.ld q w0)⟩ :: L)

/-- The gradient of the biases, of the last point's running sum. -/
def dbA (q : Vec Ideal S128x1024 .f32) : Vec Ideal S128x128 .f32 :=
  k0_pay2 (F := Ideal) (k0_pay3 (F := Ideal) (b.a0 q) (b.a1 q) (b.a2 q)) k0_pay4 (FloatOps.ofBits FTy.f32 0#32) (k0_pay5 (F := Ideal) (b.a3 q))

variable {b} {D : SguMath.Data} {T : Fin 16} (H : b.Holds D T)
include H

/-! ### The blocks' values over the reals -/

section Real

variable (rr : Fin 128 → Fin 256) (n : Fin 32) (hr : ∀ p, tr T (rr p) = row n p) (g : Fin 4)
include hr

theorem dz_real (j : Fin 1024) (hj : hd j = g) (w : FVec Ideal S128x128 .bf16) (hw : ∀ p q, w (ix2 p q) = ((D.wm g p q : ℝ) : EReal))
    (p : Fin 128) (y : EReal) (hy : y = ((D.bs g p : ℝ) : EReal)) :
    b.v77 (ix2 (rr p) j) * ((∑ q : Fin 128, w (ix2 p q) * b.v75 (ix2 (rr q) j)) + y) * b.v28 (ix2 (rr p) j) = ((D.dzu (tr T (rr p)) j : ℝ) : EReal) := by
  subst hj hy
  simp only [hw, v77_at H, v75_at H, v28_at H, hr, ← EReal.coe_mul, coe_sum, ← EReal.coe_add]
  simp only [SguMath.Data.dzu, SguMath.Data.sp, ch_row, ps_row, mul_comm (D.wm _ _ _)]

theorem dsp_real (p : Fin 128) (j : Fin 1024) : b.v77 (ix2 (rr p) j) * b.v29 (ix2 (rr p) j) = ((D.dsp (row n p) j : ℝ) : EReal) := by
  rw [v77_at H, v29_at H, hr, ← EReal.coe_mul, mul_comm]; rfl

theorem dvn_real (j : Fin 1024) (hj : hd j = g) (w : FVec Ideal S128x128 .bf16) (hw : ∀ p q, w (ix2 p q) = ((D.wm g p q : ℝ) : EReal)) (q : Fin 128) :
    (∑ p : Fin 128, w (ix2 p q) * (b.v77 (ix2 (rr p) j) * b.v29 (ix2 (rr p) j))) = ((D.dvn (tr T (rr q)) j : ℝ) : EReal) := by
  subst hj
  simp only [hw, dsp_real H rr n hr, hr, ← EReal.coe_mul, coe_sum]
  simp only [SguMath.Data.dvn, ch_row, ps_row, mul_comm (D.wm _ _ _)]

theorem dw_real (kc : Fin 256 → Fin 1024) (hk : ∀ c, kc c = col g c) (p q : Fin 128) (x : EReal)
    (hx : x = ∑ c : Fin 256, (b.v77 (ix2 (rr p) (kc c)) * b.v29 (ix2 (rr p) (kc c))) * b.v75 (ix2 (rr q) (kc c))) :
    (if q.val ≤ p.val then x else 0) = ((D.pdws n g p q : ℝ) : EReal) := by
  subst hx
  simp only [dsp_real H rr n hr, v75_at H, hr, hk, ← EReal.coe_mul, coe_sum, ite_coe']
  rfl

end Real

/-! ### Each block -/

theorem dz00 (p : Fin 128) (c : Fin 256) : k0_pay36 (F := Ideal) b.v28 b.v75 b.v77 k0_pay28 (k0_pay29 (F := Ideal) (View.ld b.x5 m0)) (FloatOps.ofBits FTy.f32 0#32) (View.ld b.x6 g0) (ix2 p c) = ((D.dzu (tr T (r0 p)) (k0c c) : ℝ) : EReal) :=
  (show _ = b.v77 (ix2 (r0 p) (k0c c)) * ((∑ q : Fin 128, b.v85 (ix2 p q) * b.v75 (ix2 (r0 q) (k0c c))) + (View.ld b.x6 g0 : FVec Ideal S128x256 .f32) (ix2 p c)) * b.v28 (ix2 (r0 p) (k0c c))
    by unfold v85; pointwise [k0_pay36, k0_pay34, k0_pay35]).trans (dz_real H r0 _ (tr_r0 T) 0 _ (by rw [k0c_col, hd_col]) b.v85 (v85_at H) p _ (b0_at H p c))
theorem dz01 (p : Fin 128) (c : Fin 256) : k0_pay44 (F := Ideal) b.v28 b.v75 b.v77 b.v90 (View.ld b.x6 g1) (ix2 p c) = ((D.dzu (tr T (r0 p)) (k1c c) : ℝ) : EReal) :=
  (show _ = b.v77 (ix2 (r0 p) (k1c c)) * ((∑ q : Fin 128, b.v90 (ix2 p q) * b.v75 (ix2 (r0 q) (k1c c))) + (View.ld b.x6 g1 : FVec Ideal S128x256 .f32) (ix2 p c)) * b.v28 (ix2 (r0 p) (k1c c))
    by pointwise [k0_pay44, k0_pay42, k0_pay43]).trans (dz_real H r0 _ (tr_r0 T) 1 _ (by rw [k1c_col, hd_col]) b.v90 (v90_at H) p _ (b1_at H p c))
theorem dz02 (p : Fin 128) (c : Fin 256) : k0_pay52 (F := Ideal) b.v28 b.v75 b.v77 b.v95 (View.ld b.x6 g2) (ix2 p c) = ((D.dzu (tr T (r0 p)) (k2c c) : ℝ) : EReal) :=
  (show _ = b.v77 (ix2 (r0 p) (k2c c)) * ((∑ q : Fin 128, b.v95 (ix2 p q) * b.v75 (ix2 (r0 q) (k2c c))) + (View.ld b.x6 g2 : FVec Ideal S128x256 .f32) (ix2 p c)) * b.v28 (ix2 (r0 p) (k2c c))
    by pointwise [k0_pay52, k0_pay50, k0_pay51]).trans (dz_real H r0 _ (tr_r0 T) 2 _ (by rw [k2c_col, hd_col]) b.v95 (v95_at H) p _ (b2_at H p c))
theorem dz03 (p : Fin 128) (c : Fin 256) : k0_pay63 (F := Ideal) b.v28 b.v75 b.v77 b.v100 (View.ld b.x6 g3) (ix2 p c) = ((D.dzu (tr T (r0 p)) (k3c c) : ℝ) : EReal) :=
  (show _ = b.v77 (ix2 (r0 p) (k3c c)) * ((∑ q : Fin 128, b.v100 (ix2 p q) * b.v75 (ix2 (r0 q) (k3c c))) + (View.ld b.x6 g3 : FVec Ideal S128x256 .f32) (ix2 p c)) * b.v28 (ix2 (r0 p) (k3c c))
    by pointwise [k0_pay63, k0_pay61, k0_pay62]).trans (dz_real H r0 _ (tr_r0 T) 3 _ (by rw [k3c_col, hd_col]) b.v100 (v100_at H) p _ (b3_at H p c))
theorem dz10 (p : Fin 128) (c : Fin 256) : k0_pay71 (F := Ideal) b.v28 b.v77 b.v85 (k0_pay69 (F := Ideal) b.v75) (constant S128x256 FTy.f32 0#32) (View.ld b.x6 g0) (ix2 p c) = ((D.dzu (tr T (r1 p)) (k0c c) : ℝ) : EReal) :=
  (show _ = b.v77 (ix2 (r1 p) (k0c c)) * ((∑ q : Fin 128, b.v85 (ix2 p q) * b.v75 (ix2 (r1 q) (k0c c))) + (View.ld b.x6 g0 : FVec Ideal S128x256 .f32) (ix2 p c)) * b.v28 (ix2 (r1 p) (k0c c))
    by pointwise [k0_pay71, k0_pay69, k0_pay70]).trans (dz_real H r1 _ (tr_r1 T) 0 _ (by rw [k0c_col, hd_col]) b.v85 (v85_at H) p _ (b0_at H p c))
theorem dz11 (p : Fin 128) (c : Fin 256) : k0_pay80 (F := Ideal) b.v28 (k0_pay79 (F := Ideal) b.v75 b.v77 b.v90 (View.ld b.x6 g1)) (ix2 p c) = ((D.dzu (tr T (r1 p)) (k1c c) : ℝ) : EReal) :=
  (show _ = b.v77 (ix2 (r1 p) (k1c c)) * ((∑ q : Fin 128, b.v90 (ix2 p q) * b.v75 (ix2 (r1 q) (k1c c))) + (View.ld b.x6 g1 : FVec Ideal S128x256 .f32) (ix2 p c)) * b.v28 (ix2 (r1 p) (k1c c))
    by pointwise [k0_pay80, k0_pay79, k0_pay77, k0_pay78]).trans (dz_real H r1 _ (tr_r1 T) 1 _ (by rw [k1c_col, hd_col]) b.v90 (v90_at H) p _ (b1_at H p c))
theorem dz12 (p : Fin 128) (c : Fin 256) : k0_pay88 (F := Ideal) b.v28 b.v75 b.v77 b.v95 (View.ld b.x6 g2) (ix2 p c) = ((D.dzu (tr T (r1 p)) (k2c c) : ℝ) : EReal) :=
  (show _ = b.v77 (ix2 (r1 p) (k2c c)) * ((∑ q : Fin 128, b.v95 (ix2 p q) * b.v75 (ix2 (r1 q) (k2c c))) + (View.ld b.x6 g2 : FVec Ideal S128x256 .f32) (ix2 p c)) * b.v28 (ix2 (r1 p) (k2c c))
    by pointwise [k0_pay88, k0_pay86, k0_pay87]).trans (dz_real H r1 _ (tr_r1 T) 2 _ (by rw [k2c_col, hd_col]) b.v95 (v95_at H) p _ (b2_at H p c))
theorem dz13 (p : Fin 128) (c : Fin 256) : k0_pay97 (F := Ideal) b.v28 b.v75 b.v77 b.v100 (View.ld b.x6 g3) (ix2 p c) = ((D.dzu (tr T (r1 p)) (k3c c) : ℝ) : EReal) :=
  (show _ = b.v77 (ix2 (r1 p) (k3c c)) * ((∑ q : Fin 128, b.v100 (ix2 p q) * b.v75 (ix2 (r1 q) (k3c c))) + (View.ld b.x6 g3 : FVec Ideal S128x256 .f32) (ix2 p c)) * b.v28 (ix2 (r1 p) (k3c c))
    by pointwise [k0_pay97, k0_pay95, k0_pay96]).trans (dz_real H r1 _ (tr_r1 T) 3 _ (by rw [k3c_col, hd_col]) b.v100 (v100_at H) p _ (b3_at H p c))

theorem dvn00 (q : Fin 128) (c : Fin 256) : k0_pay40 (F := Ideal) b.v85 (k0_pay39 (F := Ideal) b.v29 b.v77) (ix2 q c) = ((D.dvn (tr T (r0 q)) (k0c c) : ℝ) : EReal) :=
  (show _ = ∑ p : Fin 128, b.v85 (ix2 p q) * (b.v77 (ix2 (r0 p) (k0c c)) * b.v29 (ix2 (r0 p) (k0c c)))
    by pointwise [k0_pay40, k0_pay39, k0_pay37, k0_pay35]).trans (dvn_real H r0 _ (tr_r0 T) 0 _ (by rw [k0c_col, hd_col]) b.v85 (v85_at H) q)
theorem dvn01 (q : Fin 128) (c : Fin 256) : k0_pay48 (F := Ideal) b.v29 b.v77 b.v90 (ix2 q c) = ((D.dvn (tr T (r0 q)) (k1c c) : ℝ) : EReal) :=
  (show _ = ∑ p : Fin 128, b.v90 (ix2 p q) * (b.v77 (ix2 (r0 p) (k1c c)) * b.v29 (ix2 (r0 p) (k1c c)))
    by pointwise [k0_pay48, k0_pay47, k0_pay45, k0_pay43]).trans (dvn_real H r0 _ (tr_r0 T) 1 _ (by rw [k1c_col, hd_col]) b.v90 (v90_at H) q)
theorem dvn02 (q : Fin 128) (c : Fin 256) : k0_pay56 (F := Ideal) b.v29 b.v77 b.v95 (ix2 q c) = ((D.dvn (tr T (r0 q)) (k2c c) : ℝ) : EReal) :=
  (show _ = ∑ p : Fin 128, b.v95 (ix2 p q) * (b.v77 (ix2 (r0 p) (k2c c)) * b.v29 (ix2 (r0 p) (k2c c)))
    by pointwise [k0_pay56, k0_pay55, k0_pay53, k0_pay51]).trans (dvn_real H r0 _ (tr_r0 T) 2 _ (by rw [k2c_col, hd_col]) b.v95 (v95_at H) q)
theorem dvn03 (q : Fin 128) (c : Fin 256) : k0_pay67 (F := Ideal) b.v29 b.v77 b.v100 (ix2 q c) = ((D.dvn (tr T (r0 q)) (k3c c) : ℝ) : EReal) :=
  (show _ = ∑ p : Fin 128, b.v100 (ix2 p q) * (b.v77 (ix2 (r0 p) (k3c c)) * b.v29 (ix2 (r0 p) (k3c c)))
    by pointwise [k0_pay67, k0_pay66, k0_pay64, k0_pay62]).trans (dvn_real H r0 _ (tr_r0 T) 3 _ (by rw [k3c_col, hd_col]) b.v100 (v100_at H) q)
theorem dvn10 (q : Fin 128) (c : Fin 256) : k0_pay75 (F := Ideal) b.v29 b.v77 b.v85 (ix2 q c) = ((D.dvn (tr T (r1 q)) (k0c c) : ℝ) : EReal) :=
  (show _ = ∑ p : Fin 128, b.v85 (ix2 p q) * (b.v77 (ix2 (r1 p) (k0c c)) * b.v29 (ix2 (r1 p) (k0c c)))
    by pointwise [k0_pay75, k0_pay74, k0_pay72, k0_pay70]).trans (dvn_real H r1 _ (tr_r1 T) 0 _ (by rw [k0c_col, hd_col]) b.v85 (v85_at H) q)
theorem dvn11 (q : Fin 128) (c : Fin 256) : k0_pay84 (F := Ideal) b.v29 b.v90 (k0_pay78 (F := Ideal) b.v77) (ix2 q c) = ((D.dvn (tr T (r1 q)) (k1c c) : ℝ) : EReal) :=
  (show _ = ∑ p : Fin 128, b.v90 (ix2 p q) * (b.v77 (ix2 (r1 p) (k1c c)) * b.v29 (ix2 (r1 p) (k1c c)))
    by pointwise [k0_pay84, k0_pay83, k0_pay81, k0_pay78]).trans (dvn_real H r1 _ (tr_r1 T) 1 _ (by rw [k1c_col, hd_col]) b.v90 (v90_at H) q)
theorem dvn12 (q : Fin 128) (c : Fin 256) : k0_pay93 (F := Ideal) b.v95 (k0_pay87 (F := Ideal) b.v77) (k0_pay89 (F := Ideal) b.v29) (ix2 q c) = ((D.dvn (tr T (r1 q)) (k2c c) : ℝ) : EReal) :=
  (show _ = ∑ p : Fin 128, b.v95 (ix2 p q) * (b.v77 (ix2 (r1 p) (k2c c)) * b.v29 (ix2 (r1 p) (k2c c)))
    by pointwise [k0_pay93, k0_pay92, k0_pay90, k0_pay87, k0_pay89]).trans (dvn_real H r1 _ (tr_r1 T) 2 _ (by rw [k2c_col, hd_col]) b.v95 (v95_at H) q)
theorem dvn13 (q : Fin 128) (c : Fin 256) : k0_pay102 (F := Ideal) b.v100 (k0_pay98 (F := Ideal) b.v29 b.v77) (ix2 q c) = ((D.dvn (tr T (r1 q)) (k3c c) : ℝ) : EReal) :=
  (show _ = ∑ p : Fin 128, b.v100 (ix2 p q) * (b.v77 (ix2 (r1 p) (k3c c)) * b.v29 (ix2 (r1 p) (k3c c)))
    by pointwise [k0_pay102, k0_pay101, k0_pay98, k0_pay96]).trans (dvn_real H r1 _ (tr_r1 T) 3 _ (by rw [k3c_col, hd_col]) b.v100 (v100_at H) q)

theorem a0_at (q : Vec Ideal S128x1024 .f32) (p : Fin 128) (c : Fin 256) : b.a0 q (ix2 p c)
    = q (ix2 p (k0c c)) + ((D.dsp (row (c0 T) p) (k0c c) : ℝ) : EReal) + ((D.dsp (row (c1 T) p) (k0c c) : ℝ) : EReal) := by
  rw [← dsp_real H r0 _ (tr_r0 T), ← dsp_real H r1 _ (tr_r1 T)]
  unfold a0
  pointwise [k0_pay73, k0_pay72, k0_pay70, k0_pay38, k0_pay37, k0_pay35]

theorem a1_at (q : Vec Ideal S128x1024 .f32) (p : Fin 128) (c : Fin 256) : b.a1 q (ix2 p c)
    = q (ix2 p (k1c c)) + ((D.dsp (row (c0 T) p) (k1c c) : ℝ) : EReal) + ((D.dsp (row (c1 T) p) (k1c c) : ℝ) : EReal) := by
  rw [← dsp_real H r0 _ (tr_r0 T), ← dsp_real H r1 _ (tr_r1 T)]
  unfold a1
  pointwise [k0_pay82, k0_pay81, k0_pay78, k0_pay46, k0_pay45, k0_pay43]

theorem a2_at (q : Vec Ideal S128x1024 .f32) (p : Fin 128) (c : Fin 256) : b.a2 q (ix2 p c)
    = q (ix2 p (k2c c)) + ((D.dsp (row (c0 T) p) (k2c c) : ℝ) : EReal) + ((D.dsp (row (c1 T) p) (k2c c) : ℝ) : EReal) := by
  rw [← dsp_real H r0 _ (tr_r0 T), ← dsp_real H r1 _ (tr_r1 T)]
  unfold a2
  pointwise [k0_pay91, k0_pay90, k0_pay87, k0_pay89, k0_pay54, k0_pay53, k0_pay51]

theorem a3_at (q : Vec Ideal S128x1024 .f32) (p : Fin 128) (c : Fin 256) : b.a3 q (ix2 p c)
    = q (ix2 p (k3c c)) + ((D.dsp (row (c0 T) p) (k3c c) : ℝ) : EReal) + ((D.dsp (row (c1 T) p) (k3c c) : ℝ) : EReal) := by
  rw [← dsp_real H r0 _ (tr_r0 T), ← dsp_real H r1 _ (tr_r1 T)]
  unfold a3
  pointwise [k0_pay100, k0_pay99, k0_pay98, k0_pay96, k0_pay65, k0_pay64, k0_pay62]

theorem dw0 (q : Vec Ideal S128x512 .f32) (p r : Fin 128) : k0_pay76 (F := Ideal) b.v29 b.v77 k0_pay28 (k0_pay69 (F := Ideal) b.v75) (k0_pay41 (F := Ideal) k0_pay28 (k0_pay34 (F := Ideal) b.v75) (k0_pay39 (F := Ideal) b.v29 b.v77) (View.ld q w0)) (ix2 p r)
    = q (ix2 p ⟨0 + r.val, by omega⟩) + ((D.pdws (c0 T) 0 p r : ℝ) : EReal) + ((D.pdws (c1 T) 0 p r : ℝ) : EReal) := by
  rw [← dw_real H r0 _ (tr_r0 T) 0 k0c k0c_col p r _ rfl, ← dw_real H r1 _ (tr_r1 T) 0 k0c k0c_col p r _ rfl]
  pointwise [k0_pay76, k0_pay74, k0_pay72, k0_pay70, k0_pay69, k0_pay41, k0_pay34, k0_pay39, k0_pay37, k0_pay35, k0_pay28]
  rw [sge_word _ _ (by omega) (by omega), sge_word _ _ (by omega) (by omega)]

theorem dw1 (q : Vec Ideal S128x512 .f32) (p r : Fin 128) : k0_pay85 (F := Ideal) b.v29 k0_pay28 (k0_pay77 (F := Ideal) b.v75) (k0_pay78 (F := Ideal) b.v77) (k0_pay49 (F := Ideal) k0_pay28 (k0_pay42 (F := Ideal) b.v75) (k0_pay47 (F := Ideal) b.v29 b.v77) (View.ld q w1)) (ix2 p r)
    = q (ix2 p ⟨128 + r.val, by omega⟩) + ((D.pdws (c0 T) 1 p r : ℝ) : EReal) + ((D.pdws (c1 T) 1 p r : ℝ) : EReal) := by
  rw [← dw_real H r0 _ (tr_r0 T) 1 k1c k1c_col p r _ rfl, ← dw_real H r1 _ (tr_r1 T) 1 k1c k1c_col p r _ rfl]
  pointwise [k0_pay85, k0_pay83, k0_pay81, k0_pay78, k0_pay77, k0_pay49, k0_pay42, k0_pay47, k0_pay45, k0_pay43, k0_pay28]
  rw [sge_word _ _ (by omega) (by omega), sge_word _ _ (by omega) (by omega)]

theorem dw2 (q : Vec Ideal S128x512 .f32) (p r : Fin 128) : k0_pay94 (F := Ideal) k0_pay28 (k0_pay86 (F := Ideal) b.v75) (k0_pay87 (F := Ideal) b.v77) (k0_pay89 (F := Ideal) b.v29) (k0_pay60 (F := Ideal) k0_pay28 (k0_pay57 (F := Ideal) (View.ld q w2)) (k0_pay58 (F := Ideal) b.v29 b.v75 b.v77) (k0_pay59 (F := Ideal))) (ix2 p r)
    = q (ix2 p ⟨256 + r.val, by omega⟩) + ((D.pdws (c0 T) 2 p r : ℝ) : EReal) + ((D.pdws (c1 T) 2 p r : ℝ) : EReal) := by
  rw [← dw_real H r0 _ (tr_r0 T) 2 k2c k2c_col p r _ rfl, ← dw_real H r1 _ (tr_r1 T) 2 k2c k2c_col p r _ rfl]
  pointwise [k0_pay94, k0_pay92, k0_pay90, k0_pay86, k0_pay87, k0_pay89, k0_pay60, k0_pay57, k0_pay58, k0_pay59, k0_pay55, k0_pay53, k0_pay51, k0_pay50, k0_pay28]
  rw [sge_word _ _ (by omega) (by omega), sge_word _ _ (by omega) (by omega)]

theorem dw3 (q : Vec Ideal S128x512 .f32) (p r : Fin 128) : k0_pay103 (F := Ideal) k0_pay28 (k0_pay95 (F := Ideal) b.v75) (k0_pay98 (F := Ideal) b.v29 b.v77) (k0_pay68 (F := Ideal) b.v29 b.v75 b.v77 k0_pay28 (View.ld q w3)) (ix2 p r)
    = q (ix2 p ⟨384 + r.val, by omega⟩) + ((D.pdws (c0 T) 3 p r : ℝ) : EReal) + ((D.pdws (c1 T) 3 p r : ℝ) : EReal) := by
  rw [← dw_real H r0 _ (tr_r0 T) 3 k3c k3c_col p r _ rfl, ← dw_real H r1 _ (tr_r1 T) 3 k3c k3c_col p r _ rfl]
  pointwise [k0_pay103, k0_pay101, k0_pay98, k0_pay96, k0_pay95, k0_pay68, k0_pay66, k0_pay64, k0_pay62, k0_pay61, k0_pay28]
  rw [sge_word _ _ (by omega) (by omega), sge_word _ _ (by omega) (by omega)]

/-! ### Each array -/

/-- The gradient of the norm's result as a function of the array's indices. -/
def _root_.Cert.SguMath.Data.dvnG (D : SguMath.Data) (T : Fin 16) (y : S256x1024.Idx) : Elt Ideal .f32 := ((D.dvn (tr T (y 0)) (y 1) : ℝ) : EReal)

theorem dvnA_at (r : Fin 256) (j : Fin 1024) : b.dvnA (ix2 r j) = ((D.dvn (tr T r) j : ℝ) : EReal) := by
  unfold dvnA
  rw [View.readCov_eq_canon']
  refine (canon_of_piecesOf (D.dvnG T) _ ?_ _ (View.cover_of_tiled_head _ _ _ (by rfl) _)).trans ?_
  · refine ⟨fun x => ?_, fun x => ?_, fun x => ?_, fun x => ?_, fun x => ?_, fun x => ?_, fun x => ?_, fun x => ?_, trivial⟩
    · exact piece2 (e := .f32) (k0_pay102 (F := Ideal) b.v100 (k0_pay98 (F := Ideal) b.v29 b.v77)) (D.dvnG T) r1 k3c (dvn13 H) x _ (by blk_ext)
    · exact piece2 (e := .f32) (k0_pay93 (F := Ideal) b.v95 (k0_pay87 (F := Ideal) b.v77) (k0_pay89 (F := Ideal) b.v29)) (D.dvnG T) r1 k2c (dvn12 H) x _ (by blk_ext)
    · exact piece2 (e := .f32) (k0_pay84 (F := Ideal) b.v29 b.v90 (k0_pay78 (F := Ideal) b.v77)) (D.dvnG T) r1 k1c (dvn11 H) x _ (by blk_ext)
    · exact piece2 (e := .f32) (k0_pay75 (F := Ideal) b.v29 b.v77 b.v85) (D.dvnG T) r1 k0c (dvn10 H) x _ (by blk_ext)
    · exact piece2 (e := .f32) (k0_pay67 (F := Ideal) b.v29 b.v77 b.v100) (D.dvnG T) r0 k3c (dvn03 H) x _ (by blk_ext)
    · exact piece2 (e := .f32) (k0_pay56 (F := Ideal) b.v29 b.v77 b.v95) (D.dvnG T) r0 k2c (dvn02 H) x _ (by blk_ext)
    · exact piece2 (e := .f32) (k0_pay48 (F := Ideal) b.v29 b.v77 b.v90) (D.dvnG T) r0 k1c (dvn01 H) x _ (by blk_ext)
    · exact piece2 (e := .f32) (k0_pay40 (F := Ideal) b.v85 (k0_pay39 (F := Ideal) b.v29 b.v77)) (D.dvnG T) r0 k0c (dvn00 H) x _ (by blk_ext)
  · refine Eq.trans (congrArg (D.dvnG T) (?_ : _ = ix2 r j)) rfl
    blk_ext <;> [exact (show 0 + 1 * r.val = r.val by omega); exact (show 0 + 1 * j.val = j.val by omega)]

theorem dvh_at (r : Fin 256) (j : Fin 1024) : k0_pay106 (F := Ideal) b.dvnA b.x3 (ix2 r j) = ((D.dvh (tr T r) j : ℝ) : EReal) := by
  pointwise [k0_pay106]
  rw [dvnA_at H, H.lg, ← EReal.coe_mul]; rfl

theorem dzv_at (r : Fin 256) (j : Fin 1024) : k0_pay1 (F := Ideal) b.v51 b.v66 b.v68 (k0_pay106 (F := Ideal) b.dvnA b.x3) (ix2 r j) = ((D.dzv (tr T r) j : ℝ) : EReal) := by
  pointwise [k0_pay1]
  simp only [dvh_at H, v68_at H, v66_at H, v51_at H, bits_1024, ← EReal.coe_mul, coe_sum, div_1024, ← EReal.coe_sub]
  rfl

/-- The gradient of the two inputs as a function of the array's indices. -/
def _root_.Cert.SguMath.Data.dzG (D : SguMath.Data) (T : Fin 16) (y : S256x2048.Idx) : Elt Ideal .bf16 := ((D.dz (tr T (y 0)) (y 1) : ℝ) : EReal)

omit H in
theorem dz_left (t : Fin 4096) (k : Fin 2048) (j : Fin 1024) (h : k.val = j.val) : D.dz t k = D.dzu t j := by
  have e : k.val < 1024 := by omega
  unfold SguMath.Data.dz; rw [dif_pos e]; congr 1; exact Fin.ext h
omit H in
theorem dz_right (t : Fin 4096) (k : Fin 2048) (j : Fin 1024) (h : k.val = 1024 + j.val) : D.dz t k = D.dzv t j := by
  have e : ¬k.val < 1024 := by omega
  unfold SguMath.Data.dz; rw [dif_neg e]; congr 1; exact Fin.ext (by simp only; omega)

theorem dzA_at (r : Fin 256) (k : Fin 2048) : b.dzA (ix2 r k) = ((D.dz (tr T r) k : ℝ) : EReal) := by
  unfold dzA
  refine (canon_of_piecesOf (D.dzG T) _ ?_ _ (View.cover_of_tiledBy _ ![128, 256] (by sl_kernel_rfl) _)).trans rfl
  refine ⟨fun x => ?_, fun x => ?_, fun x => ?_, fun x => ?_, fun x => ?_, fun x => ?_, fun x => ?_, fun x => ?_, fun x => ?_, trivial⟩
  · exact piece2 (e := .bf16) (k0_pay1 (F := Ideal) b.v51 b.v66 b.v68 (k0_pay106 (F := Ideal) b.dvnA b.x3)) (D.dzG T) (fun p => p) (fun c : Fin 1024 => ⟨1024 + c.val, by omega⟩)
      (fun p c => (dzv_at H p c).trans (congrArg _ (dz_right _ _ _ rfl).symm)) x _ (by blk_ext)
  · exact piece2 (e := .bf16) (k0_pay97 (F := Ideal) b.v28 b.v75 b.v77 b.v100 (View.ld b.x6 g3)) (D.dzG T) r1 (fun c : Fin 256 => ⟨768 + c.val, by omega⟩)
      (fun p c => (dz13 H p c).trans (congrArg _ (dz_left _ _ _ (by simp)).symm)) x _ (by blk_ext)
  · exact piece2 (e := .bf16) (k0_pay88 (F := Ideal) b.v28 b.v75 b.v77 b.v95 (View.ld b.x6 g2)) (D.dzG T) r1 (fun c : Fin 256 => ⟨512 + c.val, by omega⟩)
      (fun p c => (dz12 H p c).trans (congrArg _ (dz_left _ _ _ (by simp)).symm)) x _ (by blk_ext)
  · exact piece2 (e := .bf16) (k0_pay80 (F := Ideal) b.v28 (k0_pay79 (F := Ideal) b.v75 b.v77 b.v90 (View.ld b.x6 g1))) (D.dzG T) r1 (fun c : Fin 256 => ⟨256 + c.val, by omega⟩)
      (fun p c => (dz11 H p c).trans (congrArg _ (dz_left _ _ _ (by simp)).symm)) x _ (by blk_ext)
  · exact piece2 (e := .bf16) (k0_pay71 (F := Ideal) b.v28 b.v77 b.v85 (k0_pay69 (F := Ideal) b.v75) (constant S128x256 FTy.f32 0#32) (View.ld b.x6 g0)) (D.dzG T) r1 (fun c : Fin 256 => ⟨0 + c.val, by omega⟩)
      (fun p c => (dz10 H p c).trans (congrArg _ (dz_left _ _ _ (by simp)).symm)) x _ (by blk_ext)
  · exact piece2 (e := .bf16) (k0_pay63 (F := Ideal) b.v28 b.v75 b.v77 b.v100 (View.ld b.x6 g3)) (D.dzG T) r0 (fun c : Fin 256 => ⟨768 + c.val, by omega⟩)
      (fun p c => (dz03 H p c).trans (congrArg _ (dz_left _ _ _ (by simp)).symm)) x _ (by blk_ext)
  · exact piece2 (e := .bf16) (k0_pay52 (F := Ideal) b.v28 b.v75 b.v77 b.v95 (View.ld b.x6 g2)) (D.dzG T) r0 (fun c : Fin 256 => ⟨512 + c.val, by omega⟩)
      (fun p c => (dz02 H p c).trans (congrArg _ (dz_left _ _ _ (by simp)).symm)) x _ (by blk_ext)
  · exact piece2 (e := .bf16) (k0_pay44 (F := Ideal) b.v28 b.v75 b.v77 b.v90 (View.ld b.x6 g1)) (D.dzG T) r0 (fun c : Fin 256 => ⟨256 + c.val, by omega⟩)
      (fun p c => (dz01 H p c).trans (congrArg _ (dz_left _ _ _ (by simp)).symm)) x _ (by blk_ext)
  · exact piece2 (e := .bf16) (k0_pay36 (F := Ideal) b.v28 b.v75 b.v77 k0_pay28 (k0_pay29 (F := Ideal) (View.ld b.x5 m0)) (FloatOps.ofBits FTy.f32 0#32) (View.ld b.x6 g0)) (D.dzG T) r0 (fun c : Fin 256 => ⟨0 + c.val, by omega⟩)
      (fun p c => (dz00 H p c).trans (congrArg _ (dz_left _ _ _ (by simp)).symm)) x _ (by blk_ext)

theorem dlgA_at (q : Vec Ideal S1x1024 .f32) (j : Fin 1024) : b.dlgA q (ix2 0 j) = q (ix2 0 j) + ((∑ r : Fin 256, D.vh (tr T r) j * D.dvn (tr T r) j : ℝ) : EReal) := by
  unfold dlgA
  pointwise [k0_pay104]
  simp only [dvnA_at H, v68_at H, ← EReal.coe_mul, coe_sum, mul_comm (D.dvn _ _)]

theorem dlbA_at (q : Vec Ideal S1x1024 .f32) (j : Fin 1024) : b.dlbA q (ix2 0 j) = q (ix2 0 j) + ((∑ r : Fin 256, D.dvn (tr T r) j : ℝ) : EReal) := by
  unfold dlbA
  pointwise [k0_pay105]
  simp only [dvnA_at H, coe_sum]

theorem spA_at (q : Vec Ideal S128x1024 .f32) (L : List (View.Piece (Elt Ideal) S128x1024 .f32)) (p : Fin 128) (j : Fin 1024) :
    b.spA q L (ix2 p j) = q (ix2 p j) + ((D.dsp (row (c0 T) p) j : ℝ) : EReal) + ((D.dsp (row (c1 T) p) j : ℝ) : EReal) := by
  unfold spA
  refine (View.canon_append_of_piecesOf (Val := Elt Ideal) (fun y : S128x1024.Idx => (q y + ((D.dsp (row (c0 T) (y 0)) (y 1) : ℝ) : EReal) + ((D.dsp (row (c1 T) (y 0)) (y 1) : ℝ) : EReal) : EReal)) _
    [⟨g3, b.a3 q⟩, ⟨g2, b.a2 q⟩, ⟨g1, b.a1 q⟩, ⟨g0, b.a0 q⟩] ⟨fun x => ?_, fun x => ?_, fun x => ?_, fun x => ?_, trivial⟩ (ix2 p j)
    (View.cover_of_tiled_head _ _ _ (by rfl) _)).trans rfl
  · exact piece2 (e := .f32) (b.a3 q) (fun y : S128x1024.Idx => (q y + ((D.dsp (row (c0 T) (y 0)) (y 1) : ℝ) : EReal) + ((D.dsp (row (c1 T) (y 0)) (y 1) : ℝ) : EReal) : EReal)) (fun p => p) k3c (a3_at H q) x _ (by blk_ext)
  · exact piece2 (e := .f32) (b.a2 q) (fun y : S128x1024.Idx => (q y + ((D.dsp (row (c0 T) (y 0)) (y 1) : ℝ) : EReal) + ((D.dsp (row (c1 T) (y 0)) (y 1) : ℝ) : EReal) : EReal)) (fun p => p) k2c (a2_at H q) x _ (by blk_ext)
  · exact piece2 (e := .f32) (b.a1 q) (fun y : S128x1024.Idx => (q y + ((D.dsp (row (c0 T) (y 0)) (y 1) : ℝ) : EReal) + ((D.dsp (row (c1 T) (y 0)) (y 1) : ℝ) : EReal) : EReal)) (fun p => p) k1c (a1_at H q) x _ (by blk_ext)
  · exact piece2 (e := .f32) (b.a0 q) (fun y : S128x1024.Idx => (q y + ((D.dsp (row (c0 T) (y 0)) (y 1) : ℝ) : EReal) + ((D.dsp (row (c1 T) (y 0)) (y 1) : ℝ) : EReal) : EReal)) (fun p => p) k0c (a0_at H q) x _ (by blk_ext)

/-- What a point adds to the weights' gradient, as a function of the array's indices. -/
def _root_.Cert.SguMath.Data.dwG (D : SguMath.Data) (T : Fin 16) (q : Vec Ideal S128x512 .f32) (y : S128x512.Idx) : Elt Ideal .f32 :=
  q y + ((D.pdws (c0 T) (gk (y 1)) (y 0) (lk (y 1)) : ℝ) : EReal) + ((D.pdws (c1 T) (gk (y 1)) (y 0) (lk (y 1)) : ℝ) : EReal)

omit H in
theorem dw_group (q : Vec Ideal S128x512 .f32) (g : Fin 4) (p r : Fin 128) (k : Fin 512) (h : k.val = 128 * g.val + r.val) :
    q (ix2 p k) + ((D.pdws (c0 T) g p r : ℝ) : EReal) + ((D.pdws (c1 T) g p r : ℝ) : EReal) = D.dwG T q (ix2 p k) := by
  have e1 : gk k = g := Fin.ext (by simp only [gk]; omega)
  have e2 : lk k = r := Fin.ext (by simp only [lk]; omega)
  show _ = q (ix2 p k) + ((D.pdws (c0 T) (gk k) p (lk k) : ℝ) : EReal) + ((D.pdws (c1 T) (gk k) p (lk k) : ℝ) : EReal)
  rw [e1, e2]

theorem dwA_at (q : Vec Ideal S128x512 .f32) (L : List (View.Piece (Elt Ideal) S128x512 .f32)) (p : Fin 128) (k : Fin 512) :
    b.dwA q L (ix2 p k) = q (ix2 p k) + ((D.pdws (c0 T) (gk k) p (lk k) : ℝ) : EReal) + ((D.pdws (c1 T) (gk k) p (lk k) : ℝ) : EReal) := by
  unfold dwA
  refine (View.canon_append_of_piecesOf (Val := Elt Ideal) (D.dwG T q) _
    [⟨w3, k0_pay103 (F := Ideal) k0_pay28 (k0_pay95 (F := Ideal) b.v75) (k0_pay98 (F := Ideal) b.v29 b.v77) (k0_pay68 (F := Ideal) b.v29 b.v75 b.v77 k0_pay28 (View.ld q w3))⟩,
    ⟨w2, k0_pay94 (F := Ideal) k0_pay28 (k0_pay86 (F := Ideal) b.v75) (k0_pay87 (F := Ideal) b.v77) (k0_pay89 (F := Ideal) b.v29) (k0_pay60 (F := Ideal) k0_pay28 (k0_pay57 (F := Ideal) (View.ld q w2)) (k0_pay58 (F := Ideal) b.v29 b.v75 b.v77) (k0_pay59 (F := Ideal)))⟩,
    ⟨w1, k0_pay85 (F := Ideal) b.v29 k0_pay28 (k0_pay77 (F := Ideal) b.v75) (k0_pay78 (F := Ideal) b.v77) (k0_pay49 (F := Ideal) k0_pay28 (k0_pay42 (F := Ideal) b.v75) (k0_pay47 (F := Ideal) b.v29 b.v77) (View.ld q w1))⟩,
    ⟨w0, k0_pay76 (F := Ideal) b.v29 b.v77 k0_pay28 (k0_pay69 (F := Ideal) b.v75) (k0_pay41 (F := Ideal) k0_pay28 (k0_pay34 (F := Ideal) b.v75) (k0_pay39 (F := Ideal) b.v29 b.v77) (View.ld q w0))⟩] ⟨fun x => ?_, fun x => ?_, fun x => ?_, fun x => ?_, trivial⟩ (ix2 p k)
    (View.cover_of_tiled_head _ _ _ (by rfl) _)).trans rfl
  · exact piece2 (e := .f32) (k0_pay103 (F := Ideal) k0_pay28 (k0_pay95 (F := Ideal) b.v75) (k0_pay98 (F := Ideal) b.v29 b.v77) (k0_pay68 (F := Ideal) b.v29 b.v75 b.v77 k0_pay28 (View.ld q w3))) (D.dwG T q) (fun p => p) (fun r : Fin 128 => ⟨384 + r.val, by omega⟩)
      (fun p r => (dw3 H q p r).trans (dw_group q 3 p r _ rfl)) x _ (by blk_ext)
  · exact piece2 (e := .f32) (k0_pay94 (F := Ideal) k0_pay28 (k0_pay86 (F := Ideal) b.v75) (k0_pay87 (F := Ideal) b.v77) (k0_pay89 (F := Ideal) b.v29) (k0_pay60 (F := Ideal) k0_pay28 (k0_pay57 (F := Ideal) (View.ld q w2)) (k0_pay58 (F := Ideal) b.v29 b.v75 b.v77) (k0_pay59 (F := Ideal)))) (D.dwG T q) (fun p => p) (fun r : Fin 128 => ⟨256 + r.val, by omega⟩)
      (fun p r => (dw2 H q p r).trans (dw_group q 2 p r _ rfl)) x _ (by blk_ext)
  · exact piece2 (e := .f32) (k0_pay85 (F := Ideal) b.v29 k0_pay28 (k0_pay77 (F := Ideal) b.v75) (k0_pay78 (F := Ideal) b.v77) (k0_pay49 (F := Ideal) k0_pay28 (k0_pay42 (F := Ideal) b.v75) (k0_pay47 (F := Ideal) b.v29 b.v77) (View.ld q w1))) (D.dwG T q) (fun p => p) (fun r : Fin 128 => ⟨128 + r.val, by omega⟩)
      (fun p r => (dw1 H q p r).trans (dw_group q 1 p r _ rfl)) x _ (by blk_ext)
  · exact piece2 (e := .f32) (k0_pay76 (F := Ideal) b.v29 b.v77 k0_pay28 (k0_pay69 (F := Ideal) b.v75) (k0_pay41 (F := Ideal) k0_pay28 (k0_pay34 (F := Ideal) b.v75) (k0_pay39 (F := Ideal) b.v29 b.v77) (View.ld q w0))) (D.dwG T q) (fun p => p) (fun r : Fin 128 => ⟨0 + r.val, by omega⟩)
      (fun p r => (dw0 H q p r).trans (dw_group q 0 p r _ rfl)) x _ (by blk_ext)

theorem dbA_at (q : Vec Ideal S128x1024 .f32) (S : Fin 128 → Fin 1024 → ℝ)
    (hq : ∀ p j, q (ix2 p j) + ((D.dsp (row (c0 T) p) j : ℝ) : EReal) + ((D.dsp (row (c1 T) p) j : ℝ) : EReal) = ((S p j : ℝ) : EReal)) (p k : Fin 128) :
    b.dbA q (ix2 p k) = ((if h : k.val < 4 then ∑ c, S p (col ⟨k.val, h⟩ c) else 0 : ℝ) : EReal) := by
  unfold dbA
  pointwise [k0_pay2, k0_pay3, k0_pay4, k0_pay5]
  rw [eq_word _ 0 (by omega) (by omega), eq_word _ 1 (by omega) (by omega), eq_word _ 2 (by omega) (by omega), eq_word _ 3 (by omega) (by omega)]
  simp only [a0_at H, a1_at H, a2_at H, a3_at H, hq, coe_sum, ite_coe', ← EReal.coe_add]
  congr 1
  by_cases h : k.val < 4
  · rw [dif_pos h]
    obtain ⟨k, hk⟩ := k
    simp only at h ⊢
    interval_cases k <;> simp [k0c_col, k1c_col, k2c_col, k3c_col]
  · rw [dif_neg h, if_neg (by omega), if_neg (by omega), if_neg (by omega), if_neg (by omega)]; norm_num

end Tile

end Cert.BwdSguIdeal.Hand

end
-- ==== Proof.SguRef.lean ====
/- The spatial gate's reference, read line by line: its values are the real functions of SguMath. -/
module

public import proofs.«01_k».proof.Proof.SguMath
public import proofs.«01_k».proof.Proof.Sums
public import proofs.«01_k».proof.Proof.Gen.BwdSguRefIdeal.Read
public import Idealize.ShloMosaic.Lib.Pointwise
public import Idealize.ShloMosaic.Lib.KernelVsHost

@[expose] public section

set_option maxRecDepth 16384

noncomputable section

namespace Cert.BwdSguRefIdeal.Hand

open Cert.BwdSguRefIdeal Cert.BwdSguRefIdeal.Read Idealize.ShloMosaic Idealize.ShloMosaic.TcCoe Idealize.SL.Sem
open Cert.GatesMath hiding Data
open Cert.SguMath Cert.BwdSguRefIdeal.Gen

/-- A sum over a chunk's number and a column of a group. -/
theorem sum_chunks (v : S1x32x128x4x256.Idx → EReal) (init : EReal) (p : Fin 128) (g : Fin 4) :
    Ideal.hostReduceAdd reducesTo_S1x32x128x4x256_S1x128x4_d1_4 v init (ix3 0 p g) = init + ∑ n : Fin 32, ∑ c : Fin 256, v (ix5 0 n p g c) := by
  unfold Ideal.hostReduceAdd
  refine congrArg (init + ·) ?_
  rw [← Fintype.sum_prod_type']
  refine (Finset.sum_bij (fun (q : Fin 32 × Fin 256) _ => (ix5 0 q.1 p g q.2 : S1x32x128x4x256.Idx)) (fun q _ => Finset.mem_filter.mpr ⟨Finset.mem_univ _, ?_⟩)
    (fun a _ b _ e => Prod.ext (congrFun e 1) (congrFun e 4)) (fun i hi => ⟨(i 1, i 4), Finset.mem_univ _, ?_⟩) fun _ _ => rfl).symm
  · funext b
    apply Fin.ext
    match b with
    | ⟨0, _⟩ => rfl
    | ⟨1, _⟩ => rfl
    | ⟨2, _⟩ => rfl
  · have e := (Finset.mem_filter.mp hi).2
    have e1 := congrArg Fin.val (congrFun e ⟨1, by decide⟩)
    have e2 := congrArg Fin.val (congrFun e ⟨2, by decide⟩)
    funext a
    apply Fin.ext
    match a with
    | ⟨0, h0⟩ => have := (i ⟨0, h0⟩).isLt; exact (Nat.lt_one_iff.mp this).symm
    | ⟨1, _⟩ => rfl
    | ⟨2, _⟩ => exact e1.symm
    | ⟨3, _⟩ => exact e2.symm
    | ⟨4, _⟩ => rfl

/-- A sum over three axes of size one. -/
theorem sum_ones (v : S1x1x128x4x1.Idx → EReal) (init : EReal) (p : Fin 128) (g : Fin 4) :
    Ideal.hostReduceAdd reducesTo_S1x1x128x4x1_S128x4_d0_1_4 v init (ix2 p g) = init + v (ix5 0 0 p g 0) := by
  unfold Ideal.hostReduceAdd
  refine congrArg (init + ·) (Finset.sum_eq_single_of_mem _ (Finset.mem_filter.mpr ⟨Finset.mem_univ _, ?_⟩) fun i hi hne => (hne ?_).elim)
  · funext b
    apply Fin.ext
    match b with
    | ⟨0, _⟩ => rfl
    | ⟨1, _⟩ => rfl
  · have e := (Finset.mem_filter.mp hi).2
    have e0 := congrArg Fin.val (congrFun e ⟨0, by decide⟩)
    have e1 := congrArg Fin.val (congrFun e ⟨1, by decide⟩)
    funext a
    apply Fin.ext
    match a with
    | ⟨0, h0⟩ => have := (i ⟨0, h0⟩).isLt; exact Nat.lt_one_iff.mp this
    | ⟨1, h1⟩ => have := (i ⟨1, h1⟩).isLt; exact Nat.lt_one_iff.mp this
    | ⟨2, _⟩ => exact e0
    | ⟨3, _⟩ => exact e1
    | ⟨4, h4⟩ => have := (i ⟨4, h4⟩).isLt; exact Nat.lt_one_iff.mp this

/-- The product that sums over a chunk's number and a group's columns. -/
abbrev DW : DotDims S4x1x32x256x128 S1x32x128x4x256 S4x128x128 := dot_S4x1x32x256x128_S1x32x128x4x256_S4x128x128_123_014_4_2_0_3

/-- Its summed index is a pair. -/
def pairs : Fin 32 × Fin 256 ≃ DW.contr.Idx where
  toFun q := fun a => match a with
    | ⟨0, _⟩ => (0 : Fin 1)
    | ⟨1, _⟩ => q.1
    | ⟨2, _⟩ => q.2
  invFun k := (k ⟨1, by decide⟩, k ⟨2, by decide⟩)
  left_inv q := rfl
  right_inv k := by
    funext a
    match a with
    | ⟨0, h0⟩ => exact (Fin.ext (Nat.lt_one_iff.mp (k ⟨0, h0⟩).isLt)).symm
    | ⟨1, _⟩ => rfl
    | ⟨2, _⟩ => rfl

theorem dot_chunks (a : FVec Ideal S4x1x32x256x128 .f32) (b : FVec Ideal S1x32x128x4x256 .f32) (g : Fin 4) (p q : Fin 128) :
    Host.dotGeneral (F := Ideal) (φ₁ := .f32) (φ₂ := .f32) DW none a b (ix3 g p q) = ∑ n : Fin 32, ∑ c : Fin 256, a (ix5 g 0 n c p) * b (ix5 0 n q g c) := by
  simp only [Host.dotGeneral]
  rw [Ideal.dotGeneral_apply, ← Equiv.sum_comp pairs, Fintype.sum_prod_type]
  refine Finset.sum_congr rfl fun n _ => Finset.sum_congr rfl fun c _ => ?_
  refine congrArg₂ (· * ·) (congrArg a (funext fun x => Fin.ext ?_)) (congrArg b (funext fun x => Fin.ext ?_))
  · unfold DotDims.lhsIdx
    match x with
    | ⟨0, _⟩ => rfl
    | ⟨1, _⟩ => rfl
    | ⟨2, _⟩ => rfl
    | ⟨3, _⟩ => rfl
    | ⟨4, _⟩ => rfl
  · unfold DotDims.rhsIdx
    match x with
    | ⟨0, _⟩ => rfl
    | ⟨1, _⟩ => rfl
    | ⟨2, _⟩ => rfl
    | ⟨3, _⟩ => rfl
    | ⟨4, _⟩ => rfl

/-- The arguments hold real numbers. -/
structure Args (x0 : FVec Ideal S1x4096x6144 .f32) (x1 x2 : FVec Ideal S1x1024 .f32) (x3 : FVec Ideal S1x4x128x128 .f32)
    (x4 : FVec Ideal S1x4x128 .f32) (x5 : FVec Ideal S1x4096x1024 .f32) (D : Data) : Prop where
  u : ∀ (t : Fin 4096) (j : Fin 1024), x0 (ix3 0 t ⟨2048 + j.val, by omega⟩) = ((D.u t j : ℝ) : EReal)
  v : ∀ (t : Fin 4096) (j : Fin 1024), x0 (ix3 0 t ⟨3072 + j.val, by omega⟩) = ((D.v t j : ℝ) : EReal)
  lg : ∀ j : Fin 1024, x1 (ix2 0 j) = ((D.lg j : ℝ) : EReal)
  lb : ∀ j : Fin 1024, x2 (ix2 0 j) = ((D.lb j : ℝ) : EReal)
  ws : ∀ (g : Fin 4) (p q : Fin 128), x3 (ix4 0 g p q) = ((D.ws g p q : ℝ) : EReal)
  bs : ∀ (g : Fin 4) (p : Fin 128), x4 (ix3 0 g p) = ((D.bs g p : ℝ) : EReal)
  dy : ∀ (t : Fin 4096) (j : Fin 1024), x5 (ix3 0 t j) = ((D.dy t j : ℝ) : EReal)

/-- An array of rows holds real rows. -/
def Rows (v : FVec Ideal S1x4096x1024 .f32) (f : Fin 4096 → Fin 1024 → ℝ) : Prop := ∀ t j, v (ix3 0 t j) = (f t j : EReal)

variable {x0 : FVec Ideal S1x4096x6144 .f32} {x1 x2 : FVec Ideal S1x1024 .f32} {x3 : FVec Ideal S1x4x128x128 .f32}
  {x4 : FVec Ideal S1x4x128 .f32} {x5 : FVec Ideal S1x4096x1024 .f32} {D : Data}
  (H : Args x0 x1 x2 x3 x4 x5 D)
include H

theorem u_is : Rows (val_main_v0 (F := Ideal) x0) D.u := fun t j => by
  pointwise [val_main_v0]
  exact H.u _ _

theorem v_is : Rows (val_main_v1 (F := Ideal) x0) D.v := fun t j => by
  pointwise [val_main_v1]
  exact H.v _ _

/-- The smooth units, their tangents' halves and derivatives' parts. -/
theorem gu_is : Rows (val_main_v22 (F := Ideal) x0) D.gu := fun t j => by
  pointwise [val_main_v22, val_main_v21, val_main_v20, val_main_cst_5, val_main_v19, val_main_v18, val_main_cst_4, val_main_v12, val_main_v11, val_main_v10, val_main_cst_1, val_main_v9, val_main_v8, val_main_v7, val_main_cst_0, val_main_v3, val_main_v2]
  simp only [u_is H _ _, bits_k0, bits_k1, bits_half]
  simp only [← EReal.coe_mul, ← EReal.coe_add, Ideal.tanh_coe, ← EReal.coe_one]
  rfl

theorem gv_is : Rows (val_main_v43 (F := Ideal) x0) D.gv := fun t j => by
  pointwise [val_main_v43, val_main_v42, val_main_v41, val_main_cst_12, val_main_v40, val_main_v39, val_main_cst_11, val_main_v33, val_main_v32, val_main_v31, val_main_cst_8, val_main_v30, val_main_v29, val_main_v28, val_main_cst_7, val_main_v24, val_main_v23]
  simp only [v_is H _ _, bits_k0, bits_k1, bits_half]
  simp only [← EReal.coe_mul, ← EReal.coe_add, Ideal.tanh_coe, ← EReal.coe_one]
  rfl

/-! ### The norm -/

theorem mu_at (t : Fin 4096) : (val_main_v51 (F := Ideal) x0) (ix3 0 t 0) = ((D.mu t : ℝ) : EReal) := by
  pointwise [val_main_v51, val_main_v49, val_main_v48, val_main_cst_13, val_main_v50, val_main_cst_14]
  simp only [gv_is H _ _, coe_sum, bits_1024, div_1024]
  rfl

theorem d_is : Rows (val_main_v53 (F := Ideal) x0) D.d := fun t j => by
  pointwise [val_main_v53, val_main_v52]
  rw [gv_is H, mu_at H, ← EReal.coe_sub]; rfl

theorem d_is2 : Rows (val_main_v62 (F := Ideal) x0) D.d := fun t j => by
  pointwise [val_main_v62, val_main_v61]
  rw [gv_is H, mu_at H, ← EReal.coe_sub]; rfl

theorem va_at (t : Fin 4096) : (val_main_v64 (F := Ideal) x0) (ix3 0 t 0) = ((D.va t : ℝ) : EReal) := by
  pointwise [val_main_v64, val_main_v60, val_main_v58, val_main_v57, val_main_v54, val_main_cst_16, val_main_v59, val_main_cst_17, val_main_v63, val_main_cst_18]
  simp only [d_is H _ _, ← EReal.coe_mul, coe_sum, bits_1024, bits_eps, div_1024, ← EReal.coe_add]
  rfl

theorem rs_at (t : Fin 4096) : (val_main_v65 (F := Ideal) x0) (ix3 0 t 0) = ((D.rs t : ℝ) : EReal) := by
  pointwise [val_main_v65]
  rw [va_at H, coe_rsqrt (D.va_pos t)]; rfl

theorem vh_is : Rows (val_main_v70 (F := Ideal) x0) D.vh := fun t j => by
  pointwise [val_main_v70, val_main_v69]
  rw [d_is2 H, rs_at H, ← EReal.coe_mul]; rfl

theorem vn_is : Rows (val_main_v76 (F := Ideal) x0 x1 x2) D.vn := fun t j => by
  pointwise [val_main_v76, val_main_v73, val_main_v72, val_main_v71, val_main_v44, val_main_v75, val_main_v74, val_main_v45]
  rw [vh_is H, H.lg, H.lb, ← EReal.coe_mul, ← EReal.coe_add]; rfl

/-! ### The mixing of a chunk's rows -/

theorem vn5_at (n : Fin 32) (p : Fin 128) (g : Fin 4) (c : Fin 256) : (val_main_v77 (F := Ideal) x0 x1 x2) (ix5 0 n p g c) = ((D.vn (row n p) (col g c) : ℝ) : EReal) := by
  pointwise [val_main_v77]
  exact vn_is H _ _

theorem wm_at (g : Fin 4) (p q : Fin 128) : (val_main_v82 (F := Ideal) x3) (ix3 g p q) = ((D.wm g p q : ℝ) : EReal) := by
  pointwise [val_main_v82, val_main_v46, val_main_v81, val_main_v80, val_main_v79, val_main_call0_v4, val_main_call0_v2, val_main_call0_v0, val_main_call0_v1, val_main_call0_c, val_main_call0_v3, val_main_v78, val_main_cst_20, val_main_call0_v5, val_main_call0_cst]
  rw [H.ws, show IntOp.addi (BitVec.ofNat 32 p.val) 0#32 = BitVec.ofNat 32 p.val from BitVec.add_zero _, sge_word _ _ (by omega) (by omega), SguMath.Data.wm]
  split <;> simp

theorem sp5_at (n : Fin 32) (p : Fin 128) (g : Fin 4) (c : Fin 256) :
    (val_main_v89 (F := Ideal) x0 x1 x2 x3 x4) (ix5 0 n p g c) = ((D.sp (row n p) (col g c) : ℝ) : EReal) := by
  pointwise [val_main_v89, val_main_v84, val_main_v83, val_main_v88, val_main_v87, val_main_v86, val_main_v85, val_main_v47]
  simp only [vn5_at H, wm_at H, H.bs, ← EReal.coe_mul, coe_sum, ← EReal.coe_add]
  simp only [SguMath.Data.sp, hd_col, ch_row, ps_row]

theorem sp_is : Rows (val_main_v90 (F := Ideal) x0 x1 x2 x3 x4) D.sp := fun t j => by
  pointwise [val_main_v90]
  exact (sp5_at H (ch t) (ps t) (hd j) (lo j)).trans (by rw [row_ch_ps, col_hd_lo])

theorem dsp_is : Rows (val_main_v92 (F := Ideal) x0 x5) D.dsp := fun t j => by
  pointwise [val_main_v92]
  rw [gu_is H, H.dy, ← EReal.coe_mul]; rfl

theorem dsp5_at (n : Fin 32) (p : Fin 128) (g : Fin 4) (c : Fin 256) : (val_main_v94 (F := Ideal) x0 x5) (ix5 0 n p g c) = ((D.dsp (row n p) (col g c) : ℝ) : EReal) := by
  pointwise [val_main_v94]
  exact dsp_is H _ _

theorem dspT_at (g : Fin 4) (n : Fin 32) (c : Fin 256) (p : Fin 128) : (val_main_v101 (F := Ideal) x0 x5) (ix5 g 0 n c p) = ((D.dsp (row n p) (col g c) : ℝ) : EReal) := by
  pointwise [val_main_v101]
  exact dsp5_at H _ _ _ _

theorem dvn5_at (n : Fin 32) (p : Fin 128) (g : Fin 4) (c : Fin 256) :
    (val_main_v104 (F := Ideal) x0 x3 x5) (ix5 0 n p g c) = ((D.dvn (row n p) (col g c) : ℝ) : EReal) := by
  pointwise [val_main_v104, val_main_v103]
  simp only [dspT_at H, wm_at H, ← EReal.coe_mul, coe_sum]
  simp only [SguMath.Data.dvn, hd_col, ch_row, ps_row]

theorem dvn_is : Rows (val_main_v107 (F := Ideal) x0 x3 x5) D.dvn := fun t j => by
  pointwise [val_main_v107]
  exact (dvn5_at H (ch t) (ps t) (hd j) (lo j)).trans (by rw [row_ch_ps, col_hd_lo])

/-! ### The weights' and biases' gradients -/

theorem dbs0_at (p : Fin 128) (g : Fin 4) : (val_main_v95 (F := Ideal) x0 x5) (ix3 0 p g) = ((D.dbs g p : ℝ) : EReal) := by
  refine (sum_chunks _ _ p g).trans ?_
  rw [show (val_main_cst_21 (F := Ideal)) (Shape.Idx.first h_S_) = 0 from Ideal.ofBits_zero .f32, zero_add]
  simp only [dsp5_at H, coe_sum]; rfl

theorem dbs1_at (p : Fin 128) (g : Fin 4) : (val_main_v97 (F := Ideal) x0 x5) (ix2 p g) = ((D.dbs g p : ℝ) : EReal) := by
  refine (sum_ones _ _ p g).trans ?_
  rw [show (val_main_cst_22 (F := Ideal)) (Shape.Idx.first h_S_) = 0 from Ideal.ofBits_zero .f32, zero_add]
  pointwise [val_main_v96]
  exact dbs0_at H p g

theorem dbs_at (p : Fin 128) (g : Fin 4) : (val_main_v178 (F := Ideal) x0 x5) (ix2 p g) = ((D.dbs g p : ℝ) : EReal) := by
  pointwise [val_main_v178, val_main_v177, val_main_v143, val_main_v100, val_main_v99, val_main_v98, val_main_cst_23]
  simp only [dbs1_at H, zero_add, Finset.sum_const, Finset.card_univ, Fintype.card_fin, one_smul]

theorem dws0_at (g : Fin 4) (p q : Fin 128) : (val_main_v102 (F := Ideal) x0 x1 x2 x5) (ix3 g p q) = ((∑ n, ∑ c, D.dsp (row n p) (col g c) * D.vn (row n q) (col g c) : ℝ) : EReal) := by
  refine (dot_chunks _ _ g p q).trans ?_
  simp only [dspT_at H, vn5_at H, ← EReal.coe_mul, coe_sum]

theorem dws_at (p : Fin 128) (g : Fin 4) (q : Fin 128) : (val_main_v176 (F := Ideal) x0 x1 x2 x5) (ix2 p ⟨g.val * 128 + q.val, by omega⟩) = ((D.dws g p q : ℝ) : EReal) := by
  pointwise [val_main_v176, val_main_v175, val_main_v174, val_main_v144, val_main_v106, val_main_v105, val_main_v80, val_main_v79, val_main_call0_v4, val_main_call0_v2, val_main_call0_v0, val_main_call0_v1, val_main_call0_c, val_main_call0_v3, val_main_v78, val_main_cst_20, val_main_call0_v5, val_main_call0_cst]
  rw [dws0_at H, show IntOp.addi (BitVec.ofNat 32 p.val) 0#32 = BitVec.ofNat 32 p.val from BitVec.add_zero _, sge_word _ _ (by omega) (by omega), SguMath.Data.dws]
  split <;> simp

theorem dbsW_at (p k : Fin 128) : (val_main_v179 (F := Ideal) x0 x5) (ix2 p k) = ((if h : k.val < 4 then D.dbs ⟨k.val, h⟩ p else 0 : ℝ) : EReal) := by
  by_cases h : k.val < 4
  · rw [dif_pos h]
    refine (pad_apply_of_inside _ _ _ _ _ _ _ _ (ix2 p ⟨k.val, h⟩) fun a => ?_).trans (dbs_at H p ⟨k.val, h⟩)
    match a with
    | ⟨0, _⟩ => show p.val = 0 + p.val * 1; omega
    | ⟨1, _⟩ => show k.val = 0 + k.val * 1; omega
  · rw [dif_neg h]
    refine (pad_apply_of_not_inside _ _ _ _ _ _ _ _ 1 ?_).trans ?_
    · rintro ⟨-, -, h3⟩
      have h3' : (k.val - 0) / 1 < 4 := h3
      omega
    · exact (sitofp_zero (φ := .f32)).trans EReal.coe_zero.symm

/-! ### The norm's gradients -/

theorem dlb_at (j : Fin 1024) : (val_main_v145 (F := Ideal) x0 x3 x5) (ix2 0 j) = ((D.dlb j : ℝ) : EReal) := by
  pointwise [val_main_v145]
  refine (Cert.Math.sum_first_two _ _ _ _).trans ?_
  rw [show (val_main_cst_25 (F := Ideal)) (Shape.Idx.first h_S_) = 0 from Ideal.ofBits_zero .f32, zero_add]
  pointwise [val_main_v109, val_main_v108, val_main_cst_24]
  simp only [dvn_is H _ _, coe_sum, zero_add]; rfl

theorem dlg_at (j : Fin 1024) : (val_main_v146 (F := Ideal) x0 x3 x5) (ix2 0 j) = ((D.dlg j : ℝ) : EReal) := by
  pointwise [val_main_v146]
  refine (Cert.Math.sum_first_two _ _ _ _).trans ?_
  rw [show (val_main_cst_27 (F := Ideal)) (Shape.Idx.first h_S_) = 0 from Ideal.ofBits_zero .f32, zero_add]
  pointwise [val_main_v113, val_main_v112, val_main_v111, val_main_cst_26]
  simp only [dvn_is H _ _, vh_is H _ _, ← EReal.coe_mul, coe_sum, zero_add]; rfl

theorem dvh_is : Rows (val_main_v115 (F := Ideal) x0 x1 x3 x5) D.dvh := fun t j => by
  pointwise [val_main_v115, val_main_v114, val_main_v71, val_main_v44]
  rw [dvn_is H, H.lg, ← EReal.coe_mul]; rfl

theorem dvar_at (t : Fin 4096) : (val_main_v129 (F := Ideal) x0 x1 x3 x5) (ix2 0 t) = (((∑ i, D.d t i * D.dvh t i) * (-1 / 2 * (D.rs t / D.va t)) / 1024 : ℝ) : EReal) := by
  pointwise [val_main_v129]
  refine (Cert.Math.sum_first_last _ _ _ _).trans ?_
  rw [show (val_main_cst_31 (F := Ideal)) (Shape.Idx.first h_S_) = 0 from Ideal.ofBits_zero .f32, zero_add]
  pointwise [val_main_v127, val_main_v122, val_main_v119, val_main_v118, val_main_v117, val_main_cst_28, val_main_v68, val_main_v67, val_main_cst_19, val_main_v66, val_main_v126, val_main_cst_30]
  simp only [d_is2 H _ _, dvh_is H _ _, rs_at H, va_at H, coe_div (D.va_pos t).ne', bits_mhalf, bits_1024, ← EReal.coe_mul, coe_sum, div_1024]

theorem m1_is : Rows (val_main_v121 (F := Ideal) x0 x1 x3 x5) (fun t j => D.dvh t j * D.rs t) := fun t j => by
  pointwise [val_main_v121, val_main_v120]
  rw [dvh_is H, rs_at H, ← EReal.coe_mul]

theorem m2_is : Rows (val_main_v131 (F := Ideal) x0 x1 x3 x5) (fun t j => (∑ i, D.d t i * D.dvh t i) * (-1 / 2 * (D.rs t / D.va t)) / 1024 * (2 * D.d t j)) := fun t j => by
  pointwise [val_main_v131, val_main_v130, val_main_v56, val_main_v55, val_main_cst_15]
  rw [dvar_at H, d_is H, bits_two, ← EReal.coe_mul, ← EReal.coe_mul]

theorem dgv_is : Rows (val_main_v142 (F := Ideal) x0 x1 x3 x5) D.dgv := fun t j => by
  have e : (val_main_v140 (F := Ideal) x0 x1 x3 x5) (ix2 0 t) = (((∑ i, -(D.dvh t i * D.rs t) + ∑ i, -((∑ i, D.d t i * D.dvh t i) * (-1 / 2 * (D.rs t / D.va t)) / 1024 * (2 * D.d t i))) / 1024 : ℝ) : EReal) := by
    pointwise [val_main_v140]
    refine (Cert.Math.sum_first_last _ _ _ _).trans ?_
    rw [show (val_main_cst_34 (F := Ideal)) (Shape.Idx.first h_S_) = 0 from Ideal.ofBits_zero .f32, zero_add]
    pointwise [val_main_v138, val_main_v136, val_main_v125, val_main_v124, val_main_v123, val_main_cst_29, val_main_v134, val_main_v133, val_main_v132, val_main_cst_32, val_main_v137, val_main_cst_33]
    simp only [m1_is H _ _, m2_is H _ _, ← EReal.coe_neg, coe_sum, ← EReal.coe_add, bits_1024, div_1024]
  pointwise [val_main_v142, val_main_v135, val_main_v141]
  rw [m1_is H, m2_is H, e, ← EReal.coe_add, ← EReal.coe_add, D.dgv_lines]

theorem dzv_is : Rows (val_main_v158 (F := Ideal) x0 x1 x3 x5) D.dzv := fun t j => by
  pointwise [val_main_v158, val_main_v154, val_main_v148, val_main_v42, val_main_v41, val_main_cst_12, val_main_v40, val_main_v39, val_main_cst_11, val_main_v33, val_main_v32, val_main_v31, val_main_cst_8, val_main_v30, val_main_v29, val_main_v28, val_main_cst_7, val_main_v24, val_main_v23, val_main_v153, val_main_v152, val_main_cst_36, val_main_v151, val_main_v150, val_main_v149, val_main_cst_35, val_main_v147, val_main_v38, val_main_v35, val_main_v34, val_main_cst_9, val_main_v37, val_main_v36, val_main_cst_10, val_main_v157, val_main_v156, val_main_v155, val_main_cst_37, val_main_v27, val_main_v26, val_main_cst_6, val_main_v25]
  simp only [v_is H _ _, dgv_is H _ _, bits_k0, bits_k1, bits_half, bits_three]
  simp only [← EReal.coe_mul, ← EReal.coe_add, Ideal.tanh_coe, ← EReal.coe_one, ← EReal.coe_sub]
  exact congrArg _ (gel_lines _ _)

theorem dzu_is : Rows (val_main_v170 (F := Ideal) x0 x1 x2 x3 x4 x5) D.dzu := fun t j => by
  pointwise [val_main_v170, val_main_v166, val_main_v160, val_main_v93, val_main_v21, val_main_v20, val_main_cst_5, val_main_v19, val_main_v18, val_main_cst_4, val_main_v12, val_main_v11, val_main_v10, val_main_cst_1, val_main_v9, val_main_v8, val_main_v7, val_main_cst_0, val_main_v3, val_main_v2, val_main_v165, val_main_v164, val_main_cst_39, val_main_v163, val_main_v162, val_main_v161, val_main_cst_38, val_main_v159, val_main_v17, val_main_v14, val_main_v13, val_main_cst_2, val_main_v16, val_main_v15, val_main_cst_3, val_main_v169, val_main_v168, val_main_v167, val_main_cst_40, val_main_v6, val_main_v5, val_main_cst, val_main_v4]
  simp only [u_is H _ _, sp_is H _ _, H.dy, bits_k0, bits_k1, bits_half, bits_three]
  simp only [← EReal.coe_mul, ← EReal.coe_add, Ideal.tanh_coe, ← EReal.coe_one, ← EReal.coe_sub]
  exact congrArg _ (gel_lines _ _)

theorem dz_at (t : Fin 4096) (k : Fin 2048) : (val_main_v182 (F := Ideal) x0 x1 x2 x3 x4 x5) (ix2 t k) = ((D.dz t k : ℝ) : EReal) := by
  pointwise [val_main_v182, val_main_v181, val_main_v180, val_main_v173]
  by_cases h : k.val < 1024
  · rw [SguMath.Data.dz, dif_pos h]
    refine (congrArg₂ (· + ·) (pad_apply_of_not_inside _ _ _ _ _ _ _ _ 2 ?_) ((pad_apply_of_inside _ _ _ _ _ _ _ _ (ix3 0 t ⟨k.val, h⟩) fun a => ?_).trans (dzu_is H t ⟨k.val, h⟩))).trans ?_
    · rintro ⟨h1, -, -⟩
      have h1' : 3072 ≤ 2048 + k.val := h1
      omega
    · match a with
      | ⟨0, _⟩ => rfl
      | ⟨1, _⟩ => show t.val = 0 + t.val * 1; omega
      | ⟨2, _⟩ => show 2048 + k.val = 2048 + k.val * 1; omega
    · exact (congrArg (· + _) (Ideal.ofBits_zero .f32)).trans (zero_add _)
  · rw [SguMath.Data.dz, dif_neg h]
    refine (congrArg₂ (· + ·) ((pad_apply_of_inside _ _ _ _ _ _ _ _ (ix3 0 t ⟨k.val - 1024, by omega⟩) fun a => ?_).trans (dzv_is H t ⟨k.val - 1024, by omega⟩)) (pad_apply_of_not_inside _ _ _ _ _ _ _ _ 2 ?_)).trans ?_
    · match a with
      | ⟨0, _⟩ => rfl
      | ⟨1, _⟩ => show t.val = 0 + t.val * 1; omega
      | ⟨2, _⟩ => show 2048 + k.val = 3072 + (k.val - 1024) * 1; omega
    · rintro ⟨-, -, h3⟩
      have h3' : (2048 + k.val - 2048) / 1 < 1024 := h3
      omega
    · exact (congrArg (_ + ·) (Ideal.ofBits_zero .f32)).trans (add_zero _)

end Cert.BwdSguRefIdeal.Hand

end
-- ==== Proof.SguBlocks.lean ====
/- The gating unit's gradients: what the host hands to the call, and the blocks of a grid point, as the real functions of SguMath. -/
module

public import proofs.«01_k».proof.Proof.SguArrays
public import proofs.«01_k».proof.Proof.SguRef
public import Idealize.ShloMosaic.Lib.Claim
public import Idealize.ShloMosaic.Lib.StableHlo.RunRead
public import Idealize.ShloMosaic.Lib.Pipeline.ValueKit

@[expose] public section

set_option maxRecDepth 16384

noncomputable section

namespace Cert.BwdSguIdeal.Hand

open Cert.BwdSguIdeal Cert.BwdSguIdeal.Gen Idealize.ShloMosaic Idealize.ShloMosaic.TcCoe Idealize.SL.Sem
open Cert.GatesMath hiding Data
open Cert.SguMath

variable (m : (ℓ : Loc nD τ sig) → Buf (Elt Ideal) ℓ) (c : Dev nD)

/-- The call's arguments. -/
abbrev V0 : FVec Ideal S1x4096x6144 .f32 := m ((c : Thread nD τ).loc main_arg0)
abbrev V1 : FVec Ideal S1x1024 .f32 := m ((c : Thread nD τ).loc main_arg1)
abbrev V2 : FVec Ideal S1x1024 .f32 := m ((c : Thread nD τ).loc main_arg2)
abbrev V3 : FVec Ideal S1x4x128x128 .f32 := m ((c : Thread nD τ).loc main_arg3)
abbrev V4 : FVec Ideal S1x4x128 .f32 := m ((c : Thread nD τ).loc main_arg4)
abbrev V5 : FVec Ideal S1x4096x1024 .f32 := m ((c : Thread nD τ).loc main_arg5)

/-! What the host's lines hand to the call. -/

theorem z_host (r : Fin 4096) (j : Fin 6144) : ((V m c main_v7 : FVec Ideal S4096x6144 .bf16) (ix2 r j) : EReal) = V0 m c (ix3 0 r j) := by
  show StableHlo.after hostOps0 (fun b => m (c, b)) (Proc.tc.devRef main_v7) (ix2 r j) = _
  after_reads_simp
  pointwise

theorem dy_host (r : Fin 4096) (j : Fin 1024) : ((V m c main_v5 : FVec Ideal S4096x1024 .f32) (ix2 r j) : EReal) = V5 m c (ix3 0 r j) := by
  show StableHlo.after hostOps0 (fun b => m (c, b)) (Proc.tc.devRef main_v5) (ix2 r j) = _
  after_reads_simp
  pointwise

theorem bias_host (p : Fin 128) (j : Fin 1024) : ((V m c main_v4 : FVec Ideal S128x1024 .f32) (ix2 p j) : EReal) = V4 m c (ix3 0 (hd j) p) := by
  show StableHlo.after hostOps0 (fun b => m (c, b)) (Proc.tc.devRef main_v4) (ix2 p j) = _
  after_reads_simp
  pointwise

theorem ws_host (g : Fin 4) (p q : Fin 128) : ((V m c main_v8 : FVec Ideal S4x128x128 .f32) (ix3 g p q) : EReal) = V3 m c (ix4 0 g p q) := by
  show StableHlo.after hostOps0 (fun b => m (c, b)) (Proc.tc.devRef main_v8) (ix3 g p q) = _
  after_reads_simp
  pointwise

/-- The windows' block indices: the tiles run from the last to the first. -/
theorem idx : ∀ t : Fin cfg0.N, win0_0.index t = ![15 - t.val, 0] ∧ win0_1.index t = ![15 - t.val, 2] ∧ win0_2.index t = ![15 - t.val, 3]
    ∧ win0_3.index t = ![0, 0] ∧ win0_4.index t = ![0, 0] ∧ win0_5.index t = ![0, 0, 0] ∧ win0_6.index t = ![0, 0] ∧ win0_7.index t = ![15 - t.val, 0]
    ∧ win0_8.index t = ![0, 0] ∧ win0_9.index t = ![0, 0] ∧ win0_10.index t = ![0, 0] ∧ win0_11.index t = ![0, 0] :=
  (by decide +kernel : ∀ t : Fin grid0.N, _)

/-- The tile a grid point works on. -/
abbrev tix (t : Fin cfg0.N) : Fin 16 := ⟨15 - t.val, by omega⟩

abbrev b0 (t : Fin cfg0.N) : FVec Ideal S256x1024 .f32 := iblk m c 0 t
abbrev b1 (t : Fin cfg0.N) : FVec Ideal S256x1024 .bf16 := iblk m c 1 t
abbrev b2 (t : Fin cfg0.N) : FVec Ideal S256x1024 .bf16 := iblk m c 2 t
abbrev b3 (t : Fin cfg0.N) : FVec Ideal S1x1024 .f32 := iblk m c 3 t
abbrev b4 (t : Fin cfg0.N) : FVec Ideal S1x1024 .f32 := iblk m c 4 t
abbrev b5 (t : Fin cfg0.N) : FVec Ideal S4x128x128 .f32 := iblk m c 5 t
abbrev b6 (t : Fin cfg0.N) : FVec Ideal S128x1024 .f32 := iblk m c 6 t

/-- A grid point's blocks. -/
abbrev tile (t : Fin cfg0.N) : Tile := ⟨b0 m c t, b1 m c t, b2 m c t, b3 m c t, b4 m c t, b5 m c t, b6 m c t⟩

variable {m c} {D : SguMath.Data}
variable (A : Cert.BwdSguRefIdeal.Hand.Args (V0 m c) (V1 m c) (V2 m c) (V3 m c) (V4 m c) (V5 m c) D)
include A

theorem b0_at (t : Fin cfg0.N) (r : Fin 256) (j : Fin 1024) : (b0 m c t (ix2 r j) : EReal) = ((D.dy (tr (tix t) r) j : ℝ) : EReal) := by
  have e : (b0 m c t (ix2 r j) : EReal) = (V m c main_v5 : FVec Ideal S4096x1024 .f32) (ix2 (tr (tix t) r) j) := by blk_ext [iblk, idx t]
  rw [e, dy_host]; exact A.dy _ _

theorem b1_at (t : Fin cfg0.N) (r : Fin 256) (j : Fin 1024) : (b1 m c t (ix2 r j) : EReal) = ((D.u (tr (tix t) r) j : ℝ) : EReal) := by
  have e : (b1 m c t (ix2 r j) : EReal) = (V m c main_v7 : FVec Ideal S4096x6144 .bf16) (ix2 (tr (tix t) r) ⟨2048 + j.val, by omega⟩) := by blk_ext [iblk, idx t]
  rw [e, z_host]; exact A.u _ _

theorem b2_at (t : Fin cfg0.N) (r : Fin 256) (j : Fin 1024) : (b2 m c t (ix2 r j) : EReal) = ((D.v (tr (tix t) r) j : ℝ) : EReal) := by
  have e : (b2 m c t (ix2 r j) : EReal) = (V m c main_v7 : FVec Ideal S4096x6144 .bf16) (ix2 (tr (tix t) r) ⟨3072 + j.val, by omega⟩) := by blk_ext [iblk, idx t]
  rw [e, z_host]; exact A.v _ _

theorem b3_at (t : Fin cfg0.N) (j : Fin 1024) : (b3 m c t (ix2 0 j) : EReal) = ((D.lg j : ℝ) : EReal) := by
  have e : (b3 m c t (ix2 0 j) : EReal) = V1 m c (ix2 0 j) := by blk_ext [iblk, V, idx t]
  rw [e]; exact A.lg _

theorem b4_at (t : Fin cfg0.N) (j : Fin 1024) : (b4 m c t (ix2 0 j) : EReal) = ((D.lb j : ℝ) : EReal) := by
  have e : (b4 m c t (ix2 0 j) : EReal) = V2 m c (ix2 0 j) := by blk_ext [iblk, V, idx t]
  rw [e]; exact A.lb _

theorem b5_at (t : Fin cfg0.N) (g : Fin 4) (p q : Fin 128) : (b5 m c t (ix3 g p q) : EReal) = ((D.ws g p q : ℝ) : EReal) := by
  have e : (b5 m c t (ix3 g p q) : EReal) = (V m c main_v8 : FVec Ideal S4x128x128 .f32) (ix3 g p q) := by blk_ext [iblk, idx t]
  rw [e, ws_host]; exact A.ws _ _ _

theorem b6_at (t : Fin cfg0.N) (p : Fin 128) (j : Fin 1024) : (b6 m c t (ix2 p j) : EReal) = ((D.bs (hd j) p : ℝ) : EReal) := by
  have e : (b6 m c t (ix2 p j) : EReal) = (V m c main_v4 : FVec Ideal S128x1024 .f32) (ix2 p j) := by blk_ext [iblk, idx t]
  rw [e, bias_host]; exact A.bs _ _

set_option maxHeartbeats 2000000 in
/-- A point's blocks hold its tile's rows. -/
theorem holds (t : Fin cfg0.N) : (tile m c t).Holds D (tix t) where
  dy := b0_at A t
  u := b1_at A t
  v := b2_at A t
  lg := b3_at A t
  lb := b4_at A t
  ws := b5_at A t
  bs := b6_at A t

end Cert.BwdSguIdeal.Hand

end
-- ==== Proof.SguOuts.lean ====
/- The gating unit's gradients: what a grid point leaves in the windows and carries on. -/
module

public import proofs.«01_k».proof.Proof.SguBlocks
public import Idealize.ShloMosaic.Lib.Pipeline.ReadBack

@[expose] public section

set_option maxRecDepth 16384

noncomputable section

namespace Cert.BwdSguIdeal.Hand

open Cert.BwdSguIdeal Cert.BwdSguIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The scale's sums a point finds: the point before's, and zero at the first. -/
def q8 (t : Fin cfg0.N) : Vec Ideal S1x1024 .f32 := if t.val % 16 = 0 then k0_pay6 (F := Ideal) else (outsAt0 m c (t.val - 1) (Nat.lt_of_le_of_lt (Nat.sub_le _ _) t.isLt)).2.1
/-- The shift's sums a point finds: the point before's, and zero at the first. -/
def q9 (t : Fin cfg0.N) : Vec Ideal S1x1024 .f32 := if t.val % 16 = 0 then k0_pay7 (F := Ideal) else (outsAt0 m c (t.val - 1) (Nat.lt_of_le_of_lt (Nat.sub_le _ _) t.isLt)).2.2.1
/-- The mixing weights' sums a point finds: the point before's, and zero at the first. -/
def q10 (t : Fin cfg0.N) : Vec Ideal S128x512 .f32 := if t.val % 16 = 0 then k0_pay8 (F := Ideal) else (outsAt0 m c (t.val - 1) (Nat.lt_of_le_of_lt (Nat.sub_le _ _) t.isLt)).2.2.2.1
/-- The mixing shifts' sums a point finds: the point before's, and zero at the first. -/
def q12 (t : Fin cfg0.N) : Vec Ideal S128x1024 .f32 := if t.val % 16 = 0 then k0_pay9 (F := Ideal) else (outsAt0 m c (t.val - 1) (Nat.lt_of_le_of_lt (Nat.sub_le _ _) t.isLt)).2.2.2.2.2
/-- The covering store of the first point. -/
def L10 (t : Fin cfg0.N) : List (View.Piece (Elt Ideal) S128x512 .f32) := if t.val % 16 = 0 then [⟨Rect.unit ![0, 0] ![128, 512] inb_S128x512_S128x512_0_0, k0_pay8 (F := Ideal)⟩] else []
def L12 (t : Fin cfg0.N) : List (View.Piece (Elt Ideal) S128x1024 .f32) := if t.val % 16 = 0 then [⟨Rect.unit ![0, 0] ![128, 1024] inb_S128x1024_S128x1024_0_0, k0_pay9 (F := Ideal)⟩] else []

set_option maxHeartbeats 4000000 in
theorem outs_dz (t : Fin cfg0.N) : (outsAt0 m c t.val t.isLt).1 = (tile m c t).dzA := by
  by_cases h0 : t.val % 16 = 0
  · have h1 : ¬t.val % 16 = 15 := by omega
    rw [outsAt0_A m c t h0 h1]; frame_out; (try simp (discharger := decide) only [↓View.readCov_skip, ↓View.readCov_fill, ↓View.readCov_cons_toLoadRect, read_unread_whole]); (try simp only [Tile.dzA, tile, Tile.v28, Tile.v29, Tile.v30, Tile.v31, Tile.v37, Tile.v39, Tile.v40, Tile.v51, Tile.v66, Tile.v68, Tile.v75, Tile.v77, Tile.v85, Tile.v90, Tile.v95, Tile.v100, Tile.dvnA, Tile.a0, Tile.a1, Tile.a2, Tile.a3]) <;> rfl
  · by_cases h1 : t.val % 16 = 15
    · rw [outsAt0_C m c t h0 h1]; frame_out; (try simp (discharger := decide) only [↓View.readCov_skip, ↓View.readCov_fill, ↓View.readCov_cons_toLoadRect, read_unread_whole]); (try simp only [Tile.dzA, tile, Tile.v28, Tile.v29, Tile.v30, Tile.v31, Tile.v37, Tile.v39, Tile.v40, Tile.v51, Tile.v66, Tile.v68, Tile.v75, Tile.v77, Tile.v85, Tile.v90, Tile.v95, Tile.v100, Tile.dvnA, Tile.a0, Tile.a1, Tile.a2, Tile.a3]) <;> rfl
    · rw [outsAt0_B m c t h0 h1]; frame_out; (try simp (discharger := decide) only [↓View.readCov_skip, ↓View.readCov_fill, ↓View.readCov_cons_toLoadRect, read_unread_whole]); (try simp only [Tile.dzA, tile, Tile.v28, Tile.v29, Tile.v30, Tile.v31, Tile.v37, Tile.v39, Tile.v40, Tile.v51, Tile.v66, Tile.v68, Tile.v75, Tile.v77, Tile.v85, Tile.v90, Tile.v95, Tile.v100, Tile.dvnA, Tile.a0, Tile.a1, Tile.a2, Tile.a3]) <;> rfl

set_option maxHeartbeats 4000000 in
theorem outs_dlg (t : Fin cfg0.N) : (outsAt0 m c t.val t.isLt).2.1 = (tile m c t).dlgA (q8 m c t) := by
  by_cases h0 : t.val % 16 = 0
  · have h1 : ¬t.val % 16 = 15 := by omega
    rw [outsAt0_A m c t h0 h1]; frame_out; (try simp (discharger := decide) only [↓View.readCov_skip, ↓View.readCov_fill, ↓View.readCov_cons_toLoadRect, read_unread_whole]); (try simp only [if_pos h0, Tile.dlgA, q8, tile, Tile.v28, Tile.v29, Tile.v30, Tile.v31, Tile.v37, Tile.v39, Tile.v40, Tile.v51, Tile.v66, Tile.v68, Tile.v75, Tile.v77, Tile.v85, Tile.v90, Tile.v95, Tile.v100, Tile.dvnA, Tile.a0, Tile.a1, Tile.a2, Tile.a3]) <;> rfl
  · by_cases h1 : t.val % 16 = 15
    · rw [outsAt0_C m c t h0 h1]; frame_out; (try simp (discharger := decide) only [↓View.readCov_skip, ↓View.readCov_fill, ↓View.readCov_cons_toLoadRect, read_unread_whole]); (try simp only [if_neg h0, Tile.dlgA, q8, tile, Tile.v28, Tile.v29, Tile.v30, Tile.v31, Tile.v37, Tile.v39, Tile.v40, Tile.v51, Tile.v66, Tile.v68, Tile.v75, Tile.v77, Tile.v85, Tile.v90, Tile.v95, Tile.v100, Tile.dvnA, Tile.a0, Tile.a1, Tile.a2, Tile.a3]) <;> rfl
    · rw [outsAt0_B m c t h0 h1]; frame_out; (try simp (discharger := decide) only [↓View.readCov_skip, ↓View.readCov_fill, ↓View.readCov_cons_toLoadRect, read_unread_whole]); (try simp only [if_neg h0, Tile.dlgA, q8, tile, Tile.v28, Tile.v29, Tile.v30, Tile.v31, Tile.v37, Tile.v39, Tile.v40, Tile.v51, Tile.v66, Tile.v68, Tile.v75, Tile.v77, Tile.v85, Tile.v90, Tile.v95, Tile.v100, Tile.dvnA, Tile.a0, Tile.a1, Tile.a2, Tile.a3]) <;> rfl

set_option maxHeartbeats 4000000 in
theorem outs_dlb (t : Fin cfg0.N) : (outsAt0 m c t.val t.isLt).2.2.1 = (tile m c t).dlbA (q9 m c t) := by
  by_cases h0 : t.val % 16 = 0
  · have h1 : ¬t.val % 16 = 15 := by omega
    rw [outsAt0_A m c t h0 h1]; frame_out; (try simp (discharger := decide) only [↓View.readCov_skip, ↓View.readCov_fill, ↓View.readCov_cons_toLoadRect, read_unread_whole]); (try simp only [if_pos h0, Tile.dlbA, q9, tile, Tile.v28, Tile.v29, Tile.v30, Tile.v31, Tile.v37, Tile.v39, Tile.v40, Tile.v51, Tile.v66, Tile.v68, Tile.v75, Tile.v77, Tile.v85, Tile.v90, Tile.v95, Tile.v100, Tile.dvnA, Tile.a0, Tile.a1, Tile.a2, Tile.a3]) <;> rfl
  · by_cases h1 : t.val % 16 = 15
    · rw [outsAt0_C m c t h0 h1]; frame_out; (try simp (discharger := decide) only [↓View.readCov_skip, ↓View.readCov_fill, ↓View.readCov_cons_toLoadRect, read_unread_whole]); (try simp only [if_neg h0, Tile.dlbA, q9, tile, Tile.v28, Tile.v29, Tile.v30, Tile.v31, Tile.v37, Tile.v39, Tile.v40, Tile.v51, Tile.v66, Tile.v68, Tile.v75, Tile.v77, Tile.v85, Tile.v90, Tile.v95, Tile.v100, Tile.dvnA, Tile.a0, Tile.a1, Tile.a2, Tile.a3]) <;> rfl
    · rw [outsAt0_B m c t h0 h1]; frame_out; (try simp (discharger := decide) only [↓View.readCov_skip, ↓View.readCov_fill, ↓View.readCov_cons_toLoadRect, read_unread_whole]); (try simp only [if_neg h0, Tile.dlbA, q9, tile, Tile.v28, Tile.v29, Tile.v30, Tile.v31, Tile.v37, Tile.v39, Tile.v40, Tile.v51, Tile.v66, Tile.v68, Tile.v75, Tile.v77, Tile.v85, Tile.v90, Tile.v95, Tile.v100, Tile.dvnA, Tile.a0, Tile.a1, Tile.a2, Tile.a3]) <;> rfl

set_option maxHeartbeats 4000000 in
theorem outs_dws (t : Fin cfg0.N) : (outsAt0 m c t.val t.isLt).2.2.2.1 = (tile m c t).dwA (q10 m c t) (L10 t) := by
  by_cases h0 : t.val % 16 = 0
  · have h1 : ¬t.val % 16 = 15 := by omega
    rw [outsAt0_A m c t h0 h1]; frame_out; (try simp (discharger := decide) only [↓View.readCov_skip, ↓View.readCov_fill, ↓View.readCov_cons_toLoadRect, read_unread_whole]); (try simp only [if_pos h0, Tile.dwA, q10, L10, tile, Tile.v28, Tile.v29, Tile.v30, Tile.v31, Tile.v37, Tile.v39, Tile.v40, Tile.v51, Tile.v66, Tile.v68, Tile.v75, Tile.v77, Tile.v85, Tile.v90, Tile.v95, Tile.v100, Tile.dvnA, Tile.a0, Tile.a1, Tile.a2, Tile.a3]) <;> rfl
  · by_cases h1 : t.val % 16 = 15
    · rw [outsAt0_C m c t h0 h1]; frame_out; (try simp (discharger := decide) only [↓View.readCov_skip, ↓View.readCov_fill, ↓View.readCov_cons_toLoadRect, read_unread_whole]); (try simp only [if_neg h0, Tile.dwA, q10, L10, tile, Tile.v28, Tile.v29, Tile.v30, Tile.v31, Tile.v37, Tile.v39, Tile.v40, Tile.v51, Tile.v66, Tile.v68, Tile.v75, Tile.v77, Tile.v85, Tile.v90, Tile.v95, Tile.v100, Tile.dvnA, Tile.a0, Tile.a1, Tile.a2, Tile.a3]) <;> rfl
    · rw [outsAt0_B m c t h0 h1]; frame_out; (try simp (discharger := decide) only [↓View.readCov_skip, ↓View.readCov_fill, ↓View.readCov_cons_toLoadRect, read_unread_whole]); (try simp only [if_neg h0, Tile.dwA, q10, L10, tile, Tile.v28, Tile.v29, Tile.v30, Tile.v31, Tile.v37, Tile.v39, Tile.v40, Tile.v51, Tile.v66, Tile.v68, Tile.v75, Tile.v77, Tile.v85, Tile.v90, Tile.v95, Tile.v100, Tile.dvnA, Tile.a0, Tile.a1, Tile.a2, Tile.a3]) <;> rfl

set_option maxHeartbeats 4000000 in
theorem outs_dsp (t : Fin cfg0.N) : (outsAt0 m c t.val t.isLt).2.2.2.2.2 = (tile m c t).spA (q12 m c t) (L12 t) := by
  by_cases h0 : t.val % 16 = 0
  · have h1 : ¬t.val % 16 = 15 := by omega
    rw [outsAt0_A m c t h0 h1]; frame_out; (try simp (discharger := decide) only [↓View.readCov_skip, ↓View.readCov_fill, ↓View.readCov_cons_toLoadRect, read_unread_whole]); (try simp only [if_pos h0, Tile.spA, q12, L12, tile, Tile.v28, Tile.v29, Tile.v30, Tile.v31, Tile.v37, Tile.v39, Tile.v40, Tile.v51, Tile.v66, Tile.v68, Tile.v75, Tile.v77, Tile.v85, Tile.v90, Tile.v95, Tile.v100, Tile.dvnA, Tile.a0, Tile.a1, Tile.a2, Tile.a3]) <;> rfl
  · by_cases h1 : t.val % 16 = 15
    · rw [outsAt0_C m c t h0 h1]; frame_out; (try simp (discharger := decide) only [↓View.readCov_skip, ↓View.readCov_fill, ↓View.readCov_cons_toLoadRect, read_unread_whole]); (try simp only [if_neg h0, Tile.spA, q12, L12, tile, Tile.v28, Tile.v29, Tile.v30, Tile.v31, Tile.v37, Tile.v39, Tile.v40, Tile.v51, Tile.v66, Tile.v68, Tile.v75, Tile.v77, Tile.v85, Tile.v90, Tile.v95, Tile.v100, Tile.dvnA, Tile.a0, Tile.a1, Tile.a2, Tile.a3]) <;> rfl
    · rw [outsAt0_B m c t h0 h1]; frame_out; (try simp (discharger := decide) only [↓View.readCov_skip, ↓View.readCov_fill, ↓View.readCov_cons_toLoadRect, read_unread_whole]); (try simp only [if_neg h0, Tile.spA, q12, L12, tile, Tile.v28, Tile.v29, Tile.v30, Tile.v31, Tile.v37, Tile.v39, Tile.v40, Tile.v51, Tile.v66, Tile.v68, Tile.v75, Tile.v77, Tile.v85, Tile.v90, Tile.v95, Tile.v100, Tile.dvnA, Tile.a0, Tile.a1, Tile.a2, Tile.a3]) <;> rfl

set_option maxHeartbeats 4000000 in
theorem outs_dbs (t : Fin cfg0.N) (h0 : ¬t.val % 16 = 0) (h1 : t.val % 16 = 15) : (outsAt0 m c t.val t.isLt).2.2.2.2.1 = (tile m c t).dbA (q12 m c t) := by
  rw [outsAt0_C m c t h0 h1]; frame_out; (try simp (discharger := decide) only [↓View.readCov_skip, ↓View.readCov_fill, ↓View.readCov_cons_toLoadRect, read_unread_whole]); (try simp only [if_neg h0, Tile.dbA, q12, tile, Tile.v28, Tile.v29, Tile.v30, Tile.v31, Tile.v37, Tile.v39, Tile.v40, Tile.v51, Tile.v66, Tile.v68, Tile.v75, Tile.v77, Tile.v85, Tile.v90, Tile.v95, Tile.v100, Tile.dvnA, Tile.a0, Tile.a1, Tile.a2, Tile.a3]) <;> rfl

end Cert.BwdSguIdeal.Hand

end
-- ==== Proof.SguRun.lean ====
/- The gating unit's gradients: the arrays after the run are the reference's. -/
module

public import proofs.«01_k».proof.Defs
public import proofs.«01_k».proof.Proof.Finite
public import proofs.«01_k».proof.Proof.SguOuts

@[expose] public section

set_option maxRecDepth 16384

noncomputable section

namespace Cert.BwdSguIdeal.Hand

open Cert.BwdSguIdeal Cert.BwdSguIdeal.Gen Idealize.ShloMosaic Idealize.ShloMosaic.TcCoe Idealize.SL.Sem
open Idealize.ShloMosaic.Pipeline (Dat)
open Cert.GatesMath hiding Data
open Cert.SguMath

theorem zero6_at (j : S1x1024.Idx) : k0_pay6 (F := Ideal) j = 0 := by pointwise [k0_pay6]
theorem zero7_at (j : S1x1024.Idx) : k0_pay7 (F := Ideal) j = 0 := by pointwise [k0_pay7]
theorem zero8_at (j : S128x512.Idx) : k0_pay8 (F := Ideal) j = 0 := by pointwise [k0_pay8]
theorem zero9_at (j : S128x1024.Idx) : k0_pay9 (F := Ideal) j = 0 := by pointwise [k0_pay9]

/-- The tiles, from the last to the first, are all the rows. -/
theorem rows_sum (f : Fin 4096 → ℝ) : ∑ t : Fin cfg0.N, ((∑ r : Fin 256, f (tr (tix t) r) : ℝ) : EReal) = ((∑ t, f t : ℝ) : EReal) := by
  rw [coe_sum, Fin.sum_univ_tiles 16 256 rfl]
  refine congrArg _ ?_
  show ∑ t : Fin 16, ∑ x : Fin 256, f (tr (tix t) x) = _
  refine Fintype.sum_equiv Fin.revPerm _ _ fun t => Finset.sum_congr rfl fun x _ => congrArg f (Fin.ext ?_)
  simp only [Fin.revPerm_apply, Fin.val_rev, tr, tix]
  have := t.isLt
  omega

/-- Two chunks a tile, from the last tile to the first, are all the chunks. -/
theorem chunks_sum (f : Fin 32 → ℝ) : ∑ t : Fin cfg0.N, (((f (c0 (tix t)) : ℝ) : EReal) + ((f (c1 (tix t)) : ℝ) : EReal)) = ((∑ n, f n : ℝ) : EReal) := by
  simp only [← EReal.coe_add]
  rw [coe_sum, Fin.sum_univ_tiles 16 2 rfl]
  refine congrArg _ ?_
  show ∑ t : Fin 16, (f (c0 (tix t)) + f (c1 (tix t))) = _
  refine Fintype.sum_equiv Fin.revPerm _ _ fun t => ?_
  rw [Fin.sum_univ_two]
  refine congrArg₂ (· + ·) (congrArg f (Fin.ext ?_)) (congrArg f (Fin.ext ?_)) <;>
  · simp only [Fin.revPerm_apply, Fin.val_rev, c0, c1, tix, Fin.val_zero, Fin.val_one]
    have := t.isLt
    omega

/-- A group's gradient of the mixing weights is the sum of its chunks' shares. -/
theorem _root_.Cert.SguMath.Data.dws_chunks (D : SguMath.Data) (g : Fin 4) (p q : Fin 128) : ∑ n, D.pdws n g p q = D.dws g p q := by
  unfold Cert.SguMath.Data.pdws Cert.SguMath.Data.dws
  split <;> simp

variable {m : (ℓ : Loc nD τ sig) → Buf (Elt Ideal) ℓ} {c : Dev nD} {D : SguMath.Data}

theorem q8_first (t : Fin cfg0.N) (h : t.val % 16 = 0) (j : S1x1024.Idx) : q8 m c t j = 0 := by unfold q8; rw [if_pos h]; exact zero6_at j
theorem q8_next (t : Fin cfg0.N) (h : ¬t.val % 16 = 0) : q8 m c t = (outsAt0 m c (t.val - 1) (Nat.lt_of_le_of_lt (Nat.sub_le _ _) t.isLt)).2.1 := by unfold q8; rw [if_neg h]
theorem q9_first (t : Fin cfg0.N) (h : t.val % 16 = 0) (j : S1x1024.Idx) : q9 m c t j = 0 := by unfold q9; rw [if_pos h]; exact zero7_at j
theorem q9_next (t : Fin cfg0.N) (h : ¬t.val % 16 = 0) : q9 m c t = (outsAt0 m c (t.val - 1) (Nat.lt_of_le_of_lt (Nat.sub_le _ _) t.isLt)).2.2.1 := by unfold q9; rw [if_neg h]
theorem q10_first (t : Fin cfg0.N) (h : t.val % 16 = 0) (j : S128x512.Idx) : q10 m c t j = 0 := by unfold q10; rw [if_pos h]; exact zero8_at j
theorem q10_next (t : Fin cfg0.N) (h : ¬t.val % 16 = 0) : q10 m c t = (outsAt0 m c (t.val - 1) (Nat.lt_of_le_of_lt (Nat.sub_le _ _) t.isLt)).2.2.2.1 := by unfold q10; rw [if_neg h]
theorem q12_first (t : Fin cfg0.N) (h : t.val % 16 = 0) (j : S128x1024.Idx) : q12 m c t j = 0 := by unfold q12; rw [if_pos h]; exact zero9_at j
theorem q12_next (t : Fin cfg0.N) (h : ¬t.val % 16 = 0) : q12 m c t = (outsAt0 m c (t.val - 1) (Nat.lt_of_le_of_lt (Nat.sub_le _ _) t.isLt)).2.2.2.2.2 := by unfold q12; rw [if_neg h]

variable (A : Cert.BwdSguRefIdeal.Hand.Args (V0 m c) (V1 m c) (V2 m c) (V3 m c) (V4 m c) (V5 m c) D)
include A

/-- The gradient in the two branches, tile by tile. -/
theorem final7 : (dats m 0 c).arrAt 7 (cfgs 0).N = Cert.BwdSguRefIdeal.Read.val_main_v182 (F := Ideal) (V0 m c) (V1 m c) (V2 m c) (V3 m c) (V4 m c) (V5 m c) := by
  refine (dats m 0 c).arrAt_eq_of_covers 7 _ (by decide +kernel) fun t _ y => ?_
  blk_simp
  rw [after0_7, outs_dz]
  have ey : ((cfg0.win 7).blk t).view.emb y = ix2 (tr (tix t) (y 0)) (y 1) := by blk_ext [idx t]
  rw [ey]
  exact (congrArg _ (eq_ix2 y)).trans ((Tile.dzA_at (holds A t) (y 0) (y 1)).trans (Cert.BwdSguRefIdeal.Hand.dz_at A (tr (tix t) (y 0)) (y 1)).symm)

/-- The scale's gradient after the run. -/
theorem final8 : (dats m 0 c).arrAt 8 (cfgs 0).N = Cert.BwdSguRefIdeal.Read.val_main_v146 (F := Ideal) (V0 m c) (V3 m c) (V5 m c) := by
  refine (dats m 0 c).arrAt_eq_of_after_last 8 t0_15 (by decide +kernel) _ fun j => ?_
  blk_simp
  have ej : ∀ j : S1x1024.Idx, j = ix2 0 (j 1) := fun j => by blk_ext
  rw [after0_8, Pipeline.eq_sum_fin_of_reset_step_apply_last (fun n h => (outsAt0 m c n h).2.1) 16 (fun _ => 0)
    (fun t j => ((∑ r : Fin 256, (fun r => D.vh r (j 1) * D.dvn r (j 1)) (tr (tix t) r) : ℝ) : EReal))
    (fun t h j => by
      rw [outs_dlg]
      exact (congrArg _ (ej j)).trans ((Tile.dlgA_at (holds A t) _ (j 1)).trans (congrArg (· + _) (q8_first t h _))))
    (fun t h j => by
      rw [outs_dlg]
      exact (congrArg _ (ej j)).trans ((Tile.dlgA_at (holds A t) _ (j 1)).trans (congrArg (· + _) ((congrFun (q8_next t h) _).trans (congrArg _ (ej j).symm)))))
    (le_of_eq N_0) t0_15 rfl j, zero_add, rows_sum (fun r => D.vh r (j 1) * D.dvn r (j 1))]
  exact (Cert.BwdSguRefIdeal.Hand.dlg_at A (j 1)).symm.trans (congrArg _ (ej j).symm)

/-- The shift's gradient after the run. -/
theorem final9 : (dats m 0 c).arrAt 9 (cfgs 0).N = Cert.BwdSguRefIdeal.Read.val_main_v145 (F := Ideal) (V0 m c) (V3 m c) (V5 m c) := by
  refine (dats m 0 c).arrAt_eq_of_after_last 9 t0_15 (by decide +kernel) _ fun j => ?_
  blk_simp
  have ej : ∀ j : S1x1024.Idx, j = ix2 0 (j 1) := fun j => by blk_ext
  rw [after0_9, Pipeline.eq_sum_fin_of_reset_step_apply_last (fun n h => (outsAt0 m c n h).2.2.1) 16 (fun _ => 0)
    (fun t j => ((∑ r : Fin 256, (fun r => D.dvn r (j 1)) (tr (tix t) r) : ℝ) : EReal))
    (fun t h j => by
      rw [outs_dlb]
      exact (congrArg _ (ej j)).trans ((Tile.dlbA_at (holds A t) _ (j 1)).trans (congrArg (· + _) (q9_first t h _))))
    (fun t h j => by
      rw [outs_dlb]
      exact (congrArg _ (ej j)).trans ((Tile.dlbA_at (holds A t) _ (j 1)).trans (congrArg (· + _) ((congrFun (q9_next t h) _).trans (congrArg _ (ej j).symm)))))
    (le_of_eq N_0) t0_15 rfl j, zero_add, rows_sum (fun r => D.dvn r (j 1))]
  exact (Cert.BwdSguRefIdeal.Hand.dlb_at A (j 1)).symm.trans (congrArg _ (ej j).symm)

/-- The mixing weights' gradient after the run. -/
theorem final10 : (dats m 0 c).arrAt 10 (cfgs 0).N = Cert.BwdSguRefIdeal.Read.val_main_v176 (F := Ideal) (V0 m c) (V1 m c) (V2 m c) (V5 m c) := by
  refine (dats m 0 c).arrAt_eq_of_after_last 10 t0_15 (by decide +kernel) _ fun j => ?_
  blk_simp
  rw [after0_10, Pipeline.eq_sum_fin_of_reset_step_apply_last (fun n h => (outsAt0 m c n h).2.2.2.1) 16 (fun _ => 0)
    (fun t j => (((fun n => D.pdws n (gk (j 1)) (j 0) (lk (j 1))) (c0 (tix t)) : ℝ) : EReal) + (((fun n => D.pdws n (gk (j 1)) (j 0) (lk (j 1))) (c1 (tix t)) : ℝ) : EReal))
    (fun t h j => by
      rw [outs_dws]
      exact (congrArg _ (eq_ix2 j)).trans ((Tile.dwA_at (holds A t) _ _ (j 0) (j 1)).trans ((add_assoc _ _ _).trans (congrArg (· + _) (q10_first t h _)))))
    (fun t h j => by
      rw [outs_dws]
      exact (congrArg _ (eq_ix2 j)).trans ((Tile.dwA_at (holds A t) _ _ (j 0) (j 1)).trans ((add_assoc _ _ _).trans (congrArg (· + _) ((congrFun (q10_next t h) _).trans (congrArg _ (eq_ix2 j).symm))))))
    (le_of_eq N_0) t0_15 rfl j, zero_add, chunks_sum (fun n => D.pdws n (gk (j 1)) (j 0) (lk (j 1)))]
  refine (congrArg (fun r : ℝ => (r : EReal)) (Cert.SguMath.Data.dws_chunks D _ _ _)).trans ?_
  refine (Cert.BwdSguRefIdeal.Hand.dws_at A (j 0) (gk (j 1)) (lk (j 1))).symm.trans (congrArg _ ?_)
  refine Eq.trans (congrArg (ix2 (j 0)) (Fin.ext ?_)) (eq_ix2 j).symm
  show (j 1).val / 128 * 128 + (j 1).val % 128 = (j 1).val
  omega

/-- The mixing shifts' gradients, columns kept apart, after the last point. -/
theorem dsp_last (p : Fin 128) (k : Fin 1024) : ((outsAt0 m c t0_15.val t0_15.isLt).2.2.2.2.2 (ix2 p k) : EReal) = ((∑ n, D.dsp (row n p) k : ℝ) : EReal) := by
  rw [Pipeline.eq_sum_fin_of_reset_step_apply_last (fun n h => (outsAt0 m c n h).2.2.2.2.2) 16 (fun _ => 0)
    (fun t j => (((fun n => D.dsp (row n (j 0)) (j 1)) (c0 (tix t)) : ℝ) : EReal) + (((fun n => D.dsp (row n (j 0)) (j 1)) (c1 (tix t)) : ℝ) : EReal))
    (fun t h j => by
      rw [outs_dsp]
      exact (congrArg _ (eq_ix2 j)).trans ((Tile.spA_at (holds A t) _ _ (j 0) (j 1)).trans ((add_assoc _ _ _).trans (congrArg (· + _) (q12_first t h _)))))
    (fun t h j => by
      rw [outs_dsp]
      exact (congrArg _ (eq_ix2 j)).trans ((Tile.spA_at (holds A t) _ _ (j 0) (j 1)).trans ((add_assoc _ _ _).trans (congrArg (· + _) ((congrFun (q12_next t h) _).trans (congrArg _ (eq_ix2 j).symm))))))
    (le_of_eq N_0) t0_15 rfl (ix2 p k), zero_add, chunks_sum (fun n => D.dsp (row n (((ix2 p k)) 0)) (((ix2 p k)) 1))]
  rfl

/-- The mixing shifts' gradient after the run. -/
theorem final11 : (dats m 0 c).arrAt 11 (cfgs 0).N = Cert.BwdSguRefIdeal.Read.val_main_v179 (F := Ideal) (V0 m c) (V5 m c) := by
  refine (dats m 0 c).arrAt_eq_of_after_last 11 t0_15 (by decide +kernel) _ fun j => ?_
  blk_simp
  rw [after0_11]
  refine (congrFun (outs_dbs m c t0_15 (by decide) rfl) j).trans ?_
  refine (congrArg _ (eq_ix2 j)).trans ((Tile.dbA_at (holds A t0_15) _ (fun p k => ∑ n, D.dsp (row n p) k) (fun p k => ?_) (j 0) (j 1)).trans ?_)
  · rw [← dsp_last A p k, outs_dsp]
    exact (Tile.spA_at (holds A t0_15) _ _ p k).symm
  · refine Eq.trans ?_ ((Cert.BwdSguRefIdeal.Hand.dbsW_at A (j 0) (j 1)).symm.trans (congrArg _ (eq_ix2 j).symm))
    refine congrArg _ ?_
    split
    · exact Finset.sum_comm
    · rfl

end Cert.BwdSguIdeal.Hand

end
-- ==== Proof.SguClaim.lean ====
/- The gating unit's gradients: the predicate read back, and the claims. -/
module

public import proofs.«01_k».proof.Proof.SguRun

@[expose] public section

set_option maxRecDepth 16384

noncomputable section

namespace Cert.Pre_sgu_finite.Hand

open Idealize.ShloMosaic

/-- The predicate's shapes fit. -/
instance facts : Cert.Pre_sgu_finite.Facts where
  bcast_S_S1x4096x6144 := by decide
  reducesTo_S1x4096x6144_S_d0_1_2 := by decide
  h_S_ := by decide
  bcast_S_S1x1024 := by decide
  reducesTo_S1x1024_S_d0_1 := by decide
  bcast_S_S1x4x128x128 := by decide
  reducesTo_S1x4x128x128_S_d0_1_2_3 := by decide
  bcast_S_S1x4x128 := by decide
  reducesTo_S1x4x128_S_d0_1_2 := by decide
  bcast_S_S1x4096x1024 := by decide
  reducesTo_S1x4096x1024_S_d0_1_2 := by decide

variable (x0 : FVec Ideal S1x4096x6144 .f32) (x1 x2 : FVec Ideal S1x1024 .f32) (x3 : FVec Ideal S1x4x128x128 .f32)
  (x4 : FVec Ideal S1x4x128 .f32) (x5 : FVec Ideal S1x4096x1024 .f32)

/-- An element, as a real number. -/
abbrev re (x : EReal) : ℝ := x.toReal

/-- The arguments' rows as real numbers. -/
def data : Cert.SguMath.Data where
  u t j := re (x0 (ix3 0 t ⟨2048 + j.val, by omega⟩))
  v t j := re (x0 (ix3 0 t ⟨3072 + j.val, by omega⟩))
  lg j := re (x1 (ix2 0 j))
  lb j := re (x2 (ix2 0 j))
  ws g p q := re (x3 (ix4 0 g p q))
  bs g p := re (x4 (ix3 0 g p))
  dy t j := re (x5 (ix3 0 t j))

/-- Under the predicate the arguments are those real numbers. -/
theorem args (e : Cert.Pre_sgu_finite.fn (F := Ideal) x0 x1 x2 x3 x4 x5 = fun _ => 1#1) :
    Cert.BwdSguRefIdeal.Hand.Args x0 x1 x2 x3 x4 x5 (data x0 x1 x2 x3 x4 x5) := by
  obtain ⟨e, e5⟩ := Cert.Finite.and_split e
  obtain ⟨e, e4⟩ := Cert.Finite.and_split e
  obtain ⟨e, e3⟩ := Cert.Finite.and_split e
  obtain ⟨e, e2⟩ := Cert.Finite.and_split e
  obtain ⟨e0, e1⟩ := Cert.Finite.and_split e
  have r0 := Cert.Finite.real_of_all x0 _ _ _ e0
  have r1 := Cert.Finite.real_of_all x1 _ _ _ e1
  have r2 := Cert.Finite.real_of_all x2 _ _ _ e2
  have r3 := Cert.Finite.real_of_all x3 _ _ _ e3
  have r4 := Cert.Finite.real_of_all x4 _ _ _ e4
  have r5 := Cert.Finite.real_of_all x5 _ _ _ e5
  exact { u := fun t j => r0 _, v := fun t j => r0 _, lg := fun j => r1 _, lb := fun j => r2 _, ws := fun g p q => r3 _, bs := fun g p => r4 _, dy := fun t j => r5 _ }

end Cert.Pre_sgu_finite.Hand

namespace Cert.BwdSgu.Hand

open Idealize.ShloMosaic Idealize.ShloMosaic.TcCoe Idealize.SL.Sem

/-- The reference's arguments are the call's. -/
theorem agree (m : (ℓ : Loc Cert.BwdSguIdeal.nD Cert.BwdSguIdeal.τ Cert.BwdSguIdeal.sig) → Buf (Elt Ideal) ℓ)
    (m' : (ℓ : Loc Cert.BwdSguRefIdeal.nD Cert.BwdSguRefIdeal.τ Cert.BwdSguRefIdeal.sig) → Buf (Elt Ideal) ℓ) (c : Dev Cert.BwdSguIdeal.nD)
    (h : m' ((c : Thread Cert.BwdSguRefIdeal.nD Cert.BwdSguRefIdeal.τ).loc Cert.BwdSguRefIdeal.main_arg0) = Cert.BwdSguIdeal.Hand.V0 m c
      ∧ m' ((c : Thread Cert.BwdSguRefIdeal.nD Cert.BwdSguRefIdeal.τ).loc Cert.BwdSguRefIdeal.main_arg1) = Cert.BwdSguIdeal.Hand.V1 m c
      ∧ m' ((c : Thread Cert.BwdSguRefIdeal.nD Cert.BwdSguRefIdeal.τ).loc Cert.BwdSguRefIdeal.main_arg2) = Cert.BwdSguIdeal.Hand.V2 m c
      ∧ m' ((c : Thread Cert.BwdSguRefIdeal.nD Cert.BwdSguRefIdeal.τ).loc Cert.BwdSguRefIdeal.main_arg3) = Cert.BwdSguIdeal.Hand.V3 m c
      ∧ m' ((c : Thread Cert.BwdSguRefIdeal.nD Cert.BwdSguRefIdeal.τ).loc Cert.BwdSguRefIdeal.main_arg4) = Cert.BwdSguIdeal.Hand.V4 m c
      ∧ m' ((c : Thread Cert.BwdSguRefIdeal.nD Cert.BwdSguRefIdeal.τ).loc Cert.BwdSguRefIdeal.main_arg5) = Cert.BwdSguIdeal.Hand.V5 m c) :
    StableHlo.launchContents m' c (Proc.devRef .tc Cert.BwdSguRefIdeal.main_arg0) = Cert.BwdSguIdeal.Hand.V0 m c
      ∧ StableHlo.launchContents m' c (Proc.devRef .tc Cert.BwdSguRefIdeal.main_arg1) = Cert.BwdSguIdeal.Hand.V1 m c
      ∧ StableHlo.launchContents m' c (Proc.devRef .tc Cert.BwdSguRefIdeal.main_arg2) = Cert.BwdSguIdeal.Hand.V2 m c
      ∧ StableHlo.launchContents m' c (Proc.devRef .tc Cert.BwdSguRefIdeal.main_arg3) = Cert.BwdSguIdeal.Hand.V3 m c
      ∧ StableHlo.launchContents m' c (Proc.devRef .tc Cert.BwdSguRefIdeal.main_arg4) = Cert.BwdSguIdeal.Hand.V4 m c
      ∧ StableHlo.launchContents m' c (Proc.devRef .tc Cert.BwdSguRefIdeal.main_arg5) = Cert.BwdSguIdeal.Hand.V5 m c := h

set_option maxHeartbeats 4000000 in
/-- On finite arguments the call and the gradient of the forward lines give the same five arrays. -/
theorem algebraic : Cert.algebraic_BwdSguIdeal_BwdSguRefIdeal_pre_sgu_finite := by
  pair_intro
  · exact Cert.BwdSguIdeal.Value.run_blocks m g
  · rename' hagree => hag
    run_from Cert.BwdSguRefIdeal.Value.run m' g'
    · obtain ⟨e0, e1, e2, e3, e4, e5⟩ := agree m m' c (hag c)
      exact (Cert.BwdSguRefIdeal.Read.val_main_v182_eq (StableHlo.launchContents m' c)).trans (by rw [e0, e1, e2, e3, e4, e5]; exact (Cert.BwdSguIdeal.Hand.final7 (Cert.Pre_sgu_finite.Hand.args _ _ _ _ _ _ (hpre c))).symm)
    · obtain ⟨e0, e1, e2, e3, e4, e5⟩ := agree m m' c (hag c)
      exact (Cert.BwdSguRefIdeal.Read.val_main_v146_eq (StableHlo.launchContents m' c)).trans (by rw [e0, e3, e5]; exact (Cert.BwdSguIdeal.Hand.final8 (Cert.Pre_sgu_finite.Hand.args _ _ _ _ _ _ (hpre c))).symm)
    · obtain ⟨e0, e1, e2, e3, e4, e5⟩ := agree m m' c (hag c)
      exact (Cert.BwdSguRefIdeal.Read.val_main_v145_eq (StableHlo.launchContents m' c)).trans (by rw [e0, e3, e5]; exact (Cert.BwdSguIdeal.Hand.final9 (Cert.Pre_sgu_finite.Hand.args _ _ _ _ _ _ (hpre c))).symm)
    · obtain ⟨e0, e1, e2, e3, e4, e5⟩ := agree m m' c (hag c)
      exact (Cert.BwdSguRefIdeal.Read.val_main_v176_eq (StableHlo.launchContents m' c)).trans (by rw [e0, e1, e2, e5]; exact (Cert.BwdSguIdeal.Hand.final10 (Cert.Pre_sgu_finite.Hand.args _ _ _ _ _ _ (hpre c))).symm)
    · obtain ⟨e0, e1, e2, e3, e4, e5⟩ := agree m m' c (hag c)
      exact (Cert.BwdSguRefIdeal.Read.val_main_v179_eq (StableHlo.launchContents m' c)).trans (by rw [e0, e5]; exact (Cert.BwdSguIdeal.Hand.final11 (Cert.Pre_sgu_finite.Hand.args _ _ _ _ _ _ (hpre c))).symm)

/-- The gradient of the forward lines runs, and leaves its arguments. -/
theorem frame_ref : Cert.quiescent_BwdSguRefIdeal := by
  intro m g _
  run_from Cert.BwdSguRefIdeal.Value.run m g
  · exact fun _ => ⟨trivial, trivial, trivial, trivial, trivial, trivial⟩
  · exact sem_eq_zero_of_no_sems rfl _

/-- The two words given their values: the product of the smooth unit's two constants, and three halves of it. -/
theorem preserves : Cert.preserves_BwdSgu_BwdSguIdeal :=
  ⟨IdealRules.named_const.statement Cert.BwdSguIdeal.κ "k01" .f32 0x3D122279#32 ((80338380498831 / 2251799813685248 : ℝ) : EReal) rfl,
    IdealRules.named_const.statement Cert.BwdSguIdeal.κ "k01x" .f32 0x3D5B33B6#32 ((241015141496493 / 4503599627370496 : ℝ) : EReal) rfl⟩

end Cert.BwdSgu.Hand

end
-- ==== Proof.ConvMath.lean ====
/- The short convolution's gradients as sums: rows later and earlier, with nothing outside the sequence. -/
module

public import Idealize.ShloMosaic.Lib.Pointwise
public import Idealize.ShloMosaic.Lib.KernelVsHost

@[expose] public section

set_option maxRecDepth 16384

noncomputable section

namespace Cert.ConvMath

open Idealize.ShloMosaic

/-- A row of the sequence, and zero after its end. -/
def ext (f : Fin 4096 → EReal) (n : ℕ) : EReal := if h : n < 4096 then f ⟨n, h⟩ else 0

/-- The row `k` earlier, and zero before the start. -/
def bk (f : Fin 4096 → EReal) (k : ℕ) (t : Fin 4096) : EReal := if k ≤ t.val then f ⟨t.val - k, by omega⟩ else 0

theorem ext_lt (f : Fin 4096 → EReal) (t : Fin 4096) : ext f t.val = f t := dif_pos t.isLt

/-- A sum against rows earlier is a sum against rows later. -/
theorem shift_sum (x g : Fin 4096 → EReal) (k : ℕ) (hk : k ≤ 4096) : ∑ t, bk x k t * g t = ∑ t : Fin 4096, ext g (t.val + k) * x t := by
  have e1 : ∑ t, bk x k t * g t = ∑ n ∈ Finset.range 4096, (if k ≤ n then ext x (n - k) else 0) * ext g n := by
    rw [Finset.sum_range]
    refine Finset.sum_congr rfl fun t _ => ?_
    unfold bk
    rw [ext_lt]
    by_cases h : k ≤ t.val
    · rw [if_pos h, if_pos h, ← ext_lt x]
    · rw [if_neg h, if_neg h]
  have e2 : ∑ t : Fin 4096, ext g (t.val + k) * x t = ∑ n ∈ Finset.range 4096, ext g (n + k) * ext x n := by
    rw [Finset.sum_range]
    exact Finset.sum_congr rfl fun t _ => by rw [ext_lt]
  rw [e1, e2]
  obtain ⟨M, hM⟩ := Nat.exists_eq_add_of_le hk
  have a1 : ∑ n ∈ Finset.range 4096, (if k ≤ n then ext x (n - k) else 0) * ext g n = ∑ n ∈ Finset.range M, ext x n * ext g (k + n) := by
    rw [hM, Finset.sum_range_add, Finset.sum_eq_zero, zero_add]
    · refine Finset.sum_congr rfl fun n _ => ?_
      rw [if_pos (by omega), Nat.add_sub_cancel_left]
    · intro n hn
      rw [if_neg (by have := Finset.mem_range.mp hn; omega), zero_mul]
  have a2 : ∑ n ∈ Finset.range 4096, ext g (n + k) * ext x n = ∑ n ∈ Finset.range M, ext g (n + k) * ext x n := by
    rw [hM, Nat.add_comm k M, Finset.sum_range_add, Finset.sum_eq_zero (s := Finset.range k), add_zero]
    intro n _
    have : ext g (M + n + k) = 0 := dif_neg (by omega)
    rw [this, zero_mul]
  rw [a1, a2]
  exact Finset.sum_congr rfl fun n _ => by rw [mul_comm, Nat.add_comm]

/-- The input's gradient: four rows of the output's, each by its tap. -/
def dxa (w : Fin 4 → EReal) (g : Fin 4096 → EReal) (t : Fin 4096) : EReal :=
  w 0 * g t + w 1 * ext g (t.val + 1) + w 2 * ext g (t.val + 2) + w 3 * ext g (t.val + 3)

/-- A tap's gradient. -/
def dcw (x g : Fin 4096 → EReal) (k : ℕ) : EReal := ∑ t : Fin 4096, ext g (t.val + k) * x t

/-- A padded single row: the row at its place, the padding elsewhere. -/
theorem pad_row {lo hi : ℕ} {u : Shape} (x : (⟨2, ![1, 1024]⟩ : Shape).Idx → EReal) (v : u.Idx → EReal)
    (h : (⟨2, ![1, 1024]⟩ : Shape).Pads ![lo, 0] ![hi, 0] ![0, 0] ⟨2, ![4, 1024]⟩) (hu : 0 < u.numel) (k : Fin 4) (j : Fin 1024) :
    pad ⟨2, ![4, 1024]⟩ ![lo, 0] ![hi, 0] ![0, 0] x v h hu (ix2 k j) = if k.val = lo then x (ix2 0 j) else v (Shape.Idx.first hu) := by
  by_cases hk : k.val = lo
  · rw [if_pos hk]
    refine pad_apply_of_inside _ _ _ _ _ _ _ _ (ix2 0 j) fun a => ?_
    match a with
    | ⟨0, _⟩ => show k.val = lo + 0 * 1; omega
    | ⟨1, _⟩ => show j.val = 0 + j.val * 1; omega
  · rw [if_neg hk]
    refine pad_apply_of_not_inside _ _ _ _ _ _ _ _ 0 ?_
    rintro ⟨h1, -, h3⟩
    have h1' : lo ≤ k.val := h1
    have h3' : (k.val - lo) / 1 < 1 := h3
    omega

/-- Padded rows: a row at its place, the padding elsewhere. -/
theorem pad_rows {lo hi : ℕ} {u : Shape} (x : (⟨3, ![1, 4096, 1024]⟩ : Shape).Idx → EReal) (v : u.Idx → EReal)
    (h : (⟨3, ![1, 4096, 1024]⟩ : Shape).Pads ![0, lo, 0] ![0, hi, 0] ![0, 0, 0] ⟨3, ![1, 4099, 1024]⟩) (hu : 0 < u.numel) (n : Fin 4099) (j : Fin 1024) :
    pad ⟨3, ![1, 4099, 1024]⟩ ![0, lo, 0] ![0, hi, 0] ![0, 0, 0] x v h hu (ix3 0 n j)
      = if hn : lo ≤ n.val ∧ n.val - lo < 4096 then x (ix3 0 ⟨n.val - lo, hn.2⟩ j) else v (Shape.Idx.first hu) := by
  by_cases hn : lo ≤ n.val ∧ n.val - lo < 4096
  · rw [dif_pos hn]
    refine pad_apply_of_inside _ _ _ _ _ _ _ _ (ix3 0 ⟨n.val - lo, hn.2⟩ j) fun a => ?_
    match a with
    | ⟨0, _⟩ => rfl
    | ⟨1, _⟩ => show n.val = lo + (n.val - lo) * 1; omega
    | ⟨2, _⟩ => show j.val = 0 + j.val * 1; omega
  · rw [dif_neg hn]
    refine pad_apply_of_not_inside _ _ _ _ _ _ _ _ 1 ?_
    rintro ⟨h1, -, h3⟩
    have h1' : lo ≤ n.val := h1
    have h3' : (n.val - lo) / 1 < 4096 := h3
    omega

end Cert.ConvMath

end
-- ==== Proof.ConvTile.lean ====
/- The short convolution's gradients: a tile's values. -/
module

public import proofs.«01_k».proof.Proof.ConvMath
public import proofs.«01_k».proof.Proof.GatesMath
public import proofs.«01_k».proof.Proof.Gen.BwdConvIdeal.Value
public import Idealize.ShloMosaic.Lib.Pipeline.ValueKit

@[expose] public section

set_option maxRecDepth 16384

noncomputable section

namespace Cert.BwdConvIdeal.Hand

open Cert.BwdConvIdeal Cert.BwdConvIdeal.Gen Idealize.ShloMosaic Idealize.ShloMosaic.TcCoe Idealize.SL.Sem
open Cert.ConvMath

/-- The branch, the output's gradient and the taps. -/
structure Data where
  x : Fin 4096 → Fin 1024 → EReal
  g : Fin 4096 → Fin 1024 → EReal
  w : Fin 4 → Fin 1024 → EReal

/-- A row of a tile. -/
abbrev row (T : Fin 16) (r : Fin 256) : Fin 4096 := ⟨256 * T.val + r.val, by omega⟩

/-- A grid point's blocks, and the rows after the tile. -/
structure Tile where
  x0 : FVec Ideal S256x1024 .f32
  x1 : FVec Ideal S256x1024 .bf16
  x2 : FVec Ideal S4x1024 .f32
  hd : FVec Ideal S8x1024 .f32

namespace Tile

variable (b : Tile)

/-- The gradient's rows one, two and three later. -/
abbrev s1 : FVec Ideal S256x1024 .f32 := k0_pay18 (k0_pay14 (F := Ideal) b.x0) (k0_pay15 b.hd) k0_pay16 (k0_pay17 b.x0)
abbrev s2 : FVec Ideal S256x1024 .f32 := k0_pay20 (F := Ideal) (k0_pay8 b.x0) b.hd
abbrev s3 : FVec Ideal S256x1024 .f32 := k0_pay1 (F := Ideal) (k0_pay24 (k0_pay8 b.x0) b.hd) (k0_pay25 (k0_pay8 b.x0))
def dx : FVec Ideal S256x1024 .bf16 := k0_pay4 (F := Ideal) (k0_pay10 b.x2)
  (k0_pay21 (k0_pay8 b.x0) (k0_pay10 b.x2) b.hd (k0_pay12 b.x0 b.x2) (k0_pay14 b.x0) (k0_pay15 b.hd) k0_pay16 (k0_pay17 b.x0))
  (k0_pay24 (k0_pay8 b.x0) b.hd) (k0_pay25 (k0_pay8 b.x0))
def db (o : FVec Ideal S1x1024 .f32) : FVec Ideal S1x1024 .f32 := k0_pay9 (F := Ideal) b.x0 o
def ho : FVec Ideal S8x1024 .f32 := k0_pay3 (F := Ideal) (k0_pay8 b.x0)
def d0 (o : FVec Ideal S1x1024 .f32) : FVec Ideal S1x1024 .f32 := k0_pay13 (F := Ideal) b.x0 b.x1 o
def d1 (o : FVec Ideal S1x1024 .f32) : FVec Ideal S1x1024 .f32 :=
  k0_pay19 (F := Ideal) (k0_pay11 b.x1) (k0_pay14 b.x0) (k0_pay15 b.hd) k0_pay16 (k0_pay17 b.x0) o
def d2 (o : FVec Ideal S1x1024 .f32) : FVec Ideal S1x1024 .f32 := k0_pay22 (F := Ideal) (k0_pay8 b.x0) b.hd (k0_pay11 b.x1) o
def d3 (o : FVec Ideal S1x1024 .f32) : FVec Ideal S1x1024 .f32 :=
  k0_pay2 (F := Ideal) (k0_pay11 b.x1) (k0_pay24 (k0_pay8 b.x0) b.hd) (k0_pay25 (k0_pay8 b.x0)) o

/-- The blocks hold tile `T` of the arrays. -/
structure Holds (D : Data) (T : Fin 16) : Prop where
  x0 : ∀ r j, b.x0 (ix2 r j) = D.g (row T r) j
  x1 : ∀ r j, b.x1 (ix2 r j) = D.x (row T r) j
  x2 : ∀ k j, b.x2 (ix2 k j) = D.w k j
  hd : ∀ (p : Fin 8) j, b.hd (ix2 p j) = ext (D.g · j) (256 * T.val + 256 + p.val)

/-- A tile's first rows, for the tile before. -/
theorem ho_at {b : Tile} {D : Data} {T : Fin 16} (h : ∀ r j, b.x0 (ix2 r j) = D.g (row T r) j) (p : Fin 8) (j : Fin 1024) :
    b.ho (ix2 p j) = ext (D.g · j) (256 * T.val + p.val) := by
  unfold ho; pointwise [k0_pay3, k0_pay8]
  exact (h _ j).trans (ext_lt (D.g · j) (row T ⟨p.val, by omega⟩)).symm

variable {b} {D : Data} {T : Fin 16} (H : b.Holds D T) (r : Fin 256) (j : Fin 1024)
include H

theorem x0_at (n : ℕ) (h : n = 256 * T.val + r.val) : b.x0 (ix2 r j) = ext (D.g · j) n := by
  subst h; exact (H.x0 r j).trans (ext_lt (D.g · j) (row T r)).symm

/-- The gradient's rows `k` later, by the rows after the tile. -/
theorem sh_at (k n p : ℕ) (hn : n = 256 - k) (hp : p = 8 - k) (h0 : 0 < k) (h3 : k ≤ 3) :
    (if h : r.val < 248 then b.x0 (ix2 ⟨(r.val + 256 - n) % 256, Nat.mod_lt _ (by decide)⟩ j)
      else Scalar.select (IntOp.cmpi CmpIPredicate.sge (BitVec.ofNat 32 (r.val - 248)) (BitVec.ofNat 32 p))
        (b.hd (ix2 ⟨(r.val - 248 + 8 - p) % 8, Nat.mod_lt _ (by decide)⟩ j)) (b.x0 (ix2 ⟨(248 + (r.val - 248) + 256 - n) % 256, Nat.mod_lt _ (by decide)⟩ j)))
      = ext (D.g · j) (256 * T.val + r.val + k) := by
  subst hn hp
  by_cases h : r.val < 248
  · rw [dif_pos h]; exact x0_at H _ j _ (by dsimp only; omega)
  · rw [dif_neg h, Cert.GatesMath.sge_word _ _ (by omega) (by omega)]
    by_cases hk : 8 - k ≤ r.val - 248
    · rw [if_pos hk, H.hd]; exact congrArg (ext (D.g · j)) (by dsimp only; omega)
    · rw [if_neg hk]; exact x0_at H _ j _ (by dsimp only; omega)

theorem s1_at : b.s1 (ix2 r j) = ext (D.g · j) (256 * T.val + r.val + 1) := by
  pointwise [k0_pay18, k0_pay14, k0_pay15, k0_pay16, k0_pay17, k0_pay8]
  exact sh_at H r j 1 255 7 rfl rfl (by decide) (by decide)

theorem s2_at : b.s2 (ix2 r j) = ext (D.g · j) (256 * T.val + r.val + 2) := by
  pointwise [k0_pay20, k0_pay8]
  exact sh_at H r j 2 254 6 rfl rfl (by decide) (by decide)

theorem s3_at : b.s3 (ix2 r j) = ext (D.g · j) (256 * T.val + r.val + 3) := by
  pointwise [k0_pay1, k0_pay24, k0_pay25, k0_pay23, k0_pay8]
  exact sh_at H r j 3 253 5 rfl rfl (by decide) (by decide)

theorem db_at (o : FVec Ideal S1x1024 .f32) : b.db o (ix2 0 j) = o (ix2 0 j) + ∑ r : Fin 256, D.g (row T r) j := by
  unfold db; pointwise [k0_pay9, k0_pay8]
  exact congrArg (o (ix2 0 j) + ·) (Finset.sum_congr rfl fun r _ => H.x0 r j)

/-- A tap's share of a tile. -/
def _root_.Cert.BwdConvIdeal.Hand.Data.dw (D : Data) (T : Fin 16) (k : ℕ) (j : Fin 1024) : EReal :=
  ∑ r : Fin 256, ext (D.g · j) (256 * T.val + r.val + k) * D.x (row T r) j

theorem d0_at (o : FVec Ideal S1x1024 .f32) : b.d0 o (ix2 0 j) = o (ix2 0 j) + D.dw T 0 j := by
  unfold d0; pointwise [k0_pay13, k0_pay8, k0_pay11]
  exact congrArg (o (ix2 0 j) + ·) (Finset.sum_congr rfl fun r _ => congrArg₂ (· * ·) (x0_at H r j _ rfl) (H.x1 r j))

theorem d1_at (o : FVec Ideal S1x1024 .f32) : b.d1 o (ix2 0 j) = o (ix2 0 j) + D.dw T 1 j := by
  unfold d1; pointwise [k0_pay19, k0_pay11]
  exact congrArg (o (ix2 0 j) + ·) (Finset.sum_congr rfl fun r _ => congrArg₂ (· * ·) (s1_at H r j) (H.x1 r j))

theorem d2_at (o : FVec Ideal S1x1024 .f32) : b.d2 o (ix2 0 j) = o (ix2 0 j) + D.dw T 2 j := by
  unfold d2; pointwise [k0_pay22, k0_pay11]
  exact congrArg (o (ix2 0 j) + ·) (Finset.sum_congr rfl fun r _ => congrArg₂ (· * ·) (s2_at H r j) (H.x1 r j))

theorem d3_at (o : FVec Ideal S1x1024 .f32) : b.d3 o (ix2 0 j) = o (ix2 0 j) + D.dw T 3 j := by
  unfold d3; pointwise [k0_pay2, k0_pay11]
  exact congrArg (o (ix2 0 j) + ·) (Finset.sum_congr rfl fun r _ => congrArg₂ (· * ·) (s3_at H r j) (H.x1 r j))

theorem dx_at : b.dx (ix2 r j) = dxa (D.w · j) (D.g · j) (row T r) := by
  unfold dx; pointwise [k0_pay4, k0_pay21, k0_pay12, k0_pay10]
  have e8 : k0_pay8 (F := Ideal) b.x0 (ix2 r j) = D.g (row T r) j := by pointwise [k0_pay8]; exact H.x0 r j
  exact congrArg₂ (· + ·) (congrArg₂ (· + ·) (congrArg₂ (· + ·) (congrArg₂ (· * ·) (H.x2 0 j) e8) (congrArg₂ (· * ·) (H.x2 1 j) (s1_at H r j)))
    (congrArg₂ (· * ·) (H.x2 2 j) (s2_at H r j))) (congrArg₂ (· * ·) (H.x2 3 j) (s3_at H r j))

end Tile

end Cert.BwdConvIdeal.Hand

end
-- ==== Proof.ConvBlocks.lean ====
/- The short convolution's gradients: what the host hands to the call, and what a grid point leaves in the windows and carries on. -/
module

public import proofs.«01_k».proof.Proof.ConvTile
public import Idealize.ShloMosaic.Lib.Claim
public import Idealize.ShloMosaic.Lib.StableHlo.RunRead
public import Idealize.ShloMosaic.Lib.WritesUnit
public import Idealize.ShloMosaic.Lib.Pipeline.ReadBack

@[expose] public section

set_option maxRecDepth 16384

noncomputable section

namespace Cert.BwdConvIdeal.Hand

open Cert.BwdConvIdeal Cert.BwdConvIdeal.Gen Idealize.ShloMosaic Idealize.ShloMosaic.TcCoe Idealize.SL.Sem
open Idealize.ShloMosaic.Pipeline (Dat)
open Cert.ConvMath

variable (m : (ℓ : Loc nD τ sig) → Buf (Elt Ideal) ℓ) (c : Dev nD)

/-- The call's arguments. -/
abbrev V0 : FVec Ideal S1x4096x6144 .f32 := m ((c : Thread nD τ).loc main_arg0)
abbrev V1 : FVec Ideal S1x4x1024 .f32 := m ((c : Thread nD τ).loc main_arg1)
abbrev V3 : FVec Ideal S1x4096x1024 .f32 := m ((c : Thread nD τ).loc main_arg3)

/-- The arrays the gradients are stated of. -/
abbrev data : Data := ⟨fun t j => V0 m c (ix3 0 t ⟨j.val, by omega⟩), fun t j => V3 m c (ix3 0 t j), fun k j => V1 m c (ix3 0 k j)⟩

/-! What the host's lines hand to the call. -/

theorem z_host (r : Fin 4096) (j : Fin 6144) : ((V m c main_v2 : FVec Ideal S4096x6144 .bf16) (ix2 r j) : EReal) = V0 m c (ix3 0 r j) := by
  show StableHlo.after hostOps0 (fun b => m (c, b)) (Proc.tc.devRef main_v2) (ix2 r j) = _
  after_reads_simp
  pointwise

theorem g_host (r : Fin 4096) (j : Fin 1024) : ((V m c main_v0 : FVec Ideal S4096x1024 .f32) (ix2 r j) : EReal) = V3 m c (ix3 0 r j) := by
  show StableHlo.after hostOps0 (fun b => m (c, b)) (Proc.tc.devRef main_v0) (ix2 r j) = _
  after_reads_simp
  pointwise

theorem w_host (k : Fin 4) (j : Fin 1024) : ((V m c main_v3 : FVec Ideal S4x1024 .f32) (ix2 k j) : EReal) = V1 m c (ix3 0 k j) := by
  show StableHlo.after hostOps0 (fun b => m (c, b)) (Proc.tc.devRef main_v3) (ix2 k j) = _
  after_reads_simp
  pointwise

/-- The windows' block indices: the tiles run from the last to the first. -/
theorem idx : ∀ t : Fin cfg0.N, win0_0.index t = ![15 - t.val, 0] ∧ win0_1.index t = ![15 - t.val, 0] ∧ win0_2.index t = ![0, 0]
    ∧ win0_3.index t = ![15 - t.val, 0] ∧ win0_4.index t = ![0, 0] ∧ win0_5.index t = ![0, 0] :=
  (by decide +kernel : ∀ t : Fin grid0.N, _)

/-- The tile a grid point works on. -/
abbrev tix (t : Fin cfg0.N) : Fin 16 := ⟨15 - t.val, by omega⟩

abbrev b0 (t : Fin cfg0.N) : FVec Ideal S256x1024 .f32 := iblk m c 0 t
abbrev b1 (t : Fin cfg0.N) : FVec Ideal S256x1024 .bf16 := iblk m c 1 t
abbrev b2 (t : Fin cfg0.N) : FVec Ideal S4x1024 .f32 := iblk m c 2 t

theorem b0_at (t : Fin cfg0.N) (r : Fin 256) (j : Fin 1024) : (b0 m c t (ix2 r j) : EReal) = (data m c).g (row (tix t) r) j := by
  have e : (b0 m c t (ix2 r j) : EReal) = (V m c main_v0 : FVec Ideal S4096x1024 .f32) (ix2 (row (tix t) r) j) := by blk_ext [iblk, idx t]
  rw [e, g_host]

theorem b1_at (t : Fin cfg0.N) (r : Fin 256) (j : Fin 1024) : (b1 m c t (ix2 r j) : EReal) = (data m c).x (row (tix t) r) j := by
  have e : (b1 m c t (ix2 r j) : EReal) = (V m c main_v2 : FVec Ideal S4096x6144 .bf16) (ix2 (row (tix t) r) ⟨j.val, by omega⟩) := by blk_ext [iblk, idx t]
  rw [e, z_host]

theorem b2_at (t : Fin cfg0.N) (k : Fin 4) (j : Fin 1024) : (b2 m c t (ix2 k j) : EReal) = (data m c).w k j := by
  have e : (b2 m c t (ix2 k j) : EReal) = (V m c main_v3 : FVec Ideal S4x1024 .f32) (ix2 k j) := by blk_ext [iblk, idx t]
  rw [e, w_host]

/-- What a point finds: the taps' gradients, the shift's gradient and the rows after its tile, zero at the first. -/
def qw (t : Fin cfg0.N) : FVec Ideal S8x1024 .f32 := if t.val % 16 = 0 then k0_pay5 (F := Ideal) else (outsAt0 m c (t.val - 1) (Nat.lt_of_le_of_lt (Nat.sub_le _ _) t.isLt)).2.1
def qb (t : Fin cfg0.N) : FVec Ideal S1x1024 .f32 := if t.val % 16 = 0 then k0_pay6 (F := Ideal) else (outsAt0 m c (t.val - 1) (Nat.lt_of_le_of_lt (Nat.sub_le _ _) t.isLt)).2.2.1
def qh (t : Fin cfg0.N) : FVec Ideal S8x1024 .f32 := if t.val % 16 = 0 then k0_pay7 (F := Ideal) else (outsAt0 m c (t.val - 1) (Nat.lt_of_le_of_lt (Nat.sub_le _ _) t.isLt)).2.2.2

/-- A grid point's blocks with what it finds. -/
abbrev pt (t : Fin cfg0.N) : Tile := ⟨b0 m c t, b1 m c t, b2 m c t, qh m c t⟩

theorem outs_dx (t : Fin cfg0.N) : (outsAt0 m c t.val t.isLt).1 = (pt m c t).dx := by
  by_cases h : t.val % 16 = 0
  · rw [outsAt0_A m c t h]; frame_out; simp only [Tile.dx, qh, if_pos h]
  · rw [outsAt0_B m c t h]; frame_out; simp only [Tile.dx, qh, if_neg h, read_unread_whole]

theorem outs_db (t : Fin cfg0.N) : (outsAt0 m c t.val t.isLt).2.2.1 = (pt m c t).db (qb m c t) := by
  by_cases h : t.val % 16 = 0
  · rw [outsAt0_A m c t h]; frame_out; simp only [Tile.db, qb, if_pos h]
  · rw [outsAt0_B m c t h]; frame_out; simp only [Tile.db, qb, if_neg h]

theorem outs_ho (t : Fin cfg0.N) : (outsAt0 m c t.val t.isLt).2.2.2 = (pt m c t).ho := by
  by_cases h : t.val % 16 = 0
  · rw [outsAt0_A m c t h]; frame_out; simp only [Tile.ho]
  · rw [outsAt0_B m c t h]; frame_out; simp only [Tile.ho]

/-- Row `k` of an array of eight. -/
abbrev rw0 (o : FVec Ideal S8x1024 .f32) : FVec Ideal S1x1024 .f32 := View.ld (Val := Elt Ideal) (e' := .f32) o (Rect.unit (s := S8x1024) ![0, 0] S1x1024.size inb_S8x1024_S1x1024_0_0)
abbrev rw1 (o : FVec Ideal S8x1024 .f32) : FVec Ideal S1x1024 .f32 := View.ld (Val := Elt Ideal) (e' := .f32) o (Rect.unit (s := S8x1024) ![1, 0] S1x1024.size inb_S8x1024_S1x1024_1_0)
abbrev rw2 (o : FVec Ideal S8x1024 .f32) : FVec Ideal S1x1024 .f32 := View.ld (Val := Elt Ideal) (e' := .f32) o (Rect.unit (s := S8x1024) ![2, 0] S1x1024.size inb_S8x1024_S1x1024_2_0)
abbrev rw3 (o : FVec Ideal S8x1024 .f32) : FVec Ideal S1x1024 .f32 := View.ld (Val := Elt Ideal) (e' := .f32) o (Rect.unit (s := S8x1024) ![3, 0] S1x1024.size inb_S8x1024_S1x1024_3_0)

/-- Four single rows stored over an array. -/
theorem rows_at {κ : Kind} {sp : Space} (v : View sig κ sp S8x1024 .f32) (f : v.ty.Contents (Elt Ideal)) (L : List (View.Piece (Elt Ideal) S8x1024 .f32))
    (e0 e1 e2 e3 : FVec Ideal S1x1024 .f32) (k : Fin 8) (j : Fin 1024) :
    v.read (Elt Ideal) (v.writes (Elt Ideal) f (⟨Rect.unit (s := S8x1024) ![3, 0] S1x1024.size inb_S8x1024_S1x1024_3_0, e3⟩
      :: ⟨Rect.unit (s := S8x1024) ![2, 0] S1x1024.size inb_S8x1024_S1x1024_2_0, e2⟩ :: ⟨Rect.unit (s := S8x1024) ![1, 0] S1x1024.size inb_S8x1024_S1x1024_1_0, e1⟩
      :: ⟨Rect.unit (s := S8x1024) ![0, 0] S1x1024.size inb_S8x1024_S1x1024_0_0, e0⟩ :: L)) (ix2 k j)
      = if k.val = 3 then e3 (ix2 0 j) else if k.val = 2 then e2 (ix2 0 j) else if k.val = 1 then e1 (ix2 0 j) else if k.val = 0 then e0 (ix2 0 j)
        else v.read (Elt Ideal) (v.writes (Elt Ideal) f L) (ix2 k j) := by
  by_cases h3 : k.val = 3
  · rw [if_pos h3]; exact View.read_writes_cons_rows_of_mem v f _ e3 _ (ix2 k j) (ix2 0 j) rfl h3 rfl
  rw [if_neg h3]
  refine (View.read_writes_cons_rows_of_not_mem (o := 3) (W := 1) v f _ e3 _ (ix2 k j) rfl rfl (by show k.val < 3 ∨ 3 + 1 ≤ k.val; omega)).trans ?_
  by_cases h2 : k.val = 2
  · rw [if_pos h2]; exact View.read_writes_cons_rows_of_mem v f _ e2 _ (ix2 k j) (ix2 0 j) rfl h2 rfl
  rw [if_neg h2]
  refine (View.read_writes_cons_rows_of_not_mem (o := 2) (W := 1) v f _ e2 _ (ix2 k j) rfl rfl (by show k.val < 2 ∨ 2 + 1 ≤ k.val; omega)).trans ?_
  by_cases h1 : k.val = 1
  · rw [if_pos h1]; exact View.read_writes_cons_rows_of_mem v f _ e1 _ (ix2 k j) (ix2 0 j) rfl h1 rfl
  rw [if_neg h1]
  refine (View.read_writes_cons_rows_of_not_mem (o := 1) (W := 1) v f _ e1 _ (ix2 k j) rfl rfl (by show k.val < 1 ∨ 1 + 1 ≤ k.val; omega)).trans ?_
  by_cases h0 : k.val = 0
  · rw [if_pos h0]; exact View.read_writes_cons_rows_of_mem v f _ e0 _ (ix2 k j) (ix2 0 j) rfl h0 rfl
  rw [if_neg h0]
  exact View.read_writes_cons_rows_of_not_mem (o := 0) (W := 1) v f _ e0 _ (ix2 k j) rfl rfl (by show k.val < 0 ∨ 0 + 1 ≤ k.val; omega)

theorem outs_dw (t : Fin cfg0.N) (k : Fin 8) (j : Fin 1024) : (outsAt0 m c t.val t.isLt).2.1 (ix2 k j)
    = if k.val = 3 then (pt m c t).d3 (rw3 (qw m c t)) (ix2 0 j) else if k.val = 2 then (pt m c t).d2 (rw2 (qw m c t)) (ix2 0 j)
      else if k.val = 1 then (pt m c t).d1 (rw1 (qw m c t)) (ix2 0 j) else if k.val = 0 then (pt m c t).d0 (rw0 (qw m c t)) (ix2 0 j)
      else qw m c t (ix2 k j) := by
  by_cases h : t.val % 16 = 0
  · rw [outsAt0_A m c t h]; frame_out
    simp (discharger := decide) only [↓View.readCov_skip, ↓View.readCov_fill]
    simp only [Tile.d0, Tile.d1, Tile.d2, Tile.d3, qw, qh, if_pos h]
    refine ((View.read_writes_junk_apply_eq_canon (ms0_4 t).view (ix2 k j) _).symm.trans (rows_at (ms0_4 t).view _ _ _ _ _ _ k j)).trans ?_
    rw [View.read_writes_junk_apply_eq_canon, View.canon_cons_unit_lit _ _ _ (by decide)]
  · rw [outsAt0_B m c t h]; frame_out
    simp only [Tile.d0, Tile.d1, Tile.d2, Tile.d3, qw, qh, if_neg h, read_unread_whole]
    refine (rows_at (ms0_4 t).view _ _ _ _ _ _ k j).trans ?_
    rw [View.writes_nil, (hs0_4 t).read_unread]

end Cert.BwdConvIdeal.Hand

end
-- ==== Proof.ConvRef.lean ====
/- The short convolution's gradients by the differentiated forward lines, read element by element. -/
module

public import proofs.«01_k».proof.Proof.ConvMath
public import proofs.«01_k».proof.Proof.Sums
public import proofs.«01_k».proof.Proof.Gen.BwdConvRefIdeal.Read

@[expose] public section

set_option maxRecDepth 16384

noncomputable section

namespace Cert.BwdConvRefIdeal.Hand

open Cert.BwdConvRefIdeal Cert.BwdConvRefIdeal.Gen Cert.BwdConvRefIdeal.Read Idealize.ShloMosaic Idealize.ShloMosaic.TcCoe Idealize.SL.Sem
open Cert.ConvMath

variable (x0 : FVec Ideal S1x4096x6144 .f32) (x1 : FVec Ideal S1x4x1024 .f32) (x3 : FVec Ideal S1x4096x1024 .f32) (j : Fin 1024)

/-- A column of the branch, of the output's gradient, and of the taps. -/
abbrev xc : Fin 4096 → EReal := fun t => x0 (ix3 0 t ⟨j.val, by omega⟩)
abbrev gc : Fin 4096 → EReal := fun t => x3 (ix3 0 t j)
abbrev wc : Fin 4 → EReal := fun k => x1 (ix3 0 k j)

theorem z_at (i : S_.Idx) : (val_main_cst (F := Ideal)) i = 0 := Ideal.ofBits_zero .f32

theorem v4_at (n : Fin 4099) : val_main_v4 (F := Ideal) x0 (ix3 0 n j) = if h : 3 ≤ n.val then xc x0 j ⟨n.val - 3, by omega⟩ else 0 := by
  pointwise [val_main_v4, val_main_v3, val_main_v0]
  by_cases h : n.val < 3
  · rw [dif_pos h, dif_neg (by omega)]; exact z_at _
  · rw [dif_neg h, dif_pos (by omega)]

theorem v29_at (t : Fin 4096) : val_main_v29 (F := Ideal) x0 (ix3 0 t j) = bk (xc x0 j) 3 t := by
  pointwise [val_main_v29]
  rw [v4_at]
  unfold bk
  by_cases h : 3 ≤ t.val
  · exact (dif_pos (by dsimp only; omega)).trans ((congrArg (xc x0 j) (Fin.ext (by first | rfl | (dsimp only; omega)))).trans (if_pos h).symm)
  · rw [dif_neg (by dsimp only; omega), if_neg h]

theorem tap3_at : val_main_v44 (F := Ideal) x0 x3 (ix2 0 j) = dcw (xc x0 j) (gc x3 j) 3 := by
  pointwise [val_main_v44, val_main_v43]
  refine (Cert.Math.sum_first_two _ _ _ _).trans ?_
  rw [show (val_main_cst_2 (F := Ideal)) (Shape.Idx.first h_S_) = 0 from Ideal.ofBits_zero .f32, zero_add]
  pointwise [val_main_v40, val_main_v39, val_main_cst_1, val_main_v38, val_main_v37]
  simp only [v29_at, zero_add]
  exact shift_sum _ _ 3 (by decide)

theorem v22_at (t : Fin 4096) : val_main_v22 (F := Ideal) x0 (ix3 0 t j) = bk (xc x0 j) 2 t := by
  pointwise [val_main_v22]
  rw [v4_at]
  unfold bk
  by_cases h : 2 ≤ t.val
  · exact (dif_pos (by dsimp only; omega)).trans ((congrArg (xc x0 j) (Fin.ext (by first | rfl | (dsimp only; omega)))).trans (if_pos h).symm)
  · rw [dif_neg (by dsimp only; omega), if_neg h]

theorem tap2_at : val_main_v53 (F := Ideal) x0 x3 (ix2 0 j) = dcw (xc x0 j) (gc x3 j) 2 := by
  pointwise [val_main_v53, val_main_v52]
  refine (Cert.Math.sum_first_two _ _ _ _).trans ?_
  rw [show (val_main_cst_6 (F := Ideal)) (Shape.Idx.first h_S_) = 0 from Ideal.ofBits_zero .f32, zero_add]
  pointwise [val_main_v49, val_main_v48, val_main_cst_5, val_main_v47, val_main_v36]
  simp only [v22_at, zero_add]
  exact shift_sum _ _ 2 (by decide)

theorem v15_at (t : Fin 4096) : val_main_v15 (F := Ideal) x0 (ix3 0 t j) = bk (xc x0 j) 1 t := by
  pointwise [val_main_v15]
  rw [v4_at]
  unfold bk
  by_cases h : 1 ≤ t.val
  · exact (dif_pos (by dsimp only; omega)).trans ((congrArg (xc x0 j) (Fin.ext (by first | rfl | (dsimp only; omega)))).trans (if_pos h).symm)
  · rw [dif_neg (by dsimp only; omega), if_neg h]

theorem tap1_at : val_main_v64 (F := Ideal) x0 x3 (ix2 0 j) = dcw (xc x0 j) (gc x3 j) 1 := by
  pointwise [val_main_v64, val_main_v63]
  refine (Cert.Math.sum_first_two _ _ _ _).trans ?_
  rw [show (val_main_cst_10 (F := Ideal)) (Shape.Idx.first h_S_) = 0 from Ideal.ofBits_zero .f32, zero_add]
  pointwise [val_main_v60, val_main_v59, val_main_cst_9, val_main_v58, val_main_v36]
  simp only [v15_at, zero_add]
  exact shift_sum _ _ 1 (by decide)

theorem v6_at (t : Fin 4096) : val_main_v6 (F := Ideal) x0 (ix3 0 t j) = bk (xc x0 j) 0 t := by
  pointwise [val_main_v6]
  rw [v4_at]
  unfold bk
  by_cases h : 0 ≤ t.val
  · exact (dif_pos (by dsimp only; omega)).trans ((congrArg (xc x0 j) (Fin.ext (by first | rfl | (dsimp only; omega)))).trans (if_pos h).symm)
  · rw [dif_neg (by dsimp only; omega), if_neg h]

theorem tap0_at : val_main_v78 (F := Ideal) x0 x3 (ix2 0 j) = dcw (xc x0 j) (gc x3 j) 0 := by
  pointwise [val_main_v78, val_main_v77]
  refine (Cert.Math.sum_first_two _ _ _ _).trans ?_
  rw [show (val_main_cst_16 (F := Ideal)) (Shape.Idx.first h_S_) = 0 from Ideal.ofBits_zero .f32, zero_add]
  pointwise [val_main_v74, val_main_v73, val_main_cst_15, val_main_v72, val_main_v36]
  simp only [v6_at, zero_add]
  exact shift_sum _ _ 0 (by decide)

/-- The taps' gradients, with four rows of nothing below. -/
theorem dcw_at (k : Fin 8) : val_main_v92 (F := Ideal) x0 x3 (ix2 k j) = if k.val < 4 then dcw (xc x0 j) (gc x3 j) k.val else 0 := by
  unfold val_main_v92
  by_cases h : k.val < 4
  · rw [if_pos h]
    refine (pad_apply_of_inside _ _ _ _ _ _ _ _ (ix2 ⟨k.val, h⟩ j) fun a => ?_).trans ?_
    · match a with
      | ⟨0, _⟩ => show k.val = 0 + k.val * 1; omega
      | ⟨1, _⟩ => show j.val = 0 + j.val * 1; omega
    · obtain ⟨k, hk⟩ := k
      pointwise [val_main_v91, val_main_v86, val_main_v80, val_main_v66, val_main_v55]
      unfold val_main_v79 val_main_v65 val_main_v54 val_main_v45
      refine (congrArg₂ (· + ·) (congrArg₂ (· + ·) (congrArg₂ (· + ·) (pad_row _ _ _ _ ⟨k, h⟩ j) (pad_row _ _ _ _ ⟨k, h⟩ j)) (pad_row _ _ _ _ ⟨k, h⟩ j)) (pad_row _ _ _ _ ⟨k, h⟩ j)).trans ?_
      rw [tap3_at, tap2_at, tap1_at, tap0_at, show (val_main_cst_3 (F := Ideal)) (Shape.Idx.first h_S_) = 0 from Ideal.ofBits_zero .f32,
        show (val_main_cst_7 (F := Ideal)) (Shape.Idx.first h_S_) = 0 from Ideal.ofBits_zero .f32,
        show (val_main_cst_11 (F := Ideal)) (Shape.Idx.first h_S_) = 0 from Ideal.ofBits_zero .f32,
        show (val_main_cst_17 (F := Ideal)) (Shape.Idx.first h_S_) = 0 from Ideal.ofBits_zero .f32]
      dsimp only at h ⊢
      interval_cases k <;> simp
  · rw [if_neg h]
    refine (pad_apply_of_not_inside _ _ _ _ _ _ _ _ 0 ?_).trans ?_
    · rintro ⟨-, -, h3⟩
      have h3' : (k.val - 0) / 1 < 4 := h3
      omega
    · exact sitofp_zero (φ := .f32)

/-- The shift's gradient. -/
theorem dcb_at : val_main_v85 (F := Ideal) x3 (ix2 0 j) = ∑ t, gc x3 j t := by
  pointwise [val_main_v85, val_main_v71]
  refine (Cert.Math.sum_first_two _ _ _ _).trans ?_
  rw [show (val_main_cst_14 (F := Ideal)) (Shape.Idx.first h_S_) = 0 from Ideal.ofBits_zero .f32, zero_add]
  pointwise [val_main_v70, val_main_v69, val_main_cst_13, val_main_v36, val_main_v37]

theorem part3_at (t : Fin 4096) : val_main_v46 (F := Ideal) x1 x3 (ix3 0 ⟨3 + t.val, by omega⟩ j) = wc x1 j 3 * ext (gc x3 j) (t.val + 3) := by
  unfold val_main_v46 ext
  refine (pad_rows _ _ _ _ ⟨3 + t.val, by omega⟩ j).trans ?_
  by_cases h : t.val + 3 < 4096
  · rw [dif_pos (by dsimp only; omega), dif_pos h]
    pointwise [val_main_v42, val_main_v41, val_main_v32, val_main_v31, val_main_v30, val_main_v1, val_main_v37]
    exact (EReal.mul_comm _ _).trans (congrArg (fun n => wc x1 j 3 * gc x3 j n) (Fin.ext (by first | rfl | (dsimp only; omega))))
  · rw [dif_neg (by dsimp only; omega), dif_neg h, mul_zero]; exact Ideal.ofBits_zero .f32

theorem part2_at (t : Fin 4096) : val_main_v56 (F := Ideal) x1 x3 (ix3 0 ⟨3 + t.val, by omega⟩ j) = wc x1 j 2 * ext (gc x3 j) (t.val + 2) := by
  unfold val_main_v56 ext
  refine (pad_rows _ _ _ _ ⟨3 + t.val, by omega⟩ j).trans ?_
  by_cases h : t.val + 2 < 4096
  · rw [dif_pos (by dsimp only; omega), dif_pos h]
    pointwise [val_main_v51, val_main_v50, val_main_v25, val_main_v24, val_main_v23, val_main_v1, val_main_v36]
    exact (EReal.mul_comm _ _).trans (congrArg (fun n => wc x1 j 2 * gc x3 j n) (Fin.ext (by first | rfl | (dsimp only; omega))))
  · rw [dif_neg (by dsimp only; omega), dif_neg h, mul_zero]; exact Ideal.ofBits_zero .f32

theorem part1_at (t : Fin 4096) : val_main_v67 (F := Ideal) x1 x3 (ix3 0 ⟨3 + t.val, by omega⟩ j) = wc x1 j 1 * ext (gc x3 j) (t.val + 1) := by
  unfold val_main_v67 ext
  refine (pad_rows _ _ _ _ ⟨3 + t.val, by omega⟩ j).trans ?_
  by_cases h : t.val + 1 < 4096
  · rw [dif_pos (by dsimp only; omega), dif_pos h]
    pointwise [val_main_v62, val_main_v61, val_main_v18, val_main_v17, val_main_v16, val_main_v1, val_main_v36]
    exact (EReal.mul_comm _ _).trans (congrArg (fun n => wc x1 j 1 * gc x3 j n) (Fin.ext (by first | rfl | (dsimp only; omega))))
  · rw [dif_neg (by dsimp only; omega), dif_neg h, mul_zero]; exact Ideal.ofBits_zero .f32

theorem part0_at (t : Fin 4096) : val_main_v81 (F := Ideal) x1 x3 (ix3 0 ⟨3 + t.val, by omega⟩ j) = wc x1 j 0 * ext (gc x3 j) (t.val + 0) := by
  unfold val_main_v81 ext
  refine (pad_rows _ _ _ _ ⟨3 + t.val, by omega⟩ j).trans ?_
  by_cases h : t.val + 0 < 4096
  · rw [dif_pos (by dsimp only; omega), dif_pos h]
    pointwise [val_main_v76, val_main_v75, val_main_v9, val_main_v8, val_main_v7, val_main_v1, val_main_v36]
    exact (EReal.mul_comm _ _).trans (congrArg (fun n => wc x1 j 0 * gc x3 j n) (Fin.ext (by first | rfl | (dsimp only; omega))))
  · rw [dif_neg (by dsimp only; omega), dif_neg h, mul_zero]; exact Ideal.ofBits_zero .f32

/-- The input's gradient. -/
theorem dxa_at (t : Fin 4096) : val_main_v90 (F := Ideal) x1 x3 (ix2 t j) = dxa (wc x1 j) (gc x3 j) t := by
  have e87 : val_main_v87 (F := Ideal) x1 x3 (ix3 0 t ⟨j.val, by omega⟩) = val_main_v84 (F := Ideal) x1 x3 (ix3 0 t j) := by
    unfold val_main_v87
    refine pad_apply_of_inside _ _ _ _ _ _ _ _ (ix3 0 t j) fun a => ?_
    match a with
    | ⟨0, _⟩ => rfl
    | ⟨1, _⟩ => show t.val = 0 + t.val * 1; omega
    | ⟨2, _⟩ => show j.val = 0 + j.val * 1; omega
  have e84 : val_main_v84 (F := Ideal) x1 x3 (ix3 0 t j) = dxa (wc x1 j) (gc x3 j) t := by
    pointwise [val_main_v84, val_main_v82, val_main_v68, val_main_v57]
    refine (congrArg₂ (· + ·) (congrArg₂ (· + ·) (congrArg₂ (· + ·) (part3_at x1 x3 j t) (part2_at x1 x3 j t)) (part1_at x1 x3 j t)) ((part0_at x1 x3 j t).trans (congrArg (wc x1 j 0 * ·) (ext_lt _ t)))).trans ?_
    unfold dxa
    rw [add_comm, add_comm (_ + _) (wc x1 j 1 * _), add_comm (wc x1 j 3 * _)]
    simp only [add_assoc]
  rw [← e84, ← e87]
  pointwise [val_main_v90, val_main_v89, val_main_v88]

end Cert.BwdConvRefIdeal.Hand

end
-- ==== Proof.ConvRun.lean ====
/- The short convolution's gradients: the arrays after the run are the reference's, and the pair's claims. -/
module

public import proofs.«01_k».proof.Defs
public import proofs.«01_k».proof.Proof.ConvBlocks
public import proofs.«01_k».proof.Proof.ConvRef

@[expose] public section

set_option maxRecDepth 16384

noncomputable section

namespace Cert.BwdConvIdeal.Hand

open Cert.BwdConvIdeal Cert.BwdConvIdeal.Gen Idealize.ShloMosaic Idealize.ShloMosaic.TcCoe Idealize.SL.Sem
open Idealize.ShloMosaic.Pipeline (Dat)
open Cert.ConvMath

variable (m : (ℓ : Loc nD τ sig) → Buf (Elt Ideal) ℓ) (c : Dev nD)

/-- The rows a point finds are those after its tile. -/
theorem qh_at (t : Fin cfg0.N) (p : Fin 8) (j : Fin 1024) : qh m c t (ix2 p j) = ext ((data m c).g · j) (256 * (tix t).val + 256 + p.val) := by
  have hN : t.val < 16 := t.isLt
  unfold qh
  by_cases h : t.val % 16 = 0
  · rw [if_pos h]
    pointwise [k0_pay7]
    unfold ext
    rw [dif_neg (by omega)]
  · rw [if_neg h]
    refine (congrFun (outs_ho m c ⟨t.val - 1, Nat.lt_of_le_of_lt (Nat.sub_le _ _) t.isLt⟩) _).trans ?_
    refine (Tile.ho_at (D := data m c) (T := tix ⟨t.val - 1, Nat.lt_of_le_of_lt (Nat.sub_le _ _) t.isLt⟩) (fun r j => b0_at m c ⟨t.val - 1, Nat.lt_of_le_of_lt (Nat.sub_le _ _) t.isLt⟩ r j) p j).trans ?_
    exact congrArg (ext ((data m c).g · j)) (by dsimp only [tix]; omega)

/-- A point's blocks hold its tile's rows. -/
theorem holds (t : Fin cfg0.N) : (pt m c t).Holds (data m c) (tix t) where
  x0 := b0_at m c t
  x1 := b1_at m c t
  x2 := b2_at m c t
  hd := qh_at m c t

/-- A point adds its tile's share to the taps' gradients. -/
theorem dw_step (t : Fin cfg0.N) (k : Fin 8) (j : Fin 1024) :
    (outsAt0 m c t.val t.isLt).2.1 (ix2 k j) = qw m c t (ix2 k j) + if k.val < 4 then (data m c).dw (tix t) k.val j else 0 := by
  rw [outs_dw]
  obtain ⟨k, hk⟩ := k
  have r0 : rw0 (qw m c t) (ix2 0 j) = qw m c t (ix2 0 j) := by unfold rw0; pointwise
  have r1 : rw1 (qw m c t) (ix2 0 j) = qw m c t (ix2 1 j) := by unfold rw1; pointwise
  have r2 : rw2 (qw m c t) (ix2 0 j) = qw m c t (ix2 2 j) := by unfold rw2; pointwise
  have r3 : rw3 (qw m c t) (ix2 0 j) = qw m c t (ix2 3 j) := by unfold rw3; pointwise
  dsimp only
  by_cases h3 : k = 3
  · subst h3; rw [if_pos rfl, if_pos (by decide), Tile.d3_at (holds m c t), r3]; rfl
  by_cases h2 : k = 2
  · subst h2; rw [if_neg h3, if_pos rfl, if_pos (by decide), Tile.d2_at (holds m c t), r2]; rfl
  by_cases h1 : k = 1
  · subst h1; rw [if_neg h3, if_neg h2, if_pos rfl, if_pos (by decide), Tile.d1_at (holds m c t), r1]; rfl
  by_cases h0 : k = 0
  · subst h0; rw [if_neg h3, if_neg h2, if_neg h1, if_pos rfl, if_pos (by decide), Tile.d0_at (holds m c t), r0]; rfl
  rw [if_neg h3, if_neg h2, if_neg h1, if_neg h0, if_neg (by omega), add_zero]

/-- The tiles, from the last to the first, are all the rows. -/
theorem rows_sum (f : Fin 4096 → EReal) : ∑ t : Fin cfg0.N, ∑ r : Fin 256, f (row (tix t) r) = ∑ t, f t := by
  rw [Fin.sum_univ_tiles 16 256 rfl]
  show ∑ t : Fin 16, ∑ x : Fin 256, f (row (tix t) x) = _
  refine Fintype.sum_equiv Fin.revPerm _ _ fun t => Finset.sum_congr rfl fun x _ => congrArg f (Fin.ext ?_)
  simp only [Fin.revPerm_apply, Fin.val_rev, row, tix]
  have := t.isLt
  omega

theorem zero5_at (j : S8x1024.Idx) : k0_pay5 (F := Ideal) j = 0 := by pointwise [k0_pay5]
theorem zero6_at (j : S1x1024.Idx) : k0_pay6 (F := Ideal) j = 0 := by pointwise [k0_pay6]
theorem qw_first (t : Fin cfg0.N) (h : t.val % 16 = 0) (j : S8x1024.Idx) : qw m c t j = 0 := by unfold qw; rw [if_pos h]; exact zero5_at j
theorem qw_next (t : Fin cfg0.N) (h : ¬t.val % 16 = 0) : qw m c t = (outsAt0 m c (t.val - 1) (Nat.lt_of_le_of_lt (Nat.sub_le _ _) t.isLt)).2.1 := by unfold qw; rw [if_neg h]
theorem qb_first (t : Fin cfg0.N) (h : t.val % 16 = 0) (j : S1x1024.Idx) : qb m c t j = 0 := by unfold qb; rw [if_pos h]; exact zero6_at j
theorem qb_next (t : Fin cfg0.N) (h : ¬t.val % 16 = 0) : qb m c t = (outsAt0 m c (t.val - 1) (Nat.lt_of_le_of_lt (Nat.sub_le _ _) t.isLt)).2.2.1 := by unfold qb; rw [if_neg h]

/-- The input's gradient, tile by tile. -/
theorem final3 : (dats m 0 c).arrAt 3 (cfgs 0).N = Cert.BwdConvRefIdeal.Read.val_main_v90 (F := Ideal) (V1 m c) (V3 m c) := by
  refine (dats m 0 c).arrAt_eq_of_covers 3 _ (by decide +kernel) fun t _ y => ?_
  blk_simp
  rw [after0_3, outs_dx]
  have ey : ((cfg0.win 3).blk t).view.emb y = ix2 (row (tix t) (y 0)) (y 1) := by blk_ext [idx t]
  rw [ey]
  exact (congrArg _ (eq_ix2 y)).trans ((Tile.dx_at (holds m c t) (y 0) (y 1)).trans (Cert.BwdConvRefIdeal.Hand.dxa_at (V1 m c) (V3 m c) (y 1) (row (tix t) (y 0))).symm)

/-- The taps' gradients after the run. -/
theorem final4 : (dats m 0 c).arrAt 4 (cfgs 0).N = Cert.BwdConvRefIdeal.Read.val_main_v92 (F := Ideal) (V0 m c) (V3 m c) := by
  refine (dats m 0 c).arrAt_eq_of_after_last 4 t0_15 (by decide +kernel) _ fun j => ?_
  blk_simp
  rw [after0_4, Pipeline.eq_sum_fin_of_reset_step_apply_last (fun n h => (outsAt0 m c n h).2.1) 16 (fun _ => 0)
    (fun t j => if (j 0).val < 4 then (data m c).dw (tix t) (j 0).val (j 1) else 0)
    (fun t h j => (congrArg _ (eq_ix2 j)).trans ((dw_step m c t (j 0) (j 1)).trans (congrArg (· + _) (qw_first m c t h _))))
    (fun t h j => (congrArg _ (eq_ix2 j)).trans ((dw_step m c t (j 0) (j 1)).trans (congrArg (· + _) ((congrFun (qw_next m c t h) _).trans (congrArg _ (eq_ix2 j).symm)))))
    (le_of_eq N_0) t0_15 rfl j, zero_add]
  refine Eq.trans ?_ ((Cert.BwdConvRefIdeal.Hand.dcw_at (V0 m c) (V3 m c) (j 1) (j 0)).symm.trans (congrArg _ (eq_ix2 j).symm))
  by_cases hk : (j 0).val < 4
  · simp only [if_pos hk]
    exact rows_sum fun n => ext ((data m c).g · (j 1)) (n.val + (j 0).val) * (data m c).x n (j 1)
  · simp only [if_neg hk, Finset.sum_const_zero]

/-- The shift's gradient after the run. -/
theorem final5 : (dats m 0 c).arrAt 5 (cfgs 0).N = Cert.BwdConvRefIdeal.Read.val_main_v85 (F := Ideal) (V3 m c) := by
  refine (dats m 0 c).arrAt_eq_of_after_last 5 t0_15 (by decide +kernel) _ fun j => ?_
  blk_simp
  have ej : ∀ j : S1x1024.Idx, j = ix2 0 (j 1) := fun j => by blk_ext
  rw [after0_5, Pipeline.eq_sum_fin_of_reset_step_apply_last (fun n h => (outsAt0 m c n h).2.2.1) 16 (fun _ => 0)
    (fun t j => ∑ r : Fin 256, (data m c).g (row (tix t) r) (j 1))
    (fun t h j => by
      rw [outs_db]
      exact (congrArg _ (ej j)).trans ((Tile.db_at (holds m c t) (j 1) _).trans (congrArg (· + _) (qb_first m c t h _))))
    (fun t h j => by
      rw [outs_db]
      exact (congrArg _ (ej j)).trans ((Tile.db_at (holds m c t) (j 1) _).trans (congrArg (· + _) ((congrFun (qb_next m c t h) _).trans (congrArg _ (ej j).symm)))))
    (le_of_eq N_0) t0_15 rfl j, zero_add]
  exact (rows_sum fun n => (data m c).g n (j 1)).trans ((Cert.BwdConvRefIdeal.Hand.dcb_at (V3 m c) (j 1)).symm.trans (congrArg _ (ej j).symm))

end Cert.BwdConvIdeal.Hand

namespace Cert.BwdConv.Hand

open Idealize.ShloMosaic Idealize.ShloMosaic.TcCoe Idealize.SL.Sem

set_option maxHeartbeats 4000000 in
/-- The call and the gradient of the forward lines give the same three arrays. -/
theorem algebraic : Cert.algebraic_BwdConvIdeal_BwdConvRefIdeal := by
  pair_intro
  · exact Cert.BwdConvIdeal.Value.run_blocks m g
  · rename' hagree => hag
    run_from Cert.BwdConvRefIdeal.Value.run m' g'
    · have e1 : m' ((c : Thread Cert.BwdConvRefIdeal.nD Cert.BwdConvRefIdeal.τ).loc Cert.BwdConvRefIdeal.main_arg1) = Cert.BwdConvIdeal.Hand.V1 m c := (hag c).2.1
      have e3 : m' ((c : Thread Cert.BwdConvRefIdeal.nD Cert.BwdConvRefIdeal.τ).loc Cert.BwdConvRefIdeal.main_arg3) = Cert.BwdConvIdeal.Hand.V3 m c := (hag c).2.2.2
      exact (Cert.BwdConvRefIdeal.Read.val_main_v90_eq _ _).trans (by rw [e1, e3]; exact (Cert.BwdConvIdeal.Hand.final3 m c).symm)
    · have e0 : m' ((c : Thread Cert.BwdConvRefIdeal.nD Cert.BwdConvRefIdeal.τ).loc Cert.BwdConvRefIdeal.main_arg0) = Cert.BwdConvIdeal.Hand.V0 m c := (hag c).1
      have e3 : m' ((c : Thread Cert.BwdConvRefIdeal.nD Cert.BwdConvRefIdeal.τ).loc Cert.BwdConvRefIdeal.main_arg3) = Cert.BwdConvIdeal.Hand.V3 m c := (hag c).2.2.2
      exact (Cert.BwdConvRefIdeal.Read.val_main_v92_eq _ _).trans (by rw [e0, e3]; exact (Cert.BwdConvIdeal.Hand.final4 m c).symm)
    · have e3 : m' ((c : Thread Cert.BwdConvRefIdeal.nD Cert.BwdConvRefIdeal.τ).loc Cert.BwdConvRefIdeal.main_arg3) = Cert.BwdConvIdeal.Hand.V3 m c := (hag c).2.2.2
      exact (Cert.BwdConvRefIdeal.Read.val_main_v85_eq _).trans (by rw [e3]; exact (Cert.BwdConvIdeal.Hand.final5 m c).symm)

/-- The gradient of the forward lines runs, and leaves its arguments. -/
theorem frame_ref : Cert.quiescent_BwdConvRefIdeal := by
  intro m g _
  run_from Cert.BwdConvRefIdeal.Value.run m g
  · exact fun _ => ⟨trivial, trivial, trivial, trivial⟩
  · exact sem_eq_zero_of_no_sems rfl _

end Cert.BwdConv.Hand

end
-- ==== Proof.MergeMath.lean ====
/- The merge: its gate in the two forms the programs compute, and the quantities of its gradient. -/
module

public import Idealize.ShloMosaic.PureOps.Ideal.Laws
public import Idealize.ShloMosaic.Lib.ValueIdx

@[expose] public section

set_option maxRecDepth 16384

noncomputable section

namespace Cert.MergeMath

open Idealize.ShloMosaic

/-- The sigmoid, over the extended reals. -/
def sg (x : EReal) : EReal := Ideal.div 1 (1 + Ideal.exp (-x))

theorem half_bits : Ideal.ofBits .f32 0x3F000000#32 = ((1 / 2 : ℝ) : EReal) := by
  simp [Ideal.ofBits, Ideal.ieee]; rw [← EReal.coe_mul]; norm_num

theorem half_tanh (x : ℝ) : 1 / 2 + 1 / 2 * Real.tanh (1 / 2 * x) = (1 + Real.exp (-x))⁻¹ := by
  have h1 : Real.exp (-x) = (Real.exp (1 / 2 * x))⁻¹ * (Real.exp (1 / 2 * x))⁻¹ := by
    rw [← Real.exp_neg, ← Real.exp_add]; congr 1; ring
  have h2 := Real.exp_pos (1 / 2 * x)
  rw [Real.tanh_eq_sinh_div_cosh, Real.sinh_eq, Real.cosh_eq, Real.exp_neg (1 / 2 * x), h1]
  field_simp
  ring

/-- The gate by the hyperbolic tangent is the sigmoid, at the infinities too. -/
theorem gate_eq (x : EReal) : Ideal.ofBits .f32 0x3F000000#32
    + Ideal.ofBits .f32 0x3F000000#32 * Ideal.tanh (Ideal.ofBits .f32 0x3F000000#32 * x) = sg x := by
  rw [half_bits]
  have one : ((1 : ℝ) : EReal) = 1 := rfl
  induction x using EReal.rec with
  | bot =>
    rw [EReal.coe_mul_bot_of_pos (by norm_num)]
    show ((1 / 2 : ℝ) : EReal) + ((1 / 2 : ℝ) : EReal) * ((-1 : ℝ) : EReal) = Ideal.div 1 (1 + Ideal.exp (-⊥))
    rw [EReal.neg_bot, show Ideal.exp ⊤ = ⊤ from rfl, ← one, EReal.coe_add_top, ← EReal.coe_mul, ← EReal.coe_add]
    unfold Ideal.div
    rw [if_neg EReal.top_ne_zero, EReal.inv_top, mul_zero]
    norm_num
  | top =>
    rw [EReal.coe_mul_top_of_pos (by norm_num)]
    show ((1 / 2 : ℝ) : EReal) + ((1 / 2 : ℝ) : EReal) * ((1 : ℝ) : EReal) = Ideal.div 1 (1 + Ideal.exp (-⊤))
    rw [EReal.neg_top, show Ideal.exp ⊥ = 0 from rfl, add_zero, ← one, Ideal.div_coe one_ne_zero, ← EReal.coe_mul, ← EReal.coe_add, ← EReal.coe_mul]
    norm_num
  | coe r =>
    unfold sg
    rw [← EReal.coe_neg, ← EReal.coe_mul, Ideal.tanh_coe, ← EReal.coe_mul, ← EReal.coe_add, half_tanh, show Ideal.exp ((-r : ℝ) : EReal) = ((Real.exp (-r) : ℝ) : EReal) from rfl,
      ← one, ← EReal.coe_add, Ideal.div_coe (by positivity), ← EReal.coe_mul]
    congr 1
    ring

/-- The merge's arguments: the projection's output, the two units' results, the three square projections and the
    gradient of the merge's result after the last of them. -/
structure Data where
  z : Fin 4096 → Fin 6144 → EReal
  ya : Fin 4096 → Fin 1024 → EReal
  yb : Fin 4096 → Fin 1024 → EReal
  wa : Fin 1024 → Fin 1024 → EReal
  wb : Fin 1024 → Fin 1024 → EReal
  wo : Fin 1024 → Fin 1024 → EReal
  dh : Fin 4096 → Fin 1024 → EReal

namespace Data

variable (D : Data) (n : Fin 4096)

/-- The two projected results, and their gates. -/
def pa (j : Fin 1024) : EReal := ∑ k, D.ya n k * D.wa k j
def pb (j : Fin 1024) : EReal := ∑ k, D.yb n k * D.wb k j
def sa (j : Fin 1024) : EReal := sg (D.z n ⟨4096 + j.val, by omega⟩)
def sb (j : Fin 1024) : EReal := sg (D.z n ⟨5120 + j.val, by omega⟩)
/-- The merged row. -/
def mg (j : Fin 1024) : EReal := D.sa n j * D.pa n j + D.sb n j * D.pb n j
/-- The merged row's gradient, and those of the projected results, the gates' arguments and the units' results. -/
def dm (j : Fin 1024) : EReal := ∑ k, D.dh n k * D.wo j k
def dpa (j : Fin 1024) : EReal := D.dm n j * D.sa n j
def dpb (j : Fin 1024) : EReal := D.dm n j * D.sb n j
def dza (j : Fin 1024) : EReal := D.dpa n j * D.pa n j * (1 - D.sa n j)
def dzb (j : Fin 1024) : EReal := D.dpb n j * D.pb n j * (1 - D.sb n j)
def dya (j : Fin 1024) : EReal := ∑ k, D.dpa n k * D.wa j k
def dyb (j : Fin 1024) : EReal := ∑ k, D.dpb n k * D.wb j k
/-- The gates' arguments' gradients side by side. -/
def dz (k : Fin 2048) : EReal := if h : k.val < 1024 then D.dza n ⟨k.val, h⟩ else D.dzb n ⟨k.val - 1024, by omega⟩

end Data

end Cert.MergeMath

end
-- ==== Proof.MergeRef.lean ====
/- The merge's gradient by the differentiated forward lines, read as the quantities of MergeMath. -/
module

public import proofs.«01_k».proof.Proof.MergeMath
public import proofs.«01_k».proof.Proof.Gen.BwdMergeRefIdeal.Read
public import Idealize.ShloMosaic.Lib.Pointwise
public import Idealize.ShloMosaic.Lib.KernelVsHost

@[expose] public section

set_option maxRecDepth 16384

noncomputable section

namespace Cert.BwdMergeRefIdeal.Hand

open Cert.BwdMergeRefIdeal Cert.BwdMergeRefIdeal.Gen Cert.BwdMergeRefIdeal.Read Idealize.ShloMosaic Idealize.ShloMosaic.TcCoe Idealize.SL.Sem
open Cert.MergeMath

variable (x0 : FVec Ideal S1x4096x6144 .f32) (x1 x2 : FVec Ideal S1x4096x1024 .f32) (x3 x4 x5 : FVec Ideal S1x1024x1024 .f32)
  (x6 : FVec Ideal S1x4096x1024 .f32)

/-- The arguments' elements. -/
def dat : Data := ⟨fun n j => x0 (ix3 0 n j), fun n j => x1 (ix3 0 n j), fun n j => x2 (ix3 0 n j), fun k j => x3 (ix3 0 k j),
  fun k j => x4 (ix3 0 k j), fun k j => x5 (ix3 0 k j), fun n j => x6 (ix3 0 n j)⟩

variable (n : Fin 4096) (j : Fin 1024)

theorem sa_at : val_main_v7 (F := Ideal) x0 (ix3 0 n j) = (dat x0 x1 x2 x3 x4 x5 x6).sa n j := by
  pointwise [val_main_v7, val_main_v6, val_main_cst_1, val_main_v5, val_main_v4, val_main_cst_0, val_main_v3, val_main_v2, val_main_v1]
  rfl

theorem sb_at : val_main_v21 (F := Ideal) x0 (ix3 0 n j) = (dat x0 x1 x2 x3 x4 x5 x6).sb n j := by
  pointwise [val_main_v21, val_main_v20, val_main_cst_4, val_main_v19, val_main_v18, val_main_cst_3, val_main_v17, val_main_v16, val_main_v15]
  rfl

theorem pa_at : val_main_v13 (F := Ideal) x1 x3 (ix3 0 n j) = (dat x0 x1 x2 x3 x4 x5 x6).pa n j := by
  pointwise [val_main_v13, val_main_v12, val_main_v11, val_main_v0, val_main_cst]
  rfl

theorem pb_at : val_main_v27 (F := Ideal) x2 x4 (ix3 0 n j) = (dat x0 x1 x2 x3 x4 x5 x6).pb n j := by
  pointwise [val_main_v27, val_main_v26, val_main_v25, val_main_v0, val_main_cst]
  rfl

theorem mg_at : val_main_v50 (F := Ideal) x0 x1 x2 x3 x4 (ix2 n j) = (dat x0 x1 x2 x3 x4 x5 x6).mg n j := by
  pointwise [val_main_v50, val_main_v49, val_main_v29, val_main_v28, val_main_v14]
  rw [sa_at x0 x1 x2 x3 x4 x5 x6, sb_at x0 x1 x2 x3 x4 x5 x6, pa_at x0 x1 x2 x3 x4 x5 x6, pb_at x0 x1 x2 x3 x4 x5 x6]; rfl

theorem dm_at : val_main_v32 (F := Ideal) x5 x6 (ix3 0 n j) = (dat x0 x1 x2 x3 x4 x5 x6).dm n j := by
  pointwise [val_main_v32, val_main_v30]
  rfl

theorem dpa_at : val_main_v38 (F := Ideal) x0 x5 x6 (ix3 0 n j) = (dat x0 x1 x2 x3 x4 x5 x6).dpa n j := by
  pointwise [val_main_v38]
  rw [sa_at x0 x1 x2 x3 x4 x5 x6, dm_at x0 x1 x2 x3 x4 x5 x6]; exact EReal.mul_comm _ _

theorem dpb_at : val_main_v33 (F := Ideal) x0 x5 x6 (ix3 0 n j) = (dat x0 x1 x2 x3 x4 x5 x6).dpb n j := by
  pointwise [val_main_v33]
  rw [sb_at x0 x1 x2 x3 x4 x5 x6, dm_at x0 x1 x2 x3 x4 x5 x6]; exact EReal.mul_comm _ _

theorem dya_at : val_main_v47 (F := Ideal) x0 x3 x5 x6 (ix2 n j) = (dat x0 x1 x2 x3 x4 x5 x6).dya n j := by
  pointwise [val_main_v47, val_main_v40, val_main_v11, dpa_at x0 x1 x2 x3 x4 x5 x6]
  rfl

theorem dyb_at : val_main_v48 (F := Ideal) x0 x4 x5 x6 (ix2 n j) = (dat x0 x1 x2 x3 x4 x5 x6).dyb n j := by
  pointwise [val_main_v48, val_main_v35, val_main_v25, dpb_at x0 x1 x2 x3 x4 x5 x6]
  rfl

theorem dpaB_at : val_main_v52 (F := Ideal) x0 x5 x6 (ix2 n j) = (dat x0 x1 x2 x3 x4 x5 x6).dpa n j := by
  pointwise [val_main_v52, val_main_v51, dpa_at x0 x1 x2 x3 x4 x5 x6]

theorem dpbB_at : val_main_v54 (F := Ideal) x0 x5 x6 (ix2 n j) = (dat x0 x1 x2 x3 x4 x5 x6).dpb n j := by
  pointwise [val_main_v54, val_main_v53, dpb_at x0 x1 x2 x3 x4 x5 x6]

theorem dh_at : val_main_v56 (F := Ideal) x6 (ix2 n j) = (dat x0 x1 x2 x3 x4 x5 x6).dh n j := by
  pointwise [val_main_v56, val_main_v55]
  rfl

/-- The sigmoid's derivative in the two orders of its factors. -/
theorem gate_ct (d s p : EReal) : d * p * (s * (1 - s)) = d * s * p * (1 - s) := by
  rw [← mul_assoc, mul_right_comm d p s]

theorem dza_at : val_main_v41 (F := Ideal) x0 x1 x3 x5 x6 (ix3 0 n j) = (dat x0 x1 x2 x3 x4 x5 x6).dza n j := by
  pointwise [val_main_v41, val_main_v39, val_main_v10, val_main_v9, val_main_v8, val_main_cst_2]
  rw [sa_at x0 x1 x2 x3 x4 x5 x6, dm_at x0 x1 x2 x3 x4 x5 x6, pa_at x0 x1 x2 x3 x4 x5 x6]; exact gate_ct _ _ _

theorem dzb_at : val_main_v36 (F := Ideal) x0 x2 x4 x5 x6 (ix3 0 n j) = (dat x0 x1 x2 x3 x4 x5 x6).dzb n j := by
  pointwise [val_main_v36, val_main_v34, val_main_v24, val_main_v23, val_main_v22, val_main_cst_5]
  rw [sb_at x0 x1 x2 x3 x4 x5 x6, dm_at x0 x1 x2 x3 x4 x5 x6, pb_at x0 x1 x2 x3 x4 x5 x6]; exact gate_ct _ _ _

theorem dz_at (k : Fin 2048) : val_main_v46 (F := Ideal) x0 x1 x2 x3 x4 x5 x6 (ix2 n k) = (dat x0 x1 x2 x3 x4 x5 x6).dz n k := by
  pointwise [val_main_v46, val_main_v45, val_main_v44, val_main_v43]
  by_cases h : k.val < 1024
  · rw [Data.dz, dif_pos h]
    refine (congrArg₂ (· + ·) (pad_apply_of_not_inside _ _ _ _ _ _ _ _ 2 ?_) ((pad_apply_of_inside _ _ _ _ _ _ _ _ (ix3 0 n ⟨k.val, h⟩) fun a => ?_).trans
      (dza_at x0 x1 x2 x3 x4 x5 x6 n ⟨k.val, h⟩))).trans ?_
    · rintro ⟨h1, -, -⟩
      have h1' : 5120 ≤ 4096 + k.val := h1
      omega
    · match a with
      | ⟨0, _⟩ => rfl
      | ⟨1, _⟩ => show n.val = 0 + n.val * 1; omega
      | ⟨2, _⟩ => show 4096 + k.val = 4096 + k.val * 1; omega
    · exact (congrArg (· + _) (Ideal.ofBits_zero .f32)).trans (zero_add _)
  · rw [Data.dz, dif_neg h]
    refine (congrArg₂ (· + ·) ((pad_apply_of_inside _ _ _ _ _ _ _ _ (ix3 0 n ⟨k.val - 1024, by omega⟩) fun a => ?_).trans
      (dzb_at x0 x1 x2 x3 x4 x5 x6 n ⟨k.val - 1024, by omega⟩)) (pad_apply_of_not_inside _ _ _ _ _ _ _ _ 2 ?_)).trans ?_
    · match a with
      | ⟨0, _⟩ => rfl
      | ⟨1, _⟩ => show n.val = 0 + n.val * 1; omega
      | ⟨2, _⟩ => show 4096 + k.val = 5120 + (k.val - 1024) * 1; omega
    · rintro ⟨-, -, h3⟩
      have h3' : (4096 + k.val - 4096) / 1 < 1024 := h3
      omega
    · exact (congrArg (_ + ·) (Ideal.ofBits_zero .f32)).trans (add_zero _)

end Cert.BwdMergeRefIdeal.Hand

end
-- ==== Proof.MergeTile.lean ====
/- One grid point of the merge's gradient: its blocks, and what it computes from them. -/
module

public import proofs.«01_k».proof.Proof.MergeRef
public import proofs.«01_k».proof.Proof.Gen.BwdMergeIdeal.Value
public import Idealize.ShloMosaic.Lib.Pointwise
public import Idealize.ShloMosaic.Lib.StableHlo.RunRead
public import Idealize.ShloMosaic.Lib.Pipeline.ReadBack
public import Idealize.ShloMosaic.Lib.Pipeline.ValueKit

@[expose] public section

set_option maxRecDepth 16384

noncomputable section

namespace Cert.BwdMergeIdeal.Hand

open Cert.BwdMergeIdeal Cert.BwdMergeIdeal.Gen Idealize.ShloMosaic Idealize.ShloMosaic.TcCoe Idealize.SL.Sem
open Cert.MergeMath

/-- The array row of a tile's row. -/
abbrev row (T : Fin 16) (r : Fin 256) : Fin 4096 := ⟨256 * T.val + r.val, by omega⟩

/-- What a point reads: its blocks in the windows' order. -/
structure Tile where
  x0 : Vec Ideal S256x1024 .f32
  x1 : Vec Ideal S256x1024 .f32
  x2 : Vec Ideal S256x1024 .f32
  x3 : Vec Ideal S256x2048 .bf16
  x4 : Vec Ideal S1024x1024 .bf16
  x5 : Vec Ideal S1024x1024 .bf16
  x6 : Vec Ideal S1024x1024 .bf16

namespace Tile

variable (b : Tile)

/-- The merged rows' gradient and the two gates. -/
def dm : FVec Ideal S256x1024 .f32 := k0_pay10 (F := Ideal) b.x0 b.x6
def sa : FVec Ideal S256x1024 .f32 := k0_pay13 (F := Ideal) (View.ld b.x3 r0_2)
def sb : FVec Ideal S256x1024 .f32 := k0_pay14 (F := Ideal) (View.ld b.x3 r0_3)

/-- The blocks hold the data of tile `T`. -/
structure Holds (D : Data) (T : Fin 16) : Prop where
  dh : ∀ r j, b.x0 (ix2 r j) = D.dh (row T r) j
  pa : ∀ r j, b.x1 (ix2 r j) = D.pa (row T r) j
  pb : ∀ r j, b.x2 (ix2 r j) = D.pb (row T r) j
  z : ∀ r (k : Fin 2048), b.x3 (ix2 r k) = D.z (row T r) ⟨4096 + k.val, by omega⟩
  wa : ∀ k j, b.x4 (ix2 k j) = D.wa k j
  wb : ∀ k j, b.x5 (ix2 k j) = D.wb k j
  wo : ∀ k j, b.x6 (ix2 k j) = D.wo k j

variable {b} {D : Data} {T : Fin 16} (H : b.Holds D T) (r : Fin 256) (j : Fin 1024)
include H

theorem dm_at : b.dm (ix2 r j) = D.dm (row T r) j := by
  unfold dm
  pointwise [k0_pay10, k0_pay9, H.dh, H.wo]
  rfl

theorem sa_at : b.sa (ix2 r j) = D.sa (row T r) j := by
  unfold sa
  pointwise [k0_pay13]
  exact (congrArg (fun x => Ideal.ofBits .f32 0x3F000000#32 + Ideal.ofBits .f32 0x3F000000#32 * Ideal.tanh (Ideal.ofBits .f32 0x3F000000#32 * x)) (H.z r ⟨j.val, by omega⟩)).trans (gate_eq _)

theorem sb_at : b.sb (ix2 r j) = D.sb (row T r) j := by
  unfold sb
  pointwise [k0_pay14]
  exact (congrArg (fun x => Ideal.ofBits .f32 0x3F000000#32 + Ideal.ofBits .f32 0x3F000000#32 * Ideal.tanh (Ideal.ofBits .f32 0x3F000000#32 * x)) (H.z r ⟨1024 + j.val, by omega⟩)).trans ((gate_eq _).trans (congrArg (fun k => sg (D.z _ k)) (Fin.ext (by dsimp only; omega))))

theorem dpa_at : k0_pay5 (F := Ideal) b.dm b.sa (ix2 r j) = D.dpa (row T r) j := by
  pointwise [k0_pay5, k0_pay1, dm_at H, sa_at H, Data.dpa]
theorem dpb_at : k0_pay6 (F := Ideal) b.dm b.sb (ix2 r j) = D.dpb (row T r) j := by
  pointwise [k0_pay6, k0_pay2, dm_at H, sb_at H, Data.dpb]
theorem dza_at : k0_pay3 (F := Ideal) b.dm (k0_pay11 b.x1) b.sa (ix2 r j) = D.dza (row T r) j := by
  pointwise [k0_pay3, k0_pay11, k0_pay1, dm_at H, sa_at H, H.pa, Data.dza, Data.dpa]
theorem dzb_at : k0_pay4 (F := Ideal) b.dm (k0_pay12 b.x2) b.sb (ix2 r j) = D.dzb (row T r) j := by
  pointwise [k0_pay4, k0_pay12, k0_pay2, dm_at H, sb_at H, H.pb, Data.dzb, Data.dpb]
theorem dya_at : k0_pay7 (F := Ideal) b.dm b.sa b.x4 (ix2 r j) = D.dya (row T r) j := by
  pointwise [k0_pay7, dpa_at H, H.wa, Data.dya]
theorem dyb_at : k0_pay8 (F := Ideal) b.dm b.sb b.x5 (ix2 r j) = D.dyb (row T r) j := by
  pointwise [k0_pay8, dpb_at H, H.wb, Data.dyb]
theorem dh_at : k0_pay9 (F := Ideal) b.x0 (ix2 r j) = D.dh (row T r) j := by
  pointwise [k0_pay9, H.dh]
theorem mg_at : k0_pay15 (F := Ideal) b.x1 b.x2 (View.ld b.x3 r0_2) (View.ld b.x3 r0_3) (ix2 r j) = D.mg (row T r) j := by
  pointwise [k0_pay15, k0_pay11, k0_pay12]
  rw [H.pa, H.pb]
  exact congrArg₂ (· + ·) (congrArg (· * _) (sa_at H r j)) (congrArg (· * _) (sb_at H r j))

/-! ### What a point leaves in its windows. -/

theorem out8_at : out0_8 (F := Ideal) b.x0 b.x1 b.x2 b.x3 b.x4 b.x5 b.x6 (ix2 r j) = D.dya (row T r) j := by
  unfold_out out0_8
  frame_out
  exact dya_at H r j
theorem out9_at : out0_9 (F := Ideal) b.x0 b.x1 b.x2 b.x3 b.x4 b.x5 b.x6 (ix2 r j) = D.dyb (row T r) j := by
  unfold_out out0_9
  frame_out
  exact dyb_at H r j
theorem out10_at : out0_10 (F := Ideal) b.x0 b.x1 b.x2 b.x3 b.x4 b.x5 b.x6 (ix2 r j) = D.mg (row T r) j := by
  unfold_out out0_10
  frame_out
  exact mg_at H r j
theorem out11_at : out0_11 (F := Ideal) b.x0 b.x1 b.x2 b.x3 b.x4 b.x5 b.x6 (ix2 r j) = D.dpa (row T r) j := by
  unfold_out out0_11
  frame_out
  exact dpa_at H r j
theorem out12_at : out0_12 (F := Ideal) b.x0 b.x1 b.x2 b.x3 b.x4 b.x5 b.x6 (ix2 r j) = D.dpb (row T r) j := by
  unfold_out out0_12
  frame_out
  exact dpb_at H r j
theorem out13_at : out0_13 (F := Ideal) b.x0 b.x1 b.x2 b.x3 b.x4 b.x5 b.x6 (ix2 r j) = D.dh (row T r) j := by
  unfold_out out0_13
  frame_out
  exact dh_at H r j

omit H in
/-- A piece of the two side by side. -/
theorem dz_piece (D : Data) (T : Fin 16) (o : ℕ) (P : FVec Ideal S256x1024 .bf16) (f : Fin 4096 → Fin 1024 → EReal)
    (hP : ∀ r j, P (ix2 r j) = f (row T r) j)
    (hf : ∀ n (k : Fin 2048) (j : Fin 1024), k.val = o + j.val → D.dz n k = f n j)
    (y : S256x2048.Idx) (x : S256x1024.Idx) (h0 : (y 0 : ℕ) = (x 0).val) (h1 : (y 1 : ℕ) = o + (x 1).val) :
    P x = D.dz (row T (y 0)) (y 1) := by
  have e0 : (y 0 : Fin 256) = x 0 := Fin.ext h0
  rw [hf _ (y 1) (x 1) h1, e0]
  exact (congrArg _ (eq_ix2 x)).trans (hP _ _)

omit H in
theorem dz_left (n : Fin 4096) (k : Fin 2048) (j : Fin 1024) (h : k.val = 0 + j.val) : D.dz n k = D.dza n j := by
  rw [Data.dz, dif_pos (by omega)]; exact congrArg _ (Fin.ext (by dsimp only; omega))
omit H in
theorem dz_right (n : Fin 4096) (k : Fin 2048) (j : Fin 1024) (h : k.val = 1024 + j.val) : D.dz n k = D.dzb n j := by
  rw [Data.dz, dif_neg (by omega)]; exact congrArg _ (Fin.ext (by dsimp only; omega))

theorem out7_at (y : S256x2048.Idx) : out0_7 (F := Ideal) b.x0 b.x1 b.x2 b.x3 b.x4 b.x5 b.x6 y = D.dz (row T (y 0)) (y 1) := by
  have ea := dza_at H
  have eb := dzb_at H
  simp only [dm, sa, sb] at ea eb
  unfold_out out0_7
  frame_out
  canon_tiles y h
  case piece0 => exact dz_piece D T 1024 _ _ eb dz_right _ _ h0 h1
  case piece1 => exact dz_piece D T 0 _ _ ea dz_left _ _ h0 (by simpa using h1)

end Tile

variable (m : (ℓ : Loc nD τ sig) → Buf (Elt Ideal) ℓ) (c : Dev nD)

/-- The call's arguments. -/
abbrev V0 : FVec Ideal S1x4096x6144 .f32 := m ((c : Thread nD τ).loc main_arg0)
abbrev V1 : FVec Ideal S1x4096x1024 .f32 := m ((c : Thread nD τ).loc main_arg1)
abbrev V2 : FVec Ideal S1x4096x1024 .f32 := m ((c : Thread nD τ).loc main_arg2)
abbrev V3 : FVec Ideal S1x1024x1024 .f32 := m ((c : Thread nD τ).loc main_arg3)
abbrev V4 : FVec Ideal S1x1024x1024 .f32 := m ((c : Thread nD τ).loc main_arg4)
abbrev V5 : FVec Ideal S1x1024x1024 .f32 := m ((c : Thread nD τ).loc main_arg5)
abbrev V6 : FVec Ideal S1x4096x1024 .f32 := m ((c : Thread nD τ).loc main_arg6)

/-- The arguments' elements. -/
abbrev data : Data := Cert.BwdMergeRefIdeal.Hand.dat (V0 m c) (V1 m c) (V2 m c) (V3 m c) (V4 m c) (V5 m c) (V6 m c)

/-- The windows' block indices: the tiles run from the last to the first. -/
theorem idx : ∀ t : Fin cfg0.N, win0_0.index t = ![15 - t.val, 0] ∧ win0_1.index t = ![15 - t.val, 0] ∧ win0_2.index t = ![15 - t.val, 0]
    ∧ win0_3.index t = ![15 - t.val, 2] ∧ win0_4.index t = ![0, 0] ∧ win0_5.index t = ![0, 0] ∧ win0_6.index t = ![0, 0] ∧ win0_7.index t = ![15 - t.val, 0]
    ∧ win0_8.index t = ![15 - t.val, 0] ∧ win0_9.index t = ![15 - t.val, 0] ∧ win0_10.index t = ![15 - t.val, 0] ∧ win0_11.index t = ![15 - t.val, 0]
    ∧ win0_12.index t = ![15 - t.val, 0] ∧ win0_13.index t = ![15 - t.val, 0] :=
  (by decide +kernel : ∀ t : Fin grid0.N, _)

/-- The tile a grid point works on. -/
abbrev tix (t : Fin cfg0.N) : Fin 16 := ⟨15 - t.val, by omega⟩

abbrev b0 (t : Fin cfg0.N) : FVec Ideal S256x1024 .f32 := iblk m c 0 t
abbrev b1 (t : Fin cfg0.N) : FVec Ideal S256x1024 .f32 := iblk m c 1 t
abbrev b2 (t : Fin cfg0.N) : FVec Ideal S256x1024 .f32 := iblk m c 2 t
abbrev b3 (t : Fin cfg0.N) : FVec Ideal S256x2048 .bf16 := iblk m c 3 t
abbrev b4 (t : Fin cfg0.N) : FVec Ideal S1024x1024 .bf16 := iblk m c 4 t
abbrev b5 (t : Fin cfg0.N) : FVec Ideal S1024x1024 .bf16 := iblk m c 5 t
abbrev b6 (t : Fin cfg0.N) : FVec Ideal S1024x1024 .bf16 := iblk m c 6 t

/-- A grid point's blocks. -/
abbrev pt (t : Fin cfg0.N) : Tile := ⟨b0 m c t, b1 m c t, b2 m c t, b3 m c t, b4 m c t, b5 m c t, b6 m c t⟩

theorem b0_at (t : Fin cfg0.N) (r : Fin 256) (j : Fin 1024) : (b0 m c t (ix2 r j) : EReal) = (data m c).dh (row (tix t) r) j := by
  have e : (b0 m c t (ix2 r j) : EReal) = (V m c main_v10 : FVec Ideal S4096x1024 .f32) (ix2 (row (tix t) r) j) := by blk_ext [iblk, idx t]
  rw [e]; entry_read; pointwise; rfl

theorem b1_at (t : Fin cfg0.N) (r : Fin 256) (j : Fin 1024) : (b1 m c t (ix2 r j) : EReal) = (data m c).pa (row (tix t) r) j := by
  have e : (b1 m c t (ix2 r j) : EReal) = (V m c main_v11 : FVec Ideal S4096x1024 .f32) (ix2 (row (tix t) r) j) := by blk_ext [iblk, idx t]
  rw [e]; entry_read; pointwise; rfl

theorem b2_at (t : Fin cfg0.N) (r : Fin 256) (j : Fin 1024) : (b2 m c t (ix2 r j) : EReal) = (data m c).pb (row (tix t) r) j := by
  have e : (b2 m c t (ix2 r j) : EReal) = (V m c main_v12 : FVec Ideal S4096x1024 .f32) (ix2 (row (tix t) r) j) := by blk_ext [iblk, idx t]
  rw [e]; entry_read; pointwise; rfl

theorem b3_at (t : Fin cfg0.N) (r : Fin 256) (k : Fin 2048) : (b3 m c t (ix2 r k) : EReal) = (data m c).z (row (tix t) r) ⟨4096 + k.val, by omega⟩ := by
  have e : (b3 m c t (ix2 r k) : EReal) = (V m c main_v14 : FVec Ideal S4096x6144 .bf16) (ix2 (row (tix t) r) ⟨4096 + k.val, by omega⟩) := by blk_ext [iblk, idx t]
  rw [e]; entry_read; pointwise; rfl

theorem b4_at (t : Fin cfg0.N) (k j : Fin 1024) : (b4 m c t (ix2 k j) : EReal) = (data m c).wa k j := by
  have e : (b4 m c t (ix2 k j) : EReal) = (V m c main_v5 : FVec Ideal S1024x1024 .bf16) (ix2 k j) := by blk_ext [iblk, idx t]
  rw [e]; entry_read; pointwise; rfl

theorem b5_at (t : Fin cfg0.N) (k j : Fin 1024) : (b5 m c t (ix2 k j) : EReal) = (data m c).wb k j := by
  have e : (b5 m c t (ix2 k j) : EReal) = (V m c main_v7 : FVec Ideal S1024x1024 .bf16) (ix2 k j) := by blk_ext [iblk, idx t]
  rw [e]; entry_read; pointwise; rfl

theorem b6_at (t : Fin cfg0.N) (k j : Fin 1024) : (b6 m c t (ix2 k j) : EReal) = (data m c).wo k j := by
  have e : (b6 m c t (ix2 k j) : EReal) = (V m c main_v9 : FVec Ideal S1024x1024 .bf16) (ix2 k j) := by blk_ext [iblk, idx t]
  rw [e]; entry_read; pointwise; rfl

/-- A point's blocks hold its tile's rows. -/
theorem holds (t : Fin cfg0.N) : (pt m c t).Holds (data m c) (tix t) :=
  ⟨b0_at m c t, b1_at m c t, b2_at m c t, b3_at m c t, b4_at m c t, b5_at m c t, b6_at m c t⟩

end Cert.BwdMergeIdeal.Hand

end
-- ==== Proof.MergeRun.lean ====
/- The merge's gradient over the whole run, and the claims that it is the gradient of the forward lines. -/
module

public import proofs.«01_k».proof.Proof.MergeTile
public import proofs.«01_k».proof.Proof.Gen.BwdMergeRefIdeal.Run
public import proofs.«01_k».proof.Defs

@[expose] public section

set_option maxRecDepth 16384

noncomputable section

namespace Cert.BwdMergeIdeal.Hand

open Cert.BwdMergeIdeal Cert.BwdMergeIdeal.Gen Idealize.ShloMosaic Idealize.ShloMosaic.TcCoe Idealize.SL.Sem
open Cert.MergeMath

variable (m : (ℓ : Loc nD τ sig) → Buf (Elt Ideal) ℓ) (c : Dev nD)

/-- The gates' arguments' gradients after the run. -/
theorem final7 : (dats m 0 c).arrAt 7 (cfgs 0).N = Cert.BwdMergeRefIdeal.Read.val_main_v46 (F := Ideal) (V0 m c) (V1 m c) (V2 m c) (V3 m c) (V4 m c) (V5 m c) (V6 m c) := by
  refine (dats m 0 c).arrAt_eq_of_covers 7 _ (by decide +kernel) fun t _ y => ?_
  blk_simp
  rw [after0_7]
  have ey : ((cfg0.win 7).blk t).view.emb y = ix2 (row (tix t) (y 0)) (y 1) := by blk_ext [idx t]
  rw [ey]
  exact (Tile.out7_at (holds m c t) y).trans (Cert.BwdMergeRefIdeal.Hand.dz_at _ _ _ _ _ _ _ _ _).symm

/-- The first unit's result's gradient after the run. -/
theorem final8 : (dats m 0 c).arrAt 8 (cfgs 0).N = Cert.BwdMergeRefIdeal.Read.val_main_v47 (F := Ideal) (V0 m c) (V3 m c) (V5 m c) (V6 m c) := by
  refine (dats m 0 c).arrAt_eq_of_covers 8 _ (by decide +kernel) fun t _ y => ?_
  blk_simp
  rw [after0_8]
  have ey : ((cfg0.win 8).blk t).view.emb y = ix2 (row (tix t) (y 0)) (y 1) := by blk_ext [idx t]
  rw [ey]
  exact (congrArg _ (eq_ix2 y)).trans ((Tile.out8_at (holds m c t) (y 0) (y 1)).trans (Cert.BwdMergeRefIdeal.Hand.dya_at (V0 m c) (V1 m c) (V2 m c) (V3 m c) (V4 m c) (V5 m c) (V6 m c) _ _).symm)

/-- The second unit's result's gradient after the run. -/
theorem final9 : (dats m 0 c).arrAt 9 (cfgs 0).N = Cert.BwdMergeRefIdeal.Read.val_main_v48 (F := Ideal) (V0 m c) (V4 m c) (V5 m c) (V6 m c) := by
  refine (dats m 0 c).arrAt_eq_of_covers 9 _ (by decide +kernel) fun t _ y => ?_
  blk_simp
  rw [after0_9]
  have ey : ((cfg0.win 9).blk t).view.emb y = ix2 (row (tix t) (y 0)) (y 1) := by blk_ext [idx t]
  rw [ey]
  exact (congrArg _ (eq_ix2 y)).trans ((Tile.out9_at (holds m c t) (y 0) (y 1)).trans (Cert.BwdMergeRefIdeal.Hand.dyb_at (V0 m c) (V1 m c) (V2 m c) (V3 m c) (V4 m c) (V5 m c) (V6 m c) _ _).symm)

/-- The merged rows after the run. -/
theorem final10 : (dats m 0 c).arrAt 10 (cfgs 0).N = Cert.BwdMergeRefIdeal.Read.val_main_v50 (F := Ideal) (V0 m c) (V1 m c) (V2 m c) (V3 m c) (V4 m c) := by
  refine (dats m 0 c).arrAt_eq_of_covers 10 _ (by decide +kernel) fun t _ y => ?_
  blk_simp
  rw [after0_10]
  have ey : ((cfg0.win 10).blk t).view.emb y = ix2 (row (tix t) (y 0)) (y 1) := by blk_ext [idx t]
  rw [ey]
  exact (congrArg _ (eq_ix2 y)).trans ((Tile.out10_at (holds m c t) (y 0) (y 1)).trans (Cert.BwdMergeRefIdeal.Hand.mg_at (V0 m c) (V1 m c) (V2 m c) (V3 m c) (V4 m c) (V5 m c) (V6 m c) _ _).symm)

/-- The first projected result's gradient after the run. -/
theorem final11 : (dats m 0 c).arrAt 11 (cfgs 0).N = Cert.BwdMergeRefIdeal.Read.val_main_v52 (F := Ideal) (V0 m c) (V5 m c) (V6 m c) := by
  refine (dats m 0 c).arrAt_eq_of_covers 11 _ (by decide +kernel) fun t _ y => ?_
  blk_simp
  rw [after0_11]
  have ey : ((cfg0.win 11).blk t).view.emb y = ix2 (row (tix t) (y 0)) (y 1) := by blk_ext [idx t]
  rw [ey]
  exact (congrArg _ (eq_ix2 y)).trans ((Tile.out11_at (holds m c t) (y 0) (y 1)).trans (Cert.BwdMergeRefIdeal.Hand.dpaB_at (V0 m c) (V1 m c) (V2 m c) (V3 m c) (V4 m c) (V5 m c) (V6 m c) _ _).symm)

/-- The second projected result's gradient after the run. -/
theorem final12 : (dats m 0 c).arrAt 12 (cfgs 0).N = Cert.BwdMergeRefIdeal.Read.val_main_v54 (F := Ideal) (V0 m c) (V5 m c) (V6 m c) := by
  refine (dats m 0 c).arrAt_eq_of_covers 12 _ (by decide +kernel) fun t _ y => ?_
  blk_simp
  rw [after0_12]
  have ey : ((cfg0.win 12).blk t).view.emb y = ix2 (row (tix t) (y 0)) (y 1) := by blk_ext [idx t]
  rw [ey]
  exact (congrArg _ (eq_ix2 y)).trans ((Tile.out12_at (holds m c t) (y 0) (y 1)).trans (Cert.BwdMergeRefIdeal.Hand.dpbB_at (V0 m c) (V1 m c) (V2 m c) (V3 m c) (V4 m c) (V5 m c) (V6 m c) _ _).symm)

/-- The rounded gradient after the run. -/
theorem final13 : (dats m 0 c).arrAt 13 (cfgs 0).N = Cert.BwdMergeRefIdeal.Read.val_main_v56 (F := Ideal) (V6 m c) := by
  refine (dats m 0 c).arrAt_eq_of_covers 13 _ (by decide +kernel) fun t _ y => ?_
  blk_simp
  rw [after0_13]
  have ey : ((cfg0.win 13).blk t).view.emb y = ix2 (row (tix t) (y 0)) (y 1) := by blk_ext [idx t]
  rw [ey]
  exact (congrArg _ (eq_ix2 y)).trans ((Tile.out13_at (holds m c t) (y 0) (y 1)).trans (Cert.BwdMergeRefIdeal.Hand.dh_at (V0 m c) (V1 m c) (V2 m c) (V3 m c) (V4 m c) (V5 m c) (V6 m c) _ _).symm)

end Cert.BwdMergeIdeal.Hand

namespace Cert.BwdMerge.Hand

open Idealize.ShloMosaic Idealize.ShloMosaic.TcCoe Idealize.SL.Sem

set_option maxHeartbeats 4000000 in
/-- The call and the gradient of the forward lines give the same seven arrays. -/
theorem algebraic : Cert.algebraic_BwdMergeIdeal_BwdMergeRefIdeal := by
  pair_intro
  · exact Cert.BwdMergeIdeal.Value.run_blocks m g
  · rename' hagree => hag
    have e0 (c : Dev Cert.BwdMergeIdeal.nD) : m' ((c : Thread Cert.BwdMergeRefIdeal.nD Cert.BwdMergeRefIdeal.τ).loc Cert.BwdMergeRefIdeal.main_arg0) = Cert.BwdMergeIdeal.Hand.V0 m c := (hag c).1
    have e1 (c : Dev Cert.BwdMergeIdeal.nD) : m' ((c : Thread Cert.BwdMergeRefIdeal.nD Cert.BwdMergeRefIdeal.τ).loc Cert.BwdMergeRefIdeal.main_arg1) = Cert.BwdMergeIdeal.Hand.V1 m c := (hag c).2.1
    have e2 (c : Dev Cert.BwdMergeIdeal.nD) : m' ((c : Thread Cert.BwdMergeRefIdeal.nD Cert.BwdMergeRefIdeal.τ).loc Cert.BwdMergeRefIdeal.main_arg2) = Cert.BwdMergeIdeal.Hand.V2 m c := (hag c).2.2.1
    have e3 (c : Dev Cert.BwdMergeIdeal.nD) : m' ((c : Thread Cert.BwdMergeRefIdeal.nD Cert.BwdMergeRefIdeal.τ).loc Cert.BwdMergeRefIdeal.main_arg3) = Cert.BwdMergeIdeal.Hand.V3 m c := (hag c).2.2.2.1
    have e4 (c : Dev Cert.BwdMergeIdeal.nD) : m' ((c : Thread Cert.BwdMergeRefIdeal.nD Cert.BwdMergeRefIdeal.τ).loc Cert.BwdMergeRefIdeal.main_arg4) = Cert.BwdMergeIdeal.Hand.V4 m c := (hag c).2.2.2.2.1
    have e5 (c : Dev Cert.BwdMergeIdeal.nD) : m' ((c : Thread Cert.BwdMergeRefIdeal.nD Cert.BwdMergeRefIdeal.τ).loc Cert.BwdMergeRefIdeal.main_arg5) = Cert.BwdMergeIdeal.Hand.V5 m c := (hag c).2.2.2.2.2.1
    have e6 (c : Dev Cert.BwdMergeIdeal.nD) : m' ((c : Thread Cert.BwdMergeRefIdeal.nD Cert.BwdMergeRefIdeal.τ).loc Cert.BwdMergeRefIdeal.main_arg6) = Cert.BwdMergeIdeal.Hand.V6 m c := (hag c).2.2.2.2.2.2
    run_from Cert.BwdMergeRefIdeal.Value.run m' g'
    · exact (Cert.BwdMergeRefIdeal.Read.val_main_v46_eq _ _ _ _ _ _ _).trans (by rw [e0, e1, e2, e3, e4, e5, e6]; exact (Cert.BwdMergeIdeal.Hand.final7 m c).symm)
    · exact (Cert.BwdMergeRefIdeal.Read.val_main_v47_eq _ _ _ _).trans (by rw [e0, e3, e5, e6]; exact (Cert.BwdMergeIdeal.Hand.final8 m c).symm)
    · exact (Cert.BwdMergeRefIdeal.Read.val_main_v48_eq _ _ _ _).trans (by rw [e0, e4, e5, e6]; exact (Cert.BwdMergeIdeal.Hand.final9 m c).symm)
    · exact (Cert.BwdMergeRefIdeal.Read.val_main_v50_eq _ _ _ _ _).trans (by rw [e0, e1, e2, e3, e4]; exact (Cert.BwdMergeIdeal.Hand.final10 m c).symm)
    · exact (Cert.BwdMergeRefIdeal.Read.val_main_v52_eq _ _ _).trans (by rw [e0, e5, e6]; exact (Cert.BwdMergeIdeal.Hand.final11 m c).symm)
    · exact (Cert.BwdMergeRefIdeal.Read.val_main_v54_eq _ _ _).trans (by rw [e0, e5, e6]; exact (Cert.BwdMergeIdeal.Hand.final12 m c).symm)
    · exact (Cert.BwdMergeRefIdeal.Read.val_main_v56_eq _).trans (by rw [e6]; exact (Cert.BwdMergeIdeal.Hand.final13 m c).symm)

/-- The gradient of the forward lines runs, and leaves its arguments. -/
theorem frame_ref : Cert.quiescent_BwdMergeRefIdeal := by
  intro m g _
  run_from Cert.BwdMergeRefIdeal.Value.run m g
  · exact fun _ => ⟨trivial, trivial, trivial, trivial, trivial, trivial, trivial⟩
  · exact sem_eq_zero_of_no_sems rfl _

end Cert.BwdMerge.Hand

end
-- ==== Proof.FsmMath.lean ====
/- The block's merge going forward: the smooth unit in the two forms the programs compute, and the quantities of a row, all
   over the extended reals. -/
module

public import proofs.«01_k».proof.Proof.MergeMath
public import proofs.«01_k».proof.Proof.SguMath

@[expose] public section

set_option maxRecDepth 16384

noncomputable section

namespace Cert.FsmMath

open Idealize.ShloMosaic
open Cert.GatesMath hiding Data
open Cert.SguMath hiding Data
open Cert.MergeMath (sg)

/-- The smooth unit, over the extended reals, as the forward lines compute it. -/
def gelE (x : EReal) : EReal := x * (((1 / 2 : ℝ) : EReal) * (1 + Ideal.tanh (((k0 : ℝ) : EReal) * (x + ((k1 : ℝ) : EReal) * (x * x * x)))))

/-- The smooth unit as a tile computes it is the same, at the infinities too. -/
theorem gelE_tile (x : EReal) : x * (((1 / 2 : ℝ) : EReal) + ((1 / 2 : ℝ) : EReal) * Ideal.tanh (x * (((k0 : ℝ) : EReal) + ((k0 * k1 : ℝ) : EReal) * (x * x)))) = gelE x := by
  have h0 : 0 < k0 := by unfold k0; norm_num
  have h1 : 0 < k1 := by unfold k1; norm_num
  have one : (1 : EReal) = ((1 : ℝ) : EReal) := rfl
  unfold gelE
  induction x using EReal.rec with
  | bot =>
    have e1 : ((1 / 2 : ℝ) : EReal) + ((1 / 2 : ℝ) : EReal) * -1 = 0 := by rw [one, ← EReal.coe_neg, ← EReal.coe_mul, ← EReal.coe_add]; norm_num
    have e2 : (1 : EReal) + -1 = 0 := by rw [one, ← EReal.coe_neg, ← EReal.coe_add]; norm_num
    rw [EReal.bot_mul_bot, EReal.coe_mul_top_of_pos (mul_pos h0 h1), EReal.coe_add_top, EReal.bot_mul_top, EReal.top_mul_bot, EReal.coe_mul_bot_of_pos h1, EReal.bot_add,
      EReal.coe_mul_bot_of_pos h0, Ideal.tanh_bot, e1, e2, mul_zero, mul_zero, mul_zero]
  | top =>
    have e1 : ((1 / 2 : ℝ) : EReal) + ((1 / 2 : ℝ) : EReal) * 1 = ((1 / 2 : ℝ) : EReal) * (1 + 1) := by
      rw [one, ← EReal.coe_mul, ← EReal.coe_add, ← EReal.coe_add, ← EReal.coe_mul]; norm_num
    rw [EReal.top_mul_top, EReal.coe_mul_top_of_pos (mul_pos h0 h1), EReal.coe_add_top, EReal.top_mul_top, EReal.coe_mul_top_of_pos h1, EReal.top_add_top,
      EReal.coe_mul_top_of_pos h0, Ideal.tanh_top, e1]
  | coe r =>
    simp only [one, ← EReal.coe_mul, ← EReal.coe_add, Ideal.tanh_coe]
    congr 1
    rw [show r * (k0 + k0 * k1 * (r * r)) = k0 * (r + k1 * (r * r * r)) by ring]
    ring

/-- A row's mean, and its entries' distances from the mean. -/
def mean (f : Fin 1024 → EReal) : EReal := Ideal.div (∑ i, f i) (Ideal.ofBits .f32 0x44800000#32)
def dev (f : Fin 1024 → EReal) (j : Fin 1024) : EReal := f j - mean f

/-- The arguments: the four parts of the projection's output, the first unit's result, the residual stream, the norm's scale
    and shift, the mixing weights and biases, the three square projections and the next norm's scale. -/
structure Data where
  u : Fin 4096 → Fin 1024 → EReal
  v : Fin 4096 → Fin 1024 → EReal
  ma : Fin 4096 → Fin 1024 → EReal
  mb : Fin 4096 → Fin 1024 → EReal
  ya : Fin 4096 → Fin 1024 → EReal
  x : Fin 4096 → Fin 1024 → EReal
  lg : Fin 1024 → EReal
  lb : Fin 1024 → EReal
  ws : Fin 4 → Fin 128 → Fin 128 → EReal
  bs : Fin 4 → Fin 128 → EReal
  wa : Fin 1024 → Fin 1024 → EReal
  wb : Fin 1024 → Fin 1024 → EReal
  wo : Fin 1024 → Fin 1024 → EReal
  g2 : Fin 1024 → EReal

namespace Data

variable (D : Data) (t : Fin 4096) (j : Fin 1024)

def gu : EReal := gelE (D.u t j)
def gv : EReal := gelE (D.v t j)
/-- The gating unit's norm, its spatial mixing and its result. -/
def d : EReal := dev (D.gv t) j
def va : EReal := mean fun i => D.d t i * D.d t i
def vn : EReal := D.d t j * Ideal.rsqrt (D.va t + Ideal.ofBits .f32 0x3727C5AC#32) * D.lg j + D.lb j
def wm (g : Fin 4) (p q : Fin 128) : EReal := if q.val ≤ p.val then D.ws g p q else 0
def sp (n : Fin 32) (p : Fin 128) (g : Fin 4) (c : Fin 256) : EReal := ∑ q, D.wm g p q * D.vn (row n q) (col g c) + D.bs g p
def yb : EReal := D.gu t j * D.sp (ch t) (ps t) (hd j) (lo j)
/-- The two projections, the merged rows and the residual stream. -/
def pa : EReal := ∑ k, D.ya t k * D.wa k j
def pb : EReal := ∑ k, D.yb t k * D.wb k j
def mg : EReal := sg (D.ma t j) * D.pa t j + sg (D.mb t j) * D.pb t j
def h1 : EReal := D.x t j + ∑ k, D.mg t k * D.wo k j
/-- The next norm's rows. -/
def n2 : EReal := D.h1 t j * Ideal.rsqrt (mean (fun i => D.h1 t i * D.h1 t i) + Ideal.ofBits .f32 0x358637BD#32) * D.g2 j

end Data

end Cert.FsmMath

end
-- ==== Proof.FsmRef.lean ====
/- The block's merge going forward by the plain lines, read as the quantities of FsmMath. -/
module

public import proofs.«01_k».proof.Proof.FsmMath
public import proofs.«01_k».proof.Proof.Gen.FsmRefIdeal.Read
public import Idealize.ShloMosaic.Lib.Pointwise

@[expose] public section

set_option maxRecDepth 16384

noncomputable section

namespace Cert.FsmRefIdeal.Hand

open Cert.FsmRefIdeal Cert.FsmRefIdeal.Gen Cert.FsmRefIdeal.Read Idealize.ShloMosaic Idealize.ShloMosaic.TcCoe Idealize.SL.Sem
open Cert.GatesMath hiding Data
open Cert.SguMath hiding Data
open Cert.FsmMath

variable (x0 : FVec Ideal S1x4096x6144 .f32) (x1 x2 : FVec Ideal S1x4096x1024 .f32) (x3 x4 : FVec Ideal S1x1024 .f32)
  (x5 : FVec Ideal S1x4x128x128 .f32) (x6 : FVec Ideal S1x4x128 .f32) (x7 x8 x9 : FVec Ideal S1x1024x1024 .f32) (x10 : FVec Ideal S1x1024 .f32)

/-- The arguments' elements. -/
def dat : Data where
  u t j := x0 (ix3 0 t ⟨2048 + j.val, by omega⟩)
  v t j := x0 (ix3 0 t ⟨3072 + j.val, by omega⟩)
  ma t j := x0 (ix3 0 t ⟨4096 + j.val, by omega⟩)
  mb t j := x0 (ix3 0 t ⟨5120 + j.val, by omega⟩)
  ya t j := x1 (ix3 0 t j)
  x t j := x2 (ix3 0 t j)
  lg j := x3 (ix2 0 j)
  lb j := x4 (ix2 0 j)
  ws g p q := x5 (ix4 0 g p q)
  bs g p := x6 (ix3 0 g p)
  wa k j := x7 (ix3 0 k j)
  wb k j := x8 (ix3 0 k j)
  wo k j := x9 (ix3 0 k j)
  g2 j := x10 (ix2 0 j)

variable (t : Fin 4096) (j : Fin 1024)

theorem gu_at : val_main_v13 (F := Ideal) x0 (ix3 0 t j) = (dat x0 x1 x2 x3 x4 x5 x6 x7 x8 x9 x10).gu t j := by
  pointwise [val_main_v13, val_main_v12, val_main_v11, val_main_cst_2, val_main_v10, val_main_v9, val_main_cst_1, val_main_v8, val_main_v7, val_main_v6, val_main_cst_0, val_main_v5, val_main_v4, val_main_v3, val_main_cst, val_main_v2, val_main_v1, val_main_v0]
  simp only [bits_k0, bits_k1, bits_half]
  rfl

theorem gv_at : val_main_v27 (F := Ideal) x0 (ix3 0 t j) = (dat x0 x1 x2 x3 x4 x5 x6 x7 x8 x9 x10).gv t j := by
  pointwise [val_main_v27, val_main_v26, val_main_v25, val_main_cst_6, val_main_v24, val_main_v23, val_main_cst_5, val_main_v22, val_main_v21, val_main_v20, val_main_cst_4, val_main_v19, val_main_v18, val_main_v17, val_main_cst_3, val_main_v16, val_main_v15, val_main_v14]
  simp only [bits_k0, bits_k1, bits_half]
  rfl

theorem mean_at : val_main_v35 (F := Ideal) x0 (ix3 0 t 0) = mean ((dat x0 x1 x2 x3 x4 x5 x6 x7 x8 x9 x10).gv t) := by
  pointwise [val_main_v35, val_main_v34, val_main_cst_8, val_main_v33, val_main_v32, val_main_cst_7, gv_at x0 x1 x2 x3 x4 x5 x6 x7 x8 x9 x10]
  rfl

theorem d_at : val_main_v37 (F := Ideal) x0 (ix3 0 t j) = (dat x0 x1 x2 x3 x4 x5 x6 x7 x8 x9 x10).d t j := by
  pointwise [val_main_v37, val_main_v36, gv_at x0 x1 x2 x3 x4 x5 x6 x7 x8 x9 x10, mean_at x0 x1 x2 x3 x4 x5 x6 x7 x8 x9 x10]
  rfl

theorem d2_at : val_main_v44 (F := Ideal) x0 (ix3 0 t j) = (dat x0 x1 x2 x3 x4 x5 x6 x7 x8 x9 x10).d t j := by
  pointwise [val_main_v44, val_main_v43, gv_at x0 x1 x2 x3 x4 x5 x6 x7 x8 x9 x10, mean_at x0 x1 x2 x3 x4 x5 x6 x7 x8 x9 x10]
  rfl

theorem va_at : val_main_v42 (F := Ideal) x0 (ix3 0 t 0) = (dat x0 x1 x2 x3 x4 x5 x6 x7 x8 x9 x10).va t := by
  pointwise [val_main_v42, val_main_v41, val_main_cst_10, val_main_v40, val_main_v39, val_main_cst_9, val_main_v38, d_at x0 x1 x2 x3 x4 x5 x6 x7 x8 x9 x10]
  rfl

theorem vn_at : val_main_v55 (F := Ideal) x0 x3 x4 (ix3 0 t j) = (dat x0 x1 x2 x3 x4 x5 x6 x7 x8 x9 x10).vn t j := by
  pointwise [val_main_v55, val_main_v54, val_main_v53, val_main_v29, val_main_v52, val_main_v51, val_main_v50, val_main_v28, val_main_v49, val_main_v48, val_main_v47, val_main_v46, val_main_v45, val_main_cst_11, d2_at x0 x1 x2 x3 x4 x5 x6 x7 x8 x9 x10, va_at x0 x1 x2 x3 x4 x5 x6 x7 x8 x9 x10]
  rfl

theorem vn5_at (n : Fin 32) (p : Fin 128) (g : Fin 4) (c : Fin 256) : val_main_v56 (F := Ideal) x0 x3 x4 (ix5 0 n p g c) = (dat x0 x1 x2 x3 x4 x5 x6 x7 x8 x9 x10).vn (row n p) (col g c) := by
  pointwise [val_main_v56]
  exact vn_at x0 x1 x2 x3 x4 x5 x6 x7 x8 x9 x10 _ _

theorem wm_at (g : Fin 4) (p q : Fin 128) : val_main_v61 (F := Ideal) x5 (ix3 g p q) = (dat x0 x1 x2 x3 x4 x5 x6 x7 x8 x9 x10).wm g p q := by
  pointwise [val_main_v61, val_main_v30, val_main_v60, val_main_v59, val_main_v58, val_main_call0_v4, val_main_call0_v2, val_main_call0_v0, val_main_call0_v1, val_main_call0_c, val_main_call0_v3, val_main_v57, val_main_cst_12, val_main_call0_v5, val_main_call0_cst]
  rw [show IntOp.addi (BitVec.ofNat 32 p.val) 0#32 = BitVec.ofNat 32 p.val from BitVec.add_zero _, sge_word _ _ (by omega) (by omega)]
  rfl

theorem sp_at (n : Fin 32) (p : Fin 128) (g : Fin 4) (c : Fin 256) : val_main_v68 (F := Ideal) x0 x3 x4 x5 x6 (ix5 0 n p g c) = (dat x0 x1 x2 x3 x4 x5 x6 x7 x8 x9 x10).sp n p g c := by
  pointwise [val_main_v68, val_main_v67, val_main_v66, val_main_v65, val_main_v64, val_main_v31, val_main_v63, val_main_v62, vn5_at x0 x1 x2 x3 x4 x5 x6 x7 x8 x9 x10, wm_at x0 x1 x2 x3 x4 x5 x6 x7 x8 x9 x10]
  exact congrArg (· + _) (Finset.sum_congr rfl fun _ _ => EReal.mul_comm _ _)

theorem yb_at : val_main_v70 (F := Ideal) x0 x3 x4 x5 x6 (ix3 0 t j) = (dat x0 x1 x2 x3 x4 x5 x6 x7 x8 x9 x10).yb t j := by
  pointwise [val_main_v70, val_main_v69, gu_at x0 x1 x2 x3 x4 x5 x6 x7 x8 x9 x10]
  exact congrArg (_ * ·) (sp_at x0 x1 x2 x3 x4 x5 x6 x7 x8 x9 x10 (ch t) (ps t) (hd j) (lo j))

theorem pa_at : val_main_v72 (F := Ideal) x1 x7 (ix3 0 t j) = (dat x0 x1 x2 x3 x4 x5 x6 x7 x8 x9 x10).pa t j := by
  pointwise [val_main_v72, val_main_v71]
  rfl

theorem pb_at : val_main_v74 (F := Ideal) x0 x3 x4 x5 x6 x8 (ix3 0 t j) = (dat x0 x1 x2 x3 x4 x5 x6 x7 x8 x9 x10).pb t j := by
  pointwise [val_main_v74, val_main_v73, yb_at x0 x1 x2 x3 x4 x5 x6 x7 x8 x9 x10]
  rfl

theorem mg_at : val_main_v91 (F := Ideal) x0 x1 x3 x4 x5 x6 x7 x8 (ix3 0 t j) = (dat x0 x1 x2 x3 x4 x5 x6 x7 x8 x9 x10).mg t j := by
  pointwise [val_main_v91, val_main_v90, val_main_v89, val_main_v88, val_main_cst_16, val_main_v87, val_main_v86, val_main_cst_15, val_main_v85, val_main_v84, val_main_v83, val_main_v82, val_main_v81, val_main_v80, val_main_cst_14, val_main_v79, val_main_v78, val_main_cst_13, val_main_v77, val_main_v76, val_main_v75, pa_at x0 x1 x2 x3 x4 x5 x6 x7 x8 x9 x10, pb_at x0 x1 x2 x3 x4 x5 x6 x7 x8 x9 x10]
  rfl

theorem h1_at : val_main_v94 (F := Ideal) x0 x1 x2 x3 x4 x5 x6 x7 x8 x9 (ix3 0 t j) = (dat x0 x1 x2 x3 x4 x5 x6 x7 x8 x9 x10).h1 t j := by
  pointwise [val_main_v94, val_main_v93, val_main_v92, mg_at x0 x1 x2 x3 x4 x5 x6 x7 x8 x9 x10]
  rfl

theorem n2_at : val_main_v108 (F := Ideal) x0 x1 x2 x3 x4 x5 x6 x7 x8 x9 x10 (ix3 0 t j) = (dat x0 x1 x2 x3 x4 x5 x6 x7 x8 x9 x10).n2 t j := by
  pointwise [val_main_v108, val_main_v107, val_main_v106, val_main_v95, val_main_v105, val_main_v104, val_main_v103, val_main_v102, val_main_v101, val_main_cst_19, val_main_v100, val_main_v99, val_main_cst_18, val_main_v98, val_main_v97, val_main_cst_17, val_main_v96, h1_at x0 x1 x2 x3 x4 x5 x6 x7 x8 x9 x10]
  rfl

/-! ### The five results -/

theorem out0_at : val_main_v110 (F := Ideal) x0 x3 x4 x5 x6 (ix2 t j) = (dat x0 x1 x2 x3 x4 x5 x6 x7 x8 x9 x10).yb t j := by
  pointwise [val_main_v110, val_main_v109, yb_at x0 x1 x2 x3 x4 x5 x6 x7 x8 x9 x10]
theorem out1_at : val_main_v111 (F := Ideal) x1 x7 (ix2 t j) = (dat x0 x1 x2 x3 x4 x5 x6 x7 x8 x9 x10).pa t j := by
  pointwise [val_main_v111, pa_at x0 x1 x2 x3 x4 x5 x6 x7 x8 x9 x10]
theorem out2_at : val_main_v112 (F := Ideal) x0 x3 x4 x5 x6 x8 (ix2 t j) = (dat x0 x1 x2 x3 x4 x5 x6 x7 x8 x9 x10).pb t j := by
  pointwise [val_main_v112, pb_at x0 x1 x2 x3 x4 x5 x6 x7 x8 x9 x10]
theorem out3_at : val_main_v113 (F := Ideal) x0 x1 x2 x3 x4 x5 x6 x7 x8 x9 (ix2 t j) = (dat x0 x1 x2 x3 x4 x5 x6 x7 x8 x9 x10).h1 t j := by
  pointwise [val_main_v113, h1_at x0 x1 x2 x3 x4 x5 x6 x7 x8 x9 x10]
theorem out4_at : val_main_v115 (F := Ideal) x0 x1 x2 x3 x4 x5 x6 x7 x8 x9 x10 (ix2 t j) = (dat x0 x1 x2 x3 x4 x5 x6 x7 x8 x9 x10).n2 t j := by
  pointwise [val_main_v115, val_main_v114, n2_at x0 x1 x2 x3 x4 x5 x6 x7 x8 x9 x10]

end Cert.FsmRefIdeal.Hand

end
-- ==== Proof.FsmTile.lean ====
/- One grid point of the block's merge: its blocks, and what it computes from them. -/
module

public import proofs.«01_k».proof.Proof.FsmRef
public import proofs.«01_k».proof.Proof.Gen.FsmIdeal.Value
public import Idealize.ShloMosaic.Lib.Pointwise
public import Idealize.ShloMosaic.Lib.StableHlo.RunRead
public import Idealize.ShloMosaic.Lib.Pipeline.ReadBack
public import Idealize.ShloMosaic.Lib.Pipeline.ValueKit

@[expose] public section

set_option maxRecDepth 16384

noncomputable section

namespace Cert.FsmIdeal.Hand

open Cert.FsmIdeal Cert.FsmIdeal.Gen Idealize.ShloMosaic Idealize.ShloMosaic.TcCoe Idealize.SL.Sem
open Cert.GatesMath hiding Data
open Cert.SguMath hiding Data
open Cert.FsmMath
open Cert.MergeMath (sg gate_eq)

/-- The array row of a tile's row; the chunks of a tile, and the tile's row of a place in its first and its second chunk. -/
abbrev tr (T : Fin 16) (r : Fin 256) : Fin 4096 := ⟨256 * T.val + r.val, by omega⟩
abbrev c0 (T : Fin 16) : Fin 32 := ⟨2 * T.val, by omega⟩
abbrev c1 (T : Fin 16) : Fin 32 := ⟨2 * T.val + 1, by omega⟩
abbrev r0 (p : Fin 128) : Fin 256 := ⟨p.val, by omega⟩
abbrev r1 (p : Fin 128) : Fin 256 := ⟨128 + p.val, by omega⟩
theorem tr_r0 (T : Fin 16) (p : Fin 128) : tr T (r0 p) = row (c0 T) p := Fin.ext (by simp only [tr, r0, row, c0]; omega)
theorem tr_r1 (T : Fin 16) (p : Fin 128) : tr T (r1 p) = row (c1 T) p := Fin.ext (by simp only [tr, r1, row, c1]; omega)

/-- A group's columns, and its blocks of a 1024-column array of 128 rows and of the mixing weights. -/
abbrev k0c (c : Fin 256) : Fin 1024 := ⟨c.val, by omega⟩
abbrev k1c (c : Fin 256) : Fin 1024 := ⟨256 + c.val, by omega⟩
abbrev k2c (c : Fin 256) : Fin 1024 := ⟨512 + c.val, by omega⟩
abbrev k3c (c : Fin 256) : Fin 1024 := ⟨768 + c.val, by omega⟩
theorem k0c_col (c : Fin 256) : k0c c = col 0 c := Fin.ext (by simp [col])
theorem k1c_col (c : Fin 256) : k1c c = col 1 c := Fin.ext (by simp [col])
theorem k2c_col (c : Fin 256) : k2c c = col 2 c := Fin.ext (by simp [col])
theorem k3c_col (c : Fin 256) : k3c c = col 3 c := Fin.ext (by simp [col])
abbrev g0 : Rect S128x1024 := Rect.unit ![0, 0] ![128, 256] inb_S128x1024_S128x256_0_0
abbrev g1 : Rect S128x1024 := Rect.unit ![0, 256] ![128, 256] inb_S128x1024_S128x256_0_256
abbrev g2 : Rect S128x1024 := Rect.unit ![0, 512] ![128, 256] inb_S128x1024_S128x256_0_512
abbrev g3 : Rect S128x1024 := Rect.unit ![0, 768] ![128, 256] inb_S128x1024_S128x256_0_768
abbrev m0 : Rect S4x128x128 := Rect.unit ![0, 0, 0] ![1, 128, 128] inb_S4x128x128_S1x128x128_0_0_0
abbrev m1 : Rect S4x128x128 := Rect.unit ![1, 0, 0] ![1, 128, 128] inb_S4x128x128_S1x128x128_1_0_0
abbrev m2 : Rect S4x128x128 := Rect.unit ![2, 0, 0] ![1, 128, 128] inb_S4x128x128_S1x128x128_2_0_0
abbrev m3 : Rect S4x128x128 := Rect.unit ![3, 0, 0] ![1, 128, 128] inb_S4x128x128_S1x128x128_3_0_0
/-- The whole tile. -/
abbrev all : Rect S256x1024 := Rect.unit ![0, 0] ![256, 1024] inb_S256x1024_S256x1024_0_0
/-- The two halves of the gates' block. -/
abbrev za : Rect S256x2048 := Rect.unit ![0, 0] ![256, 1024] inb_S256x2048_S256x1024_0_0
abbrev zb : Rect S256x2048 := Rect.unit ![0, 1024] ![256, 1024] inb_S256x2048_S256x1024_0_1024

/-- What a point reads: its blocks in the windows' order. -/
structure Tile where
  x0 : Vec Ideal S256x1024 .bf16
  x1 : Vec Ideal S256x1024 .bf16
  x2 : Vec Ideal S256x1024 .bf16
  x3 : Vec Ideal S256x2048 .bf16
  x4 : Vec Ideal S256x1024 .f32
  x5 : Vec Ideal S1x1024 .f32
  x6 : Vec Ideal S1x1024 .f32
  x7 : Vec Ideal S4x128x128 .f32
  x8 : Vec Ideal S128x1024 .f32
  x9 : Vec Ideal S1024x1024 .bf16
  x10 : Vec Ideal S1024x1024 .bf16
  x11 : Vec Ideal S1024x1024 .bf16
  x12 : Vec Ideal S1x1024 .f32

namespace Tile

variable (b : Tile)

/-- The smooth unit's rows, the normed rows and the groups' weights. -/
def gu : FVec Ideal S256x1024 .f32 := k0_pay3 (F := Ideal) b.x1
def vn : FVec Ideal S256x1024 .bf16 := k0_pay7 (F := Ideal) (k0_pay4 (F := Ideal) b.x2) (k0_pay5 (F := Ideal) b.x2) (k0_pay6 (F := Ideal)) b.x5 b.x6
def w0 : FVec Ideal S128x128 .bf16 := k0_pay9 (F := Ideal) (View.ld b.x7 m0)
def w1 : FVec Ideal S128x128 .bf16 := k0_pay10 (F := Ideal) (View.ld b.x7 m1)
def w2 : FVec Ideal S128x128 .bf16 := k0_pay11 (F := Ideal) (View.ld b.x7 m2)
def w3 : FVec Ideal S128x128 .bf16 := k0_pay12 (F := Ideal) (View.ld b.x7 m3)

/-- The eight blocks of the gating unit's result, the last stored first. -/
def pieces : List (View.Piece (Elt Ideal) S256x1024 .bf16) :=
  [⟨Rect.unit ![128, 768] ![128, 256] inb_S256x1024_S128x256_128_768, k0_pay22 (F := Ideal) b.gu b.vn b.w3 (View.ld b.x8 g3)⟩,
    ⟨Rect.unit ![128, 512] ![128, 256] inb_S256x1024_S128x256_128_512, k0_pay21 (F := Ideal) b.gu b.vn b.w2 (View.ld b.x8 g2)⟩,
    ⟨Rect.unit ![128, 256] ![128, 256] inb_S256x1024_S128x256_128_256, k0_pay20 (F := Ideal) b.gu b.vn b.w1 (View.ld b.x8 g1)⟩,
    ⟨Rect.unit ![128, 0] ![128, 256] inb_S256x1024_S128x256_128_0, k0_pay19 (F := Ideal) b.gu (k0_pay18 (F := Ideal) b.vn b.w0) (View.ld b.x8 g0)⟩,
    ⟨Rect.unit ![0, 768] ![128, 256] inb_S256x1024_S128x256_0_768, k0_pay17 (F := Ideal) b.gu b.vn b.w3 (View.ld b.x8 g3)⟩,
    ⟨Rect.unit ![0, 512] ![128, 256] inb_S256x1024_S128x256_0_512, k0_pay16 (F := Ideal) b.gu b.vn b.w2 (View.ld b.x8 g2)⟩,
    ⟨Rect.unit ![0, 256] ![128, 256] inb_S256x1024_S128x256_0_256, k0_pay15 (F := Ideal) b.gu b.vn b.w1 (View.ld b.x8 g1)⟩,
    ⟨Rect.unit ![0, 0] ![128, 256] inb_S256x1024_S128x256_0_0, k0_pay14 (F := Ideal) b.gu
      (k0_pay13 (F := Ideal) (k0_pay4 (F := Ideal) b.x2) (k0_pay5 (F := Ideal) b.x2) (k0_pay6 (F := Ideal)) b.x5 b.x6 (View.ld b.x7 m0)) (View.ld b.x8 g0)⟩]

/-- The blocks hold the data of tile `T`. -/
structure Holds (D : Data) (T : Fin 16) : Prop where
  ya : ∀ r j, b.x0 (ix2 r j) = D.ya (tr T r) j
  u : ∀ r j, b.x1 (ix2 r j) = D.u (tr T r) j
  v : ∀ r j, b.x2 (ix2 r j) = D.v (tr T r) j
  ma : ∀ (r : Fin 256) (j : Fin 1024), b.x3 (ix2 r ⟨j.val, by omega⟩) = D.ma (tr T r) j
  mb : ∀ (r : Fin 256) (j : Fin 1024), b.x3 (ix2 r ⟨1024 + j.val, by omega⟩) = D.mb (tr T r) j
  x : ∀ r j, b.x4 (ix2 r j) = D.x (tr T r) j
  lg : ∀ j, b.x5 (ix2 0 j) = D.lg j
  lb : ∀ j, b.x6 (ix2 0 j) = D.lb j
  ws : ∀ g p q, b.x7 (ix3 g p q) = D.ws g p q
  bs : ∀ p j, b.x8 (ix2 p j) = D.bs (hd j) p
  wa : ∀ k j, b.x9 (ix2 k j) = D.wa k j
  wb : ∀ k j, b.x10 (ix2 k j) = D.wb k j
  wo : ∀ k j, b.x11 (ix2 k j) = D.wo k j
  g2 : ∀ j, b.x12 (ix2 0 j) = D.g2 j

/-- The product of the smooth unit's two constants, under its name. -/
theorem k01_eq : Named.named (F := Ideal) Cert.FsmIdeal.κ "k01" (φ := .f32) 0x3D122279#32 = ((k0 * k1 : ℝ) : EReal) := by
  have h : Named.named (F := Ideal) Cert.FsmIdeal.κ "k01" (φ := .f32) 0x3D122279#32 = ((80338380498831 / 2251799813685248 : ℝ) : EReal) :=
    IdealRules.named_const.ideal_named_scalar _ _ _ _ rfl
  rw [h]; congr 1; unfold k0 k1; norm_num

variable {b} {D : Data} {T : Fin 16} (H : b.Holds D T)
include H

theorem gu_at (r : Fin 256) (j : Fin 1024) : b.gu (ix2 r j) = D.gu (tr T r) j := by
  unfold gu
  pointwise [k0_pay3]
  rw [H.u, k01_eq, bits_k0, bits_half]
  exact gelE_tile _

theorem d_at (r : Fin 256) (j : Fin 1024) : k0_pay4 (F := Ideal) b.x2 (ix2 r j) = D.d (tr T r) j := by
  pointwise [k0_pay4]
  simp only [H.v, k01_eq, bits_k0, bits_half, gelE_tile]
  rfl

theorem va_at (r : Fin 256) : k0_pay5 (F := Ideal) b.x2 (ix2 r 0) = D.va (tr T r) := by
  pointwise [k0_pay5, d_at H]
  rfl

theorem vn_at (r : Fin 256) (j : Fin 1024) : b.vn (ix2 r j) = D.vn (tr T r) j := by
  unfold vn
  pointwise [k0_pay7, k0_pay6, d_at H, va_at H, H.lg, H.lb]
  rfl

/-- A group's weights on and below the diagonal. -/
theorem w_at (g : Fin 4) (M : FVec Ideal S1x128x128 .f32) (hM : ∀ p q, M (ix3 0 p q) = D.ws g p q) (p q : Fin 128) :
    k0_pay9 (F := Ideal) M (ix2 p q) = D.wm g p q := by
  pointwise [k0_pay9, k0_pay8]
  rw [sge_word _ _ (by omega) (by omega), hM]
  first | rfl | (unfold FsmMath.Data.wm; split <;> rfl) | (unfold FsmMath.Data.wm; split <;> simp)

theorem m_at (g : Fin 4) (R : Rect S4x128x128) (M : FVec Ideal S1x128x128 .f32) (p q : Fin 128) (e : M (ix3 0 p q) = b.x7 (ix3 g p q)) : M (ix3 0 p q) = D.ws g p q := by
  rw [e, H.ws]

theorem bias_at (g : Fin 4) (j : Fin 1024) (c : Fin 256) (hj : j = col g c) (p : Fin 128) (x : EReal) (e : x = b.x8 (ix2 p j)) : x = D.bs g p := by
  rw [e, H.bs, hj, hd_col]

/-- A block's value, from a group's weights and biases. -/
theorem yb_of (R : Fin 128 → Fin 256) (C : Fin 32) (hR : ∀ p, tr T (R p) = row C p) (g : Fin 4) (k : Fin 1024) (c : Fin 256) (hk : k = col g c)
    (W : FVec Ideal S128x128 .bf16) (hW : ∀ p q, W (ix2 p q) = D.wm g p q) (p : Fin 128) (s : EReal) (hs : s = D.bs g p) :
    b.gu (ix2 (R p) k) * ((∑ q : Fin 128, W (ix2 p q) * b.vn (ix2 (R q) k)) + s) = D.yb (tr T (R p)) k := by
  subst hk
  simp only [gu_at H, vn_at H, hW, hs, hR]
  unfold FsmMath.Data.yb FsmMath.Data.sp
  rw [ch_row, ps_row, hd_col, lo_col]

theorem w0_at (p q : Fin 128) : b.w0 (ix2 p q) = D.wm 0 p q := w_at H 0 _ (fun p q => m_at H 0 m0 _ p q (congrArg b.x7 (show m0.emb (ix3 0 p q) = ix3 0 p q by blk_ext))) p q
theorem w1_at (p q : Fin 128) : b.w1 (ix2 p q) = D.wm 1 p q := w_at H 1 _ (fun p q => m_at H 1 m1 _ p q (congrArg b.x7 (show m1.emb (ix3 0 p q) = ix3 1 p q by blk_ext))) p q
theorem w2_at (p q : Fin 128) : b.w2 (ix2 p q) = D.wm 2 p q := w_at H 2 _ (fun p q => m_at H 2 m2 _ p q (congrArg b.x7 (show m2.emb (ix3 0 p q) = ix3 2 p q by blk_ext))) p q
theorem w3_at (p q : Fin 128) : b.w3 (ix2 p q) = D.wm 3 p q := w_at H 3 _ (fun p q => m_at H 3 m3 _ p q (congrArg b.x7 (show m3.emb (ix3 0 p q) = ix3 3 p q by blk_ext))) p q

/-! ### The eight blocks -/

theorem y00 (p : Fin 128) (c : Fin 256) : k0_pay14 (F := Ideal) b.gu (k0_pay13 (F := Ideal) (k0_pay4 (F := Ideal) b.x2) (k0_pay5 (F := Ideal) b.x2) (k0_pay6 (F := Ideal)) b.x5 b.x6 (View.ld b.x7 m0)) (View.ld b.x8 g0) (ix2 p c) = D.yb (tr T (r0 p)) (k0c c) :=
  (show _ = b.gu (ix2 (r0 p) (k0c c)) * ((∑ q : Fin 128, b.w0 (ix2 p q) * b.vn (ix2 (r0 q) (k0c c))) + (View.ld b.x8 g0 : FVec Ideal S128x256 .f32) (ix2 p c))
    by unfold w0 vn; pointwise [k0_pay14, k0_pay13]).trans (yb_of H r0 _ (tr_r0 T) 0 _ c (k0c_col c) b.w0 (w0_at H) p _ (bias_at H 0 _ c (k0c_col c) p _ (congrArg b.x8 (show g0.emb (ix2 p c) = ix2 p (k0c c) by blk_ext))))
theorem y01 (p : Fin 128) (c : Fin 256) : k0_pay15 (F := Ideal) b.gu b.vn b.w1 (View.ld b.x8 g1) (ix2 p c) = D.yb (tr T (r0 p)) (k1c c) :=
  (show _ = b.gu (ix2 (r0 p) (k1c c)) * ((∑ q : Fin 128, b.w1 (ix2 p q) * b.vn (ix2 (r0 q) (k1c c))) + (View.ld b.x8 g1 : FVec Ideal S128x256 .f32) (ix2 p c))
    by pointwise [k0_pay15]).trans (yb_of H r0 _ (tr_r0 T) 1 _ c (k1c_col c) b.w1 (w1_at H) p _ (bias_at H 1 _ c (k1c_col c) p _ (congrArg b.x8 (show g1.emb (ix2 p c) = ix2 p (k1c c) by blk_ext))))
theorem y02 (p : Fin 128) (c : Fin 256) : k0_pay16 (F := Ideal) b.gu b.vn b.w2 (View.ld b.x8 g2) (ix2 p c) = D.yb (tr T (r0 p)) (k2c c) :=
  (show _ = b.gu (ix2 (r0 p) (k2c c)) * ((∑ q : Fin 128, b.w2 (ix2 p q) * b.vn (ix2 (r0 q) (k2c c))) + (View.ld b.x8 g2 : FVec Ideal S128x256 .f32) (ix2 p c))
    by pointwise [k0_pay16]).trans (yb_of H r0 _ (tr_r0 T) 2 _ c (k2c_col c) b.w2 (w2_at H) p _ (bias_at H 2 _ c (k2c_col c) p _ (congrArg b.x8 (show g2.emb (ix2 p c) = ix2 p (k2c c) by blk_ext))))
theorem y03 (p : Fin 128) (c : Fin 256) : k0_pay17 (F := Ideal) b.gu b.vn b.w3 (View.ld b.x8 g3) (ix2 p c) = D.yb (tr T (r0 p)) (k3c c) :=
  (show _ = b.gu (ix2 (r0 p) (k3c c)) * ((∑ q : Fin 128, b.w3 (ix2 p q) * b.vn (ix2 (r0 q) (k3c c))) + (View.ld b.x8 g3 : FVec Ideal S128x256 .f32) (ix2 p c))
    by pointwise [k0_pay17]).trans (yb_of H r0 _ (tr_r0 T) 3 _ c (k3c_col c) b.w3 (w3_at H) p _ (bias_at H 3 _ c (k3c_col c) p _ (congrArg b.x8 (show g3.emb (ix2 p c) = ix2 p (k3c c) by blk_ext))))
theorem y10 (p : Fin 128) (c : Fin 256) : k0_pay19 (F := Ideal) b.gu (k0_pay18 (F := Ideal) b.vn b.w0) (View.ld b.x8 g0) (ix2 p c) = D.yb (tr T (r1 p)) (k0c c) :=
  (show _ = b.gu (ix2 (r1 p) (k0c c)) * ((∑ q : Fin 128, b.w0 (ix2 p q) * b.vn (ix2 (r1 q) (k0c c))) + (View.ld b.x8 g0 : FVec Ideal S128x256 .f32) (ix2 p c))
    by pointwise [k0_pay19, k0_pay18]).trans (yb_of H r1 _ (tr_r1 T) 0 _ c (k0c_col c) b.w0 (w0_at H) p _ (bias_at H 0 _ c (k0c_col c) p _ (congrArg b.x8 (show g0.emb (ix2 p c) = ix2 p (k0c c) by blk_ext))))
theorem y11 (p : Fin 128) (c : Fin 256) : k0_pay20 (F := Ideal) b.gu b.vn b.w1 (View.ld b.x8 g1) (ix2 p c) = D.yb (tr T (r1 p)) (k1c c) :=
  (show _ = b.gu (ix2 (r1 p) (k1c c)) * ((∑ q : Fin 128, b.w1 (ix2 p q) * b.vn (ix2 (r1 q) (k1c c))) + (View.ld b.x8 g1 : FVec Ideal S128x256 .f32) (ix2 p c))
    by pointwise [k0_pay20]).trans (yb_of H r1 _ (tr_r1 T) 1 _ c (k1c_col c) b.w1 (w1_at H) p _ (bias_at H 1 _ c (k1c_col c) p _ (congrArg b.x8 (show g1.emb (ix2 p c) = ix2 p (k1c c) by blk_ext))))
theorem y12 (p : Fin 128) (c : Fin 256) : k0_pay21 (F := Ideal) b.gu b.vn b.w2 (View.ld b.x8 g2) (ix2 p c) = D.yb (tr T (r1 p)) (k2c c) :=
  (show _ = b.gu (ix2 (r1 p) (k2c c)) * ((∑ q : Fin 128, b.w2 (ix2 p q) * b.vn (ix2 (r1 q) (k2c c))) + (View.ld b.x8 g2 : FVec Ideal S128x256 .f32) (ix2 p c))
    by pointwise [k0_pay21]).trans (yb_of H r1 _ (tr_r1 T) 2 _ c (k2c_col c) b.w2 (w2_at H) p _ (bias_at H 2 _ c (k2c_col c) p _ (congrArg b.x8 (show g2.emb (ix2 p c) = ix2 p (k2c c) by blk_ext))))
theorem y13 (p : Fin 128) (c : Fin 256) : k0_pay22 (F := Ideal) b.gu b.vn b.w3 (View.ld b.x8 g3) (ix2 p c) = D.yb (tr T (r1 p)) (k3c c) :=
  (show _ = b.gu (ix2 (r1 p) (k3c c)) * ((∑ q : Fin 128, b.w3 (ix2 p q) * b.vn (ix2 (r1 q) (k3c c))) + (View.ld b.x8 g3 : FVec Ideal S128x256 .f32) (ix2 p c))
    by pointwise [k0_pay22]).trans (yb_of H r1 _ (tr_r1 T) 3 _ c (k3c_col c) b.w3 (w3_at H) p _ (bias_at H 3 _ c (k3c_col c) p _ (congrArg b.x8 (show g3.emb (ix2 p c) = ix2 p (k3c c) by blk_ext))))

omit H in
/-- A block's place in the tile. -/
theorem yb_piece (D : Data) (T : Fin 16) (P : FVec Ideal S128x256 .bf16) (R : Fin 128 → Fin 256) (K : Fin 256 → Fin 1024)
    (hP : ∀ p c, P (ix2 p c) = D.yb (tr T (R p)) (K c)) (y : S256x1024.Idx) (x : S128x256.Idx) (h0 : y 0 = R (x 0)) (h1 : y 1 = K (x 1)) :
    P x = D.yb (tr T (y 0)) (y 1) := by
  rw [h0, h1]
  exact (congrArg _ (eq_ix2 x)).trans (hP _ _)

theorem yb_at (y : S256x1024.Idx) : View.canon b.pieces y = D.yb (tr T (y 0)) (y 1) := by
  unfold pieces
  canon_tiles y h
  case piece0 => exact yb_piece D T _ r1 k3c (y13 H) _ _ (Fin.ext h0) (Fin.ext h1)
  case piece1 => exact yb_piece D T _ r1 k2c (y12 H) _ _ (Fin.ext h0) (Fin.ext h1)
  case piece2 => exact yb_piece D T _ r1 k1c (y11 H) _ _ (Fin.ext h0) (Fin.ext h1)
  case piece3 => exact yb_piece D T _ r1 k0c (y10 H) _ _ (Fin.ext h0) (Fin.ext (by simpa using h1))
  case piece4 => exact yb_piece D T _ r0 k3c (y03 H) _ _ (Fin.ext (by simpa using h0)) (Fin.ext h1)
  case piece5 => exact yb_piece D T _ r0 k2c (y02 H) _ _ (Fin.ext (by simpa using h0)) (Fin.ext h1)
  case piece6 => exact yb_piece D T _ r0 k1c (y01 H) _ _ (Fin.ext (by simpa using h0)) (Fin.ext h1)
  case piece7 => exact yb_piece D T _ r0 k0c (y00 H) _ _ (Fin.ext (by simpa using h0)) (Fin.ext (by simpa using h1))

/-- The blocks read back whole. -/
theorem back_at {κ : Kind} {sp : Space} (v : View sig κ sp S256x1024 .bf16) (r : Fin 256) (j : Fin 1024) :
    v.readCov (Val := Elt Ideal) b.pieces all.toLoadRect (ix2 r j) = D.yb (tr T r) j := by
  rw [View.readCov_eq_canon']
  refine (congrArg (View.canon b.pieces) (?_ : _ = ix2 r j)).trans (yb_at H (ix2 r j))
  blk_ext <;> [exact (show 0 + 1 * r.val = r.val by omega); exact (show 0 + 1 * j.val = j.val by omega)]

/-! ### The projections, the merge and the next norm -/

variable {Y : Vec Ideal S256x1024 .bf16} (hY : ∀ r j, Y (ix2 r j) = D.yb (tr T r) j)

theorem pa_at (r : Fin 256) (j : Fin 1024) : k0_pay24 (F := Ideal) (k0_pay23 (F := Ideal) b.x0) b.x9 (ix2 r j) = D.pa (tr T r) j := by
  pointwise [k0_pay24, k0_pay23, H.ya, H.wa]
  rfl

include hY

theorem pb_at (r : Fin 256) (j : Fin 1024) : k0_pay25 (F := Ideal) Y b.x10 (ix2 r j) = D.pb (tr T r) j := by
  pointwise [k0_pay25, hY, H.wb]
  rfl

theorem mg_at (r : Fin 256) (j : Fin 1024) :
    k0_pay27 (F := Ideal) (k0_pay23 (F := Ideal) b.x0) b.x9 Y b.x10 (View.ld b.x3 za) (View.ld b.x3 zb) (ix2 r j) = D.mg (tr T r) j := by
  pointwise [k0_pay27, pa_at H, pb_at H hY]
  exact congrArg₂ (· + ·) (congrArg (· * _) ((gate_eq _).trans (congrArg sg (H.ma r j)))) (congrArg (· * _) ((gate_eq _).trans (congrArg sg (H.mb r j))))

theorem h1_at (r : Fin 256) (j : Fin 1024) :
    k0_pay1 (F := Ideal) (k0_pay26 (F := Ideal) b.x4) (k0_pay27 (F := Ideal) (k0_pay23 (F := Ideal) b.x0) b.x9 Y b.x10 (View.ld b.x3 za) (View.ld b.x3 zb)) b.x11 (ix2 r j) = D.h1 (tr T r) j := by
  pointwise [k0_pay1, k0_pay26, mg_at H hY, H.x, H.wo]
  rfl

theorem n2_at (r : Fin 256) (j : Fin 1024) :
    k0_pay2 (F := Ideal) (k0_pay26 (F := Ideal) b.x4) (k0_pay27 (F := Ideal) (k0_pay23 (F := Ideal) b.x0) b.x9 Y b.x10 (View.ld b.x3 za) (View.ld b.x3 zb)) b.x11 b.x12 (ix2 r j) = D.n2 (tr T r) j := by
  pointwise [k0_pay2, h1_at H hY, H.g2]
  rfl

end Tile

variable (m : (ℓ : Loc nD τ sig) → Buf (Elt Ideal) ℓ) (c : Dev nD)

/-- The call's arguments. -/
abbrev V0 : FVec Ideal S1x4096x6144 .f32 := m ((c : Thread nD τ).loc main_arg0)
abbrev V1 : FVec Ideal S1x4096x1024 .f32 := m ((c : Thread nD τ).loc main_arg1)
abbrev V2 : FVec Ideal S1x4096x1024 .f32 := m ((c : Thread nD τ).loc main_arg2)
abbrev V3 : FVec Ideal S1x1024 .f32 := m ((c : Thread nD τ).loc main_arg3)
abbrev V4 : FVec Ideal S1x1024 .f32 := m ((c : Thread nD τ).loc main_arg4)
abbrev V5 : FVec Ideal S1x4x128x128 .f32 := m ((c : Thread nD τ).loc main_arg5)
abbrev V6 : FVec Ideal S1x4x128 .f32 := m ((c : Thread nD τ).loc main_arg6)
abbrev V7 : FVec Ideal S1x1024x1024 .f32 := m ((c : Thread nD τ).loc main_arg7)
abbrev V8 : FVec Ideal S1x1024x1024 .f32 := m ((c : Thread nD τ).loc main_arg8)
abbrev V9 : FVec Ideal S1x1024x1024 .f32 := m ((c : Thread nD τ).loc main_arg9)
abbrev V10 : FVec Ideal S1x1024 .f32 := m ((c : Thread nD τ).loc main_arg10)

/-- The arguments' elements. -/
abbrev data : Data := Cert.FsmRefIdeal.Hand.dat (V0 m c) (V1 m c) (V2 m c) (V3 m c) (V4 m c) (V5 m c) (V6 m c) (V7 m c) (V8 m c) (V9 m c) (V10 m c)

/-- The windows' block indices. -/
theorem idx : ∀ t : Fin cfg0.N, win0_0.index t = ![t.val, 0] ∧ win0_1.index t = ![t.val, 2] ∧ win0_2.index t = ![t.val, 3]
    ∧ win0_3.index t = ![t.val, 2] ∧ win0_4.index t = ![t.val, 0] ∧ win0_5.index t = ![0, 0] ∧ win0_6.index t = ![0, 0] ∧ win0_7.index t = ![0, 0, 0]
    ∧ win0_8.index t = ![0, 0] ∧ win0_9.index t = ![0, 0] ∧ win0_10.index t = ![0, 0] ∧ win0_11.index t = ![0, 0] ∧ win0_12.index t = ![0, 0]
    ∧ win0_13.index t = ![t.val, 0] ∧ win0_14.index t = ![t.val, 0] ∧ win0_15.index t = ![t.val, 0] ∧ win0_16.index t = ![t.val, 0] ∧ win0_17.index t = ![t.val, 0] :=
  (by decide +kernel : ∀ t : Fin grid0.N, _)

/-- The tile a grid point works on. -/
abbrev tix (t : Fin cfg0.N) : Fin 16 := ⟨t.val, t.isLt⟩

abbrev b0 (t : Fin cfg0.N) : FVec Ideal S256x1024 .bf16 := iblk m c 0 t
abbrev b1 (t : Fin cfg0.N) : FVec Ideal S256x1024 .bf16 := iblk m c 1 t
abbrev b2 (t : Fin cfg0.N) : FVec Ideal S256x1024 .bf16 := iblk m c 2 t
abbrev b3 (t : Fin cfg0.N) : FVec Ideal S256x2048 .bf16 := iblk m c 3 t
abbrev b4 (t : Fin cfg0.N) : FVec Ideal S256x1024 .f32 := iblk m c 4 t
abbrev b5 (t : Fin cfg0.N) : FVec Ideal S1x1024 .f32 := iblk m c 5 t
abbrev b6 (t : Fin cfg0.N) : FVec Ideal S1x1024 .f32 := iblk m c 6 t
abbrev b7 (t : Fin cfg0.N) : FVec Ideal S4x128x128 .f32 := iblk m c 7 t
abbrev b8 (t : Fin cfg0.N) : FVec Ideal S128x1024 .f32 := iblk m c 8 t
abbrev b9 (t : Fin cfg0.N) : FVec Ideal S1024x1024 .bf16 := iblk m c 9 t
abbrev b10 (t : Fin cfg0.N) : FVec Ideal S1024x1024 .bf16 := iblk m c 10 t
abbrev b11 (t : Fin cfg0.N) : FVec Ideal S1024x1024 .bf16 := iblk m c 11 t
abbrev b12 (t : Fin cfg0.N) : FVec Ideal S1x1024 .f32 := iblk m c 12 t

/-- A grid point's blocks. -/
abbrev pt (t : Fin cfg0.N) : Tile := ⟨b0 m c t, b1 m c t, b2 m c t, b3 m c t, b4 m c t, b5 m c t, b6 m c t, b7 m c t, b8 m c t, b9 m c t, b10 m c t, b11 m c t, b12 m c t⟩

theorem ya_at (t : Fin cfg0.N) (r : Fin 256) (j : Fin 1024) : (b0 m c t (ix2 r j) : EReal) = (data m c).ya (tr (tix t) r) j := by
  have e : (b0 m c t (ix2 r j) : EReal) = (V m c main_v12 : FVec Ideal S4096x1024 .bf16) (ix2 (tr (tix t) r) j) := by blk_ext [iblk, V, idx t]
  rw [e]; entry_read; pointwise; rfl

theorem u_at (t : Fin cfg0.N) (r : Fin 256) (j : Fin 1024) : (b1 m c t (ix2 r j) : EReal) = (data m c).u (tr (tix t) r) j := by
  have e : (b1 m c t (ix2 r j) : EReal) = (V m c main_v14 : FVec Ideal S4096x6144 .bf16) (ix2 (tr (tix t) r) ⟨2048 + j.val, by omega⟩) := by blk_ext [iblk, V, idx t]
  rw [e]; entry_read; pointwise; rfl

theorem v_at (t : Fin cfg0.N) (r : Fin 256) (j : Fin 1024) : (b2 m c t (ix2 r j) : EReal) = (data m c).v (tr (tix t) r) j := by
  have e : (b2 m c t (ix2 r j) : EReal) = (V m c main_v14 : FVec Ideal S4096x6144 .bf16) (ix2 (tr (tix t) r) ⟨3072 + j.val, by omega⟩) := by blk_ext [iblk, V, idx t]
  rw [e]; entry_read; pointwise; rfl

theorem ma_at (t : Fin cfg0.N) (r : Fin 256) (j : Fin 1024) : (b3 m c t (ix2 r ⟨j.val, by omega⟩) : EReal) = (data m c).ma (tr (tix t) r) j := by
  have e : (b3 m c t (ix2 r ⟨j.val, by omega⟩) : EReal) = (V m c main_v14 : FVec Ideal S4096x6144 .bf16) (ix2 (tr (tix t) r) ⟨4096 + j.val, by omega⟩) := by blk_ext [iblk, V, idx t]
  rw [e]; entry_read; pointwise; rfl

theorem mb_at (t : Fin cfg0.N) (r : Fin 256) (j : Fin 1024) : (b3 m c t (ix2 r ⟨1024 + j.val, by omega⟩) : EReal) = (data m c).mb (tr (tix t) r) j := by
  have e : (b3 m c t (ix2 r ⟨1024 + j.val, by omega⟩) : EReal) = (V m c main_v14 : FVec Ideal S4096x6144 .bf16) (ix2 (tr (tix t) r) ⟨5120 + j.val, by omega⟩) := by blk_ext [iblk, V, idx t]
  rw [e]; entry_read; pointwise; rfl

theorem x_at (t : Fin cfg0.N) (r : Fin 256) (j : Fin 1024) : (b4 m c t (ix2 r j) : EReal) = (data m c).x (tr (tix t) r) j := by
  have e : (b4 m c t (ix2 r j) : EReal) = (V m c main_v15 : FVec Ideal S4096x1024 .f32) (ix2 (tr (tix t) r) j) := by blk_ext [iblk, V, idx t]
  rw [e]; entry_read; pointwise; rfl

theorem lg_at (t : Fin cfg0.N) (j : Fin 1024) : (b5 m c t (ix2 0 j) : EReal) = (data m c).lg j := by
  have e : (b5 m c t (ix2 0 j) : EReal) = V3 m c (ix2 0 j) := by blk_ext [iblk, V, idx t]
  rw [e]; rfl

theorem lb_at (t : Fin cfg0.N) (j : Fin 1024) : (b6 m c t (ix2 0 j) : EReal) = (data m c).lb j := by
  have e : (b6 m c t (ix2 0 j) : EReal) = V4 m c (ix2 0 j) := by blk_ext [iblk, V, idx t]
  rw [e]; rfl

theorem ws_at (t : Fin cfg0.N) (g : Fin 4) (p q : Fin 128) : (b7 m c t (ix3 g p q) : EReal) = (data m c).ws g p q := by
  have e : (b7 m c t (ix3 g p q) : EReal) = (V m c main_v16 : FVec Ideal S4x128x128 .f32) (ix3 g p q) := by blk_ext [iblk, V, idx t]
  rw [e]; entry_read; pointwise; rfl

theorem bs_at (t : Fin cfg0.N) (p : Fin 128) (j : Fin 1024) : (b8 m c t (ix2 p j) : EReal) = (data m c).bs (hd j) p := by
  have e : (b8 m c t (ix2 p j) : EReal) = (V m c main_v4 : FVec Ideal S128x1024 .f32) (ix2 p j) := by blk_ext [iblk, V, idx t]
  rw [e]; entry_read; pointwise; rfl

theorem wa_at (t : Fin cfg0.N) (k j : Fin 1024) : (b9 m c t (ix2 k j) : EReal) = (data m c).wa k j := by
  have e : (b9 m c t (ix2 k j) : EReal) = (V m c main_v6 : FVec Ideal S1024x1024 .bf16) (ix2 k j) := by blk_ext [iblk, V, idx t]
  rw [e]; entry_read; pointwise; rfl

theorem wb_at (t : Fin cfg0.N) (k j : Fin 1024) : (b10 m c t (ix2 k j) : EReal) = (data m c).wb k j := by
  have e : (b10 m c t (ix2 k j) : EReal) = (V m c main_v8 : FVec Ideal S1024x1024 .bf16) (ix2 k j) := by blk_ext [iblk, V, idx t]
  rw [e]; entry_read; pointwise; rfl

theorem wo_at (t : Fin cfg0.N) (k j : Fin 1024) : (b11 m c t (ix2 k j) : EReal) = (data m c).wo k j := by
  have e : (b11 m c t (ix2 k j) : EReal) = (V m c main_v10 : FVec Ideal S1024x1024 .bf16) (ix2 k j) := by blk_ext [iblk, V, idx t]
  rw [e]; entry_read; pointwise; rfl

theorem g2_at (t : Fin cfg0.N) (j : Fin 1024) : (b12 m c t (ix2 0 j) : EReal) = (data m c).g2 j := by
  have e : (b12 m c t (ix2 0 j) : EReal) = V10 m c (ix2 0 j) := by blk_ext [iblk, V, idx t]
  rw [e]; rfl

/-- A point's blocks hold its tile's rows. -/
theorem holds (t : Fin cfg0.N) : (pt m c t).Holds (data m c) (tix t) :=
  ⟨ya_at m c t, u_at m c t, v_at m c t, ma_at m c t, mb_at m c t, x_at m c t, lg_at m c t, lb_at m c t, ws_at m c t, bs_at m c t, wa_at m c t, wb_at m c t, wo_at m c t, g2_at m c t⟩

end Cert.FsmIdeal.Hand

end
-- ==== Proof.FsmRun.lean ====
/- The merge over the whole run, and the claims that it computes the forward lines. -/
module

public import proofs.«01_k».proof.Proof.FsmTile
public import proofs.«01_k».proof.Proof.Gen.FsmRefIdeal.Run
public import proofs.«01_k».proof.Defs

@[expose] public section

set_option maxRecDepth 16384

noncomputable section

namespace Cert.FsmIdeal.Hand

open Cert.FsmIdeal Cert.FsmIdeal.Gen Idealize.ShloMosaic Idealize.ShloMosaic.TcCoe Idealize.SL.Sem
open Cert.FsmMath

variable (m : (ℓ : Loc nD τ sig) → Buf (Elt Ideal) ℓ) (c : Dev nD)

set_option maxHeartbeats 4000000 in
/-- An output's window after a point's body. -/
theorem after13 (t : Fin cfg0.N) (r : Fin 256) (j : Fin 1024) : (outsAt0 m c t).1 (ix2 r j) = (data m c).yb (tr (tix t) r) j := by
  unfold outsAt0; dsimp only; unfold out0_A_13; frame_out
  exact Tile.yb_at (holds m c t) (ix2 r j)

set_option maxHeartbeats 4000000 in
theorem after14 (t : Fin cfg0.N) (r : Fin 256) (j : Fin 1024) : (outsAt0 m c t).2.1 (ix2 r j) = (data m c).pa (tr (tix t) r) j := by
  unfold outsAt0; dsimp only; unfold out0_A_14; frame_out
  exact Tile.pa_at (holds m c t) r j

set_option maxHeartbeats 4000000 in
theorem after15 (t : Fin cfg0.N) (r : Fin 256) (j : Fin 1024) : (outsAt0 m c t).2.2.1 (ix2 r j) = (data m c).pb (tr (tix t) r) j := by
  unfold outsAt0; dsimp only; unfold out0_A_15; frame_out
  exact Tile.pb_at (holds m c t) (Tile.back_at (holds m c t) _) r j

set_option maxHeartbeats 4000000 in
theorem after16 (t : Fin cfg0.N) (r : Fin 256) (j : Fin 1024) : (outsAt0 m c t).2.2.2.1 (ix2 r j) = (data m c).h1 (tr (tix t) r) j := by
  unfold outsAt0; dsimp only; unfold out0_A_16; frame_out
  exact Tile.h1_at (holds m c t) (Tile.back_at (holds m c t) _) r j

set_option maxHeartbeats 4000000 in
theorem after17 (t : Fin cfg0.N) (r : Fin 256) (j : Fin 1024) : (outsAt0 m c t).2.2.2.2 (ix2 r j) = (data m c).n2 (tr (tix t) r) j := by
  unfold outsAt0; dsimp only; unfold out0_A_17; frame_out
  exact Tile.n2_at (holds m c t) (Tile.back_at (holds m c t) _) r j

/-- The gating unit's result after the run. -/
theorem final13 : (dats m 0 c).arrAt 13 (cfgs 0).N = Cert.FsmRefIdeal.Read.val_main_v110 (F := Ideal) (V0 m c) (V3 m c) (V4 m c) (V5 m c) (V6 m c) := by
  refine (dats m 0 c).arrAt_eq_of_covers 13 _ (by decide +kernel) fun t _ y => ?_
  blk_simp
  rw [after0_13]
  have ey : ((cfg0.win 13).blk t).view.emb y = ix2 (tr (tix t) (y 0)) (y 1) := by blk_ext [idx t]
  rw [ey]
  exact (congrArg _ (eq_ix2 y)).trans ((after13 m c t (y 0) (y 1)).trans (Cert.FsmRefIdeal.Hand.out0_at (V0 m c) (V1 m c) (V2 m c) (V3 m c) (V4 m c) (V5 m c) (V6 m c) (V7 m c) (V8 m c) (V9 m c) (V10 m c) _ _).symm)

/-- The first projection after the run. -/
theorem final14 : (dats m 0 c).arrAt 14 (cfgs 0).N = Cert.FsmRefIdeal.Read.val_main_v111 (F := Ideal) (V1 m c) (V7 m c) := by
  refine (dats m 0 c).arrAt_eq_of_covers 14 _ (by decide +kernel) fun t _ y => ?_
  blk_simp
  rw [after0_14]
  have ey : ((cfg0.win 14).blk t).view.emb y = ix2 (tr (tix t) (y 0)) (y 1) := by blk_ext [idx t]
  rw [ey]
  exact (congrArg _ (eq_ix2 y)).trans ((after14 m c t (y 0) (y 1)).trans (Cert.FsmRefIdeal.Hand.out1_at (V0 m c) (V1 m c) (V2 m c) (V3 m c) (V4 m c) (V5 m c) (V6 m c) (V7 m c) (V8 m c) (V9 m c) (V10 m c) _ _).symm)

/-- The second projection after the run. -/
theorem final15 : (dats m 0 c).arrAt 15 (cfgs 0).N = Cert.FsmRefIdeal.Read.val_main_v112 (F := Ideal) (V0 m c) (V3 m c) (V4 m c) (V5 m c) (V6 m c) (V8 m c) := by
  refine (dats m 0 c).arrAt_eq_of_covers 15 _ (by decide +kernel) fun t _ y => ?_
  blk_simp
  rw [after0_15]
  have ey : ((cfg0.win 15).blk t).view.emb y = ix2 (tr (tix t) (y 0)) (y 1) := by blk_ext [idx t]
  rw [ey]
  exact (congrArg _ (eq_ix2 y)).trans ((after15 m c t (y 0) (y 1)).trans (Cert.FsmRefIdeal.Hand.out2_at (V0 m c) (V1 m c) (V2 m c) (V3 m c) (V4 m c) (V5 m c) (V6 m c) (V7 m c) (V8 m c) (V9 m c) (V10 m c) _ _).symm)

/-- The residual stream after the run. -/
theorem final16 : (dats m 0 c).arrAt 16 (cfgs 0).N = Cert.FsmRefIdeal.Read.val_main_v113 (F := Ideal) (V0 m c) (V1 m c) (V2 m c) (V3 m c) (V4 m c) (V5 m c) (V6 m c) (V7 m c) (V8 m c) (V9 m c) := by
  refine (dats m 0 c).arrAt_eq_of_covers 16 _ (by decide +kernel) fun t _ y => ?_
  blk_simp
  rw [after0_16]
  have ey : ((cfg0.win 16).blk t).view.emb y = ix2 (tr (tix t) (y 0)) (y 1) := by blk_ext [idx t]
  rw [ey]
  exact (congrArg _ (eq_ix2 y)).trans ((after16 m c t (y 0) (y 1)).trans (Cert.FsmRefIdeal.Hand.out3_at (V0 m c) (V1 m c) (V2 m c) (V3 m c) (V4 m c) (V5 m c) (V6 m c) (V7 m c) (V8 m c) (V9 m c) (V10 m c) _ _).symm)

/-- The next norm's rows after the run. -/
theorem final17 : (dats m 0 c).arrAt 17 (cfgs 0).N = Cert.FsmRefIdeal.Read.val_main_v115 (F := Ideal) (V0 m c) (V1 m c) (V2 m c) (V3 m c) (V4 m c) (V5 m c) (V6 m c) (V7 m c) (V8 m c) (V9 m c) (V10 m c) := by
  refine (dats m 0 c).arrAt_eq_of_covers 17 _ (by decide +kernel) fun t _ y => ?_
  blk_simp
  rw [after0_17]
  have ey : ((cfg0.win 17).blk t).view.emb y = ix2 (tr (tix t) (y 0)) (y 1) := by blk_ext [idx t]
  rw [ey]
  exact (congrArg _ (eq_ix2 y)).trans ((after17 m c t (y 0) (y 1)).trans (Cert.FsmRefIdeal.Hand.out4_at (V0 m c) (V1 m c) (V2 m c) (V3 m c) (V4 m c) (V5 m c) (V6 m c) (V7 m c) (V8 m c) (V9 m c) (V10 m c) _ _).symm)

end Cert.FsmIdeal.Hand

namespace Cert.Fsm.Hand

open Idealize.ShloMosaic Idealize.ShloMosaic.TcCoe Idealize.SL.Sem

set_option maxHeartbeats 4000000 in
/-- The call and the forward lines give the same five arrays. -/
theorem algebraic : Cert.algebraic_FsmIdeal_FsmRefIdeal := by
  pair_intro
  · exact Cert.FsmIdeal.Value.run_blocks m g
  · rename' hagree => hag
    have e0 (c : Dev Cert.FsmIdeal.nD) : m' ((c : Thread Cert.FsmRefIdeal.nD Cert.FsmRefIdeal.τ).loc Cert.FsmRefIdeal.main_arg0) = Cert.FsmIdeal.Hand.V0 m c := (hag c).1
    have e1 (c : Dev Cert.FsmIdeal.nD) : m' ((c : Thread Cert.FsmRefIdeal.nD Cert.FsmRefIdeal.τ).loc Cert.FsmRefIdeal.main_arg1) = Cert.FsmIdeal.Hand.V1 m c := (hag c).2.1
    have e2 (c : Dev Cert.FsmIdeal.nD) : m' ((c : Thread Cert.FsmRefIdeal.nD Cert.FsmRefIdeal.τ).loc Cert.FsmRefIdeal.main_arg2) = Cert.FsmIdeal.Hand.V2 m c := (hag c).2.2.1
    have e3 (c : Dev Cert.FsmIdeal.nD) : m' ((c : Thread Cert.FsmRefIdeal.nD Cert.FsmRefIdeal.τ).loc Cert.FsmRefIdeal.main_arg3) = Cert.FsmIdeal.Hand.V3 m c := (hag c).2.2.2.1
    have e4 (c : Dev Cert.FsmIdeal.nD) : m' ((c : Thread Cert.FsmRefIdeal.nD Cert.FsmRefIdeal.τ).loc Cert.FsmRefIdeal.main_arg4) = Cert.FsmIdeal.Hand.V4 m c := (hag c).2.2.2.2.1
    have e5 (c : Dev Cert.FsmIdeal.nD) : m' ((c : Thread Cert.FsmRefIdeal.nD Cert.FsmRefIdeal.τ).loc Cert.FsmRefIdeal.main_arg5) = Cert.FsmIdeal.Hand.V5 m c := (hag c).2.2.2.2.2.1
    have e6 (c : Dev Cert.FsmIdeal.nD) : m' ((c : Thread Cert.FsmRefIdeal.nD Cert.FsmRefIdeal.τ).loc Cert.FsmRefIdeal.main_arg6) = Cert.FsmIdeal.Hand.V6 m c := (hag c).2.2.2.2.2.2.1
    have e7 (c : Dev Cert.FsmIdeal.nD) : m' ((c : Thread Cert.FsmRefIdeal.nD Cert.FsmRefIdeal.τ).loc Cert.FsmRefIdeal.main_arg7) = Cert.FsmIdeal.Hand.V7 m c := (hag c).2.2.2.2.2.2.2.1
    have e8 (c : Dev Cert.FsmIdeal.nD) : m' ((c : Thread Cert.FsmRefIdeal.nD Cert.FsmRefIdeal.τ).loc Cert.FsmRefIdeal.main_arg8) = Cert.FsmIdeal.Hand.V8 m c := (hag c).2.2.2.2.2.2.2.2.1
    have e9 (c : Dev Cert.FsmIdeal.nD) : m' ((c : Thread Cert.FsmRefIdeal.nD Cert.FsmRefIdeal.τ).loc Cert.FsmRefIdeal.main_arg9) = Cert.FsmIdeal.Hand.V9 m c := (hag c).2.2.2.2.2.2.2.2.2.1
    have e10 (c : Dev Cert.FsmIdeal.nD) : m' ((c : Thread Cert.FsmRefIdeal.nD Cert.FsmRefIdeal.τ).loc Cert.FsmRefIdeal.main_arg10) = Cert.FsmIdeal.Hand.V10 m c := (hag c).2.2.2.2.2.2.2.2.2.2
    run_from Cert.FsmRefIdeal.Value.run m' g'
    · exact (Cert.FsmRefIdeal.Read.val_main_v110_eq _ _).trans (by rw [e0, e3, e4, e5, e6]; exact (Cert.FsmIdeal.Hand.final13 m c).symm)
    · exact (Cert.FsmRefIdeal.Read.val_main_v111_eq _ _).trans (by rw [e1, e7]; exact (Cert.FsmIdeal.Hand.final14 m c).symm)
    · exact (Cert.FsmRefIdeal.Read.val_main_v112_eq _ _).trans (by rw [e0, e3, e4, e5, e6, e8]; exact (Cert.FsmIdeal.Hand.final15 m c).symm)
    · exact (Cert.FsmRefIdeal.Read.val_main_v113_eq _ _).trans (by rw [e0, e1, e2, e3, e4, e5, e6, e7, e8, e9]; exact (Cert.FsmIdeal.Hand.final16 m c).symm)
    · exact (Cert.FsmRefIdeal.Read.val_main_v115_eq _ _).trans (by rw [e0, e1, e2, e3, e4, e5, e6, e7, e8, e9, e10]; exact (Cert.FsmIdeal.Hand.final17 m c).symm)

/-- The forward lines run, and leave their arguments. -/
theorem frame_ref : Cert.quiescent_FsmRefIdeal := by
  intro m g _
  run_from Cert.FsmRefIdeal.Value.run m g
  · exact fun _ => ⟨trivial, trivial, trivial, trivial, trivial, trivial, trivial, trivial, trivial, trivial, trivial⟩
  · exact sem_eq_zero_of_no_sems rfl _

/-- The one word given its value: the product of the smooth unit's two constants. -/
theorem preserves : Cert.preserves_Fsm_FsmIdeal :=
  IdealRules.named_const.statement Cert.FsmIdeal.κ "k01" .f32 0x3D122279#32 ((80338380498831 / 2251799813685248 : ℝ) : EReal) rfl

end Cert.Fsm.Hand

end
-- ==== Proof.WgradRun.lean ====
/- The input projection's weight gradient: the product of the normalised rows, transposed, with the output's gradient,
   summed over two tiles of rows, and the claims that it is the gradient of the forward lines. -/
module

public import proofs.«01_k».proof.Proof.Gen.WgradIdeal.Value
public import proofs.«01_k».proof.Proof.Gen.WgradRefIdeal.Read
public import proofs.«01_k».proof.Proof.Gen.WgradRefIdeal.Run
public import proofs.«01_k».proof.Defs
public import Idealize.ShloMosaic.Lib.Pointwise
public import Idealize.ShloMosaic.Lib.Claim
public import Idealize.ShloMosaic.Lib.Quiescent
public import Idealize.ShloMosaic.Lib.Pipeline.ValueKit
public import Idealize.ShloMosaic.Lib.Pipeline.ReadBack

@[expose] public section

set_option maxRecDepth 16384

noncomputable section

namespace Cert.WgradRefIdeal.Hand

open Cert.WgradRefIdeal Cert.WgradRefIdeal.Gen Cert.WgradRefIdeal.Read Idealize.ShloMosaic Idealize.ShloMosaic.TcCoe Idealize.SL.Sem

/-- A normalised row with its gain. -/
def nrm (x : FVec Ideal S1x4096x1024 .f32) (g : FVec Ideal S1x1024 .f32) (t : Fin 4096) (k : Fin 1024) : EReal :=
  x (ix3 0 t k) * Ideal.rsqrt (Ideal.div (∑ l, x (ix3 0 t l) * x (ix3 0 t l)) (Ideal.ofBits .f32 0x44800000#32) + Ideal.ofBits .f32 0x358637BD#32) * g (ix2 0 k)

/-- The weight's gradient: a sum over the rows. -/
def dw (x : FVec Ideal S1x4096x1024 .f32) (g : FVec Ideal S1x1024 .f32) (dz : FVec Ideal S4096x6144 .bf16) (k : Fin 1024) (n : Fin 6144) : EReal :=
  ∑ t : Fin 4096, nrm x g t k * dz (ix2 t n)

variable (x : FVec Ideal S1x4096x1024 .f32) (g : FVec Ideal S1x1024 .f32) (dz : FVec Ideal S4096x6144 .bf16)

theorem v14_at (a : Fin 1) (t : Fin 4096) (k : Fin 1024) : val_main_v14 (F := Ideal) x g (ix3 a t k) = nrm x g t k := by
  obtain rfl := Subsingleton.elim a 0
  pointwise [val_main_v14, val_main_v13, val_main_v12, val_main_v11, val_main_v10, val_main_v9, val_main_v8, val_main_v7, val_main_v6, val_main_v5, val_main_v4, val_main_v3, val_main_v2, val_main_v1, val_main_cst_0, val_main_cst_1, val_main_cst_2]
  first | rfl | (simp only [zero_add]; rfl)

/-- The differentiated forward lines, element by element. -/
theorem dw_at (j : Fin 4) (k : Fin 1024) (n : Fin 1536) : val_main_v25 (F := Ideal) x g dz (ix3 j k n) = dw x g dz k ⟨j.val * 1536 + n.val, by omega⟩ := by
  pointwise [val_main_v25, val_main_v24, val_main_v23, val_main_v22, val_main_v21, val_main_v20, val_main_v19, val_main_v18, val_main_v17, v14_at]
  exact (Fin.sum_univ_one _).trans (Finset.sum_congr rfl fun t _ => mul_comm _ _)

end Cert.WgradRefIdeal.Hand

namespace Cert.WgradIdeal.Hand

open Cert.WgradIdeal Cert.WgradIdeal.Gen Idealize.ShloMosaic Idealize.ShloMosaic.TcCoe Idealize.SL.Sem
open Cert.WgradRefIdeal.Hand (nrm dw)

/-- A tile's part of the product, element by element. -/
theorem part_at (x0 : FVec Ideal S2048x1024 .bf16) (x1 : FVec Ideal S2048x1536 .bf16) (k : Fin 1024) (n : Fin 1536) :
    k0_pay2 (F := Ideal) x0 x1 (ix2 k n) = ∑ r : Fin 2048, x0 (ix2 r k) * x1 (ix2 r n) := by
  pointwise [k0_pay2, k0_pay1]

/-- The second tile's part added and the sum written. -/
theorem whole_at (x0 : FVec Ideal S2048x1024 .bf16) (x1 : FVec Ideal S2048x1536 .bf16) (a : FVec Ideal S1024x1536 .f32) (u : Fin 1) (k : Fin 1024) (n : Fin 1536) :
    k0_pay4 (F := Ideal) (k0_pay3 (F := Ideal) x0 x1 a) (ix3 u k n) = a (ix2 k n) + ∑ r : Fin 2048, x0 (ix2 r k) * x1 (ix2 r n) := by
  pointwise [k0_pay4, k0_pay3, k0_pay1]

variable (m : (ℓ : Loc nD τ sig) → Buf (Elt Ideal) ℓ) (c : Dev nD)

/-- The call's arguments. -/
abbrev V0 : FVec Ideal S1x4096x1024 .f32 := m ((c : Thread nD τ).loc main_arg0)
abbrev V1 : FVec Ideal S1x1024 .f32 := m ((c : Thread nD τ).loc main_arg1)
abbrev V2 : FVec Ideal S4096x6144 .bf16 := m ((c : Thread nD τ).loc main_arg2)

theorem idx : ∀ t : Fin cfg0.N, win0_0.index t = ![t.val % 2, 0] ∧ win0_1.index t = ![t.val % 2, t.val / 2] ∧ win0_2.index t = ![t.val / 2, 0, 0] :=
  (by decide +kernel : ∀ t : Fin grid0.N, _)

/-- The array row a tile's row is, and the array column a tile's column is. -/
abbrev row (t : Fin cfg0.N) (r : Fin 2048) : Fin 4096 := ⟨(t.val % 2) * 2048 + r.val, by omega⟩
abbrev col (t : Fin cfg0.N) (n : Fin 1536) : Fin 6144 := ⟨(t.val / 2) * 1536 + n.val, by have h : t.val < 8 := lt_of_lt_of_eq t.isLt N_0; omega⟩

abbrev b0 (t : Fin cfg0.N) : FVec Ideal S2048x1024 .bf16 := iblk m c 0 t
abbrev b1 (t : Fin cfg0.N) : FVec Ideal S2048x1536 .bf16 := iblk m c 1 t

theorem b0_at (t : Fin cfg0.N) (r : Fin 2048) (k : Fin 1024) : (b0 m c t (ix2 r k) : EReal) = nrm (V0 m c) (V1 m c) (row t r) k := by
  have e : (b0 m c t (ix2 r k) : EReal) = (V m c main_v13 : FVec Ideal S4096x1024 .bf16) (ix2 (row t r) k) := by blk_ext [iblk, idx t]
  rw [e]; entry_read; pointwise; rfl

theorem b1_at (t : Fin cfg0.N) (r : Fin 2048) (n : Fin 1536) : (b1 m c t (ix2 r n) : EReal) = V2 m c (ix2 (row t r) (col t n)) := by
  blk_ext [iblk, V, idx t]

/-- What the first tile leaves in the accumulator. -/
theorem acc_first (t : Fin cfg0.N) (h : t.val % 2 = 0) : (outsAt0 m c t.val t.isLt).2 = k0_pay2 (F := Ideal) (b0 m c t) (b1 m c t) := by
  rw [outsAt0_A m c t h (by omega) (by omega)]; frame_out

/-- What the second tile writes. -/
theorem out_second (t : Fin cfg0.N) (h : t.val % 2 = 1) : (outsAt0 m c t.val t.isLt).1
    = k0_pay4 (F := Ideal) (k0_pay3 (F := Ideal) (b0 m c t) (b1 m c t) (outsAt0 m c (t.val - 1) (Nat.lt_of_le_of_lt (Nat.sub_le _ _) t.isLt)).2) := by
  rw [outsAt0_B m c t (by omega) h h]; frame_out; simp only [read_unread_whole]

/-- A block of the result: the sum over the two tiles is the sum over all rows. -/
theorem blk_at (t : Fin cfg0.N) (h : t.val % 2 = 1) (u : Fin 1) (k : Fin 1024) (n : Fin 1536) :
    (outsAt0 m c t.val t.isLt).1 (ix3 u k n) = dw (V0 m c) (V1 m c) (V2 m c) k (col t n) := by
  rw [out_second m c t h, acc_first m c ⟨t.val - 1, Nat.lt_of_le_of_lt (Nat.sub_le _ _) t.isLt⟩ (by show (t.val - 1) % 2 = 0; omega), whole_at, part_at]
  simp only [b0_at, b1_at]
  unfold dw
  rw [Fin.sum_univ_tiles 2 2048 rfl, Fin.sum_univ_two]
  refine congrArg₂ (· + ·) (Finset.sum_congr rfl fun r _ => ?_) (Finset.sum_congr rfl fun r _ => ?_)
  · have er : row ⟨t.val - 1, Nat.lt_of_le_of_lt (Nat.sub_le _ _) t.isLt⟩ r = ⟨(0 : Fin 2).val * 2048 + r.val, by omega⟩ := Fin.ext (by show (t.val - 1) % 2 * 2048 + r.val = 0 * 2048 + r.val; omega)
    have ec : col ⟨t.val - 1, Nat.lt_of_le_of_lt (Nat.sub_le _ _) t.isLt⟩ n = col t n := Fin.ext (by show (t.val - 1) / 2 * 1536 + n.val = t.val / 2 * 1536 + n.val; omega)
    rw [er, ec]
  · have er : row t r = ⟨(1 : Fin 2).val * 2048 + r.val, by omega⟩ := Fin.ext (by show t.val % 2 * 2048 + r.val = 1 * 2048 + r.val; omega)
    rw [er]

/-- The weight's gradient after the run. -/
theorem final2 : (dats m 0 c).arrAt 2 cfg0.N = Cert.WgradRefIdeal.Read.val_main_v25 (F := Ideal) (V0 m c) (V1 m c) (V2 m c) := by
  rw [Value.final2]
  funext i
  have h0 : (i 0).val < 4 := (i 0).isLt
  have h1 : (i 1).val < 1024 := (i 1).isLt
  have h2 : (i 2).val < 1536 := (i 2).isLt
  have hp : Value.pt2Of i = 2 * (i 0).val + 1 := by show 2 * (1 * ((i 0).val / 1 - 0) + 1 * ((i 1).val / 1024 - 0) + 1 * ((i 2).val / 1536 - 0)) + 1 = _; omega
  have hN : Value.pt2Of i < cfg0.N := lt_of_lt_of_eq (by omega) N_0.symm
  unfold Value.G2
  rw [dif_pos hN, ← Value.outsAt0_sweep m c (Value.pt2Of i) hN]
  have el : Value.loc2Of i = ix3 0 (i 1) (i 2) := by
    funext a; apply Fin.ext
    match a with
    | ⟨0, _⟩ => show (i 0).val % 1 = 0; omega
    | ⟨1, _⟩ => show (i 1).val % 1024 = (i 1).val; omega
    | ⟨2, _⟩ => show (i 2).val % 1536 = (i 2).val; omega
  have ec : col ⟨Value.pt2Of i, hN⟩ (i 2) = ⟨(i 0).val * 1536 + (i 2).val, by omega⟩ := Fin.ext (by show Value.pt2Of i / 2 * 1536 + (i 2).val = (i 0).val * 1536 + (i 2).val; omega)
  refine (congrArg _ el).trans ((blk_at m c ⟨Value.pt2Of i, hN⟩ (by show Value.pt2Of i % 2 = 1; omega) 0 (i 1) (i 2)).trans ?_)
  rw [ec]
  exact ((congrArg _ (eq_ix3 i)).trans (Cert.WgradRefIdeal.Hand.dw_at (V0 m c) (V1 m c) (V2 m c) (i 0) (i 1) (i 2))).symm

end Cert.WgradIdeal.Hand

namespace Cert.Wgrad.Hand

open Idealize.ShloMosaic Idealize.ShloMosaic.TcCoe Idealize.SL.Sem

set_option maxHeartbeats 4000000 in
/-- The call and the gradient of the forward lines give the same array. -/
theorem algebraic : Cert.algebraic_WgradIdeal_WgradRefIdeal := by
  pair_intro
  · exact Cert.WgradIdeal.Value.run_blocks m g
  · rename' hagree => hag
    have e0 (c : Dev Cert.WgradIdeal.nD) : m' ((c : Thread Cert.WgradRefIdeal.nD Cert.WgradRefIdeal.τ).loc Cert.WgradRefIdeal.main_arg0) = Cert.WgradIdeal.Hand.V0 m c := (hag c).1
    have e1 (c : Dev Cert.WgradIdeal.nD) : m' ((c : Thread Cert.WgradRefIdeal.nD Cert.WgradRefIdeal.τ).loc Cert.WgradRefIdeal.main_arg1) = Cert.WgradIdeal.Hand.V1 m c := (hag c).2.1
    have e2 (c : Dev Cert.WgradIdeal.nD) : m' ((c : Thread Cert.WgradRefIdeal.nD Cert.WgradRefIdeal.τ).loc Cert.WgradRefIdeal.main_arg2) = Cert.WgradIdeal.Hand.V2 m c := (hag c).2.2
    run_from Cert.WgradRefIdeal.Value.run m' g'
    · exact (Cert.WgradRefIdeal.Read.val_main_v25_eq _ _ _).trans (by rw [e0, e1, e2]; exact (Cert.WgradIdeal.Hand.final2 m c).symm)

/-- The gradient of the forward lines runs, and leaves its arguments. -/
theorem frame_ref : Cert.quiescent_WgradRefIdeal := by
  intro m g _
  run_from Cert.WgradRefIdeal.Value.run m g
  · exact fun _ => ⟨trivial, trivial, trivial⟩
  · exact sem_eq_zero_of_no_sems rfl _

end Cert.Wgrad.Hand

end
-- ==== Proof.WsqRun.lean ====
/- The three projections' weight gradients: each the product of the rows that went in, transposed, with the gradient that
   came back, summed over four tiles of rows, and the claims that they are the gradients of the forward lines. -/
module

public import proofs.«01_k».proof.Proof.Gen.WsqIdeal.Value
public import proofs.«01_k».proof.Proof.Gen.WsqRefIdeal.Read
public import proofs.«01_k».proof.Proof.Gen.WsqRefIdeal.Run
public import proofs.«01_k».proof.Defs
public import Idealize.ShloMosaic.Lib.Pointwise
public import Idealize.ShloMosaic.Lib.Claim
public import Idealize.ShloMosaic.Lib.Quiescent
public import Idealize.ShloMosaic.Lib.Pipeline.ValueKit
public import Idealize.ShloMosaic.Lib.Pipeline.ReadBack

@[expose] public section

set_option maxRecDepth 16384

noncomputable section

namespace Cert.WsqRefIdeal.Hand

open Cert.WsqRefIdeal Cert.WsqRefIdeal.Gen Cert.WsqRefIdeal.Read Idealize.ShloMosaic Idealize.ShloMosaic.TcCoe Idealize.SL.Sem

/-- A weight's gradient: a sum over the rows. -/
def dw (x d : FVec Ideal S1x4096x1024 .f32) (k n : Fin 1024) : EReal := ∑ t : Fin 4096, x (ix3 0 t k) * d (ix3 0 t n)

variable (x d : FVec Ideal S1x4096x1024 .f32) (k n : Fin 1024)

theorem v17_at : val_main_v17 (F := Ideal) x d (ix2 k n) = dw x d k n := by
  pointwise [val_main_v17, val_main_v16, val_main_v9, val_main_v8, val_main_v7]
  exact (Fin.sum_univ_one _).trans (Finset.sum_congr rfl fun t _ => mul_comm _ _)

theorem v19_at : val_main_v19 (F := Ideal) x d (ix2 k n) = dw x d k n := by
  pointwise [val_main_v19, val_main_v18, val_main_v15, val_main_v14, val_main_v13]
  exact (Fin.sum_univ_one _).trans (Finset.sum_congr rfl fun t _ => mul_comm _ _)

theorem v21_at : val_main_v21 (F := Ideal) x d (ix2 k n) = dw x d k n := by
  pointwise [val_main_v21, val_main_v20, val_main_v12, val_main_v11, val_main_v10]
  exact (Fin.sum_univ_one _).trans (Finset.sum_congr rfl fun t _ => mul_comm _ _)

end Cert.WsqRefIdeal.Hand

namespace Cert.WsqIdeal.Hand

open Cert.WsqIdeal Cert.WsqIdeal.Gen Idealize.ShloMosaic Idealize.ShloMosaic.TcCoe Idealize.SL.Sem
open Cert.WsqRefIdeal.Hand (dw)

/-- A tile's part of a product. -/
def part (x y : FVec Ideal S1024x1024 .bf16) (j : S1024x1024.Idx) : EReal := ∑ r : Fin 1024, x (ix2 r (j 0)) * y (ix2 r (j 1))

theorem first_at (x y : FVec Ideal S1024x1024 .bf16) (j : S1024x1024.Idx) : k0_pay2 (F := Ideal) x y j = 0 + part x y j := by
  rw [zero_add]
  unfold part
  idx_vars j
  pointwise [k0_pay2, k0_pay1]

theorem next_at (x y : FVec Ideal S1024x1024 .bf16) (a : FVec Ideal S1024x1024 .f32) (j : S1024x1024.Idx) : k0_pay3 (F := Ideal) x y a j = a j + part x y j := by
  unfold part
  idx_vars j
  pointwise [k0_pay3, k0_pay1]

variable (m : (ℓ : Loc nD τ sig) → Buf (Elt Ideal) ℓ) (c : Dev nD)

/-- The call's arguments. -/
abbrev V0 : FVec Ideal S1x4096x1024 .f32 := m ((c : Thread nD τ).loc main_arg0)
abbrev V1 : FVec Ideal S1x4096x1024 .f32 := m ((c : Thread nD τ).loc main_arg1)
abbrev V2 : FVec Ideal S1x4096x1024 .f32 := m ((c : Thread nD τ).loc main_arg2)
abbrev V3 : FVec Ideal S1x4096x1024 .f32 := m ((c : Thread nD τ).loc main_arg3)
abbrev V4 : FVec Ideal S1x4096x1024 .f32 := m ((c : Thread nD τ).loc main_arg4)
abbrev V5 : FVec Ideal S1x4096x1024 .f32 := m ((c : Thread nD τ).loc main_arg5)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] :=
  (by decide +kernel : ∀ t : Fin grid0.N, _)

/-- The array row a tile's row is. -/
abbrev row (t : Fin cfg0.N) (r : Fin 1024) : Fin 4096 := ⟨t.val * 1024 + r.val, by have h : t.val < 4 := lt_of_lt_of_eq t.isLt N_0; omega⟩

abbrev b0 (t : Fin cfg0.N) : FVec Ideal S1024x1024 .bf16 := iblk m c 0 t
abbrev b1 (t : Fin cfg0.N) : FVec Ideal S1024x1024 .bf16 := iblk m c 1 t
abbrev b2 (t : Fin cfg0.N) : FVec Ideal S1024x1024 .bf16 := iblk m c 2 t
abbrev b3 (t : Fin cfg0.N) : FVec Ideal S1024x1024 .bf16 := iblk m c 3 t
abbrev b4 (t : Fin cfg0.N) : FVec Ideal S1024x1024 .bf16 := iblk m c 4 t
abbrev b5 (t : Fin cfg0.N) : FVec Ideal S1024x1024 .bf16 := iblk m c 5 t

theorem b0_at (t : Fin cfg0.N) (r k : Fin 1024) : (b0 m c t (ix2 r k) : EReal) = V2 m c (ix3 0 (row t r) k) := by
  have e : (b0 m c t (ix2 r k) : EReal) = (V m c main_v1 : FVec Ideal S4096x1024 .bf16) (ix2 (row t r) k) := by blk_ext [iblk, idx t]
  rw [e]; entry_read; pointwise

theorem b1_at (t : Fin cfg0.N) (r k : Fin 1024) : (b1 m c t (ix2 r k) : EReal) = V5 m c (ix3 0 (row t r) k) := by
  have e : (b1 m c t (ix2 r k) : EReal) = (V m c main_v3 : FVec Ideal S4096x1024 .bf16) (ix2 (row t r) k) := by blk_ext [iblk, idx t]
  rw [e]; entry_read; pointwise

theorem b2_at (t : Fin cfg0.N) (r k : Fin 1024) : (b2 m c t (ix2 r k) : EReal) = V0 m c (ix3 0 (row t r) k) := by
  have e : (b2 m c t (ix2 r k) : EReal) = (V m c main_v5 : FVec Ideal S4096x1024 .bf16) (ix2 (row t r) k) := by blk_ext [iblk, idx t]
  rw [e]; entry_read; pointwise

theorem b3_at (t : Fin cfg0.N) (r k : Fin 1024) : (b3 m c t (ix2 r k) : EReal) = V3 m c (ix3 0 (row t r) k) := by
  have e : (b3 m c t (ix2 r k) : EReal) = (V m c main_v7 : FVec Ideal S4096x1024 .bf16) (ix2 (row t r) k) := by blk_ext [iblk, idx t]
  rw [e]; entry_read; pointwise

theorem b4_at (t : Fin cfg0.N) (r k : Fin 1024) : (b4 m c t (ix2 r k) : EReal) = V1 m c (ix3 0 (row t r) k) := by
  have e : (b4 m c t (ix2 r k) : EReal) = (V m c main_v9 : FVec Ideal S4096x1024 .bf16) (ix2 (row t r) k) := by blk_ext [iblk, idx t]
  rw [e]; entry_read; pointwise

theorem b5_at (t : Fin cfg0.N) (r k : Fin 1024) : (b5 m c t (ix2 r k) : EReal) = V4 m c (ix3 0 (row t r) k) := by
  have e : (b5 m c t (ix2 r k) : EReal) = (V m c main_v11 : FVec Ideal S4096x1024 .bf16) (ix2 (row t r) k) := by blk_ext [iblk, idx t]
  rw [e]; entry_read; pointwise

/-- What a tile leaves in the outer projection's accumulator, and what the last one writes. -/
theorem acc0_first (t : Fin cfg0.N) (h : t.val % 4 = 0) : (outsAt0 m c t.val t.isLt).2.2.2.1 = k0_pay2 (F := Ideal) (b0 m c t) (b1 m c t) := by
  have hN : t.val < 4 := lt_of_lt_of_eq t.isLt N_0
  have a0 : ¬1 ≤ t.val := by omega
  have a1 : ¬t.val % 4 = 3 := by omega
  rw [outsAt0_A m c t h a0 a1 h a0 a1 h a0 a1]; frame_out; rfl

theorem acc0_next (t : Fin cfg0.N) (h : ¬t.val % 4 = 0) : (outsAt0 m c t.val t.isLt).2.2.2.1 = k0_pay3 (F := Ideal) (b0 m c t) (b1 m c t) (outsAt0 m c (t.val - 1) (Nat.lt_of_le_of_lt (Nat.sub_le _ _) t.isLt)).2.2.2.1 := by
  have a0 : 1 ≤ t.val := by omega
  by_cases a1 : t.val % 4 = 3
  · rw [outsAt0_C m c t h a0 a1 h a0 a1 h a0 a1]; frame_out; simp only [read_unread_whole]; rfl
  · rw [outsAt0_B m c t h a0 a1 h a0 a1 h a0 a1]; frame_out; simp only [read_unread_whole]; rfl

theorem out0_last (t : Fin cfg0.N) (h : t.val % 4 = 3) : (outsAt0 m c t.val t.isLt).1 = k0_pay4 (F := Ideal) (outsAt0 m c t.val t.isLt).2.2.2.1 := by
  have h0 : ¬t.val % 4 = 0 := by omega
  have a0 : 1 ≤ t.val := by omega
  rw [outsAt0_C m c t h0 a0 h h0 a0 h h0 a0 h]; frame_out; rfl

/-- The outer projection's weight gradient after the run. -/
theorem final6 : (dats m 0 c).arrAt 6 (cfgs 0).N = Cert.WsqRefIdeal.Read.val_main_v17 (F := Ideal) (V2 m c) (V5 m c) := by
  refine (dats m 0 c).arrAt_eq_of_after_last 6 t0_3 (by decide +kernel) _ fun j => ?_
  blk_simp
  rw [after0_6, out0_last m c t0_3 rfl]
  refine (show _ = (outsAt0 m c t0_3.val t0_3.isLt).2.2.2.1 j from rfl).trans ?_
  rw [Pipeline.eq_sum_fin_of_reset_step_apply_last (fun n h => (outsAt0 m c n h).2.2.2.1) 4 (fun _ => 0)
    (fun t j => part (b0 m c t) (b1 m c t) j)
    (fun t h j => by rw [acc0_first m c t h, first_at])
    (fun t h j => by rw [acc0_next m c t h, next_at])
    (le_of_eq N_0) t0_3 rfl j, zero_add]
  idx_vars j
  rw [Cert.WsqRefIdeal.Hand.v17_at]
  unfold dw
  rw [Fin.sum_univ_tiles 4 1024 rfl]
  refine Finset.sum_congr rfl fun t _ => Finset.sum_congr rfl fun r _ => ?_
  exact congrArg₂ (· * ·) (b0_at m c t r _) (b1_at m c t r _)

/-- What a tile leaves in the first unit's projection's accumulator, and what the last one writes. -/
theorem acc1_first (t : Fin cfg0.N) (h : t.val % 4 = 0) : (outsAt0 m c t.val t.isLt).2.2.2.2.1 = k0_pay2 (F := Ideal) (b2 m c t) (b3 m c t) := by
  have hN : t.val < 4 := lt_of_lt_of_eq t.isLt N_0
  have a0 : ¬1 ≤ t.val := by omega
  have a1 : ¬t.val % 4 = 3 := by omega
  rw [outsAt0_A m c t h a0 a1 h a0 a1 h a0 a1]; frame_out; rfl

theorem acc1_next (t : Fin cfg0.N) (h : ¬t.val % 4 = 0) : (outsAt0 m c t.val t.isLt).2.2.2.2.1 = k0_pay3 (F := Ideal) (b2 m c t) (b3 m c t) (outsAt0 m c (t.val - 1) (Nat.lt_of_le_of_lt (Nat.sub_le _ _) t.isLt)).2.2.2.2.1 := by
  have a0 : 1 ≤ t.val := by omega
  by_cases a1 : t.val % 4 = 3
  · rw [outsAt0_C m c t h a0 a1 h a0 a1 h a0 a1]; frame_out; simp only [read_unread_whole]; rfl
  · rw [outsAt0_B m c t h a0 a1 h a0 a1 h a0 a1]; frame_out; simp only [read_unread_whole]; rfl

theorem out1_last (t : Fin cfg0.N) (h : t.val % 4 = 3) : (outsAt0 m c t.val t.isLt).2.1 = k0_pay4 (F := Ideal) (outsAt0 m c t.val t.isLt).2.2.2.2.1 := by
  have h0 : ¬t.val % 4 = 0 := by omega
  have a0 : 1 ≤ t.val := by omega
  rw [outsAt0_C m c t h0 a0 h h0 a0 h h0 a0 h]; frame_out; rfl

/-- The first unit's projection's weight gradient after the run. -/
theorem final7 : (dats m 0 c).arrAt 7 (cfgs 0).N = Cert.WsqRefIdeal.Read.val_main_v19 (F := Ideal) (V0 m c) (V3 m c) := by
  refine (dats m 0 c).arrAt_eq_of_after_last 7 t0_3 (by decide +kernel) _ fun j => ?_
  blk_simp
  rw [after0_7, out1_last m c t0_3 rfl]
  refine (show _ = (outsAt0 m c t0_3.val t0_3.isLt).2.2.2.2.1 j from rfl).trans ?_
  rw [Pipeline.eq_sum_fin_of_reset_step_apply_last (fun n h => (outsAt0 m c n h).2.2.2.2.1) 4 (fun _ => 0)
    (fun t j => part (b2 m c t) (b3 m c t) j)
    (fun t h j => by rw [acc1_first m c t h, first_at])
    (fun t h j => by rw [acc1_next m c t h, next_at])
    (le_of_eq N_0) t0_3 rfl j, zero_add]
  idx_vars j
  rw [Cert.WsqRefIdeal.Hand.v19_at]
  unfold dw
  rw [Fin.sum_univ_tiles 4 1024 rfl]
  refine Finset.sum_congr rfl fun t _ => Finset.sum_congr rfl fun r _ => ?_
  exact congrArg₂ (· * ·) (b2_at m c t r _) (b3_at m c t r _)

/-- What a tile leaves in the second unit's projection's accumulator, and what the last one writes. -/
theorem acc2_first (t : Fin cfg0.N) (h : t.val % 4 = 0) : (outsAt0 m c t.val t.isLt).2.2.2.2.2 = k0_pay2 (F := Ideal) (b4 m c t) (b5 m c t) := by
  have hN : t.val < 4 := lt_of_lt_of_eq t.isLt N_0
  have a0 : ¬1 ≤ t.val := by omega
  have a1 : ¬t.val % 4 = 3 := by omega
  rw [outsAt0_A m c t h a0 a1 h a0 a1 h a0 a1]; frame_out

theorem acc2_next (t : Fin cfg0.N) (h : ¬t.val % 4 = 0) : (outsAt0 m c t.val t.isLt).2.2.2.2.2 = k0_pay3 (F := Ideal) (b4 m c t) (b5 m c t) (outsAt0 m c (t.val - 1) (Nat.lt_of_le_of_lt (Nat.sub_le _ _) t.isLt)).2.2.2.2.2 := by
  have a0 : 1 ≤ t.val := by omega
  by_cases a1 : t.val % 4 = 3
  · rw [outsAt0_C m c t h a0 a1 h a0 a1 h a0 a1]; frame_out; simp only [read_unread_whole]
  · rw [outsAt0_B m c t h a0 a1 h a0 a1 h a0 a1]; frame_out; simp only [read_unread_whole]

theorem out2_last (t : Fin cfg0.N) (h : t.val % 4 = 3) : (outsAt0 m c t.val t.isLt).2.2.1 = k0_pay4 (F := Ideal) (outsAt0 m c t.val t.isLt).2.2.2.2.2 := by
  have h0 : ¬t.val % 4 = 0 := by omega
  have a0 : 1 ≤ t.val := by omega
  rw [outsAt0_C m c t h0 a0 h h0 a0 h h0 a0 h]; frame_out

/-- The second unit's projection's weight gradient after the run. -/
theorem final8 : (dats m 0 c).arrAt 8 (cfgs 0).N = Cert.WsqRefIdeal.Read.val_main_v21 (F := Ideal) (V1 m c) (V4 m c) := by
  refine (dats m 0 c).arrAt_eq_of_after_last 8 t0_3 (by decide +kernel) _ fun j => ?_
  blk_simp
  rw [after0_8, out2_last m c t0_3 rfl]
  refine (show _ = (outsAt0 m c t0_3.val t0_3.isLt).2.2.2.2.2 j from rfl).trans ?_
  rw [Pipeline.eq_sum_fin_of_reset_step_apply_last (fun n h => (outsAt0 m c n h).2.2.2.2.2) 4 (fun _ => 0)
    (fun t j => part (b4 m c t) (b5 m c t) j)
    (fun t h j => by rw [acc2_first m c t h, first_at])
    (fun t h j => by rw [acc2_next m c t h, next_at])
    (le_of_eq N_0) t0_3 rfl j, zero_add]
  idx_vars j
  rw [Cert.WsqRefIdeal.Hand.v21_at]
  unfold dw
  rw [Fin.sum_univ_tiles 4 1024 rfl]
  refine Finset.sum_congr rfl fun t _ => Finset.sum_congr rfl fun r _ => ?_
  exact congrArg₂ (· * ·) (b4_at m c t r _) (b5_at m c t r _)

end Cert.WsqIdeal.Hand

namespace Cert.Wsq.Hand

open Idealize.ShloMosaic Idealize.ShloMosaic.TcCoe Idealize.SL.Sem

set_option maxHeartbeats 4000000 in
/-- The call and the gradient of the forward lines give the same three arrays. -/
theorem algebraic : Cert.algebraic_WsqIdeal_WsqRefIdeal := by
  pair_intro
  · exact Cert.WsqIdeal.Value.run_blocks m g
  · rename' hagree => hag
    have e0 (c : Dev Cert.WsqIdeal.nD) : m' ((c : Thread Cert.WsqRefIdeal.nD Cert.WsqRefIdeal.τ).loc Cert.WsqRefIdeal.main_arg0) = Cert.WsqIdeal.Hand.V0 m c := (hag c).1
    have e1 (c : Dev Cert.WsqIdeal.nD) : m' ((c : Thread Cert.WsqRefIdeal.nD Cert.WsqRefIdeal.τ).loc Cert.WsqRefIdeal.main_arg1) = Cert.WsqIdeal.Hand.V1 m c := (hag c).2.1
    have e2 (c : Dev Cert.WsqIdeal.nD) : m' ((c : Thread Cert.WsqRefIdeal.nD Cert.WsqRefIdeal.τ).loc Cert.WsqRefIdeal.main_arg2) = Cert.WsqIdeal.Hand.V2 m c := (hag c).2.2.1
    have e3 (c : Dev Cert.WsqIdeal.nD) : m' ((c : Thread Cert.WsqRefIdeal.nD Cert.WsqRefIdeal.τ).loc Cert.WsqRefIdeal.main_arg3) = Cert.WsqIdeal.Hand.V3 m c := (hag c).2.2.2.1
    have e4 (c : Dev Cert.WsqIdeal.nD) : m' ((c : Thread Cert.WsqRefIdeal.nD Cert.WsqRefIdeal.τ).loc Cert.WsqRefIdeal.main_arg4) = Cert.WsqIdeal.Hand.V4 m c := (hag c).2.2.2.2.1
    have e5 (c : Dev Cert.WsqIdeal.nD) : m' ((c : Thread Cert.WsqRefIdeal.nD Cert.WsqRefIdeal.τ).loc Cert.WsqRefIdeal.main_arg5) = Cert.WsqIdeal.Hand.V5 m c := (hag c).2.2.2.2.2
    run_from Cert.WsqRefIdeal.Value.run m' g'
    · exact (Cert.WsqRefIdeal.Read.val_main_v17_eq _ _).trans (by rw [e2, e5]; exact (Cert.WsqIdeal.Hand.final6 m c).symm)
    · exact (Cert.WsqRefIdeal.Read.val_main_v19_eq _ _).trans (by rw [e0, e3]; exact (Cert.WsqIdeal.Hand.final7 m c).symm)
    · exact (Cert.WsqRefIdeal.Read.val_main_v21_eq _ _).trans (by rw [e1, e4]; exact (Cert.WsqIdeal.Hand.final8 m c).symm)

/-- The gradient of the forward lines runs, and leaves its arguments. -/
theorem frame_ref : Cert.quiescent_WsqRefIdeal := by
  intro m g _
  run_from Cert.WsqRefIdeal.Value.run m g
  · exact fun _ => ⟨trivial, trivial, trivial, trivial, trivial, trivial⟩
  · exact sem_eq_zero_of_no_sems rfl _

end Cert.Wsq.Hand

end
-- ==== Proof.AdamwRun.lean ====
/- The step of the three first weights: tiles of rows, each element by the same formula as the optimiser's plain lines, and the
   claims that it is that step. -/
module

public import proofs.«01_k».proof.Proof.Gen.AdamwIdeal.Value
public import proofs.«01_k».proof.Proof.Gen.AdamwRefIdeal.Read
public import proofs.«01_k».proof.Defs
public import Idealize.ShloMosaic.Lib.Pipeline.ValueKit

@[expose] public section

set_option maxRecDepth 16384

noncomputable section

namespace Cert.AdamwIdeal.Hand

open Cert.AdamwIdeal Cert.AdamwIdeal.Gen Idealize.ShloMosaic Idealize.ShloMosaic.TcCoe Idealize.SL.Sem
open Cert.AdamwRefIdeal.Read

variable (m : (ℓ : Loc nD τ sig) → Buf (Elt Ideal) ℓ) (c : Dev nD)

/-- The call's arguments: the gradients, the weights, the first and the second moments. -/
abbrev V0 : FVec Ideal S1024x1536 .f32 := m ((c : Thread nD τ).loc main_arg0)
abbrev V1 : FVec Ideal S256x256 .f32 := m ((c : Thread nD τ).loc main_arg1)
abbrev V2 : FVec Ideal S256x256 .f32 := m ((c : Thread nD τ).loc main_arg2)
abbrev V3 : FVec Ideal S1024x1536 .f32 := m ((c : Thread nD τ).loc main_arg3)
abbrev V4 : FVec Ideal S256x256 .f32 := m ((c : Thread nD τ).loc main_arg4)
abbrev V5 : FVec Ideal S256x256 .f32 := m ((c : Thread nD τ).loc main_arg5)
abbrev V6 : FVec Ideal S1024x1536 .f32 := m ((c : Thread nD τ).loc main_arg6)
abbrev V7 : FVec Ideal S256x256 .f32 := m ((c : Thread nD τ).loc main_arg7)
abbrev V8 : FVec Ideal S256x256 .f32 := m ((c : Thread nD τ).loc main_arg8)
abbrev V9 : FVec Ideal S1024x1536 .f32 := m ((c : Thread nD τ).loc main_arg9)
abbrev V10 : FVec Ideal S256x256 .f32 := m ((c : Thread nD τ).loc main_arg10)
abbrev V11 : FVec Ideal S256x256 .f32 := m ((c : Thread nD τ).loc main_arg11)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] ∧ win0_20.index t = ![t.val, 0] ∧ win0_21.index t = ![t.val, 0] ∧ win0_22.index t = ![t.val, 0] ∧ win0_23.index t = ![t.val, 0] :=
  (by decide +kernel : ∀ t : Fin grid0.N, _)

/-- The array row a tile's row is. -/
abbrev row (t : Fin cfg0.N) (r : Fin 256) : Fin 1024 := ⟨t.val * 256 + r.val, by have h : t.val < 4 := lt_of_lt_of_eq t.isLt N_0; omega⟩
abbrev rowS (t : Fin cfg0.N) (r : Fin 64) : Fin 256 := ⟨t.val * 64 + r.val, by have h : t.val < 4 := lt_of_lt_of_eq t.isLt N_0; omega⟩

variable (t : Fin cfg0.N)

abbrev b0 : FVec Ideal S256x1536 .f32 := iblk m c 0 t
abbrev b1 : FVec Ideal S64x256 .f32 := iblk m c 1 t
abbrev b2 : FVec Ideal S64x256 .f32 := iblk m c 2 t
abbrev b3 : FVec Ideal S256x1536 .f32 := iblk m c 3 t
abbrev b4 : FVec Ideal S64x256 .f32 := iblk m c 4 t
abbrev b5 : FVec Ideal S64x256 .f32 := iblk m c 5 t
abbrev b6 : FVec Ideal S256x1536 .f32 := iblk m c 6 t
abbrev b7 : FVec Ideal S64x256 .f32 := iblk m c 7 t
abbrev b8 : FVec Ideal S64x256 .f32 := iblk m c 8 t
abbrev b9 : FVec Ideal S256x1536 .f32 := iblk m c 9 t
abbrev b10 : FVec Ideal S64x256 .f32 := iblk m c 10 t
abbrev b11 : FVec Ideal S64x256 .f32 := iblk m c 11 t

theorem b0_at (y : S256x1536.Idx) : (b0 m c t y : EReal) = V0 m c (ix2 (row t (y 0)) (y 1)) := by blk_ext [iblk, V, idx t]
theorem b1_at (y : S64x256.Idx) : (b1 m c t y : EReal) = V1 m c (ix2 (rowS t (y 0)) (y 1)) := by blk_ext [iblk, V, idx t]
theorem b2_at (y : S64x256.Idx) : (b2 m c t y : EReal) = V2 m c (ix2 (rowS t (y 0)) (y 1)) := by blk_ext [iblk, V, idx t]
theorem b3_at (y : S256x1536.Idx) : (b3 m c t y : EReal) = V3 m c (ix2 (row t (y 0)) (y 1)) := by blk_ext [iblk, V, idx t]
theorem b4_at (y : S64x256.Idx) : (b4 m c t y : EReal) = V4 m c (ix2 (rowS t (y 0)) (y 1)) := by blk_ext [iblk, V, idx t]
theorem b5_at (y : S64x256.Idx) : (b5 m c t y : EReal) = V5 m c (ix2 (rowS t (y 0)) (y 1)) := by blk_ext [iblk, V, idx t]
theorem b6_at (y : S256x1536.Idx) : (b6 m c t y : EReal) = V6 m c (ix2 (row t (y 0)) (y 1)) := by blk_ext [iblk, V, idx t]
theorem b7_at (y : S64x256.Idx) : (b7 m c t y : EReal) = V7 m c (ix2 (rowS t (y 0)) (y 1)) := by blk_ext [iblk, V, idx t]
theorem b8_at (y : S64x256.Idx) : (b8 m c t y : EReal) = V8 m c (ix2 (rowS t (y 0)) (y 1)) := by blk_ext [iblk, V, idx t]
theorem b9_at (y : S256x1536.Idx) : (b9 m c t y : EReal) = V9 m c (ix2 (row t (y 0)) (y 1)) := by blk_ext [iblk, V, idx t]
theorem b10_at (y : S64x256.Idx) : (b10 m c t y : EReal) = V10 m c (ix2 (rowS t (y 0)) (y 1)) := by blk_ext [iblk, V, idx t]
theorem b11_at (y : S64x256.Idx) : (b11 m c t y : EReal) = V11 m c (ix2 (rowS t (y 0)) (y 1)) := by blk_ext [iblk, V, idx t]

/-- One element: the new first moment, the new second moment, the step. -/
abbrev mom (g u : EReal) : EReal := Ideal.ofBits .f32 0x3F666666#32 * u + Ideal.ofBits .f32 0x3DCCCCCD#32 * g
abbrev var (g u : EReal) : EReal := Ideal.ofBits .f32 0x3F7FBE77#32 * u + Ideal.ofBits .f32 0x3A83126F#32 * (g * g)
abbrev upd (g w u v : EReal) : EReal :=
  Ideal.ofBits .f32 0xBA83126F#32 * (Ideal.div (Ideal.div (mom g u) (Ideal.ofBits .f32 0x3F26BD02#32))
    (Ideal.sqrt (Ideal.div (var g v) (Ideal.ofBits .f32 0x3C231ACC#32)) + Ideal.ofBits .f32 0x322BCC77#32) + Ideal.ofBits .f32 0x3C23D70A#32 * w)

/-- The gradient, the step and the two new moments of weight 0, after the run. -/
theorem final12 : (dats m 0 c).arrAt 12 (cfgs 0).N = V0 m c := by
  refine (dats m 0 c).arrAt_eq_of_covers 12 _ (by decide +kernel) fun t _ y => ?_
  blk_simp
  rw [after0_12, show ((cfg0.win 12).blk t).view.emb y = ix2 (row t (y 0)) (y 1) by blk_ext [idx t]]
  frame_out
  exact b0_at m c t y
theorem final13 : (dats m 0 c).arrAt 13 (cfgs 0).N = val_main_v23 (F := Ideal) (V0 m c) (V3 m c) (V6 m c) (V9 m c) := by
  refine (dats m 0 c).arrAt_eq_of_covers 13 _ (by decide +kernel) fun t _ y => ?_
  blk_simp
  rw [after0_13, show ((cfg0.win 13).blk t).view.emb y = ix2 (row t (y 0)) (y 1) by blk_ext [idx t]]
  frame_out
  show upd (b0 m c t y) (b3 m c t y) (b6 m c t y) (b9 m c t y) = upd (V0 m c _) (V3 m c _) (V6 m c _) (V9 m c _)
  rw [b0_at m c t y, b3_at m c t y, b6_at m c t y, b9_at m c t y]; rfl
theorem final14 : (dats m 0 c).arrAt 14 (cfgs 0).N = val_main_v4 (F := Ideal) (V0 m c) (V6 m c) := by
  refine (dats m 0 c).arrAt_eq_of_covers 14 _ (by decide +kernel) fun t _ y => ?_
  blk_simp
  rw [after0_14, show ((cfg0.win 14).blk t).view.emb y = ix2 (row t (y 0)) (y 1) by blk_ext [idx t]]
  frame_out
  show mom (b0 m c t y) (b6 m c t y) = mom (V0 m c _) (V6 m c _)
  rw [b0_at m c t y, b6_at m c t y]; rfl
theorem final15 : (dats m 0 c).arrAt 15 (cfgs 0).N = val_main_v10 (F := Ideal) (V0 m c) (V9 m c) := by
  refine (dats m 0 c).arrAt_eq_of_covers 15 _ (by decide +kernel) fun t _ y => ?_
  blk_simp
  rw [after0_15, show ((cfg0.win 15).blk t).view.emb y = ix2 (row t (y 0)) (y 1) by blk_ext [idx t]]
  frame_out
  show var (b0 m c t y) (b9 m c t y) = var (V0 m c _) (V9 m c _)
  rw [b0_at m c t y, b9_at m c t y]; rfl
/-- The gradient, the step and the two new moments of weight 1, after the run. -/
theorem final16 : (dats m 0 c).arrAt 16 (cfgs 0).N = V1 m c := by
  refine (dats m 0 c).arrAt_eq_of_covers 16 _ (by decide +kernel) fun t _ y => ?_
  blk_simp
  rw [after0_16, show ((cfg0.win 16).blk t).view.emb y = ix2 (rowS t (y 0)) (y 1) by blk_ext [idx t]]
  frame_out
  exact b1_at m c t y
theorem final17 : (dats m 0 c).arrAt 17 (cfgs 0).N = val_main_v47 (F := Ideal) (V1 m c) (V4 m c) (V7 m c) (V10 m c) := by
  refine (dats m 0 c).arrAt_eq_of_covers 17 _ (by decide +kernel) fun t _ y => ?_
  blk_simp
  rw [after0_17, show ((cfg0.win 17).blk t).view.emb y = ix2 (rowS t (y 0)) (y 1) by blk_ext [idx t]]
  frame_out
  show upd (b1 m c t y) (b4 m c t y) (b7 m c t y) (b10 m c t y) = upd (V1 m c _) (V4 m c _) (V7 m c _) (V10 m c _)
  rw [b1_at m c t y, b4_at m c t y, b7_at m c t y, b10_at m c t y]; rfl
theorem final18 : (dats m 0 c).arrAt 18 (cfgs 0).N = val_main_v28 (F := Ideal) (V1 m c) (V7 m c) := by
  refine (dats m 0 c).arrAt_eq_of_covers 18 _ (by decide +kernel) fun t _ y => ?_
  blk_simp
  rw [after0_18, show ((cfg0.win 18).blk t).view.emb y = ix2 (rowS t (y 0)) (y 1) by blk_ext [idx t]]
  frame_out
  show mom (b1 m c t y) (b7 m c t y) = mom (V1 m c _) (V7 m c _)
  rw [b1_at m c t y, b7_at m c t y]; rfl
theorem final19 : (dats m 0 c).arrAt 19 (cfgs 0).N = val_main_v34 (F := Ideal) (V1 m c) (V10 m c) := by
  refine (dats m 0 c).arrAt_eq_of_covers 19 _ (by decide +kernel) fun t _ y => ?_
  blk_simp
  rw [after0_19, show ((cfg0.win 19).blk t).view.emb y = ix2 (rowS t (y 0)) (y 1) by blk_ext [idx t]]
  frame_out
  show var (b1 m c t y) (b10 m c t y) = var (V1 m c _) (V10 m c _)
  rw [b1_at m c t y, b10_at m c t y]; rfl
/-- The gradient, the step and the two new moments of weight 2, after the run. -/
theorem final20 : (dats m 0 c).arrAt 20 (cfgs 0).N = V2 m c := by
  refine (dats m 0 c).arrAt_eq_of_covers 20 _ (by decide +kernel) fun t _ y => ?_
  blk_simp
  rw [after0_20, show ((cfg0.win 20).blk t).view.emb y = ix2 (rowS t (y 0)) (y 1) by blk_ext [idx t]]
  frame_out
  exact b2_at m c t y
theorem final21 : (dats m 0 c).arrAt 21 (cfgs 0).N = val_main_v71 (F := Ideal) (V2 m c) (V5 m c) (V8 m c) (V11 m c) := by
  refine (dats m 0 c).arrAt_eq_of_covers 21 _ (by decide +kernel) fun t _ y => ?_
  blk_simp
  rw [after0_21, show ((cfg0.win 21).blk t).view.emb y = ix2 (rowS t (y 0)) (y 1) by blk_ext [idx t]]
  frame_out
  show upd (b2 m c t y) (b5 m c t y) (b8 m c t y) (b11 m c t y) = upd (V2 m c _) (V5 m c _) (V8 m c _) (V11 m c _)
  rw [b2_at m c t y, b5_at m c t y, b8_at m c t y, b11_at m c t y]; rfl
theorem final22 : (dats m 0 c).arrAt 22 (cfgs 0).N = val_main_v52 (F := Ideal) (V2 m c) (V8 m c) := by
  refine (dats m 0 c).arrAt_eq_of_covers 22 _ (by decide +kernel) fun t _ y => ?_
  blk_simp
  rw [after0_22, show ((cfg0.win 22).blk t).view.emb y = ix2 (rowS t (y 0)) (y 1) by blk_ext [idx t]]
  frame_out
  show mom (b2 m c t y) (b8 m c t y) = mom (V2 m c _) (V8 m c _)
  rw [b2_at m c t y, b8_at m c t y]; rfl
theorem final23 : (dats m 0 c).arrAt 23 (cfgs 0).N = val_main_v58 (F := Ideal) (V2 m c) (V11 m c) := by
  refine (dats m 0 c).arrAt_eq_of_covers 23 _ (by decide +kernel) fun t _ y => ?_
  blk_simp
  rw [after0_23, show ((cfg0.win 23).blk t).view.emb y = ix2 (rowS t (y 0)) (y 1) by blk_ext [idx t]]
  frame_out
  show var (b2 m c t y) (b11 m c t y) = var (V2 m c _) (V11 m c _)
  rw [b2_at m c t y, b11_at m c t y]; rfl

end Cert.AdamwIdeal.Hand

namespace Cert.Adamw.Hand

open Idealize.ShloMosaic Idealize.ShloMosaic.TcCoe Idealize.SL.Sem

set_option maxHeartbeats 4000000 in
/-- The call and the optimiser's plain lines give the same arrays. -/
theorem algebraic : Cert.algebraic_AdamwIdeal_AdamwRefIdeal := by
  pair_intro
  · exact Cert.AdamwIdeal.Value.run_blocks m g
  · rename' hagree => hag
    run_from Cert.AdamwRefIdeal.Value.run m' g'
    all_goals obtain ⟨h0, h1, h2, h3, h4, h5, h6, h7, h8, h9, h10, h11⟩ := hag c
    · exact h0.trans (Cert.AdamwIdeal.Hand.final12 m c).symm
    · exact (Cert.AdamwRefIdeal.Read.val_main_v23_eq _ _ _ _).trans (by rw [h0, h3, h6, h9]; exact (Cert.AdamwIdeal.Hand.final13 m c).symm)
    · exact (Cert.AdamwRefIdeal.Read.val_main_v4_eq _ _).trans (by rw [h0, h6]; exact (Cert.AdamwIdeal.Hand.final14 m c).symm)
    · exact (Cert.AdamwRefIdeal.Read.val_main_v10_eq _ _).trans (by rw [h0, h9]; exact (Cert.AdamwIdeal.Hand.final15 m c).symm)
    · exact h1.trans (Cert.AdamwIdeal.Hand.final16 m c).symm
    · exact (Cert.AdamwRefIdeal.Read.val_main_v47_eq _ _ _ _).trans (by rw [h1, h4, h7, h10]; exact (Cert.AdamwIdeal.Hand.final17 m c).symm)
    · exact (Cert.AdamwRefIdeal.Read.val_main_v28_eq _ _).trans (by rw [h1, h7]; exact (Cert.AdamwIdeal.Hand.final18 m c).symm)
    · exact (Cert.AdamwRefIdeal.Read.val_main_v34_eq _ _).trans (by rw [h1, h10]; exact (Cert.AdamwIdeal.Hand.final19 m c).symm)
    · exact h2.trans (Cert.AdamwIdeal.Hand.final20 m c).symm
    · exact (Cert.AdamwRefIdeal.Read.val_main_v71_eq _ _ _ _).trans (by rw [h2, h5, h8, h11]; exact (Cert.AdamwIdeal.Hand.final21 m c).symm)
    · exact (Cert.AdamwRefIdeal.Read.val_main_v52_eq _ _).trans (by rw [h2, h8]; exact (Cert.AdamwIdeal.Hand.final22 m c).symm)
    · exact (Cert.AdamwRefIdeal.Read.val_main_v58_eq _ _).trans (by rw [h2, h11]; exact (Cert.AdamwIdeal.Hand.final23 m c).symm)

/-- The optimiser's plain lines run, and leave their arguments. -/
theorem frame_ref : Cert.quiescent_AdamwRefIdeal := by
  intro m g _
  run_from Cert.AdamwRefIdeal.Value.run m g
  · exact fun _ => ⟨trivial, trivial, trivial, trivial, trivial, trivial, trivial, trivial, trivial, trivial, trivial, trivial⟩
  · exact sem_eq_zero_of_no_sems rfl _

end Cert.Adamw.Hand

end
-- ==== Proof.SmallRun.lean ====
/- The step of the small weights, in three calls: each array by the same formula as the optimiser's plain lines, and the claims that it
   is that step. -/
module

public import proofs.«01_k».proof.Proof.Gen.SmallAIdeal.Value
public import proofs.«01_k».proof.Proof.Gen.SmallARefIdeal.Read
public import proofs.«01_k».proof.Proof.Gen.SmallBIdeal.Value
public import proofs.«01_k».proof.Proof.Gen.SmallBRefIdeal.Read
public import proofs.«01_k».proof.Proof.Gen.SmallCIdeal.Value
public import proofs.«01_k».proof.Proof.Gen.SmallCRefIdeal.Read
public import proofs.«01_k».proof.Defs

@[expose] public section

set_option maxRecDepth 16384

noncomputable section

namespace Cert.SmallA.Hand

open Idealize.ShloMosaic Idealize.ShloMosaic.TcCoe Idealize.SL.Sem Cert.SmallARefIdeal.Read

set_option maxHeartbeats 4000000 in
/-- The call and the optimiser's plain lines give the same arrays. -/
theorem algebraic : Cert.algebraic_SmallAIdeal_SmallARefIdeal := by
  pair_intro
  · exact Cert.SmallAIdeal.Value.run m g
  · rename' hagree => hag
    run_from Cert.SmallARefIdeal.Value.run m' g'
    all_goals obtain ⟨h0, h1, h2, h3, h4, h5, h6, h7, h8, h9, h10, h11, h12, h13, h14, h15⟩ := hag c
    · exact congr (congr (congr (congrArg val_main_v23 h0) h4) h8) h12
    · exact congr (congr (congr (congrArg val_main_v47 h1) h5) h9) h13
    · exact congr (congr (congr (congrArg val_main_v71 h2) h6) h10) h14
    · exact congr (congr (congr (congrArg val_main_v95 h3) h7) h11) h15
    · exact congrArg₂ val_main_v4 h0 h8
    · exact congrArg₂ val_main_v28 h1 h9
    · exact congrArg₂ val_main_v52 h2 h10
    · exact congrArg₂ val_main_v76 h3 h11
    · exact congrArg₂ val_main_v10 h0 h12
    · exact congrArg₂ val_main_v34 h1 h13
    · exact congrArg₂ val_main_v58 h2 h14
    · exact congrArg₂ val_main_v82 h3 h15

/-- The optimiser's plain lines run, and leave their arguments. -/
theorem frame_ref : Cert.quiescent_SmallARefIdeal := by
  intro m g _
  run_from Cert.SmallARefIdeal.Value.run m g
  · exact fun _ => by repeat' constructor
  · exact sem_eq_zero_of_no_sems rfl _

end Cert.SmallA.Hand

namespace Cert.SmallB.Hand

open Idealize.ShloMosaic Idealize.ShloMosaic.TcCoe Idealize.SL.Sem Cert.SmallBRefIdeal.Read

set_option maxHeartbeats 4000000 in
/-- The call and the optimiser's plain lines give the same arrays. -/
theorem algebraic : Cert.algebraic_SmallBIdeal_SmallBRefIdeal := by
  pair_intro
  · exact Cert.SmallBIdeal.Value.run m g
  · rename' hagree => hag
    run_from Cert.SmallBRefIdeal.Value.run m' g'
    all_goals obtain ⟨h0, h1, h2, h3, h4, h5, h6, h7, h8, h9, h10, h11, h12, h13, h14, h15⟩ := hag c
    · exact congr (congr (congr (congrArg val_main_v23 h0) h4) h8) h12
    · exact congr (congr (congr (congrArg val_main_v47 h1) h5) h9) h13
    · exact congr (congr (congr (congrArg val_main_v71 h2) h6) h10) h14
    · exact congr (congr (congr (congrArg val_main_v95 h3) h7) h11) h15
    · exact congrArg₂ val_main_v4 h0 h8
    · exact congrArg₂ val_main_v28 h1 h9
    · exact congrArg₂ val_main_v52 h2 h10
    · exact congrArg₂ val_main_v76 h3 h11
    · exact congrArg₂ val_main_v10 h0 h12
    · exact congrArg₂ val_main_v34 h1 h13
    · exact congrArg₂ val_main_v58 h2 h14
    · exact congrArg₂ val_main_v82 h3 h15

/-- The optimiser's plain lines run, and leave their arguments. -/
theorem frame_ref : Cert.quiescent_SmallBRefIdeal := by
  intro m g _
  run_from Cert.SmallBRefIdeal.Value.run m g
  · exact fun _ => by repeat' constructor
  · exact sem_eq_zero_of_no_sems rfl _

end Cert.SmallB.Hand

namespace Cert.SmallC.Hand

open Idealize.ShloMosaic Idealize.ShloMosaic.TcCoe Idealize.SL.Sem Cert.SmallCRefIdeal.Read

set_option maxHeartbeats 4000000 in
/-- The call and the optimiser's plain lines give the same arrays. -/
theorem algebraic : Cert.algebraic_SmallCIdeal_SmallCRefIdeal := by
  pair_intro
  · exact Cert.SmallCIdeal.Value.run m g
  · rename' hagree => hag
    run_from Cert.SmallCRefIdeal.Value.run m' g'
    all_goals obtain ⟨h0, h1, h2, h3, h4, h5, h6, h7, h8, h9, h10, h11, h12, h13, h14, h15⟩ := hag c
    · exact congr (congr (congr (congrArg val_main_v23 h0) h4) h8) h12
    · exact congr (congr (congr (congrArg val_main_v47 h1) h5) h9) h13
    · exact congr (congr (congr (congrArg val_main_v71 h2) h6) h10) h14
    · exact congr (congr (congr (congrArg val_main_v95 h3) h7) h11) h15
    · exact congrArg₂ val_main_v4 h0 h8
    · exact congrArg₂ val_main_v28 h1 h9
    · exact congrArg₂ val_main_v52 h2 h10
    · exact congrArg₂ val_main_v76 h3 h11
    · exact congrArg₂ val_main_v10 h0 h12
    · exact congrArg₂ val_main_v34 h1 h13
    · exact congrArg₂ val_main_v58 h2 h14
    · exact congrArg₂ val_main_v82 h3 h15

/-- The optimiser's plain lines run, and leave their arguments. -/
theorem frame_ref : Cert.quiescent_SmallCRefIdeal := by
  intro m g _
  run_from Cert.SmallCRefIdeal.Value.run m g
  · exact fun _ => by repeat' constructor
  · exact sem_eq_zero_of_no_sems rfl _

end Cert.SmallC.Hand

end
-- ==== Proof.lean ====
module

public import proofs.«01_k».proof.Defs
public import proofs.«01_k».proof.Proof.BwdInRun
public import proofs.«01_k».proof.Proof.MlpRun
public import proofs.«01_k».proof.Proof.GatesClaim
public import proofs.«01_k».proof.Proof.LruClaim
public import proofs.«01_k».proof.Proof.SguClaim
public import proofs.«01_k».proof.Proof.ConvRun
public import proofs.«01_k».proof.Proof.MergeRun
public import proofs.«01_k».proof.Proof.FsmRun
public import proofs.«01_k».proof.Proof.WgradRun
public import proofs.«01_k».proof.Proof.WsqRun
public import proofs.«01_k».proof.Proof.AdamwRun
public import proofs.«01_k».proof.Proof.SmallRun
public import proofs.«01_k».proof.Proof.Gen.BwdIn.Frame
public import proofs.«01_k».proof.Proof.Gen.Mlp.Frame
public import proofs.«01_k».proof.Proof.Gen.BwdGates.Frame
public import proofs.«01_k».proof.Proof.Gen.Lru.Frame
public import proofs.«01_k».proof.Proof.Gen.BwdSgu.Frame
public import proofs.«01_k».proof.Proof.Gen.BwdConv.Frame
public import proofs.«01_k».proof.Proof.Gen.BwdMerge.Frame
public import proofs.«01_k».proof.Proof.Gen.Fsm.Frame
public import proofs.«01_k».proof.Proof.Gen.Wgrad.Frame
public import proofs.«01_k».proof.Proof.Gen.Wsq.Frame
public import proofs.«01_k».proof.Proof.Gen.Adamw.Frame
public import proofs.«01_k».proof.Proof.Gen.SmallA.Frame
public import proofs.«01_k».proof.Proof.Gen.SmallB.Frame
public import proofs.«01_k».proof.Proof.Gen.SmallC.Frame

@[expose] public section

noncomputable section

namespace Cert.Proof

open Idealize.ShloMosaic Idealize.SL.Sem

theorem claim : Cert.Claim := ⟨Cert.BwdIn.Gen.facts, Cert.BwdInIdeal.Gen.facts, Cert.BwdInRefIdeal.Gen.facts,
  Cert.Mlp.Gen.facts, Cert.MlpIdeal.Gen.facts, Cert.MlpRefIdeal.Gen.facts,
  Cert.BwdGates.Gen.facts, Cert.BwdGatesIdeal.Gen.facts, Cert.BwdGatesRefIdeal.Gen.facts,
  Cert.Lru.Gen.facts, Cert.LruIdeal.Gen.facts, Cert.LruRefIdeal.Gen.facts,
  Cert.BwdSgu.Gen.facts, Cert.BwdSguIdeal.Gen.facts, Cert.BwdSguRefIdeal.Gen.facts,
  Cert.BwdConv.Gen.facts, Cert.BwdConvIdeal.Gen.facts, Cert.BwdConvRefIdeal.Gen.facts,
  Cert.BwdMerge.Gen.facts, Cert.BwdMergeIdeal.Gen.facts, Cert.BwdMergeRefIdeal.Gen.facts,
  Cert.Fsm.Gen.facts, Cert.FsmIdeal.Gen.facts, Cert.FsmRefIdeal.Gen.facts,
  Cert.Wgrad.Gen.facts, Cert.WgradIdeal.Gen.facts, Cert.WgradRefIdeal.Gen.facts,
  Cert.Wsq.Gen.facts, Cert.WsqIdeal.Gen.facts, Cert.WsqRefIdeal.Gen.facts,
  Cert.Adamw.Gen.facts, Cert.AdamwIdeal.Gen.facts, Cert.AdamwRefIdeal.Gen.facts,
  Cert.SmallA.Gen.facts, Cert.SmallAIdeal.Gen.facts, Cert.SmallARefIdeal.Gen.facts,
  Cert.SmallB.Gen.facts, Cert.SmallBIdeal.Gen.facts, Cert.SmallBRefIdeal.Gen.facts,
  Cert.SmallC.Gen.facts, Cert.SmallCIdeal.Gen.facts, Cert.SmallCRefIdeal.Gen.facts,
  Cert.Pre_gates_finite.Hand.facts, Cert.Pre_lru_finite.Hand.facts, Cert.Pre_sgu_finite.Hand.facts,
  fun m ρ _ => Cert.BwdIn.Gen.frame m ρ, fun m ρ _ => Cert.BwdInIdeal.Gen.frame m ρ, Cert.BwdIn.Hand.frame_ref,
  fun m ρ _ => Cert.Mlp.Gen.frame m ρ, fun m ρ _ => Cert.MlpIdeal.Gen.frame m ρ, Cert.Mlp.Hand.frame_ref,
  fun m ρ _ => Cert.BwdGates.Gen.frame m ρ, fun m ρ _ => Cert.BwdGatesIdeal.Gen.frame m ρ,
  fun m ρ _ => Cert.BwdGatesIdeal.Gen.frame m ρ, Cert.BwdGates.Hand.frame_ref,
  fun m ρ _ => Cert.BwdGates.Hand.frame_ref m ρ trivial,
  fun m ρ _ => Cert.Lru.Gen.frame m ρ, fun m ρ _ => Cert.LruIdeal.Gen.frame m ρ,
  fun m ρ _ => Cert.LruIdeal.Gen.frame m ρ, Cert.Lru.Hand.frame_ref,
  fun m ρ _ => Cert.Lru.Hand.frame_ref m ρ trivial,
  fun m ρ _ => Cert.BwdSgu.Gen.frame m ρ, fun m ρ _ => Cert.BwdSguIdeal.Gen.frame m ρ,
  fun m ρ _ => Cert.BwdSguIdeal.Gen.frame m ρ, Cert.BwdSgu.Hand.frame_ref,
  fun m ρ _ => Cert.BwdSgu.Hand.frame_ref m ρ trivial,
  fun m ρ _ => Cert.BwdConv.Gen.frame m ρ, fun m ρ _ => Cert.BwdConvIdeal.Gen.frame m ρ, Cert.BwdConv.Hand.frame_ref,
  fun m ρ _ => Cert.BwdMerge.Gen.frame m ρ, fun m ρ _ => Cert.BwdMergeIdeal.Gen.frame m ρ, Cert.BwdMerge.Hand.frame_ref,
  fun m ρ _ => Cert.Fsm.Gen.frame m ρ, fun m ρ _ => Cert.FsmIdeal.Gen.frame m ρ, Cert.Fsm.Hand.frame_ref,
  fun m ρ _ => Cert.Wgrad.Gen.frame m ρ, fun m ρ _ => Cert.WgradIdeal.Gen.frame m ρ, Cert.Wgrad.Hand.frame_ref,
  fun m ρ _ => Cert.Wsq.Gen.frame m ρ, fun m ρ _ => Cert.WsqIdeal.Gen.frame m ρ, Cert.Wsq.Hand.frame_ref,
  fun m ρ _ => Cert.Adamw.Gen.frame m ρ, fun m ρ _ => Cert.AdamwIdeal.Gen.frame m ρ, Cert.Adamw.Hand.frame_ref,
  fun m ρ _ => Cert.SmallA.Gen.frame m ρ, fun m ρ _ => Cert.SmallAIdeal.Gen.frame m ρ, Cert.SmallA.Hand.frame_ref,
  fun m ρ _ => Cert.SmallB.Gen.frame m ρ, fun m ρ _ => Cert.SmallBIdeal.Gen.frame m ρ, Cert.SmallB.Hand.frame_ref,
  fun m ρ _ => Cert.SmallC.Gen.frame m ρ, fun m ρ _ => Cert.SmallCIdeal.Gen.frame m ρ, Cert.SmallC.Hand.frame_ref,
  trivial, Cert.BwdIn.Hand.algebraic, trivial, Cert.Mlp.Hand.algebraic,
  Cert.BwdGates.Hand.preserves, Cert.BwdGates.Hand.algebraic,
  Cert.Lru.Hand.preserves, Cert.Lru.Hand.algebraic,
  Cert.BwdSgu.Hand.preserves, Cert.BwdSgu.Hand.algebraic,
  trivial, Cert.BwdConv.Hand.algebraic,
  trivial, Cert.BwdMerge.Hand.algebraic,
  Cert.Fsm.Hand.preserves, Cert.Fsm.Hand.algebraic,
  trivial, Cert.Wgrad.Hand.algebraic,
  trivial, Cert.Wsq.Hand.algebraic,
  trivial, Cert.Adamw.Hand.algebraic,
  trivial, Cert.SmallA.Hand.algebraic,
  trivial, Cert.SmallB.Hand.algebraic,
  trivial, Cert.SmallC.Hand.algebraic⟩

end Cert.Proof

end
